-- ==== Defs.lean ====
def Pre_KernelMn (m : (ℓ : Loc Cert.KernelMn.nD Cert.KernelMn.τ Cert.KernelMn.sig) → Buf (Elt Bits) ℓ) : Prop :=
  True

def Pre_KernelMnIdeal (m : (ℓ : Loc Cert.KernelMnIdeal.nD Cert.KernelMnIdeal.τ Cert.KernelMnIdeal.sig) → Buf (Elt Ideal) ℓ) : Prop :=
  True

def Pre_ReferenceMnIdeal (m : (ℓ : Loc Cert.ReferenceMnIdeal.nD Cert.ReferenceMnIdeal.τ Cert.ReferenceMnIdeal.sig) → Buf (Elt Ideal) ℓ) : Prop :=
  True

def Pre_KernelGt (m : (ℓ : Loc Cert.KernelGt.nD Cert.KernelGt.τ Cert.KernelGt.sig) → Buf (Elt Bits) ℓ) : Prop :=
  True

def Pre_KernelGtIdeal (m : (ℓ : Loc Cert.KernelGtIdeal.nD Cert.KernelGtIdeal.τ Cert.KernelGtIdeal.sig) → Buf (Elt Ideal) ℓ) : Prop :=
  True

def Pre_ReferenceGtIdeal (m : (ℓ : Loc Cert.ReferenceGtIdeal.nD Cert.ReferenceGtIdeal.τ Cert.ReferenceGtIdeal.sig) → Buf (Elt Ideal) ℓ) : Prop :=
  True

def Pre_KernelOi (m : (ℓ : Loc Cert.KernelOi.nD Cert.KernelOi.τ Cert.KernelOi.sig) → Buf (Elt Bits) ℓ) : Prop :=
  True

def Pre_KernelOiIdeal (m : (ℓ : Loc Cert.KernelOiIdeal.nD Cert.KernelOiIdeal.τ Cert.KernelOiIdeal.sig) → Buf (Elt Ideal) ℓ) : Prop :=
  True

def Pre_KernelOiIdeal_finite_oi [hPre_finite_oi : Cert.Pre_finite_oi.Facts] (m : (ℓ : Loc Cert.KernelOiIdeal.nD Cert.KernelOiIdeal.τ Cert.KernelOiIdeal.sig) → Buf (Elt Ideal) ℓ) : Prop :=
  ∀ c : Dev Cert.KernelOiIdeal.nD,
    (Cert.Pre_finite_oi.fn (F := Ideal) (m ((c.tc : Thread Cert.KernelOiIdeal.nD Cert.KernelOiIdeal.τ).loc Cert.KernelOiIdeal.main_arg0)) (m ((c.tc : Thread Cert.KernelOiIdeal.nD Cert.KernelOiIdeal.τ).loc Cert.KernelOiIdeal.main_arg1)) (m ((c.tc : Thread Cert.KernelOiIdeal.nD Cert.KernelOiIdeal.τ).loc Cert.KernelOiIdeal.main_arg2)) (m ((c.tc : Thread Cert.KernelOiIdeal.nD Cert.KernelOiIdeal.τ).loc Cert.KernelOiIdeal.main_arg3)) (m ((c.tc : Thread Cert.KernelOiIdeal.nD Cert.KernelOiIdeal.τ).loc Cert.KernelOiIdeal.main_arg4))) = (fun _ => 1#1)

def Pre_ReferenceOiIdeal (m : (ℓ : Loc Cert.ReferenceOiIdeal.nD Cert.ReferenceOiIdeal.τ Cert.ReferenceOiIdeal.sig) → Buf (Elt Ideal) ℓ) : Prop :=
  True

def Pre_ReferenceOiIdeal_finite_oi [hPre_finite_oi : Cert.Pre_finite_oi.Facts] (m : (ℓ : Loc Cert.ReferenceOiIdeal.nD Cert.ReferenceOiIdeal.τ Cert.ReferenceOiIdeal.sig) → Buf (Elt Ideal) ℓ) : Prop :=
  ∀ c : Dev Cert.ReferenceOiIdeal.nD,
    (Cert.Pre_finite_oi.fn (F := Ideal) (m ((c.tc : Thread Cert.ReferenceOiIdeal.nD Cert.ReferenceOiIdeal.τ).loc Cert.ReferenceOiIdeal.main_arg0)) (m ((c.tc : Thread Cert.ReferenceOiIdeal.nD Cert.ReferenceOiIdeal.τ).loc Cert.ReferenceOiIdeal.main_arg1)) (m ((c.tc : Thread Cert.ReferenceOiIdeal.nD Cert.ReferenceOiIdeal.τ).loc Cert.ReferenceOiIdeal.main_arg2)) (m ((c.tc : Thread Cert.ReferenceOiIdeal.nD Cert.ReferenceOiIdeal.τ).loc Cert.ReferenceOiIdeal.main_arg3)) (m ((c.tc : Thread Cert.ReferenceOiIdeal.nD Cert.ReferenceOiIdeal.τ).loc Cert.ReferenceOiIdeal.main_arg4))) = (fun _ => 1#1)

def Pre_KernelEi (m : (ℓ : Loc Cert.KernelEi.nD Cert.KernelEi.τ Cert.KernelEi.sig) → Buf (Elt Bits) ℓ) : Prop :=
  True

def Pre_KernelEiIdeal (m : (ℓ : Loc Cert.KernelEiIdeal.nD Cert.KernelEiIdeal.τ Cert.KernelEiIdeal.sig) → Buf (Elt Ideal) ℓ) : Prop :=
  True

def Pre_KernelEiIdeal_finite_ein [hPre_finite_ein : Cert.Pre_finite_ein.Facts] (m : (ℓ : Loc Cert.KernelEiIdeal.nD Cert.KernelEiIdeal.τ Cert.KernelEiIdeal.sig) → Buf (Elt Ideal) ℓ) : Prop :=
  ∀ c : Dev Cert.KernelEiIdeal.nD,
    (Cert.Pre_finite_ein.fn (F := Ideal) (m ((c.tc : Thread Cert.KernelEiIdeal.nD Cert.KernelEiIdeal.τ).loc Cert.KernelEiIdeal.main_arg0)) (m ((c.tc : Thread Cert.KernelEiIdeal.nD Cert.KernelEiIdeal.τ).loc Cert.KernelEiIdeal.main_arg1)) (m ((c.tc : Thread Cert.KernelEiIdeal.nD Cert.KernelEiIdeal.τ).loc Cert.KernelEiIdeal.main_arg2)) (m ((c.tc : Thread Cert.KernelEiIdeal.nD Cert.KernelEiIdeal.τ).loc Cert.KernelEiIdeal.main_arg3)) (m ((c.tc : Thread Cert.KernelEiIdeal.nD Cert.KernelEiIdeal.τ).loc Cert.KernelEiIdeal.main_arg4))) = (fun _ => 1#1)

def Pre_ReferenceEiIdeal (m : (ℓ : Loc Cert.ReferenceEiIdeal.nD Cert.ReferenceEiIdeal.τ Cert.ReferenceEiIdeal.sig) → Buf (Elt Ideal) ℓ) : Prop :=
  True

def Pre_ReferenceEiIdeal_finite_ein [hPre_finite_ein : Cert.Pre_finite_ein.Facts] (m : (ℓ : Loc Cert.ReferenceEiIdeal.nD Cert.ReferenceEiIdeal.τ Cert.ReferenceEiIdeal.sig) → Buf (Elt Ideal) ℓ) : Prop :=
  ∀ c : Dev Cert.ReferenceEiIdeal.nD,
    (Cert.Pre_finite_ein.fn (F := Ideal) (m ((c.tc : Thread Cert.ReferenceEiIdeal.nD Cert.ReferenceEiIdeal.τ).loc Cert.ReferenceEiIdeal.main_arg0)) (m ((c.tc : Thread Cert.ReferenceEiIdeal.nD Cert.ReferenceEiIdeal.τ).loc Cert.ReferenceEiIdeal.main_arg1)) (m ((c.tc : Thread Cert.ReferenceEiIdeal.nD Cert.ReferenceEiIdeal.τ).loc Cert.ReferenceEiIdeal.main_arg2)) (m ((c.tc : Thread Cert.ReferenceEiIdeal.nD Cert.ReferenceEiIdeal.τ).loc Cert.ReferenceEiIdeal.main_arg3)) (m ((c.tc : Thread Cert.ReferenceEiIdeal.nD Cert.ReferenceEiIdeal.τ).loc Cert.ReferenceEiIdeal.main_arg4))) = (fun _ => 1#1)

def Pre_KernelLn (m : (ℓ : Loc Cert.KernelLn.nD Cert.KernelLn.τ Cert.KernelLn.sig) → Buf (Elt Bits) ℓ) : Prop :=
  True

def Pre_KernelLnIdeal (m : (ℓ : Loc Cert.KernelLnIdeal.nD Cert.KernelLnIdeal.τ Cert.KernelLnIdeal.sig) → Buf (Elt Ideal) ℓ) : Prop :=
  True

def Pre_KernelLnIdeal_finite_ln [hPre_finite_ln : Cert.Pre_finite_ln.Facts] (m : (ℓ : Loc Cert.KernelLnIdeal.nD Cert.KernelLnIdeal.τ Cert.KernelLnIdeal.sig) → Buf (Elt Ideal) ℓ) : Prop :=
  ∀ c : Dev Cert.KernelLnIdeal.nD,
    (Cert.Pre_finite_ln.fn (F := Ideal) (m ((c.tc : Thread Cert.KernelLnIdeal.nD Cert.KernelLnIdeal.τ).loc Cert.KernelLnIdeal.main_arg0)) (m ((c.tc : Thread Cert.KernelLnIdeal.nD Cert.KernelLnIdeal.τ).loc Cert.KernelLnIdeal.main_arg1)) (m ((c.tc : Thread Cert.KernelLnIdeal.nD Cert.KernelLnIdeal.τ).loc Cert.KernelLnIdeal.main_arg2)) (m ((c.tc : Thread Cert.KernelLnIdeal.nD Cert.KernelLnIdeal.τ).loc Cert.KernelLnIdeal.main_arg3)) (m ((c.tc : Thread Cert.KernelLnIdeal.nD Cert.KernelLnIdeal.τ).loc Cert.KernelLnIdeal.main_arg4))) = (fun _ => 1#1)

def Pre_ReferenceLnIdeal (m : (ℓ : Loc Cert.ReferenceLnIdeal.nD Cert.ReferenceLnIdeal.τ Cert.ReferenceLnIdeal.sig) → Buf (Elt Ideal) ℓ) : Prop :=
  True

def Pre_ReferenceLnIdeal_finite_ln [hPre_finite_ln : Cert.Pre_finite_ln.Facts] (m : (ℓ : Loc Cert.ReferenceLnIdeal.nD Cert.ReferenceLnIdeal.τ Cert.ReferenceLnIdeal.sig) → Buf (Elt Ideal) ℓ) : Prop :=
  ∀ c : Dev Cert.ReferenceLnIdeal.nD,
    (Cert.Pre_finite_ln.fn (F := Ideal) (m ((c.tc : Thread Cert.ReferenceLnIdeal.nD Cert.ReferenceLnIdeal.τ).loc Cert.ReferenceLnIdeal.main_arg0)) (m ((c.tc : Thread Cert.ReferenceLnIdeal.nD Cert.ReferenceLnIdeal.τ).loc Cert.ReferenceLnIdeal.main_arg1)) (m ((c.tc : Thread Cert.ReferenceLnIdeal.nD Cert.ReferenceLnIdeal.τ).loc Cert.ReferenceLnIdeal.main_arg2)) (m ((c.tc : Thread Cert.ReferenceLnIdeal.nD Cert.ReferenceLnIdeal.τ).loc Cert.ReferenceLnIdeal.main_arg3)) (m ((c.tc : Thread Cert.ReferenceLnIdeal.nD Cert.ReferenceLnIdeal.τ).loc Cert.ReferenceLnIdeal.main_arg4))) = (fun _ => 1#1)

def Pre_KernelFf (m : (ℓ : Loc Cert.KernelFf.nD Cert.KernelFf.τ Cert.KernelFf.sig) → Buf (Elt Bits) ℓ) : Prop :=
  True

def Pre_KernelFfIdeal (m : (ℓ : Loc Cert.KernelFfIdeal.nD Cert.KernelFfIdeal.τ Cert.KernelFfIdeal.sig) → Buf (Elt Ideal) ℓ) : Prop :=
  True

def Pre_KernelFfIdeal_finite_ffn [hPre_finite_ffn : Cert.Pre_finite_ffn.Facts] (m : (ℓ : Loc Cert.KernelFfIdeal.nD Cert.KernelFfIdeal.τ Cert.KernelFfIdeal.sig) → Buf (Elt Ideal) ℓ) : Prop :=
  ∀ c : Dev Cert.KernelFfIdeal.nD,
    (Cert.Pre_finite_ffn.fn (F := Ideal) (m ((c.tc : Thread Cert.KernelFfIdeal.nD Cert.KernelFfIdeal.τ).loc Cert.KernelFfIdeal.main_arg0)) (m ((c.tc : Thread Cert.KernelFfIdeal.nD Cert.KernelFfIdeal.τ).loc Cert.KernelFfIdeal.main_arg1)) (m ((c.tc : Thread Cert.KernelFfIdeal.nD Cert.KernelFfIdeal.τ).loc Cert.KernelFfIdeal.main_arg2)) (m ((c.tc : Thread Cert.KernelFfIdeal.nD Cert.KernelFfIdeal.τ).loc Cert.KernelFfIdeal.main_arg3)) (m ((c.tc : Thread Cert.KernelFfIdeal.nD Cert.KernelFfIdeal.τ).loc Cert.KernelFfIdeal.main_arg4)) (m ((c.tc : Thread Cert.KernelFfIdeal.nD Cert.KernelFfIdeal.τ).loc Cert.KernelFfIdeal.main_arg5))) = (fun _ => 1#1)

def Pre_ReferenceFfIdeal (m : (ℓ : Loc Cert.ReferenceFfIdeal.nD Cert.ReferenceFfIdeal.τ Cert.ReferenceFfIdeal.sig) → Buf (Elt Ideal) ℓ) : Prop :=
  True

def Pre_ReferenceFfIdeal_finite_ffn [hPre_finite_ffn : Cert.Pre_finite_ffn.Facts] (m : (ℓ : Loc Cert.ReferenceFfIdeal.nD Cert.ReferenceFfIdeal.τ Cert.ReferenceFfIdeal.sig) → Buf (Elt Ideal) ℓ) : Prop :=
  ∀ c : Dev Cert.ReferenceFfIdeal.nD,
    (Cert.Pre_finite_ffn.fn (F := Ideal) (m ((c.tc : Thread Cert.ReferenceFfIdeal.nD Cert.ReferenceFfIdeal.τ).loc Cert.ReferenceFfIdeal.main_arg0)) (m ((c.tc : Thread Cert.ReferenceFfIdeal.nD Cert.ReferenceFfIdeal.τ).loc Cert.ReferenceFfIdeal.main_arg1)) (m ((c.tc : Thread Cert.ReferenceFfIdeal.nD Cert.ReferenceFfIdeal.τ).loc Cert.ReferenceFfIdeal.main_arg2)) (m ((c.tc : Thread Cert.ReferenceFfIdeal.nD Cert.ReferenceFfIdeal.τ).loc Cert.ReferenceFfIdeal.main_arg3)) (m ((c.tc : Thread Cert.ReferenceFfIdeal.nD Cert.ReferenceFfIdeal.τ).loc Cert.ReferenceFfIdeal.main_arg4)) (m ((c.tc : Thread Cert.ReferenceFfIdeal.nD Cert.ReferenceFfIdeal.τ).loc Cert.ReferenceFfIdeal.main_arg5))) = (fun _ => 1#1)

def Pre_KernelAt (m : (ℓ : Loc Cert.KernelAt.nD Cert.KernelAt.τ Cert.KernelAt.sig) → Buf (Elt Bits) ℓ) : Prop :=
  True

def Pre_KernelAtIdeal (m : (ℓ : Loc Cert.KernelAtIdeal.nD Cert.KernelAtIdeal.τ Cert.KernelAtIdeal.sig) → Buf (Elt Ideal) ℓ) : Prop :=
  True

def Pre_KernelAtIdeal_finite_attn [hPre_finite_attn : Cert.Pre_finite_attn.Facts] (m : (ℓ : Loc Cert.KernelAtIdeal.nD Cert.KernelAtIdeal.τ Cert.KernelAtIdeal.sig) → Buf (Elt Ideal) ℓ) : Prop :=
  ∀ c : Dev Cert.KernelAtIdeal.nD,
    (Cert.Pre_finite_attn.fn (F := Ideal) (m ((c.tc : Thread Cert.KernelAtIdeal.nD Cert.KernelAtIdeal.τ).loc Cert.KernelAtIdeal.main_arg0)) (m ((c.tc : Thread Cert.KernelAtIdeal.nD Cert.KernelAtIdeal.τ).loc Cert.KernelAtIdeal.main_arg1)) (m ((c.tc : Thread Cert.KernelAtIdeal.nD Cert.KernelAtIdeal.τ).loc Cert.KernelAtIdeal.main_arg2)) (m ((c.tc : Thread Cert.KernelAtIdeal.nD Cert.KernelAtIdeal.τ).loc Cert.KernelAtIdeal.main_arg3)) (m ((c.tc : Thread Cert.KernelAtIdeal.nD Cert.KernelAtIdeal.τ).loc Cert.KernelAtIdeal.main_arg4)) (m ((c.tc : Thread Cert.KernelAtIdeal.nD Cert.KernelAtIdeal.τ).loc Cert.KernelAtIdeal.main_arg5)) (m ((c.tc : Thread Cert.KernelAtIdeal.nD Cert.KernelAtIdeal.τ).loc Cert.KernelAtIdeal.main_arg6))) = (fun _ => 1#1)

def Pre_ReferenceAtIdeal (m : (ℓ : Loc Cert.ReferenceAtIdeal.nD Cert.ReferenceAtIdeal.τ Cert.ReferenceAtIdeal.sig) → Buf (Elt Ideal) ℓ) : Prop :=
  True

def Pre_ReferenceAtIdeal_finite_attn [hPre_finite_attn : Cert.Pre_finite_attn.Facts] (m : (ℓ : Loc Cert.ReferenceAtIdeal.nD Cert.ReferenceAtIdeal.τ Cert.ReferenceAtIdeal.sig) → Buf (Elt Ideal) ℓ) : Prop :=
  ∀ c : Dev Cert.ReferenceAtIdeal.nD,
    (Cert.Pre_finite_attn.fn (F := Ideal) (m ((c.tc : Thread Cert.ReferenceAtIdeal.nD Cert.ReferenceAtIdeal.τ).loc Cert.ReferenceAtIdeal.main_arg0)) (m ((c.tc : Thread Cert.ReferenceAtIdeal.nD Cert.ReferenceAtIdeal.τ).loc Cert.ReferenceAtIdeal.main_arg1)) (m ((c.tc : Thread Cert.ReferenceAtIdeal.nD Cert.ReferenceAtIdeal.τ).loc Cert.ReferenceAtIdeal.main_arg2)) (m ((c.tc : Thread Cert.ReferenceAtIdeal.nD Cert.ReferenceAtIdeal.τ).loc Cert.ReferenceAtIdeal.main_arg3)) (m ((c.tc : Thread Cert.ReferenceAtIdeal.nD Cert.ReferenceAtIdeal.τ).loc Cert.ReferenceAtIdeal.main_arg4)) (m ((c.tc : Thread Cert.ReferenceAtIdeal.nD Cert.ReferenceAtIdeal.τ).loc Cert.ReferenceAtIdeal.main_arg5)) (m ((c.tc : Thread Cert.ReferenceAtIdeal.nD Cert.ReferenceAtIdeal.τ).loc Cert.ReferenceAtIdeal.main_arg6))) = (fun _ => 1#1)

def Pre_KernelLs (m : (ℓ : Loc Cert.KernelLs.nD Cert.KernelLs.τ Cert.KernelLs.sig) → Buf (Elt Bits) ℓ) : Prop :=
  True

def Pre_KernelLsIdeal (m : (ℓ : Loc Cert.KernelLsIdeal.nD Cert.KernelLsIdeal.τ Cert.KernelLsIdeal.sig) → Buf (Elt Ideal) ℓ) : Prop :=
  True

def Pre_KernelLsIdeal_finite_loss [hPre_finite_loss : Cert.Pre_finite_loss.Facts] (m : (ℓ : Loc Cert.KernelLsIdeal.nD Cert.KernelLsIdeal.τ Cert.KernelLsIdeal.sig) → Buf (Elt Ideal) ℓ) : Prop :=
  ∀ c : Dev Cert.KernelLsIdeal.nD,
    (Cert.Pre_finite_loss.fn (F := Ideal) (m ((c.tc : Thread Cert.KernelLsIdeal.nD Cert.KernelLsIdeal.τ).loc Cert.KernelLsIdeal.main_arg0)) (m ((c.tc : Thread Cert.KernelLsIdeal.nD Cert.KernelLsIdeal.τ).loc Cert.KernelLsIdeal.main_arg1)) (m ((c.tc : Thread Cert.KernelLsIdeal.nD Cert.KernelLsIdeal.τ).loc Cert.KernelLsIdeal.main_arg2)) (m ((c.tc : Thread Cert.KernelLsIdeal.nD Cert.KernelLsIdeal.τ).loc Cert.KernelLsIdeal.main_arg3)) (m ((c.tc : Thread Cert.KernelLsIdeal.nD Cert.KernelLsIdeal.τ).loc Cert.KernelLsIdeal.main_arg4)) (m ((c.tc : Thread Cert.KernelLsIdeal.nD Cert.KernelLsIdeal.τ).loc Cert.KernelLsIdeal.main_arg5)) (m ((c.tc : Thread Cert.KernelLsIdeal.nD Cert.KernelLsIdeal.τ).loc Cert.KernelLsIdeal.main_arg6))) = (fun _ => 1#1)

def Pre_ReferenceLsIdeal (m : (ℓ : Loc Cert.ReferenceLsIdeal.nD Cert.ReferenceLsIdeal.τ Cert.ReferenceLsIdeal.sig) → Buf (Elt Ideal) ℓ) : Prop :=
  True

def Pre_ReferenceLsIdeal_finite_loss [hPre_finite_loss : Cert.Pre_finite_loss.Facts] (m : (ℓ : Loc Cert.ReferenceLsIdeal.nD Cert.ReferenceLsIdeal.τ Cert.ReferenceLsIdeal.sig) → Buf (Elt Ideal) ℓ) : Prop :=
  ∀ c : Dev Cert.ReferenceLsIdeal.nD,
    (Cert.Pre_finite_loss.fn (F := Ideal) (m ((c.tc : Thread Cert.ReferenceLsIdeal.nD Cert.ReferenceLsIdeal.τ).loc Cert.ReferenceLsIdeal.main_arg0)) (m ((c.tc : Thread Cert.ReferenceLsIdeal.nD Cert.ReferenceLsIdeal.τ).loc Cert.ReferenceLsIdeal.main_arg1)) (m ((c.tc : Thread Cert.ReferenceLsIdeal.nD Cert.ReferenceLsIdeal.τ).loc Cert.ReferenceLsIdeal.main_arg2)) (m ((c.tc : Thread Cert.ReferenceLsIdeal.nD Cert.ReferenceLsIdeal.τ).loc Cert.ReferenceLsIdeal.main_arg3)) (m ((c.tc : Thread Cert.ReferenceLsIdeal.nD Cert.ReferenceLsIdeal.τ).loc Cert.ReferenceLsIdeal.main_arg4)) (m ((c.tc : Thread Cert.ReferenceLsIdeal.nD Cert.ReferenceLsIdeal.τ).loc Cert.ReferenceLsIdeal.main_arg5)) (m ((c.tc : Thread Cert.ReferenceLsIdeal.nD Cert.ReferenceLsIdeal.τ).loc Cert.ReferenceLsIdeal.main_arg6))) = (fun _ => 1#1)

def Pre_KernelAf (m : (ℓ : Loc Cert.KernelAf.nD Cert.KernelAf.τ Cert.KernelAf.sig) → Buf (Elt Bits) ℓ) : Prop :=
  True

def Pre_KernelAfIdeal (m : (ℓ : Loc Cert.KernelAfIdeal.nD Cert.KernelAfIdeal.τ Cert.KernelAfIdeal.sig) → Buf (Elt Ideal) ℓ) : Prop :=
  True

def Pre_ReferenceAfIdeal (m : (ℓ : Loc Cert.ReferenceAfIdeal.nD Cert.ReferenceAfIdeal.τ Cert.ReferenceAfIdeal.sig) → Buf (Elt Ideal) ℓ) : Prop :=
  True

def Pre_KernelGm (m : (ℓ : Loc Cert.KernelGm.nD Cert.KernelGm.τ Cert.KernelGm.sig) → Buf (Elt Bits) ℓ) : Prop :=
  True

def Pre_KernelGmIdeal (m : (ℓ : Loc Cert.KernelGmIdeal.nD Cert.KernelGmIdeal.τ Cert.KernelGmIdeal.sig) → Buf (Elt Ideal) ℓ) : Prop :=
  True

def Pre_KernelGmIdeal_finite_gmlp [hPre_finite_gmlp : Cert.Pre_finite_gmlp.Facts] (m : (ℓ : Loc Cert.KernelGmIdeal.nD Cert.KernelGmIdeal.τ Cert.KernelGmIdeal.sig) → Buf (Elt Ideal) ℓ) : Prop :=
  ∀ c : Dev Cert.KernelGmIdeal.nD,
    (Cert.Pre_finite_gmlp.fn (F := Ideal) (m ((c.tc : Thread Cert.KernelGmIdeal.nD Cert.KernelGmIdeal.τ).loc Cert.KernelGmIdeal.main_arg0)) (m ((c.tc : Thread Cert.KernelGmIdeal.nD Cert.KernelGmIdeal.τ).loc Cert.KernelGmIdeal.main_arg1)) (m ((c.tc : Thread Cert.KernelGmIdeal.nD Cert.KernelGmIdeal.τ).loc Cert.KernelGmIdeal.main_arg2)) (m ((c.tc : Thread Cert.KernelGmIdeal.nD Cert.KernelGmIdeal.τ).loc Cert.KernelGmIdeal.main_arg3)) (m ((c.tc : Thread Cert.KernelGmIdeal.nD Cert.KernelGmIdeal.τ).loc Cert.KernelGmIdeal.main_arg4))) = (fun _ => 1#1)

def Pre_ReferenceGmIdeal (m : (ℓ : Loc Cert.ReferenceGmIdeal.nD Cert.ReferenceGmIdeal.τ Cert.ReferenceGmIdeal.sig) → Buf (Elt Ideal) ℓ) : Prop :=
  True

def Pre_ReferenceGmIdeal_finite_gmlp [hPre_finite_gmlp : Cert.Pre_finite_gmlp.Facts] (m : (ℓ : Loc Cert.ReferenceGmIdeal.nD Cert.ReferenceGmIdeal.τ Cert.ReferenceGmIdeal.sig) → Buf (Elt Ideal) ℓ) : Prop :=
  ∀ c : Dev Cert.ReferenceGmIdeal.nD,
    (Cert.Pre_finite_gmlp.fn (F := Ideal) (m ((c.tc : Thread Cert.ReferenceGmIdeal.nD Cert.ReferenceGmIdeal.τ).loc Cert.ReferenceGmIdeal.main_arg0)) (m ((c.tc : Thread Cert.ReferenceGmIdeal.nD Cert.ReferenceGmIdeal.τ).loc Cert.ReferenceGmIdeal.main_arg1)) (m ((c.tc : Thread Cert.ReferenceGmIdeal.nD Cert.ReferenceGmIdeal.τ).loc Cert.ReferenceGmIdeal.main_arg2)) (m ((c.tc : Thread Cert.ReferenceGmIdeal.nD Cert.ReferenceGmIdeal.τ).loc Cert.ReferenceGmIdeal.main_arg3)) (m ((c.tc : Thread Cert.ReferenceGmIdeal.nD Cert.ReferenceGmIdeal.τ).loc Cert.ReferenceGmIdeal.main_arg4))) = (fun _ => 1#1)

def Pre_KernelPg (m : (ℓ : Loc Cert.KernelPg.nD Cert.KernelPg.τ Cert.KernelPg.sig) → Buf (Elt Bits) ℓ) : Prop :=
  True

def Pre_KernelPgIdeal (m : (ℓ : Loc Cert.KernelPgIdeal.nD Cert.KernelPgIdeal.τ Cert.KernelPgIdeal.sig) → Buf (Elt Ideal) ℓ) : Prop :=
  True

def quiescent_KernelMn [hKernelMn : Cert.KernelMn.Facts] : Prop :=
  ∀ (m : (ℓ : Loc Cert.KernelMn.nD Cert.KernelMn.τ Cert.KernelMn.sig) → Buf (Elt Bits) ℓ) (g : Dev Cert.KernelMn.nD → PrngReg), Pre_KernelMn m →
    θ_run (Cert.KernelMn.defs (F := Bits)) (onTc (τ := Cert.KernelMn.τ) (Cert.KernelMn.main (F := Bits))) ⟨m, fun _ => 0, g⟩ (fun r => (∀ c : Dev Cert.KernelMn.nD,
      r.2.mem ((c.tc : Thread Cert.KernelMn.nD Cert.KernelMn.τ).loc Cert.KernelMn.main_arg0) = m ((c.tc : Thread Cert.KernelMn.nD Cert.KernelMn.τ).loc Cert.KernelMn.main_arg0)
      ∧ r.2.mem ((c.tc : Thread Cert.KernelMn.nD Cert.KernelMn.τ).loc Cert.KernelMn.main_arg1) = m ((c.tc : Thread Cert.KernelMn.nD Cert.KernelMn.τ).loc Cert.KernelMn.main_arg1)
      ∧ r.2.mem ((c.tc : Thread Cert.KernelMn.nD Cert.KernelMn.τ).loc Cert.KernelMn.main_arg2) = m ((c.tc : Thread Cert.KernelMn.nD Cert.KernelMn.τ).loc Cert.KernelMn.main_arg2))
      ∧ r.2.sem = fun _ => 0)

def quiescent_KernelMnIdeal [hKernelMnIdeal : Cert.KernelMnIdeal.Facts] : Prop :=
  ∀ (m : (ℓ : Loc Cert.KernelMnIdeal.nD Cert.KernelMnIdeal.τ Cert.KernelMnIdeal.sig) → Buf (Elt Ideal) ℓ) (g : Dev Cert.KernelMnIdeal.nD → PrngReg), Pre_KernelMnIdeal m →
    θ_run (Cert.KernelMnIdeal.defs (F := Ideal)) (onTc (τ := Cert.KernelMnIdeal.τ) (Cert.KernelMnIdeal.main (F := Ideal))) ⟨m, fun _ => 0, g⟩ (fun r => (∀ c : Dev Cert.KernelMnIdeal.nD,
      r.2.mem ((c.tc : Thread Cert.KernelMnIdeal.nD Cert.KernelMnIdeal.τ).loc Cert.KernelMnIdeal.main_arg0) = m ((c.tc : Thread Cert.KernelMnIdeal.nD Cert.KernelMnIdeal.τ).loc Cert.KernelMnIdeal.main_arg0)
      ∧ r.2.mem ((c.tc : Thread Cert.KernelMnIdeal.nD Cert.KernelMnIdeal.τ).loc Cert.KernelMnIdeal.main_arg1) = m ((c.tc : Thread Cert.KernelMnIdeal.nD Cert.KernelMnIdeal.τ).loc Cert.KernelMnIdeal.main_arg1)
      ∧ r.2.mem ((c.tc : Thread Cert.KernelMnIdeal.nD Cert.KernelMnIdeal.τ).loc Cert.KernelMnIdeal.main_arg2) = m ((c.tc : Thread Cert.KernelMnIdeal.nD Cert.KernelMnIdeal.τ).loc Cert.KernelMnIdeal.main_arg2))
      ∧ r.2.sem = fun _ => 0)

def quiescent_ReferenceMnIdeal [hReferenceMnIdeal : Cert.ReferenceMnIdeal.Facts] : Prop :=
  ∀ (m : (ℓ : Loc Cert.ReferenceMnIdeal.nD Cert.ReferenceMnIdeal.τ Cert.ReferenceMnIdeal.sig) → Buf (Elt Ideal) ℓ) (g : Dev Cert.ReferenceMnIdeal.nD → PrngReg), Pre_ReferenceMnIdeal m →
    θ_run (Cert.ReferenceMnIdeal.defs (F := Ideal)) (onTc (τ := Cert.ReferenceMnIdeal.τ) (Cert.ReferenceMnIdeal.main (F := Ideal))) ⟨m, fun _ => 0, g⟩ (fun r => (∀ c : Dev Cert.ReferenceMnIdeal.nD,
      r.2.mem ((c.tc : Thread Cert.ReferenceMnIdeal.nD Cert.ReferenceMnIdeal.τ).loc Cert.ReferenceMnIdeal.main_arg0) = m ((c.tc : Thread Cert.ReferenceMnIdeal.nD Cert.ReferenceMnIdeal.τ).loc Cert.ReferenceMnIdeal.main_arg0)
      ∧ r.2.mem ((c.tc : Thread Cert.ReferenceMnIdeal.nD Cert.ReferenceMnIdeal.τ).loc Cert.ReferenceMnIdeal.main_arg1) = m ((c.tc : Thread Cert.ReferenceMnIdeal.nD Cert.ReferenceMnIdeal.τ).loc Cert.ReferenceMnIdeal.main_arg1)
      ∧ r.2.mem ((c.tc : Thread Cert.ReferenceMnIdeal.nD Cert.ReferenceMnIdeal.τ).loc Cert.ReferenceMnIdeal.main_arg2) = m ((c.tc : Thread Cert.ReferenceMnIdeal.nD Cert.ReferenceMnIdeal.τ).loc Cert.ReferenceMnIdeal.main_arg2))
      ∧ r.2.sem = fun _ => 0)

def quiescent_KernelGt [hKernelGt : Cert.KernelGt.Facts] : Prop :=
  ∀ (m : (ℓ : Loc Cert.KernelGt.nD Cert.KernelGt.τ Cert.KernelGt.sig) → Buf (Elt Bits) ℓ) (g : Dev Cert.KernelGt.nD → PrngReg), Pre_KernelGt m →
    θ_run (Cert.KernelGt.defs (F := Bits)) (onTc (τ := Cert.KernelGt.τ) (Cert.KernelGt.main (F := Bits))) ⟨m, fun _ => 0, g⟩ (fun r => (∀ c : Dev Cert.KernelGt.nD,
      r.2.mem ((c.tc : Thread Cert.KernelGt.nD Cert.KernelGt.τ).loc Cert.KernelGt.main_arg0) = m ((c.tc : Thread Cert.KernelGt.nD Cert.KernelGt.τ).loc Cert.KernelGt.main_arg0)
      ∧ r.2.mem ((c.tc : Thread Cert.KernelGt.nD Cert.KernelGt.τ).loc Cert.KernelGt.main_arg1) = m ((c.tc : Thread Cert.KernelGt.nD Cert.KernelGt.τ).loc Cert.KernelGt.main_arg1)
      ∧ r.2.mem ((c.tc : Thread Cert.KernelGt.nD Cert.KernelGt.τ).loc Cert.KernelGt.main_arg2) = m ((c.tc : Thread Cert.KernelGt.nD Cert.KernelGt.τ).loc Cert.KernelGt.main_arg2))
      ∧ r.2.sem = fun _ => 0)

def quiescent_KernelGtIdeal [hKernelGtIdeal : Cert.KernelGtIdeal.Facts] : Prop :=
  ∀ (m : (ℓ : Loc Cert.KernelGtIdeal.nD Cert.KernelGtIdeal.τ Cert.KernelGtIdeal.sig) → Buf (Elt Ideal) ℓ) (g : Dev Cert.KernelGtIdeal.nD → PrngReg), Pre_KernelGtIdeal m →
    θ_run (Cert.KernelGtIdeal.defs (F := Ideal)) (onTc (τ := Cert.KernelGtIdeal.τ) (Cert.KernelGtIdeal.main (F := Ideal))) ⟨m, fun _ => 0, g⟩ (fun r => (∀ c : Dev Cert.KernelGtIdeal.nD,
      r.2.mem ((c.tc : Thread Cert.KernelGtIdeal.nD Cert.KernelGtIdeal.τ).loc Cert.KernelGtIdeal.main_arg0) = m ((c.tc : Thread Cert.KernelGtIdeal.nD Cert.KernelGtIdeal.τ).loc Cert.KernelGtIdeal.main_arg0)
      ∧ r.2.mem ((c.tc : Thread Cert.KernelGtIdeal.nD Cert.KernelGtIdeal.τ).loc Cert.KernelGtIdeal.main_arg1) = m ((c.tc : Thread Cert.KernelGtIdeal.nD Cert.KernelGtIdeal.τ).loc Cert.KernelGtIdeal.main_arg1)
      ∧ r.2.mem ((c.tc : Thread Cert.KernelGtIdeal.nD Cert.KernelGtIdeal.τ).loc Cert.KernelGtIdeal.main_arg2) = m ((c.tc : Thread Cert.KernelGtIdeal.nD Cert.KernelGtIdeal.τ).loc Cert.KernelGtIdeal.main_arg2))
      ∧ r.2.sem = fun _ => 0)

def quiescent_ReferenceGtIdeal [hReferenceGtIdeal : Cert.ReferenceGtIdeal.Facts] : Prop :=
  ∀ (m : (ℓ : Loc Cert.ReferenceGtIdeal.nD Cert.ReferenceGtIdeal.τ Cert.ReferenceGtIdeal.sig) → Buf (Elt Ideal) ℓ) (g : Dev Cert.ReferenceGtIdeal.nD → PrngReg), Pre_ReferenceGtIdeal m →
    θ_run (Cert.ReferenceGtIdeal.defs (F := Ideal)) (onTc (τ := Cert.ReferenceGtIdeal.τ) (Cert.ReferenceGtIdeal.main (F := Ideal))) ⟨m, fun _ => 0, g⟩ (fun r => (∀ c : Dev Cert.ReferenceGtIdeal.nD,
      r.2.mem ((c.tc : Thread Cert.ReferenceGtIdeal.nD Cert.ReferenceGtIdeal.τ).loc Cert.ReferenceGtIdeal.main_arg0) = m ((c.tc : Thread Cert.ReferenceGtIdeal.nD Cert.ReferenceGtIdeal.τ).loc Cert.ReferenceGtIdeal.main_arg0)
      ∧ r.2.mem ((c.tc : Thread Cert.ReferenceGtIdeal.nD Cert.ReferenceGtIdeal.τ).loc Cert.ReferenceGtIdeal.main_arg1) = m ((c.tc : Thread Cert.ReferenceGtIdeal.nD Cert.ReferenceGtIdeal.τ).loc Cert.ReferenceGtIdeal.main_arg1)
      ∧ r.2.mem ((c.tc : Thread Cert.ReferenceGtIdeal.nD Cert.ReferenceGtIdeal.τ).loc Cert.ReferenceGtIdeal.main_arg2) = m ((c.tc : Thread Cert.ReferenceGtIdeal.nD Cert.ReferenceGtIdeal.τ).loc Cert.ReferenceGtIdeal.main_arg2))
      ∧ r.2.sem = fun _ => 0)

def quiescent_KernelOi [hKernelOi : Cert.KernelOi.Facts] : Prop :=
  ∀ (m : (ℓ : Loc Cert.KernelOi.nD Cert.KernelOi.τ Cert.KernelOi.sig) → Buf (Elt Bits) ℓ) (g : Dev Cert.KernelOi.nD → PrngReg), Pre_KernelOi m →
    θ_run (Cert.KernelOi.defs (F := Bits)) (onTc (τ := Cert.KernelOi.τ) (Cert.KernelOi.main (F := Bits))) ⟨m, fun _ => 0, g⟩ (fun r => (∀ c : Dev Cert.KernelOi.nD,
      r.2.mem ((c.tc : Thread Cert.KernelOi.nD Cert.KernelOi.τ).loc Cert.KernelOi.main_arg0) = m ((c.tc : Thread Cert.KernelOi.nD Cert.KernelOi.τ).loc Cert.KernelOi.main_arg0)
      ∧ r.2.mem ((c.tc : Thread Cert.KernelOi.nD Cert.KernelOi.τ).loc Cert.KernelOi.main_arg1) = m ((c.tc : Thread Cert.KernelOi.nD Cert.KernelOi.τ).loc Cert.KernelOi.main_arg1)
      ∧ r.2.mem ((c.tc : Thread Cert.KernelOi.nD Cert.KernelOi.τ).loc Cert.KernelOi.main_arg2) = m ((c.tc : Thread Cert.KernelOi.nD Cert.KernelOi.τ).loc Cert.KernelOi.main_arg2)
      ∧ r.2.mem ((c.tc : Thread Cert.KernelOi.nD Cert.KernelOi.τ).loc Cert.KernelOi.main_arg3) = m ((c.tc : Thread Cert.KernelOi.nD Cert.KernelOi.τ).loc Cert.KernelOi.main_arg3)
      ∧ r.2.mem ((c.tc : Thread Cert.KernelOi.nD Cert.KernelOi.τ).loc Cert.KernelOi.main_arg4) = m ((c.tc : Thread Cert.KernelOi.nD Cert.KernelOi.τ).loc Cert.KernelOi.main_arg4))
      ∧ r.2.sem = fun _ => 0)

def quiescent_KernelOiIdeal [hKernelOiIdeal : Cert.KernelOiIdeal.Facts] : Prop :=
  ∀ (m : (ℓ : Loc Cert.KernelOiIdeal.nD Cert.KernelOiIdeal.τ Cert.KernelOiIdeal.sig) → Buf (Elt Ideal) ℓ) (g : Dev Cert.KernelOiIdeal.nD → PrngReg), Pre_KernelOiIdeal m →
    θ_run (Cert.KernelOiIdeal.defs (F := Ideal)) (onTc (τ := Cert.KernelOiIdeal.τ) (Cert.KernelOiIdeal.main (F := Ideal))) ⟨m, fun _ => 0, g⟩ (fun r => (∀ c : Dev Cert.KernelOiIdeal.nD,
      r.2.mem ((c.tc : Thread Cert.KernelOiIdeal.nD Cert.KernelOiIdeal.τ).loc Cert.KernelOiIdeal.main_arg0) = m ((c.tc : Thread Cert.KernelOiIdeal.nD Cert.KernelOiIdeal.τ).loc Cert.KernelOiIdeal.main_arg0)
      ∧ r.2.mem ((c.tc : Thread Cert.KernelOiIdeal.nD Cert.KernelOiIdeal.τ).loc Cert.KernelOiIdeal.main_arg1) = m ((c.tc : Thread Cert.KernelOiIdeal.nD Cert.KernelOiIdeal.τ).loc Cert.KernelOiIdeal.main_arg1)
      ∧ r.2.mem ((c.tc : Thread Cert.KernelOiIdeal.nD Cert.KernelOiIdeal.τ).loc Cert.KernelOiIdeal.main_arg2) = m ((c.tc : Thread Cert.KernelOiIdeal.nD Cert.KernelOiIdeal.τ).loc Cert.KernelOiIdeal.main_arg2)
      ∧ r.2.mem ((c.tc : Thread Cert.KernelOiIdeal.nD Cert.KernelOiIdeal.τ).loc Cert.KernelOiIdeal.main_arg3) = m ((c.tc : Thread Cert.KernelOiIdeal.nD Cert.KernelOiIdeal.τ).loc Cert.KernelOiIdeal.main_arg3)
      ∧ r.2.mem ((c.tc : Thread Cert.KernelOiIdeal.nD Cert.KernelOiIdeal.τ).loc Cert.KernelOiIdeal.main_arg4) = m ((c.tc : Thread Cert.KernelOiIdeal.nD Cert.KernelOiIdeal.τ).loc Cert.KernelOiIdeal.main_arg4))
      ∧ r.2.sem = fun _ => 0)

def quiescent_KernelOiIdeal_pre_finite_oi [hKernelOiIdeal : Cert.KernelOiIdeal.Facts] [hPre_finite_oi : Cert.Pre_finite_oi.Facts] : Prop :=
  ∀ (m : (ℓ : Loc Cert.KernelOiIdeal.nD Cert.KernelOiIdeal.τ Cert.KernelOiIdeal.sig) → Buf (Elt Ideal) ℓ) (g : Dev Cert.KernelOiIdeal.nD → PrngReg), Pre_KernelOiIdeal_finite_oi m →
    θ_run (Cert.KernelOiIdeal.defs (F := Ideal)) (onTc (τ := Cert.KernelOiIdeal.τ) (Cert.KernelOiIdeal.main (F := Ideal))) ⟨m, fun _ => 0, g⟩ (fun r => (∀ c : Dev Cert.KernelOiIdeal.nD,
      r.2.mem ((c.tc : Thread Cert.KernelOiIdeal.nD Cert.KernelOiIdeal.τ).loc Cert.KernelOiIdeal.main_arg0) = m ((c.tc : Thread Cert.KernelOiIdeal.nD Cert.KernelOiIdeal.τ).loc Cert.KernelOiIdeal.main_arg0)
      ∧ r.2.mem ((c.tc : Thread Cert.KernelOiIdeal.nD Cert.KernelOiIdeal.τ).loc Cert.KernelOiIdeal.main_arg1) = m ((c.tc : Thread Cert.KernelOiIdeal.nD Cert.KernelOiIdeal.τ).loc Cert.KernelOiIdeal.main_arg1)
      ∧ r.2.mem ((c.tc : Thread Cert.KernelOiIdeal.nD Cert.KernelOiIdeal.τ).loc Cert.KernelOiIdeal.main_arg2) = m ((c.tc : Thread Cert.KernelOiIdeal.nD Cert.KernelOiIdeal.τ).loc Cert.KernelOiIdeal.main_arg2)
      ∧ r.2.mem ((c.tc : Thread Cert.KernelOiIdeal.nD Cert.KernelOiIdeal.τ).loc Cert.KernelOiIdeal.main_arg3) = m ((c.tc : Thread Cert.KernelOiIdeal.nD Cert.KernelOiIdeal.τ).loc Cert.KernelOiIdeal.main_arg3)
      ∧ r.2.mem ((c.tc : Thread Cert.KernelOiIdeal.nD Cert.KernelOiIdeal.τ).loc Cert.KernelOiIdeal.main_arg4) = m ((c.tc : Thread Cert.KernelOiIdeal.nD Cert.KernelOiIdeal.τ).loc Cert.KernelOiIdeal.main_arg4))
      ∧ r.2.sem = fun _ => 0)

def quiescent_ReferenceOiIdeal [hReferenceOiIdeal : Cert.ReferenceOiIdeal.Facts] : Prop :=
  ∀ (m : (ℓ : Loc Cert.ReferenceOiIdeal.nD Cert.ReferenceOiIdeal.τ Cert.ReferenceOiIdeal.sig) → Buf (Elt Ideal) ℓ) (g : Dev Cert.ReferenceOiIdeal.nD → PrngReg), Pre_ReferenceOiIdeal m →
    θ_run (Cert.ReferenceOiIdeal.defs (F := Ideal)) (onTc (τ := Cert.ReferenceOiIdeal.τ) (Cert.ReferenceOiIdeal.main (F := Ideal))) ⟨m, fun _ => 0, g⟩ (fun r => (∀ c : Dev Cert.ReferenceOiIdeal.nD,
      r.2.mem ((c.tc : Thread Cert.ReferenceOiIdeal.nD Cert.ReferenceOiIdeal.τ).loc Cert.ReferenceOiIdeal.main_arg0) = m ((c.tc : Thread Cert.ReferenceOiIdeal.nD Cert.ReferenceOiIdeal.τ).loc Cert.ReferenceOiIdeal.main_arg0)
      ∧ r.2.mem ((c.tc : Thread Cert.ReferenceOiIdeal.nD Cert.ReferenceOiIdeal.τ).loc Cert.ReferenceOiIdeal.main_arg1) = m ((c.tc : Thread Cert.ReferenceOiIdeal.nD Cert.ReferenceOiIdeal.τ).loc Cert.ReferenceOiIdeal.main_arg1)
      ∧ r.2.mem ((c.tc : Thread Cert.ReferenceOiIdeal.nD Cert.ReferenceOiIdeal.τ).loc Cert.ReferenceOiIdeal.main_arg2) = m ((c.tc : Thread Cert.ReferenceOiIdeal.nD Cert.ReferenceOiIdeal.τ).loc Cert.ReferenceOiIdeal.main_arg2)
      ∧ r.2.mem ((c.tc : Thread Cert.ReferenceOiIdeal.nD Cert.ReferenceOiIdeal.τ).loc Cert.ReferenceOiIdeal.main_arg3) = m ((c.tc : Thread Cert.ReferenceOiIdeal.nD Cert.ReferenceOiIdeal.τ).loc Cert.ReferenceOiIdeal.main_arg3)
      ∧ r.2.mem ((c.tc : Thread Cert.ReferenceOiIdeal.nD Cert.ReferenceOiIdeal.τ).loc Cert.ReferenceOiIdeal.main_arg4) = m ((c.tc : Thread Cert.ReferenceOiIdeal.nD Cert.ReferenceOiIdeal.τ).loc Cert.ReferenceOiIdeal.main_arg4))
      ∧ r.2.sem = fun _ => 0)

def quiescent_ReferenceOiIdeal_pre_finite_oi [hReferenceOiIdeal : Cert.ReferenceOiIdeal.Facts] [hPre_finite_oi : Cert.Pre_finite_oi.Facts] : Prop :=
  ∀ (m : (ℓ : Loc Cert.ReferenceOiIdeal.nD Cert.ReferenceOiIdeal.τ Cert.ReferenceOiIdeal.sig) → Buf (Elt Ideal) ℓ) (g : Dev Cert.ReferenceOiIdeal.nD → PrngReg), Pre_ReferenceOiIdeal_finite_oi m →
    θ_run (Cert.ReferenceOiIdeal.defs (F := Ideal)) (onTc (τ := Cert.ReferenceOiIdeal.τ) (Cert.ReferenceOiIdeal.main (F := Ideal))) ⟨m, fun _ => 0, g⟩ (fun r => (∀ c : Dev Cert.ReferenceOiIdeal.nD,
      r.2.mem ((c.tc : Thread Cert.ReferenceOiIdeal.nD Cert.ReferenceOiIdeal.τ).loc Cert.ReferenceOiIdeal.main_arg0) = m ((c.tc : Thread Cert.ReferenceOiIdeal.nD Cert.ReferenceOiIdeal.τ).loc Cert.ReferenceOiIdeal.main_arg0)
      ∧ r.2.mem ((c.tc : Thread Cert.ReferenceOiIdeal.nD Cert.ReferenceOiIdeal.τ).loc Cert.ReferenceOiIdeal.main_arg1) = m ((c.tc : Thread Cert.ReferenceOiIdeal.nD Cert.ReferenceOiIdeal.τ).loc Cert.ReferenceOiIdeal.main_arg1)
      ∧ r.2.mem ((c.tc : Thread Cert.ReferenceOiIdeal.nD Cert.ReferenceOiIdeal.τ).loc Cert.ReferenceOiIdeal.main_arg2) = m ((c.tc : Thread Cert.ReferenceOiIdeal.nD Cert.ReferenceOiIdeal.τ).loc Cert.ReferenceOiIdeal.main_arg2)
      ∧ r.2.mem ((c.tc : Thread Cert.ReferenceOiIdeal.nD Cert.ReferenceOiIdeal.τ).loc Cert.ReferenceOiIdeal.main_arg3) = m ((c.tc : Thread Cert.ReferenceOiIdeal.nD Cert.ReferenceOiIdeal.τ).loc Cert.ReferenceOiIdeal.main_arg3)
      ∧ r.2.mem ((c.tc : Thread Cert.ReferenceOiIdeal.nD Cert.ReferenceOiIdeal.τ).loc Cert.ReferenceOiIdeal.main_arg4) = m ((c.tc : Thread Cert.ReferenceOiIdeal.nD Cert.ReferenceOiIdeal.τ).loc Cert.ReferenceOiIdeal.main_arg4))
      ∧ r.2.sem = fun _ => 0)

def quiescent_KernelEi [hKernelEi : Cert.KernelEi.Facts] : Prop :=
  ∀ (m : (ℓ : Loc Cert.KernelEi.nD Cert.KernelEi.τ Cert.KernelEi.sig) → Buf (Elt Bits) ℓ) (g : Dev Cert.KernelEi.nD → PrngReg), Pre_KernelEi m →
    θ_run (Cert.KernelEi.defs (F := Bits)) (onTc (τ := Cert.KernelEi.τ) (Cert.KernelEi.main (F := Bits))) ⟨m, fun _ => 0, g⟩ (fun r => (∀ c : Dev Cert.KernelEi.nD,
      r.2.mem ((c.tc : Thread Cert.KernelEi.nD Cert.KernelEi.τ).loc Cert.KernelEi.main_arg0) = m ((c.tc : Thread Cert.KernelEi.nD Cert.KernelEi.τ).loc Cert.KernelEi.main_arg0)
      ∧ r.2.mem ((c.tc : Thread Cert.KernelEi.nD Cert.KernelEi.τ).loc Cert.KernelEi.main_arg1) = m ((c.tc : Thread Cert.KernelEi.nD Cert.KernelEi.τ).loc Cert.KernelEi.main_arg1)
      ∧ r.2.mem ((c.tc : Thread Cert.KernelEi.nD Cert.KernelEi.τ).loc Cert.KernelEi.main_arg2) = m ((c.tc : Thread Cert.KernelEi.nD Cert.KernelEi.τ).loc Cert.KernelEi.main_arg2)
      ∧ r.2.mem ((c.tc : Thread Cert.KernelEi.nD Cert.KernelEi.τ).loc Cert.KernelEi.main_arg3) = m ((c.tc : Thread Cert.KernelEi.nD Cert.KernelEi.τ).loc Cert.KernelEi.main_arg3)
      ∧ r.2.mem ((c.tc : Thread Cert.KernelEi.nD Cert.KernelEi.τ).loc Cert.KernelEi.main_arg4) = m ((c.tc : Thread Cert.KernelEi.nD Cert.KernelEi.τ).loc Cert.KernelEi.main_arg4))
      ∧ r.2.sem = fun _ => 0)

def quiescent_KernelEiIdeal [hKernelEiIdeal : Cert.KernelEiIdeal.Facts] : Prop :=
  ∀ (m : (ℓ : Loc Cert.KernelEiIdeal.nD Cert.KernelEiIdeal.τ Cert.KernelEiIdeal.sig) → Buf (Elt Ideal) ℓ) (g : Dev Cert.KernelEiIdeal.nD → PrngReg), Pre_KernelEiIdeal m →
    θ_run (Cert.KernelEiIdeal.defs (F := Ideal)) (onTc (τ := Cert.KernelEiIdeal.τ) (Cert.KernelEiIdeal.main (F := Ideal))) ⟨m, fun _ => 0, g⟩ (fun r => (∀ c : Dev Cert.KernelEiIdeal.nD,
      r.2.mem ((c.tc : Thread Cert.KernelEiIdeal.nD Cert.KernelEiIdeal.τ).loc Cert.KernelEiIdeal.main_arg0) = m ((c.tc : Thread Cert.KernelEiIdeal.nD Cert.KernelEiIdeal.τ).loc Cert.KernelEiIdeal.main_arg0)
      ∧ r.2.mem ((c.tc : Thread Cert.KernelEiIdeal.nD Cert.KernelEiIdeal.τ).loc Cert.KernelEiIdeal.main_arg1) = m ((c.tc : Thread Cert.KernelEiIdeal.nD Cert.KernelEiIdeal.τ).loc Cert.KernelEiIdeal.main_arg1)
      ∧ r.2.mem ((c.tc : Thread Cert.KernelEiIdeal.nD Cert.KernelEiIdeal.τ).loc Cert.KernelEiIdeal.main_arg2) = m ((c.tc : Thread Cert.KernelEiIdeal.nD Cert.KernelEiIdeal.τ).loc Cert.KernelEiIdeal.main_arg2)
      ∧ r.2.mem ((c.tc : Thread Cert.KernelEiIdeal.nD Cert.KernelEiIdeal.τ).loc Cert.KernelEiIdeal.main_arg3) = m ((c.tc : Thread Cert.KernelEiIdeal.nD Cert.KernelEiIdeal.τ).loc Cert.KernelEiIdeal.main_arg3)
      ∧ r.2.mem ((c.tc : Thread Cert.KernelEiIdeal.nD Cert.KernelEiIdeal.τ).loc Cert.KernelEiIdeal.main_arg4) = m ((c.tc : Thread Cert.KernelEiIdeal.nD Cert.KernelEiIdeal.τ).loc Cert.KernelEiIdeal.main_arg4))
      ∧ r.2.sem = fun _ => 0)

def quiescent_KernelEiIdeal_pre_finite_ein [hKernelEiIdeal : Cert.KernelEiIdeal.Facts] [hPre_finite_ein : Cert.Pre_finite_ein.Facts] : Prop :=
  ∀ (m : (ℓ : Loc Cert.KernelEiIdeal.nD Cert.KernelEiIdeal.τ Cert.KernelEiIdeal.sig) → Buf (Elt Ideal) ℓ) (g : Dev Cert.KernelEiIdeal.nD → PrngReg), Pre_KernelEiIdeal_finite_ein m →
    θ_run (Cert.KernelEiIdeal.defs (F := Ideal)) (onTc (τ := Cert.KernelEiIdeal.τ) (Cert.KernelEiIdeal.main (F := Ideal))) ⟨m, fun _ => 0, g⟩ (fun r => (∀ c : Dev Cert.KernelEiIdeal.nD,
      r.2.mem ((c.tc : Thread Cert.KernelEiIdeal.nD Cert.KernelEiIdeal.τ).loc Cert.KernelEiIdeal.main_arg0) = m ((c.tc : Thread Cert.KernelEiIdeal.nD Cert.KernelEiIdeal.τ).loc Cert.KernelEiIdeal.main_arg0)
      ∧ r.2.mem ((c.tc : Thread Cert.KernelEiIdeal.nD Cert.KernelEiIdeal.τ).loc Cert.KernelEiIdeal.main_arg1) = m ((c.tc : Thread Cert.KernelEiIdeal.nD Cert.KernelEiIdeal.τ).loc Cert.KernelEiIdeal.main_arg1)
      ∧ r.2.mem ((c.tc : Thread Cert.KernelEiIdeal.nD Cert.KernelEiIdeal.τ).loc Cert.KernelEiIdeal.main_arg2) = m ((c.tc : Thread Cert.KernelEiIdeal.nD Cert.KernelEiIdeal.τ).loc Cert.KernelEiIdeal.main_arg2)
      ∧ r.2.mem ((c.tc : Thread Cert.KernelEiIdeal.nD Cert.KernelEiIdeal.τ).loc Cert.KernelEiIdeal.main_arg3) = m ((c.tc : Thread Cert.KernelEiIdeal.nD Cert.KernelEiIdeal.τ).loc Cert.KernelEiIdeal.main_arg3)
      ∧ r.2.mem ((c.tc : Thread Cert.KernelEiIdeal.nD Cert.KernelEiIdeal.τ).loc Cert.KernelEiIdeal.main_arg4) = m ((c.tc : Thread Cert.KernelEiIdeal.nD Cert.KernelEiIdeal.τ).loc Cert.KernelEiIdeal.main_arg4))
      ∧ r.2.sem = fun _ => 0)

def quiescent_ReferenceEiIdeal [hReferenceEiIdeal : Cert.ReferenceEiIdeal.Facts] : Prop :=
  ∀ (m : (ℓ : Loc Cert.ReferenceEiIdeal.nD Cert.ReferenceEiIdeal.τ Cert.ReferenceEiIdeal.sig) → Buf (Elt Ideal) ℓ) (g : Dev Cert.ReferenceEiIdeal.nD → PrngReg), Pre_ReferenceEiIdeal m →
    θ_run (Cert.ReferenceEiIdeal.defs (F := Ideal)) (onTc (τ := Cert.ReferenceEiIdeal.τ) (Cert.ReferenceEiIdeal.main (F := Ideal))) ⟨m, fun _ => 0, g⟩ (fun r => (∀ c : Dev Cert.ReferenceEiIdeal.nD,
      r.2.mem ((c.tc : Thread Cert.ReferenceEiIdeal.nD Cert.ReferenceEiIdeal.τ).loc Cert.ReferenceEiIdeal.main_arg0) = m ((c.tc : Thread Cert.ReferenceEiIdeal.nD Cert.ReferenceEiIdeal.τ).loc Cert.ReferenceEiIdeal.main_arg0)
      ∧ r.2.mem ((c.tc : Thread Cert.ReferenceEiIdeal.nD Cert.ReferenceEiIdeal.τ).loc Cert.ReferenceEiIdeal.main_arg1) = m ((c.tc : Thread Cert.ReferenceEiIdeal.nD Cert.ReferenceEiIdeal.τ).loc Cert.ReferenceEiIdeal.main_arg1)
      ∧ r.2.mem ((c.tc : Thread Cert.ReferenceEiIdeal.nD Cert.ReferenceEiIdeal.τ).loc Cert.ReferenceEiIdeal.main_arg2) = m ((c.tc : Thread Cert.ReferenceEiIdeal.nD Cert.ReferenceEiIdeal.τ).loc Cert.ReferenceEiIdeal.main_arg2)
      ∧ r.2.mem ((c.tc : Thread Cert.ReferenceEiIdeal.nD Cert.ReferenceEiIdeal.τ).loc Cert.ReferenceEiIdeal.main_arg3) = m ((c.tc : Thread Cert.ReferenceEiIdeal.nD Cert.ReferenceEiIdeal.τ).loc Cert.ReferenceEiIdeal.main_arg3)
      ∧ r.2.mem ((c.tc : Thread Cert.ReferenceEiIdeal.nD Cert.ReferenceEiIdeal.τ).loc Cert.ReferenceEiIdeal.main_arg4) = m ((c.tc : Thread Cert.ReferenceEiIdeal.nD Cert.ReferenceEiIdeal.τ).loc Cert.ReferenceEiIdeal.main_arg4))
      ∧ r.2.sem = fun _ => 0)

def quiescent_ReferenceEiIdeal_pre_finite_ein [hReferenceEiIdeal : Cert.ReferenceEiIdeal.Facts] [hPre_finite_ein : Cert.Pre_finite_ein.Facts] : Prop :=
  ∀ (m : (ℓ : Loc Cert.ReferenceEiIdeal.nD Cert.ReferenceEiIdeal.τ Cert.ReferenceEiIdeal.sig) → Buf (Elt Ideal) ℓ) (g : Dev Cert.ReferenceEiIdeal.nD → PrngReg), Pre_ReferenceEiIdeal_finite_ein m →
    θ_run (Cert.ReferenceEiIdeal.defs (F := Ideal)) (onTc (τ := Cert.ReferenceEiIdeal.τ) (Cert.ReferenceEiIdeal.main (F := Ideal))) ⟨m, fun _ => 0, g⟩ (fun r => (∀ c : Dev Cert.ReferenceEiIdeal.nD,
      r.2.mem ((c.tc : Thread Cert.ReferenceEiIdeal.nD Cert.ReferenceEiIdeal.τ).loc Cert.ReferenceEiIdeal.main_arg0) = m ((c.tc : Thread Cert.ReferenceEiIdeal.nD Cert.ReferenceEiIdeal.τ).loc Cert.ReferenceEiIdeal.main_arg0)
      ∧ r.2.mem ((c.tc : Thread Cert.ReferenceEiIdeal.nD Cert.ReferenceEiIdeal.τ).loc Cert.ReferenceEiIdeal.main_arg1) = m ((c.tc : Thread Cert.ReferenceEiIdeal.nD Cert.ReferenceEiIdeal.τ).loc Cert.ReferenceEiIdeal.main_arg1)
      ∧ r.2.mem ((c.tc : Thread Cert.ReferenceEiIdeal.nD Cert.ReferenceEiIdeal.τ).loc Cert.ReferenceEiIdeal.main_arg2) = m ((c.tc : Thread Cert.ReferenceEiIdeal.nD Cert.ReferenceEiIdeal.τ).loc Cert.ReferenceEiIdeal.main_arg2)
      ∧ r.2.mem ((c.tc : Thread Cert.ReferenceEiIdeal.nD Cert.ReferenceEiIdeal.τ).loc Cert.ReferenceEiIdeal.main_arg3) = m ((c.tc : Thread Cert.ReferenceEiIdeal.nD Cert.ReferenceEiIdeal.τ).loc Cert.ReferenceEiIdeal.main_arg3)
      ∧ r.2.mem ((c.tc : Thread Cert.ReferenceEiIdeal.nD Cert.ReferenceEiIdeal.τ).loc Cert.ReferenceEiIdeal.main_arg4) = m ((c.tc : Thread Cert.ReferenceEiIdeal.nD Cert.ReferenceEiIdeal.τ).loc Cert.ReferenceEiIdeal.main_arg4))
      ∧ r.2.sem = fun _ => 0)

def quiescent_KernelLn [hKernelLn : Cert.KernelLn.Facts] : Prop :=
  ∀ (m : (ℓ : Loc Cert.KernelLn.nD Cert.KernelLn.τ Cert.KernelLn.sig) → Buf (Elt Bits) ℓ) (g : Dev Cert.KernelLn.nD → PrngReg), Pre_KernelLn m →
    θ_run (Cert.KernelLn.defs (F := Bits)) (onTc (τ := Cert.KernelLn.τ) (Cert.KernelLn.main (F := Bits))) ⟨m, fun _ => 0, g⟩ (fun r => (∀ c : Dev Cert.KernelLn.nD,
      r.2.mem ((c.tc : Thread Cert.KernelLn.nD Cert.KernelLn.τ).loc Cert.KernelLn.main_arg0) = m ((c.tc : Thread Cert.KernelLn.nD Cert.KernelLn.τ).loc Cert.KernelLn.main_arg0)
      ∧ r.2.mem ((c.tc : Thread Cert.KernelLn.nD Cert.KernelLn.τ).loc Cert.KernelLn.main_arg1) = m ((c.tc : Thread Cert.KernelLn.nD Cert.KernelLn.τ).loc Cert.KernelLn.main_arg1)
      ∧ r.2.mem ((c.tc : Thread Cert.KernelLn.nD Cert.KernelLn.τ).loc Cert.KernelLn.main_arg2) = m ((c.tc : Thread Cert.KernelLn.nD Cert.KernelLn.τ).loc Cert.KernelLn.main_arg2)
      ∧ r.2.mem ((c.tc : Thread Cert.KernelLn.nD Cert.KernelLn.τ).loc Cert.KernelLn.main_arg3) = m ((c.tc : Thread Cert.KernelLn.nD Cert.KernelLn.τ).loc Cert.KernelLn.main_arg3)
      ∧ r.2.mem ((c.tc : Thread Cert.KernelLn.nD Cert.KernelLn.τ).loc Cert.KernelLn.main_arg4) = m ((c.tc : Thread Cert.KernelLn.nD Cert.KernelLn.τ).loc Cert.KernelLn.main_arg4))
      ∧ r.2.sem = fun _ => 0)

def quiescent_KernelLnIdeal [hKernelLnIdeal : Cert.KernelLnIdeal.Facts] : Prop :=
  ∀ (m : (ℓ : Loc Cert.KernelLnIdeal.nD Cert.KernelLnIdeal.τ Cert.KernelLnIdeal.sig) → Buf (Elt Ideal) ℓ) (g : Dev Cert.KernelLnIdeal.nD → PrngReg), Pre_KernelLnIdeal m →
    θ_run (Cert.KernelLnIdeal.defs (F := Ideal)) (onTc (τ := Cert.KernelLnIdeal.τ) (Cert.KernelLnIdeal.main (F := Ideal))) ⟨m, fun _ => 0, g⟩ (fun r => (∀ c : Dev Cert.KernelLnIdeal.nD,
      r.2.mem ((c.tc : Thread Cert.KernelLnIdeal.nD Cert.KernelLnIdeal.τ).loc Cert.KernelLnIdeal.main_arg0) = m ((c.tc : Thread Cert.KernelLnIdeal.nD Cert.KernelLnIdeal.τ).loc Cert.KernelLnIdeal.main_arg0)
      ∧ r.2.mem ((c.tc : Thread Cert.KernelLnIdeal.nD Cert.KernelLnIdeal.τ).loc Cert.KernelLnIdeal.main_arg1) = m ((c.tc : Thread Cert.KernelLnIdeal.nD Cert.KernelLnIdeal.τ).loc Cert.KernelLnIdeal.main_arg1)
      ∧ r.2.mem ((c.tc : Thread Cert.KernelLnIdeal.nD Cert.KernelLnIdeal.τ).loc Cert.KernelLnIdeal.main_arg2) = m ((c.tc : Thread Cert.KernelLnIdeal.nD Cert.KernelLnIdeal.τ).loc Cert.KernelLnIdeal.main_arg2)
      ∧ r.2.mem ((c.tc : Thread Cert.KernelLnIdeal.nD Cert.KernelLnIdeal.τ).loc Cert.KernelLnIdeal.main_arg3) = m ((c.tc : Thread Cert.KernelLnIdeal.nD Cert.KernelLnIdeal.τ).loc Cert.KernelLnIdeal.main_arg3)
      ∧ r.2.mem ((c.tc : Thread Cert.KernelLnIdeal.nD Cert.KernelLnIdeal.τ).loc Cert.KernelLnIdeal.main_arg4) = m ((c.tc : Thread Cert.KernelLnIdeal.nD Cert.KernelLnIdeal.τ).loc Cert.KernelLnIdeal.main_arg4))
      ∧ r.2.sem = fun _ => 0)

def quiescent_KernelLnIdeal_pre_finite_ln [hKernelLnIdeal : Cert.KernelLnIdeal.Facts] [hPre_finite_ln : Cert.Pre_finite_ln.Facts] : Prop :=
  ∀ (m : (ℓ : Loc Cert.KernelLnIdeal.nD Cert.KernelLnIdeal.τ Cert.KernelLnIdeal.sig) → Buf (Elt Ideal) ℓ) (g : Dev Cert.KernelLnIdeal.nD → PrngReg), Pre_KernelLnIdeal_finite_ln m →
    θ_run (Cert.KernelLnIdeal.defs (F := Ideal)) (onTc (τ := Cert.KernelLnIdeal.τ) (Cert.KernelLnIdeal.main (F := Ideal))) ⟨m, fun _ => 0, g⟩ (fun r => (∀ c : Dev Cert.KernelLnIdeal.nD,
      r.2.mem ((c.tc : Thread Cert.KernelLnIdeal.nD Cert.KernelLnIdeal.τ).loc Cert.KernelLnIdeal.main_arg0) = m ((c.tc : Thread Cert.KernelLnIdeal.nD Cert.KernelLnIdeal.τ).loc Cert.KernelLnIdeal.main_arg0)
      ∧ r.2.mem ((c.tc : Thread Cert.KernelLnIdeal.nD Cert.KernelLnIdeal.τ).loc Cert.KernelLnIdeal.main_arg1) = m ((c.tc : Thread Cert.KernelLnIdeal.nD Cert.KernelLnIdeal.τ).loc Cert.KernelLnIdeal.main_arg1)
      ∧ r.2.mem ((c.tc : Thread Cert.KernelLnIdeal.nD Cert.KernelLnIdeal.τ).loc Cert.KernelLnIdeal.main_arg2) = m ((c.tc : Thread Cert.KernelLnIdeal.nD Cert.KernelLnIdeal.τ).loc Cert.KernelLnIdeal.main_arg2)
      ∧ r.2.mem ((c.tc : Thread Cert.KernelLnIdeal.nD Cert.KernelLnIdeal.τ).loc Cert.KernelLnIdeal.main_arg3) = m ((c.tc : Thread Cert.KernelLnIdeal.nD Cert.KernelLnIdeal.τ).loc Cert.KernelLnIdeal.main_arg3)
      ∧ r.2.mem ((c.tc : Thread Cert.KernelLnIdeal.nD Cert.KernelLnIdeal.τ).loc Cert.KernelLnIdeal.main_arg4) = m ((c.tc : Thread Cert.KernelLnIdeal.nD Cert.KernelLnIdeal.τ).loc Cert.KernelLnIdeal.main_arg4))
      ∧ r.2.sem = fun _ => 0)

def quiescent_ReferenceLnIdeal [hReferenceLnIdeal : Cert.ReferenceLnIdeal.Facts] : Prop :=
  ∀ (m : (ℓ : Loc Cert.ReferenceLnIdeal.nD Cert.ReferenceLnIdeal.τ Cert.ReferenceLnIdeal.sig) → Buf (Elt Ideal) ℓ) (g : Dev Cert.ReferenceLnIdeal.nD → PrngReg), Pre_ReferenceLnIdeal m →
    θ_run (Cert.ReferenceLnIdeal.defs (F := Ideal)) (onTc (τ := Cert.ReferenceLnIdeal.τ) (Cert.ReferenceLnIdeal.main (F := Ideal))) ⟨m, fun _ => 0, g⟩ (fun r => (∀ c : Dev Cert.ReferenceLnIdeal.nD,
      r.2.mem ((c.tc : Thread Cert.ReferenceLnIdeal.nD Cert.ReferenceLnIdeal.τ).loc Cert.ReferenceLnIdeal.main_arg0) = m ((c.tc : Thread Cert.ReferenceLnIdeal.nD Cert.ReferenceLnIdeal.τ).loc Cert.ReferenceLnIdeal.main_arg0)
      ∧ r.2.mem ((c.tc : Thread Cert.ReferenceLnIdeal.nD Cert.ReferenceLnIdeal.τ).loc Cert.ReferenceLnIdeal.main_arg1) = m ((c.tc : Thread Cert.ReferenceLnIdeal.nD Cert.ReferenceLnIdeal.τ).loc Cert.ReferenceLnIdeal.main_arg1)
      ∧ r.2.mem ((c.tc : Thread Cert.ReferenceLnIdeal.nD Cert.ReferenceLnIdeal.τ).loc Cert.ReferenceLnIdeal.main_arg2) = m ((c.tc : Thread Cert.ReferenceLnIdeal.nD Cert.ReferenceLnIdeal.τ).loc Cert.ReferenceLnIdeal.main_arg2)
      ∧ r.2.mem ((c.tc : Thread Cert.ReferenceLnIdeal.nD Cert.ReferenceLnIdeal.τ).loc Cert.ReferenceLnIdeal.main_arg3) = m ((c.tc : Thread Cert.ReferenceLnIdeal.nD Cert.ReferenceLnIdeal.τ).loc Cert.ReferenceLnIdeal.main_arg3)
      ∧ r.2.mem ((c.tc : Thread Cert.ReferenceLnIdeal.nD Cert.ReferenceLnIdeal.τ).loc Cert.ReferenceLnIdeal.main_arg4) = m ((c.tc : Thread Cert.ReferenceLnIdeal.nD Cert.ReferenceLnIdeal.τ).loc Cert.ReferenceLnIdeal.main_arg4))
      ∧ r.2.sem = fun _ => 0)

def quiescent_ReferenceLnIdeal_pre_finite_ln [hReferenceLnIdeal : Cert.ReferenceLnIdeal.Facts] [hPre_finite_ln : Cert.Pre_finite_ln.Facts] : Prop :=
  ∀ (m : (ℓ : Loc Cert.ReferenceLnIdeal.nD Cert.ReferenceLnIdeal.τ Cert.ReferenceLnIdeal.sig) → Buf (Elt Ideal) ℓ) (g : Dev Cert.ReferenceLnIdeal.nD → PrngReg), Pre_ReferenceLnIdeal_finite_ln m →
    θ_run (Cert.ReferenceLnIdeal.defs (F := Ideal)) (onTc (τ := Cert.ReferenceLnIdeal.τ) (Cert.ReferenceLnIdeal.main (F := Ideal))) ⟨m, fun _ => 0, g⟩ (fun r => (∀ c : Dev Cert.ReferenceLnIdeal.nD,
      r.2.mem ((c.tc : Thread Cert.ReferenceLnIdeal.nD Cert.ReferenceLnIdeal.τ).loc Cert.ReferenceLnIdeal.main_arg0) = m ((c.tc : Thread Cert.ReferenceLnIdeal.nD Cert.ReferenceLnIdeal.τ).loc Cert.ReferenceLnIdeal.main_arg0)
      ∧ r.2.mem ((c.tc : Thread Cert.ReferenceLnIdeal.nD Cert.ReferenceLnIdeal.τ).loc Cert.ReferenceLnIdeal.main_arg1) = m ((c.tc : Thread Cert.ReferenceLnIdeal.nD Cert.ReferenceLnIdeal.τ).loc Cert.ReferenceLnIdeal.main_arg1)
      ∧ r.2.mem ((c.tc : Thread Cert.ReferenceLnIdeal.nD Cert.ReferenceLnIdeal.τ).loc Cert.ReferenceLnIdeal.main_arg2) = m ((c.tc : Thread Cert.ReferenceLnIdeal.nD Cert.ReferenceLnIdeal.τ).loc Cert.ReferenceLnIdeal.main_arg2)
      ∧ r.2.mem ((c.tc : Thread Cert.ReferenceLnIdeal.nD Cert.ReferenceLnIdeal.τ).loc Cert.ReferenceLnIdeal.main_arg3) = m ((c.tc : Thread Cert.ReferenceLnIdeal.nD Cert.ReferenceLnIdeal.τ).loc Cert.ReferenceLnIdeal.main_arg3)
      ∧ r.2.mem ((c.tc : Thread Cert.ReferenceLnIdeal.nD Cert.ReferenceLnIdeal.τ).loc Cert.ReferenceLnIdeal.main_arg4) = m ((c.tc : Thread Cert.ReferenceLnIdeal.nD Cert.ReferenceLnIdeal.τ).loc Cert.ReferenceLnIdeal.main_arg4))
      ∧ r.2.sem = fun _ => 0)

def quiescent_KernelFf [hKernelFf : Cert.KernelFf.Facts] : Prop :=
  ∀ (m : (ℓ : Loc Cert.KernelFf.nD Cert.KernelFf.τ Cert.KernelFf.sig) → Buf (Elt Bits) ℓ) (g : Dev Cert.KernelFf.nD → PrngReg), Pre_KernelFf m →
    θ_run (Cert.KernelFf.defs (F := Bits)) (onTc (τ := Cert.KernelFf.τ) (Cert.KernelFf.main (F := Bits))) ⟨m, fun _ => 0, g⟩ (fun r => (∀ c : Dev Cert.KernelFf.nD,
      r.2.mem ((c.tc : Thread Cert.KernelFf.nD Cert.KernelFf.τ).loc Cert.KernelFf.main_arg0) = m ((c.tc : Thread Cert.KernelFf.nD Cert.KernelFf.τ).loc Cert.KernelFf.main_arg0)
      ∧ r.2.mem ((c.tc : Thread Cert.KernelFf.nD Cert.KernelFf.τ).loc Cert.KernelFf.main_arg1) = m ((c.tc : Thread Cert.KernelFf.nD Cert.KernelFf.τ).loc Cert.KernelFf.main_arg1)
      ∧ r.2.mem ((c.tc : Thread Cert.KernelFf.nD Cert.KernelFf.τ).loc Cert.KernelFf.main_arg2) = m ((c.tc : Thread Cert.KernelFf.nD Cert.KernelFf.τ).loc Cert.KernelFf.main_arg2)
      ∧ r.2.mem ((c.tc : Thread Cert.KernelFf.nD Cert.KernelFf.τ).loc Cert.KernelFf.main_arg3) = m ((c.tc : Thread Cert.KernelFf.nD Cert.KernelFf.τ).loc Cert.KernelFf.main_arg3)
      ∧ r.2.mem ((c.tc : Thread Cert.KernelFf.nD Cert.KernelFf.τ).loc Cert.KernelFf.main_arg4) = m ((c.tc : Thread Cert.KernelFf.nD Cert.KernelFf.τ).loc Cert.KernelFf.main_arg4)
      ∧ r.2.mem ((c.tc : Thread Cert.KernelFf.nD Cert.KernelFf.τ).loc Cert.KernelFf.main_arg5) = m ((c.tc : Thread Cert.KernelFf.nD Cert.KernelFf.τ).loc Cert.KernelFf.main_arg5))
      ∧ r.2.sem = fun _ => 0)

def quiescent_KernelFfIdeal [hKernelFfIdeal : Cert.KernelFfIdeal.Facts] : Prop :=
  ∀ (m : (ℓ : Loc Cert.KernelFfIdeal.nD Cert.KernelFfIdeal.τ Cert.KernelFfIdeal.sig) → Buf (Elt Ideal) ℓ) (g : Dev Cert.KernelFfIdeal.nD → PrngReg), Pre_KernelFfIdeal m →
    θ_run (Cert.KernelFfIdeal.defs (F := Ideal)) (onTc (τ := Cert.KernelFfIdeal.τ) (Cert.KernelFfIdeal.main (F := Ideal))) ⟨m, fun _ => 0, g⟩ (fun r => (∀ c : Dev Cert.KernelFfIdeal.nD,
      r.2.mem ((c.tc : Thread Cert.KernelFfIdeal.nD Cert.KernelFfIdeal.τ).loc Cert.KernelFfIdeal.main_arg0) = m ((c.tc : Thread Cert.KernelFfIdeal.nD Cert.KernelFfIdeal.τ).loc Cert.KernelFfIdeal.main_arg0)
      ∧ r.2.mem ((c.tc : Thread Cert.KernelFfIdeal.nD Cert.KernelFfIdeal.τ).loc Cert.KernelFfIdeal.main_arg1) = m ((c.tc : Thread Cert.KernelFfIdeal.nD Cert.KernelFfIdeal.τ).loc Cert.KernelFfIdeal.main_arg1)
      ∧ r.2.mem ((c.tc : Thread Cert.KernelFfIdeal.nD Cert.KernelFfIdeal.τ).loc Cert.KernelFfIdeal.main_arg2) = m ((c.tc : Thread Cert.KernelFfIdeal.nD Cert.KernelFfIdeal.τ).loc Cert.KernelFfIdeal.main_arg2)
      ∧ r.2.mem ((c.tc : Thread Cert.KernelFfIdeal.nD Cert.KernelFfIdeal.τ).loc Cert.KernelFfIdeal.main_arg3) = m ((c.tc : Thread Cert.KernelFfIdeal.nD Cert.KernelFfIdeal.τ).loc Cert.KernelFfIdeal.main_arg3)
      ∧ r.2.mem ((c.tc : Thread Cert.KernelFfIdeal.nD Cert.KernelFfIdeal.τ).loc Cert.KernelFfIdeal.main_arg4) = m ((c.tc : Thread Cert.KernelFfIdeal.nD Cert.KernelFfIdeal.τ).loc Cert.KernelFfIdeal.main_arg4)
      ∧ r.2.mem ((c.tc : Thread Cert.KernelFfIdeal.nD Cert.KernelFfIdeal.τ).loc Cert.KernelFfIdeal.main_arg5) = m ((c.tc : Thread Cert.KernelFfIdeal.nD Cert.KernelFfIdeal.τ).loc Cert.KernelFfIdeal.main_arg5))
      ∧ r.2.sem = fun _ => 0)

def quiescent_KernelFfIdeal_pre_finite_ffn [hKernelFfIdeal : Cert.KernelFfIdeal.Facts] [hPre_finite_ffn : Cert.Pre_finite_ffn.Facts] : Prop :=
  ∀ (m : (ℓ : Loc Cert.KernelFfIdeal.nD Cert.KernelFfIdeal.τ Cert.KernelFfIdeal.sig) → Buf (Elt Ideal) ℓ) (g : Dev Cert.KernelFfIdeal.nD → PrngReg), Pre_KernelFfIdeal_finite_ffn m →
    θ_run (Cert.KernelFfIdeal.defs (F := Ideal)) (onTc (τ := Cert.KernelFfIdeal.τ) (Cert.KernelFfIdeal.main (F := Ideal))) ⟨m, fun _ => 0, g⟩ (fun r => (∀ c : Dev Cert.KernelFfIdeal.nD,
      r.2.mem ((c.tc : Thread Cert.KernelFfIdeal.nD Cert.KernelFfIdeal.τ).loc Cert.KernelFfIdeal.main_arg0) = m ((c.tc : Thread Cert.KernelFfIdeal.nD Cert.KernelFfIdeal.τ).loc Cert.KernelFfIdeal.main_arg0)
      ∧ r.2.mem ((c.tc : Thread Cert.KernelFfIdeal.nD Cert.KernelFfIdeal.τ).loc Cert.KernelFfIdeal.main_arg1) = m ((c.tc : Thread Cert.KernelFfIdeal.nD Cert.KernelFfIdeal.τ).loc Cert.KernelFfIdeal.main_arg1)
      ∧ r.2.mem ((c.tc : Thread Cert.KernelFfIdeal.nD Cert.KernelFfIdeal.τ).loc Cert.KernelFfIdeal.main_arg2) = m ((c.tc : Thread Cert.KernelFfIdeal.nD Cert.KernelFfIdeal.τ).loc Cert.KernelFfIdeal.main_arg2)
      ∧ r.2.mem ((c.tc : Thread Cert.KernelFfIdeal.nD Cert.KernelFfIdeal.τ).loc Cert.KernelFfIdeal.main_arg3) = m ((c.tc : Thread Cert.KernelFfIdeal.nD Cert.KernelFfIdeal.τ).loc Cert.KernelFfIdeal.main_arg3)
      ∧ r.2.mem ((c.tc : Thread Cert.KernelFfIdeal.nD Cert.KernelFfIdeal.τ).loc Cert.KernelFfIdeal.main_arg4) = m ((c.tc : Thread Cert.KernelFfIdeal.nD Cert.KernelFfIdeal.τ).loc Cert.KernelFfIdeal.main_arg4)
      ∧ r.2.mem ((c.tc : Thread Cert.KernelFfIdeal.nD Cert.KernelFfIdeal.τ).loc Cert.KernelFfIdeal.main_arg5) = m ((c.tc : Thread Cert.KernelFfIdeal.nD Cert.KernelFfIdeal.τ).loc Cert.KernelFfIdeal.main_arg5))
      ∧ r.2.sem = fun _ => 0)

def quiescent_ReferenceFfIdeal [hReferenceFfIdeal : Cert.ReferenceFfIdeal.Facts] : Prop :=
  ∀ (m : (ℓ : Loc Cert.ReferenceFfIdeal.nD Cert.ReferenceFfIdeal.τ Cert.ReferenceFfIdeal.sig) → Buf (Elt Ideal) ℓ) (g : Dev Cert.ReferenceFfIdeal.nD → PrngReg), Pre_ReferenceFfIdeal m →
    θ_run (Cert.ReferenceFfIdeal.defs (F := Ideal)) (onTc (τ := Cert.ReferenceFfIdeal.τ) (Cert.ReferenceFfIdeal.main (F := Ideal))) ⟨m, fun _ => 0, g⟩ (fun r => (∀ c : Dev Cert.ReferenceFfIdeal.nD,
      r.2.mem ((c.tc : Thread Cert.ReferenceFfIdeal.nD Cert.ReferenceFfIdeal.τ).loc Cert.ReferenceFfIdeal.main_arg0) = m ((c.tc : Thread Cert.ReferenceFfIdeal.nD Cert.ReferenceFfIdeal.τ).loc Cert.ReferenceFfIdeal.main_arg0)
      ∧ r.2.mem ((c.tc : Thread Cert.ReferenceFfIdeal.nD Cert.ReferenceFfIdeal.τ).loc Cert.ReferenceFfIdeal.main_arg1) = m ((c.tc : Thread Cert.ReferenceFfIdeal.nD Cert.ReferenceFfIdeal.τ).loc Cert.ReferenceFfIdeal.main_arg1)
      ∧ r.2.mem ((c.tc : Thread Cert.ReferenceFfIdeal.nD Cert.ReferenceFfIdeal.τ).loc Cert.ReferenceFfIdeal.main_arg2) = m ((c.tc : Thread Cert.ReferenceFfIdeal.nD Cert.ReferenceFfIdeal.τ).loc Cert.ReferenceFfIdeal.main_arg2)
      ∧ r.2.mem ((c.tc : Thread Cert.ReferenceFfIdeal.nD Cert.ReferenceFfIdeal.τ).loc Cert.ReferenceFfIdeal.main_arg3) = m ((c.tc : Thread Cert.ReferenceFfIdeal.nD Cert.ReferenceFfIdeal.τ).loc Cert.ReferenceFfIdeal.main_arg3)
      ∧ r.2.mem ((c.tc : Thread Cert.ReferenceFfIdeal.nD Cert.ReferenceFfIdeal.τ).loc Cert.ReferenceFfIdeal.main_arg4) = m ((c.tc : Thread Cert.ReferenceFfIdeal.nD Cert.ReferenceFfIdeal.τ).loc Cert.ReferenceFfIdeal.main_arg4)
      ∧ r.2.mem ((c.tc : Thread Cert.ReferenceFfIdeal.nD Cert.ReferenceFfIdeal.τ).loc Cert.ReferenceFfIdeal.main_arg5) = m ((c.tc : Thread Cert.ReferenceFfIdeal.nD Cert.ReferenceFfIdeal.τ).loc Cert.ReferenceFfIdeal.main_arg5))
      ∧ r.2.sem = fun _ => 0)

def quiescent_ReferenceFfIdeal_pre_finite_ffn [hReferenceFfIdeal : Cert.ReferenceFfIdeal.Facts] [hPre_finite_ffn : Cert.Pre_finite_ffn.Facts] : Prop :=
  ∀ (m : (ℓ : Loc Cert.ReferenceFfIdeal.nD Cert.ReferenceFfIdeal.τ Cert.ReferenceFfIdeal.sig) → Buf (Elt Ideal) ℓ) (g : Dev Cert.ReferenceFfIdeal.nD → PrngReg), Pre_ReferenceFfIdeal_finite_ffn m →
    θ_run (Cert.ReferenceFfIdeal.defs (F := Ideal)) (onTc (τ := Cert.ReferenceFfIdeal.τ) (Cert.ReferenceFfIdeal.main (F := Ideal))) ⟨m, fun _ => 0, g⟩ (fun r => (∀ c : Dev Cert.ReferenceFfIdeal.nD,
      r.2.mem ((c.tc : Thread Cert.ReferenceFfIdeal.nD Cert.ReferenceFfIdeal.τ).loc Cert.ReferenceFfIdeal.main_arg0) = m ((c.tc : Thread Cert.ReferenceFfIdeal.nD Cert.ReferenceFfIdeal.τ).loc Cert.ReferenceFfIdeal.main_arg0)
      ∧ r.2.mem ((c.tc : Thread Cert.ReferenceFfIdeal.nD Cert.ReferenceFfIdeal.τ).loc Cert.ReferenceFfIdeal.main_arg1) = m ((c.tc : Thread Cert.ReferenceFfIdeal.nD Cert.ReferenceFfIdeal.τ).loc Cert.ReferenceFfIdeal.main_arg1)
      ∧ r.2.mem ((c.tc : Thread Cert.ReferenceFfIdeal.nD Cert.ReferenceFfIdeal.τ).loc Cert.ReferenceFfIdeal.main_arg2) = m ((c.tc : Thread Cert.ReferenceFfIdeal.nD Cert.ReferenceFfIdeal.τ).loc Cert.ReferenceFfIdeal.main_arg2)
      ∧ r.2.mem ((c.tc : Thread Cert.ReferenceFfIdeal.nD Cert.ReferenceFfIdeal.τ).loc Cert.ReferenceFfIdeal.main_arg3) = m ((c.tc : Thread Cert.ReferenceFfIdeal.nD Cert.ReferenceFfIdeal.τ).loc Cert.ReferenceFfIdeal.main_arg3)
      ∧ r.2.mem ((c.tc : Thread Cert.ReferenceFfIdeal.nD Cert.ReferenceFfIdeal.τ).loc Cert.ReferenceFfIdeal.main_arg4) = m ((c.tc : Thread Cert.ReferenceFfIdeal.nD Cert.ReferenceFfIdeal.τ).loc Cert.ReferenceFfIdeal.main_arg4)
      ∧ r.2.mem ((c.tc : Thread Cert.ReferenceFfIdeal.nD Cert.ReferenceFfIdeal.τ).loc Cert.ReferenceFfIdeal.main_arg5) = m ((c.tc : Thread Cert.ReferenceFfIdeal.nD Cert.ReferenceFfIdeal.τ).loc Cert.ReferenceFfIdeal.main_arg5))
      ∧ r.2.sem = fun _ => 0)

def quiescent_KernelAt [hKernelAt : Cert.KernelAt.Facts] : Prop :=
  ∀ (m : (ℓ : Loc Cert.KernelAt.nD Cert.KernelAt.τ Cert.KernelAt.sig) → Buf (Elt Bits) ℓ) (g : Dev Cert.KernelAt.nD → PrngReg), Pre_KernelAt m →
    θ_run (Cert.KernelAt.defs (F := Bits)) (onTc (τ := Cert.KernelAt.τ) (Cert.KernelAt.main (F := Bits))) ⟨m, fun _ => 0, g⟩ (fun r => (∀ c : Dev Cert.KernelAt.nD,
      r.2.mem ((c.tc : Thread Cert.KernelAt.nD Cert.KernelAt.τ).loc Cert.KernelAt.main_arg0) = m ((c.tc : Thread Cert.KernelAt.nD Cert.KernelAt.τ).loc Cert.KernelAt.main_arg0)
      ∧ r.2.mem ((c.tc : Thread Cert.KernelAt.nD Cert.KernelAt.τ).loc Cert.KernelAt.main_arg1) = m ((c.tc : Thread Cert.KernelAt.nD Cert.KernelAt.τ).loc Cert.KernelAt.main_arg1)
      ∧ r.2.mem ((c.tc : Thread Cert.KernelAt.nD Cert.KernelAt.τ).loc Cert.KernelAt.main_arg2) = m ((c.tc : Thread Cert.KernelAt.nD Cert.KernelAt.τ).loc Cert.KernelAt.main_arg2)
      ∧ r.2.mem ((c.tc : Thread Cert.KernelAt.nD Cert.KernelAt.τ).loc Cert.KernelAt.main_arg3) = m ((c.tc : Thread Cert.KernelAt.nD Cert.KernelAt.τ).loc Cert.KernelAt.main_arg3)
      ∧ r.2.mem ((c.tc : Thread Cert.KernelAt.nD Cert.KernelAt.τ).loc Cert.KernelAt.main_arg4) = m ((c.tc : Thread Cert.KernelAt.nD Cert.KernelAt.τ).loc Cert.KernelAt.main_arg4)
      ∧ r.2.mem ((c.tc : Thread Cert.KernelAt.nD Cert.KernelAt.τ).loc Cert.KernelAt.main_arg5) = m ((c.tc : Thread Cert.KernelAt.nD Cert.KernelAt.τ).loc Cert.KernelAt.main_arg5)
      ∧ r.2.mem ((c.tc : Thread Cert.KernelAt.nD Cert.KernelAt.τ).loc Cert.KernelAt.main_arg6) = m ((c.tc : Thread Cert.KernelAt.nD Cert.KernelAt.τ).loc Cert.KernelAt.main_arg6))
      ∧ r.2.sem = fun _ => 0)

def quiescent_KernelAtIdeal [hKernelAtIdeal : Cert.KernelAtIdeal.Facts] : Prop :=
  ∀ (m : (ℓ : Loc Cert.KernelAtIdeal.nD Cert.KernelAtIdeal.τ Cert.KernelAtIdeal.sig) → Buf (Elt Ideal) ℓ) (g : Dev Cert.KernelAtIdeal.nD → PrngReg), Pre_KernelAtIdeal m →
    θ_run (Cert.KernelAtIdeal.defs (F := Ideal)) (onTc (τ := Cert.KernelAtIdeal.τ) (Cert.KernelAtIdeal.main (F := Ideal))) ⟨m, fun _ => 0, g⟩ (fun r => (∀ c : Dev Cert.KernelAtIdeal.nD,
      r.2.mem ((c.tc : Thread Cert.KernelAtIdeal.nD Cert.KernelAtIdeal.τ).loc Cert.KernelAtIdeal.main_arg0) = m ((c.tc : Thread Cert.KernelAtIdeal.nD Cert.KernelAtIdeal.τ).loc Cert.KernelAtIdeal.main_arg0)
      ∧ r.2.mem ((c.tc : Thread Cert.KernelAtIdeal.nD Cert.KernelAtIdeal.τ).loc Cert.KernelAtIdeal.main_arg1) = m ((c.tc : Thread Cert.KernelAtIdeal.nD Cert.KernelAtIdeal.τ).loc Cert.KernelAtIdeal.main_arg1)
      ∧ r.2.mem ((c.tc : Thread Cert.KernelAtIdeal.nD Cert.KernelAtIdeal.τ).loc Cert.KernelAtIdeal.main_arg2) = m ((c.tc : Thread Cert.KernelAtIdeal.nD Cert.KernelAtIdeal.τ).loc Cert.KernelAtIdeal.main_arg2)
      ∧ r.2.mem ((c.tc : Thread Cert.KernelAtIdeal.nD Cert.KernelAtIdeal.τ).loc Cert.KernelAtIdeal.main_arg3) = m ((c.tc : Thread Cert.KernelAtIdeal.nD Cert.KernelAtIdeal.τ).loc Cert.KernelAtIdeal.main_arg3)
      ∧ r.2.mem ((c.tc : Thread Cert.KernelAtIdeal.nD Cert.KernelAtIdeal.τ).loc Cert.KernelAtIdeal.main_arg4) = m ((c.tc : Thread Cert.KernelAtIdeal.nD Cert.KernelAtIdeal.τ).loc Cert.KernelAtIdeal.main_arg4)
      ∧ r.2.mem ((c.tc : Thread Cert.KernelAtIdeal.nD Cert.KernelAtIdeal.τ).loc Cert.KernelAtIdeal.main_arg5) = m ((c.tc : Thread Cert.KernelAtIdeal.nD Cert.KernelAtIdeal.τ).loc Cert.KernelAtIdeal.main_arg5)
      ∧ r.2.mem ((c.tc : Thread Cert.KernelAtIdeal.nD Cert.KernelAtIdeal.τ).loc Cert.KernelAtIdeal.main_arg6) = m ((c.tc : Thread Cert.KernelAtIdeal.nD Cert.KernelAtIdeal.τ).loc Cert.KernelAtIdeal.main_arg6))
      ∧ r.2.sem = fun _ => 0)

def quiescent_KernelAtIdeal_pre_finite_attn [hKernelAtIdeal : Cert.KernelAtIdeal.Facts] [hPre_finite_attn : Cert.Pre_finite_attn.Facts] : Prop :=
  ∀ (m : (ℓ : Loc Cert.KernelAtIdeal.nD Cert.KernelAtIdeal.τ Cert.KernelAtIdeal.sig) → Buf (Elt Ideal) ℓ) (g : Dev Cert.KernelAtIdeal.nD → PrngReg), Pre_KernelAtIdeal_finite_attn m →
    θ_run (Cert.KernelAtIdeal.defs (F := Ideal)) (onTc (τ := Cert.KernelAtIdeal.τ) (Cert.KernelAtIdeal.main (F := Ideal))) ⟨m, fun _ => 0, g⟩ (fun r => (∀ c : Dev Cert.KernelAtIdeal.nD,
      r.2.mem ((c.tc : Thread Cert.KernelAtIdeal.nD Cert.KernelAtIdeal.τ).loc Cert.KernelAtIdeal.main_arg0) = m ((c.tc : Thread Cert.KernelAtIdeal.nD Cert.KernelAtIdeal.τ).loc Cert.KernelAtIdeal.main_arg0)
      ∧ r.2.mem ((c.tc : Thread Cert.KernelAtIdeal.nD Cert.KernelAtIdeal.τ).loc Cert.KernelAtIdeal.main_arg1) = m ((c.tc : Thread Cert.KernelAtIdeal.nD Cert.KernelAtIdeal.τ).loc Cert.KernelAtIdeal.main_arg1)
      ∧ r.2.mem ((c.tc : Thread Cert.KernelAtIdeal.nD Cert.KernelAtIdeal.τ).loc Cert.KernelAtIdeal.main_arg2) = m ((c.tc : Thread Cert.KernelAtIdeal.nD Cert.KernelAtIdeal.τ).loc Cert.KernelAtIdeal.main_arg2)
      ∧ r.2.mem ((c.tc : Thread Cert.KernelAtIdeal.nD Cert.KernelAtIdeal.τ).loc Cert.KernelAtIdeal.main_arg3) = m ((c.tc : Thread Cert.KernelAtIdeal.nD Cert.KernelAtIdeal.τ).loc Cert.KernelAtIdeal.main_arg3)
      ∧ r.2.mem ((c.tc : Thread Cert.KernelAtIdeal.nD Cert.KernelAtIdeal.τ).loc Cert.KernelAtIdeal.main_arg4) = m ((c.tc : Thread Cert.KernelAtIdeal.nD Cert.KernelAtIdeal.τ).loc Cert.KernelAtIdeal.main_arg4)
      ∧ r.2.mem ((c.tc : Thread Cert.KernelAtIdeal.nD Cert.KernelAtIdeal.τ).loc Cert.KernelAtIdeal.main_arg5) = m ((c.tc : Thread Cert.KernelAtIdeal.nD Cert.KernelAtIdeal.τ).loc Cert.KernelAtIdeal.main_arg5)
      ∧ r.2.mem ((c.tc : Thread Cert.KernelAtIdeal.nD Cert.KernelAtIdeal.τ).loc Cert.KernelAtIdeal.main_arg6) = m ((c.tc : Thread Cert.KernelAtIdeal.nD Cert.KernelAtIdeal.τ).loc Cert.KernelAtIdeal.main_arg6))
      ∧ r.2.sem = fun _ => 0)

def quiescent_ReferenceAtIdeal [hReferenceAtIdeal : Cert.ReferenceAtIdeal.Facts] : Prop :=
  ∀ (m : (ℓ : Loc Cert.ReferenceAtIdeal.nD Cert.ReferenceAtIdeal.τ Cert.ReferenceAtIdeal.sig) → Buf (Elt Ideal) ℓ) (g : Dev Cert.ReferenceAtIdeal.nD → PrngReg), Pre_ReferenceAtIdeal m →
    θ_run (Cert.ReferenceAtIdeal.defs (F := Ideal)) (onTc (τ := Cert.ReferenceAtIdeal.τ) (Cert.ReferenceAtIdeal.main (F := Ideal))) ⟨m, fun _ => 0, g⟩ (fun r => (∀ c : Dev Cert.ReferenceAtIdeal.nD,
      r.2.mem ((c.tc : Thread Cert.ReferenceAtIdeal.nD Cert.ReferenceAtIdeal.τ).loc Cert.ReferenceAtIdeal.main_arg0) = m ((c.tc : Thread Cert.ReferenceAtIdeal.nD Cert.ReferenceAtIdeal.τ).loc Cert.ReferenceAtIdeal.main_arg0)
      ∧ r.2.mem ((c.tc : Thread Cert.ReferenceAtIdeal.nD Cert.ReferenceAtIdeal.τ).loc Cert.ReferenceAtIdeal.main_arg1) = m ((c.tc : Thread Cert.ReferenceAtIdeal.nD Cert.ReferenceAtIdeal.τ).loc Cert.ReferenceAtIdeal.main_arg1)
      ∧ r.2.mem ((c.tc : Thread Cert.ReferenceAtIdeal.nD Cert.ReferenceAtIdeal.τ).loc Cert.ReferenceAtIdeal.main_arg2) = m ((c.tc : Thread Cert.ReferenceAtIdeal.nD Cert.ReferenceAtIdeal.τ).loc Cert.ReferenceAtIdeal.main_arg2)
      ∧ r.2.mem ((c.tc : Thread Cert.ReferenceAtIdeal.nD Cert.ReferenceAtIdeal.τ).loc Cert.ReferenceAtIdeal.main_arg3) = m ((c.tc : Thread Cert.ReferenceAtIdeal.nD Cert.ReferenceAtIdeal.τ).loc Cert.ReferenceAtIdeal.main_arg3)
      ∧ r.2.mem ((c.tc : Thread Cert.ReferenceAtIdeal.nD Cert.ReferenceAtIdeal.τ).loc Cert.ReferenceAtIdeal.main_arg4) = m ((c.tc : Thread Cert.ReferenceAtIdeal.nD Cert.ReferenceAtIdeal.τ).loc Cert.ReferenceAtIdeal.main_arg4)
      ∧ r.2.mem ((c.tc : Thread Cert.ReferenceAtIdeal.nD Cert.ReferenceAtIdeal.τ).loc Cert.ReferenceAtIdeal.main_arg5) = m ((c.tc : Thread Cert.ReferenceAtIdeal.nD Cert.ReferenceAtIdeal.τ).loc Cert.ReferenceAtIdeal.main_arg5)
      ∧ r.2.mem ((c.tc : Thread Cert.ReferenceAtIdeal.nD Cert.ReferenceAtIdeal.τ).loc Cert.ReferenceAtIdeal.main_arg6) = m ((c.tc : Thread Cert.ReferenceAtIdeal.nD Cert.ReferenceAtIdeal.τ).loc Cert.ReferenceAtIdeal.main_arg6))
      ∧ r.2.sem = fun _ => 0)

def quiescent_ReferenceAtIdeal_pre_finite_attn [hReferenceAtIdeal : Cert.ReferenceAtIdeal.Facts] [hPre_finite_attn : Cert.Pre_finite_attn.Facts] : Prop :=
  ∀ (m : (ℓ : Loc Cert.ReferenceAtIdeal.nD Cert.ReferenceAtIdeal.τ Cert.ReferenceAtIdeal.sig) → Buf (Elt Ideal) ℓ) (g : Dev Cert.ReferenceAtIdeal.nD → PrngReg), Pre_ReferenceAtIdeal_finite_attn m →
    θ_run (Cert.ReferenceAtIdeal.defs (F := Ideal)) (onTc (τ := Cert.ReferenceAtIdeal.τ) (Cert.ReferenceAtIdeal.main (F := Ideal))) ⟨m, fun _ => 0, g⟩ (fun r => (∀ c : Dev Cert.ReferenceAtIdeal.nD,
      r.2.mem ((c.tc : Thread Cert.ReferenceAtIdeal.nD Cert.ReferenceAtIdeal.τ).loc Cert.ReferenceAtIdeal.main_arg0) = m ((c.tc : Thread Cert.ReferenceAtIdeal.nD Cert.ReferenceAtIdeal.τ).loc Cert.ReferenceAtIdeal.main_arg0)
      ∧ r.2.mem ((c.tc : Thread Cert.ReferenceAtIdeal.nD Cert.ReferenceAtIdeal.τ).loc Cert.ReferenceAtIdeal.main_arg1) = m ((c.tc : Thread Cert.ReferenceAtIdeal.nD Cert.ReferenceAtIdeal.τ).loc Cert.ReferenceAtIdeal.main_arg1)
      ∧ r.2.mem ((c.tc : Thread Cert.ReferenceAtIdeal.nD Cert.ReferenceAtIdeal.τ).loc Cert.ReferenceAtIdeal.main_arg2) = m ((c.tc : Thread Cert.ReferenceAtIdeal.nD Cert.ReferenceAtIdeal.τ).loc Cert.ReferenceAtIdeal.main_arg2)
      ∧ r.2.mem ((c.tc : Thread Cert.ReferenceAtIdeal.nD Cert.ReferenceAtIdeal.τ).loc Cert.ReferenceAtIdeal.main_arg3) = m ((c.tc : Thread Cert.ReferenceAtIdeal.nD Cert.ReferenceAtIdeal.τ).loc Cert.ReferenceAtIdeal.main_arg3)
      ∧ r.2.mem ((c.tc : Thread Cert.ReferenceAtIdeal.nD Cert.ReferenceAtIdeal.τ).loc Cert.ReferenceAtIdeal.main_arg4) = m ((c.tc : Thread Cert.ReferenceAtIdeal.nD Cert.ReferenceAtIdeal.τ).loc Cert.ReferenceAtIdeal.main_arg4)
      ∧ r.2.mem ((c.tc : Thread Cert.ReferenceAtIdeal.nD Cert.ReferenceAtIdeal.τ).loc Cert.ReferenceAtIdeal.main_arg5) = m ((c.tc : Thread Cert.ReferenceAtIdeal.nD Cert.ReferenceAtIdeal.τ).loc Cert.ReferenceAtIdeal.main_arg5)
      ∧ r.2.mem ((c.tc : Thread Cert.ReferenceAtIdeal.nD Cert.ReferenceAtIdeal.τ).loc Cert.ReferenceAtIdeal.main_arg6) = m ((c.tc : Thread Cert.ReferenceAtIdeal.nD Cert.ReferenceAtIdeal.τ).loc Cert.ReferenceAtIdeal.main_arg6))
      ∧ r.2.sem = fun _ => 0)

def quiescent_KernelLs [hKernelLs : Cert.KernelLs.Facts] : Prop :=
  ∀ (m : (ℓ : Loc Cert.KernelLs.nD Cert.KernelLs.τ Cert.KernelLs.sig) → Buf (Elt Bits) ℓ) (g : Dev Cert.KernelLs.nD → PrngReg), Pre_KernelLs m →
    θ_run (Cert.KernelLs.defs (F := Bits)) (onTc (τ := Cert.KernelLs.τ) (Cert.KernelLs.main (F := Bits))) ⟨m, fun _ => 0, g⟩ (fun r => (∀ c : Dev Cert.KernelLs.nD,
      r.2.mem ((c.tc : Thread Cert.KernelLs.nD Cert.KernelLs.τ).loc Cert.KernelLs.main_arg0) = m ((c.tc : Thread Cert.KernelLs.nD Cert.KernelLs.τ).loc Cert.KernelLs.main_arg0)
      ∧ r.2.mem ((c.tc : Thread Cert.KernelLs.nD Cert.KernelLs.τ).loc Cert.KernelLs.main_arg1) = m ((c.tc : Thread Cert.KernelLs.nD Cert.KernelLs.τ).loc Cert.KernelLs.main_arg1)
      ∧ r.2.mem ((c.tc : Thread Cert.KernelLs.nD Cert.KernelLs.τ).loc Cert.KernelLs.main_arg2) = m ((c.tc : Thread Cert.KernelLs.nD Cert.KernelLs.τ).loc Cert.KernelLs.main_arg2)
      ∧ r.2.mem ((c.tc : Thread Cert.KernelLs.nD Cert.KernelLs.τ).loc Cert.KernelLs.main_arg3) = m ((c.tc : Thread Cert.KernelLs.nD Cert.KernelLs.τ).loc Cert.KernelLs.main_arg3)
      ∧ r.2.mem ((c.tc : Thread Cert.KernelLs.nD Cert.KernelLs.τ).loc Cert.KernelLs.main_arg4) = m ((c.tc : Thread Cert.KernelLs.nD Cert.KernelLs.τ).loc Cert.KernelLs.main_arg4)
      ∧ r.2.mem ((c.tc : Thread Cert.KernelLs.nD Cert.KernelLs.τ).loc Cert.KernelLs.main_arg5) = m ((c.tc : Thread Cert.KernelLs.nD Cert.KernelLs.τ).loc Cert.KernelLs.main_arg5)
      ∧ r.2.mem ((c.tc : Thread Cert.KernelLs.nD Cert.KernelLs.τ).loc Cert.KernelLs.main_arg6) = m ((c.tc : Thread Cert.KernelLs.nD Cert.KernelLs.τ).loc Cert.KernelLs.main_arg6))
      ∧ r.2.sem = fun _ => 0)

def quiescent_KernelLsIdeal [hKernelLsIdeal : Cert.KernelLsIdeal.Facts] : Prop :=
  ∀ (m : (ℓ : Loc Cert.KernelLsIdeal.nD Cert.KernelLsIdeal.τ Cert.KernelLsIdeal.sig) → Buf (Elt Ideal) ℓ) (g : Dev Cert.KernelLsIdeal.nD → PrngReg), Pre_KernelLsIdeal m →
    θ_run (Cert.KernelLsIdeal.defs (F := Ideal)) (onTc (τ := Cert.KernelLsIdeal.τ) (Cert.KernelLsIdeal.main (F := Ideal))) ⟨m, fun _ => 0, g⟩ (fun r => (∀ c : Dev Cert.KernelLsIdeal.nD,
      r.2.mem ((c.tc : Thread Cert.KernelLsIdeal.nD Cert.KernelLsIdeal.τ).loc Cert.KernelLsIdeal.main_arg0) = m ((c.tc : Thread Cert.KernelLsIdeal.nD Cert.KernelLsIdeal.τ).loc Cert.KernelLsIdeal.main_arg0)
      ∧ r.2.mem ((c.tc : Thread Cert.KernelLsIdeal.nD Cert.KernelLsIdeal.τ).loc Cert.KernelLsIdeal.main_arg1) = m ((c.tc : Thread Cert.KernelLsIdeal.nD Cert.KernelLsIdeal.τ).loc Cert.KernelLsIdeal.main_arg1)
      ∧ r.2.mem ((c.tc : Thread Cert.KernelLsIdeal.nD Cert.KernelLsIdeal.τ).loc Cert.KernelLsIdeal.main_arg2) = m ((c.tc : Thread Cert.KernelLsIdeal.nD Cert.KernelLsIdeal.τ).loc Cert.KernelLsIdeal.main_arg2)
      ∧ r.2.mem ((c.tc : Thread Cert.KernelLsIdeal.nD Cert.KernelLsIdeal.τ).loc Cert.KernelLsIdeal.main_arg3) = m ((c.tc : Thread Cert.KernelLsIdeal.nD Cert.KernelLsIdeal.τ).loc Cert.KernelLsIdeal.main_arg3)
      ∧ r.2.mem ((c.tc : Thread Cert.KernelLsIdeal.nD Cert.KernelLsIdeal.τ).loc Cert.KernelLsIdeal.main_arg4) = m ((c.tc : Thread Cert.KernelLsIdeal.nD Cert.KernelLsIdeal.τ).loc Cert.KernelLsIdeal.main_arg4)
      ∧ r.2.mem ((c.tc : Thread Cert.KernelLsIdeal.nD Cert.KernelLsIdeal.τ).loc Cert.KernelLsIdeal.main_arg5) = m ((c.tc : Thread Cert.KernelLsIdeal.nD Cert.KernelLsIdeal.τ).loc Cert.KernelLsIdeal.main_arg5)
      ∧ r.2.mem ((c.tc : Thread Cert.KernelLsIdeal.nD Cert.KernelLsIdeal.τ).loc Cert.KernelLsIdeal.main_arg6) = m ((c.tc : Thread Cert.KernelLsIdeal.nD Cert.KernelLsIdeal.τ).loc Cert.KernelLsIdeal.main_arg6))
      ∧ r.2.sem = fun _ => 0)

def quiescent_KernelLsIdeal_pre_finite_loss [hKernelLsIdeal : Cert.KernelLsIdeal.Facts] [hPre_finite_loss : Cert.Pre_finite_loss.Facts] : Prop :=
  ∀ (m : (ℓ : Loc Cert.KernelLsIdeal.nD Cert.KernelLsIdeal.τ Cert.KernelLsIdeal.sig) → Buf (Elt Ideal) ℓ) (g : Dev Cert.KernelLsIdeal.nD → PrngReg), Pre_KernelLsIdeal_finite_loss m →
    θ_run (Cert.KernelLsIdeal.defs (F := Ideal)) (onTc (τ := Cert.KernelLsIdeal.τ) (Cert.KernelLsIdeal.main (F := Ideal))) ⟨m, fun _ => 0, g⟩ (fun r => (∀ c : Dev Cert.KernelLsIdeal.nD,
      r.2.mem ((c.tc : Thread Cert.KernelLsIdeal.nD Cert.KernelLsIdeal.τ).loc Cert.KernelLsIdeal.main_arg0) = m ((c.tc : Thread Cert.KernelLsIdeal.nD Cert.KernelLsIdeal.τ).loc Cert.KernelLsIdeal.main_arg0)
      ∧ r.2.mem ((c.tc : Thread Cert.KernelLsIdeal.nD Cert.KernelLsIdeal.τ).loc Cert.KernelLsIdeal.main_arg1) = m ((c.tc : Thread Cert.KernelLsIdeal.nD Cert.KernelLsIdeal.τ).loc Cert.KernelLsIdeal.main_arg1)
      ∧ r.2.mem ((c.tc : Thread Cert.KernelLsIdeal.nD Cert.KernelLsIdeal.τ).loc Cert.KernelLsIdeal.main_arg2) = m ((c.tc : Thread Cert.KernelLsIdeal.nD Cert.KernelLsIdeal.τ).loc Cert.KernelLsIdeal.main_arg2)
      ∧ r.2.mem ((c.tc : Thread Cert.KernelLsIdeal.nD Cert.KernelLsIdeal.τ).loc Cert.KernelLsIdeal.main_arg3) = m ((c.tc : Thread Cert.KernelLsIdeal.nD Cert.KernelLsIdeal.τ).loc Cert.KernelLsIdeal.main_arg3)
      ∧ r.2.mem ((c.tc : Thread Cert.KernelLsIdeal.nD Cert.KernelLsIdeal.τ).loc Cert.KernelLsIdeal.main_arg4) = m ((c.tc : Thread Cert.KernelLsIdeal.nD Cert.KernelLsIdeal.τ).loc Cert.KernelLsIdeal.main_arg4)
      ∧ r.2.mem ((c.tc : Thread Cert.KernelLsIdeal.nD Cert.KernelLsIdeal.τ).loc Cert.KernelLsIdeal.main_arg5) = m ((c.tc : Thread Cert.KernelLsIdeal.nD Cert.KernelLsIdeal.τ).loc Cert.KernelLsIdeal.main_arg5)
      ∧ r.2.mem ((c.tc : Thread Cert.KernelLsIdeal.nD Cert.KernelLsIdeal.τ).loc Cert.KernelLsIdeal.main_arg6) = m ((c.tc : Thread Cert.KernelLsIdeal.nD Cert.KernelLsIdeal.τ).loc Cert.KernelLsIdeal.main_arg6))
      ∧ r.2.sem = fun _ => 0)

def quiescent_ReferenceLsIdeal [hReferenceLsIdeal : Cert.ReferenceLsIdeal.Facts] : Prop :=
  ∀ (m : (ℓ : Loc Cert.ReferenceLsIdeal.nD Cert.ReferenceLsIdeal.τ Cert.ReferenceLsIdeal.sig) → Buf (Elt Ideal) ℓ) (g : Dev Cert.ReferenceLsIdeal.nD → PrngReg), Pre_ReferenceLsIdeal m →
    θ_run (Cert.ReferenceLsIdeal.defs (F := Ideal)) (onTc (τ := Cert.ReferenceLsIdeal.τ) (Cert.ReferenceLsIdeal.main (F := Ideal))) ⟨m, fun _ => 0, g⟩ (fun r => (∀ c : Dev Cert.ReferenceLsIdeal.nD,
      r.2.mem ((c.tc : Thread Cert.ReferenceLsIdeal.nD Cert.ReferenceLsIdeal.τ).loc Cert.ReferenceLsIdeal.main_arg0) = m ((c.tc : Thread Cert.ReferenceLsIdeal.nD Cert.ReferenceLsIdeal.τ).loc Cert.ReferenceLsIdeal.main_arg0)
      ∧ r.2.mem ((c.tc : Thread Cert.ReferenceLsIdeal.nD Cert.ReferenceLsIdeal.τ).loc Cert.ReferenceLsIdeal.main_arg1) = m ((c.tc : Thread Cert.ReferenceLsIdeal.nD Cert.ReferenceLsIdeal.τ).loc Cert.ReferenceLsIdeal.main_arg1)
      ∧ r.2.mem ((c.tc : Thread Cert.ReferenceLsIdeal.nD Cert.ReferenceLsIdeal.τ).loc Cert.ReferenceLsIdeal.main_arg2) = m ((c.tc : Thread Cert.ReferenceLsIdeal.nD Cert.ReferenceLsIdeal.τ).loc Cert.ReferenceLsIdeal.main_arg2)
      ∧ r.2.mem ((c.tc : Thread Cert.ReferenceLsIdeal.nD Cert.ReferenceLsIdeal.τ).loc Cert.ReferenceLsIdeal.main_arg3) = m ((c.tc : Thread Cert.ReferenceLsIdeal.nD Cert.ReferenceLsIdeal.τ).loc Cert.ReferenceLsIdeal.main_arg3)
      ∧ r.2.mem ((c.tc : Thread Cert.ReferenceLsIdeal.nD Cert.ReferenceLsIdeal.τ).loc Cert.ReferenceLsIdeal.main_arg4) = m ((c.tc : Thread Cert.ReferenceLsIdeal.nD Cert.ReferenceLsIdeal.τ).loc Cert.ReferenceLsIdeal.main_arg4)
      ∧ r.2.mem ((c.tc : Thread Cert.ReferenceLsIdeal.nD Cert.ReferenceLsIdeal.τ).loc Cert.ReferenceLsIdeal.main_arg5) = m ((c.tc : Thread Cert.ReferenceLsIdeal.nD Cert.ReferenceLsIdeal.τ).loc Cert.ReferenceLsIdeal.main_arg5)
      ∧ r.2.mem ((c.tc : Thread Cert.ReferenceLsIdeal.nD Cert.ReferenceLsIdeal.τ).loc Cert.ReferenceLsIdeal.main_arg6) = m ((c.tc : Thread Cert.ReferenceLsIdeal.nD Cert.ReferenceLsIdeal.τ).loc Cert.ReferenceLsIdeal.main_arg6))
      ∧ r.2.sem = fun _ => 0)

def quiescent_ReferenceLsIdeal_pre_finite_loss [hReferenceLsIdeal : Cert.ReferenceLsIdeal.Facts] [hPre_finite_loss : Cert.Pre_finite_loss.Facts] : Prop :=
  ∀ (m : (ℓ : Loc Cert.ReferenceLsIdeal.nD Cert.ReferenceLsIdeal.τ Cert.ReferenceLsIdeal.sig) → Buf (Elt Ideal) ℓ) (g : Dev Cert.ReferenceLsIdeal.nD → PrngReg), Pre_ReferenceLsIdeal_finite_loss m →
    θ_run (Cert.ReferenceLsIdeal.defs (F := Ideal)) (onTc (τ := Cert.ReferenceLsIdeal.τ) (Cert.ReferenceLsIdeal.main (F := Ideal))) ⟨m, fun _ => 0, g⟩ (fun r => (∀ c : Dev Cert.ReferenceLsIdeal.nD,
      r.2.mem ((c.tc : Thread Cert.ReferenceLsIdeal.nD Cert.ReferenceLsIdeal.τ).loc Cert.ReferenceLsIdeal.main_arg0) = m ((c.tc : Thread Cert.ReferenceLsIdeal.nD Cert.ReferenceLsIdeal.τ).loc Cert.ReferenceLsIdeal.main_arg0)
      ∧ r.2.mem ((c.tc : Thread Cert.ReferenceLsIdeal.nD Cert.ReferenceLsIdeal.τ).loc Cert.ReferenceLsIdeal.main_arg1) = m ((c.tc : Thread Cert.ReferenceLsIdeal.nD Cert.ReferenceLsIdeal.τ).loc Cert.ReferenceLsIdeal.main_arg1)
      ∧ r.2.mem ((c.tc : Thread Cert.ReferenceLsIdeal.nD Cert.ReferenceLsIdeal.τ).loc Cert.ReferenceLsIdeal.main_arg2) = m ((c.tc : Thread Cert.ReferenceLsIdeal.nD Cert.ReferenceLsIdeal.τ).loc Cert.ReferenceLsIdeal.main_arg2)
      ∧ r.2.mem ((c.tc : Thread Cert.ReferenceLsIdeal.nD Cert.ReferenceLsIdeal.τ).loc Cert.ReferenceLsIdeal.main_arg3) = m ((c.tc : Thread Cert.ReferenceLsIdeal.nD Cert.ReferenceLsIdeal.τ).loc Cert.ReferenceLsIdeal.main_arg3)
      ∧ r.2.mem ((c.tc : Thread Cert.ReferenceLsIdeal.nD Cert.ReferenceLsIdeal.τ).loc Cert.ReferenceLsIdeal.main_arg4) = m ((c.tc : Thread Cert.ReferenceLsIdeal.nD Cert.ReferenceLsIdeal.τ).loc Cert.ReferenceLsIdeal.main_arg4)
      ∧ r.2.mem ((c.tc : Thread Cert.ReferenceLsIdeal.nD Cert.ReferenceLsIdeal.τ).loc Cert.ReferenceLsIdeal.main_arg5) = m ((c.tc : Thread Cert.ReferenceLsIdeal.nD Cert.ReferenceLsIdeal.τ).loc Cert.ReferenceLsIdeal.main_arg5)
      ∧ r.2.mem ((c.tc : Thread Cert.ReferenceLsIdeal.nD Cert.ReferenceLsIdeal.τ).loc Cert.ReferenceLsIdeal.main_arg6) = m ((c.tc : Thread Cert.ReferenceLsIdeal.nD Cert.ReferenceLsIdeal.τ).loc Cert.ReferenceLsIdeal.main_arg6))
      ∧ r.2.sem = fun _ => 0)

def quiescent_KernelAf [hKernelAf : Cert.KernelAf.Facts] : Prop :=
  ∀ (m : (ℓ : Loc Cert.KernelAf.nD Cert.KernelAf.τ Cert.KernelAf.sig) → Buf (Elt Bits) ℓ) (g : Dev Cert.KernelAf.nD → PrngReg), Pre_KernelAf m →
    θ_run (Cert.KernelAf.defs (F := Bits)) (onTc (τ := Cert.KernelAf.τ) (Cert.KernelAf.main (F := Bits))) ⟨m, fun _ => 0, g⟩ (fun r => (∀ c : Dev Cert.KernelAf.nD,
      r.2.mem ((c.tc : Thread Cert.KernelAf.nD Cert.KernelAf.τ).loc Cert.KernelAf.main_arg0) = m ((c.tc : Thread Cert.KernelAf.nD Cert.KernelAf.τ).loc Cert.KernelAf.main_arg0)
      ∧ r.2.mem ((c.tc : Thread Cert.KernelAf.nD Cert.KernelAf.τ).loc Cert.KernelAf.main_arg1) = m ((c.tc : Thread Cert.KernelAf.nD Cert.KernelAf.τ).loc Cert.KernelAf.main_arg1)
      ∧ r.2.mem ((c.tc : Thread Cert.KernelAf.nD Cert.KernelAf.τ).loc Cert.KernelAf.main_arg2) = m ((c.tc : Thread Cert.KernelAf.nD Cert.KernelAf.τ).loc Cert.KernelAf.main_arg2)
      ∧ r.2.mem ((c.tc : Thread Cert.KernelAf.nD Cert.KernelAf.τ).loc Cert.KernelAf.main_arg3) = m ((c.tc : Thread Cert.KernelAf.nD Cert.KernelAf.τ).loc Cert.KernelAf.main_arg3)
      ∧ r.2.mem ((c.tc : Thread Cert.KernelAf.nD Cert.KernelAf.τ).loc Cert.KernelAf.main_arg4) = m ((c.tc : Thread Cert.KernelAf.nD Cert.KernelAf.τ).loc Cert.KernelAf.main_arg4)
      ∧ r.2.mem ((c.tc : Thread Cert.KernelAf.nD Cert.KernelAf.τ).loc Cert.KernelAf.main_arg5) = m ((c.tc : Thread Cert.KernelAf.nD Cert.KernelAf.τ).loc Cert.KernelAf.main_arg5))
      ∧ r.2.sem = fun _ => 0)

def quiescent_KernelAfIdeal [hKernelAfIdeal : Cert.KernelAfIdeal.Facts] : Prop :=
  ∀ (m : (ℓ : Loc Cert.KernelAfIdeal.nD Cert.KernelAfIdeal.τ Cert.KernelAfIdeal.sig) → Buf (Elt Ideal) ℓ) (g : Dev Cert.KernelAfIdeal.nD → PrngReg), Pre_KernelAfIdeal m →
    θ_run (Cert.KernelAfIdeal.defs (F := Ideal)) (onTc (τ := Cert.KernelAfIdeal.τ) (Cert.KernelAfIdeal.main (F := Ideal))) ⟨m, fun _ => 0, g⟩ (fun r => (∀ c : Dev Cert.KernelAfIdeal.nD,
      r.2.mem ((c.tc : Thread Cert.KernelAfIdeal.nD Cert.KernelAfIdeal.τ).loc Cert.KernelAfIdeal.main_arg0) = m ((c.tc : Thread Cert.KernelAfIdeal.nD Cert.KernelAfIdeal.τ).loc Cert.KernelAfIdeal.main_arg0)
      ∧ r.2.mem ((c.tc : Thread Cert.KernelAfIdeal.nD Cert.KernelAfIdeal.τ).loc Cert.KernelAfIdeal.main_arg1) = m ((c.tc : Thread Cert.KernelAfIdeal.nD Cert.KernelAfIdeal.τ).loc Cert.KernelAfIdeal.main_arg1)
      ∧ r.2.mem ((c.tc : Thread Cert.KernelAfIdeal.nD Cert.KernelAfIdeal.τ).loc Cert.KernelAfIdeal.main_arg2) = m ((c.tc : Thread Cert.KernelAfIdeal.nD Cert.KernelAfIdeal.τ).loc Cert.KernelAfIdeal.main_arg2)
      ∧ r.2.mem ((c.tc : Thread Cert.KernelAfIdeal.nD Cert.KernelAfIdeal.τ).loc Cert.KernelAfIdeal.main_arg3) = m ((c.tc : Thread Cert.KernelAfIdeal.nD Cert.KernelAfIdeal.τ).loc Cert.KernelAfIdeal.main_arg3)
      ∧ r.2.mem ((c.tc : Thread Cert.KernelAfIdeal.nD Cert.KernelAfIdeal.τ).loc Cert.KernelAfIdeal.main_arg4) = m ((c.tc : Thread Cert.KernelAfIdeal.nD Cert.KernelAfIdeal.τ).loc Cert.KernelAfIdeal.main_arg4)
      ∧ r.2.mem ((c.tc : Thread Cert.KernelAfIdeal.nD Cert.KernelAfIdeal.τ).loc Cert.KernelAfIdeal.main_arg5) = m ((c.tc : Thread Cert.KernelAfIdeal.nD Cert.KernelAfIdeal.τ).loc Cert.KernelAfIdeal.main_arg5))
      ∧ r.2.sem = fun _ => 0)

def quiescent_ReferenceAfIdeal [hReferenceAfIdeal : Cert.ReferenceAfIdeal.Facts] : Prop :=
  ∀ (m : (ℓ : Loc Cert.ReferenceAfIdeal.nD Cert.ReferenceAfIdeal.τ Cert.ReferenceAfIdeal.sig) → Buf (Elt Ideal) ℓ) (g : Dev Cert.ReferenceAfIdeal.nD → PrngReg), Pre_ReferenceAfIdeal m →
    θ_run (Cert.ReferenceAfIdeal.defs (F := Ideal)) (onTc (τ := Cert.ReferenceAfIdeal.τ) (Cert.ReferenceAfIdeal.main (F := Ideal))) ⟨m, fun _ => 0, g⟩ (fun r => (∀ c : Dev Cert.ReferenceAfIdeal.nD,
      r.2.mem ((c.tc : Thread Cert.ReferenceAfIdeal.nD Cert.ReferenceAfIdeal.τ).loc Cert.ReferenceAfIdeal.main_arg0) = m ((c.tc : Thread Cert.ReferenceAfIdeal.nD Cert.ReferenceAfIdeal.τ).loc Cert.ReferenceAfIdeal.main_arg0)
      ∧ r.2.mem ((c.tc : Thread Cert.ReferenceAfIdeal.nD Cert.ReferenceAfIdeal.τ).loc Cert.ReferenceAfIdeal.main_arg1) = m ((c.tc : Thread Cert.ReferenceAfIdeal.nD Cert.ReferenceAfIdeal.τ).loc Cert.ReferenceAfIdeal.main_arg1)
      ∧ r.2.mem ((c.tc : Thread Cert.ReferenceAfIdeal.nD Cert.ReferenceAfIdeal.τ).loc Cert.ReferenceAfIdeal.main_arg2) = m ((c.tc : Thread Cert.ReferenceAfIdeal.nD Cert.ReferenceAfIdeal.τ).loc Cert.ReferenceAfIdeal.main_arg2)
      ∧ r.2.mem ((c.tc : Thread Cert.ReferenceAfIdeal.nD Cert.ReferenceAfIdeal.τ).loc Cert.ReferenceAfIdeal.main_arg3) = m ((c.tc : Thread Cert.ReferenceAfIdeal.nD Cert.ReferenceAfIdeal.τ).loc Cert.ReferenceAfIdeal.main_arg3)
      ∧ r.2.mem ((c.tc : Thread Cert.ReferenceAfIdeal.nD Cert.ReferenceAfIdeal.τ).loc Cert.ReferenceAfIdeal.main_arg4) = m ((c.tc : Thread Cert.ReferenceAfIdeal.nD Cert.ReferenceAfIdeal.τ).loc Cert.ReferenceAfIdeal.main_arg4)
      ∧ r.2.mem ((c.tc : Thread Cert.ReferenceAfIdeal.nD Cert.ReferenceAfIdeal.τ).loc Cert.ReferenceAfIdeal.main_arg5) = m ((c.tc : Thread Cert.ReferenceAfIdeal.nD Cert.ReferenceAfIdeal.τ).loc Cert.ReferenceAfIdeal.main_arg5))
      ∧ r.2.sem = fun _ => 0)

def quiescent_KernelGm [hKernelGm : Cert.KernelGm.Facts] : Prop :=
  ∀ (m : (ℓ : Loc Cert.KernelGm.nD Cert.KernelGm.τ Cert.KernelGm.sig) → Buf (Elt Bits) ℓ) (g : Dev Cert.KernelGm.nD → PrngReg), Pre_KernelGm m →
    θ_run (Cert.KernelGm.defs (F := Bits)) (onTc (τ := Cert.KernelGm.τ) (Cert.KernelGm.main (F := Bits))) ⟨m, fun _ => 0, g⟩ (fun r => (∀ c : Dev Cert.KernelGm.nD,
      r.2.mem ((c.tc : Thread Cert.KernelGm.nD Cert.KernelGm.τ).loc Cert.KernelGm.main_arg0) = m ((c.tc : Thread Cert.KernelGm.nD Cert.KernelGm.τ).loc Cert.KernelGm.main_arg0)
      ∧ r.2.mem ((c.tc : Thread Cert.KernelGm.nD Cert.KernelGm.τ).loc Cert.KernelGm.main_arg1) = m ((c.tc : Thread Cert.KernelGm.nD Cert.KernelGm.τ).loc Cert.KernelGm.main_arg1)
      ∧ r.2.mem ((c.tc : Thread Cert.KernelGm.nD Cert.KernelGm.τ).loc Cert.KernelGm.main_arg2) = m ((c.tc : Thread Cert.KernelGm.nD Cert.KernelGm.τ).loc Cert.KernelGm.main_arg2)
      ∧ r.2.mem ((c.tc : Thread Cert.KernelGm.nD Cert.KernelGm.τ).loc Cert.KernelGm.main_arg3) = m ((c.tc : Thread Cert.KernelGm.nD Cert.KernelGm.τ).loc Cert.KernelGm.main_arg3)
      ∧ r.2.mem ((c.tc : Thread Cert.KernelGm.nD Cert.KernelGm.τ).loc Cert.KernelGm.main_arg4) = m ((c.tc : Thread Cert.KernelGm.nD Cert.KernelGm.τ).loc Cert.KernelGm.main_arg4))
      ∧ r.2.sem = fun _ => 0)

def quiescent_KernelGmIdeal [hKernelGmIdeal : Cert.KernelGmIdeal.Facts] : Prop :=
  ∀ (m : (ℓ : Loc Cert.KernelGmIdeal.nD Cert.KernelGmIdeal.τ Cert.KernelGmIdeal.sig) → Buf (Elt Ideal) ℓ) (g : Dev Cert.KernelGmIdeal.nD → PrngReg), Pre_KernelGmIdeal m →
    θ_run (Cert.KernelGmIdeal.defs (F := Ideal)) (onTc (τ := Cert.KernelGmIdeal.τ) (Cert.KernelGmIdeal.main (F := Ideal))) ⟨m, fun _ => 0, g⟩ (fun r => (∀ c : Dev Cert.KernelGmIdeal.nD,
      r.2.mem ((c.tc : Thread Cert.KernelGmIdeal.nD Cert.KernelGmIdeal.τ).loc Cert.KernelGmIdeal.main_arg0) = m ((c.tc : Thread Cert.KernelGmIdeal.nD Cert.KernelGmIdeal.τ).loc Cert.KernelGmIdeal.main_arg0)
      ∧ r.2.mem ((c.tc : Thread Cert.KernelGmIdeal.nD Cert.KernelGmIdeal.τ).loc Cert.KernelGmIdeal.main_arg1) = m ((c.tc : Thread Cert.KernelGmIdeal.nD Cert.KernelGmIdeal.τ).loc Cert.KernelGmIdeal.main_arg1)
      ∧ r.2.mem ((c.tc : Thread Cert.KernelGmIdeal.nD Cert.KernelGmIdeal.τ).loc Cert.KernelGmIdeal.main_arg2) = m ((c.tc : Thread Cert.KernelGmIdeal.nD Cert.KernelGmIdeal.τ).loc Cert.KernelGmIdeal.main_arg2)
      ∧ r.2.mem ((c.tc : Thread Cert.KernelGmIdeal.nD Cert.KernelGmIdeal.τ).loc Cert.KernelGmIdeal.main_arg3) = m ((c.tc : Thread Cert.KernelGmIdeal.nD Cert.KernelGmIdeal.τ).loc Cert.KernelGmIdeal.main_arg3)
      ∧ r.2.mem ((c.tc : Thread Cert.KernelGmIdeal.nD Cert.KernelGmIdeal.τ).loc Cert.KernelGmIdeal.main_arg4) = m ((c.tc : Thread Cert.KernelGmIdeal.nD Cert.KernelGmIdeal.τ).loc Cert.KernelGmIdeal.main_arg4))
      ∧ r.2.sem = fun _ => 0)

def quiescent_KernelGmIdeal_pre_finite_gmlp [hKernelGmIdeal : Cert.KernelGmIdeal.Facts] [hPre_finite_gmlp : Cert.Pre_finite_gmlp.Facts] : Prop :=
  ∀ (m : (ℓ : Loc Cert.KernelGmIdeal.nD Cert.KernelGmIdeal.τ Cert.KernelGmIdeal.sig) → Buf (Elt Ideal) ℓ) (g : Dev Cert.KernelGmIdeal.nD → PrngReg), Pre_KernelGmIdeal_finite_gmlp m →
    θ_run (Cert.KernelGmIdeal.defs (F := Ideal)) (onTc (τ := Cert.KernelGmIdeal.τ) (Cert.KernelGmIdeal.main (F := Ideal))) ⟨m, fun _ => 0, g⟩ (fun r => (∀ c : Dev Cert.KernelGmIdeal.nD,
      r.2.mem ((c.tc : Thread Cert.KernelGmIdeal.nD Cert.KernelGmIdeal.τ).loc Cert.KernelGmIdeal.main_arg0) = m ((c.tc : Thread Cert.KernelGmIdeal.nD Cert.KernelGmIdeal.τ).loc Cert.KernelGmIdeal.main_arg0)
      ∧ r.2.mem ((c.tc : Thread Cert.KernelGmIdeal.nD Cert.KernelGmIdeal.τ).loc Cert.KernelGmIdeal.main_arg1) = m ((c.tc : Thread Cert.KernelGmIdeal.nD Cert.KernelGmIdeal.τ).loc Cert.KernelGmIdeal.main_arg1)
      ∧ r.2.mem ((c.tc : Thread Cert.KernelGmIdeal.nD Cert.KernelGmIdeal.τ).loc Cert.KernelGmIdeal.main_arg2) = m ((c.tc : Thread Cert.KernelGmIdeal.nD Cert.KernelGmIdeal.τ).loc Cert.KernelGmIdeal.main_arg2)
      ∧ r.2.mem ((c.tc : Thread Cert.KernelGmIdeal.nD Cert.KernelGmIdeal.τ).loc Cert.KernelGmIdeal.main_arg3) = m ((c.tc : Thread Cert.KernelGmIdeal.nD Cert.KernelGmIdeal.τ).loc Cert.KernelGmIdeal.main_arg3)
      ∧ r.2.mem ((c.tc : Thread Cert.KernelGmIdeal.nD Cert.KernelGmIdeal.τ).loc Cert.KernelGmIdeal.main_arg4) = m ((c.tc : Thread Cert.KernelGmIdeal.nD Cert.KernelGmIdeal.τ).loc Cert.KernelGmIdeal.main_arg4))
      ∧ r.2.sem = fun _ => 0)

def quiescent_ReferenceGmIdeal [hReferenceGmIdeal : Cert.ReferenceGmIdeal.Facts] : Prop :=
  ∀ (m : (ℓ : Loc Cert.ReferenceGmIdeal.nD Cert.ReferenceGmIdeal.τ Cert.ReferenceGmIdeal.sig) → Buf (Elt Ideal) ℓ) (g : Dev Cert.ReferenceGmIdeal.nD → PrngReg), Pre_ReferenceGmIdeal m →
    θ_run (Cert.ReferenceGmIdeal.defs (F := Ideal)) (onTc (τ := Cert.ReferenceGmIdeal.τ) (Cert.ReferenceGmIdeal.main (F := Ideal))) ⟨m, fun _ => 0, g⟩ (fun r => (∀ c : Dev Cert.ReferenceGmIdeal.nD,
      r.2.mem ((c.tc : Thread Cert.ReferenceGmIdeal.nD Cert.ReferenceGmIdeal.τ).loc Cert.ReferenceGmIdeal.main_arg0) = m ((c.tc : Thread Cert.ReferenceGmIdeal.nD Cert.ReferenceGmIdeal.τ).loc Cert.ReferenceGmIdeal.main_arg0)
      ∧ r.2.mem ((c.tc : Thread Cert.ReferenceGmIdeal.nD Cert.ReferenceGmIdeal.τ).loc Cert.ReferenceGmIdeal.main_arg1) = m ((c.tc : Thread Cert.ReferenceGmIdeal.nD Cert.ReferenceGmIdeal.τ).loc Cert.ReferenceGmIdeal.main_arg1)
      ∧ r.2.mem ((c.tc : Thread Cert.ReferenceGmIdeal.nD Cert.ReferenceGmIdeal.τ).loc Cert.ReferenceGmIdeal.main_arg2) = m ((c.tc : Thread Cert.ReferenceGmIdeal.nD Cert.ReferenceGmIdeal.τ).loc Cert.ReferenceGmIdeal.main_arg2)
      ∧ r.2.mem ((c.tc : Thread Cert.ReferenceGmIdeal.nD Cert.ReferenceGmIdeal.τ).loc Cert.ReferenceGmIdeal.main_arg3) = m ((c.tc : Thread Cert.ReferenceGmIdeal.nD Cert.ReferenceGmIdeal.τ).loc Cert.ReferenceGmIdeal.main_arg3)
      ∧ r.2.mem ((c.tc : Thread Cert.ReferenceGmIdeal.nD Cert.ReferenceGmIdeal.τ).loc Cert.ReferenceGmIdeal.main_arg4) = m ((c.tc : Thread Cert.ReferenceGmIdeal.nD Cert.ReferenceGmIdeal.τ).loc Cert.ReferenceGmIdeal.main_arg4))
      ∧ r.2.sem = fun _ => 0)

def quiescent_ReferenceGmIdeal_pre_finite_gmlp [hReferenceGmIdeal : Cert.ReferenceGmIdeal.Facts] [hPre_finite_gmlp : Cert.Pre_finite_gmlp.Facts] : Prop :=
  ∀ (m : (ℓ : Loc Cert.ReferenceGmIdeal.nD Cert.ReferenceGmIdeal.τ Cert.ReferenceGmIdeal.sig) → Buf (Elt Ideal) ℓ) (g : Dev Cert.ReferenceGmIdeal.nD → PrngReg), Pre_ReferenceGmIdeal_finite_gmlp m →
    θ_run (Cert.ReferenceGmIdeal.defs (F := Ideal)) (onTc (τ := Cert.ReferenceGmIdeal.τ) (Cert.ReferenceGmIdeal.main (F := Ideal))) ⟨m, fun _ => 0, g⟩ (fun r => (∀ c : Dev Cert.ReferenceGmIdeal.nD,
      r.2.mem ((c.tc : Thread Cert.ReferenceGmIdeal.nD Cert.ReferenceGmIdeal.τ).loc Cert.ReferenceGmIdeal.main_arg0) = m ((c.tc : Thread Cert.ReferenceGmIdeal.nD Cert.ReferenceGmIdeal.τ).loc Cert.ReferenceGmIdeal.main_arg0)
      ∧ r.2.mem ((c.tc : Thread Cert.ReferenceGmIdeal.nD Cert.ReferenceGmIdeal.τ).loc Cert.ReferenceGmIdeal.main_arg1) = m ((c.tc : Thread Cert.ReferenceGmIdeal.nD Cert.ReferenceGmIdeal.τ).loc Cert.ReferenceGmIdeal.main_arg1)
      ∧ r.2.mem ((c.tc : Thread Cert.ReferenceGmIdeal.nD Cert.ReferenceGmIdeal.τ).loc Cert.ReferenceGmIdeal.main_arg2) = m ((c.tc : Thread Cert.ReferenceGmIdeal.nD Cert.ReferenceGmIdeal.τ).loc Cert.ReferenceGmIdeal.main_arg2)
      ∧ r.2.mem ((c.tc : Thread Cert.ReferenceGmIdeal.nD Cert.ReferenceGmIdeal.τ).loc Cert.ReferenceGmIdeal.main_arg3) = m ((c.tc : Thread Cert.ReferenceGmIdeal.nD Cert.ReferenceGmIdeal.τ).loc Cert.ReferenceGmIdeal.main_arg3)
      ∧ r.2.mem ((c.tc : Thread Cert.ReferenceGmIdeal.nD Cert.ReferenceGmIdeal.τ).loc Cert.ReferenceGmIdeal.main_arg4) = m ((c.tc : Thread Cert.ReferenceGmIdeal.nD Cert.ReferenceGmIdeal.τ).loc Cert.ReferenceGmIdeal.main_arg4))
      ∧ r.2.sem = fun _ => 0)

def quiescent_KernelPg [hKernelPg : Cert.KernelPg.Facts] : Prop :=
  ∀ (m : (ℓ : Loc Cert.KernelPg.nD Cert.KernelPg.τ Cert.KernelPg.sig) → Buf (Elt Bits) ℓ) (g : Dev Cert.KernelPg.nD → PrngReg), Pre_KernelPg m →
    θ_run (Cert.KernelPg.defs (F := Bits)) (onTc (τ := Cert.KernelPg.τ) (Cert.KernelPg.main (F := Bits))) ⟨m, fun _ => 0, g⟩ (fun r => (∀ c : Dev Cert.KernelPg.nD,
      r.2.mem ((c.tc : Thread Cert.KernelPg.nD Cert.KernelPg.τ).loc Cert.KernelPg.main_arg0) = m ((c.tc : Thread Cert.KernelPg.nD Cert.KernelPg.τ).loc Cert.KernelPg.main_arg0)
      ∧ r.2.mem ((c.tc : Thread Cert.KernelPg.nD Cert.KernelPg.τ).loc Cert.KernelPg.main_arg1) = m ((c.tc : Thread Cert.KernelPg.nD Cert.KernelPg.τ).loc Cert.KernelPg.main_arg1)
      ∧ r.2.mem ((c.tc : Thread Cert.KernelPg.nD Cert.KernelPg.τ).loc Cert.KernelPg.main_arg2) = m ((c.tc : Thread Cert.KernelPg.nD Cert.KernelPg.τ).loc Cert.KernelPg.main_arg2)
      ∧ r.2.mem ((c.tc : Thread Cert.KernelPg.nD Cert.KernelPg.τ).loc Cert.KernelPg.main_arg3) = m ((c.tc : Thread Cert.KernelPg.nD Cert.KernelPg.τ).loc Cert.KernelPg.main_arg3)
      ∧ r.2.mem ((c.tc : Thread Cert.KernelPg.nD Cert.KernelPg.τ).loc Cert.KernelPg.main_arg4) = m ((c.tc : Thread Cert.KernelPg.nD Cert.KernelPg.τ).loc Cert.KernelPg.main_arg4)
      ∧ r.2.mem ((c.tc : Thread Cert.KernelPg.nD Cert.KernelPg.τ).loc Cert.KernelPg.main_arg5) = m ((c.tc : Thread Cert.KernelPg.nD Cert.KernelPg.τ).loc Cert.KernelPg.main_arg5)
      ∧ r.2.mem ((c.tc : Thread Cert.KernelPg.nD Cert.KernelPg.τ).loc Cert.KernelPg.main_arg6) = m ((c.tc : Thread Cert.KernelPg.nD Cert.KernelPg.τ).loc Cert.KernelPg.main_arg6)
      ∧ r.2.mem ((c.tc : Thread Cert.KernelPg.nD Cert.KernelPg.τ).loc Cert.KernelPg.main_arg7) = m ((c.tc : Thread Cert.KernelPg.nD Cert.KernelPg.τ).loc Cert.KernelPg.main_arg7)
      ∧ r.2.mem ((c.tc : Thread Cert.KernelPg.nD Cert.KernelPg.τ).loc Cert.KernelPg.main_arg8) = m ((c.tc : Thread Cert.KernelPg.nD Cert.KernelPg.τ).loc Cert.KernelPg.main_arg8)
      ∧ r.2.mem ((c.tc : Thread Cert.KernelPg.nD Cert.KernelPg.τ).loc Cert.KernelPg.main_arg9) = m ((c.tc : Thread Cert.KernelPg.nD Cert.KernelPg.τ).loc Cert.KernelPg.main_arg9)
      ∧ r.2.mem ((c.tc : Thread Cert.KernelPg.nD Cert.KernelPg.τ).loc Cert.KernelPg.main_arg10) = m ((c.tc : Thread Cert.KernelPg.nD Cert.KernelPg.τ).loc Cert.KernelPg.main_arg10)
      ∧ r.2.mem ((c.tc : Thread Cert.KernelPg.nD Cert.KernelPg.τ).loc Cert.KernelPg.main_arg11) = m ((c.tc : Thread Cert.KernelPg.nD Cert.KernelPg.τ).loc Cert.KernelPg.main_arg11))
      ∧ r.2.sem = fun _ => 0)

def quiescent_KernelPgIdeal [hKernelPgIdeal : Cert.KernelPgIdeal.Facts] : Prop :=
  ∀ (m : (ℓ : Loc Cert.KernelPgIdeal.nD Cert.KernelPgIdeal.τ Cert.KernelPgIdeal.sig) → Buf (Elt Ideal) ℓ) (g : Dev Cert.KernelPgIdeal.nD → PrngReg), Pre_KernelPgIdeal m →
    θ_run (Cert.KernelPgIdeal.defs (F := Ideal)) (onTc (τ := Cert.KernelPgIdeal.τ) (Cert.KernelPgIdeal.main (F := Ideal))) ⟨m, fun _ => 0, g⟩ (fun r => (∀ c : Dev Cert.KernelPgIdeal.nD,
      r.2.mem ((c.tc : Thread Cert.KernelPgIdeal.nD Cert.KernelPgIdeal.τ).loc Cert.KernelPgIdeal.main_arg0) = m ((c.tc : Thread Cert.KernelPgIdeal.nD Cert.KernelPgIdeal.τ).loc Cert.KernelPgIdeal.main_arg0)
      ∧ r.2.mem ((c.tc : Thread Cert.KernelPgIdeal.nD Cert.KernelPgIdeal.τ).loc Cert.KernelPgIdeal.main_arg1) = m ((c.tc : Thread Cert.KernelPgIdeal.nD Cert.KernelPgIdeal.τ).loc Cert.KernelPgIdeal.main_arg1)
      ∧ r.2.mem ((c.tc : Thread Cert.KernelPgIdeal.nD Cert.KernelPgIdeal.τ).loc Cert.KernelPgIdeal.main_arg2) = m ((c.tc : Thread Cert.KernelPgIdeal.nD Cert.KernelPgIdeal.τ).loc Cert.KernelPgIdeal.main_arg2)
      ∧ r.2.mem ((c.tc : Thread Cert.KernelPgIdeal.nD Cert.KernelPgIdeal.τ).loc Cert.KernelPgIdeal.main_arg3) = m ((c.tc : Thread Cert.KernelPgIdeal.nD Cert.KernelPgIdeal.τ).loc Cert.KernelPgIdeal.main_arg3)
      ∧ r.2.mem ((c.tc : Thread Cert.KernelPgIdeal.nD Cert.KernelPgIdeal.τ).loc Cert.KernelPgIdeal.main_arg4) = m ((c.tc : Thread Cert.KernelPgIdeal.nD Cert.KernelPgIdeal.τ).loc Cert.KernelPgIdeal.main_arg4)
      ∧ r.2.mem ((c.tc : Thread Cert.KernelPgIdeal.nD Cert.KernelPgIdeal.τ).loc Cert.KernelPgIdeal.main_arg5) = m ((c.tc : Thread Cert.KernelPgIdeal.nD Cert.KernelPgIdeal.τ).loc Cert.KernelPgIdeal.main_arg5)
      ∧ r.2.mem ((c.tc : Thread Cert.KernelPgIdeal.nD Cert.KernelPgIdeal.τ).loc Cert.KernelPgIdeal.main_arg6) = m ((c.tc : Thread Cert.KernelPgIdeal.nD Cert.KernelPgIdeal.τ).loc Cert.KernelPgIdeal.main_arg6)
      ∧ r.2.mem ((c.tc : Thread Cert.KernelPgIdeal.nD Cert.KernelPgIdeal.τ).loc Cert.KernelPgIdeal.main_arg7) = m ((c.tc : Thread Cert.KernelPgIdeal.nD Cert.KernelPgIdeal.τ).loc Cert.KernelPgIdeal.main_arg7)
      ∧ r.2.mem ((c.tc : Thread Cert.KernelPgIdeal.nD Cert.KernelPgIdeal.τ).loc Cert.KernelPgIdeal.main_arg8) = m ((c.tc : Thread Cert.KernelPgIdeal.nD Cert.KernelPgIdeal.τ).loc Cert.KernelPgIdeal.main_arg8)
      ∧ r.2.mem ((c.tc : Thread Cert.KernelPgIdeal.nD Cert.KernelPgIdeal.τ).loc Cert.KernelPgIdeal.main_arg9) = m ((c.tc : Thread Cert.KernelPgIdeal.nD Cert.KernelPgIdeal.τ).loc Cert.KernelPgIdeal.main_arg9)
      ∧ r.2.mem ((c.tc : Thread Cert.KernelPgIdeal.nD Cert.KernelPgIdeal.τ).loc Cert.KernelPgIdeal.main_arg10) = m ((c.tc : Thread Cert.KernelPgIdeal.nD Cert.KernelPgIdeal.τ).loc Cert.KernelPgIdeal.main_arg10)
      ∧ r.2.mem ((c.tc : Thread Cert.KernelPgIdeal.nD Cert.KernelPgIdeal.τ).loc Cert.KernelPgIdeal.main_arg11) = m ((c.tc : Thread Cert.KernelPgIdeal.nD Cert.KernelPgIdeal.τ).loc Cert.KernelPgIdeal.main_arg11))
      ∧ r.2.sem = fun _ => 0)

def preserves_KernelMn_KernelMnIdeal : Prop :=
  True

def algebraic_KernelMnIdeal_ReferenceMnIdeal [hKernelMnIdeal : Cert.KernelMnIdeal.Facts] [hReferenceMnIdeal : Cert.ReferenceMnIdeal.Facts] : Prop :=
  ∀ (m : (ℓ : Loc Cert.KernelMnIdeal.nD Cert.KernelMnIdeal.τ Cert.KernelMnIdeal.sig) → Buf (Elt Ideal) ℓ) (g : Dev Cert.KernelMnIdeal.nD → PrngReg)
    (m' : (ℓ : Loc Cert.ReferenceMnIdeal.nD Cert.ReferenceMnIdeal.τ Cert.ReferenceMnIdeal.sig) → Buf (Elt Ideal) ℓ) (g' : Dev Cert.ReferenceMnIdeal.nD → PrngReg), Pre_KernelMnIdeal m →
    (∀ c : Dev Cert.KernelMnIdeal.nD,
      m' ((c.tc : Thread Cert.ReferenceMnIdeal.nD Cert.ReferenceMnIdeal.τ).loc Cert.ReferenceMnIdeal.main_arg0) = m ((c.tc : Thread Cert.KernelMnIdeal.nD Cert.KernelMnIdeal.τ).loc Cert.KernelMnIdeal.main_arg0)
      ∧ m' ((c.tc : Thread Cert.ReferenceMnIdeal.nD Cert.ReferenceMnIdeal.τ).loc Cert.ReferenceMnIdeal.main_arg1) = m ((c.tc : Thread Cert.KernelMnIdeal.nD Cert.KernelMnIdeal.τ).loc Cert.KernelMnIdeal.main_arg1)
      ∧ m' ((c.tc : Thread Cert.ReferenceMnIdeal.nD Cert.ReferenceMnIdeal.τ).loc Cert.ReferenceMnIdeal.main_arg2) = m ((c.tc : Thread Cert.KernelMnIdeal.nD Cert.KernelMnIdeal.τ).loc Cert.KernelMnIdeal.main_arg2)) →
    ∃ (v0 : (c : Dev Cert.KernelMnIdeal.nD) → Buf (Elt Ideal) ((c.tc : Thread Cert.KernelMnIdeal.nD Cert.KernelMnIdeal.τ).loc Cert.KernelMnIdeal.main_v8)),
      θ_run (Cert.KernelMnIdeal.defs (F := Ideal)) (onTc (τ := Cert.KernelMnIdeal.τ) (Cert.KernelMnIdeal.main (F := Ideal))) ⟨m, fun _ => 0, g⟩ (fun r => ∀ c : Dev Cert.KernelMnIdeal.nD,
          r.2.mem ((c.tc : Thread Cert.KernelMnIdeal.nD Cert.KernelMnIdeal.τ).loc Cert.KernelMnIdeal.main_v8) = v0 c
          ∧ r.2.mem ((c.tc : Thread Cert.KernelMnIdeal.nD Cert.KernelMnIdeal.τ).loc Cert.KernelMnIdeal.main_arg0) = m ((c.tc : Thread Cert.KernelMnIdeal.nD Cert.KernelMnIdeal.τ).loc Cert.KernelMnIdeal.main_arg0)
          ∧ r.2.mem ((c.tc : Thread Cert.KernelMnIdeal.nD Cert.KernelMnIdeal.τ).loc Cert.KernelMnIdeal.main_arg1) = m ((c.tc : Thread Cert.KernelMnIdeal.nD Cert.KernelMnIdeal.τ).loc Cert.KernelMnIdeal.main_arg1)
          ∧ r.2.mem ((c.tc : Thread Cert.KernelMnIdeal.nD Cert.KernelMnIdeal.τ).loc Cert.KernelMnIdeal.main_arg2) = m ((c.tc : Thread Cert.KernelMnIdeal.nD Cert.KernelMnIdeal.τ).loc Cert.KernelMnIdeal.main_arg2))
      ∧ θ_run (Cert.ReferenceMnIdeal.defs (F := Ideal)) (onTc (τ := Cert.ReferenceMnIdeal.τ) (Cert.ReferenceMnIdeal.main (F := Ideal))) ⟨m', fun _ => 0, g'⟩ (fun r => ∀ c : Dev Cert.ReferenceMnIdeal.nD,
          r.2.mem ((c.tc : Thread Cert.ReferenceMnIdeal.nD Cert.ReferenceMnIdeal.τ).loc Cert.ReferenceMnIdeal.main_v14) = v0 c
          ∧ r.2.mem ((c.tc : Thread Cert.ReferenceMnIdeal.nD Cert.ReferenceMnIdeal.τ).loc Cert.ReferenceMnIdeal.main_arg0) = m' ((c.tc : Thread Cert.ReferenceMnIdeal.nD Cert.ReferenceMnIdeal.τ).loc Cert.ReferenceMnIdeal.main_arg0)
          ∧ r.2.mem ((c.tc : Thread Cert.ReferenceMnIdeal.nD Cert.ReferenceMnIdeal.τ).loc Cert.ReferenceMnIdeal.main_arg1) = m' ((c.tc : Thread Cert.ReferenceMnIdeal.nD Cert.ReferenceMnIdeal.τ).loc Cert.ReferenceMnIdeal.main_arg1)
          ∧ r.2.mem ((c.tc : Thread Cert.ReferenceMnIdeal.nD Cert.ReferenceMnIdeal.τ).loc Cert.ReferenceMnIdeal.main_arg2) = m' ((c.tc : Thread Cert.ReferenceMnIdeal.nD Cert.ReferenceMnIdeal.τ).loc Cert.ReferenceMnIdeal.main_arg2))

def preserves_KernelGt_KernelGtIdeal : Prop :=
  True

def algebraic_KernelGtIdeal_ReferenceGtIdeal [hKernelGtIdeal : Cert.KernelGtIdeal.Facts] [hReferenceGtIdeal : Cert.ReferenceGtIdeal.Facts] : Prop :=
  ∀ (m : (ℓ : Loc Cert.KernelGtIdeal.nD Cert.KernelGtIdeal.τ Cert.KernelGtIdeal.sig) → Buf (Elt Ideal) ℓ) (g : Dev Cert.KernelGtIdeal.nD → PrngReg)
    (m' : (ℓ : Loc Cert.ReferenceGtIdeal.nD Cert.ReferenceGtIdeal.τ Cert.ReferenceGtIdeal.sig) → Buf (Elt Ideal) ℓ) (g' : Dev Cert.ReferenceGtIdeal.nD → PrngReg), Pre_KernelGtIdeal m →
    (∀ c : Dev Cert.KernelGtIdeal.nD,
      m' ((c.tc : Thread Cert.ReferenceGtIdeal.nD Cert.ReferenceGtIdeal.τ).loc Cert.ReferenceGtIdeal.main_arg0) = m ((c.tc : Thread Cert.KernelGtIdeal.nD Cert.KernelGtIdeal.τ).loc Cert.KernelGtIdeal.main_arg0)
      ∧ m' ((c.tc : Thread Cert.ReferenceGtIdeal.nD Cert.ReferenceGtIdeal.τ).loc Cert.ReferenceGtIdeal.main_arg1) = m ((c.tc : Thread Cert.KernelGtIdeal.nD Cert.KernelGtIdeal.τ).loc Cert.KernelGtIdeal.main_arg1)
      ∧ m' ((c.tc : Thread Cert.ReferenceGtIdeal.nD Cert.ReferenceGtIdeal.τ).loc Cert.ReferenceGtIdeal.main_arg2) = m ((c.tc : Thread Cert.KernelGtIdeal.nD Cert.KernelGtIdeal.τ).loc Cert.KernelGtIdeal.main_arg2)) →
    ∃ (v0 : (c : Dev Cert.KernelGtIdeal.nD) → Buf (Elt Ideal) ((c.tc : Thread Cert.KernelGtIdeal.nD Cert.KernelGtIdeal.τ).loc Cert.KernelGtIdeal.main_v10_0)) (v1 : (c : Dev Cert.KernelGtIdeal.nD) → Buf (Elt Ideal) ((c.tc : Thread Cert.KernelGtIdeal.nD Cert.KernelGtIdeal.τ).loc Cert.KernelGtIdeal.main_v10_1)),
      θ_run (Cert.KernelGtIdeal.defs (F := Ideal)) (onTc (τ := Cert.KernelGtIdeal.τ) (Cert.KernelGtIdeal.main (F := Ideal))) ⟨m, fun _ => 0, g⟩ (fun r => ∀ c : Dev Cert.KernelGtIdeal.nD,
          r.2.mem ((c.tc : Thread Cert.KernelGtIdeal.nD Cert.KernelGtIdeal.τ).loc Cert.KernelGtIdeal.main_v10_0) = v0 c
          ∧ r.2.mem ((c.tc : Thread Cert.KernelGtIdeal.nD Cert.KernelGtIdeal.τ).loc Cert.KernelGtIdeal.main_v10_1) = v1 c
          ∧ r.2.mem ((c.tc : Thread Cert.KernelGtIdeal.nD Cert.KernelGtIdeal.τ).loc Cert.KernelGtIdeal.main_arg0) = m ((c.tc : Thread Cert.KernelGtIdeal.nD Cert.KernelGtIdeal.τ).loc Cert.KernelGtIdeal.main_arg0)
          ∧ r.2.mem ((c.tc : Thread Cert.KernelGtIdeal.nD Cert.KernelGtIdeal.τ).loc Cert.KernelGtIdeal.main_arg1) = m ((c.tc : Thread Cert.KernelGtIdeal.nD Cert.KernelGtIdeal.τ).loc Cert.KernelGtIdeal.main_arg1)
          ∧ r.2.mem ((c.tc : Thread Cert.KernelGtIdeal.nD Cert.KernelGtIdeal.τ).loc Cert.KernelGtIdeal.main_arg2) = m ((c.tc : Thread Cert.KernelGtIdeal.nD Cert.KernelGtIdeal.τ).loc Cert.KernelGtIdeal.main_arg2))
      ∧ θ_run (Cert.ReferenceGtIdeal.defs (F := Ideal)) (onTc (τ := Cert.ReferenceGtIdeal.τ) (Cert.ReferenceGtIdeal.main (F := Ideal))) ⟨m', fun _ => 0, g'⟩ (fun r => ∀ c : Dev Cert.ReferenceGtIdeal.nD,
          r.2.mem ((c.tc : Thread Cert.ReferenceGtIdeal.nD Cert.ReferenceGtIdeal.τ).loc Cert.ReferenceGtIdeal.main_v39) = v0 c
          ∧ r.2.mem ((c.tc : Thread Cert.ReferenceGtIdeal.nD Cert.ReferenceGtIdeal.τ).loc Cert.ReferenceGtIdeal.main_v38) = v1 c
          ∧ r.2.mem ((c.tc : Thread Cert.ReferenceGtIdeal.nD Cert.ReferenceGtIdeal.τ).loc Cert.ReferenceGtIdeal.main_arg0) = m' ((c.tc : Thread Cert.ReferenceGtIdeal.nD Cert.ReferenceGtIdeal.τ).loc Cert.ReferenceGtIdeal.main_arg0)
          ∧ r.2.mem ((c.tc : Thread Cert.ReferenceGtIdeal.nD Cert.ReferenceGtIdeal.τ).loc Cert.ReferenceGtIdeal.main_arg1) = m' ((c.tc : Thread Cert.ReferenceGtIdeal.nD Cert.ReferenceGtIdeal.τ).loc Cert.ReferenceGtIdeal.main_arg1)
          ∧ r.2.mem ((c.tc : Thread Cert.ReferenceGtIdeal.nD Cert.ReferenceGtIdeal.τ).loc Cert.ReferenceGtIdeal.main_arg2) = m' ((c.tc : Thread Cert.ReferenceGtIdeal.nD Cert.ReferenceGtIdeal.τ).loc Cert.ReferenceGtIdeal.main_arg2))

def preserves_KernelOi_KernelOiIdeal : Prop :=
  True

def algebraic_KernelOiIdeal_ReferenceOiIdeal_pre_finite_oi [hKernelOiIdeal : Cert.KernelOiIdeal.Facts] [hReferenceOiIdeal : Cert.ReferenceOiIdeal.Facts] [hPre_finite_oi : Cert.Pre_finite_oi.Facts] : Prop :=
  ∀ (m : (ℓ : Loc Cert.KernelOiIdeal.nD Cert.KernelOiIdeal.τ Cert.KernelOiIdeal.sig) → Buf (Elt Ideal) ℓ) (g : Dev Cert.KernelOiIdeal.nD → PrngReg)
    (m' : (ℓ : Loc Cert.ReferenceOiIdeal.nD Cert.ReferenceOiIdeal.τ Cert.ReferenceOiIdeal.sig) → Buf (Elt Ideal) ℓ) (g' : Dev Cert.ReferenceOiIdeal.nD → PrngReg), Pre_KernelOiIdeal_finite_oi m →
    (∀ c : Dev Cert.KernelOiIdeal.nD,
      m' ((c.tc : Thread Cert.ReferenceOiIdeal.nD Cert.ReferenceOiIdeal.τ).loc Cert.ReferenceOiIdeal.main_arg0) = m ((c.tc : Thread Cert.KernelOiIdeal.nD Cert.KernelOiIdeal.τ).loc Cert.KernelOiIdeal.main_arg0)
      ∧ m' ((c.tc : Thread Cert.ReferenceOiIdeal.nD Cert.ReferenceOiIdeal.τ).loc Cert.ReferenceOiIdeal.main_arg1) = m ((c.tc : Thread Cert.KernelOiIdeal.nD Cert.KernelOiIdeal.τ).loc Cert.KernelOiIdeal.main_arg1)
      ∧ m' ((c.tc : Thread Cert.ReferenceOiIdeal.nD Cert.ReferenceOiIdeal.τ).loc Cert.ReferenceOiIdeal.main_arg2) = m ((c.tc : Thread Cert.KernelOiIdeal.nD Cert.KernelOiIdeal.τ).loc Cert.KernelOiIdeal.main_arg2)
      ∧ m' ((c.tc : Thread Cert.ReferenceOiIdeal.nD Cert.ReferenceOiIdeal.τ).loc Cert.ReferenceOiIdeal.main_arg3) = m ((c.tc : Thread Cert.KernelOiIdeal.nD Cert.KernelOiIdeal.τ).loc Cert.KernelOiIdeal.main_arg3)
      ∧ m' ((c.tc : Thread Cert.ReferenceOiIdeal.nD Cert.ReferenceOiIdeal.τ).loc Cert.ReferenceOiIdeal.main_arg4) = m ((c.tc : Thread Cert.KernelOiIdeal.nD Cert.KernelOiIdeal.τ).loc Cert.KernelOiIdeal.main_arg4)) →
    ∃ (v0 : (c : Dev Cert.KernelOiIdeal.nD) → Buf (Elt Ideal) ((c.tc : Thread Cert.KernelOiIdeal.nD Cert.KernelOiIdeal.τ).loc Cert.KernelOiIdeal.main_v10_0)) (v1 : (c : Dev Cert.KernelOiIdeal.nD) → Buf (Elt Ideal) ((c.tc : Thread Cert.KernelOiIdeal.nD Cert.KernelOiIdeal.τ).loc Cert.KernelOiIdeal.main_v10_1)) (v2 : (c : Dev Cert.KernelOiIdeal.nD) → Buf (Elt Ideal) ((c.tc : Thread Cert.KernelOiIdeal.nD Cert.KernelOiIdeal.τ).loc Cert.KernelOiIdeal.main_v10_2)),
      θ_run (Cert.KernelOiIdeal.defs (F := Ideal)) (onTc (τ := Cert.KernelOiIdeal.τ) (Cert.KernelOiIdeal.main (F := Ideal))) ⟨m, fun _ => 0, g⟩ (fun r => ∀ c : Dev Cert.KernelOiIdeal.nD,
          r.2.mem ((c.tc : Thread Cert.KernelOiIdeal.nD Cert.KernelOiIdeal.τ).loc Cert.KernelOiIdeal.main_v10_0) = v0 c
          ∧ r.2.mem ((c.tc : Thread Cert.KernelOiIdeal.nD Cert.KernelOiIdeal.τ).loc Cert.KernelOiIdeal.main_v10_1) = v1 c
          ∧ r.2.mem ((c.tc : Thread Cert.KernelOiIdeal.nD Cert.KernelOiIdeal.τ).loc Cert.KernelOiIdeal.main_v10_2) = v2 c
          ∧ r.2.mem ((c.tc : Thread Cert.KernelOiIdeal.nD Cert.KernelOiIdeal.τ).loc Cert.KernelOiIdeal.main_arg0) = m ((c.tc : Thread Cert.KernelOiIdeal.nD Cert.KernelOiIdeal.τ).loc Cert.KernelOiIdeal.main_arg0)
          ∧ r.2.mem ((c.tc : Thread Cert.KernelOiIdeal.nD Cert.KernelOiIdeal.τ).loc Cert.KernelOiIdeal.main_arg1) = m ((c.tc : Thread Cert.KernelOiIdeal.nD Cert.KernelOiIdeal.τ).loc Cert.KernelOiIdeal.main_arg1)
          ∧ r.2.mem ((c.tc : Thread Cert.KernelOiIdeal.nD Cert.KernelOiIdeal.τ).loc Cert.KernelOiIdeal.main_arg2) = m ((c.tc : Thread Cert.KernelOiIdeal.nD Cert.KernelOiIdeal.τ).loc Cert.KernelOiIdeal.main_arg2)
          ∧ r.2.mem ((c.tc : Thread Cert.KernelOiIdeal.nD Cert.KernelOiIdeal.τ).loc Cert.KernelOiIdeal.main_arg3) = m ((c.tc : Thread Cert.KernelOiIdeal.nD Cert.KernelOiIdeal.τ).loc Cert.KernelOiIdeal.main_arg3)
          ∧ r.2.mem ((c.tc : Thread Cert.KernelOiIdeal.nD Cert.KernelOiIdeal.τ).loc Cert.KernelOiIdeal.main_arg4) = m ((c.tc : Thread Cert.KernelOiIdeal.nD Cert.KernelOiIdeal.τ).loc Cert.KernelOiIdeal.main_arg4))
      ∧ θ_run (Cert.ReferenceOiIdeal.defs (F := Ideal)) (onTc (τ := Cert.ReferenceOiIdeal.τ) (Cert.ReferenceOiIdeal.main (F := Ideal))) ⟨m', fun _ => 0, g'⟩ (fun r => ∀ c : Dev Cert.ReferenceOiIdeal.nD,
          r.2.mem ((c.tc : Thread Cert.ReferenceOiIdeal.nD Cert.ReferenceOiIdeal.τ).loc Cert.ReferenceOiIdeal.main_v36) = v0 c
          ∧ r.2.mem ((c.tc : Thread Cert.ReferenceOiIdeal.nD Cert.ReferenceOiIdeal.τ).loc Cert.ReferenceOiIdeal.main_v37) = v1 c
          ∧ r.2.mem ((c.tc : Thread Cert.ReferenceOiIdeal.nD Cert.ReferenceOiIdeal.τ).loc Cert.ReferenceOiIdeal.main_v19) = v2 c
          ∧ r.2.mem ((c.tc : Thread Cert.ReferenceOiIdeal.nD Cert.ReferenceOiIdeal.τ).loc Cert.ReferenceOiIdeal.main_arg0) = m' ((c.tc : Thread Cert.ReferenceOiIdeal.nD Cert.ReferenceOiIdeal.τ).loc Cert.ReferenceOiIdeal.main_arg0)
          ∧ r.2.mem ((c.tc : Thread Cert.ReferenceOiIdeal.nD Cert.ReferenceOiIdeal.τ).loc Cert.ReferenceOiIdeal.main_arg1) = m' ((c.tc : Thread Cert.ReferenceOiIdeal.nD Cert.ReferenceOiIdeal.τ).loc Cert.ReferenceOiIdeal.main_arg1)
          ∧ r.2.mem ((c.tc : Thread Cert.ReferenceOiIdeal.nD Cert.ReferenceOiIdeal.τ).loc Cert.ReferenceOiIdeal.main_arg2) = m' ((c.tc : Thread Cert.ReferenceOiIdeal.nD Cert.ReferenceOiIdeal.τ).loc Cert.ReferenceOiIdeal.main_arg2)
          ∧ r.2.mem ((c.tc : Thread Cert.ReferenceOiIdeal.nD Cert.ReferenceOiIdeal.τ).loc Cert.ReferenceOiIdeal.main_arg3) = m' ((c.tc : Thread Cert.ReferenceOiIdeal.nD Cert.ReferenceOiIdeal.τ).loc Cert.ReferenceOiIdeal.main_arg3)
          ∧ r.2.mem ((c.tc : Thread Cert.ReferenceOiIdeal.nD Cert.ReferenceOiIdeal.τ).loc Cert.ReferenceOiIdeal.main_arg4) = m' ((c.tc : Thread Cert.ReferenceOiIdeal.nD Cert.ReferenceOiIdeal.τ).loc Cert.ReferenceOiIdeal.main_arg4))

def preserves_KernelEi_KernelEiIdeal : Prop :=
  True

def algebraic_KernelEiIdeal_ReferenceEiIdeal_pre_finite_ein [hKernelEiIdeal : Cert.KernelEiIdeal.Facts] [hReferenceEiIdeal : Cert.ReferenceEiIdeal.Facts] [hPre_finite_ein : Cert.Pre_finite_ein.Facts] : Prop :=
  ∀ (m : (ℓ : Loc Cert.KernelEiIdeal.nD Cert.KernelEiIdeal.τ Cert.KernelEiIdeal.sig) → Buf (Elt Ideal) ℓ) (g : Dev Cert.KernelEiIdeal.nD → PrngReg)
    (m' : (ℓ : Loc Cert.ReferenceEiIdeal.nD Cert.ReferenceEiIdeal.τ Cert.ReferenceEiIdeal.sig) → Buf (Elt Ideal) ℓ) (g' : Dev Cert.ReferenceEiIdeal.nD → PrngReg), Pre_KernelEiIdeal_finite_ein m →
    (∀ c : Dev Cert.KernelEiIdeal.nD,
      m' ((c.tc : Thread Cert.ReferenceEiIdeal.nD Cert.ReferenceEiIdeal.τ).loc Cert.ReferenceEiIdeal.main_arg0) = m ((c.tc : Thread Cert.KernelEiIdeal.nD Cert.KernelEiIdeal.τ).loc Cert.KernelEiIdeal.main_arg0)
      ∧ m' ((c.tc : Thread Cert.ReferenceEiIdeal.nD Cert.ReferenceEiIdeal.τ).loc Cert.ReferenceEiIdeal.main_arg1) = m ((c.tc : Thread Cert.KernelEiIdeal.nD Cert.KernelEiIdeal.τ).loc Cert.KernelEiIdeal.main_arg1)
      ∧ m' ((c.tc : Thread Cert.ReferenceEiIdeal.nD Cert.ReferenceEiIdeal.τ).loc Cert.ReferenceEiIdeal.main_arg2) = m ((c.tc : Thread Cert.KernelEiIdeal.nD Cert.KernelEiIdeal.τ).loc Cert.KernelEiIdeal.main_arg2)
      ∧ m' ((c.tc : Thread Cert.ReferenceEiIdeal.nD Cert.ReferenceEiIdeal.τ).loc Cert.ReferenceEiIdeal.main_arg3) = m ((c.tc : Thread Cert.KernelEiIdeal.nD Cert.KernelEiIdeal.τ).loc Cert.KernelEiIdeal.main_arg3)
      ∧ m' ((c.tc : Thread Cert.ReferenceEiIdeal.nD Cert.ReferenceEiIdeal.τ).loc Cert.ReferenceEiIdeal.main_arg4) = m ((c.tc : Thread Cert.KernelEiIdeal.nD Cert.KernelEiIdeal.τ).loc Cert.KernelEiIdeal.main_arg4)) →
    ∃ (v0 : (c : Dev Cert.KernelEiIdeal.nD) → Buf (Elt Ideal) ((c.tc : Thread Cert.KernelEiIdeal.nD Cert.KernelEiIdeal.τ).loc Cert.KernelEiIdeal.main_v16_0)) (v1 : (c : Dev Cert.KernelEiIdeal.nD) → Buf (Elt Ideal) ((c.tc : Thread Cert.KernelEiIdeal.nD Cert.KernelEiIdeal.τ).loc Cert.KernelEiIdeal.main_v16_1)) (v2 : (c : Dev Cert.KernelEiIdeal.nD) → Buf (Elt Ideal) ((c.tc : Thread Cert.KernelEiIdeal.nD Cert.KernelEiIdeal.τ).loc Cert.KernelEiIdeal.main_v16_2)),
      θ_run (Cert.KernelEiIdeal.defs (F := Ideal)) (onTc (τ := Cert.KernelEiIdeal.τ) (Cert.KernelEiIdeal.main (F := Ideal))) ⟨m, fun _ => 0, g⟩ (fun r => ∀ c : Dev Cert.KernelEiIdeal.nD,
          r.2.mem ((c.tc : Thread Cert.KernelEiIdeal.nD Cert.KernelEiIdeal.τ).loc Cert.KernelEiIdeal.main_v16_0) = v0 c
          ∧ r.2.mem ((c.tc : Thread Cert.KernelEiIdeal.nD Cert.KernelEiIdeal.τ).loc Cert.KernelEiIdeal.main_v16_1) = v1 c
          ∧ r.2.mem ((c.tc : Thread Cert.KernelEiIdeal.nD Cert.KernelEiIdeal.τ).loc Cert.KernelEiIdeal.main_v16_2) = v2 c
          ∧ r.2.mem ((c.tc : Thread Cert.KernelEiIdeal.nD Cert.KernelEiIdeal.τ).loc Cert.KernelEiIdeal.main_arg0) = m ((c.tc : Thread Cert.KernelEiIdeal.nD Cert.KernelEiIdeal.τ).loc Cert.KernelEiIdeal.main_arg0)
          ∧ r.2.mem ((c.tc : Thread Cert.KernelEiIdeal.nD Cert.KernelEiIdeal.τ).loc Cert.KernelEiIdeal.main_arg1) = m ((c.tc : Thread Cert.KernelEiIdeal.nD Cert.KernelEiIdeal.τ).loc Cert.KernelEiIdeal.main_arg1)
          ∧ r.2.mem ((c.tc : Thread Cert.KernelEiIdeal.nD Cert.KernelEiIdeal.τ).loc Cert.KernelEiIdeal.main_arg2) = m ((c.tc : Thread Cert.KernelEiIdeal.nD Cert.KernelEiIdeal.τ).loc Cert.KernelEiIdeal.main_arg2)
          ∧ r.2.mem ((c.tc : Thread Cert.KernelEiIdeal.nD Cert.KernelEiIdeal.τ).loc Cert.KernelEiIdeal.main_arg3) = m ((c.tc : Thread Cert.KernelEiIdeal.nD Cert.KernelEiIdeal.τ).loc Cert.KernelEiIdeal.main_arg3)
          ∧ r.2.mem ((c.tc : Thread Cert.KernelEiIdeal.nD Cert.KernelEiIdeal.τ).loc Cert.KernelEiIdeal.main_arg4) = m ((c.tc : Thread Cert.KernelEiIdeal.nD Cert.KernelEiIdeal.τ).loc Cert.KernelEiIdeal.main_arg4))
      ∧ θ_run (Cert.ReferenceEiIdeal.defs (F := Ideal)) (onTc (τ := Cert.ReferenceEiIdeal.τ) (Cert.ReferenceEiIdeal.main (F := Ideal))) ⟨m', fun _ => 0, g'⟩ (fun r => ∀ c : Dev Cert.ReferenceEiIdeal.nD,
          r.2.mem ((c.tc : Thread Cert.ReferenceEiIdeal.nD Cert.ReferenceEiIdeal.τ).loc Cert.ReferenceEiIdeal.main_v36) = v0 c
          ∧ r.2.mem ((c.tc : Thread Cert.ReferenceEiIdeal.nD Cert.ReferenceEiIdeal.τ).loc Cert.ReferenceEiIdeal.main_v37) = v1 c
          ∧ r.2.mem ((c.tc : Thread Cert.ReferenceEiIdeal.nD Cert.ReferenceEiIdeal.τ).loc Cert.ReferenceEiIdeal.main_v19) = v2 c
          ∧ r.2.mem ((c.tc : Thread Cert.ReferenceEiIdeal.nD Cert.ReferenceEiIdeal.τ).loc Cert.ReferenceEiIdeal.main_arg0) = m' ((c.tc : Thread Cert.ReferenceEiIdeal.nD Cert.ReferenceEiIdeal.τ).loc Cert.ReferenceEiIdeal.main_arg0)
          ∧ r.2.mem ((c.tc : Thread Cert.ReferenceEiIdeal.nD Cert.ReferenceEiIdeal.τ).loc Cert.ReferenceEiIdeal.main_arg1) = m' ((c.tc : Thread Cert.ReferenceEiIdeal.nD Cert.ReferenceEiIdeal.τ).loc Cert.ReferenceEiIdeal.main_arg1)
          ∧ r.2.mem ((c.tc : Thread Cert.ReferenceEiIdeal.nD Cert.ReferenceEiIdeal.τ).loc Cert.ReferenceEiIdeal.main_arg2) = m' ((c.tc : Thread Cert.ReferenceEiIdeal.nD Cert.ReferenceEiIdeal.τ).loc Cert.ReferenceEiIdeal.main_arg2)
          ∧ r.2.mem ((c.tc : Thread Cert.ReferenceEiIdeal.nD Cert.ReferenceEiIdeal.τ).loc Cert.ReferenceEiIdeal.main_arg3) = m' ((c.tc : Thread Cert.ReferenceEiIdeal.nD Cert.ReferenceEiIdeal.τ).loc Cert.ReferenceEiIdeal.main_arg3)
          ∧ r.2.mem ((c.tc : Thread Cert.ReferenceEiIdeal.nD Cert.ReferenceEiIdeal.τ).loc Cert.ReferenceEiIdeal.main_arg4) = m' ((c.tc : Thread Cert.ReferenceEiIdeal.nD Cert.ReferenceEiIdeal.τ).loc Cert.ReferenceEiIdeal.main_arg4))

def preserves_KernelLn_KernelLnIdeal : Prop :=
  True

def algebraic_KernelLnIdeal_ReferenceLnIdeal_pre_finite_ln [hKernelLnIdeal : Cert.KernelLnIdeal.Facts] [hReferenceLnIdeal : Cert.ReferenceLnIdeal.Facts] [hPre_finite_ln : Cert.Pre_finite_ln.Facts] : Prop :=
  ∀ (m : (ℓ : Loc Cert.KernelLnIdeal.nD Cert.KernelLnIdeal.τ Cert.KernelLnIdeal.sig) → Buf (Elt Ideal) ℓ) (g : Dev Cert.KernelLnIdeal.nD → PrngReg)
    (m' : (ℓ : Loc Cert.ReferenceLnIdeal.nD Cert.ReferenceLnIdeal.τ Cert.ReferenceLnIdeal.sig) → Buf (Elt Ideal) ℓ) (g' : Dev Cert.ReferenceLnIdeal.nD → PrngReg), Pre_KernelLnIdeal_finite_ln m →
    (∀ c : Dev Cert.KernelLnIdeal.nD,
      m' ((c.tc : Thread Cert.ReferenceLnIdeal.nD Cert.ReferenceLnIdeal.τ).loc Cert.ReferenceLnIdeal.main_arg0) = m ((c.tc : Thread Cert.KernelLnIdeal.nD Cert.KernelLnIdeal.τ).loc Cert.KernelLnIdeal.main_arg0)
      ∧ m' ((c.tc : Thread Cert.ReferenceLnIdeal.nD Cert.ReferenceLnIdeal.τ).loc Cert.ReferenceLnIdeal.main_arg1) = m ((c.tc : Thread Cert.KernelLnIdeal.nD Cert.KernelLnIdeal.τ).loc Cert.KernelLnIdeal.main_arg1)
      ∧ m' ((c.tc : Thread Cert.ReferenceLnIdeal.nD Cert.ReferenceLnIdeal.τ).loc Cert.ReferenceLnIdeal.main_arg2) = m ((c.tc : Thread Cert.KernelLnIdeal.nD Cert.KernelLnIdeal.τ).loc Cert.KernelLnIdeal.main_arg2)
      ∧ m' ((c.tc : Thread Cert.ReferenceLnIdeal.nD Cert.ReferenceLnIdeal.τ).loc Cert.ReferenceLnIdeal.main_arg3) = m ((c.tc : Thread Cert.KernelLnIdeal.nD Cert.KernelLnIdeal.τ).loc Cert.KernelLnIdeal.main_arg3)
      ∧ m' ((c.tc : Thread Cert.ReferenceLnIdeal.nD Cert.ReferenceLnIdeal.τ).loc Cert.ReferenceLnIdeal.main_arg4) = m ((c.tc : Thread Cert.KernelLnIdeal.nD Cert.KernelLnIdeal.τ).loc Cert.KernelLnIdeal.main_arg4)) →
    ∃ (v0 : (c : Dev Cert.KernelLnIdeal.nD) → Buf (Elt Ideal) ((c.tc : Thread Cert.KernelLnIdeal.nD Cert.KernelLnIdeal.τ).loc Cert.KernelLnIdeal.main_v2_0)) (v1 : (c : Dev Cert.KernelLnIdeal.nD) → Buf (Elt Ideal) ((c.tc : Thread Cert.KernelLnIdeal.nD Cert.KernelLnIdeal.τ).loc Cert.KernelLnIdeal.main_v2_1)) (v2 : (c : Dev Cert.KernelLnIdeal.nD) → Buf (Elt Ideal) ((c.tc : Thread Cert.KernelLnIdeal.nD Cert.KernelLnIdeal.τ).loc Cert.KernelLnIdeal.main_v2_2)),
      θ_run (Cert.KernelLnIdeal.defs (F := Ideal)) (onTc (τ := Cert.KernelLnIdeal.τ) (Cert.KernelLnIdeal.main (F := Ideal))) ⟨m, fun _ => 0, g⟩ (fun r => ∀ c : Dev Cert.KernelLnIdeal.nD,
          r.2.mem ((c.tc : Thread Cert.KernelLnIdeal.nD Cert.KernelLnIdeal.τ).loc Cert.KernelLnIdeal.main_v2_0) = v0 c
          ∧ r.2.mem ((c.tc : Thread Cert.KernelLnIdeal.nD Cert.KernelLnIdeal.τ).loc Cert.KernelLnIdeal.main_v2_1) = v1 c
          ∧ r.2.mem ((c.tc : Thread Cert.KernelLnIdeal.nD Cert.KernelLnIdeal.τ).loc Cert.KernelLnIdeal.main_v2_2) = v2 c
          ∧ r.2.mem ((c.tc : Thread Cert.KernelLnIdeal.nD Cert.KernelLnIdeal.τ).loc Cert.KernelLnIdeal.main_arg0) = m ((c.tc : Thread Cert.KernelLnIdeal.nD Cert.KernelLnIdeal.τ).loc Cert.KernelLnIdeal.main_arg0)
          ∧ r.2.mem ((c.tc : Thread Cert.KernelLnIdeal.nD Cert.KernelLnIdeal.τ).loc Cert.KernelLnIdeal.main_arg1) = m ((c.tc : Thread Cert.KernelLnIdeal.nD Cert.KernelLnIdeal.τ).loc Cert.KernelLnIdeal.main_arg1)
          ∧ r.2.mem ((c.tc : Thread Cert.KernelLnIdeal.nD Cert.KernelLnIdeal.τ).loc Cert.KernelLnIdeal.main_arg2) = m ((c.tc : Thread Cert.KernelLnIdeal.nD Cert.KernelLnIdeal.τ).loc Cert.KernelLnIdeal.main_arg2)
          ∧ r.2.mem ((c.tc : Thread Cert.KernelLnIdeal.nD Cert.KernelLnIdeal.τ).loc Cert.KernelLnIdeal.main_arg3) = m ((c.tc : Thread Cert.KernelLnIdeal.nD Cert.KernelLnIdeal.τ).loc Cert.KernelLnIdeal.main_arg3)
          ∧ r.2.mem ((c.tc : Thread Cert.KernelLnIdeal.nD Cert.KernelLnIdeal.τ).loc Cert.KernelLnIdeal.main_arg4) = m ((c.tc : Thread Cert.KernelLnIdeal.nD Cert.KernelLnIdeal.τ).loc Cert.KernelLnIdeal.main_arg4))
      ∧ θ_run (Cert.ReferenceLnIdeal.defs (F := Ideal)) (onTc (τ := Cert.ReferenceLnIdeal.τ) (Cert.ReferenceLnIdeal.main (F := Ideal))) ⟨m', fun _ => 0, g'⟩ (fun r => ∀ c : Dev Cert.ReferenceLnIdeal.nD,
          r.2.mem ((c.tc : Thread Cert.ReferenceLnIdeal.nD Cert.ReferenceLnIdeal.τ).loc Cert.ReferenceLnIdeal.main_v56) = v0 c
          ∧ r.2.mem ((c.tc : Thread Cert.ReferenceLnIdeal.nD Cert.ReferenceLnIdeal.τ).loc Cert.ReferenceLnIdeal.main_v32) = v1 c
          ∧ r.2.mem ((c.tc : Thread Cert.ReferenceLnIdeal.nD Cert.ReferenceLnIdeal.τ).loc Cert.ReferenceLnIdeal.main_v29) = v2 c
          ∧ r.2.mem ((c.tc : Thread Cert.ReferenceLnIdeal.nD Cert.ReferenceLnIdeal.τ).loc Cert.ReferenceLnIdeal.main_arg0) = m' ((c.tc : Thread Cert.ReferenceLnIdeal.nD Cert.ReferenceLnIdeal.τ).loc Cert.ReferenceLnIdeal.main_arg0)
          ∧ r.2.mem ((c.tc : Thread Cert.ReferenceLnIdeal.nD Cert.ReferenceLnIdeal.τ).loc Cert.ReferenceLnIdeal.main_arg1) = m' ((c.tc : Thread Cert.ReferenceLnIdeal.nD Cert.ReferenceLnIdeal.τ).loc Cert.ReferenceLnIdeal.main_arg1)
          ∧ r.2.mem ((c.tc : Thread Cert.ReferenceLnIdeal.nD Cert.ReferenceLnIdeal.τ).loc Cert.ReferenceLnIdeal.main_arg2) = m' ((c.tc : Thread Cert.ReferenceLnIdeal.nD Cert.ReferenceLnIdeal.τ).loc Cert.ReferenceLnIdeal.main_arg2)
          ∧ r.2.mem ((c.tc : Thread Cert.ReferenceLnIdeal.nD Cert.ReferenceLnIdeal.τ).loc Cert.ReferenceLnIdeal.main_arg3) = m' ((c.tc : Thread Cert.ReferenceLnIdeal.nD Cert.ReferenceLnIdeal.τ).loc Cert.ReferenceLnIdeal.main_arg3)
          ∧ r.2.mem ((c.tc : Thread Cert.ReferenceLnIdeal.nD Cert.ReferenceLnIdeal.τ).loc Cert.ReferenceLnIdeal.main_arg4) = m' ((c.tc : Thread Cert.ReferenceLnIdeal.nD Cert.ReferenceLnIdeal.τ).loc Cert.ReferenceLnIdeal.main_arg4))

def preserves_KernelFf_KernelFfIdeal : Prop :=
  True

def algebraic_KernelFfIdeal_ReferenceFfIdeal_pre_finite_ffn [hKernelFfIdeal : Cert.KernelFfIdeal.Facts] [hReferenceFfIdeal : Cert.ReferenceFfIdeal.Facts] [hPre_finite_ffn : Cert.Pre_finite_ffn.Facts] : Prop :=
  ∀ (m : (ℓ : Loc Cert.KernelFfIdeal.nD Cert.KernelFfIdeal.τ Cert.KernelFfIdeal.sig) → Buf (Elt Ideal) ℓ) (g : Dev Cert.KernelFfIdeal.nD → PrngReg)
    (m' : (ℓ : Loc Cert.ReferenceFfIdeal.nD Cert.ReferenceFfIdeal.τ Cert.ReferenceFfIdeal.sig) → Buf (Elt Ideal) ℓ) (g' : Dev Cert.ReferenceFfIdeal.nD → PrngReg), Pre_KernelFfIdeal_finite_ffn m →
    (∀ c : Dev Cert.KernelFfIdeal.nD,
      m' ((c.tc : Thread Cert.ReferenceFfIdeal.nD Cert.ReferenceFfIdeal.τ).loc Cert.ReferenceFfIdeal.main_arg0) = m ((c.tc : Thread Cert.KernelFfIdeal.nD Cert.KernelFfIdeal.τ).loc Cert.KernelFfIdeal.main_arg0)
      ∧ m' ((c.tc : Thread Cert.ReferenceFfIdeal.nD Cert.ReferenceFfIdeal.τ).loc Cert.ReferenceFfIdeal.main_arg1) = m ((c.tc : Thread Cert.KernelFfIdeal.nD Cert.KernelFfIdeal.τ).loc Cert.KernelFfIdeal.main_arg1)
      ∧ m' ((c.tc : Thread Cert.ReferenceFfIdeal.nD Cert.ReferenceFfIdeal.τ).loc Cert.ReferenceFfIdeal.main_arg2) = m ((c.tc : Thread Cert.KernelFfIdeal.nD Cert.KernelFfIdeal.τ).loc Cert.KernelFfIdeal.main_arg2)
      ∧ m' ((c.tc : Thread Cert.ReferenceFfIdeal.nD Cert.ReferenceFfIdeal.τ).loc Cert.ReferenceFfIdeal.main_arg3) = m ((c.tc : Thread Cert.KernelFfIdeal.nD Cert.KernelFfIdeal.τ).loc Cert.KernelFfIdeal.main_arg3)
      ∧ m' ((c.tc : Thread Cert.ReferenceFfIdeal.nD Cert.ReferenceFfIdeal.τ).loc Cert.ReferenceFfIdeal.main_arg4) = m ((c.tc : Thread Cert.KernelFfIdeal.nD Cert.KernelFfIdeal.τ).loc Cert.KernelFfIdeal.main_arg4)
      ∧ m' ((c.tc : Thread Cert.ReferenceFfIdeal.nD Cert.ReferenceFfIdeal.τ).loc Cert.ReferenceFfIdeal.main_arg5) = m ((c.tc : Thread Cert.KernelFfIdeal.nD Cert.KernelFfIdeal.τ).loc Cert.KernelFfIdeal.main_arg5)) →
    ∃ (v0 : (c : Dev Cert.KernelFfIdeal.nD) → Buf (Elt Ideal) ((c.tc : Thread Cert.KernelFfIdeal.nD Cert.KernelFfIdeal.τ).loc Cert.KernelFfIdeal.main_v35_0)) (v1 : (c : Dev Cert.KernelFfIdeal.nD) → Buf (Elt Ideal) ((c.tc : Thread Cert.KernelFfIdeal.nD Cert.KernelFfIdeal.τ).loc Cert.KernelFfIdeal.main_v35_1)) (v2 : (c : Dev Cert.KernelFfIdeal.nD) → Buf (Elt Ideal) ((c.tc : Thread Cert.KernelFfIdeal.nD Cert.KernelFfIdeal.τ).loc Cert.KernelFfIdeal.main_v35_2)) (v3 : (c : Dev Cert.KernelFfIdeal.nD) → Buf (Elt Ideal) ((c.tc : Thread Cert.KernelFfIdeal.nD Cert.KernelFfIdeal.τ).loc Cert.KernelFfIdeal.main_v35_3)) (v4 : (c : Dev Cert.KernelFfIdeal.nD) → Buf (Elt Ideal) ((c.tc : Thread Cert.KernelFfIdeal.nD Cert.KernelFfIdeal.τ).loc Cert.KernelFfIdeal.main_v35_4)),
      θ_run (Cert.KernelFfIdeal.defs (F := Ideal)) (onTc (τ := Cert.KernelFfIdeal.τ) (Cert.KernelFfIdeal.main (F := Ideal))) ⟨m, fun _ => 0, g⟩ (fun r => ∀ c : Dev Cert.KernelFfIdeal.nD,
          r.2.mem ((c.tc : Thread Cert.KernelFfIdeal.nD Cert.KernelFfIdeal.τ).loc Cert.KernelFfIdeal.main_v35_0) = v0 c
          ∧ r.2.mem ((c.tc : Thread Cert.KernelFfIdeal.nD Cert.KernelFfIdeal.τ).loc Cert.KernelFfIdeal.main_v35_1) = v1 c
          ∧ r.2.mem ((c.tc : Thread Cert.KernelFfIdeal.nD Cert.KernelFfIdeal.τ).loc Cert.KernelFfIdeal.main_v35_2) = v2 c
          ∧ r.2.mem ((c.tc : Thread Cert.KernelFfIdeal.nD Cert.KernelFfIdeal.τ).loc Cert.KernelFfIdeal.main_v35_3) = v3 c
          ∧ r.2.mem ((c.tc : Thread Cert.KernelFfIdeal.nD Cert.KernelFfIdeal.τ).loc Cert.KernelFfIdeal.main_v35_4) = v4 c
          ∧ r.2.mem ((c.tc : Thread Cert.KernelFfIdeal.nD Cert.KernelFfIdeal.τ).loc Cert.KernelFfIdeal.main_arg0) = m ((c.tc : Thread Cert.KernelFfIdeal.nD Cert.KernelFfIdeal.τ).loc Cert.KernelFfIdeal.main_arg0)
          ∧ r.2.mem ((c.tc : Thread Cert.KernelFfIdeal.nD Cert.KernelFfIdeal.τ).loc Cert.KernelFfIdeal.main_arg1) = m ((c.tc : Thread Cert.KernelFfIdeal.nD Cert.KernelFfIdeal.τ).loc Cert.KernelFfIdeal.main_arg1)
          ∧ r.2.mem ((c.tc : Thread Cert.KernelFfIdeal.nD Cert.KernelFfIdeal.τ).loc Cert.KernelFfIdeal.main_arg2) = m ((c.tc : Thread Cert.KernelFfIdeal.nD Cert.KernelFfIdeal.τ).loc Cert.KernelFfIdeal.main_arg2)
          ∧ r.2.mem ((c.tc : Thread Cert.KernelFfIdeal.nD Cert.KernelFfIdeal.τ).loc Cert.KernelFfIdeal.main_arg3) = m ((c.tc : Thread Cert.KernelFfIdeal.nD Cert.KernelFfIdeal.τ).loc Cert.KernelFfIdeal.main_arg3)
          ∧ r.2.mem ((c.tc : Thread Cert.KernelFfIdeal.nD Cert.KernelFfIdeal.τ).loc Cert.KernelFfIdeal.main_arg4) = m ((c.tc : Thread Cert.KernelFfIdeal.nD Cert.KernelFfIdeal.τ).loc Cert.KernelFfIdeal.main_arg4)
          ∧ r.2.mem ((c.tc : Thread Cert.KernelFfIdeal.nD Cert.KernelFfIdeal.τ).loc Cert.KernelFfIdeal.main_arg5) = m ((c.tc : Thread Cert.KernelFfIdeal.nD Cert.KernelFfIdeal.τ).loc Cert.KernelFfIdeal.main_arg5))
      ∧ θ_run (Cert.ReferenceFfIdeal.defs (F := Ideal)) (onTc (τ := Cert.ReferenceFfIdeal.τ) (Cert.ReferenceFfIdeal.main (F := Ideal))) ⟨m', fun _ => 0, g'⟩ (fun r => ∀ c : Dev Cert.ReferenceFfIdeal.nD,
          r.2.mem ((c.tc : Thread Cert.ReferenceFfIdeal.nD Cert.ReferenceFfIdeal.τ).loc Cert.ReferenceFfIdeal.main_v69) = v0 c
          ∧ r.2.mem ((c.tc : Thread Cert.ReferenceFfIdeal.nD Cert.ReferenceFfIdeal.τ).loc Cert.ReferenceFfIdeal.main_v70) = v1 c
          ∧ r.2.mem ((c.tc : Thread Cert.ReferenceFfIdeal.nD Cert.ReferenceFfIdeal.τ).loc Cert.ReferenceFfIdeal.main_v71) = v2 c
          ∧ r.2.mem ((c.tc : Thread Cert.ReferenceFfIdeal.nD Cert.ReferenceFfIdeal.τ).loc Cert.ReferenceFfIdeal.main_v72) = v3 c
          ∧ r.2.mem ((c.tc : Thread Cert.ReferenceFfIdeal.nD Cert.ReferenceFfIdeal.τ).loc Cert.ReferenceFfIdeal.main_v52) = v4 c
          ∧ r.2.mem ((c.tc : Thread Cert.ReferenceFfIdeal.nD Cert.ReferenceFfIdeal.τ).loc Cert.ReferenceFfIdeal.main_arg0) = m' ((c.tc : Thread Cert.ReferenceFfIdeal.nD Cert.ReferenceFfIdeal.τ).loc Cert.ReferenceFfIdeal.main_arg0)
          ∧ r.2.mem ((c.tc : Thread Cert.ReferenceFfIdeal.nD Cert.ReferenceFfIdeal.τ).loc Cert.ReferenceFfIdeal.main_arg1) = m' ((c.tc : Thread Cert.ReferenceFfIdeal.nD Cert.ReferenceFfIdeal.τ).loc Cert.ReferenceFfIdeal.main_arg1)
          ∧ r.2.mem ((c.tc : Thread Cert.ReferenceFfIdeal.nD Cert.ReferenceFfIdeal.τ).loc Cert.ReferenceFfIdeal.main_arg2) = m' ((c.tc : Thread Cert.ReferenceFfIdeal.nD Cert.ReferenceFfIdeal.τ).loc Cert.ReferenceFfIdeal.main_arg2)
          ∧ r.2.mem ((c.tc : Thread Cert.ReferenceFfIdeal.nD Cert.ReferenceFfIdeal.τ).loc Cert.ReferenceFfIdeal.main_arg3) = m' ((c.tc : Thread Cert.ReferenceFfIdeal.nD Cert.ReferenceFfIdeal.τ).loc Cert.ReferenceFfIdeal.main_arg3)
          ∧ r.2.mem ((c.tc : Thread Cert.ReferenceFfIdeal.nD Cert.ReferenceFfIdeal.τ).loc Cert.ReferenceFfIdeal.main_arg4) = m' ((c.tc : Thread Cert.ReferenceFfIdeal.nD Cert.ReferenceFfIdeal.τ).loc Cert.ReferenceFfIdeal.main_arg4)
          ∧ r.2.mem ((c.tc : Thread Cert.ReferenceFfIdeal.nD Cert.ReferenceFfIdeal.τ).loc Cert.ReferenceFfIdeal.main_arg5) = m' ((c.tc : Thread Cert.ReferenceFfIdeal.nD Cert.ReferenceFfIdeal.τ).loc Cert.ReferenceFfIdeal.main_arg5))

def preserves_KernelAt_KernelAtIdeal : Prop :=
  True

def algebraic_KernelAtIdeal_ReferenceAtIdeal_pre_finite_attn [hKernelAtIdeal : Cert.KernelAtIdeal.Facts] [hReferenceAtIdeal : Cert.ReferenceAtIdeal.Facts] [hPre_finite_attn : Cert.Pre_finite_attn.Facts] : Prop :=
  ∀ (m : (ℓ : Loc Cert.KernelAtIdeal.nD Cert.KernelAtIdeal.τ Cert.KernelAtIdeal.sig) → Buf (Elt Ideal) ℓ) (g : Dev Cert.KernelAtIdeal.nD → PrngReg)
    (m' : (ℓ : Loc Cert.ReferenceAtIdeal.nD Cert.ReferenceAtIdeal.τ Cert.ReferenceAtIdeal.sig) → Buf (Elt Ideal) ℓ) (g' : Dev Cert.ReferenceAtIdeal.nD → PrngReg), Pre_KernelAtIdeal_finite_attn m →
    (∀ c : Dev Cert.KernelAtIdeal.nD,
      m' ((c.tc : Thread Cert.ReferenceAtIdeal.nD Cert.ReferenceAtIdeal.τ).loc Cert.ReferenceAtIdeal.main_arg0) = m ((c.tc : Thread Cert.KernelAtIdeal.nD Cert.KernelAtIdeal.τ).loc Cert.KernelAtIdeal.main_arg0)
      ∧ m' ((c.tc : Thread Cert.ReferenceAtIdeal.nD Cert.ReferenceAtIdeal.τ).loc Cert.ReferenceAtIdeal.main_arg1) = m ((c.tc : Thread Cert.KernelAtIdeal.nD Cert.KernelAtIdeal.τ).loc Cert.KernelAtIdeal.main_arg1)
      ∧ m' ((c.tc : Thread Cert.ReferenceAtIdeal.nD Cert.ReferenceAtIdeal.τ).loc Cert.ReferenceAtIdeal.main_arg2) = m ((c.tc : Thread Cert.KernelAtIdeal.nD Cert.KernelAtIdeal.τ).loc Cert.KernelAtIdeal.main_arg2)
      ∧ m' ((c.tc : Thread Cert.ReferenceAtIdeal.nD Cert.ReferenceAtIdeal.τ).loc Cert.ReferenceAtIdeal.main_arg3) = m ((c.tc : Thread Cert.KernelAtIdeal.nD Cert.KernelAtIdeal.τ).loc Cert.KernelAtIdeal.main_arg3)
      ∧ m' ((c.tc : Thread Cert.ReferenceAtIdeal.nD Cert.ReferenceAtIdeal.τ).loc Cert.ReferenceAtIdeal.main_arg4) = m ((c.tc : Thread Cert.KernelAtIdeal.nD Cert.KernelAtIdeal.τ).loc Cert.KernelAtIdeal.main_arg4)
      ∧ m' ((c.tc : Thread Cert.ReferenceAtIdeal.nD Cert.ReferenceAtIdeal.τ).loc Cert.ReferenceAtIdeal.main_arg5) = m ((c.tc : Thread Cert.KernelAtIdeal.nD Cert.KernelAtIdeal.τ).loc Cert.KernelAtIdeal.main_arg5)
      ∧ m' ((c.tc : Thread Cert.ReferenceAtIdeal.nD Cert.ReferenceAtIdeal.τ).loc Cert.ReferenceAtIdeal.main_arg6) = m ((c.tc : Thread Cert.KernelAtIdeal.nD Cert.KernelAtIdeal.τ).loc Cert.KernelAtIdeal.main_arg6)) →
    ∃ (v0 : (c : Dev Cert.KernelAtIdeal.nD) → Buf (Elt Ideal) ((c.tc : Thread Cert.KernelAtIdeal.nD Cert.KernelAtIdeal.τ).loc Cert.KernelAtIdeal.main_v21_0)) (v1 : (c : Dev Cert.KernelAtIdeal.nD) → Buf (Elt Ideal) ((c.tc : Thread Cert.KernelAtIdeal.nD Cert.KernelAtIdeal.τ).loc Cert.KernelAtIdeal.main_v21_1)) (v2 : (c : Dev Cert.KernelAtIdeal.nD) → Buf (Elt Ideal) ((c.tc : Thread Cert.KernelAtIdeal.nD Cert.KernelAtIdeal.τ).loc Cert.KernelAtIdeal.main_v21_2)) (v3 : (c : Dev Cert.KernelAtIdeal.nD) → Buf (Elt Ideal) ((c.tc : Thread Cert.KernelAtIdeal.nD Cert.KernelAtIdeal.τ).loc Cert.KernelAtIdeal.main_v21_3)) (v4 : (c : Dev Cert.KernelAtIdeal.nD) → Buf (Elt Ideal) ((c.tc : Thread Cert.KernelAtIdeal.nD Cert.KernelAtIdeal.τ).loc Cert.KernelAtIdeal.main_v21_4)) (v5 : (c : Dev Cert.KernelAtIdeal.nD) → Buf (Elt Ideal) ((c.tc : Thread Cert.KernelAtIdeal.nD Cert.KernelAtIdeal.τ).loc Cert.KernelAtIdeal.main_v21_5)),
      θ_run (Cert.KernelAtIdeal.defs (F := Ideal)) (onTc (τ := Cert.KernelAtIdeal.τ) (Cert.KernelAtIdeal.main (F := Ideal))) ⟨m, fun _ => 0, g⟩ (fun r => ∀ c : Dev Cert.KernelAtIdeal.nD,
          r.2.mem ((c.tc : Thread Cert.KernelAtIdeal.nD Cert.KernelAtIdeal.τ).loc Cert.KernelAtIdeal.main_v21_0) = v0 c
          ∧ r.2.mem ((c.tc : Thread Cert.KernelAtIdeal.nD Cert.KernelAtIdeal.τ).loc Cert.KernelAtIdeal.main_v21_1) = v1 c
          ∧ r.2.mem ((c.tc : Thread Cert.KernelAtIdeal.nD Cert.KernelAtIdeal.τ).loc Cert.KernelAtIdeal.main_v21_2) = v2 c
          ∧ r.2.mem ((c.tc : Thread Cert.KernelAtIdeal.nD Cert.KernelAtIdeal.τ).loc Cert.KernelAtIdeal.main_v21_3) = v3 c
          ∧ r.2.mem ((c.tc : Thread Cert.KernelAtIdeal.nD Cert.KernelAtIdeal.τ).loc Cert.KernelAtIdeal.main_v21_4) = v4 c
          ∧ r.2.mem ((c.tc : Thread Cert.KernelAtIdeal.nD Cert.KernelAtIdeal.τ).loc Cert.KernelAtIdeal.main_v21_5) = v5 c
          ∧ r.2.mem ((c.tc : Thread Cert.KernelAtIdeal.nD Cert.KernelAtIdeal.τ).loc Cert.KernelAtIdeal.main_arg0) = m ((c.tc : Thread Cert.KernelAtIdeal.nD Cert.KernelAtIdeal.τ).loc Cert.KernelAtIdeal.main_arg0)
          ∧ r.2.mem ((c.tc : Thread Cert.KernelAtIdeal.nD Cert.KernelAtIdeal.τ).loc Cert.KernelAtIdeal.main_arg1) = m ((c.tc : Thread Cert.KernelAtIdeal.nD Cert.KernelAtIdeal.τ).loc Cert.KernelAtIdeal.main_arg1)
          ∧ r.2.mem ((c.tc : Thread Cert.KernelAtIdeal.nD Cert.KernelAtIdeal.τ).loc Cert.KernelAtIdeal.main_arg2) = m ((c.tc : Thread Cert.KernelAtIdeal.nD Cert.KernelAtIdeal.τ).loc Cert.KernelAtIdeal.main_arg2)
          ∧ r.2.mem ((c.tc : Thread Cert.KernelAtIdeal.nD Cert.KernelAtIdeal.τ).loc Cert.KernelAtIdeal.main_arg3) = m ((c.tc : Thread Cert.KernelAtIdeal.nD Cert.KernelAtIdeal.τ).loc Cert.KernelAtIdeal.main_arg3)
          ∧ r.2.mem ((c.tc : Thread Cert.KernelAtIdeal.nD Cert.KernelAtIdeal.τ).loc Cert.KernelAtIdeal.main_arg4) = m ((c.tc : Thread Cert.KernelAtIdeal.nD Cert.KernelAtIdeal.τ).loc Cert.KernelAtIdeal.main_arg4)
          ∧ r.2.mem ((c.tc : Thread Cert.KernelAtIdeal.nD Cert.KernelAtIdeal.τ).loc Cert.KernelAtIdeal.main_arg5) = m ((c.tc : Thread Cert.KernelAtIdeal.nD Cert.KernelAtIdeal.τ).loc Cert.KernelAtIdeal.main_arg5)
          ∧ r.2.mem ((c.tc : Thread Cert.KernelAtIdeal.nD Cert.KernelAtIdeal.τ).loc Cert.KernelAtIdeal.main_arg6) = m ((c.tc : Thread Cert.KernelAtIdeal.nD Cert.KernelAtIdeal.τ).loc Cert.KernelAtIdeal.main_arg6))
      ∧ θ_run (Cert.ReferenceAtIdeal.defs (F := Ideal)) (onTc (τ := Cert.ReferenceAtIdeal.τ) (Cert.ReferenceAtIdeal.main (F := Ideal))) ⟨m', fun _ => 0, g'⟩ (fun r => ∀ c : Dev Cert.ReferenceAtIdeal.nD,
          r.2.mem ((c.tc : Thread Cert.ReferenceAtIdeal.nD Cert.ReferenceAtIdeal.τ).loc Cert.ReferenceAtIdeal.main_v175) = v0 c
          ∧ r.2.mem ((c.tc : Thread Cert.ReferenceAtIdeal.nD Cert.ReferenceAtIdeal.τ).loc Cert.ReferenceAtIdeal.main_v176) = v1 c
          ∧ r.2.mem ((c.tc : Thread Cert.ReferenceAtIdeal.nD Cert.ReferenceAtIdeal.τ).loc Cert.ReferenceAtIdeal.main_v177) = v2 c
          ∧ r.2.mem ((c.tc : Thread Cert.ReferenceAtIdeal.nD Cert.ReferenceAtIdeal.τ).loc Cert.ReferenceAtIdeal.main_v76) = v3 c
          ∧ r.2.mem ((c.tc : Thread Cert.ReferenceAtIdeal.nD Cert.ReferenceAtIdeal.τ).loc Cert.ReferenceAtIdeal.main_v75) = v4 c
          ∧ r.2.mem ((c.tc : Thread Cert.ReferenceAtIdeal.nD Cert.ReferenceAtIdeal.τ).loc Cert.ReferenceAtIdeal.main_v158) = v5 c
          ∧ r.2.mem ((c.tc : Thread Cert.ReferenceAtIdeal.nD Cert.ReferenceAtIdeal.τ).loc Cert.ReferenceAtIdeal.main_arg0) = m' ((c.tc : Thread Cert.ReferenceAtIdeal.nD Cert.ReferenceAtIdeal.τ).loc Cert.ReferenceAtIdeal.main_arg0)
          ∧ r.2.mem ((c.tc : Thread Cert.ReferenceAtIdeal.nD Cert.ReferenceAtIdeal.τ).loc Cert.ReferenceAtIdeal.main_arg1) = m' ((c.tc : Thread Cert.ReferenceAtIdeal.nD Cert.ReferenceAtIdeal.τ).loc Cert.ReferenceAtIdeal.main_arg1)
          ∧ r.2.mem ((c.tc : Thread Cert.ReferenceAtIdeal.nD Cert.ReferenceAtIdeal.τ).loc Cert.ReferenceAtIdeal.main_arg2) = m' ((c.tc : Thread Cert.ReferenceAtIdeal.nD Cert.ReferenceAtIdeal.τ).loc Cert.ReferenceAtIdeal.main_arg2)
          ∧ r.2.mem ((c.tc : Thread Cert.ReferenceAtIdeal.nD Cert.ReferenceAtIdeal.τ).loc Cert.ReferenceAtIdeal.main_arg3) = m' ((c.tc : Thread Cert.ReferenceAtIdeal.nD Cert.ReferenceAtIdeal.τ).loc Cert.ReferenceAtIdeal.main_arg3)
          ∧ r.2.mem ((c.tc : Thread Cert.ReferenceAtIdeal.nD Cert.ReferenceAtIdeal.τ).loc Cert.ReferenceAtIdeal.main_arg4) = m' ((c.tc : Thread Cert.ReferenceAtIdeal.nD Cert.ReferenceAtIdeal.τ).loc Cert.ReferenceAtIdeal.main_arg4)
          ∧ r.2.mem ((c.tc : Thread Cert.ReferenceAtIdeal.nD Cert.ReferenceAtIdeal.τ).loc Cert.ReferenceAtIdeal.main_arg5) = m' ((c.tc : Thread Cert.ReferenceAtIdeal.nD Cert.ReferenceAtIdeal.τ).loc Cert.ReferenceAtIdeal.main_arg5)
          ∧ r.2.mem ((c.tc : Thread Cert.ReferenceAtIdeal.nD Cert.ReferenceAtIdeal.τ).loc Cert.ReferenceAtIdeal.main_arg6) = m' ((c.tc : Thread Cert.ReferenceAtIdeal.nD Cert.ReferenceAtIdeal.τ).loc Cert.ReferenceAtIdeal.main_arg6))

def preserves_KernelLs_KernelLsIdeal : Prop :=
  True

def algebraic_KernelLsIdeal_ReferenceLsIdeal_pre_finite_loss [hKernelLsIdeal : Cert.KernelLsIdeal.Facts] [hReferenceLsIdeal : Cert.ReferenceLsIdeal.Facts] [hPre_finite_loss : Cert.Pre_finite_loss.Facts] : Prop :=
  ∀ (m : (ℓ : Loc Cert.KernelLsIdeal.nD Cert.KernelLsIdeal.τ Cert.KernelLsIdeal.sig) → Buf (Elt Ideal) ℓ) (g : Dev Cert.KernelLsIdeal.nD → PrngReg)
    (m' : (ℓ : Loc Cert.ReferenceLsIdeal.nD Cert.ReferenceLsIdeal.τ Cert.ReferenceLsIdeal.sig) → Buf (Elt Ideal) ℓ) (g' : Dev Cert.ReferenceLsIdeal.nD → PrngReg), Pre_KernelLsIdeal_finite_loss m →
    (∀ c : Dev Cert.KernelLsIdeal.nD,
      m' ((c.tc : Thread Cert.ReferenceLsIdeal.nD Cert.ReferenceLsIdeal.τ).loc Cert.ReferenceLsIdeal.main_arg0) = m ((c.tc : Thread Cert.KernelLsIdeal.nD Cert.KernelLsIdeal.τ).loc Cert.KernelLsIdeal.main_arg0)
      ∧ m' ((c.tc : Thread Cert.ReferenceLsIdeal.nD Cert.ReferenceLsIdeal.τ).loc Cert.ReferenceLsIdeal.main_arg1) = m ((c.tc : Thread Cert.KernelLsIdeal.nD Cert.KernelLsIdeal.τ).loc Cert.KernelLsIdeal.main_arg1)
      ∧ m' ((c.tc : Thread Cert.ReferenceLsIdeal.nD Cert.ReferenceLsIdeal.τ).loc Cert.ReferenceLsIdeal.main_arg2) = m ((c.tc : Thread Cert.KernelLsIdeal.nD Cert.KernelLsIdeal.τ).loc Cert.KernelLsIdeal.main_arg2)
      ∧ m' ((c.tc : Thread Cert.ReferenceLsIdeal.nD Cert.ReferenceLsIdeal.τ).loc Cert.ReferenceLsIdeal.main_arg3) = m ((c.tc : Thread Cert.KernelLsIdeal.nD Cert.KernelLsIdeal.τ).loc Cert.KernelLsIdeal.main_arg3)
      ∧ m' ((c.tc : Thread Cert.ReferenceLsIdeal.nD Cert.ReferenceLsIdeal.τ).loc Cert.ReferenceLsIdeal.main_arg4) = m ((c.tc : Thread Cert.KernelLsIdeal.nD Cert.KernelLsIdeal.τ).loc Cert.KernelLsIdeal.main_arg4)
      ∧ m' ((c.tc : Thread Cert.ReferenceLsIdeal.nD Cert.ReferenceLsIdeal.τ).loc Cert.ReferenceLsIdeal.main_arg5) = m ((c.tc : Thread Cert.KernelLsIdeal.nD Cert.KernelLsIdeal.τ).loc Cert.KernelLsIdeal.main_arg5)
      ∧ m' ((c.tc : Thread Cert.ReferenceLsIdeal.nD Cert.ReferenceLsIdeal.τ).loc Cert.ReferenceLsIdeal.main_arg6) = m ((c.tc : Thread Cert.KernelLsIdeal.nD Cert.KernelLsIdeal.τ).loc Cert.KernelLsIdeal.main_arg6)) →
    ∃ (v0 : (c : Dev Cert.KernelLsIdeal.nD) → Buf (Elt Ideal) ((c.tc : Thread Cert.KernelLsIdeal.nD Cert.KernelLsIdeal.τ).loc Cert.KernelLsIdeal.main_v5_0)) (v1 : (c : Dev Cert.KernelLsIdeal.nD) → Buf (Elt Ideal) ((c.tc : Thread Cert.KernelLsIdeal.nD Cert.KernelLsIdeal.τ).loc Cert.KernelLsIdeal.main_v5_1)) (v2 : (c : Dev Cert.KernelLsIdeal.nD) → Buf (Elt Ideal) ((c.tc : Thread Cert.KernelLsIdeal.nD Cert.KernelLsIdeal.τ).loc Cert.KernelLsIdeal.main_v5_2)) (v3 : (c : Dev Cert.KernelLsIdeal.nD) → Buf (Elt Ideal) ((c.tc : Thread Cert.KernelLsIdeal.nD Cert.KernelLsIdeal.τ).loc Cert.KernelLsIdeal.main_v5_3)) (v4 : (c : Dev Cert.KernelLsIdeal.nD) → Buf (Elt Ideal) ((c.tc : Thread Cert.KernelLsIdeal.nD Cert.KernelLsIdeal.τ).loc Cert.KernelLsIdeal.main_v5_4)) (v5 : (c : Dev Cert.KernelLsIdeal.nD) → Buf (Elt Ideal) ((c.tc : Thread Cert.KernelLsIdeal.nD Cert.KernelLsIdeal.τ).loc Cert.KernelLsIdeal.main_v5_5)) (v6 : (c : Dev Cert.KernelLsIdeal.nD) → Buf (Elt Ideal) ((c.tc : Thread Cert.KernelLsIdeal.nD Cert.KernelLsIdeal.τ).loc Cert.KernelLsIdeal.main_v5_6)) (v7 : (c : Dev Cert.KernelLsIdeal.nD) → Buf (Elt Ideal) ((c.tc : Thread Cert.KernelLsIdeal.nD Cert.KernelLsIdeal.τ).loc Cert.KernelLsIdeal.main_v5_7)) (v8 : (c : Dev Cert.KernelLsIdeal.nD) → Buf (Elt Ideal) ((c.tc : Thread Cert.KernelLsIdeal.nD Cert.KernelLsIdeal.τ).loc Cert.KernelLsIdeal.main_v5_8)),
      θ_run (Cert.KernelLsIdeal.defs (F := Ideal)) (onTc (τ := Cert.KernelLsIdeal.τ) (Cert.KernelLsIdeal.main (F := Ideal))) ⟨m, fun _ => 0, g⟩ (fun r => ∀ c : Dev Cert.KernelLsIdeal.nD,
          r.2.mem ((c.tc : Thread Cert.KernelLsIdeal.nD Cert.KernelLsIdeal.τ).loc Cert.KernelLsIdeal.main_v5_0) = v0 c
          ∧ r.2.mem ((c.tc : Thread Cert.KernelLsIdeal.nD Cert.KernelLsIdeal.τ).loc Cert.KernelLsIdeal.main_v5_1) = v1 c
          ∧ r.2.mem ((c.tc : Thread Cert.KernelLsIdeal.nD Cert.KernelLsIdeal.τ).loc Cert.KernelLsIdeal.main_v5_2) = v2 c
          ∧ r.2.mem ((c.tc : Thread Cert.KernelLsIdeal.nD Cert.KernelLsIdeal.τ).loc Cert.KernelLsIdeal.main_v5_3) = v3 c
          ∧ r.2.mem ((c.tc : Thread Cert.KernelLsIdeal.nD Cert.KernelLsIdeal.τ).loc Cert.KernelLsIdeal.main_v5_4) = v4 c
          ∧ r.2.mem ((c.tc : Thread Cert.KernelLsIdeal.nD Cert.KernelLsIdeal.τ).loc Cert.KernelLsIdeal.main_v5_5) = v5 c
          ∧ r.2.mem ((c.tc : Thread Cert.KernelLsIdeal.nD Cert.KernelLsIdeal.τ).loc Cert.KernelLsIdeal.main_v5_6) = v6 c
          ∧ r.2.mem ((c.tc : Thread Cert.KernelLsIdeal.nD Cert.KernelLsIdeal.τ).loc Cert.KernelLsIdeal.main_v5_7) = v7 c
          ∧ r.2.mem ((c.tc : Thread Cert.KernelLsIdeal.nD Cert.KernelLsIdeal.τ).loc Cert.KernelLsIdeal.main_v5_8) = v8 c
          ∧ r.2.mem ((c.tc : Thread Cert.KernelLsIdeal.nD Cert.KernelLsIdeal.τ).loc Cert.KernelLsIdeal.main_arg0) = m ((c.tc : Thread Cert.KernelLsIdeal.nD Cert.KernelLsIdeal.τ).loc Cert.KernelLsIdeal.main_arg0)
          ∧ r.2.mem ((c.tc : Thread Cert.KernelLsIdeal.nD Cert.KernelLsIdeal.τ).loc Cert.KernelLsIdeal.main_arg1) = m ((c.tc : Thread Cert.KernelLsIdeal.nD Cert.KernelLsIdeal.τ).loc Cert.KernelLsIdeal.main_arg1)
          ∧ r.2.mem ((c.tc : Thread Cert.KernelLsIdeal.nD Cert.KernelLsIdeal.τ).loc Cert.KernelLsIdeal.main_arg2) = m ((c.tc : Thread Cert.KernelLsIdeal.nD Cert.KernelLsIdeal.τ).loc Cert.KernelLsIdeal.main_arg2)
          ∧ r.2.mem ((c.tc : Thread Cert.KernelLsIdeal.nD Cert.KernelLsIdeal.τ).loc Cert.KernelLsIdeal.main_arg3) = m ((c.tc : Thread Cert.KernelLsIdeal.nD Cert.KernelLsIdeal.τ).loc Cert.KernelLsIdeal.main_arg3)
          ∧ r.2.mem ((c.tc : Thread Cert.KernelLsIdeal.nD Cert.KernelLsIdeal.τ).loc Cert.KernelLsIdeal.main_arg4) = m ((c.tc : Thread Cert.KernelLsIdeal.nD Cert.KernelLsIdeal.τ).loc Cert.KernelLsIdeal.main_arg4)
          ∧ r.2.mem ((c.tc : Thread Cert.KernelLsIdeal.nD Cert.KernelLsIdeal.τ).loc Cert.KernelLsIdeal.main_arg5) = m ((c.tc : Thread Cert.KernelLsIdeal.nD Cert.KernelLsIdeal.τ).loc Cert.KernelLsIdeal.main_arg5)
          ∧ r.2.mem ((c.tc : Thread Cert.KernelLsIdeal.nD Cert.KernelLsIdeal.τ).loc Cert.KernelLsIdeal.main_arg6) = m ((c.tc : Thread Cert.KernelLsIdeal.nD Cert.KernelLsIdeal.τ).loc Cert.KernelLsIdeal.main_arg6))
      ∧ θ_run (Cert.ReferenceLsIdeal.defs (F := Ideal)) (onTc (τ := Cert.ReferenceLsIdeal.τ) (Cert.ReferenceLsIdeal.main (F := Ideal))) ⟨m', fun _ => 0, g'⟩ (fun r => ∀ c : Dev Cert.ReferenceLsIdeal.nD,
          r.2.mem ((c.tc : Thread Cert.ReferenceLsIdeal.nD Cert.ReferenceLsIdeal.τ).loc Cert.ReferenceLsIdeal.main_v70) = v0 c
          ∧ r.2.mem ((c.tc : Thread Cert.ReferenceLsIdeal.nD Cert.ReferenceLsIdeal.τ).loc Cert.ReferenceLsIdeal.main_v79) = v1 c
          ∧ r.2.mem ((c.tc : Thread Cert.ReferenceLsIdeal.nD Cert.ReferenceLsIdeal.τ).loc Cert.ReferenceLsIdeal.main_v54) = v2 c
          ∧ r.2.mem ((c.tc : Thread Cert.ReferenceLsIdeal.nD Cert.ReferenceLsIdeal.τ).loc Cert.ReferenceLsIdeal.main_v80) = v3 c
          ∧ r.2.mem ((c.tc : Thread Cert.ReferenceLsIdeal.nD Cert.ReferenceLsIdeal.τ).loc Cert.ReferenceLsIdeal.main_v81) = v4 c
          ∧ r.2.mem ((c.tc : Thread Cert.ReferenceLsIdeal.nD Cert.ReferenceLsIdeal.τ).loc Cert.ReferenceLsIdeal.main_v78) = v5 c
          ∧ r.2.mem ((c.tc : Thread Cert.ReferenceLsIdeal.nD Cert.ReferenceLsIdeal.τ).loc Cert.ReferenceLsIdeal.main_v82) = v6 c
          ∧ r.2.mem ((c.tc : Thread Cert.ReferenceLsIdeal.nD Cert.ReferenceLsIdeal.τ).loc Cert.ReferenceLsIdeal.main_v83) = v7 c
          ∧ r.2.mem ((c.tc : Thread Cert.ReferenceLsIdeal.nD Cert.ReferenceLsIdeal.τ).loc Cert.ReferenceLsIdeal.main_v84) = v8 c
          ∧ r.2.mem ((c.tc : Thread Cert.ReferenceLsIdeal.nD Cert.ReferenceLsIdeal.τ).loc Cert.ReferenceLsIdeal.main_arg0) = m' ((c.tc : Thread Cert.ReferenceLsIdeal.nD Cert.ReferenceLsIdeal.τ).loc Cert.ReferenceLsIdeal.main_arg0)
          ∧ r.2.mem ((c.tc : Thread Cert.ReferenceLsIdeal.nD Cert.ReferenceLsIdeal.τ).loc Cert.ReferenceLsIdeal.main_arg1) = m' ((c.tc : Thread Cert.ReferenceLsIdeal.nD Cert.ReferenceLsIdeal.τ).loc Cert.ReferenceLsIdeal.main_arg1)
          ∧ r.2.mem ((c.tc : Thread Cert.ReferenceLsIdeal.nD Cert.ReferenceLsIdeal.τ).loc Cert.ReferenceLsIdeal.main_arg2) = m' ((c.tc : Thread Cert.ReferenceLsIdeal.nD Cert.ReferenceLsIdeal.τ).loc Cert.ReferenceLsIdeal.main_arg2)
          ∧ r.2.mem ((c.tc : Thread Cert.ReferenceLsIdeal.nD Cert.ReferenceLsIdeal.τ).loc Cert.ReferenceLsIdeal.main_arg3) = m' ((c.tc : Thread Cert.ReferenceLsIdeal.nD Cert.ReferenceLsIdeal.τ).loc Cert.ReferenceLsIdeal.main_arg3)
          ∧ r.2.mem ((c.tc : Thread Cert.ReferenceLsIdeal.nD Cert.ReferenceLsIdeal.τ).loc Cert.ReferenceLsIdeal.main_arg4) = m' ((c.tc : Thread Cert.ReferenceLsIdeal.nD Cert.ReferenceLsIdeal.τ).loc Cert.ReferenceLsIdeal.main_arg4)
          ∧ r.2.mem ((c.tc : Thread Cert.ReferenceLsIdeal.nD Cert.ReferenceLsIdeal.τ).loc Cert.ReferenceLsIdeal.main_arg5) = m' ((c.tc : Thread Cert.ReferenceLsIdeal.nD Cert.ReferenceLsIdeal.τ).loc Cert.ReferenceLsIdeal.main_arg5)
          ∧ r.2.mem ((c.tc : Thread Cert.ReferenceLsIdeal.nD Cert.ReferenceLsIdeal.τ).loc Cert.ReferenceLsIdeal.main_arg6) = m' ((c.tc : Thread Cert.ReferenceLsIdeal.nD Cert.ReferenceLsIdeal.τ).loc Cert.ReferenceLsIdeal.main_arg6))

def preserves_KernelAf_KernelAfIdeal : Prop :=
  True

def algebraic_KernelAfIdeal_ReferenceAfIdeal [hKernelAfIdeal : Cert.KernelAfIdeal.Facts] [hReferenceAfIdeal : Cert.ReferenceAfIdeal.Facts] : Prop :=
  ∀ (m : (ℓ : Loc Cert.KernelAfIdeal.nD Cert.KernelAfIdeal.τ Cert.KernelAfIdeal.sig) → Buf (Elt Ideal) ℓ) (g : Dev Cert.KernelAfIdeal.nD → PrngReg)
    (m' : (ℓ : Loc Cert.ReferenceAfIdeal.nD Cert.ReferenceAfIdeal.τ Cert.ReferenceAfIdeal.sig) → Buf (Elt Ideal) ℓ) (g' : Dev Cert.ReferenceAfIdeal.nD → PrngReg), Pre_KernelAfIdeal m →
    (∀ c : Dev Cert.KernelAfIdeal.nD,
      m' ((c.tc : Thread Cert.ReferenceAfIdeal.nD Cert.ReferenceAfIdeal.τ).loc Cert.ReferenceAfIdeal.main_arg0) = m ((c.tc : Thread Cert.KernelAfIdeal.nD Cert.KernelAfIdeal.τ).loc Cert.KernelAfIdeal.main_arg0)
      ∧ m' ((c.tc : Thread Cert.ReferenceAfIdeal.nD Cert.ReferenceAfIdeal.τ).loc Cert.ReferenceAfIdeal.main_arg1) = m ((c.tc : Thread Cert.KernelAfIdeal.nD Cert.KernelAfIdeal.τ).loc Cert.KernelAfIdeal.main_arg1)
      ∧ m' ((c.tc : Thread Cert.ReferenceAfIdeal.nD Cert.ReferenceAfIdeal.τ).loc Cert.ReferenceAfIdeal.main_arg2) = m ((c.tc : Thread Cert.KernelAfIdeal.nD Cert.KernelAfIdeal.τ).loc Cert.KernelAfIdeal.main_arg2)
      ∧ m' ((c.tc : Thread Cert.ReferenceAfIdeal.nD Cert.ReferenceAfIdeal.τ).loc Cert.ReferenceAfIdeal.main_arg3) = m ((c.tc : Thread Cert.KernelAfIdeal.nD Cert.KernelAfIdeal.τ).loc Cert.KernelAfIdeal.main_arg3)
      ∧ m' ((c.tc : Thread Cert.ReferenceAfIdeal.nD Cert.ReferenceAfIdeal.τ).loc Cert.ReferenceAfIdeal.main_arg4) = m ((c.tc : Thread Cert.KernelAfIdeal.nD Cert.KernelAfIdeal.τ).loc Cert.KernelAfIdeal.main_arg4)
      ∧ m' ((c.tc : Thread Cert.ReferenceAfIdeal.nD Cert.ReferenceAfIdeal.τ).loc Cert.ReferenceAfIdeal.main_arg5) = m ((c.tc : Thread Cert.KernelAfIdeal.nD Cert.KernelAfIdeal.τ).loc Cert.KernelAfIdeal.main_arg5)) →
    ∃ (v0 : (c : Dev Cert.KernelAfIdeal.nD) → Buf (Elt Ideal) ((c.tc : Thread Cert.KernelAfIdeal.nD Cert.KernelAfIdeal.τ).loc Cert.KernelAfIdeal.main_v4_0)) (v1 : (c : Dev Cert.KernelAfIdeal.nD) → Buf (Elt Ideal) ((c.tc : Thread Cert.KernelAfIdeal.nD Cert.KernelAfIdeal.τ).loc Cert.KernelAfIdeal.main_v4_1)) (v2 : (c : Dev Cert.KernelAfIdeal.nD) → Buf (Elt Ideal) ((c.tc : Thread Cert.KernelAfIdeal.nD Cert.KernelAfIdeal.τ).loc Cert.KernelAfIdeal.main_v4_2)) (v3 : (c : Dev Cert.KernelAfIdeal.nD) → Buf (Elt Ideal) ((c.tc : Thread Cert.KernelAfIdeal.nD Cert.KernelAfIdeal.τ).loc Cert.KernelAfIdeal.main_v4_3)) (v4 : (c : Dev Cert.KernelAfIdeal.nD) → Buf (Elt Ideal) ((c.tc : Thread Cert.KernelAfIdeal.nD Cert.KernelAfIdeal.τ).loc Cert.KernelAfIdeal.main_v4_4)),
      θ_run (Cert.KernelAfIdeal.defs (F := Ideal)) (onTc (τ := Cert.KernelAfIdeal.τ) (Cert.KernelAfIdeal.main (F := Ideal))) ⟨m, fun _ => 0, g⟩ (fun r => ∀ c : Dev Cert.KernelAfIdeal.nD,
          r.2.mem ((c.tc : Thread Cert.KernelAfIdeal.nD Cert.KernelAfIdeal.τ).loc Cert.KernelAfIdeal.main_v4_0) = v0 c
          ∧ r.2.mem ((c.tc : Thread Cert.KernelAfIdeal.nD Cert.KernelAfIdeal.τ).loc Cert.KernelAfIdeal.main_v4_1) = v1 c
          ∧ r.2.mem ((c.tc : Thread Cert.KernelAfIdeal.nD Cert.KernelAfIdeal.τ).loc Cert.KernelAfIdeal.main_v4_2) = v2 c
          ∧ r.2.mem ((c.tc : Thread Cert.KernelAfIdeal.nD Cert.KernelAfIdeal.τ).loc Cert.KernelAfIdeal.main_v4_3) = v3 c
          ∧ r.2.mem ((c.tc : Thread Cert.KernelAfIdeal.nD Cert.KernelAfIdeal.τ).loc Cert.KernelAfIdeal.main_v4_4) = v4 c
          ∧ r.2.mem ((c.tc : Thread Cert.KernelAfIdeal.nD Cert.KernelAfIdeal.τ).loc Cert.KernelAfIdeal.main_arg0) = m ((c.tc : Thread Cert.KernelAfIdeal.nD Cert.KernelAfIdeal.τ).loc Cert.KernelAfIdeal.main_arg0)
          ∧ r.2.mem ((c.tc : Thread Cert.KernelAfIdeal.nD Cert.KernelAfIdeal.τ).loc Cert.KernelAfIdeal.main_arg1) = m ((c.tc : Thread Cert.KernelAfIdeal.nD Cert.KernelAfIdeal.τ).loc Cert.KernelAfIdeal.main_arg1)
          ∧ r.2.mem ((c.tc : Thread Cert.KernelAfIdeal.nD Cert.KernelAfIdeal.τ).loc Cert.KernelAfIdeal.main_arg2) = m ((c.tc : Thread Cert.KernelAfIdeal.nD Cert.KernelAfIdeal.τ).loc Cert.KernelAfIdeal.main_arg2)
          ∧ r.2.mem ((c.tc : Thread Cert.KernelAfIdeal.nD Cert.KernelAfIdeal.τ).loc Cert.KernelAfIdeal.main_arg3) = m ((c.tc : Thread Cert.KernelAfIdeal.nD Cert.KernelAfIdeal.τ).loc Cert.KernelAfIdeal.main_arg3)
          ∧ r.2.mem ((c.tc : Thread Cert.KernelAfIdeal.nD Cert.KernelAfIdeal.τ).loc Cert.KernelAfIdeal.main_arg4) = m ((c.tc : Thread Cert.KernelAfIdeal.nD Cert.KernelAfIdeal.τ).loc Cert.KernelAfIdeal.main_arg4)
          ∧ r.2.mem ((c.tc : Thread Cert.KernelAfIdeal.nD Cert.KernelAfIdeal.τ).loc Cert.KernelAfIdeal.main_arg5) = m ((c.tc : Thread Cert.KernelAfIdeal.nD Cert.KernelAfIdeal.τ).loc Cert.KernelAfIdeal.main_arg5))
      ∧ θ_run (Cert.ReferenceAfIdeal.defs (F := Ideal)) (onTc (τ := Cert.ReferenceAfIdeal.τ) (Cert.ReferenceAfIdeal.main (F := Ideal))) ⟨m', fun _ => 0, g'⟩ (fun r => ∀ c : Dev Cert.ReferenceAfIdeal.nD,
          r.2.mem ((c.tc : Thread Cert.ReferenceAfIdeal.nD Cert.ReferenceAfIdeal.τ).loc Cert.ReferenceAfIdeal.main_v42) = v0 c
          ∧ r.2.mem ((c.tc : Thread Cert.ReferenceAfIdeal.nD Cert.ReferenceAfIdeal.τ).loc Cert.ReferenceAfIdeal.main_v43) = v1 c
          ∧ r.2.mem ((c.tc : Thread Cert.ReferenceAfIdeal.nD Cert.ReferenceAfIdeal.τ).loc Cert.ReferenceAfIdeal.main_v40) = v2 c
          ∧ r.2.mem ((c.tc : Thread Cert.ReferenceAfIdeal.nD Cert.ReferenceAfIdeal.τ).loc Cert.ReferenceAfIdeal.main_v44) = v3 c
          ∧ r.2.mem ((c.tc : Thread Cert.ReferenceAfIdeal.nD Cert.ReferenceAfIdeal.τ).loc Cert.ReferenceAfIdeal.main_v45) = v4 c
          ∧ r.2.mem ((c.tc : Thread Cert.ReferenceAfIdeal.nD Cert.ReferenceAfIdeal.τ).loc Cert.ReferenceAfIdeal.main_arg0) = m' ((c.tc : Thread Cert.ReferenceAfIdeal.nD Cert.ReferenceAfIdeal.τ).loc Cert.ReferenceAfIdeal.main_arg0)
          ∧ r.2.mem ((c.tc : Thread Cert.ReferenceAfIdeal.nD Cert.ReferenceAfIdeal.τ).loc Cert.ReferenceAfIdeal.main_arg1) = m' ((c.tc : Thread Cert.ReferenceAfIdeal.nD Cert.ReferenceAfIdeal.τ).loc Cert.ReferenceAfIdeal.main_arg1)
          ∧ r.2.mem ((c.tc : Thread Cert.ReferenceAfIdeal.nD Cert.ReferenceAfIdeal.τ).loc Cert.ReferenceAfIdeal.main_arg2) = m' ((c.tc : Thread Cert.ReferenceAfIdeal.nD Cert.ReferenceAfIdeal.τ).loc Cert.ReferenceAfIdeal.main_arg2)
          ∧ r.2.mem ((c.tc : Thread Cert.ReferenceAfIdeal.nD Cert.ReferenceAfIdeal.τ).loc Cert.ReferenceAfIdeal.main_arg3) = m' ((c.tc : Thread Cert.ReferenceAfIdeal.nD Cert.ReferenceAfIdeal.τ).loc Cert.ReferenceAfIdeal.main_arg3)
          ∧ r.2.mem ((c.tc : Thread Cert.ReferenceAfIdeal.nD Cert.ReferenceAfIdeal.τ).loc Cert.ReferenceAfIdeal.main_arg4) = m' ((c.tc : Thread Cert.ReferenceAfIdeal.nD Cert.ReferenceAfIdeal.τ).loc Cert.ReferenceAfIdeal.main_arg4)
          ∧ r.2.mem ((c.tc : Thread Cert.ReferenceAfIdeal.nD Cert.ReferenceAfIdeal.τ).loc Cert.ReferenceAfIdeal.main_arg5) = m' ((c.tc : Thread Cert.ReferenceAfIdeal.nD Cert.ReferenceAfIdeal.τ).loc Cert.ReferenceAfIdeal.main_arg5))

def preserves_KernelGm_KernelGmIdeal : Prop :=
  IdealRules.named_const.Statement Cert.KernelGmIdeal.κ "cubic" .f32 0x3D372713#32 ((8943 / 200000 : ℝ) : EReal)
  ∧ IdealRules.named_const.Statement Cert.KernelGmIdeal.κ "cubic3" .f32 0x3E095D4F#32 ((26829 / 200000 : ℝ) : EReal)

def algebraic_KernelGmIdeal_ReferenceGmIdeal_pre_finite_gmlp [hKernelGmIdeal : Cert.KernelGmIdeal.Facts] [hReferenceGmIdeal : Cert.ReferenceGmIdeal.Facts] [hPre_finite_gmlp : Cert.Pre_finite_gmlp.Facts] : Prop :=
  ∀ (m : (ℓ : Loc Cert.KernelGmIdeal.nD Cert.KernelGmIdeal.τ Cert.KernelGmIdeal.sig) → Buf (Elt Ideal) ℓ) (g : Dev Cert.KernelGmIdeal.nD → PrngReg)
    (m' : (ℓ : Loc Cert.ReferenceGmIdeal.nD Cert.ReferenceGmIdeal.τ Cert.ReferenceGmIdeal.sig) → Buf (Elt Ideal) ℓ) (g' : Dev Cert.ReferenceGmIdeal.nD → PrngReg), Pre_KernelGmIdeal_finite_gmlp m →
    (∀ c : Dev Cert.KernelGmIdeal.nD,
      m' ((c.tc : Thread Cert.ReferenceGmIdeal.nD Cert.ReferenceGmIdeal.τ).loc Cert.ReferenceGmIdeal.main_arg0) = m ((c.tc : Thread Cert.KernelGmIdeal.nD Cert.KernelGmIdeal.τ).loc Cert.KernelGmIdeal.main_arg0)
      ∧ m' ((c.tc : Thread Cert.ReferenceGmIdeal.nD Cert.ReferenceGmIdeal.τ).loc Cert.ReferenceGmIdeal.main_arg1) = m ((c.tc : Thread Cert.KernelGmIdeal.nD Cert.KernelGmIdeal.τ).loc Cert.KernelGmIdeal.main_arg1)
      ∧ m' ((c.tc : Thread Cert.ReferenceGmIdeal.nD Cert.ReferenceGmIdeal.τ).loc Cert.ReferenceGmIdeal.main_arg2) = m ((c.tc : Thread Cert.KernelGmIdeal.nD Cert.KernelGmIdeal.τ).loc Cert.KernelGmIdeal.main_arg2)
      ∧ m' ((c.tc : Thread Cert.ReferenceGmIdeal.nD Cert.ReferenceGmIdeal.τ).loc Cert.ReferenceGmIdeal.main_arg3) = m ((c.tc : Thread Cert.KernelGmIdeal.nD Cert.KernelGmIdeal.τ).loc Cert.KernelGmIdeal.main_arg3)
      ∧ m' ((c.tc : Thread Cert.ReferenceGmIdeal.nD Cert.ReferenceGmIdeal.τ).loc Cert.ReferenceGmIdeal.main_arg4) = m ((c.tc : Thread Cert.KernelGmIdeal.nD Cert.KernelGmIdeal.τ).loc Cert.KernelGmIdeal.main_arg4)) →
    ∃ (v0 : (c : Dev Cert.KernelGmIdeal.nD) → Buf (Elt Ideal) ((c.tc : Thread Cert.KernelGmIdeal.nD Cert.KernelGmIdeal.τ).loc Cert.KernelGmIdeal.main_v3_0)) (v1 : (c : Dev Cert.KernelGmIdeal.nD) → Buf (Elt Ideal) ((c.tc : Thread Cert.KernelGmIdeal.nD Cert.KernelGmIdeal.τ).loc Cert.KernelGmIdeal.main_v3_1)) (v2 : (c : Dev Cert.KernelGmIdeal.nD) → Buf (Elt Ideal) ((c.tc : Thread Cert.KernelGmIdeal.nD Cert.KernelGmIdeal.τ).loc Cert.KernelGmIdeal.main_v3_2)),
      θ_run (Cert.KernelGmIdeal.defs (F := Ideal)) (onTc (τ := Cert.KernelGmIdeal.τ) (Cert.KernelGmIdeal.main (F := Ideal))) ⟨m, fun _ => 0, g⟩ (fun r => ∀ c : Dev Cert.KernelGmIdeal.nD,
          r.2.mem ((c.tc : Thread Cert.KernelGmIdeal.nD Cert.KernelGmIdeal.τ).loc Cert.KernelGmIdeal.main_v3_0) = v0 c
          ∧ r.2.mem ((c.tc : Thread Cert.KernelGmIdeal.nD Cert.KernelGmIdeal.τ).loc Cert.KernelGmIdeal.main_v3_1) = v1 c
          ∧ r.2.mem ((c.tc : Thread Cert.KernelGmIdeal.nD Cert.KernelGmIdeal.τ).loc Cert.KernelGmIdeal.main_v3_2) = v2 c
          ∧ r.2.mem ((c.tc : Thread Cert.KernelGmIdeal.nD Cert.KernelGmIdeal.τ).loc Cert.KernelGmIdeal.main_arg0) = m ((c.tc : Thread Cert.KernelGmIdeal.nD Cert.KernelGmIdeal.τ).loc Cert.KernelGmIdeal.main_arg0)
          ∧ r.2.mem ((c.tc : Thread Cert.KernelGmIdeal.nD Cert.KernelGmIdeal.τ).loc Cert.KernelGmIdeal.main_arg1) = m ((c.tc : Thread Cert.KernelGmIdeal.nD Cert.KernelGmIdeal.τ).loc Cert.KernelGmIdeal.main_arg1)
          ∧ r.2.mem ((c.tc : Thread Cert.KernelGmIdeal.nD Cert.KernelGmIdeal.τ).loc Cert.KernelGmIdeal.main_arg2) = m ((c.tc : Thread Cert.KernelGmIdeal.nD Cert.KernelGmIdeal.τ).loc Cert.KernelGmIdeal.main_arg2)
          ∧ r.2.mem ((c.tc : Thread Cert.KernelGmIdeal.nD Cert.KernelGmIdeal.τ).loc Cert.KernelGmIdeal.main_arg3) = m ((c.tc : Thread Cert.KernelGmIdeal.nD Cert.KernelGmIdeal.τ).loc Cert.KernelGmIdeal.main_arg3)
          ∧ r.2.mem ((c.tc : Thread Cert.KernelGmIdeal.nD Cert.KernelGmIdeal.τ).loc Cert.KernelGmIdeal.main_arg4) = m ((c.tc : Thread Cert.KernelGmIdeal.nD Cert.KernelGmIdeal.τ).loc Cert.KernelGmIdeal.main_arg4))
      ∧ θ_run (Cert.ReferenceGmIdeal.defs (F := Ideal)) (onTc (τ := Cert.ReferenceGmIdeal.τ) (Cert.ReferenceGmIdeal.main (F := Ideal))) ⟨m', fun _ => 0, g'⟩ (fun r => ∀ c : Dev Cert.ReferenceGmIdeal.nD,
          r.2.mem ((c.tc : Thread Cert.ReferenceGmIdeal.nD Cert.ReferenceGmIdeal.τ).loc Cert.ReferenceGmIdeal.main_v153) = v0 c
          ∧ r.2.mem ((c.tc : Thread Cert.ReferenceGmIdeal.nD Cert.ReferenceGmIdeal.τ).loc Cert.ReferenceGmIdeal.main_v100) = v1 c
          ∧ r.2.mem ((c.tc : Thread Cert.ReferenceGmIdeal.nD Cert.ReferenceGmIdeal.τ).loc Cert.ReferenceGmIdeal.main_v154) = v2 c
          ∧ r.2.mem ((c.tc : Thread Cert.ReferenceGmIdeal.nD Cert.ReferenceGmIdeal.τ).loc Cert.ReferenceGmIdeal.main_arg0) = m' ((c.tc : Thread Cert.ReferenceGmIdeal.nD Cert.ReferenceGmIdeal.τ).loc Cert.ReferenceGmIdeal.main_arg0)
          ∧ r.2.mem ((c.tc : Thread Cert.ReferenceGmIdeal.nD Cert.ReferenceGmIdeal.τ).loc Cert.ReferenceGmIdeal.main_arg1) = m' ((c.tc : Thread Cert.ReferenceGmIdeal.nD Cert.ReferenceGmIdeal.τ).loc Cert.ReferenceGmIdeal.main_arg1)
          ∧ r.2.mem ((c.tc : Thread Cert.ReferenceGmIdeal.nD Cert.ReferenceGmIdeal.τ).loc Cert.ReferenceGmIdeal.main_arg2) = m' ((c.tc : Thread Cert.ReferenceGmIdeal.nD Cert.ReferenceGmIdeal.τ).loc Cert.ReferenceGmIdeal.main_arg2)
          ∧ r.2.mem ((c.tc : Thread Cert.ReferenceGmIdeal.nD Cert.ReferenceGmIdeal.τ).loc Cert.ReferenceGmIdeal.main_arg3) = m' ((c.tc : Thread Cert.ReferenceGmIdeal.nD Cert.ReferenceGmIdeal.τ).loc Cert.ReferenceGmIdeal.main_arg3)
          ∧ r.2.mem ((c.tc : Thread Cert.ReferenceGmIdeal.nD Cert.ReferenceGmIdeal.τ).loc Cert.ReferenceGmIdeal.main_arg4) = m' ((c.tc : Thread Cert.ReferenceGmIdeal.nD Cert.ReferenceGmIdeal.τ).loc Cert.ReferenceGmIdeal.main_arg4))

def preserves_KernelPg_KernelPgIdeal : Prop :=
  True

def Claim : Prop :=
  ∃ (hKernelMn : Cert.KernelMn.Facts) (hKernelMnIdeal : Cert.KernelMnIdeal.Facts) (hReferenceMnIdeal : Cert.ReferenceMnIdeal.Facts) (hKernelGt : Cert.KernelGt.Facts) (hKernelGtIdeal : Cert.KernelGtIdeal.Facts) (hReferenceGtIdeal : Cert.ReferenceGtIdeal.Facts) (hKernelOi : Cert.KernelOi.Facts) (hKernelOiIdeal : Cert.KernelOiIdeal.Facts) (hReferenceOiIdeal : Cert.ReferenceOiIdeal.Facts) (hKernelEi : Cert.KernelEi.Facts) (hKernelEiIdeal : Cert.KernelEiIdeal.Facts) (hReferenceEiIdeal : Cert.ReferenceEiIdeal.Facts) (hKernelLn : Cert.KernelLn.Facts) (hKernelLnIdeal : Cert.KernelLnIdeal.Facts) (hReferenceLnIdeal : Cert.ReferenceLnIdeal.Facts) (hKernelFf : Cert.KernelFf.Facts) (hKernelFfIdeal : Cert.KernelFfIdeal.Facts) (hReferenceFfIdeal : Cert.ReferenceFfIdeal.Facts) (hKernelAt : Cert.KernelAt.Facts) (hKernelAtIdeal : Cert.KernelAtIdeal.Facts) (hReferenceAtIdeal : Cert.ReferenceAtIdeal.Facts) (hKernelLs : Cert.KernelLs.Facts) (hKernelLsIdeal : Cert.KernelLsIdeal.Facts) (hReferenceLsIdeal : Cert.ReferenceLsIdeal.Facts) (hKernelAf : Cert.KernelAf.Facts) (hKernelAfIdeal : Cert.KernelAfIdeal.Facts) (hReferenceAfIdeal : Cert.ReferenceAfIdeal.Facts) (hKernelGm : Cert.KernelGm.Facts) (hKernelGmIdeal : Cert.KernelGmIdeal.Facts) (hReferenceGmIdeal : Cert.ReferenceGmIdeal.Facts) (hKernelPg : Cert.KernelPg.Facts) (hKernelPgIdeal : Cert.KernelPgIdeal.Facts) (hPre_finite_oi : Cert.Pre_finite_oi.Facts) (hPre_finite_ein : Cert.Pre_finite_ein.Facts) (hPre_finite_ln : Cert.Pre_finite_ln.Facts) (hPre_finite_ffn : Cert.Pre_finite_ffn.Facts) (hPre_finite_attn : Cert.Pre_finite_attn.Facts) (hPre_finite_loss : Cert.Pre_finite_loss.Facts) (hPre_finite_gmlp : Cert.Pre_finite_gmlp.Facts),
    quiescent_KernelMn (hKernelMn := hKernelMn)
    ∧ quiescent_KernelMnIdeal (hKernelMnIdeal := hKernelMnIdeal)
    ∧ quiescent_ReferenceMnIdeal (hReferenceMnIdeal := hReferenceMnIdeal)
    ∧ quiescent_KernelGt (hKernelGt := hKernelGt)
    ∧ quiescent_KernelGtIdeal (hKernelGtIdeal := hKernelGtIdeal)
    ∧ quiescent_ReferenceGtIdeal (hReferenceGtIdeal := hReferenceGtIdeal)
    ∧ quiescent_KernelOi (hKernelOi := hKernelOi)
    ∧ quiescent_KernelOiIdeal (hKernelOiIdeal := hKernelOiIdeal)
    ∧ quiescent_KernelOiIdeal_pre_finite_oi (hKernelOiIdeal := hKernelOiIdeal) (hPre_finite_oi := hPre_finite_oi)
    ∧ quiescent_ReferenceOiIdeal (hReferenceOiIdeal := hReferenceOiIdeal)
    ∧ quiescent_ReferenceOiIdeal_pre_finite_oi (hReferenceOiIdeal := hReferenceOiIdeal) (hPre_finite_oi := hPre_finite_oi)
    ∧ quiescent_KernelEi (hKernelEi := hKernelEi)
    ∧ quiescent_KernelEiIdeal (hKernelEiIdeal := hKernelEiIdeal)
    ∧ quiescent_KernelEiIdeal_pre_finite_ein (hKernelEiIdeal := hKernelEiIdeal) (hPre_finite_ein := hPre_finite_ein)
    ∧ quiescent_ReferenceEiIdeal (hReferenceEiIdeal := hReferenceEiIdeal)
    ∧ quiescent_ReferenceEiIdeal_pre_finite_ein (hReferenceEiIdeal := hReferenceEiIdeal) (hPre_finite_ein := hPre_finite_ein)
    ∧ quiescent_KernelLn (hKernelLn := hKernelLn)
    ∧ quiescent_KernelLnIdeal (hKernelLnIdeal := hKernelLnIdeal)
    ∧ quiescent_KernelLnIdeal_pre_finite_ln (hKernelLnIdeal := hKernelLnIdeal) (hPre_finite_ln := hPre_finite_ln)
    ∧ quiescent_ReferenceLnIdeal (hReferenceLnIdeal := hReferenceLnIdeal)
    ∧ quiescent_ReferenceLnIdeal_pre_finite_ln (hReferenceLnIdeal := hReferenceLnIdeal) (hPre_finite_ln := hPre_finite_ln)
    ∧ quiescent_KernelFf (hKernelFf := hKernelFf)
    ∧ quiescent_KernelFfIdeal (hKernelFfIdeal := hKernelFfIdeal)
    ∧ quiescent_KernelFfIdeal_pre_finite_ffn (hKernelFfIdeal := hKernelFfIdeal) (hPre_finite_ffn := hPre_finite_ffn)
    ∧ quiescent_ReferenceFfIdeal (hReferenceFfIdeal := hReferenceFfIdeal)
    ∧ quiescent_ReferenceFfIdeal_pre_finite_ffn (hReferenceFfIdeal := hReferenceFfIdeal) (hPre_finite_ffn := hPre_finite_ffn)
    ∧ quiescent_KernelAt (hKernelAt := hKernelAt)
    ∧ quiescent_KernelAtIdeal (hKernelAtIdeal := hKernelAtIdeal)
    ∧ quiescent_KernelAtIdeal_pre_finite_attn (hKernelAtIdeal := hKernelAtIdeal) (hPre_finite_attn := hPre_finite_attn)
    ∧ quiescent_ReferenceAtIdeal (hReferenceAtIdeal := hReferenceAtIdeal)
    ∧ quiescent_ReferenceAtIdeal_pre_finite_attn (hReferenceAtIdeal := hReferenceAtIdeal) (hPre_finite_attn := hPre_finite_attn)
    ∧ quiescent_KernelLs (hKernelLs := hKernelLs)
    ∧ quiescent_KernelLsIdeal (hKernelLsIdeal := hKernelLsIdeal)
    ∧ quiescent_KernelLsIdeal_pre_finite_loss (hKernelLsIdeal := hKernelLsIdeal) (hPre_finite_loss := hPre_finite_loss)
    ∧ quiescent_ReferenceLsIdeal (hReferenceLsIdeal := hReferenceLsIdeal)
    ∧ quiescent_ReferenceLsIdeal_pre_finite_loss (hReferenceLsIdeal := hReferenceLsIdeal) (hPre_finite_loss := hPre_finite_loss)
    ∧ quiescent_KernelAf (hKernelAf := hKernelAf)
    ∧ quiescent_KernelAfIdeal (hKernelAfIdeal := hKernelAfIdeal)
    ∧ quiescent_ReferenceAfIdeal (hReferenceAfIdeal := hReferenceAfIdeal)
    ∧ quiescent_KernelGm (hKernelGm := hKernelGm)
    ∧ quiescent_KernelGmIdeal (hKernelGmIdeal := hKernelGmIdeal)
    ∧ quiescent_KernelGmIdeal_pre_finite_gmlp (hKernelGmIdeal := hKernelGmIdeal) (hPre_finite_gmlp := hPre_finite_gmlp)
    ∧ quiescent_ReferenceGmIdeal (hReferenceGmIdeal := hReferenceGmIdeal)
    ∧ quiescent_ReferenceGmIdeal_pre_finite_gmlp (hReferenceGmIdeal := hReferenceGmIdeal) (hPre_finite_gmlp := hPre_finite_gmlp)
    ∧ quiescent_KernelPg (hKernelPg := hKernelPg)
    ∧ quiescent_KernelPgIdeal (hKernelPgIdeal := hKernelPgIdeal)
    ∧ preserves_KernelMn_KernelMnIdeal
    ∧ algebraic_KernelMnIdeal_ReferenceMnIdeal (hKernelMnIdeal := hKernelMnIdeal) (hReferenceMnIdeal := hReferenceMnIdeal)
    ∧ preserves_KernelGt_KernelGtIdeal
    ∧ algebraic_KernelGtIdeal_ReferenceGtIdeal (hKernelGtIdeal := hKernelGtIdeal) (hReferenceGtIdeal := hReferenceGtIdeal)
    ∧ preserves_KernelOi_KernelOiIdeal
    ∧ algebraic_KernelOiIdeal_ReferenceOiIdeal_pre_finite_oi (hKernelOiIdeal := hKernelOiIdeal) (hReferenceOiIdeal := hReferenceOiIdeal) (hPre_finite_oi := hPre_finite_oi)
    ∧ preserves_KernelEi_KernelEiIdeal
    ∧ algebraic_KernelEiIdeal_ReferenceEiIdeal_pre_finite_ein (hKernelEiIdeal := hKernelEiIdeal) (hReferenceEiIdeal := hReferenceEiIdeal) (hPre_finite_ein := hPre_finite_ein)
    ∧ preserves_KernelLn_KernelLnIdeal
    ∧ algebraic_KernelLnIdeal_ReferenceLnIdeal_pre_finite_ln (hKernelLnIdeal := hKernelLnIdeal) (hReferenceLnIdeal := hReferenceLnIdeal) (hPre_finite_ln := hPre_finite_ln)
    ∧ preserves_KernelFf_KernelFfIdeal
    ∧ algebraic_KernelFfIdeal_ReferenceFfIdeal_pre_finite_ffn (hKernelFfIdeal := hKernelFfIdeal) (hReferenceFfIdeal := hReferenceFfIdeal) (hPre_finite_ffn := hPre_finite_ffn)
    ∧ preserves_KernelAt_KernelAtIdeal
    ∧ algebraic_KernelAtIdeal_ReferenceAtIdeal_pre_finite_attn (hKernelAtIdeal := hKernelAtIdeal) (hReferenceAtIdeal := hReferenceAtIdeal) (hPre_finite_attn := hPre_finite_attn)
    ∧ preserves_KernelLs_KernelLsIdeal
    ∧ algebraic_KernelLsIdeal_ReferenceLsIdeal_pre_finite_loss (hKernelLsIdeal := hKernelLsIdeal) (hReferenceLsIdeal := hReferenceLsIdeal) (hPre_finite_loss := hPre_finite_loss)
    ∧ preserves_KernelAf_KernelAfIdeal
    ∧ algebraic_KernelAfIdeal_ReferenceAfIdeal (hKernelAfIdeal := hKernelAfIdeal) (hReferenceAfIdeal := hReferenceAfIdeal)
    ∧ preserves_KernelGm_KernelGmIdeal
    ∧ algebraic_KernelGmIdeal_ReferenceGmIdeal_pre_finite_gmlp (hKernelGmIdeal := hKernelGmIdeal) (hReferenceGmIdeal := hReferenceGmIdeal) (hPre_finite_gmlp := hPre_finite_gmlp)
    ∧ preserves_KernelPg_KernelPgIdeal
-- ==== Pre_finite_attn.lean ====
abbrev S4096x1024 : Shape := ⟨2, ![4096, 1024]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩
abbrev S4194304 : Shape := ⟨1, ![4194304]⟩
abbrev S1024 : Shape := ⟨1, ![1024]⟩
abbrev S1048576 : Shape := ⟨1, ![1048576]⟩
abbrev S262144 : Shape := ⟨1, ![262144]⟩
abbrev S4195328 : Shape := ⟨1, ![4195328]⟩
abbrev S5243904 : Shape := ⟨1, ![5243904]⟩
abbrev S5506048 : Shape := ⟨1, ![5506048]⟩
abbrev S5768192 : Shape := ⟨1, ![5768192]⟩
abbrev S6816768 : Shape := ⟨1, ![6816768]⟩
abbrev S11011072 : Shape := ⟨1, ![11011072]⟩

class Facts : Prop where
  bcast_S_S4096x1024 : S_.BroadcastsInDim S4096x1024 (![] : Fin 0 → Fin S4096x1024.rank)
  shapeCasts_S4096x1024_S4194304 : S4096x1024.ShapeCasts S4194304
  bcast_S_S1x1024 : S_.BroadcastsInDim S1x1024 (![] : Fin 0 → Fin S1x1024.rank)
  shapeCasts_S1x1024_S1024 : S1x1024.ShapeCasts S1024
  bcast_S_S1024x1024 : S_.BroadcastsInDim S1024x1024 (![] : Fin 0 → Fin S1024x1024.rank)
  shapeCasts_S1024x1024_S1048576 : S1024x1024.ShapeCasts S1048576
  bcast_S_S256x1024 : S_.BroadcastsInDim S256x1024 (![] : Fin 0 → Fin S256x1024.rank)
  shapeCasts_S256x1024_S262144 : S256x1024.ShapeCasts S262144
  concatenates_S4194304_S1024_S4195328_d0 : Shape.Concatenates [S4194304, S1024] S4195328 0
  concatenates_S4195328_S1048576_S5243904_d0 : Shape.Concatenates [S4195328, S1048576] S5243904 0
  concatenates_S5243904_S262144_S5506048_d0 : Shape.Concatenates [S5243904, S262144] S5506048 0
  concatenates_S5506048_S262144_S5768192_d0 : Shape.Concatenates [S5506048, S262144] S5768192 0
  concatenates_S5768192_S1048576_S6816768_d0 : Shape.Concatenates [S5768192, S1048576] S6816768 0
  concatenates_S6816768_S4194304_S11011072_d0 : Shape.Concatenates [S6816768, S4194304] S11011072 0

variable [Facts]

def fn_part1 {F : FTy → Type} [FloatOps F] (main_arg5 : FVec F S1024x1024 .f32) (main_arg6 : FVec F S4096x1024 .f32) (main_v3 : IVec S4194304 1) (main_v7 : IVec S1024 1) (main_v11 : IVec S1048576 1) (main_v15 : IVec S262144 1) (main_v18 : IVec S256x1024 1) : IVec S11011072 1 :=
  let main_v19 : IVec S262144 1 := shapeCast S262144 main_v18 shapeCasts_S256x1024_S262144
  let main_v20 : FVec F S1024x1024 .f32 := Host.absf main_arg5
  let main_cst_4 : FVec F S_ .f32 := constant S_ .f32 0x7F800000#32
  let main_v21 : FVec F S1024x1024 .f32 := broadcastInDim S1024x1024 ![] bcast_S_S1024x1024 main_cst_4
  let main_v22 : IVec S1024x1024 1 := cmpf .olt main_v20 main_v21
  let main_v23 : IVec S1048576 1 := shapeCast S1048576 main_v22 shapeCasts_S1024x1024_S1048576
  let main_v24 : FVec F S4096x1024 .f32 := Host.absf main_arg6
  let main_cst_5 : FVec F S_ .f32 := constant S_ .f32 0x7F800000#32
  let main_v25 : FVec F S4096x1024 .f32 := broadcastInDim S4096x1024 ![] bcast_S_S4096x1024 main_cst_5
  let main_v26 : IVec S4096x1024 1 := cmpf .olt main_v24 main_v25
  let main_v27 : IVec S4194304 1 := shapeCast S4194304 main_v26 shapeCasts_S4096x1024_S4194304
  let main_v28 : IVec S4195328 1 := (fun a b => concatenate S4195328 0 [⟨S4194304, a⟩, ⟨S1024, b⟩] concatenates_S4194304_S1024_S4195328_d0) main_v3 main_v7
  let main_v29 : IVec S5243904 1 := (fun a b => concatenate S5243904 0 [⟨S4195328, a⟩, ⟨S1048576, b⟩] concatenates_S4195328_S1048576_S5243904_d0) main_v28 main_v11
  let main_v30 : IVec S5506048 1 := (fun a b => concatenate S5506048 0 [⟨S5243904, a⟩, ⟨S262144, b⟩] concatenates_S5243904_S262144_S5506048_d0) main_v29 main_v15
  let main_v31 : IVec S5768192 1 := (fun a b => concatenate S5768192 0 [⟨S5506048, a⟩, ⟨S262144, b⟩] concatenates_S5506048_S262144_S5768192_d0) main_v30 main_v19
  let main_v32 : IVec S6816768 1 := (fun a b => concatenate S6816768 0 [⟨S5768192, a⟩, ⟨S1048576, b⟩] concatenates_S5768192_S1048576_S6816768_d0) main_v31 main_v23
  let main_v33 : IVec S11011072 1 := (fun a b => concatenate S11011072 0 [⟨S6816768, a⟩, ⟨S4194304, b⟩] concatenates_S6816768_S4194304_S11011072_d0) main_v32 main_v27
  main_v33

def fn {F : FTy → Type} [FloatOps F] (main_arg0 : FVec F S4096x1024 .f32) (main_arg1 : FVec F S1x1024 .f32) (main_arg2 : FVec F S1024x1024 .f32) (main_arg3 : FVec F S256x1024 .f32) (main_arg4 : FVec F S256x1024 .f32) (main_arg5 : FVec F S1024x1024 .f32) (main_arg6 : FVec F S4096x1024 .f32) : IVec S11011072 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : IVec S4194304 1 := shapeCast S4194304 main_v2 shapeCasts_S4096x1024_S4194304
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_v7 : IVec S1024 1 := shapeCast S1024 main_v6 shapeCasts_S1x1024_S1024
  let main_v8 : FVec F S1024x1024 .f32 := Host.absf main_arg2
  let main_cst_1 : FVec F S_ .f32 := constant S_ .f32 0x7F800000#32
  let main_v9 : FVec F S1024x1024 .f32 := broadcastInDim S1024x1024 ![] bcast_S_S1024x1024 main_cst_1
  let main_v10 : IVec S1024x1024 1 := cmpf .olt main_v8 main_v9
  let main_v11 : IVec S1048576 1 := shapeCast S1048576 main_v10 shapeCasts_S1024x1024_S1048576
  let main_v12 : FVec F S256x1024 .f32 := Host.absf main_arg3
  let main_cst_2 : FVec F S_ .f32 := constant S_ .f32 0x7F800000#32
  let main_v13 : FVec F S256x1024 .f32 := broadcastInDim S256x1024 ![] bcast_S_S256x1024 main_cst_2
  let main_v14 : IVec S256x1024 1 := cmpf .olt main_v12 main_v13
  let main_v15 : IVec S262144 1 := shapeCast S262144 main_v14 shapeCasts_S256x1024_S262144
  let main_v16 : FVec F S256x1024 .f32 := Host.absf main_arg4
  let main_cst_3 : FVec F S_ .f32 := constant S_ .f32 0x7F800000#32
  let main_v17 : FVec F S256x1024 .f32 := broadcastInDim S256x1024 ![] bcast_S_S256x1024 main_cst_3
  let main_v18 : IVec S256x1024 1 := cmpf .olt main_v16 main_v17
  fn_part1 (F := F) main_arg5 main_arg6 main_v3 main_v7 main_v11 main_v15 main_v18
-- ==== Pre_finite_ein.lean ====
abbrev S4096x1024 : Shape := ⟨2, ![4096, 1024]⟩
abbrev S1x1024 : Shape := ⟨2, ![1, 1024]⟩
abbrev S1024x2048 : Shape := ⟨2, ![1024, 2048]⟩
abbrev S4096x2048 : Shape := ⟨2, ![4096, 2048]⟩
abbrev S_ : Shape := ⟨0, ![]⟩
abbrev S4194304 : Shape := ⟨1, ![4194304]⟩
abbrev S1024 : Shape := ⟨1, ![1024]⟩
abbrev S2097152 : Shape := ⟨1, ![2097152]⟩
abbrev S8388608 : Shape := ⟨1, ![8388608]⟩
abbrev S4195328 : Shape := ⟨1, ![4195328]⟩
abbrev S6292480 : Shape := ⟨1, ![6292480]⟩
abbrev S14681088 : Shape := ⟨1, ![14681088]⟩

class Facts : Prop where
  bcast_S_S4096x1024 : S_.BroadcastsInDim S4096x1024 (![] : Fin 0 → Fin S4096x1024.rank)
  shapeCasts_S4096x1024_S4194304 : S4096x1024.ShapeCasts S4194304
  bcast_S_S1x1024 : S_.BroadcastsInDim S1x1024 (![] : Fin 0 → Fin S1x1024.rank)
  shapeCasts_S1x1024_S1024 : S1x1024.ShapeCasts S1024
  bcast_S_S1024x2048 : S_.BroadcastsInDim S1024x2048 (![] : Fin 0 → Fin S1024x2048.rank)
  shapeCasts_S1024x2048_S2097152 : S1024x2048.ShapeCasts S2097152
  bcast_S_S4096x2048 : S_.BroadcastsInDim S4096x2048 (![] : Fin 0 → Fin S4096x2048.rank)
  shapeCasts_S4096x2048_S8388608 : S4096x2048.ShapeCasts S8388608
  concatenates_S4194304_S1024_S4195328_d0 : Shape.Concatenates [S4194304, S1024] S4195328 0
  concatenates_S4195328_S2097152_S6292480_d0 : Shape.Concatenates [S4195328, S2097152] S6292480 0
  concatenates_S6292480_S8388608_S14681088_d0 : Shape.Concatenates [S6292480, S8388608] S14681088 0

variable [Facts]

def fn {F : FTy → Type} [FloatOps F] (main_arg0 : FVec F S4096x1024 .f32) (main_arg1 : FVec F S1x1024 .f32) (main_arg2 : FVec F S1024x2048 .f32) (main_arg3 : FVec F S4096x2048 .f32) (main_arg4 : FVec F S4096x1024 .f32) : IVec S14681088 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : IVec S4194304 1 := shapeCast S4194304 main_v2 shapeCasts_S4096x1024_S4194304
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_v7 : IVec S1024 1 := shapeCast S1024 main_v6 shapeCasts_S1x1024_S1024
  let main_v8 : FVec F S1024x2048 .f32 := Host.absf main_arg2
  let main_cst_1 : FVec F S_ .f32 := constant S_ .f32 0x7F800000#32
  let main_v9 : FVec F S1024x2048 .f32 := broadcastInDim S1024x2048 ![] bcast_S_S1024x2048 main_cst_1
  let main_v10 : IVec S1024x2048 1 := cmpf .olt main_v8 main_v9
  let main_v11 : IVec S2097152 1 := shapeCast S2097152 main_v10 shapeCasts_S1024x2048_S2097152
  let main_v12 : FVec F S4096x2048 .f32 := Host.absf main_arg3
  let main_cst_2 : FVec F S_ .f32 := constant S_ .f32 0x7F800000#32
  let main_v13 : FVec F S4096x2048 .f32 := broadcastInDim S4096x2048 ![] bcast_S_S4096x2048 main_cst_2
  let main_v14 : IVec S4096x2048 1 := cmpf .olt main_v12 main_v13
  let main_v15 : IVec S8388608 1 := shapeCast S8388608 main_v14 shapeCasts_S4096x2048_S8388608
  let main_v16 : IVec S4195328 1 := (fun a b => concatenate S4195328 0 [⟨S4194304, a⟩, ⟨S1024, b⟩] concatenates_S4194304_S1024_S4195328_d0) main_v3 main_v7
  let main_v17 : IVec S6292480 1 := (fun a b => concatenate S6292480 0 [⟨S4195328, a⟩, ⟨S2097152, b⟩] concatenates_S4195328_S2097152_S6292480_d0) main_v16 main_v11
  let main_v18 : IVec S14681088 1 := (fun a b => concatenate S14681088 0 [⟨S6292480, a⟩, ⟨S8388608, b⟩] concatenates_S6292480_S8388608_S14681088_d0) main_v17 main_v15
  main_v18
-- ==== Pre_finite_ffn.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4194304 : Shape := ⟨1, ![4194304]⟩
abbrev S1024 : Shape := ⟨1, ![1024]⟩
abbrev S2883584 : Shape := ⟨1, ![2883584]⟩
abbrev S4195328 : Shape := ⟨1, ![4195328]⟩
abbrev S7078912 : Shape := ⟨1, ![7078912]⟩
abbrev S9962496 : Shape := ⟨1, ![9962496]⟩
abbrev S12846080 : Shape := ⟨1, ![12846080]⟩
abbrev S17040384 : Shape := ⟨1, ![17040384]⟩

class Facts : Prop where
  bcast_S_S4096x1024 : S_.BroadcastsInDim S4096x1024 (![] : Fin 0 → Fin S4096x1024.rank)
  shapeCasts_S4096x1024_S4194304 : S4096x1024.ShapeCasts S4194304
  bcast_S_S1x1024 : S_.BroadcastsInDim S1x1024 (![] : Fin 0 → Fin S1x1024.rank)
  shapeCasts_S1x1024_S1024 : S1x1024.ShapeCasts S1024
  bcast_S_S1024x2816 : S_.BroadcastsInDim S1024x2816 (![] : Fin 0 → Fin S1024x2816.rank)
  shapeCasts_S1024x2816_S2883584 : S1024x2816.ShapeCasts S2883584
  bcast_S_S2816x1024 : S_.BroadcastsInDim S2816x1024 (![] : Fin 0 → Fin S2816x1024.rank)
  shapeCasts_S2816x1024_S2883584 : S2816x1024.ShapeCasts S2883584
  concatenates_S4194304_S1024_S4195328_d0 : Shape.Concatenates [S4194304, S1024] S4195328 0
  concatenates_S4195328_S2883584_S7078912_d0 : Shape.Concatenates [S4195328, S2883584] S7078912 0
  concatenates_S7078912_S2883584_S9962496_d0 : Shape.Concatenates [S7078912, S2883584] S9962496 0
  concatenates_S9962496_S2883584_S12846080_d0 : Shape.Concatenates [S9962496, S2883584] S12846080 0
  concatenates_S12846080_S4194304_S17040384_d0 : Shape.Concatenates [S12846080, S4194304] S17040384 0

variable [Facts]

def fn_part1 {F : FTy → Type} [FloatOps F] (main_arg5 : FVec F S4096x1024 .f32) (main_v3 : IVec S4194304 1) (main_v7 : IVec S1024 1) (main_v11 : IVec S2883584 1) (main_v15 : IVec S2883584 1) (main_v18 : IVec S2816x1024 1) : IVec S17040384 1 :=
  let main_v19 : IVec S2883584 1 := shapeCast S2883584 main_v18 shapeCasts_S2816x1024_S2883584
  let main_v20 : FVec F S4096x1024 .f32 := Host.absf main_arg5
  let main_cst_4 : FVec F S_ .f32 := constant S_ .f32 0x7F800000#32
  let main_v21 : FVec F S4096x1024 .f32 := broadcastInDim S4096x1024 ![] bcast_S_S4096x1024 main_cst_4
  let main_v22 : IVec S4096x1024 1 := cmpf .olt main_v20 main_v21
  let main_v23 : IVec S4194304 1 := shapeCast S4194304 main_v22 shapeCasts_S4096x1024_S4194304
  let main_v24 : IVec S4195328 1 := (fun a b => concatenate S4195328 0 [⟨S4194304, a⟩, ⟨S1024, b⟩] concatenates_S4194304_S1024_S4195328_d0) main_v3 main_v7
  let main_v25 : IVec S7078912 1 := (fun a b => concatenate S7078912 0 [⟨S4195328, a⟩, ⟨S2883584, b⟩] concatenates_S4195328_S2883584_S7078912_d0) main_v24 main_v11
  let main_v26 : IVec S9962496 1 := (fun a b => concatenate S9962496 0 [⟨S7078912, a⟩, ⟨S2883584, b⟩] concatenates_S7078912_S2883584_S9962496_d0) main_v25 main_v15
  let main_v27 : IVec S12846080 1 := (fun a b => concatenate S12846080 0 [⟨S9962496, a⟩, ⟨S2883584, b⟩] concatenates_S9962496_S2883584_S12846080_d0) main_v26 main_v19
  let main_v28 : IVec S17040384 1 := (fun a b => concatenate S17040384 0 [⟨S12846080, a⟩, ⟨S4194304, b⟩] concatenates_S12846080_S4194304_S17040384_d0) main_v27 main_v23
  main_v28

def fn {F : FTy → Type} [FloatOps F] (main_arg0 : FVec F S4096x1024 .f32) (main_arg1 : FVec F S1x1024 .f32) (main_arg2 : FVec F S1024x2816 .f32) (main_arg3 : FVec F S1024x2816 .f32) (main_arg4 : FVec F S2816x1024 .f32) (main_arg5 : FVec F S4096x1024 .f32) : IVec S17040384 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : IVec S4194304 1 := shapeCast S4194304 main_v2 shapeCasts_S4096x1024_S4194304
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_v7 : IVec S1024 1 := shapeCast S1024 main_v6 shapeCasts_S1x1024_S1024
  let main_v8 : FVec F S1024x2816 .f32 := Host.absf main_arg2
  let main_cst_1 : FVec F S_ .f32 := constant S_ .f32 0x7F800000#32
  let main_v9 : FVec F S1024x2816 .f32 := broadcastInDim S1024x2816 ![] bcast_S_S1024x2816 main_cst_1
  let main_v10 : IVec S1024x2816 1 := cmpf .olt main_v8 main_v9
  let main_v11 : IVec S2883584 1 := shapeCast S2883584 main_v10 shapeCasts_S1024x2816_S2883584
  let main_v12 : FVec F S1024x2816 .f32 := Host.absf main_arg3
  let main_cst_2 : FVec F S_ .f32 := constant S_ .f32 0x7F800000#32
  let main_v13 : FVec F S1024x2816 .f32 := broadcastInDim S1024x2816 ![] bcast_S_S1024x2816 main_cst_2
  let main_v14 : IVec S1024x2816 1 := cmpf .olt main_v12 main_v13
  let main_v15 : IVec S2883584 1 := shapeCast S2883584 main_v14 shapeCasts_S1024x2816_S2883584
  let main_v16 : FVec F S2816x1024 .f32 := Host.absf main_arg4
  let main_cst_3 : FVec F S_ .f32 := constant S_ .f32 0x7F800000#32
  let main_v17 : FVec F S2816x1024 .f32 := broadcastInDim S2816x1024 ![] bcast_S_S2816x1024 main_cst_3
  let main_v18 : IVec S2816x1024 1 := cmpf .olt main_v16 main_v17
  fn_part1 (F := F) main_arg5 main_v3 main_v7 main_v11 main_v15 main_v18
-- ==== Pre_finite_gmlp.lean ====
abbrev S4096x2048 : Shape := ⟨2, ![4096, 2048]⟩
abbrev S4x128x128 : Shape := ⟨3, ![4, 128, 128]⟩
abbrev S4x128 : Shape := ⟨2, ![4, 128]⟩
abbrev S1024x1024 : Shape := ⟨2, ![1024, 1024]⟩
abbrev S4096x1024 : Shape := ⟨2, ![4096, 1024]⟩
abbrev S_ : Shape := ⟨0, ![]⟩
abbrev S8388608 : Shape := ⟨1, ![8388608]⟩
abbrev S65536 : Shape := ⟨1, ![65536]⟩
abbrev S512 : Shape := ⟨1, ![512]⟩
abbrev S1048576 : Shape := ⟨1, ![1048576]⟩
abbrev S4194304 : Shape := ⟨1, ![4194304]⟩
abbrev S8454144 : Shape := ⟨1, ![8454144]⟩
abbrev S8454656 : Shape := ⟨1, ![8454656]⟩
abbrev S9503232 : Shape := ⟨1, ![9503232]⟩
abbrev S13697536 : Shape := ⟨1, ![13697536]⟩

class Facts : Prop where
  bcast_S_S4096x2048 : S_.BroadcastsInDim S4096x2048 (![] : Fin 0 → Fin S4096x2048.rank)
  shapeCasts_S4096x2048_S8388608 : S4096x2048.ShapeCasts S8388608
  bcast_S_S4x128x128 : S_.BroadcastsInDim S4x128x128 (![] : Fin 0 → Fin S4x128x128.rank)
  shapeCasts_S4x128x128_S65536 : S4x128x128.ShapeCasts S65536
  bcast_S_S4x128 : S_.BroadcastsInDim S4x128 (![] : Fin 0 → Fin S4x128.rank)
  shapeCasts_S4x128_S512 : S4x128.ShapeCasts S512
  bcast_S_S1024x1024 : S_.BroadcastsInDim S1024x1024 (![] : Fin 0 → Fin S1024x1024.rank)
  shapeCasts_S1024x1024_S1048576 : S1024x1024.ShapeCasts S1048576
  bcast_S_S4096x1024 : S_.BroadcastsInDim S4096x1024 (![] : Fin 0 → Fin S4096x1024.rank)
  shapeCasts_S4096x1024_S4194304 : S4096x1024.ShapeCasts S4194304
  concatenates_S8388608_S65536_S8454144_d0 : Shape.Concatenates [S8388608, S65536] S8454144 0
  concatenates_S8454144_S512_S8454656_d0 : Shape.Concatenates [S8454144, S512] S8454656 0
  concatenates_S8454656_S1048576_S9503232_d0 : Shape.Concatenates [S8454656, S1048576] S9503232 0
  concatenates_S9503232_S4194304_S13697536_d0 : Shape.Concatenates [S9503232, S4194304] S13697536 0

variable [Facts]

def fn_part1 {F : FTy → Type} [FloatOps F] (main_v3 : IVec S8388608 1) (main_v7 : IVec S65536 1) (main_v11 : IVec S512 1) (main_v15 : IVec S1048576 1) (main_v18 : IVec S4096x1024 1) : IVec S13697536 1 :=
  let main_v19 : IVec S4194304 1 := shapeCast S4194304 main_v18 shapeCasts_S4096x1024_S4194304
  let main_v20 : IVec S8454144 1 := (fun a b => concatenate S8454144 0 [⟨S8388608, a⟩, ⟨S65536, b⟩] concatenates_S8388608_S65536_S8454144_d0) main_v3 main_v7
  let main_v21 : IVec S8454656 1 := (fun a b => concatenate S8454656 0 [⟨S8454144, a⟩, ⟨S512, b⟩] concatenates_S8454144_S512_S8454656_d0) main_v20 main_v11
  let main_v22 : IVec S9503232 1 := (fun a b => concatenate S9503232 0 [⟨S8454656, a⟩, ⟨S1048576, b⟩] concatenates_S8454656_S1048576_S9503232_d0) main_v21 main_v15
  let main_v23 : IVec S13697536 1 := (fun a b => concatenate S13697536 0 [⟨S9503232, a⟩, ⟨S4194304, b⟩] concatenates_S9503232_S4194304_S13697536_d0) main_v22 main_v19
  main_v23

def fn {F : FTy → Type} [FloatOps F] (main_arg0 : FVec F S4096x2048 .f32) (main_arg1 : FVec F S4x128x128 .f32) (main_arg2 : FVec F S4x128 .f32) (main_arg3 : FVec F S1024x1024 .f32) (main_arg4 : FVec F S4096x1024 .f32) : IVec S13697536 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : IVec S8388608 1 := shapeCast S8388608 main_v2 shapeCasts_S4096x2048_S8388608
  let main_v4 : FVec F S4x128x128 .f32 := Host.absf main_arg1
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_v7 : IVec S65536 1 := shapeCast S65536 main_v6 shapeCasts_S4x128x128_S65536
  let main_v8 : FVec F S4x128 .f32 := Host.absf main_arg2
  let main_cst_1 : FVec F S_ .f32 := constant S_ .f32 0x7F800000#32
  let main_v9 : FVec F S4x128 .f32 := broadcastInDim S4x128 ![] bcast_S_S4x128 main_cst_1
  let main_v10 : IVec S4x128 1 := cmpf .olt main_v8 main_v9
  let main_v11 : IVec S512 1 := shapeCast S512 main_v10 shapeCasts_S4x128_S512
  let main_v12 : FVec F S1024x1024 .f32 := Host.absf main_arg3
  let main_cst_2 : FVec F S_ .f32 := constant S_ .f32 0x7F800000#32
  let main_v13 : FVec F S1024x1024 .f32 := broadcastInDim S1024x1024 ![] bcast_S_S1024x1024 main_cst_2
  let main_v14 : IVec S1024x1024 1 := cmpf .olt main_v12 main_v13
  let main_v15 : IVec S1048576 1 := shapeCast S1048576 main_v14 shapeCasts_S1024x1024_S1048576
  let main_v16 : FVec F S4096x1024 .f32 := Host.absf main_arg4
  let main_cst_3 : FVec F S_ .f32 := constant S_ .f32 0x7F800000#32
  let main_v17 : FVec F S4096x1024 .f32 := broadcastInDim S4096x1024 ![] bcast_S_S4096x1024 main_cst_3
  let main_v18 : IVec S4096x1024 1 := cmpf .olt main_v16 main_v17
  fn_part1 (F := F) main_v3 main_v7 main_v11 main_v15 main_v18
-- ==== Pre_finite_ln.lean ====
abbrev S4096x512 : Shape := ⟨2, ![4096, 512]⟩
abbrev S4096x1024 : Shape := ⟨2, ![4096, 1024]⟩
abbrev S1024x1024 : Shape := ⟨2, ![1024, 1024]⟩
abbrev S1x512 : Shape := ⟨2, ![1, 512]⟩
abbrev S_ : Shape := ⟨0, ![]⟩
abbrev S2097152 : Shape := ⟨1, ![2097152]⟩
abbrev S4194304 : Shape := ⟨1, ![4194304]⟩
abbrev S1048576 : Shape := ⟨1, ![1048576]⟩
abbrev S512 : Shape := ⟨1, ![512]⟩
abbrev S6291456 : Shape := ⟨1, ![6291456]⟩
abbrev S7340032 : Shape := ⟨1, ![7340032]⟩
abbrev S7340544 : Shape := ⟨1, ![7340544]⟩
abbrev S7341056 : Shape := ⟨1, ![7341056]⟩

class Facts : Prop where
  bcast_S_S4096x512 : S_.BroadcastsInDim S4096x512 (![] : Fin 0 → Fin S4096x512.rank)
  shapeCasts_S4096x512_S2097152 : S4096x512.ShapeCasts S2097152
  bcast_S_S4096x1024 : S_.BroadcastsInDim S4096x1024 (![] : Fin 0 → Fin S4096x1024.rank)
  shapeCasts_S4096x1024_S4194304 : S4096x1024.ShapeCasts S4194304
  bcast_S_S1024x1024 : S_.BroadcastsInDim S1024x1024 (![] : Fin 0 → Fin S1024x1024.rank)
  shapeCasts_S1024x1024_S1048576 : S1024x1024.ShapeCasts S1048576
  bcast_S_S1x512 : S_.BroadcastsInDim S1x512 (![] : Fin 0 → Fin S1x512.rank)
  shapeCasts_S1x512_S512 : S1x512.ShapeCasts S512
  concatenates_S2097152_S4194304_S6291456_d0 : Shape.Concatenates [S2097152, S4194304] S6291456 0
  concatenates_S6291456_S1048576_S7340032_d0 : Shape.Concatenates [S6291456, S1048576] S7340032 0
  concatenates_S7340032_S512_S7340544_d0 : Shape.Concatenates [S7340032, S512] S7340544 0
  concatenates_S7340544_S512_S7341056_d0 : Shape.Concatenates [S7340544, S512] S7341056 0

variable [Facts]

def fn_part1 {F : FTy → Type} [FloatOps F] (main_v3 : IVec S2097152 1) (main_v7 : IVec S4194304 1) (main_v11 : IVec S1048576 1) (main_v15 : IVec S512 1) (main_v18 : IVec S1x512 1) : IVec S7341056 1 :=
  let main_v19 : IVec S512 1 := shapeCast S512 main_v18 shapeCasts_S1x512_S512
  let main_v20 : IVec S6291456 1 := (fun a b => concatenate S6291456 0 [⟨S2097152, a⟩, ⟨S4194304, b⟩] concatenates_S2097152_S4194304_S6291456_d0) main_v3 main_v7
  let main_v21 : IVec S7340032 1 := (fun a b => concatenate S7340032 0 [⟨S6291456, a⟩, ⟨S1048576, b⟩] concatenates_S6291456_S1048576_S7340032_d0) main_v20 main_v11
  let main_v22 : IVec S7340544 1 := (fun a b => concatenate S7340544 0 [⟨S7340032, a⟩, ⟨S512, b⟩] concatenates_S7340032_S512_S7340544_d0) main_v21 main_v15
  let main_v23 : IVec S7341056 1 := (fun a b => concatenate S7341056 0 [⟨S7340544, a⟩, ⟨S512, b⟩] concatenates_S7340544_S512_S7341056_d0) main_v22 main_v19
  main_v23

def fn {F : FTy → Type} [FloatOps F] (main_arg0 : FVec F S4096x512 .f32) (main_arg1 : FVec F S4096x1024 .f32) (main_arg2 : FVec F S1024x1024 .f32) (main_arg3 : FVec F S1x512 .f32) (main_arg4 : FVec F S1x512 .f32) : IVec S7341056 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : IVec S2097152 1 := shapeCast S2097152 main_v2 shapeCasts_S4096x512_S2097152
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_v7 : IVec S4194304 1 := shapeCast S4194304 main_v6 shapeCasts_S4096x1024_S4194304
  let main_v8 : FVec F S1024x1024 .f32 := Host.absf main_arg2
  let main_cst_1 : FVec F S_ .f32 := constant S_ .f32 0x7F800000#32
  let main_v9 : FVec F S1024x1024 .f32 := broadcastInDim S1024x1024 ![] bcast_S_S1024x1024 main_cst_1
  let main_v10 : IVec S1024x1024 1 := cmpf .olt main_v8 main_v9
  let main_v11 : IVec S1048576 1 := shapeCast S1048576 main_v10 shapeCasts_S1024x1024_S1048576
  let main_v12 : FVec F S1x512 .f32 := Host.absf main_arg3
  let main_cst_2 : FVec F S_ .f32 := constant S_ .f32 0x7F800000#32
  let main_v13 : FVec F S1x512 .f32 := broadcastInDim S1x512 ![] bcast_S_S1x512 main_cst_2
  let main_v14 : IVec S1x512 1 := cmpf .olt main_v12 main_v13
  let main_v15 : IVec S512 1 := shapeCast S512 main_v14 shapeCasts_S1x512_S512
  let main_v16 : FVec F S1x512 .f32 := Host.absf main_arg4
  let main_cst_3 : FVec F S_ .f32 := constant S_ .f32 0x7F800000#32
  let main_v17 : FVec F S1x512 .f32 := broadcastInDim S1x512 ![] bcast_S_S1x512 main_cst_3
  let main_v18 : IVec S1x512 1 := cmpf .olt main_v16 main_v17
  fn_part1 (F := F) main_v3 main_v7 main_v11 main_v15 main_v18
-- ==== Pre_finite_loss.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4194304 : Shape := ⟨1, ![4194304]⟩
abbrev S1024 : Shape := ⟨1, ![1024]⟩
abbrev S2883584 : Shape := ⟨1, ![2883584]⟩
abbrev S4195328 : Shape := ⟨1, ![4195328]⟩
abbrev S7078912 : Shape := ⟨1, ![7078912]⟩
abbrev S9962496 : Shape := ⟨1, ![9962496]⟩
abbrev S12846080 : Shape := ⟨1, ![12846080]⟩
abbrev S17040384 : Shape := ⟨1, ![17040384]⟩
abbrev S17041408 : Shape := ⟨1, ![17041408]⟩

class Facts : Prop where
  bcast_S_S4096x1024 : S_.BroadcastsInDim S4096x1024 (![] : Fin 0 → Fin S4096x1024.rank)
  shapeCasts_S4096x1024_S4194304 : S4096x1024.ShapeCasts S4194304
  bcast_S_S1x1024 : S_.BroadcastsInDim S1x1024 (![] : Fin 0 → Fin S1x1024.rank)
  shapeCasts_S1x1024_S1024 : S1x1024.ShapeCasts S1024
  bcast_S_S1024x2816 : S_.BroadcastsInDim S1024x2816 (![] : Fin 0 → Fin S1024x2816.rank)
  shapeCasts_S1024x2816_S2883584 : S1024x2816.ShapeCasts S2883584
  bcast_S_S2816x1024 : S_.BroadcastsInDim S2816x1024 (![] : Fin 0 → Fin S2816x1024.rank)
  shapeCasts_S2816x1024_S2883584 : S2816x1024.ShapeCasts S2883584
  concatenates_S4194304_S1024_S4195328_d0 : Shape.Concatenates [S4194304, S1024] S4195328 0
  concatenates_S4195328_S2883584_S7078912_d0 : Shape.Concatenates [S4195328, S2883584] S7078912 0
  concatenates_S7078912_S2883584_S9962496_d0 : Shape.Concatenates [S7078912, S2883584] S9962496 0
  concatenates_S9962496_S2883584_S12846080_d0 : Shape.Concatenates [S9962496, S2883584] S12846080 0
  concatenates_S12846080_S4194304_S17040384_d0 : Shape.Concatenates [S12846080, S4194304] S17040384 0
  concatenates_S17040384_S1024_S17041408_d0 : Shape.Concatenates [S17040384, S1024] S17041408 0

variable [Facts]

def fn_part1 {F : FTy → Type} [FloatOps F] (main_arg5 : FVec F S4096x1024 .f32) (main_arg6 : FVec F S1x1024 .f32) (main_v3 : IVec S4194304 1) (main_v7 : IVec S1024 1) (main_v11 : IVec S2883584 1) (main_v15 : IVec S2883584 1) (main_v18 : IVec S2816x1024 1) : IVec S17041408 1 :=
  let main_v19 : IVec S2883584 1 := shapeCast S2883584 main_v18 shapeCasts_S2816x1024_S2883584
  let main_v20 : FVec F S4096x1024 .f32 := Host.absf main_arg5
  let main_cst_4 : FVec F S_ .f32 := constant S_ .f32 0x7F800000#32
  let main_v21 : FVec F S4096x1024 .f32 := broadcastInDim S4096x1024 ![] bcast_S_S4096x1024 main_cst_4
  let main_v22 : IVec S4096x1024 1 := cmpf .olt main_v20 main_v21
  let main_v23 : IVec S4194304 1 := shapeCast S4194304 main_v22 shapeCasts_S4096x1024_S4194304
  let main_v24 : FVec F S1x1024 .f32 := Host.absf main_arg6
  let main_cst_5 : FVec F S_ .f32 := constant S_ .f32 0x7F800000#32
  let main_v25 : FVec F S1x1024 .f32 := broadcastInDim S1x1024 ![] bcast_S_S1x1024 main_cst_5
  let main_v26 : IVec S1x1024 1 := cmpf .olt main_v24 main_v25
  let main_v27 : IVec S1024 1 := shapeCast S1024 main_v26 shapeCasts_S1x1024_S1024
  let main_v28 : IVec S4195328 1 := (fun a b => concatenate S4195328 0 [⟨S4194304, a⟩, ⟨S1024, b⟩] concatenates_S4194304_S1024_S4195328_d0) main_v3 main_v7
  let main_v29 : IVec S7078912 1 := (fun a b => concatenate S7078912 0 [⟨S4195328, a⟩, ⟨S2883584, b⟩] concatenates_S4195328_S2883584_S7078912_d0) main_v28 main_v11
  let main_v30 : IVec S9962496 1 := (fun a b => concatenate S9962496 0 [⟨S7078912, a⟩, ⟨S2883584, b⟩] concatenates_S7078912_S2883584_S9962496_d0) main_v29 main_v15
  let main_v31 : IVec S12846080 1 := (fun a b => concatenate S12846080 0 [⟨S9962496, a⟩, ⟨S2883584, b⟩] concatenates_S9962496_S2883584_S12846080_d0) main_v30 main_v19
  let main_v32 : IVec S17040384 1 := (fun a b => concatenate S17040384 0 [⟨S12846080, a⟩, ⟨S4194304, b⟩] concatenates_S12846080_S4194304_S17040384_d0) main_v31 main_v23
  let main_v33 : IVec S17041408 1 := (fun a b => concatenate S17041408 0 [⟨S17040384, a⟩, ⟨S1024, b⟩] concatenates_S17040384_S1024_S17041408_d0) main_v32 main_v27
  main_v33

def fn {F : FTy → Type} [FloatOps F] (main_arg0 : FVec F S4096x1024 .f32) (main_arg1 : FVec F S1x1024 .f32) (main_arg2 : FVec F S1024x2816 .f32) (main_arg3 : FVec F S1024x2816 .f32) (main_arg4 : FVec F S2816x1024 .f32) (main_arg5 : FVec F S4096x1024 .f32) (main_arg6 : FVec F S1x1024 .f32) : IVec S17041408 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : IVec S4194304 1 := shapeCast S4194304 main_v2 shapeCasts_S4096x1024_S4194304
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_v7 : IVec S1024 1 := shapeCast S1024 main_v6 shapeCasts_S1x1024_S1024
  let main_v8 : FVec F S1024x2816 .f32 := Host.absf main_arg2
  let main_cst_1 : FVec F S_ .f32 := constant S_ .f32 0x7F800000#32
  let main_v9 : FVec F S1024x2816 .f32 := broadcastInDim S1024x2816 ![] bcast_S_S1024x2816 main_cst_1
  let main_v10 : IVec S1024x2816 1 := cmpf .olt main_v8 main_v9
  let main_v11 : IVec S2883584 1 := shapeCast S2883584 main_v10 shapeCasts_S1024x2816_S2883584
  let main_v12 : FVec F S1024x2816 .f32 := Host.absf main_arg3
  let main_cst_2 : FVec F S_ .f32 := constant S_ .f32 0x7F800000#32
  let main_v13 : FVec F S1024x2816 .f32 := broadcastInDim S1024x2816 ![] bcast_S_S1024x2816 main_cst_2
  let main_v14 : IVec S1024x2816 1 := cmpf .olt main_v12 main_v13
  let main_v15 : IVec S2883584 1 := shapeCast S2883584 main_v14 shapeCasts_S1024x2816_S2883584
  let main_v16 : FVec F S2816x1024 .f32 := Host.absf main_arg4
  let main_cst_3 : FVec F S_ .f32 := constant S_ .f32 0x7F800000#32
  let main_v17 : FVec F S2816x1024 .f32 := broadcastInDim S2816x1024 ![] bcast_S_S2816x1024 main_cst_3
  let main_v18 : IVec S2816x1024 1 := cmpf .olt main_v16 main_v17
  fn_part1 (F := F) main_arg5 main_arg6 main_v3 main_v7 main_v11 main_v15 main_v18
-- ==== Pre_finite_oi.lean ====
abbrev S4096x1024 : Shape := ⟨2, ![4096, 1024]⟩
abbrev S1x1024 : Shape := ⟨2, ![1, 1024]⟩
abbrev S1024x512 : Shape := ⟨2, ![1024, 512]⟩
abbrev S4096x512 : Shape := ⟨2, ![4096, 512]⟩
abbrev S_ : Shape := ⟨0, ![]⟩
abbrev S4194304 : Shape := ⟨1, ![4194304]⟩
abbrev S1024 : Shape := ⟨1, ![1024]⟩
abbrev S524288 : Shape := ⟨1, ![524288]⟩
abbrev S2097152 : Shape := ⟨1, ![2097152]⟩
abbrev S4195328 : Shape := ⟨1, ![4195328]⟩
abbrev S4719616 : Shape := ⟨1, ![4719616]⟩
abbrev S6816768 : Shape := ⟨1, ![6816768]⟩

class Facts : Prop where
  bcast_S_S4096x1024 : S_.BroadcastsInDim S4096x1024 (![] : Fin 0 → Fin S4096x1024.rank)
  shapeCasts_S4096x1024_S4194304 : S4096x1024.ShapeCasts S4194304
  bcast_S_S1x1024 : S_.BroadcastsInDim S1x1024 (![] : Fin 0 → Fin S1x1024.rank)
  shapeCasts_S1x1024_S1024 : S1x1024.ShapeCasts S1024
  bcast_S_S1024x512 : S_.BroadcastsInDim S1024x512 (![] : Fin 0 → Fin S1024x512.rank)
  shapeCasts_S1024x512_S524288 : S1024x512.ShapeCasts S524288
  bcast_S_S4096x512 : S_.BroadcastsInDim S4096x512 (![] : Fin 0 → Fin S4096x512.rank)
  shapeCasts_S4096x512_S2097152 : S4096x512.ShapeCasts S2097152
  concatenates_S4194304_S1024_S4195328_d0 : Shape.Concatenates [S4194304, S1024] S4195328 0
  concatenates_S4195328_S524288_S4719616_d0 : Shape.Concatenates [S4195328, S524288] S4719616 0
  concatenates_S4719616_S2097152_S6816768_d0 : Shape.Concatenates [S4719616, S2097152] S6816768 0

variable [Facts]

def fn {F : FTy → Type} [FloatOps F] (main_arg0 : FVec F S4096x1024 .f32) (main_arg1 : FVec F S1x1024 .f32) (main_arg2 : FVec F S1024x512 .f32) (main_arg3 : FVec F S4096x512 .f32) (main_arg4 : FVec F S4096x1024 .f32) : IVec S6816768 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : IVec S4194304 1 := shapeCast S4194304 main_v2 shapeCasts_S4096x1024_S4194304
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_v7 : IVec S1024 1 := shapeCast S1024 main_v6 shapeCasts_S1x1024_S1024
  let main_v8 : FVec F S1024x512 .f32 := Host.absf main_arg2
  let main_cst_1 : FVec F S_ .f32 := constant S_ .f32 0x7F800000#32
  let main_v9 : FVec F S1024x512 .f32 := broadcastInDim S1024x512 ![] bcast_S_S1024x512 main_cst_1
  let main_v10 : IVec S1024x512 1 := cmpf .olt main_v8 main_v9
  let main_v11 : IVec S524288 1 := shapeCast S524288 main_v10 shapeCasts_S1024x512_S524288
  let main_v12 : FVec F S4096x512 .f32 := Host.absf main_arg3
  let main_cst_2 : FVec F S_ .f32 := constant S_ .f32 0x7F800000#32
  let main_v13 : FVec F S4096x512 .f32 := broadcastInDim S4096x512 ![] bcast_S_S4096x512 main_cst_2
  let main_v14 : IVec S4096x512 1 := cmpf .olt main_v12 main_v13
  let main_v15 : IVec S2097152 1 := shapeCast S2097152 main_v14 shapeCasts_S4096x512_S2097152
  let main_v16 : IVec S4195328 1 := (fun a b => concatenate S4195328 0 [⟨S4194304, a⟩, ⟨S1024, b⟩] concatenates_S4194304_S1024_S4195328_d0) main_v3 main_v7
  let main_v17 : IVec S4719616 1 := (fun a b => concatenate S4719616 0 [⟨S4195328, a⟩, ⟨S524288, b⟩] concatenates_S4195328_S524288_S4719616_d0) main_v16 main_v11
  let main_v18 : IVec S6816768 1 := (fun a b => concatenate S6816768 0 [⟨S4719616, a⟩, ⟨S2097152, b⟩] concatenates_S4719616_S2097152_S6816768_d0) main_v17 main_v15
  main_v18
-- ==== KernelMn.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 15
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1, .f32⟩
  | .local _ .vmem, ⟨3, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceMnIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 22
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S1024, .f32⟩
  | .hbm, ⟨21, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== KernelGt.lean ====
abbrev S4096x512 : Shape := ⟨2, ![4096, 512]⟩
abbrev S512x2048 : Shape := ⟨2, ![512, 2048]⟩
abbrev S4096x1024 : Shape := ⟨2, ![4096, 1024]⟩
abbrev S2048x512 : Shape := ⟨2, ![2048, 512]⟩
abbrev S1024x512 : Shape := ⟨2, ![1024, 512]⟩
abbrev S4096x2048 : Shape := ⟨2, ![4096, 2048]⟩
abbrev S256x1024 : Shape := ⟨2, ![256, 1024]⟩
abbrev S256x2048 : Shape := ⟨2, ![256, 2048]⟩
abbrev S256x512 : Shape := ⟨2, ![256, 512]⟩

abbrev nBuf : Space → Nat
  | .hbm => 15
  | .vmem => 11
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S4096x1024, .f32⟩
  | .hbm, ⟨3, _⟩ => ⟨S2048x512, .f32⟩
  | .hbm, ⟨4, _⟩ => ⟨S2048x512, .bf16⟩
  | .hbm, ⟨5, _⟩ => ⟨S4096x512, .bf16⟩
  | .hbm, ⟨6, _⟩ => ⟨S1024x512, .bf16⟩
  | .hbm, ⟨7, _⟩ => ⟨S4096x1024, .f32⟩
  | .hbm, ⟨8, _⟩ => ⟨S4096x1024, .bf16⟩
  | .hbm, ⟨9, _⟩ => ⟨S4096x512, .bf16⟩
  | .hbm, ⟨10, _⟩ => ⟨S1024x512, .bf16⟩
  | .hbm, ⟨11, _⟩ => ⟨S4096x1024, .f32⟩
  | .hbm, ⟨12, _⟩ => ⟨S4096x1024, .bf16⟩
  | .hbm, ⟨13, _⟩ => ⟨S4096x2048, .bf16⟩
  | .hbm, ⟨14, _⟩ => ⟨S4096x512, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S2048x512, .bf16⟩
  | .local _ .vmem, ⟨7, _⟩ => ⟨S256x2048, .bf16⟩
  | .local _ .vmem, ⟨8, _⟩ => ⟨S256x2048, .bf16⟩
  | .local _ .vmem, ⟨9, _⟩ => ⟨S256x512, .f32⟩
  | .local _ .vmem, ⟨10, _⟩ => ⟨S256x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceGtIdeal.lean ====
abbrev S4096x512 : Shape := ⟨2, ![4096, 512]⟩
abbrev S512x2048 : Shape := ⟨2, ![512, 2048]⟩
abbrev S4096x1024 : Shape := ⟨2, ![4096, 1024]⟩
abbrev S4096x2048 : Shape := ⟨2, ![4096, 2048]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S4096x1024, .f32⟩
  | .hbm, ⟨3, _⟩ => ⟨S4096x2048, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x2048, .f32⟩
  | .hbm, ⟨48, _⟩ => ⟨S_, .f32⟩
  | .hbm, ⟨49, _⟩ => ⟨S4096x2048, .f32⟩
  | .hbm, ⟨50, _⟩ => ⟨S4096x2048, .f32⟩
  | .hbm, ⟨51, _⟩ => ⟨S4096x512, .f32⟩
  | .hbm, ⟨52, _⟩ => ⟨S4096x2048, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_7 : Ref sig .tc := ⟨.hbm, 46, rfl⟩
abbrev main_v35 : Ref sig .tc := ⟨.hbm, 47, rfl⟩
abbrev main_cst_8 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== KernelOi.lean ====
abbrev S4096x1024 : Shape := ⟨2, ![4096, 1024]⟩
abbrev S1x1024 : Shape := ⟨2, ![1, 1024]⟩
abbrev S1024x512 : Shape := ⟨2, ![1024, 512]⟩
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S512x512 : Shape := ⟨2, ![512, 512]⟩
abbrev S512x1024 : Shape := ⟨2, ![512, 1024]⟩
abbrev S512x1 : Shape := ⟨2, ![512, 1]⟩
abbrev S512 : Shape := ⟨1, ![512]⟩
abbrev S1024 : Shape := ⟨1, ![1024]⟩

abbrev nBuf : Space → Nat
  | .hbm => 21
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x512, .f32⟩
  | .hbm, ⟨3, _⟩ => ⟨S4096x512, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x512, .bf16⟩
  | .hbm, ⟨17, _⟩ => ⟨S1024x512, .bf16⟩
  | .hbm, ⟨18, _⟩ => ⟨S4096x1024, .f32⟩
  | .hbm, ⟨19, _⟩ => ⟨S4096x1024, .bf16⟩
  | .hbm, ⟨20, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S1024x512, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1, .f32⟩
  | .local _ .vmem, ⟨8, _⟩ => ⟨S512x1, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceOiIdeal.lean ====
abbrev S4096x1024 : Shape := ⟨2, ![4096, 1024]⟩
abbrev S1x1024 : Shape := ⟨2, ![1, 1024]⟩
abbrev S1024x512 : Shape := ⟨2, ![1024, 512]⟩
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x512, .f32⟩
  | .hbm, ⟨3, _⟩ => ⟨S4096x512, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x512, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== KernelEi.lean ====
abbrev S4096x1024 : Shape := ⟨2, ![4096, 1024]⟩
abbrev S1x1024 : Shape := ⟨2, ![1, 1024]⟩
abbrev S1024x2048 : Shape := ⟨2, ![1024, 2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S2048x1024 : Shape := ⟨2, ![2048, 1024]⟩
abbrev S4096x512 : Shape := ⟨2, ![4096, 512]⟩
abbrev S512x1024 : Shape := ⟨2, ![512, 1024]⟩
abbrev S512x512 : Shape := ⟨2, ![512, 512]⟩
abbrev S1024x1024 : Shape := ⟨2, ![1024, 1024]⟩
abbrev S512x1 : Shape := ⟨2, ![512, 1]⟩
abbrev S512 : Shape := ⟨1, ![512]⟩
abbrev S1024 : Shape := ⟨1, ![1024]⟩

abbrev nBuf : Space → Nat
  | .hbm => 27
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2048, .f32⟩
  | .hbm, ⟨3, _⟩ => ⟨S4096x2048, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S2048x1024, .f32⟩
  | .hbm, ⟨17, _⟩ => ⟨S2048x1024, .bf16⟩
  | .hbm, ⟨18, _⟩ => ⟨S4096x1024, .f32⟩
  | .hbm, ⟨19, _⟩ => ⟨S4096x1024, .bf16⟩
  | .hbm, ⟨20, _⟩ => ⟨S4096x512, .f32⟩
  | .hbm, ⟨21, _⟩ => ⟨S4096x512, .bf16⟩
  | .hbm, ⟨22, _⟩ => ⟨S4096x512, .f32⟩
  | .hbm, ⟨23, _⟩ => ⟨S4096x512, .bf16⟩
  | .hbm, ⟨24, _⟩ => ⟨S4096x1024, .f32⟩
  | .hbm, ⟨25, _⟩ => ⟨S4096x1024, .bf16⟩
  | .hbm, ⟨26, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1, .f32⟩
  | .local _ .vmem, ⟨14, _⟩ => ⟨S512x1, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_5 (i : grid0.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceEiIdeal.lean ====
abbrev S4096x1024 : Shape := ⟨2, ![4096, 1024]⟩
abbrev S1x1024 : Shape := ⟨2, ![1, 1024]⟩
abbrev S1024x2048 : Shape := ⟨2, ![1024, 2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2048, .f32⟩
  | .hbm, ⟨3, _⟩ => ⟨S4096x2048, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x2048, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== KernelLn.lean ====
abbrev S4096x512 : Shape := ⟨2, ![4096, 512]⟩
abbrev S4096x1024 : Shape := ⟨2, ![4096, 1024]⟩
abbrev S1024x1024 : Shape := ⟨2, ![1024, 1024]⟩
abbrev S1x512 : Shape := ⟨2, ![1, 512]⟩
abbrev S256x512 : Shape := ⟨2, ![256, 512]⟩
abbrev S256x1024 : Shape := ⟨2, ![256, 1024]⟩
abbrev S512x1024 : Shape := ⟨2, ![512, 1024]⟩
abbrev S256 : Shape := ⟨1, ![256]⟩
abbrev S256x1 : Shape := ⟨2, ![256, 1]⟩
abbrev S512 : Shape := ⟨1, ![512]⟩

abbrev nBuf : Space → Nat
  | .hbm => 10
  | .vmem => 11
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S1024x1024, .f32⟩
  | .hbm, ⟨3, _⟩ => ⟨S1x512, .f32⟩
  | .hbm, ⟨4, _⟩ => ⟨S1x512, .f32⟩
  | .hbm, ⟨5, _⟩ => ⟨S4096x1024, .bf16⟩
  | .hbm, ⟨6, _⟩ => ⟨S1024x1024, .bf16⟩
  | .hbm, ⟨7, _⟩ => ⟨S4096x512, .f32⟩
  | .hbm, ⟨8, _⟩ => ⟨S1x512, .f32⟩
  | .hbm, ⟨9, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1x512, .f32⟩
  | .local _ .vmem, ⟨6, _⟩ => ⟨S1x512, .f32⟩
  | .local _ .vmem, ⟨7, _⟩ => ⟨S256x512, .f32⟩
  | .local _ .vmem, ⟨8, _⟩ => ⟨S256x512, .f32⟩
  | .local _ .vmem, ⟨9, _⟩ => ⟨S1x512, .f32⟩
  | .local _ .vmem, ⟨10, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceLnIdeal.lean ====
abbrev S4096x512 : Shape := ⟨2, ![4096, 512]⟩
abbrev S4096x1024 : Shape := ⟨2, ![4096, 1024]⟩
abbrev S1024x1024 : Shape := ⟨2, ![1024, 1024]⟩
abbrev S1x512 : Shape := ⟨2, ![1, 512]⟩
abbrev S_ : Shape := ⟨0, ![]⟩
abbrev S4096 : Shape := ⟨1, ![4096]⟩
abbrev S4096x1 : Shape := ⟨2, ![4096, 1]⟩
abbrev S512x1024 : Shape := ⟨2, ![512, 1024]⟩
abbrev S512 : Shape := ⟨1, ![512]⟩

abbrev nBuf : Space → Nat
  | .hbm => 91
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S1024x1024, .f32⟩
  | .hbm, ⟨3, _⟩ => ⟨S1x512, .f32⟩
  | .hbm, ⟨4, _⟩ => ⟨S1x512, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S_, .f32⟩
  | .hbm, ⟨37, _⟩ => ⟨S4096x512, .f32⟩
  | .hbm, ⟨38, _⟩ => ⟨S4096x512, .f32⟩
  | .hbm, ⟨39, _⟩ => ⟨S_, .f32⟩
  | .hbm, ⟨40, _⟩ => ⟨S4096x512, .f32⟩
  | .hbm, ⟨41, _⟩ => ⟨S4096x512, .f32⟩
  | .hbm, ⟨42, _⟩ => ⟨S_, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S512x1024, .f32⟩
  | .hbm, ⟨48, _⟩ => ⟨S4096x1024, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S_, .f32⟩
  | .hbm, ⟨55, _⟩ => ⟨S512, .f32⟩
  | .hbm, ⟨56, _⟩ => ⟨S1x512, .f32⟩
  | .hbm, ⟨57, _⟩ => ⟨S4096x512, .f32⟩
  | .hbm, ⟨58, _⟩ => ⟨S_, .f32⟩
  | .hbm, ⟨59, _⟩ => ⟨S512, .f32⟩
  | .hbm, ⟨60, _⟩ => ⟨S1x512, .f32⟩
  | .hbm, ⟨61, _⟩ => ⟨S4096x512, .f32⟩
  | .hbm, ⟨62, _⟩ => ⟨S4096x512, .f32⟩
  | .hbm, ⟨63, _⟩ => ⟨S4096x512, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S4096x512, .f32⟩
  | .hbm, ⟨68, _⟩ => ⟨S4096x512, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S4096, .f32⟩
  | .hbm, ⟨75, _⟩ => ⟨S4096x512, .f32⟩
  | .hbm, ⟨76, _⟩ => ⟨S4096x512, .f32⟩
  | .hbm, ⟨77, _⟩ => ⟨S4096x512, .f32⟩
  | .hbm, ⟨78, _⟩ => ⟨S4096x512, .f32⟩
  | .hbm, ⟨79, _⟩ => ⟨S4096x512, .f32⟩
  | .hbm, ⟨80, _⟩ => ⟨S4096x512, .f32⟩
  | .hbm, ⟨81, _⟩ => ⟨S_, .f32⟩
  | .hbm, ⟨82, _⟩ => ⟨S4096, .f32⟩
  | .hbm, ⟨83, _⟩ => ⟨S4096x1, .f32⟩
  | .hbm, ⟨84, _⟩ => ⟨S_, .f32⟩
  | .hbm, ⟨85, _⟩ => ⟨S4096x1, .f32⟩
  | .hbm, ⟨86, _⟩ => ⟨S4096x1, .f32⟩
  | .hbm, ⟨87, _⟩ => ⟨S_, .f32⟩
  | .hbm, ⟨88, _⟩ => ⟨S4096, .f32⟩
  | .hbm, ⟨89, _⟩ => ⟨S4096x512, .f32⟩
  | .hbm, ⟨90, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v23_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v23_1 : Ref sig .tc := ⟨.hbm, 45, rfl⟩
abbrev main_v23_0 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v27 : Ref sig .tc := ⟨.hbm, 53, rfl⟩
abbrev main_cst_5 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_6 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_7 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_cst_9 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_10 : Ref sig .tc := ⟨.hbm, 81, rfl⟩
abbrev main_v50 : Ref sig .tc := ⟨.hbm, 82, rfl⟩
abbrev main_v51 : Ref sig .tc := ⟨.hbm, 83, rfl⟩
abbrev main_cst_11 : Ref sig .tc := ⟨.hbm, 84, rfl⟩
abbrev main_v52 : Ref sig .tc := ⟨.hbm, 85, rfl⟩
abbrev main_v53 : Ref sig .tc := ⟨.hbm, 86, rfl⟩
abbrev main_cst_12 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩

abbrev nD : Nat := 1
abbrev τ : Topo := Topo.v7x

variable {F : FTy → Type} [FloatOps F]
-- ==== KernelFf.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S256x1024 : Shape := ⟨2, ![256, 1024]⟩
abbrev S256x1 : Shape := ⟨2, ![256, 1]⟩
abbrev S256x2816 : Shape := ⟨2, ![256, 2816]⟩
abbrev S256x256 : Shape := ⟨2, ![256, 256]⟩
abbrev S256 : Shape := ⟨1, ![256]⟩
abbrev S1024 : Shape := ⟨1, ![1024]⟩

abbrev nBuf : Space → Nat
  | .hbm => 52
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S2816x1024, .f32⟩
  | .hbm, ⟨7, _⟩ => ⟨S2816x1024, .bf16⟩
  | .hbm, ⟨8, _⟩ => ⟨S2816x1024, .f32⟩
  | .hbm, ⟨9, _⟩ => ⟨S2816x1024, .bf16⟩
  | .hbm, ⟨10, _⟩ => ⟨S2816x1024, .bf16⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .bf16⟩
  | .hbm, ⟨45, _⟩ => ⟨S4096x2816, .bf16⟩
  | .hbm, ⟨46, _⟩ => ⟨S4096x1024, .bf16⟩
  | .hbm, ⟨47, _⟩ => ⟨S4096x1024, .f32⟩
  | .hbm, ⟨48, _⟩ => ⟨S4096x1024, .bf16⟩
  | .hbm, ⟨49, _⟩ => ⟨S4096x2816, .bf16⟩
  | .hbm, ⟨50, _⟩ => ⟨S4096x2816, .bf16⟩
  | .hbm, ⟨51, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1, .f32⟩
  | .local _ .vmem, ⟨7, _⟩ => ⟨S256x1, .f32⟩
  | .local _ .vmem, ⟨8, _⟩ => ⟨S1x1024, .f32⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S2816x1024, .bf16⟩
  | .local _ .vmem, ⟨14, _⟩ => ⟨S2816x1024, .bf16⟩
  | .local _ .vmem, ⟨15, _⟩ => ⟨S2816x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S256x2816, .bf16⟩
  | .local _ .vmem, ⟨21, _⟩ => ⟨S256x2816, .bf16⟩
  | .local _ .vmem, ⟨22, _⟩ => ⟨S256x2816, .bf16⟩
  | .local _ .vmem, ⟨23, _⟩ => ⟨S256x2816, .bf16⟩
  | .local _ .vmem, ⟨24, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35_0 : Ref sig .tc := ⟨.hbm, 47, rfl⟩
abbrev main_v35_1 : Ref sig .tc := ⟨.hbm, 48, rfl⟩
abbrev main_v35_2 : Ref sig .tc := ⟨.hbm, 49, rfl⟩
abbrev main_v35_3 : Ref sig .tc := ⟨.hbm, 50, rfl⟩
abbrev main_v35_4 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceFfIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1024 : Shape := ⟨1, ![1024]⟩

abbrev nBuf : Space → Nat
  | .hbm => 120
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x1024, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x1024, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x2816, .f32⟩
  | .hbm, ⟨65, _⟩ => ⟨S4096x2816, .f32⟩
  | .hbm, ⟨66, _⟩ => ⟨S4096x2816, .f32⟩
  | .hbm, ⟨67, _⟩ => ⟨S4096x2816, .f32⟩
  | .hbm, ⟨68, _⟩ => ⟨S_, .f32⟩
  | .hbm, ⟨69, _⟩ => ⟨S4096x2816, .f32⟩
  | .hbm, ⟨70, _⟩ => ⟨S4096x2816, .f32⟩
  | .hbm, ⟨71, _⟩ => ⟨S_, .f32⟩
  | .hbm, ⟨72, _⟩ => ⟨S4096x2816, .f32⟩
  | .hbm, ⟨73, _⟩ => ⟨S4096x2816, .f32⟩
  | .hbm, ⟨74, _⟩ => ⟨S_, .f32⟩
  | .hbm, ⟨75, _⟩ => ⟨S4096x2816, .f32⟩
  | .hbm, ⟨76, _⟩ => ⟨S4096x2816, .f32⟩
  | .hbm, ⟨77, _⟩ => ⟨S4096x2816, .f32⟩
  | .hbm, ⟨78, _⟩ => ⟨S4096x2816, .f32⟩
  | .hbm, ⟨79, _⟩ => ⟨S4096x2816, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x2816, .f32⟩
  | .hbm, ⟨84, _⟩ => ⟨S4096x2816, .f32⟩
  | .hbm, ⟨85, _⟩ => ⟨S4096x2816, .f32⟩
  | .hbm, ⟨86, _⟩ => ⟨S4096x2816, .f32⟩
  | .hbm, ⟨87, _⟩ => ⟨S4096x2816, .f32⟩
  | .hbm, ⟨88, _⟩ => ⟨S4096x2816, .f32⟩
  | .hbm, ⟨89, _⟩ => ⟨S4096x2816, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S_, .f32⟩
  | .hbm, ⟨95, _⟩ => ⟨S1024, .f32⟩
  | .hbm, ⟨96, _⟩ => ⟨S1x1024, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S_, .f32⟩
  | .hbm, ⟨101, _⟩ => ⟨S4096, .f32⟩
  | .hbm, ⟨102, _⟩ => ⟨S4096x1, .f32⟩
  | .hbm, ⟨103, _⟩ => ⟨S4096x1024, .f32⟩
  | .hbm, ⟨104, _⟩ => ⟨S4096x1024, .f32⟩
  | .hbm, ⟨105, _⟩ => ⟨S4096x1024, .f32⟩
  | .hbm, ⟨106, _⟩ => ⟨S4096x1, .f32⟩
  | .hbm, ⟨107, _⟩ => ⟨S_, .f32⟩
  | .hbm, ⟨108, _⟩ => ⟨S4096x1, .f32⟩
  | .hbm, ⟨109, _⟩ => ⟨S4096x1, .f32⟩
  | .hbm, ⟨110, _⟩ => ⟨S_, .f32⟩
  | .hbm, ⟨111, _⟩ => ⟨S4096, .f32⟩
  | .hbm, ⟨112, _⟩ => ⟨S4096x1024, .f32⟩
  | .hbm, ⟨113, _⟩ => ⟨S4096x1024, .f32⟩
  | .hbm, ⟨114, _⟩ => ⟨S4096x1024, .f32⟩
  | .hbm, ⟨115, _⟩ => ⟨S4096x1024, .f32⟩
  | .hbm, ⟨116, _⟩ => ⟨S4096x1024, .f32⟩
  | .hbm, ⟨117, _⟩ => ⟨S4096x1024, .bf16⟩
  | .hbm, ⟨118, _⟩ => ⟨S4096x2816, .bf16⟩
  | .hbm, ⟨119, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v14_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v14_1 : Ref sig .tc := ⟨.hbm, 34, rfl⟩
abbrev main_v14_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v20 : Ref sig .tc := ⟨.hbm, 44, rfl⟩
abbrev main_v21 : Ref sig .tc := ⟨.hbm, 45, rfl⟩
abbrev main_cst_2 : Ref sig .tc := ⟨.hbm, 46, rfl⟩
abbrev main_v22 : Ref sig .tc := ⟨.hbm, 47, rfl⟩
abbrev main_v23 : Ref sig .tc := ⟨.hbm, 48, rfl⟩
abbrev main_cst_3 : Ref sig .tc := ⟨.hbm, 49, rfl⟩
abbrev main_v24 : Ref sig .tc := ⟨.hbm, 50, rfl⟩
abbrev main_v25 : Ref sig .tc := ⟨.hbm, 51, rfl⟩
abbrev main_cst_4 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_5 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_call2_v0 : Ref sig .tc := ⟨.hbm, 66, rfl⟩
abbrev main_call2_v1 : Ref sig .tc := ⟨.hbm, 67, rfl⟩
abbrev main_call2_cst : Ref sig .tc := ⟨.hbm, 68, rfl⟩
abbrev main_call2_v2 : Ref sig .tc := ⟨.hbm, 69, rfl⟩
abbrev main_call2_v3 : Ref sig .tc := ⟨.hbm, 70, rfl⟩
abbrev main_call2_cst_0 : Ref sig .tc := ⟨.hbm, 71, rfl⟩
abbrev main_call2_v4 : Ref sig .tc := ⟨.hbm, 72, rfl⟩
abbrev main_v38_2 : Ref sig .tc := ⟨.hbm, 73, rfl⟩
abbrev main_call2_cst_1 : Ref sig .tc := ⟨.hbm, 74, rfl⟩
abbrev main_call2_v6 : Ref sig .tc := ⟨.hbm, 75, rfl⟩
abbrev main_call2_v7 : Ref sig .tc := ⟨.hbm, 76, rfl⟩
abbrev main_v38_1 : Ref sig .tc := ⟨.hbm, 77, rfl⟩
abbrev main_v38_0 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_call3_v0 : Ref sig .tc := ⟨.hbm, 86, rfl⟩
abbrev main_call3_v1 : Ref sig .tc := ⟨.hbm, 87, rfl⟩
abbrev main_call3_v2 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_cst_6 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_cst_7 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_cst_8 : Ref sig .tc := ⟨.hbm, 107, rfl⟩
abbrev main_v62 : Ref sig .tc := ⟨.hbm, 108, rfl⟩
abbrev main_v63 : Ref sig .tc := ⟨.hbm, 109, rfl⟩
abbrev main_cst_9 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩

abbrev nD : Nat := 1
abbrev τ : Topo := Topo.v7x

variable {F : FTy → Type} [FloatOps F]
-- ==== KernelAt.lean ====
abbrev S4096x1024 : Shape := ⟨2, ![4096, 1024]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S512x1024 : Shape := ⟨2, ![512, 1024]⟩
abbrev S512x1 : Shape := ⟨2, ![512, 1]⟩
abbrev S512x256 : Shape := ⟨2, ![512, 256]⟩
abbrev S256x256 : Shape := ⟨2, ![256, 256]⟩
abbrev S512 : Shape := ⟨1, ![512]⟩
abbrev S1024 : Shape := ⟨1, ![1024]⟩

abbrev nBuf : Space → Nat
  | .hbm => 37
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1024, .f32⟩
  | .hbm, ⟨3, _⟩ => ⟨S256x1024, .f32⟩
  | .hbm, ⟨4, _⟩ => ⟨S256x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | .hbm, ⟨23, _⟩ => ⟨S1024x1024, .bf16⟩
  | .hbm, ⟨24, _⟩ => ⟨S4096x1024, .f32⟩
  | .hbm, ⟨25, _⟩ => ⟨S4096x1024, .bf16⟩
  | .hbm, ⟨26, _⟩ => ⟨S4096x1024, .bf16⟩
  | .hbm, ⟨27, _⟩ => ⟨S256x1024, .bf16⟩
  | .hbm, ⟨28, _⟩ => ⟨S256x1024, .bf16⟩
  | .hbm, ⟨29, _⟩ => ⟨S1024x1024, .bf16⟩
  | .hbm, ⟨30, _⟩ => ⟨S1024x1024, .bf16⟩
  | .hbm, ⟨31, _⟩ => ⟨S4096x1024, .f32⟩
  | .hbm, ⟨32, _⟩ => ⟨S4096x1024, .bf16⟩
  | .hbm, ⟨33, _⟩ => ⟨S4096x1024, .bf16⟩
  | .hbm, ⟨34, _⟩ => ⟨S256x1024, .f32⟩
  | .hbm, ⟨35, _⟩ => ⟨S256x1024, .f32⟩
  | .hbm, ⟨36, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1, .f32⟩
  | .local _ .vmem, ⟨7, _⟩ => ⟨S512x1, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | .local _ .vmem, ⟨11, _⟩ => ⟨S256x1024, .bf16⟩
  | .local _ .vmem, ⟨12, _⟩ => ⟨S256x1024, .bf16⟩
  | .local _ .vmem, ⟨13, _⟩ => ⟨S1024x1024, .bf16⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S256x1024, .f32⟩
  | .local _ .vmem, ⟨22, _⟩ => ⟨S256x1024, .f32⟩
  | .local _ .vmem, ⟨23, _⟩ => ⟨S1x1024, .f32⟩
  | .local _ .vmem, ⟨24, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev main_v21_2 : Ref sig .tc := ⟨.hbm, 33, rfl⟩
abbrev main_v21_3 : Ref sig .tc := ⟨.hbm, 34, rfl⟩
abbrev main_v21_4 : Ref sig .tc := ⟨.hbm, 35, rfl⟩
abbrev main_v21_5 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceAtIdeal.lean ====
abbrev S4096x1024 : Shape := ⟨2, ![4096, 1024]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S4096x4x256 : Shape := ⟨3, ![4096, 4, 256]⟩
abbrev S256x4x256 : Shape := ⟨3, ![256, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩
abbrev S1024 : Shape := ⟨1, ![1024]⟩

abbrev nBuf : Space → Nat
  | .hbm => 224
  | .vmem => 0
  | .smem => 0
  | _ => 0

abbrev hbmTy0_0 (i : Nat) : BufTy := match i % 128 with
  | 0 => ⟨S4096x1024, .f32⟩
  | 1 => ⟨S1x1024, .f32⟩
  | 2 => ⟨S1024x1024, .f32⟩
  | 3 => ⟨S256x1024, .f32⟩
  | 4 => ⟨S256x1024, .f32⟩
  | 5 => ⟨S1024x1024, .f32⟩
  | 6 => ⟨S4096x1024, .f32⟩
  | 7 => ⟨S4096x1024, .f32⟩
  | 8 => ⟨S_, .f32⟩
  | 9 => ⟨S4096, .f32⟩
  | 10 => ⟨S4096x1, .f32⟩
  | 11 => ⟨S_, .f32⟩
  | 12 => ⟨S4096x1, .f32⟩
  | 13 => ⟨S4096x1, .f32⟩
  | 14 => ⟨S_, .f32⟩
  | 15 => ⟨S4096x1, .f32⟩
  | 16 => ⟨S4096x1, .f32⟩
  | 17 => ⟨S4096x1, .f32⟩
  | 18 => ⟨S4096x1024, .f32⟩
  | 19 => ⟨S4096x1024, .f32⟩
  | 20 => ⟨S4096x1024, .f32⟩
  | 21 => ⟨S4096x1024, .f32⟩
  | 22 => ⟨S4096x1024, .f32⟩
  | 23 => ⟨S4096x4x256, .f32⟩
  | 24 => ⟨S256x4x256, .f32⟩
  | 25 => ⟨S256x4x256, .f32⟩
  | 26 => ⟨S4x4096x256, .f32⟩
  | 27 => ⟨S_, .f32⟩
  | 28 => ⟨S4x4096x256, .f32⟩
  | 29 => ⟨S4x4096x256, .f32⟩
  | 30 => ⟨S_, .f32⟩
  | 31 => ⟨S4x4096, .f32⟩
  | 32 => ⟨S4x4096x1, .f32⟩
  | 33 => ⟨S4x4096x256, .f32⟩
  | 34 => ⟨S4x4096x256, .i1⟩
  | 35 => ⟨S4x4096x256, .f32⟩
  | 36 => ⟨S_, .f32⟩
  | 37 => ⟨S4x4096, .f32⟩
  | 38 => ⟨S_, .f32⟩
  | 39 => ⟨S4x4096, .f32⟩
  | 40 => ⟨S4x4096, .f32⟩
  | 41 => ⟨S_, .f32⟩
  | 42 => ⟨S4x4096, .f32⟩
  | 43 => ⟨S4x4096, .i1⟩
  | 44 => ⟨S_, .f32⟩
  | 45 => ⟨S4x4096, .f32⟩
  | 46 => ⟨S4x4096, .i1⟩
  | 47 => ⟨S_, .f32⟩
  | 48 => ⟨S4x4096, .f32⟩
  | 49 => ⟨S_, .f32⟩
  | 50 => ⟨S4x4096, .f32⟩
  | 51 => ⟨S_, .f32⟩
  | 52 => ⟨S4x4096, .f32⟩
  | 53 => ⟨S4x4096, .f32⟩
  | 54 => ⟨S4x4096, .f32⟩
  | 55 => ⟨S4x4096x1, .f32⟩
  | 56 => ⟨S4x4096x256, .f32⟩
  | 57 => ⟨S4x4096x256, .f32⟩
  | 58 => ⟨S4x4096x256, .f32⟩
  | 59 => ⟨S_, .f32⟩
  | 60 => ⟨S4x4096, .f32⟩
  | 61 => ⟨S4x4096x1, .f32⟩
  | 62 => ⟨S4x4096x256, .f32⟩
  | 63 => ⟨S4x4096x256, .f32⟩
  | 64 => ⟨S4x4096x1, .f32⟩
  | 65 => ⟨S_, .f32⟩
  | 66 => ⟨S4x4096x1, .f32⟩
  | 67 => ⟨S4x4096x1, .f32⟩
  | 68 => ⟨S4x256x4096, .f32⟩
  | 69 => ⟨S4096x4x256, .f32⟩
  | 70 => ⟨S4096x1024, .f32⟩
  | 71 => ⟨S4096x1024, .f32⟩
  | 72 => ⟨S4096x1024, .f32⟩
  | 73 => ⟨S4096x4x256, .f32⟩
  | 74 => ⟨S4x256x4096, .f32⟩
  | 75 => ⟨S4x4096x256, .f32⟩
  | 76 => ⟨S4x256x256, .f32⟩
  | 77 => ⟨S256x4x256, .f32⟩
  | 78 => ⟨S4x4096x256, .f32⟩
  | 79 => ⟨S4x4096x256, .f32⟩
  | 80 => ⟨S4x4096x256, .f32⟩
  | 81 => ⟨S_, .f32⟩
  | 82 => ⟨S4x4096, .f32⟩
  | 83 => ⟨S4x4096x1, .f32⟩
  | 84 => ⟨S4x4096x1, .f32⟩
  | 85 => ⟨S4x4096x256, .f32⟩
  | 86 => ⟨S4x4096x256, .f32⟩
  | 87 => ⟨S_, .f32⟩
  | 88 => ⟨S4x4096, .f32⟩
  | 89 => ⟨S4x4096x256, .f32⟩
  | 90 => ⟨S4x4096x256, .f32⟩
  | 91 => ⟨S4x4096x256, .f32⟩
  | 92 => ⟨S_, .f32⟩
  | 93 => ⟨S4x4096x256, .f32⟩
  | 94 => ⟨S4x4096x256, .f32⟩
  | 95 => ⟨S4x256x256, .f32⟩
  | 96 => ⟨S256x4x256, .f32⟩
  | 97 => ⟨S4x4096x256, .f32⟩
  | 98 => ⟨S4096x4x256, .f32⟩
  | 99 => ⟨S256x1024, .f32⟩
  | 100 => ⟨S256x1024, .f32⟩
  | 101 => ⟨S4096x1024, .f32⟩
  | 102 => ⟨S4096x1024, .f32⟩
  | 103 => ⟨S_, .f32⟩
  | 104 => ⟨S4096, .f32⟩
  | 105 => ⟨S4096x1, .f32⟩
  | 106 => ⟨S_, .f32⟩
  | 107 => ⟨S4096x1, .f32⟩
  | 108 => ⟨S4096x1, .f32⟩
  | 109 => ⟨S_, .f32⟩
  | 110 => ⟨S4096x1, .f32⟩
  | 111 => ⟨S4096x1, .f32⟩
  | 112 => ⟨S4096x1, .f32⟩
  | 113 => ⟨S4096x1, .f32⟩
  | 114 => ⟨S_, .f32⟩
  | 115 => ⟨S4096x1, .f32⟩
  | 116 => ⟨S4096x1, .f32⟩
  | 117 => ⟨S4096x1024, .f32⟩
  | 118 => ⟨S4096x1024, .f32⟩
  | 119 => ⟨S4096x1024, .f32⟩
  | 120 => ⟨S4096x1024, .f32⟩
  | 121 => ⟨S4096x1024, .f32⟩
  | 122 => ⟨S4096x4x256, .f32⟩
  | 123 => ⟨S256x4x256, .f32⟩
  | 124 => ⟨S256x4x256, .f32⟩
  | 125 => ⟨S4x4096x256, .f32⟩
  | 126 => ⟨S_, .f32⟩
  | 127 => ⟨S4x4096x256, .f32⟩
  | _ => ⟨S4096x1024, .f32⟩

abbrev hbmTy0_1 (i : Nat) : BufTy := match i % 128 with
  | 0 => ⟨S4x4096x256, .f32⟩
  | 1 => ⟨S_, .f32⟩
  | 2 => ⟨S4x4096, .f32⟩
  | 3 => ⟨S4x4096x1, .f32⟩
  | 4 => ⟨S4x4096x256, .f32⟩
  | 5 => ⟨S4x4096x256, .i1⟩
  | 6 => ⟨S4x4096x256, .f32⟩
  | 7 => ⟨S_, .f32⟩
  | 8 => ⟨S4x4096, .f32⟩
  | 9 => ⟨S_, .f32⟩
  | 10 => ⟨S4x4096, .f32⟩
  | 11 => ⟨S4x4096, .f32⟩
  | 12 => ⟨S_, .f32⟩
  | 13 => ⟨S4x4096, .f32⟩
  | 14 => ⟨S4x4096, .i1⟩
  | 15 => ⟨S_, .f32⟩
  | 16 => ⟨S4x4096, .f32⟩
  | 17 => ⟨S4x4096, .i1⟩
  | 18 => ⟨S_, .f32⟩
  | 19 => ⟨S4x4096, .f32⟩
  | 20 => ⟨S_, .f32⟩
  | 21 => ⟨S4x4096, .f32⟩
  | 22 => ⟨S_, .f32⟩
  | 23 => ⟨S4x4096, .f32⟩
  | 24 => ⟨S4x4096, .f32⟩
  | 25 => ⟨S4x4096, .f32⟩
  | 26 => ⟨S4x4096x1, .f32⟩
  | 27 => ⟨S4x4096x256, .f32⟩
  | 28 => ⟨S4x4096x256, .f32⟩
  | 29 => ⟨S4x4096x256, .f32⟩
  | 30 => ⟨S_, .f32⟩
  | 31 => ⟨S4x4096, .f32⟩
  | 32 => ⟨S4x4096x1, .f32⟩
  | 33 => ⟨S4x4096x256, .f32⟩
  | 34 => ⟨S4x4096x256, .f32⟩
  | 35 => ⟨S4x4096x1, .f32⟩
  | 36 => ⟨S_, .f32⟩
  | 37 => ⟨S4x4096x1, .f32⟩
  | 38 => ⟨S4x4096x1, .f32⟩
  | 39 => ⟨S4x256x4096, .f32⟩
  | 40 => ⟨S4096x4x256, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S4096x4x256, .f32⟩
  | 47 => ⟨S4x256x4096, .f32⟩
  | 48 => ⟨S4x4096x256, .f32⟩
  | 49 => ⟨S4x4096x256, .f32⟩
  | 50 => ⟨S4x4096x256, .f32⟩
  | 51 => ⟨S4x4096x256, .f32⟩
  | 52 => ⟨S_, .f32⟩
  | 53 => ⟨S4x4096, .f32⟩
  | 54 => ⟨S4x4096x1, .f32⟩
  | 55 => ⟨S4x4096x1, .f32⟩
  | 56 => ⟨S4x4096x256, .f32⟩
  | 57 => ⟨S4x4096x256, .f32⟩
  | 58 => ⟨S_, .f32⟩
  | 59 => ⟨S4x4096, .f32⟩
  | 60 => ⟨S4x4096x256, .f32⟩
  | 61 => ⟨S4x4096x256, .f32⟩
  | 62 => ⟨S4x4096x256, .f32⟩
  | 63 => ⟨S_, .f32⟩
  | 64 => ⟨S4x4096x256, .f32⟩
  | 65 => ⟨S4x4096x256, .f32⟩
  | 66 => ⟨S4x4096x256, .f32⟩
  | 67 => ⟨S4096x4x256, .f32⟩
  | 68 => ⟨S4096x1024, .f32⟩
  | 69 => ⟨S4096x1024, .f32⟩
  | 70 => ⟨S4096x1024, .f32⟩
  | 71 => ⟨S_, .f32⟩
  | 72 => ⟨S1024, .f32⟩
  | 73 => ⟨S1x1024, .f32⟩
  | 74 => ⟨S4096x1024, .f32⟩
  | 75 => ⟨S4096x1024, .f32⟩
  | 76 => ⟨S4096x1024, .f32⟩
  | 77 => ⟨S_, .f32⟩
  | 78 => ⟨S4096, .f32⟩
  | 79 => ⟨S4096x1, .f32⟩
  | 80 => ⟨S4096x1024, .f32⟩
  | 81 => ⟨S4096x1024, .f32⟩
  | 82 => ⟨S4096x1024, .f32⟩
  | 83 => ⟨S4096x1, .f32⟩
  | 84 => ⟨S_, .f32⟩
  | 85 => ⟨S4096x1, .f32⟩
  | 86 => ⟨S4096x1, .f32⟩
  | 87 => ⟨S_, .f32⟩
  | 88 => ⟨S4096, .f32⟩
  | 89 => ⟨S4096x1024, .f32⟩
  | 90 => ⟨S4096x1024, .f32⟩
  | 91 => ⟨S4096x1024, .f32⟩
  | 92 => ⟨S4096x1024, .f32⟩
  | 93 => ⟨S4096x1024, .f32⟩
  | 94 => ⟨S4096x1024, .bf16⟩
  | 95 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_cst_9 : Ref sig .tc := ⟨.hbm, 49, rfl⟩
abbrev main_v32 : Ref sig .tc := ⟨.hbm, 50, rfl⟩
abbrev main_cst_10 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_11 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_12 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_13 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_14 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_15 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_16 : Ref sig .tc := ⟨.hbm, 103, rfl⟩
abbrev main_v79 : Ref sig .tc := ⟨.hbm, 104, rfl⟩
abbrev main_v80 : Ref sig .tc := ⟨.hbm, 105, rfl⟩
abbrev main_cst_17 : Ref sig .tc := ⟨.hbm, 106, rfl⟩
abbrev main_v81 : Ref sig .tc := ⟨.hbm, 107, rfl⟩
abbrev main_v82 : Ref sig .tc := ⟨.hbm, 108, rfl⟩
abbrev main_cst_18 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_19 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_20 : Ref sig .tc := ⟨.hbm, 126, rfl⟩
abbrev main_v98 : Ref sig .tc := ⟨.hbm, 127, rfl⟩
abbrev main_v99 : Ref sig .tc := ⟨.hbm, 128, rfl⟩
abbrev main_cst_21 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_22 : Ref sig .tc := ⟨.hbm, 135, rfl⟩
abbrev main_v105 : Ref sig .tc := ⟨.hbm, 136, rfl⟩
abbrev main_cst_23 : Ref sig .tc := ⟨.hbm, 137, rfl⟩
abbrev main_v106 : Ref sig .tc := ⟨.hbm, 138, rfl⟩
abbrev main_v107 : Ref sig .tc := ⟨.hbm, 139, rfl⟩
abbrev main_cst_24 : Ref sig .tc := ⟨.hbm, 140, rfl⟩
abbrev main_v108 : Ref sig .tc := ⟨.hbm, 141, rfl⟩
abbrev main_v109 : Ref sig .tc := ⟨.hbm, 142, rfl⟩
abbrev main_cst_25 : Ref sig .tc := ⟨.hbm, 143, rfl⟩
abbrev main_v110 : Ref sig .tc := ⟨.hbm, 144, rfl⟩
abbrev main_v111 : Ref sig .tc := ⟨.hbm, 145, rfl⟩
abbrev main_cst_26 : Ref sig .tc := ⟨.hbm, 146, rfl⟩
abbrev main_v112 : Ref sig .tc := ⟨.hbm, 147, rfl⟩
abbrev main_cst_27 : Ref sig .tc := ⟨.hbm, 148, rfl⟩
abbrev main_v113 : Ref sig .tc := ⟨.hbm, 149, rfl⟩
abbrev main_cst_28 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_cst_29 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_cst_30 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_cst_31 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_cst_32 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_cst_33 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_cst_34 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_cst_35 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_cst_36 : Ref sig .tc := ⟨.hbm, 212, rfl⟩
abbrev main_v168 : Ref sig .tc := ⟨.hbm, 213, rfl⟩
abbrev main_v169 : Ref sig .tc := ⟨.hbm, 214, rfl⟩
abbrev main_cst_37 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩

abbrev nD : Nat := 1
abbrev τ : Topo := Topo.v7x

variable {F : FTy → Type} [FloatOps F]
-- ==== KernelLs.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1x1 : Shape := ⟨2, ![1, 1]⟩
abbrev S4096x1 : Shape := ⟨2, ![4096, 1]⟩
abbrev S4096x2816 : Shape := ⟨2, ![4096, 2816]⟩
abbrev S512x1024 : Shape := ⟨2, ![512, 1024]⟩
abbrev S512x1 : Shape := ⟨2, ![512, 1]⟩
abbrev S512x2816 : Shape := ⟨2, ![512, 2816]⟩
abbrev S512 : Shape := ⟨1, ![512]⟩
abbrev S256x1024 : Shape := ⟨2, ![256, 1024]⟩
abbrev S512x256 : Shape := ⟨2, ![512, 256]⟩
abbrev S1 : Shape := ⟨1, ![1]⟩
abbrev S1024 : Shape := ⟨1, ![1024]⟩

abbrev nBuf : Space → Nat
  | .hbm => 21
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S1x1024, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S2816x1024, .bf16⟩
  | .hbm, ⟨12, _⟩ => ⟨S4096x1024, .f32⟩
  | .hbm, ⟨13, _⟩ => ⟨S4096x1024, .bf16⟩
  | .hbm, ⟨14, _⟩ => ⟨S1x1024, .f32⟩
  | .hbm, ⟨15, _⟩ => ⟨S1x1, .f32⟩
  | .hbm, ⟨16, _⟩ => ⟨S4096x1024, .bf16⟩
  | .hbm, ⟨17, _⟩ => ⟨S4096x1, .f32⟩
  | .hbm, ⟨18, _⟩ => ⟨S4096x2816, .bf16⟩
  | .hbm, ⟨19, _⟩ => ⟨S4096x2816, .bf16⟩
  | .hbm, ⟨20, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S1x1, .f32⟩
  | .local _ .vmem, ⟨15, _⟩ => ⟨S512x1024, .bf16⟩
  | .local _ .vmem, ⟨16, _⟩ => ⟨S512x1024, .bf16⟩
  | .local _ .vmem, ⟨17, _⟩ => ⟨S512x1, .f32⟩
  | .local _ .vmem, ⟨18, _⟩ => ⟨S512x1, .f32⟩
  | .local _ .vmem, ⟨19, _⟩ => ⟨S512x2816, .bf16⟩
  | .local _ .vmem, ⟨20, _⟩ => ⟨S512x2816, .bf16⟩
  | .local _ .vmem, ⟨21, _⟩ => ⟨S512x2816, .bf16⟩
  | .local _ .vmem, ⟨22, _⟩ => ⟨S512x2816, .bf16⟩
  | .local _ .vmem, ⟨23, _⟩ => ⟨S512x2816, .bf16⟩
  | .local _ .vmem, ⟨24, _⟩ => ⟨S512x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev main_v5_6 : Ref sig .tc := ⟨.hbm, 18, rfl⟩
abbrev main_v5_7 : Ref sig .tc := ⟨.hbm, 19, rfl⟩
abbrev main_v5_8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2816 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2816 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceLsIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1024 : Shape := ⟨1, ![1024]⟩
abbrev S1x1 : Shape := ⟨2, ![1, 1]⟩

abbrev nBuf : Space → Nat
  | .hbm => 130
  | .vmem => 0
  | .smem => 0
  | _ => 0

abbrev hbmTy0_0 (i : Nat) : BufTy := match i % 128 with
  | 0 => ⟨S4096x1024, .f32⟩
  | 1 => ⟨S1x1024, .f32⟩
  | 2 => ⟨S1024x2816, .f32⟩
  | 3 => ⟨S1024x2816, .f32⟩
  | 4 => ⟨S2816x1024, .f32⟩
  | 5 => ⟨S4096x1024, .f32⟩
  | 6 => ⟨S1x1024, .f32⟩
  | 7 => ⟨S4096x1024, .f32⟩
  | 8 => ⟨S_, .f32⟩
  | 9 => ⟨S4096, .f32⟩
  | 10 => ⟨S4096x1, .f32⟩
  | 11 => ⟨S_, .f32⟩
  | 12 => ⟨S4096x1, .f32⟩
  | 13 => ⟨S4096x1, .f32⟩
  | 14 => ⟨S_, .f32⟩
  | 15 => ⟨S4096x1, .f32⟩
  | 16 => ⟨S4096x1, .f32⟩
  | 17 => ⟨S4096x1, .f32⟩
  | 18 => ⟨S4096x1024, .f32⟩
  | 19 => ⟨S4096x1024, .f32⟩
  | 20 => ⟨S4096x1024, .f32⟩
  | 21 => ⟨S4096x1024, .f32⟩
  | 22 => ⟨S4096x2816, .f32⟩
  | 23 => ⟨S4096x2816, .f32⟩
  | 24 => ⟨S4096x2816, .f32⟩
  | 25 => ⟨S4096x2816, .f32⟩
  | 26 => ⟨S_, .f32⟩
  | 27 => ⟨S4096x2816, .f32⟩
  | 28 => ⟨S4096x2816, .f32⟩
  | 29 => ⟨S_, .f32⟩
  | 30 => ⟨S4096x2816, .f32⟩
  | 31 => ⟨S4096x2816, .f32⟩
  | 32 => ⟨S_, .f32⟩
  | 33 => ⟨S4096x2816, .f32⟩
  | 34 => ⟨S4096x2816, .f32⟩
  | 35 => ⟨S4096x2816, .f32⟩
  | 36 => ⟨S4096x2816, .f32⟩
  | 37 => ⟨S4096x2816, .f32⟩
  | 38 => ⟨S_, .f32⟩
  | 39 => ⟨S4096x2816, .f32⟩
  | 40 => ⟨S4096x2816, .f32⟩
  | 41 => ⟨S4096x2816, .f32⟩
  | 42 => ⟨S4096x2816, .f32⟩
  | 43 => ⟨S4096x2816, .f32⟩
  | 44 => ⟨S4096x2816, .f32⟩
  | 45 => ⟨S4096x2816, .f32⟩
  | 46 => ⟨S4096x1024, .f32⟩
  | 47 => ⟨S4096x1024, .f32⟩
  | 48 => ⟨S4096x1024, .f32⟩
  | 49 => ⟨S_, .f32⟩
  | 50 => ⟨S4096, .f32⟩
  | 51 => ⟨S4096x1, .f32⟩
  | 52 => ⟨S_, .f32⟩
  | 53 => ⟨S4096x1, .f32⟩
  | 54 => ⟨S4096x1, .f32⟩
  | 55 => ⟨S_, .f32⟩
  | 56 => ⟨S4096x1, .f32⟩
  | 57 => ⟨S4096x1, .f32⟩
  | 58 => ⟨S4096x1, .f32⟩
  | 59 => ⟨S4096x1, .f32⟩
  | 60 => ⟨S_, .f32⟩
  | 61 => ⟨S4096x1, .f32⟩
  | 62 => ⟨S4096x1, .f32⟩
  | 63 => ⟨S4096x1024, .f32⟩
  | 64 => ⟨S4096x1024, .f32⟩
  | 65 => ⟨S4096x1024, .f32⟩
  | 66 => ⟨S4096x1024, .f32⟩
  | 67 => ⟨S4096x1024, .f32⟩
  | 68 => ⟨S4096x1024, .f32⟩
  | 69 => ⟨S_, .f32⟩
  | 70 => ⟨S4096x1024, .f32⟩
  | 71 => ⟨S4096x1024, .f32⟩
  | 72 => ⟨S_, .f32⟩
  | 73 => ⟨S4096, .f32⟩
  | 74 => ⟨S_, .f32⟩
  | 75 => ⟨S4096, .f32⟩
  | 76 => ⟨S4096, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S4096, .f32⟩
  | 85 => ⟨S_, .f32⟩
  | 86 => ⟨S4096, .f32⟩
  | 87 => ⟨S4096, .f32⟩
  | 88 => ⟨S4096x1024, .f32⟩
  | 89 => ⟨S4096x1024, .f32⟩
  | 90 => ⟨S4096x1024, .f32⟩
  | 91 => ⟨S_, .f32⟩
  | 92 => ⟨S1024, .f32⟩
  | 93 => ⟨S1x1024, .f32⟩
  | 94 => ⟨S4096x1024, .f32⟩
  | 95 => ⟨S4096x1024, .f32⟩
  | 96 => ⟨S4096x1024, .f32⟩
  | 97 => ⟨S_, .f32⟩
  | 98 => ⟨S4096, .f32⟩
  | 99 => ⟨S4096x1, .f32⟩
  | 100 => ⟨S4096x1024, .f32⟩
  | 101 => ⟨S4096x1024, .f32⟩
  | 102 => ⟨S4096x1, .f32⟩
  | 103 => ⟨S_, .f32⟩
  | 104 => ⟨S4096x1, .f32⟩
  | 105 => ⟨S4096x1, .f32⟩
  | 106 => ⟨S_, .f32⟩
  | 107 => ⟨S4096, .f32⟩
  | 108 => ⟨S4096x1024, .f32⟩
  | 109 => ⟨S4096x1024, .f32⟩
  | 110 => ⟨S4096x1024, .f32⟩
  | 111 => ⟨S4096x1024, .f32⟩
  | 112 => ⟨S4096x1024, .f32⟩
  | 113 => ⟨S4096x1024, .f32⟩
  | 114 => ⟨S_, .f32⟩
  | 115 => ⟨S4096, .f32⟩
  | 116 => ⟨S4096x1, .f32⟩
  | 117 => ⟨S_, .f32⟩
  | 118 => ⟨S4096x1, .f32⟩
  | 119 => ⟨S4096x1, .f32⟩
  | 120 => ⟨S_, .f32⟩
  | 121 => ⟨S4096x1, .f32⟩
  | 122 => ⟨S4096x1, .f32⟩
  | 123 => ⟨S4096x1, .f32⟩
  | 124 => ⟨S4096x1024, .bf16⟩
  | 125 => ⟨S1x1, .f32⟩
  | 126 => ⟨S4096x1024, .bf16⟩
  | 127 => ⟨S4096x2816, .bf16⟩
  | _ => ⟨S4096x1024, .f32⟩

abbrev hbmTy0_1 (i : Nat) : BufTy := match i % 128 with
  | 0 => ⟨S4096x2816, .bf16⟩
  | 1 => ⟨S4096x2816, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v14_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v14_1 : Ref sig .tc := ⟨.hbm, 35, rfl⟩
abbrev main_v14_0 : Ref sig .tc := ⟨.hbm, 36, rfl⟩
abbrev main_v15 : Ref sig .tc := ⟨.hbm, 37, rfl⟩
abbrev main_cst_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_3 : Ref sig .tc := ⟨.hbm, 49, rfl⟩
abbrev main_v23 : Ref sig .tc := ⟨.hbm, 50, rfl⟩
abbrev main_v24 : Ref sig .tc := ⟨.hbm, 51, rfl⟩
abbrev main_cst_4 : Ref sig .tc := ⟨.hbm, 52, rfl⟩
abbrev main_v25 : Ref sig .tc := ⟨.hbm, 53, rfl⟩
abbrev main_v26 : Ref sig .tc := ⟨.hbm, 54, rfl⟩
abbrev main_cst_5 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_6 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_7 : Ref sig .tc := ⟨.hbm, 69, rfl⟩
abbrev main_v39 : Ref sig .tc := ⟨.hbm, 70, rfl⟩
abbrev main_v40 : Ref sig .tc := ⟨.hbm, 71, rfl⟩
abbrev main_cst_8 : Ref sig .tc := ⟨.hbm, 72, rfl⟩
abbrev main_v41 : Ref sig .tc := ⟨.hbm, 73, rfl⟩
abbrev main_cst_9 : Ref sig .tc := ⟨.hbm, 74, rfl⟩
abbrev main_v42 : Ref sig .tc := ⟨.hbm, 75, rfl⟩
abbrev main_v43 : Ref sig .tc := ⟨.hbm, 76, rfl⟩
abbrev main_cst_10 : Ref sig .tc := ⟨.hbm, 77, rfl⟩
abbrev main_v44 : Ref sig .tc := ⟨.hbm, 78, rfl⟩
abbrev main_cst_11 : Ref sig .tc := ⟨.hbm, 79, rfl⟩
abbrev main_v45 : Ref sig .tc := ⟨.hbm, 80, rfl⟩
abbrev main_cst_12 : Ref sig .tc := ⟨.hbm, 81, rfl⟩
abbrev main_cst_13 : Ref sig .tc := ⟨.hbm, 82, rfl⟩
abbrev main_v46 : Ref sig .tc := ⟨.hbm, 83, rfl⟩
abbrev main_v47 : Ref sig .tc := ⟨.hbm, 84, rfl⟩
abbrev main_cst_14 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_cst_15 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_cst_16 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_17 : Ref sig .tc := ⟨.hbm, 103, rfl⟩
abbrev main_v63 : Ref sig .tc := ⟨.hbm, 104, rfl⟩
abbrev main_v64 : Ref sig .tc := ⟨.hbm, 105, rfl⟩
abbrev main_cst_18 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_cst_19 : Ref sig .tc := ⟨.hbm, 114, rfl⟩
abbrev main_v72 : Ref sig .tc := ⟨.hbm, 115, rfl⟩
abbrev main_v73 : Ref sig .tc := ⟨.hbm, 116, rfl⟩
abbrev main_cst_20 : Ref sig .tc := ⟨.hbm, 117, rfl⟩
abbrev main_v74 : Ref sig .tc := ⟨.hbm, 118, rfl⟩
abbrev main_v75 : Ref sig .tc := ⟨.hbm, 119, rfl⟩
abbrev main_cst_21 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩

abbrev nD : Nat := 1
abbrev τ : Topo := Topo.v7x

variable {F : FTy → Type} [FloatOps F]
-- ==== KernelAf.lean ====
abbrev S4096x1024 : Shape := ⟨2, ![4096, 1024]⟩
abbrev S1x1024 : Shape := ⟨2, ![1, 1024]⟩
abbrev S1024x1024 : Shape := ⟨2, ![1024, 1024]⟩
abbrev S256x1024 : Shape := ⟨2, ![256, 1024]⟩
abbrev S4096x1 : Shape := ⟨2, ![4096, 1]⟩
abbrev S1024x1 : Shape := ⟨2, ![1024, 1]⟩
abbrev S1024 : Shape := ⟨1, ![1024]⟩
abbrev S1024x256 : Shape := ⟨2, ![1024, 256]⟩
abbrev S256x256 : Shape := ⟨2, ![256, 256]⟩

abbrev nBuf : Space → Nat
  | .hbm => 15
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1024, .f32⟩
  | .hbm, ⟨3, _⟩ => ⟨S256x1024, .f32⟩
  | .hbm, ⟨4, _⟩ => ⟨S256x1024, .f32⟩
  | .hbm, ⟨5, _⟩ => ⟨S1024x1024, .f32⟩
  | .hbm, ⟨6, _⟩ => ⟨S1024x1024, .bf16⟩
  | .hbm, ⟨7, _⟩ => ⟨S256x1024, .bf16⟩
  | .hbm, ⟨8, _⟩ => ⟨S256x1024, .bf16⟩
  | .hbm, ⟨9, _⟩ => ⟨S1024x1024, .bf16⟩
  | .hbm, ⟨10, _⟩ => ⟨S4096x1024, .f32⟩
  | .hbm, ⟨11, _⟩ => ⟨S4096x1024, .bf16⟩
  | .hbm, ⟨12, _⟩ => ⟨S4096x1, .f32⟩
  | .hbm, ⟨13, _⟩ => ⟨S4096x1024, .bf16⟩
  | .hbm, ⟨14, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1, .f32⟩
  | .local _ .vmem, ⟨12, _⟩ => ⟨S1024x1, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceAfIdeal.lean ====
abbrev S4096x1024 : Shape := ⟨2, ![4096, 1024]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S4096x4x256 : Shape := ⟨3, ![4096, 4, 256]⟩
abbrev S256x4x256 : Shape := ⟨3, ![256, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 62
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1024, .f32⟩
  | .hbm, ⟨3, _⟩ => ⟨S256x1024, .f32⟩
  | .hbm, ⟨4, _⟩ => ⟨S256x1024, .f32⟩
  | .hbm, ⟨5, _⟩ => ⟨S1024x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x4x256, .f32⟩
  | .hbm, ⟨23, _⟩ => ⟨S256x4x256, .f32⟩
  | .hbm, ⟨24, _⟩ => ⟨S256x4x256, .f32⟩
  | .hbm, ⟨25, _⟩ => ⟨S4x4096x256, .f32⟩
  | .hbm, ⟨26, _⟩ => ⟨S_, .f32⟩
  | .hbm, ⟨27, _⟩ => ⟨S4x4096x256, .f32⟩
  | .hbm, ⟨28, _⟩ => ⟨S4x4096x256, .f32⟩
  | .hbm, ⟨29, _⟩ => ⟨S_, .f32⟩
  | .hbm, ⟨30, _⟩ => ⟨S4x4096, .f32⟩
  | .hbm, ⟨31, _⟩ => ⟨S_, .f32⟩
  | .hbm, ⟨32, _⟩ => ⟨S4x4096, .f32⟩
  | .hbm, ⟨33, _⟩ => ⟨S4x4096, .f32⟩
  | .hbm, ⟨34, _⟩ => ⟨S4x4096x1, .f32⟩
  | .hbm, ⟨35, _⟩ => ⟨S4x4096x256, .f32⟩
  | .hbm, ⟨36, _⟩ => ⟨S4x4096x256, .f32⟩
  | .hbm, ⟨37, _⟩ => ⟨S4x4096x256, .f32⟩
  | .hbm, ⟨38, _⟩ => ⟨S_, .f32⟩
  | .hbm, ⟨39, _⟩ => ⟨S4x4096, .f32⟩
  | .hbm, ⟨40, _⟩ => ⟨S4x4096x1, .f32⟩
  | .hbm, ⟨41, _⟩ => ⟨S4x4096x256, .f32⟩
  | .hbm, ⟨42, _⟩ => ⟨S4x4096x256, .f32⟩
  | .hbm, ⟨43, _⟩ => ⟨S4x256x4096, .f32⟩
  | .hbm, ⟨44, _⟩ => ⟨S4096x4x256, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1024, .bf16⟩
  | .hbm, ⟨60, _⟩ => ⟨S4096x1024, .bf16⟩
  | .hbm, ⟨61, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== KernelGm.lean ====
abbrev S4096x2048 : Shape := ⟨2, ![4096, 2048]⟩
abbrev S4x128x128 : Shape := ⟨3, ![4, 128, 128]⟩
abbrev S4x128 : Shape := ⟨2, ![4, 128]⟩
abbrev S1024x1024 : Shape := ⟨2, ![1024, 1024]⟩
abbrev S4096x1024 : Shape := ⟨2, ![4096, 1024]⟩
abbrev S4x128x1 : Shape := ⟨3, ![4, 128, 1]⟩
abbrev S512x512 : Shape := ⟨2, ![512, 512]⟩
abbrev S512x1024 : Shape := ⟨2, ![512, 1024]⟩
abbrev S128x128 : Shape := ⟨2, ![128, 128]⟩
abbrev S512 : Shape := ⟨1, ![512]⟩
abbrev S512x1 : Shape := ⟨2, ![512, 1]⟩
abbrev S1x128x128 : Shape := ⟨3, ![1, 128, 128]⟩
abbrev S128x1 : Shape := ⟨2, ![128, 1]⟩
abbrev S1x128x1 : Shape := ⟨3, ![1, 128, 1]⟩
abbrev S128 : Shape := ⟨1, ![128]⟩
abbrev S512x128 : Shape := ⟨2, ![512, 128]⟩

abbrev nBuf : Space → Nat
  | .hbm => 11
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4x128x128, .f32⟩
  | .hbm, ⟨2, _⟩ => ⟨S4x128, .f32⟩
  | .hbm, ⟨3, _⟩ => ⟨S1024x1024, .f32⟩
  | .hbm, ⟨4, _⟩ => ⟨S4096x1024, .f32⟩
  | .hbm, ⟨5, _⟩ => ⟨S4096x1024, .bf16⟩
  | .hbm, ⟨6, _⟩ => ⟨S1024x1024, .bf16⟩
  | .hbm, ⟨7, _⟩ => ⟨S4x128x1, .f32⟩
  | .hbm, ⟨8, _⟩ => ⟨S4096x1024, .bf16⟩
  | .hbm, ⟨9, _⟩ => ⟨S4x128x128, .f32⟩
  | .hbm, ⟨10, _⟩ => ⟨S4x128x1, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S4x128x128, .f32⟩
  | .local _ .vmem, ⟨8, _⟩ => ⟨S4x128x1, .f32⟩
  | .local _ .vmem, ⟨9, _⟩ => ⟨S512x1024, .bf16⟩
  | .local _ .vmem, ⟨10, _⟩ => ⟨S512x1024, .bf16⟩
  | .local _ .vmem, ⟨11, _⟩ => ⟨S4x128x128, .f32⟩
  | .local _ .vmem, ⟨12, _⟩ => ⟨S4x128x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelGmIdeal.lean ====
variable {F : FTy → Type} [FloatOps F] [Named F]
def κ : String → Option EReal := fun
  | "cubic" => some ((8943 / 200000 : ℝ) : EReal)
  | "cubic3" => some ((26829 / 200000 : ℝ) : EReal)
  | _ => none
-- ==== ReferenceGmIdeal.lean ====
abbrev S4096x2048 : Shape := ⟨2, ![4096, 2048]⟩
abbrev S4x128x128 : Shape := ⟨3, ![4, 128, 128]⟩
abbrev S4x128 : Shape := ⟨2, ![4, 128]⟩
abbrev S1024x1024 : Shape := ⟨2, ![1024, 1024]⟩
abbrev S4096x1024 : Shape := ⟨2, ![4096, 1024]⟩
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S32x128x4x128 : Shape := ⟨4, ![32, 128, 4, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S4x32x128x128 : Shape := ⟨4, ![4, 32, 128, 128]⟩
abbrev S128x4 : Shape := ⟨2, ![128, 4]⟩
abbrev S1x128x4x1 : Shape := ⟨4, ![1, 128, 4, 1]⟩
abbrev S512x1024 : Shape := ⟨2, ![512, 1024]⟩
abbrev S4x128x1 : Shape := ⟨3, ![4, 128, 1]⟩

abbrev nBuf : Space → Nat
  | .hbm => 221
  | .vmem => 0
  | .smem => 0
  | _ => 0

abbrev hbmTy0_0 (i : Nat) : BufTy := match i % 128 with
  | 0 => ⟨S4096x2048, .f32⟩
  | 1 => ⟨S4x128x128, .f32⟩
  | 2 => ⟨S4x128, .f32⟩
  | 3 => ⟨S1024x1024, .f32⟩
  | 4 => ⟨S4096x1024, .f32⟩
  | 5 => ⟨S4096x512, .f32⟩
  | 6 => ⟨S4096x512, .f32⟩
  | 7 => ⟨S4096x512, .f32⟩
  | 8 => ⟨S4096x512, .f32⟩
  | 9 => ⟨S4096x512, .f32⟩
  | 10 => ⟨S_, .f32⟩
  | 11 => ⟨S4096x512, .f32⟩
  | 12 => ⟨S4096x512, .f32⟩
  | 13 => ⟨S_, .f32⟩
  | 14 => ⟨S4096x512, .f32⟩
  | 15 => ⟨S4096x512, .f32⟩
  | 16 => ⟨S_, .f32⟩
  | 17 => ⟨S4096x512, .f32⟩
  | 18 => ⟨S4096x512, .f32⟩
  | 19 => ⟨S4096x512, .f32⟩
  | 20 => ⟨S_, .f32⟩
  | 21 => ⟨S4096x512, .f32⟩
  | 22 => ⟨S4096x512, .f32⟩
  | 23 => ⟨S4096x512, .f32⟩
  | 24 => ⟨S_, .f32⟩
  | 25 => ⟨S4096x512, .f32⟩
  | 26 => ⟨S4096x512, .f32⟩
  | 27 => ⟨S_, .f32⟩
  | 28 => ⟨S4096x512, .f32⟩
  | 29 => ⟨S4096x512, .f32⟩
  | 30 => ⟨S4096x512, .f32⟩
  | 31 => ⟨S_, .f32⟩
  | 32 => ⟨S4096x512, .f32⟩
  | 33 => ⟨S4096x512, .f32⟩
  | 34 => ⟨S_, .f32⟩
  | 35 => ⟨S4096x512, .f32⟩
  | 36 => ⟨S4096x512, .f32⟩
  | 37 => ⟨S4096x512, .f32⟩
  | 38 => ⟨S4096x512, .f32⟩
  | 39 => ⟨S4096x512, .f32⟩
  | 40 => ⟨S4096x512, .f32⟩
  | 41 => ⟨S_, .f32⟩
  | 42 => ⟨S4096x512, .f32⟩
  | 43 => ⟨S4096x512, .f32⟩
  | 44 => ⟨S_, .f32⟩
  | 45 => ⟨S4096x512, .f32⟩
  | 46 => ⟨S4096x512, .f32⟩
  | 47 => ⟨S_, .f32⟩
  | 48 => ⟨S4096x512, .f32⟩
  | 49 => ⟨S4096x512, .f32⟩
  | 50 => ⟨S4096x512, .f32⟩
  | 51 => ⟨S_, .f32⟩
  | 52 => ⟨S4096x512, .f32⟩
  | 53 => ⟨S4096x512, .f32⟩
  | 54 => ⟨S4096x512, .f32⟩
  | 55 => ⟨S_, .f32⟩
  | 56 => ⟨S4096x512, .f32⟩
  | 57 => ⟨S4096x512, .f32⟩
  | 58 => ⟨S_, .f32⟩
  | 59 => ⟨S4096x512, .f32⟩
  | 60 => ⟨S4096x512, .f32⟩
  | 61 => ⟨S4096x512, .f32⟩
  | 62 => ⟨S_, .f32⟩
  | 63 => ⟨S4096x512, .f32⟩
  | 64 => ⟨S4096x512, .f32⟩
  | 65 => ⟨S_, .f32⟩
  | 66 => ⟨S4096x512, .f32⟩
  | 67 => ⟨S4096x512, .f32⟩
  | 68 => ⟨S4096x512, .f32⟩
  | 69 => ⟨S_, .f32⟩
  | 70 => ⟨S4096, .f32⟩
  | 71 => ⟨S4096x1, .f32⟩
  | 72 => ⟨S_, .f32⟩
  | 73 => ⟨S4096x1, .f32⟩
  | 74 => ⟨S4096x1, .f32⟩
  | 75 => ⟨S4096x512, .f32⟩
  | 76 => ⟨S4096x512, .f32⟩
  | 77 => ⟨S4096x512, .f32⟩
  | 78 => ⟨S_, .f32⟩
  | 79 => ⟨S4096, .f32⟩
  | 80 => ⟨S4096x1, .f32⟩
  | 81 => ⟨S_, .f32⟩
  | 82 => ⟨S4096x1, .f32⟩
  | 83 => ⟨S4096x1, .f32⟩
  | 84 => ⟨S_, .f32⟩
  | 85 => ⟨S4096x1, .f32⟩
  | 86 => ⟨S4096x1, .f32⟩
  | 87 => ⟨S4096x1, .f32⟩
  | 88 => ⟨S4096x1, .f32⟩
  | 89 => ⟨S_, .f32⟩
  | 90 => ⟨S4096x1, .f32⟩
  | 91 => ⟨S4096x1, .f32⟩
  | 92 => ⟨S4096x512, .f32⟩
  | 93 => ⟨S4096x512, .f32⟩
  | 94 => ⟨S32x128x4x128, .f32⟩
  | 95 => ⟨S128, .i32⟩
  | 96 => ⟨S_, .i32⟩
  | 97 => ⟨S_, .i32⟩
  | 98 => ⟨S128, .i32⟩
  | 99 => ⟨S128, .i32⟩
  | 100 => ⟨S128, .i32⟩
  | 101 => ⟨S_, .i32⟩
  | 102 => ⟨S128, .i32⟩
  | 103 => ⟨S128, .i1⟩
  | 104 => ⟨S128, .i32⟩
  | 105 => ⟨S128, .i32⟩
  | 106 => ⟨S_, .i32⟩
  | 107 => ⟨S128, .i32⟩
  | 108 => ⟨S128, .i1⟩
  | 109 => ⟨S128, .i1⟩
  | 110 => ⟨S_, .i32⟩
  | 111 => ⟨S128, .i32⟩
  | 112 => ⟨S128, .i32⟩
  | 113 => ⟨S128, .i32⟩
  | 114 => ⟨S1x128, .i32⟩
  | 115 => ⟨S128x1, .i32⟩
  | 116 => ⟨S128x128, .i32⟩
  | 117 => ⟨S128x128, .i32⟩
  | 118 => ⟨S128x128, .i1⟩
  | 119 => ⟨S1x128x128, .i1⟩
  | 120 => ⟨S_, .f32⟩
  | 121 => ⟨S4x128x128, .f32⟩
  | 122 => ⟨S4x128x128, .i1⟩
  | 123 => ⟨S4x128x128, .f32⟩
  | 124 => ⟨S_, .f32⟩
  | 125 => ⟨S4x128x128, .f32⟩
  | 126 => ⟨S4x32x128x128, .f32⟩
  | 127 => ⟨S32x128x4x128, .f32⟩
  | _ => ⟨S4096x2048, .f32⟩

abbrev hbmTy0_1 (i : Nat) : BufTy := match i % 128 with
  | 0 => ⟨S128x4, .f32⟩
  | 1 => ⟨S1x128x4x1, .f32⟩
  | 2 => ⟨S32x128x4x128, .f32⟩
  | 3 => ⟨S32x128x4x128, .f32⟩
  | 4 => ⟨S4096x512, .f32⟩
  | 5 => ⟨S4096x512, .f32⟩
  | 6 => ⟨S512x1024, .f32⟩
  | 7 => ⟨S4096x1024, .f32⟩
  | 8 => ⟨S4096x512, .f32⟩
  | 9 => ⟨S4096x512, .f32⟩
  | 10 => ⟨S4096x512, .f32⟩
  | 11 => ⟨S32x128x4x128, .f32⟩
  | 12 => ⟨S_, .f32⟩
  | 13 => ⟨S128x4, .f32⟩
  | 14 => ⟨S1x128x4x1, .f32⟩
  | 15 => ⟨S_, .f32⟩
  | 16 => ⟨S128x4, .f32⟩
  | 17 => ⟨S4x128, .f32⟩
  | 18 => ⟨S4x32x128x128, .f32⟩
  | 19 => ⟨S4x128x128, .f32⟩
  | 20 => ⟨S4x32x128x128, .f32⟩
  | 21 => ⟨S32x128x4x128, .f32⟩
  | 22 => ⟨S_, .f32⟩
  | 23 => ⟨S4x128x128, .f32⟩
  | 24 => ⟨S4x128x128, .f32⟩
  | 25 => ⟨S4096x512, .f32⟩
  | 26 => ⟨S4096x512, .f32⟩
  | 27 => ⟨S_, .f32⟩
  | 28 => ⟨S4096, .f32⟩
  | 29 => ⟨S4096x1, .f32⟩
  | 30 => ⟨S4096x512, .f32⟩
  | 31 => ⟨S4096x512, .f32⟩
  | 32 => ⟨S4096x1, .f32⟩
  | 33 => ⟨S_, .f32⟩
  | 34 => ⟨S4096x1, .f32⟩
  | 35 => ⟨S4096x1, .f32⟩
  | 36 => ⟨S_, .f32⟩
  | 37 => ⟨S4096, .f32⟩
  | 38 => ⟨S4096x512, .f32⟩
  | 39 => ⟨S4096x512, .f32⟩
  | 40 => ⟨S4096x512, .f32⟩
  | 41 => ⟨S4096x512, .f32⟩
  | 42 => ⟨S4096x512, .f32⟩
  | 43 => ⟨S4096x512, .f32⟩
  | 44 => ⟨S_, .f32⟩
  | 45 => ⟨S4096, .f32⟩
  | 46 => ⟨S4096x1, .f32⟩
  | 47 => ⟨S_, .f32⟩
  | 48 => ⟨S4096x1, .f32⟩
  | 49 => ⟨S4096x1, .f32⟩
  | 50 => ⟨S_, .f32⟩
  | 51 => ⟨S4096, .f32⟩
  | 52 => ⟨S4096x512, .f32⟩
  | 53 => ⟨S4096x512, .f32⟩
  | 54 => ⟨S4096x512, .f32⟩
  | 55 => ⟨S4096x512, .f32⟩
  | 56 => ⟨S_, .f32⟩
  | 57 => ⟨S4096x512, .f32⟩
  | 58 => ⟨S4096x512, .f32⟩
  | 59 => ⟨S4096x512, .f32⟩
  | 60 => ⟨S_, .f32⟩
  | 61 => ⟨S4096x512, .f32⟩
  | 62 => ⟨S4096x512, .f32⟩
  | 63 => ⟨S4096x512, .f32⟩
  | 64 => ⟨S_, .f32⟩
  | 65 => ⟨S4096x512, .f32⟩
  | 66 => ⟨S4096x512, .f32⟩
  | 67 => ⟨S_, .f32⟩
  | 68 => ⟨S4096x512, .f32⟩
  | 69 => ⟨S4096x512, .f32⟩
  | 70 => ⟨S4096x512, .f32⟩
  | 71 => ⟨S4096x512, .f32⟩
  | 72 => ⟨S4096x512, .f32⟩
  | 73 => ⟨S4096x512, .f32⟩
  | 74 => ⟨S_, .f32⟩
  | 75 => ⟨S4096x512, .f32⟩
  | 76 => ⟨S4096x512, .f32⟩
  | 77 => ⟨S4096x512, .f32⟩
  | 78 => ⟨S_, .f32⟩
  | 79 => ⟨S4096x512, .f32⟩
  | 80 => ⟨S4096x512, .f32⟩
  | 81 => ⟨S4096x512, .f32⟩
  | 82 => ⟨S_, .f32⟩
  | 83 => ⟨S4096x512, .f32⟩
  | 84 => ⟨S4096x512, .f32⟩
  | 85 => ⟨S_, .f32⟩
  | 86 => ⟨S4096x512, .f32⟩
  | 87 => ⟨S4096x512, .f32⟩
  | 88 => ⟨S4096x512, .f32⟩
  | 89 => ⟨S4096x512, .f32⟩
  | 90 => ⟨S4096x1024, .f32⟩
  | 91 => ⟨S4096x1024, .bf16⟩
  | 92 => ⟨S4x128x1, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_11 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_cst_16 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_17 : Ref sig .tc := ⟨.hbm, 78, rfl⟩
abbrev main_v55 : Ref sig .tc := ⟨.hbm, 79, rfl⟩
abbrev main_v56 : Ref sig .tc := ⟨.hbm, 80, rfl⟩
abbrev main_cst_18 : Ref sig .tc := ⟨.hbm, 81, rfl⟩
abbrev main_v57 : Ref sig .tc := ⟨.hbm, 82, rfl⟩
abbrev main_v58 : Ref sig .tc := ⟨.hbm, 83, rfl⟩
abbrev main_cst_19 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_20 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c : Ref sig .tc := ⟨.hbm, 96, rfl⟩
abbrev main_call0_v0 : Ref sig .tc := ⟨.hbm, 97, rfl⟩
abbrev main_call0_v1 : Ref sig .tc := ⟨.hbm, 98, rfl⟩
abbrev main_call0_v2 : Ref sig .tc := ⟨.hbm, 99, rfl⟩
abbrev main_call0_v3 : Ref sig .tc := ⟨.hbm, 100, rfl⟩
abbrev main_call0_v4 : Ref sig .tc := ⟨.hbm, 101, rfl⟩
abbrev main_call0_v5 : Ref sig .tc := ⟨.hbm, 102, rfl⟩
abbrev main_call0_v6 : Ref sig .tc := ⟨.hbm, 103, rfl⟩
abbrev main_call0_v7 : Ref sig .tc := ⟨.hbm, 104, rfl⟩
abbrev main_call0_v8 : Ref sig .tc := ⟨.hbm, 105, rfl⟩
abbrev main_call0_c : Ref sig .tc := ⟨.hbm, 106, rfl⟩
abbrev main_call0_v9 : Ref sig .tc := ⟨.hbm, 107, rfl⟩
abbrev main_call0_v10 : Ref sig .tc := ⟨.hbm, 108, rfl⟩
abbrev main_call0_v11 : Ref sig .tc := ⟨.hbm, 109, rfl⟩
abbrev main_call0_c_0 : Ref sig .tc := ⟨.hbm, 110, rfl⟩
abbrev main_call0_v12 : Ref sig .tc := ⟨.hbm, 111, rfl⟩
abbrev main_call0_v13 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_cst_21 : Ref sig .tc := ⟨.hbm, 120, rfl⟩
abbrev main_v76 : Ref sig .tc := ⟨.hbm, 121, rfl⟩
abbrev main_v77_1 : Ref sig .tc := ⟨.hbm, 122, rfl⟩
abbrev main_v77_0 : Ref sig .tc := ⟨.hbm, 123, rfl⟩
abbrev main_call1_cst : Ref sig .tc := ⟨.hbm, 124, rfl⟩
abbrev main_v77_2 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_cst_22 : Ref sig .tc := ⟨.hbm, 140, rfl⟩
abbrev main_v92 : Ref sig .tc := ⟨.hbm, 141, rfl⟩
abbrev main_v93 : Ref sig .tc := ⟨.hbm, 142, rfl⟩
abbrev main_cst_23 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_call2_cst : Ref sig .tc := ⟨.hbm, 150, rfl⟩
abbrev main_call2_v0 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_cst_24 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_cst_25 : Ref sig .tc := ⟨.hbm, 161, rfl⟩
abbrev main_v108 : Ref sig .tc := ⟨.hbm, 162, rfl⟩
abbrev main_v109 : Ref sig .tc := ⟨.hbm, 163, rfl⟩
abbrev main_cst_26 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_cst_27 : Ref sig .tc := ⟨.hbm, 172, rfl⟩
abbrev main_v117 : Ref sig .tc := ⟨.hbm, 173, rfl⟩
abbrev main_v118 : Ref sig .tc := ⟨.hbm, 174, rfl⟩
abbrev main_cst_28 : Ref sig .tc := ⟨.hbm, 175, rfl⟩
abbrev main_v119 : Ref sig .tc := ⟨.hbm, 176, rfl⟩
abbrev main_v120 : Ref sig .tc := ⟨.hbm, 177, rfl⟩
abbrev main_cst_29 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_cst_30 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_cst_31 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_cst_32 : Ref sig .tc := ⟨.hbm, 192, rfl⟩
abbrev main_v132 : Ref sig .tc := ⟨.hbm, 193, rfl⟩
abbrev main_v133 : Ref sig .tc := ⟨.hbm, 194, rfl⟩
abbrev main_cst_33 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_cst_34 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_cst_35 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_cst_36 : Ref sig .tc := ⟨.hbm, 210, rfl⟩
abbrev main_v146 : Ref sig .tc := ⟨.hbm, 211, rfl⟩
abbrev main_v147 : Ref sig .tc := ⟨.hbm, 212, rfl⟩
abbrev main_cst_37 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩

abbrev nD : Nat := 1
abbrev τ : Topo := Topo.v7x

variable {F : FTy → Type} [FloatOps F]
-- ==== KernelPg.lean ====
abbrev S4096x512 : Shape := ⟨2, ![4096, 512]⟩
abbrev S4096x4096 : Shape := ⟨2, ![4096, 4096]⟩
abbrev S2x32x64 : Shape := ⟨3, ![2, 32, 64]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S512x1024 : Shape := ⟨2, ![512, 1024]⟩
abbrev S4096x128 : Shape := ⟨2, ![4096, 128]⟩
abbrev S128x1024 : Shape := ⟨2, ![128, 1024]⟩
abbrev S128x512 : Shape := ⟨2, ![128, 512]⟩
abbrev S512x128 : Shape := ⟨2, ![512, 128]⟩
abbrev S32x1 : Shape := ⟨2, ![32, 1]⟩
abbrev S512x64 : Shape := ⟨2, ![512, 64]⟩
abbrev S64x512 : Shape := ⟨2, ![64, 512]⟩
abbrev S512x512 : Shape := ⟨2, ![512, 512]⟩
abbrev S128x64 : Shape := ⟨2, ![128, 64]⟩
abbrev S32x1x64 : Shape := ⟨3, ![32, 1, 64]⟩
abbrev S1x32x64 : Shape := ⟨3, ![1, 32, 64]⟩

abbrev nBuf : Space → Nat
  | .hbm => 36
  | .vmem => 29
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S4096x4096, .f32⟩
  | .hbm, ⟨3, _⟩ => ⟨S4096x512, .f32⟩
  | .hbm, ⟨4, _⟩ => ⟨S2x32x64, .f32⟩
  | .hbm, ⟨5, _⟩ => ⟨S32x64, .f32⟩
  | .hbm, ⟨6, _⟩ => ⟨S32x64, .f32⟩
  | .hbm, ⟨7, _⟩ => ⟨S32, .f32⟩
  | .hbm, ⟨8, _⟩ => ⟨S32x64x16, .f32⟩
  | .hbm, ⟨9, _⟩ => ⟨S32x64x16, .f32⟩
  | .hbm, ⟨10, _⟩ => ⟨S32x16x64, .f32⟩
  | .hbm, ⟨11, _⟩ => ⟨S32x16x64, .f32⟩
  | .hbm, ⟨12, _⟩ => ⟨S4096x4096, .bf16⟩
  | .hbm, ⟨13, _⟩ => ⟨S4096x4096, .bf16⟩
  | .hbm, ⟨14, _⟩ => ⟨S4096x512, .bf16⟩
  | .hbm, ⟨15, _⟩ => ⟨S512x1024, .f32⟩
  | .hbm, ⟨16, _⟩ => ⟨S4096x128, .f32⟩
  | .hbm, ⟨17, _⟩ => ⟨S32x1, .f32⟩
  | .hbm, ⟨18, _⟩ => ⟨S32x16x64, .f32⟩
  | .hbm, ⟨19, _⟩ => ⟨S512x64, .f32⟩
  | .hbm, ⟨20, _⟩ => ⟨S32x16x64, .f32⟩
  | .hbm, ⟨21, _⟩ => ⟨S512x64, .f32⟩
  | .hbm, ⟨22, _⟩ => ⟨S32x64, .f32⟩
  | .hbm, ⟨23, _⟩ => ⟨S32x64, .f32⟩
  | .hbm, ⟨24, _⟩ => ⟨S32x1, .f32⟩
  | .hbm, ⟨25, _⟩ => ⟨S512x64, .f32⟩
  | .hbm, ⟨26, _⟩ => ⟨S512x64, .f32⟩
  | .hbm, ⟨27, _⟩ => ⟨S512x64, .f32⟩
  | .hbm, ⟨28, _⟩ => ⟨S512x64, .f32⟩
  | .hbm, ⟨29, _⟩ => ⟨S32, .f32⟩
  | .hbm, ⟨30, _⟩ => ⟨S32x16x64, .f32⟩
  | .hbm, ⟨31, _⟩ => ⟨S32x64x16, .f32⟩
  | .hbm, ⟨32, _⟩ => ⟨S32x16x64, .f32⟩
  | .hbm, ⟨33, _⟩ => ⟨S32x64x16, .f32⟩
  | .hbm, ⟨34, _⟩ => ⟨S32x16x64, .f32⟩
  | .hbm, ⟨35, _⟩ => ⟨S32x16x64, .f32⟩
  | .local _ .vmem, ⟨0, _⟩ => ⟨S4096x128, .f32⟩
  | .local _ .vmem, ⟨1, _⟩ => ⟨S4096x128, .f32⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S128x1024, .f32⟩
  | .local _ .vmem, ⟨7, _⟩ => ⟨S128x1024, .f32⟩
  | .local _ .vmem, ⟨8, _⟩ => ⟨S4096x512, .bf16⟩
  | .local _ .vmem, ⟨9, _⟩ => ⟨S4096x512, .bf16⟩
  | .local _ .vmem, ⟨10, _⟩ => ⟨S4096x128, .bf16⟩
  | .local _ .vmem, ⟨11, _⟩ => ⟨S4096x128, .bf16⟩
  | .local _ .vmem, ⟨12, _⟩ => ⟨S512x128, .f32⟩
  | .local _ .vmem, ⟨13, _⟩ => ⟨S512x128, .f32⟩
  | .local _ .vmem, ⟨14, _⟩ => ⟨S512x1024, .f32⟩
  | .local _ .vmem, ⟨15, _⟩ => ⟨S4096x128, .f32⟩
  | .local _ .vmem, ⟨16, _⟩ => ⟨S2x32x64, .f32⟩
  | .local _ .vmem, ⟨17, _⟩ => ⟨S32x64, .f32⟩
  | .local _ .vmem, ⟨18, _⟩ => ⟨S32x64, .f32⟩
  | .local _ .vmem, ⟨19, _⟩ => ⟨S32x1, .f32⟩
  | .local _ .vmem, ⟨20, _⟩ => ⟨S512x64, .f32⟩
  | .local _ .vmem, ⟨21, _⟩ => ⟨S512x64, .f32⟩
  | .local _ .vmem, ⟨22, _⟩ => ⟨S32x64, .f32⟩
  | .local _ .vmem, ⟨23, _⟩ => ⟨S32x64, .f32⟩
  | .local _ .vmem, ⟨24, _⟩ => ⟨S32x1, .f32⟩
  | .local _ .vmem, ⟨25, _⟩ => ⟨S512x64, .f32⟩
  | .local _ .vmem, ⟨26, _⟩ => ⟨S512x64, .f32⟩
  | .local _ .vmem, ⟨27, _⟩ => ⟨S512x64, .f32⟩
  | .local _ .vmem, ⟨28, _⟩ => ⟨S512x64, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v10_3 : Ref sig .tc := ⟨.hbm, 25, rfl⟩
abbrev main_v10_4 : Ref sig .tc := ⟨.hbm, 26, rfl⟩
abbrev main_v10_5 : Ref sig .tc := ⟨.hbm, 27, rfl⟩
abbrev main_v10_6 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg7_0 : Ref sig .tc := ⟨.vmem, 21, rfl⟩
abbrev cc2_stg8_0 : Ref sig .tc := ⟨.vmem, 22, rfl⟩
abbrev cc2_stg9_0 : Ref sig .tc := ⟨.vmem, 23, rfl⟩
abbrev cc2_stg10_0 : Ref sig .tc := ⟨.vmem, 24, rfl⟩
abbrev cc2_stg11_0 : Ref sig .tc := ⟨.vmem, 25, rfl⟩
abbrev cc2_stg12_0 : Ref sig .tc := ⟨.vmem, 26, rfl⟩
abbrev cc2_stg13_0 : Ref sig .tc := ⟨.vmem, 27, rfl⟩
abbrev cc2_stg14_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem8_0 : DmaSem sig := 22
abbrev cc2_sem9_0 : DmaSem sig := 23
abbrev cc2_sem10_0 : DmaSem sig := 24
abbrev cc2_sem11_0 : DmaSem sig := 25
abbrev cc2_sem12_0 : DmaSem sig := 26
abbrev cc2_sem13_0 : DmaSem sig := 27
abbrev cc2_sem14_0 : DmaSem sig := 28

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S4096x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := .none

abbrev stage2_0 : Fin 1 → Memref sig .tc .vmem S512x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S4096x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S2x32x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S32x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S32x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S32x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S512x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S512x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S32x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S32x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev stage2_10 : Fin 1 → Memref sig .tc .vmem S32x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))

abbrev stage2_11 : Fin 1 → Memref sig .tc .vmem S512x64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))

abbrev stage2_12 : Fin 1 → Memref sig .tc .vmem S512x64 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))

abbrev stage2_13 : Fin 1 → Memref sig .tc .vmem S512x64 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))

abbrev stage2_14 : Fin 1 → Memref sig .tc .vmem S512x64 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
-- ==== Proof.Kit.lean ====
/- Reading the operations of the programs at an index, for matrices of any extents, over the extended reals. -/
module

public import Idealize.ShloMosaic.Lib.Pipeline.Value
public import Idealize.ShloMosaic.Lib.MatmulPlain
public import Idealize.ShloMosaic.Lib.IdealHost
public import Idealize.ShloMosaic.Lib.Tactic

@[expose] public section

set_option maxRecDepth 16384

noncomputable section

open Idealize.ShloMosaic Idealize.ShloMosaic.ValueIdx

namespace Cert.Kit

theorem hz2 : (![0, 0] : Fin 2 → Nat) = fun _ => 0 := funext fun a => by fin_cases a <;> rfl

theorem hz3 : (![0, 0, 0] : Fin 3 → Nat) = fun _ => 0 := funext fun a => by fin_cases a <;> rfl

variable {M K N : ℕ} {φ φ₁ φ₂ : FTy}

/-- A column spread over the columns of a matrix. -/
theorem bcCol {α : Type} (x : (⟨2, ![M, 1]⟩ : Shape).Idx → α) (h : (⟨2, ![M, 1]⟩ : Shape).Broadcasts ⟨2, ![M, N]⟩) (r : Fin M) (c : Fin N) :
    broadcastTo ⟨2, ![M, N]⟩ x h (ix2 r c) = x (ix2 r 0) := by
  refine broadcastTo_apply x h _ _ fun a => ?_
  match a with
  | ⟨0, _⟩ =>
    show r.val = if M = 1 then 0 else r.val
    split
    · have := r.isLt; omega
    · rfl
  | ⟨1, _⟩ => rfl

/-- A row spread over the rows of a matrix. -/
theorem bcRow {α : Type} (x : (⟨2, ![1, N]⟩ : Shape).Idx → α) (h : (⟨2, ![1, N]⟩ : Shape).Broadcasts ⟨2, ![M, N]⟩) (r : Fin M) (c : Fin N) :
    broadcastTo ⟨2, ![M, N]⟩ x h (ix2 r c) = x (ix2 0 c) := by
  refine broadcastTo_apply x h _ _ fun a => ?_
  match a with
  | ⟨0, _⟩ => rfl
  | ⟨1, _⟩ =>
    show c.val = if N = 1 then 0 else c.val
    split
    · have := c.isLt; omega
    · rfl

/-- A vector read as a matrix of one row. -/
theorem castRow {α : Type} (x : (⟨1, ![N]⟩ : Shape).Idx → α) (h : (⟨1, ![N]⟩ : Shape).ShapeCasts ⟨2, ![1, N]⟩) (r : Fin 1) (c : Fin N) :
    shapeCast ⟨2, ![1, N]⟩ x h (ix2 r c) = x (ix1 c) := by
  refine shapeCast_apply x h _ _ ?_
  rw [Shape.rowMajor_val_one, Shape.rowMajor_val_two]
  show c.val = r.val * N + c.val
  rw [Fin.val_eq_zero r]
  omega

/-- A vector read as a matrix of one column. -/
theorem castCol {α : Type} (x : (⟨1, ![M]⟩ : Shape).Idx → α) (h : (⟨1, ![M]⟩ : Shape).ShapeCasts ⟨2, ![M, 1]⟩) (r : Fin M) (c : Fin 1) :
    shapeCast ⟨2, ![M, 1]⟩ x h (ix2 r c) = x (ix1 r) := by
  refine shapeCast_apply x h _ _ ?_
  rw [Shape.rowMajor_val_one, Shape.rowMajor_val_two]
  show r.val = r.val * 1 + c.val
  rw [Fin.val_eq_zero c]
  omega

/-- A kernel's sum over the rows of a matrix. -/
theorem sumRows (x : FVec Ideal ⟨2, ![M, N]⟩ φ) (acc : BitVec φ.bits) (h : (⟨2, ![M, N]⟩ : Shape).Reduces [0] ⟨1, ![N]⟩)
    (hφ : FKind.Formats φ) (hacc : acc = FKind.add.neutral φ hφ) (c : Fin N) :
    multiReduction .add [0] ⟨1, ![N]⟩ x acc h hφ hacc (ix1 c) = ∑ k : Fin M, x (ix2 k c) := by
  rw [Ideal.multiReduction_add_single]
  refine Finset.sum_congr rfl fun k _ => congrArg x (funext fun a => Fin.ext ?_)
  match a with
  | ⟨0, _⟩ => rfl
  | ⟨1, _⟩ => rfl

/-- A kernel's sum over the columns of a matrix. -/
theorem sumCols (x : FVec Ideal ⟨2, ![M, N]⟩ φ) (acc : BitVec φ.bits) (h : (⟨2, ![M, N]⟩ : Shape).Reduces [1] ⟨1, ![M]⟩)
    (hφ : FKind.Formats φ) (hacc : acc = FKind.add.neutral φ hφ) (r : Fin M) :
    multiReduction .add [1] ⟨1, ![M]⟩ x acc h hφ hacc (ix1 r) = ∑ k : Fin N, x (ix2 r k) := by
  rw [Ideal.multiReduction_add_single]
  refine Finset.sum_congr rfl fun k _ => congrArg x (funext fun a => Fin.ext ?_)
  match a with
  | ⟨0, _⟩ => rfl
  | ⟨1, _⟩ => rfl

/-- Rows times columns, into the zero accumulator. -/
theorem mm10 (wf : DotDims.WF ⟨2, ![M, K]⟩ ⟨2, ![K, N]⟩ ⟨2, ![M, N]⟩ [1] [0] [0] [1] [] []) (prec : Option ContractPrecision)
    (x : FVec Ideal ⟨2, ![M, K]⟩ φ₁) (y : FVec Ideal ⟨2, ![K, N]⟩ φ₂) (r : Fin M) (c : Fin N) :
    FloatOps.matmul (⟨[1], [0], [0], [1], [], [], wf⟩ : DotDims _ _ _) prec x y (constant ⟨2, ![M, N]⟩ .f32 0x00000000#32) (ix2 r c)
      = ∑ k : Fin K, x (ix2 r k) * y (ix2 k c) := by
  have h := Ideal.matmul_plain_apply prec x y (constant ⟨2, ![M, N]⟩ .f32 0x00000000#32) r c
  rw [show (constant ⟨2, ![M, N]⟩ .f32 0x00000000#32 : FVec Ideal ⟨2, ![M, N]⟩ .f32) (ix2 r c) = 0 from Ideal.ofBits_zero_f32, zero_add] at h
  exact h

/-- Rows times rows, into the zero accumulator. -/
theorem mm11 (wf : DotDims.WF ⟨2, ![M, K]⟩ ⟨2, ![N, K]⟩ ⟨2, ![M, N]⟩ [1] [1] [0] [0] [] []) (prec : Option ContractPrecision)
    (x : FVec Ideal ⟨2, ![M, K]⟩ φ₁) (y : FVec Ideal ⟨2, ![N, K]⟩ φ₂) (r : Fin M) (c : Fin N) :
    FloatOps.matmul (⟨[1], [1], [0], [0], [], [], wf⟩ : DotDims _ _ _) prec x y (constant ⟨2, ![M, N]⟩ .f32 0x00000000#32) (ix2 r c)
      = ∑ k : Fin K, x (ix2 r k) * y (ix2 c k) := by
  have h := Ideal.matmul_transposedRhs_apply prec x y (constant ⟨2, ![M, N]⟩ .f32 0x00000000#32) r c
  rw [show (constant ⟨2, ![M, N]⟩ .f32 0x00000000#32 : FVec Ideal ⟨2, ![M, N]⟩ .f32) (ix2 r c) = 0 from Ideal.ofBits_zero_f32, zero_add] at h
  exact h

/-- The dimension numbers of a product of columns with columns. -/
abbrev D00 (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

/-- Columns times columns, into the zero accumulator. -/
theorem mm00 (wf : DotDims.WF ⟨2, ![K, M]⟩ ⟨2, ![K, N]⟩ ⟨2, ![M, N]⟩ [0] [0] [1] [1] [] []) (prec : Option ContractPrecision)
    (x : FVec Ideal ⟨2, ![K, M]⟩ φ₁) (y : FVec Ideal ⟨2, ![K, N]⟩ φ₂) (r : Fin M) (c : Fin N) :
    FloatOps.matmul (⟨[0], [0], [1], [1], [], [], wf⟩ : DotDims _ _ _) prec x y (constant ⟨2, ![M, N]⟩ .f32 0x00000000#32) (ix2 r c)
      = ∑ k : Fin K, x (ix2 k r) * y (ix2 k c) := by
  rw [Ideal.matmul_constant_zero_apply, ← Equiv.sum_comp (contrEquiv1 (D00 wf) K rfl rfl).symm]
  refine Finset.sum_congr rfl fun k _ => ?_
  congr 1
  · refine congrArg x (funext fun a => Fin.ext ?_)
    match a with
    | ⟨0, _⟩ => exact contrEquiv1_symm_val (D00 wf) K rfl rfl k
    | ⟨1, _⟩ => rfl
  · refine congrArg y (funext fun a => Fin.ext ?_)
    match a with
    | ⟨0, _⟩ => exact contrEquiv1_symm_val (D00 wf) K rfl rfl k
    | ⟨1, _⟩ => rfl

/-- The host's product is a kernel's into the zero accumulator. -/
theorem dot_eq {sl sr so : Shape} (d : DotDims sl sr so) (prec prec' : Option ContractPrecision) (x : FVec Ideal sl φ₁) (y : FVec Ideal sr φ₂)
    (j : so.Idx) : Host.dotGeneral d prec x y j = FloatOps.matmul d prec' x y (constant so .f32 0x00000000#32) j := by
  simp only [Host.dotGeneral]
  rw [Ideal.dotGeneral_apply, Ideal.matmul_constant_zero_apply]

/-- The host's rows times columns. -/
theorem dg10 (wf : DotDims.WF ⟨2, ![M, K]⟩ ⟨2, ![K, N]⟩ ⟨2, ![M, N]⟩ [1] [0] [0] [1] [] []) (prec : Option ContractPrecision)
    (x : FVec Ideal ⟨2, ![M, K]⟩ φ₁) (y : FVec Ideal ⟨2, ![K, N]⟩ φ₂) (r : Fin M) (c : Fin N) :
    Host.dotGeneral (⟨[1], [0], [0], [1], [], [], wf⟩ : DotDims _ _ _) prec x y (ix2 r c) = ∑ k : Fin K, x (ix2 r k) * y (ix2 k c) :=
  (dot_eq _ prec none x y _).trans (mm10 wf none x y r c)

/-- The host's rows times rows. -/
theorem dg11 (wf : DotDims.WF ⟨2, ![M, K]⟩ ⟨2, ![N, K]⟩ ⟨2, ![M, N]⟩ [1] [1] [0] [0] [] []) (prec : Option ContractPrecision)
    (x : FVec Ideal ⟨2, ![M, K]⟩ φ₁) (y : FVec Ideal ⟨2, ![N, K]⟩ φ₂) (r : Fin M) (c : Fin N) :
    Host.dotGeneral (⟨[1], [1], [0], [0], [], [], wf⟩ : DotDims _ _ _) prec x y (ix2 r c) = ∑ k : Fin K, x (ix2 r k) * y (ix2 c k) :=
  (dot_eq _ prec none x y _).trans (mm11 wf none x y r c)

/-- The host's columns times columns. -/
theorem dg00 (wf : DotDims.WF ⟨2, ![K, M]⟩ ⟨2, ![K, N]⟩ ⟨2, ![M, N]⟩ [0] [0] [1] [1] [] []) (prec : Option ContractPrecision)
    (x : FVec Ideal ⟨2, ![K, M]⟩ φ₁) (y : FVec Ideal ⟨2, ![K, N]⟩ φ₂) (r : Fin M) (c : Fin N) :
    Host.dotGeneral (⟨[0], [0], [1], [1], [], [], wf⟩ : DotDims _ _ _) prec x y (ix2 r c) = ∑ k : Fin K, x (ix2 k r) * y (ix2 k c) :=
  (dot_eq _ prec none x y _).trans (mm00 wf none x y r c)

/-- An index of a matrix from its two coordinates. -/
theorem ixEq {i : (⟨2, ![M, N]⟩ : Shape).Idx} {a : Fin M} {b : Fin N} (h0 : (i 0).val = a.val) (h1 : (i 1).val = b.val) : i = ix2 a b :=
  funext fun d => Fin.ext (match d with | ⟨0, _⟩ => h0 | ⟨1, _⟩ => h1)

/-- Row `a` of tile `t`, where a tile has `T` rows. -/
abbrev row {M T G : ℕ} (t : Fin G) (a : Fin T) (h : M = G * T) : Fin M :=
  ⟨t.val * T + a.val, by
    subst h
    have h1 : (t.val + 1) * T ≤ G * T := Nat.mul_le_mul_right T t.isLt
    have h2 := a.isLt
    rw [Nat.add_mul, Nat.one_mul] at h1
    omega⟩

/-- Every row is a row of its tile. -/
theorem row_surj {M T G : ℕ} (h : M = G * T) (i : Fin M) : ∃ (t : Fin G) (a : Fin T), i = row t a h := by
  have hT : 0 < T := by
    rcases Nat.eq_zero_or_pos T with h0 | h0
    · subst h0; exact absurd i.isLt (by omega)
    · exact h0
  refine ⟨⟨i.val / T, (Nat.div_lt_iff_lt_mul hT).mpr (h ▸ i.isLt)⟩, ⟨i.val % T, Nat.mod_lt _ hT⟩, Fin.ext ?_⟩
  show i.val = i.val / T * T + i.val % T
  rw [Nat.div_add_mod']

/-- A sum over the rows is the sum over the tiles of the sums over a tile's rows. -/
theorem sum_row {M T G : ℕ} (h : M = G * T) (f : Fin M → EReal) : ∑ i, f i = ∑ t : Fin G, ∑ a : Fin T, f (row t a h) := by
  subst h
  rw [← Fintype.sum_prod_type', ← Equiv.sum_comp finProdFinEquiv]
  refine Finset.sum_congr rfl fun p _ => congrArg f (Fin.ext ?_)
  show p.2.val + T * p.1.val = p.1.val * T + p.2.val
  rw [Nat.mul_comm, Nat.add_comm]

/-- What a running total holds: started at a first term, each later point adding its own. -/
theorem total {G : ℕ} (g : (n : ℕ) → n < G → EReal) (s : Fin G → EReal) (h0 : ∀ h, g 0 h = s ⟨0, h⟩)
    (hs : ∀ n (h : n + 1 < G), g (n + 1) h = g n (by omega) + s ⟨n + 1, h⟩) (n : ℕ) (hn : n < G) :
    g n hn = ∑ k : Fin (n + 1), s ⟨k.val, by omega⟩ := by
  induction n with
  | zero => rw [h0, Fin.sum_univ_one]; rfl
  | succ n ih => rw [hs, ih]; exact (Fin.sum_univ_castSucc (n := n + 1) fun k => s ⟨k.val, by omega⟩).symm

/-- Two matrices side by side, read on the left. -/
theorem catL {α : Type} {N₁ N₂ : ℕ} (x : (⟨2, ![M, N₁]⟩ : Shape).Idx → α) (y : (⟨2, ![M, N₂]⟩ : Shape).Idx → α)
    (h : Shape.Concatenates [⟨2, ![M, N₁]⟩, ⟨2, ![M, N₂]⟩] ⟨2, ![M, N]⟩ 1) (r : Fin M) (c : Fin N) (c' : Fin N₁) (hc : c'.val = c.val) :
    concatenate ⟨2, ![M, N]⟩ 1 [⟨⟨2, ![M, N₁]⟩, x⟩, ⟨⟨2, ![M, N₂]⟩, y⟩] h (ix2 r c) = x (ix2 r c') :=
  concatenate_pair_apply_left 1 x y h _ rfl _ fun b => match b with | ⟨0, _⟩ => rfl | ⟨1, _⟩ => hc

/-- Two matrices side by side, read on the right. -/
theorem catR {α : Type} {N₁ N₂ : ℕ} (x : (⟨2, ![M, N₁]⟩ : Shape).Idx → α) (y : (⟨2, ![M, N₂]⟩ : Shape).Idx → α)
    (h : Shape.Concatenates [⟨2, ![M, N₁]⟩, ⟨2, ![M, N₂]⟩] ⟨2, ![M, N]⟩ 1) (r : Fin M) (c : Fin N) (c' : Fin N₂) (hc : c.val = N₁ + c'.val) :
    concatenate ⟨2, ![M, N]⟩ 1 [⟨⟨2, ![M, N₁]⟩, x⟩, ⟨⟨2, ![M, N₂]⟩, y⟩] h (ix2 r c) = y (ix2 r c') :=
  concatenate_pair_apply_right 1 x y h _ rfl rfl _ (fun b hb => match b, hb with
    | ⟨0, _⟩, _ => rfl
    | ⟨1, _⟩, hb => absurd rfl hb) (by show c'.val + N₁ = c.val; omega)

/-- The host's vector spread over the columns of a matrix. -/
theorem hbVec {α : Type} (x : (⟨1, ![M]⟩ : Shape).Idx → α) (h : (⟨1, ![M]⟩ : Shape).BroadcastsInDim ⟨2, ![M, N]⟩ ![0]) (r : Fin M) (c : Fin N) :
    broadcastInDim ⟨2, ![M, N]⟩ ![0] h x (ix2 r c) = x (ix1 r) := by
  refine broadcastInDim_apply _ h x _ _ fun a => ?_
  match a with
  | ⟨0, _⟩ =>
    show r.val = if M = 1 then 0 else r.val
    split
    · have := r.isLt; omega
    · rfl

/-- The host's column spread over the columns of a matrix. -/
theorem hbCol {α : Type} (x : (⟨2, ![M, 1]⟩ : Shape).Idx → α) (h : (⟨2, ![M, 1]⟩ : Shape).BroadcastsInDim ⟨2, ![M, N]⟩ ![0, 1]) (r : Fin M)
    (c : Fin N) : broadcastInDim ⟨2, ![M, N]⟩ ![0, 1] h x (ix2 r c) = x (ix2 r 0) := by
  refine broadcastInDim_apply _ h x _ _ fun a => ?_
  match a with
  | ⟨0, _⟩ =>
    show r.val = if M = 1 then 0 else r.val
    split
    · have := r.isLt; omega
    · rfl
  | ⟨1, _⟩ => rfl

/-- The host's row spread over the rows of a matrix. -/
theorem hbRow {α : Type} (x : (⟨2, ![1, N]⟩ : Shape).Idx → α) (h : (⟨2, ![1, N]⟩ : Shape).BroadcastsInDim ⟨2, ![M, N]⟩ ![0, 1]) (r : Fin M)
    (c : Fin N) : broadcastInDim ⟨2, ![M, N]⟩ ![0, 1] h x (ix2 r c) = x (ix2 0 c) := by
  refine broadcastInDim_apply _ h x _ _ fun a => ?_
  match a with
  | ⟨0, _⟩ => rfl
  | ⟨1, _⟩ =>
    show c.val = if N = 1 then 0 else c.val
    split
    · have := c.isLt; omega
    · rfl

/-- The host's sum over the columns of a matrix, from zero. -/
theorem hsumCols {S₀ : Shape} (x : FVec Ideal ⟨2, ![M, N]⟩ .f32) (h : (⟨2, ![M, N]⟩ : Shape).ReducesTo [1] ⟨1, ![M]⟩) (hu : 0 < S₀.numel)
    (h' : (⟨2, ![M, N]⟩ : Shape).Reduces [1] ⟨1, ![M]⟩) (r : Fin M) :
    Host.reduceAdd x (constant S₀ .f32 0x00000000#32) h hu (ix1 r) = ∑ k : Fin N, x (ix2 r k) := by
  simp only [Host.reduceAdd, Ideal.hostReduceAdd_def]
  rw [Ideal.hostReduceAdd_single h h']
  show Ideal.ofBits .f32 0x00000000#32 + _ = _
  rw [Ideal.ofBits_zero_f32, zero_add]
  exact Finset.sum_congr rfl fun k _ => congrArg x (ixEq rfl rfl)

/-- The host's sum over the rows of a matrix, from zero. -/
theorem hsumRows {S₀ : Shape} (x : FVec Ideal ⟨2, ![M, N]⟩ .f32) (h : (⟨2, ![M, N]⟩ : Shape).ReducesTo [0] ⟨1, ![N]⟩) (hu : 0 < S₀.numel)
    (h' : (⟨2, ![M, N]⟩ : Shape).Reduces [0] ⟨1, ![N]⟩) (c : Fin N) :
    Host.reduceAdd x (constant S₀ .f32 0x00000000#32) h hu (ix1 c) = ∑ k : Fin M, x (ix2 k c) := by
  simp only [Host.reduceAdd, Ideal.hostReduceAdd_def]
  rw [Ideal.hostReduceAdd_single h h']
  show Ideal.ofBits .f32 0x00000000#32 + _ = _
  rw [Ideal.ofBits_zero_f32, zero_add]
  exact Finset.sum_congr rfl fun k _ => congrArg x (ixEq rfl rfl)

/-- A sum over equally many points. -/
theorem sum_cast {G H : ℕ} (h : G = H) (f : Fin G → EReal) (g : Fin H → EReal) (e : ∀ k : Fin H, f ⟨k.val, h ▸ k.isLt⟩ = g k) : ∑ t, f t = ∑ k, g k := by
  subst h
  exact Finset.sum_congr rfl fun k _ => e k

/-- A sum cut in two. -/
theorem sum_split {A B C : ℕ} (h : C = A + B) (f : Fin C → EReal) :
    ∑ k, f k = (∑ k : Fin A, f ⟨k.val, by omega⟩) + ∑ k : Fin B, f ⟨A + k.val, by omega⟩ := by
  subst h
  exact Fin.sum_univ_add f

end Cert.Kit
-- ==== Proof.Mn.lean ====
module

public import proofs.«01_k».proof.Proof.Kit
public import proofs.«01_k».proof.Proof.Gen.KernelMnIdeal.Value
public import proofs.«01_k».proof.Proof.Gen.ReferenceMnIdeal.Run
public import proofs.«01_k».proof.Proof.Gen.ReferenceMnIdeal.Read
public import Idealize.ShloMosaic.Lib.Pipeline.Value
public import Idealize.ShloMosaic.Lib.StableHlo.Run
public import Idealize.ShloMosaic.Lib.Tactic

@[expose] public section

set_option maxRecDepth 16384

noncomputable section

open Idealize.ShloMosaic Idealize.ShloMosaic.TcCoe Idealize.SL.Sem Idealize.ShloMosaic.ValueIdx Cert.Kit

namespace Cert.KernelMnIdeal.Hand

open Cert.KernelMnIdeal Cert.KernelMnIdeal.Gen Cert.KernelMnIdeal.Value

variable (m : (ℓ : Loc nD τ sig) → Buf (Elt Ideal) ℓ) (ρ : Dev nD → PrngReg)

/-- What the one grid point leaves in the gradient's block. -/
theorem out_A (c : Dev nD) (i : grid0.Coords) (a1 : Memref sig .tc .vmem S256x1024 .f32) (h1 : a1.IsWhole)
    (a2 : Memref sig .tc .vmem S256x1024 .f32) (h2 : a2.IsWhole) (a3 : Memref sig .tc .vmem S256x1 .f32) (h3 : a3.IsWhole)
    (a4 : Memref sig .tc .vmem S1x1024 .f32) (h4 : a4.IsWhole) (hc : cond0_0 i)
    (x0 x1 : Vec Ideal S256x1024 .f32) (x2 : Vec Ideal S256x1 .f32) :
    out0_A_3 c i a1 h1 a2 h2 a3 h3 a4 h4 hc x0 x1 x2 = k0_pay2 (F := Ideal) x0 x1 x2 (k0_pay1 (F := Ideal)) := by
  unfold out0_A_3
  rw [View.read_writes_eq_canon _ _ _ (cover0_A_3 c i a1 h1 a2 h2 a3 h3 a4 h4 hc x0 x1 x2)]
  unfold kernelRun0_A
  dsimp only
  sl_unfold_words
  rw [View.canon_cons_unit_zero (S := S1x1024) hz2, View.readCov_unit_zero (S := S1x1024) _ hz2]
  simp only [View.readAt_eq_ld, h1.read_unread, h2.read_unread, h3.read_unread, View.ld_unit_zero (S := S256x1024) hz2,
    View.ld_unit_zero (S := S256x1) hz2]

/-- The scale of a row: what the host lines before the call leave is the reference's own stage. -/
theorem V_v7 (c : Dev nD) : V m c main_v7 = Cert.ReferenceMnIdeal.Read.val_main_v7 (F := Ideal) (m ((c : Thread nD τ).loc main_arg0)) := by
  unfold V
  after_results
  rfl

theorem index0 : ∀ t : Fin cfg0.N, (∀ a, win0_0.index t a = 0) ∧ (∀ a, win0_1.index t a = 0) ∧ (∀ a, win0_2.index t a = 0)
    ∧ ∀ a, win0_3.index t a = 0 :=
  (by decide +kernel : ∀ t : Fin grid0.N, (∀ a, win0_0.index t a = 0) ∧ (∀ a, win0_1.index t a = 0) ∧ (∀ a, win0_2.index t a = 0)
    ∧ ∀ a, win0_3.index t a = 0)

theorem iblk0 (c : Dev nD) (t : Fin cfg0.N) : (iblk m c 0 t : Vec Ideal S256x1024 .f32) = m ((c : Thread nD τ).loc main_arg2) := by
  funext j
  unfold iblk
  rw [View.read_apply]
  show V m c main_arg2 _ = _
  rw [V_main_arg2]
  congr 1
  funext a
  apply Fin.ext
  have h := (index0 t).1 a
  match a with
  | ⟨0, _⟩ => show win0_0.index t 0 * 256 + 1 * (j 0).val = (j 0).val; rw [show win0_0.index t 0 = 0 from h]; omega
  | ⟨1, _⟩ => show win0_0.index t 1 * 1024 + 1 * (j 1).val = (j 1).val; rw [show win0_0.index t 1 = 0 from h]; omega

theorem iblk1 (c : Dev nD) (t : Fin cfg0.N) : (iblk m c 1 t : Vec Ideal S256x1024 .f32) = m ((c : Thread nD τ).loc main_arg0) := by
  funext j
  unfold iblk
  rw [View.read_apply]
  show V m c main_arg0 _ = _
  rw [V_main_arg0]
  congr 1
  funext a
  apply Fin.ext
  have h := (index0 t).2.1 a
  match a with
  | ⟨0, _⟩ => show win0_1.index t 0 * 256 + 1 * (j 0).val = (j 0).val; rw [show win0_1.index t 0 = 0 from h]; omega
  | ⟨1, _⟩ => show win0_1.index t 1 * 1024 + 1 * (j 1).val = (j 1).val; rw [show win0_1.index t 1 = 0 from h]; omega

theorem iblk2 (c : Dev nD) (t : Fin cfg0.N) : (iblk m c 2 t : Vec Ideal S256x1 .f32) = V m c main_v7 := by
  funext j
  unfold iblk
  rw [View.read_apply]
  show V m c main_v7 _ = _
  congr 1
  funext a
  apply Fin.ext
  have h := (index0 t).2.2.1 a
  match a with
  | ⟨0, _⟩ => show win0_2.index t 0 * 256 + 1 * (j 0).val = (j 0).val; rw [show win0_2.index t 0 = 0 from h]; omega
  | ⟨1, _⟩ => show win0_2.index t 1 * 1 + 1 * (j 1).val = (j 1).val; rw [show win0_2.index t 1 = 0 from h]; omega

theorem pay_apply (x0 x1 : Vec Ideal S256x1024 .f32) (x2 : Vec Ideal S256x1 .f32) (a : Fin 1) (b : Fin 1024) :
    k0_pay2 (F := Ideal) x0 x1 x2 (k0_pay1 (F := Ideal)) (ix2 a b) = ∑ k : Fin 256, x0 (ix2 k b) * x1 (ix2 k b) * x2 (ix2 k 0) := by
  unfold k0_pay2 k0_pay1
  simp only [shapeCast_self]
  show Ideal.ofBits .f32 0x00000000#32 + shapeCast S1x1024 _ _ (ix2 a b) = _
  rw [Ideal.ofBits_zero_f32, zero_add]
  refine (castRow _ _ a b).trans ((sumRows _ _ _ _ _ b).trans ?_)
  refine Finset.sum_congr rfl fun k _ => ?_
  show x0 (ix2 k b) * x1 (ix2 k b) * broadcastTo S256x1024 x2 _ (ix2 k b) = _
  rw [bcCol]

/-- The gradient of the gain, read at an index. -/
theorem result_apply (c : Dev nD) (a : Fin 1) (b : Fin 1024) :
    ((dats m 0 c).arrAt 3 cfg0.N : (⟨S1x1024, .f32⟩ : BufTy).Contents (Elt Ideal)) (ix2 a b)
      = Cert.ReferenceMnIdeal.Read.val_main_v14 (F := Ideal) (m ((c : Thread nD τ).loc main_arg0)) (m ((c : Thread nD τ).loc main_arg2)) (ix2 a b) := by
  have t : Fin cfg0.N := ⟨0, by show 0 < grid0.N; rw [Gen.N_0]; omega⟩
  have hb := congrFun (blocks3 m c t (flush0_3 t)) (ix2 a b)
  rw [View.read_apply, flushed3_A, out_A, iblk0, iblk1, iblk2, V_v7] at hb
  have he : ((cfg0.win 3).blk t).view.emb (ix2 a b) = (ix2 a b : S1x1024.Idx) := by
    funext d
    apply Fin.ext
    have h := (index0 t).2.2.2 d
    match d with
    | ⟨0, _⟩ => show win0_3.index t 0 * 1 + 1 * a.val = a.val; rw [show win0_3.index t 0 = 0 from h]; omega
    | ⟨1, _⟩ => show win0_3.index t 1 * 1024 + 1 * b.val = b.val; rw [show win0_3.index t 1 = 0 from h]; omega
  rw [he] at hb
  refine Eq.trans hb ?_
  refine (pay_apply _ _ _ a b).trans ?_
  open Cert.ReferenceMnIdeal.Read in
  rw [val_main_v14_apply, val_main_v13_apply]
  show _ = Ideal.ofBits .f32 0x00000000#32 + _
  rw [Ideal.ofBits_zero_f32, zero_add]
  refine Finset.sum_congr rfl fun k _ => ?_
  have hi : Cert.ReferenceMnIdeal.Read.idx_main_v13 (Cert.ReferenceMnIdeal.Read.idx_main_v14 (ix2 a b)) k = ix2 k b := by
    funext d
    match d with
    | ⟨0, _⟩ => rfl
    | ⟨1, _⟩ => apply Fin.ext; show a.val * 1024 + b.val = b.val; omega
  have hj : Cert.ReferenceMnIdeal.Read.idx_main_v8 (ix2 k b) = ix2 k 0 := by
    funext d
    match d with
    | ⟨0, _⟩ => rfl
    | ⟨1, _⟩ => rfl
  rw [hi, Cert.ReferenceMnIdeal.Read.val_main_v12_apply, Cert.ReferenceMnIdeal.Read.val_main_v9_apply,
    Cert.ReferenceMnIdeal.Read.val_main_v8_apply, hj, Ideal.mulf_def, Ideal.mulf_def, mul_assoc, mul_comm]

end Cert.KernelMnIdeal.Hand

namespace Cert.ReferenceMnIdeal.Hand

open Cert.ReferenceMnIdeal Cert.ReferenceMnIdeal.Read

/-- The reference's run, its result named as the reading's last stage. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14)
        = val_main_v14 (F := Ideal) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (val_main_v14_eq ..), (h c).2⟩) (Cert.ReferenceMnIdeal.Value.run m ρ)

end Cert.ReferenceMnIdeal.Hand
-- ==== Proof.MnClaim.lean ====
/- The gradient of the memory's norm gain: the claim against the reference. -/
module

public import proofs.«01_k».proof.Defs
public import proofs.«01_k».proof.Proof.Gen.KernelMn
public import proofs.«01_k».proof.Proof.Mn

@[expose] public section

noncomputable section

open Idealize.ShloMosaic Idealize.ShloMosaic.TcCoe Idealize.SL.Sem Idealize.ShloMosaic.ValueIdx

namespace Cert.Hand

theorem frame_reference_Mn : Cert.quiescent_ReferenceMnIdeal := fun m ρ _ =>
  (θ_run Cert.ReferenceMnIdeal.defs _ _).mono (fun r h => ⟨fun c => (h c).2, sem_eq_zero_of_no_sems (by decide) r.2⟩)
    (Cert.ReferenceMnIdeal.Hand.run m ρ)

theorem algebraic_Mn : Cert.algebraic_KernelMnIdeal_ReferenceMnIdeal := by
  intro m g m' g' _ hargs
  refine ⟨fun c => Cert.ReferenceMnIdeal.Read.val_main_v14 (F := Ideal) (m ((c.tc : Thread Cert.KernelMnIdeal.nD Cert.KernelMnIdeal.τ).loc Cert.KernelMnIdeal.main_arg0)) (m ((c.tc : Thread Cert.KernelMnIdeal.nD Cert.KernelMnIdeal.τ).loc Cert.KernelMnIdeal.main_arg2)), ?_, ?_⟩
  · refine (θ_run Cert.KernelMnIdeal.defs _ _).mono (fun r h c => ⟨(h c).1.trans ?_, (h c).2⟩) (Cert.KernelMnIdeal.Value.run_blocks m g)
    funext j
    obtain ⟨a, b, rfl⟩ : ∃ (a : Fin 1) (b : Fin 1024), j = ix2 a b := ⟨j 0, j 1, eq_ix2 j⟩
    exact Cert.KernelMnIdeal.Hand.result_apply m c a b
  · refine (θ_run Cert.ReferenceMnIdeal.defs _ _).mono (fun r h c => ⟨(h c).1.trans ?_, (h c).2⟩) (Cert.ReferenceMnIdeal.Hand.run m' g')
    rw [(hargs c).1, (hargs c).2.2]

end Cert.Hand
-- ==== Proof.Gt.lean ====
/- The gradient of the gate on the recurrence's output: the kernel's results read at an index, and the reference's. -/
module

public import proofs.«01_k».proof.Proof.Kit
public import proofs.«01_k».proof.Proof.Gen.KernelGtIdeal.Value
public import proofs.«01_k».proof.Proof.Gen.ReferenceGtIdeal.Run
public import proofs.«01_k».proof.Proof.Gen.ReferenceGtIdeal.Read
public import Idealize.ShloMosaic.Lib.KernelVsHost
public import Idealize.ShloMosaic.Lib.StableHlo.Run

@[expose] public section

set_option maxRecDepth 16384

noncomputable section

open Idealize.ShloMosaic Idealize.ShloMosaic.TcCoe Idealize.SL.Sem Idealize.ShloMosaic.ValueIdx Cert.Kit

namespace Cert.ReferenceGtIdeal.Hand

open Cert.ReferenceGtIdeal Cert.ReferenceGtIdeal.Read

/-- The reference's run, its results named as the reading's last stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v39)
        = val_main_v39 (F := Ideal) (m ((c.tc : Thread nD τ).loc main_arg0)) (m ((c.tc : Thread nD τ).loc main_arg1)) (m ((c.tc : Thread nD τ).loc main_arg2))
      ∧ r.2.mem ((c.tc : Thread nD τ).loc main_v38)
        = val_main_v38 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (val_main_v39_eq ..), (h c).2.1.trans (val_main_v38_eq ..), (h c).2.2⟩)
    (Cert.ReferenceGtIdeal.Value.run m ρ)

variable (x0 : S4096x512.Idx → EReal) (x1 : S512x2048.Idx → EReal) (x2 : S4096x1024.Idx → EReal)

/-- The layer's output before the gate. -/
def pre (i : Fin 4096) (j : Fin 2048) : EReal := ∑ k : Fin 512, x0 (ix2 i k) * x1 (ix2 k j)

/-- The gate: the logistic function, written out. -/
def sg (b : EReal) : EReal := Ideal.div (Ideal.ofBits .f32 0x3F800000#32) (Ideal.ofBits .f32 0x3F800000#32 + Ideal.exp (-b))

theorem v0_apply (i : Fin 4096) (j : Fin 2048) : val_main_v0 (F := Ideal) x0 x1 (ix2 i j) = pre x0 x1 i j := by
  rw [val_main_v0_apply]
  refine Finset.sum_congr rfl fun k _ => ?_
  rw [ixEq (i := lidx_main_v0 _ _) (a := i) (b := k) rfl rfl, ixEq (i := ridx_main_v0 _ _) (a := k) (b := j) rfl rfl]

theorem v1_apply (i : Fin 4096) (j : Fin 1024) : val_main_v1 (F := Ideal) x0 x1 (ix2 i j) = pre x0 x1 i ⟨j.val, by omega⟩ := by
  rw [val_main_v1_apply, ixEq (i := idx_main_v1 _) (a := i) (b := ⟨j.val, by omega⟩) rfl rfl, v0_apply]

theorem v8_apply (i : Fin 4096) (j : Fin 1024) : val_main_v8 (F := Ideal) x0 x1 (ix2 i j) = sg (pre x0 x1 i ⟨1024 + j.val, by omega⟩) := by
  rw [val_main_v8_apply, val_main_v7_apply, val_main_v6_apply, val_main_v5_apply, val_main_v4_apply, val_main_v3_apply, val_main_v2_apply,
    ixEq (i := idx_main_v2 _) (a := i) (b := ⟨1024 + j.val, by omega⟩) rfl rfl, v0_apply]
  rfl

/-- The left half of the gradient: the cotangent times the gate. -/
theorem v18_left (i : Fin 4096) (j : Fin 2048) (j' : Fin 1024) (h : j.val = j'.val) :
    val_main_v18 (F := Ideal) x0 x1 x2 (ix2 i j) = x2 (ix2 i j') * sg (pre x0 x1 i ⟨1024 + j'.val, by omega⟩) := by
  rw [val_main_v18_apply]
  unfold val_main_v16 val_main_v17
  rw [pad_apply_of_not_inside _ _ _ _ _ _ _ (ix2 i j) 1 (by
      rintro ⟨h1, _⟩
      have h2 : 1024 ≤ j.val := h1
      omega),
    pad_apply_of_inside _ _ _ _ _ _ _ (ix2 i j) (ix2 i j') (fun a => match a with
      | ⟨0, _⟩ => by show i.val = 0 + i.val * 1; omega
      | ⟨1, _⟩ => by show j.val = 0 + j'.val * 1; omega), val_main_v14_apply, v8_apply, val_main_cst_2_apply]
  show Ideal.ofBits .f32 0x00000000#32 + _ = _
  rw [Ideal.ofBits_zero_f32, zero_add]
  rfl

/-- The right half: the cotangent times the value gated, times the gate's derivative. -/
theorem v18_right (i : Fin 4096) (j : Fin 2048) (j' : Fin 1024) (h : j.val = 1024 + j'.val) :
    val_main_v18 (F := Ideal) x0 x1 x2 (ix2 i j) = x2 (ix2 i j') * pre x0 x1 i ⟨j'.val, by omega⟩
      * sg (pre x0 x1 i ⟨1024 + j'.val, by omega⟩) * (Ideal.ofBits .f32 0x3F800000#32 - sg (pre x0 x1 i ⟨1024 + j'.val, by omega⟩)) := by
  rw [val_main_v18_apply]
  unfold val_main_v16 val_main_v17
  rw [pad_apply_of_inside _ _ _ _ _ _ _ (ix2 i j) (ix2 i j') (fun a => match a with
      | ⟨0, _⟩ => by show i.val = 0 + i.val * 1; omega
      | ⟨1, _⟩ => by show j.val = 1024 + j'.val * 1; omega),
    pad_apply_of_not_inside _ _ _ _ _ _ _ (ix2 i j) 1 (by
      rintro ⟨_, _, h1⟩
      have h2 : (j.val - 0) / 1 < 1024 := h1
      rw [Nat.div_one] at h2
      omega), val_main_v15_apply, val_main_v13_apply, val_main_v11_apply, val_main_v10_apply, val_main_v9_apply, v1_apply, v8_apply,
    val_main_cst_3_apply]
  show _ + Ideal.ofBits .f32 0x00000000#32 = _
  rw [Ideal.ofBits_zero_f32, add_zero]
  show pre x0 x1 i _ * x2 (ix2 i j') * (sg _ * (Ideal.ofBits .f32 0x3F800000#32 - sg _)) = _
  rw [← mul_assoc, mul_comm (pre x0 x1 i _)]

theorem v38_apply (i : Fin 4096) (j : Fin 512) :
    val_main_v38 (F := Ideal) x0 x1 x2 (ix2 i j) = ∑ k : Fin 2048, val_main_v18 (F := Ideal) x0 x1 x2 (ix2 i k) * x1 (ix2 j k) := by
  rw [val_main_v38_apply]
  refine Finset.sum_congr rfl fun k _ => ?_
  rw [ixEq (i := lidx_main_v38 _ _) (a := i) (b := k) rfl rfl, ixEq (i := ridx_main_v38 _ _) (a := j) (b := k) rfl rfl]
  rfl

end Cert.ReferenceGtIdeal.Hand

namespace Cert.KernelGtIdeal.Hand

open Cert.KernelGtIdeal Cert.KernelGtIdeal.Gen Cert.KernelGtIdeal.Value Cert.ReferenceGtIdeal.Hand

variable (m : (ℓ : Loc nD τ sig) → Buf (Elt Ideal) ℓ) (ρ : Dev nD → PrngReg)

/-- The layer's output before the gate, left half, as the host lines before the call leave it. -/
theorem V_v5 (c : Dev nD) (i : Fin 4096) (j : Fin 1024) : (V m c main_v5 : S4096x1024.Idx → EReal) (ix2 i j)
    = pre (m ((c : Thread nD τ).loc main_arg0)) (m ((c : Thread nD τ).loc main_arg1)) i ⟨j.val, by omega⟩ := by
  unfold V
  after_results
  refine (dg11 _ none _ _ i j).trans (Finset.sum_congr rfl fun k _ => congrArg₂ (· * ·) rfl ?_)
  exact (extractStridedSlice_apply _ _ _ _ (ix2 (⟨j.val, by omega⟩ : Fin 2048) k) fun a => match a with
    | ⟨0, _⟩ => by show j.val = 0 + j.val; omega
    | ⟨1, _⟩ => by show k.val = 0 + k.val; omega).trans
    (transpose_apply _ _ _ _ (ix2 k (⟨j.val, by omega⟩ : Fin 2048)) fun a => match a with | ⟨0, _⟩ => rfl | ⟨1, _⟩ => rfl)

/-- The layer's output before the gate, right half. -/
theorem V_v9 (c : Dev nD) (i : Fin 4096) (j : Fin 1024) : (V m c main_v9 : S4096x1024.Idx → EReal) (ix2 i j)
    = pre (m ((c : Thread nD τ).loc main_arg0)) (m ((c : Thread nD τ).loc main_arg1)) i ⟨1024 + j.val, by omega⟩ := by
  unfold V
  after_results
  refine (dg11 _ none _ _ i j).trans (Finset.sum_congr rfl fun k _ => congrArg₂ (· * ·) rfl ?_)
  exact (extractStridedSlice_apply _ _ _ _ (ix2 (⟨1024 + j.val, by omega⟩ : Fin 2048) k) fun a => match a with
    | ⟨0, _⟩ => rfl
    | ⟨1, _⟩ => by show k.val = 0 + k.val; omega).trans
    (transpose_apply _ _ _ _ (ix2 k (⟨1024 + j.val, by omega⟩ : Fin 2048)) fun a => match a with | ⟨0, _⟩ => rfl | ⟨1, _⟩ => rfl)

/-- The weight, transposed by the host. -/
theorem V_v1 (c : Dev nD) (i : Fin 2048) (j : Fin 512) : (V m c main_v1 : S2048x512.Idx → EReal) (ix2 i j)
    = (m ((c : Thread nD τ).loc main_arg1) : S512x2048.Idx → EReal) (ix2 j i) := by
  unfold V
  after_results
  exact transpose_apply _ _ _ _ (ix2 j i) fun a => match a with | ⟨0, _⟩ => rfl | ⟨1, _⟩ => rfl

theorem index0 : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = t.val ∧ win0_4.index t 1 = 0) ∧ win0_5.index t 0 = t.val ∧ win0_5.index t 1 = 0 :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = t.val ∧ win0_4.index t 1 = 0) ∧ win0_5.index t 0 = t.val ∧ win0_5.index t 1 = 0)

theorem rows : 4096 = cfg0.N * 256 := by
  show 4096 = grid0.N * 256
  rw [Gen.N_0]

theorem iblk0 (c : Dev nD) (t : Fin cfg0.N) (a : Fin 256) (b : Fin 1024) : (iblk m c 0 t : S256x1024.Idx → EReal) (ix2 a b)
    = (m ((c : Thread nD τ).loc main_arg2) : S4096x1024.Idx → EReal) (ix2 (row t a rows) b) := by
  unfold iblk
  rw [View.read_apply]
  show V m c main_arg2 _ = _
  rw [V_main_arg2]
  have h := (index0 t).1
  refine congrArg _ (ixEq ?_ ?_)
  · show win0_0.index t 0 * 256 + 1 * a.val = t.val * 256 + a.val
    rw [h.1]; omega
  · show win0_0.index t 1 * 1024 + 1 * b.val = b.val
    rw [h.2]; omega

theorem iblk1 (c : Dev nD) (t : Fin cfg0.N) (a : Fin 256) (b : Fin 1024) : (iblk m c 1 t : S256x1024.Idx → EReal) (ix2 a b)
    = pre (m ((c : Thread nD τ).loc main_arg0)) (m ((c : Thread nD τ).loc main_arg1)) (row t a rows) ⟨b.val, by omega⟩ := by
  unfold iblk
  rw [View.read_apply, ← V_v5]
  show V m c main_v5 _ = _
  have h := (index0 t).2.1
  refine congrArg _ (ixEq ?_ ?_)
  · show win0_1.index t 0 * 256 + 1 * a.val = t.val * 256 + a.val
    rw [h.1]; omega
  · show win0_1.index t 1 * 1024 + 1 * b.val = b.val
    rw [h.2]; omega

theorem iblk2 (c : Dev nD) (t : Fin cfg0.N) (a : Fin 256) (b : Fin 1024) : (iblk m c 2 t : S256x1024.Idx → EReal) (ix2 a b)
    = pre (m ((c : Thread nD τ).loc main_arg0)) (m ((c : Thread nD τ).loc main_arg1)) (row t a rows) ⟨1024 + b.val, by omega⟩ := by
  unfold iblk
  rw [View.read_apply, ← V_v9]
  show V m c main_v9 _ = _
  have h := (index0 t).2.2.1
  refine congrArg _ (ixEq ?_ ?_)
  · show win0_2.index t 0 * 256 + 1 * a.val = t.val * 256 + a.val
    rw [h.1]; omega
  · show win0_2.index t 1 * 1024 + 1 * b.val = b.val
    rw [h.2]; omega

theorem iblk3 (c : Dev nD) (t : Fin cfg0.N) (a : Fin 2048) (b : Fin 512) : (iblk m c 3 t : S2048x512.Idx → EReal) (ix2 a b)
    = (m ((c : Thread nD τ).loc main_arg1) : S512x2048.Idx → EReal) (ix2 b a) := by
  unfold iblk
  rw [View.read_apply]
  refine Eq.trans ?_ (V_v1 m c a b)
  show V m c main_v1 _ = _
  have h := (index0 t).2.2.2.1
  refine congrArg _ (ixEq ?_ ?_)
  · show win0_3.index t 0 * 2048 + 1 * a.val = a.val
    rw [h.1]; omega
  · show win0_3.index t 1 * 512 + 1 * b.val = b.val
    rw [h.2]; omega

/-- The kernel's gate is the logistic function written out. -/
theorem sg_eq (b : EReal) : Ideal.div (Ideal.ofBits .f32 0x3F800000#32) (Ideal.ofBits .f32 0x3F800000#32
    + Ideal.exp (Ideal.ofBits .f32 0x00000000#32 - b)) = sg b := by
  rw [Ideal.ofBits_zero_f32, zero_sub, sg]

theorem pay1_left (v0 : Vec Ideal S256x1024 .f32) (v1 v3 : Vec Ideal S256x1024 .bf16) (a : Fin 256) (j : Fin 2048) (b : Fin 1024) (h : j.val = b.val) :
    k0_pay1 (F := Ideal) v0 v1 v3 (ix2 a j) = v0 (ix2 a b) * sg (v3 (ix2 a b)) := by
  unfold k0_pay1
  rw [shapeCast_self, shapeCast_self]
  exact (catL _ _ concatenates_S256x1024_S256x1024_S256x2048_d1 a j b h.symm).trans (congrArg (v0 (ix2 a b) * ·) (sg_eq (v3 (ix2 a b))))

theorem pay1_right (v0 : Vec Ideal S256x1024 .f32) (v1 v3 : Vec Ideal S256x1024 .bf16) (a : Fin 256) (j : Fin 2048) (b : Fin 1024) (h : j.val = 1024 + b.val) :
    k0_pay1 (F := Ideal) v0 v1 v3 (ix2 a j)
      = v0 (ix2 a b) * v1 (ix2 a b) * sg (v3 (ix2 a b)) * (Ideal.ofBits .f32 0x3F800000#32 - sg (v3 (ix2 a b))) := by
  unfold k0_pay1
  rw [shapeCast_self, shapeCast_self]
  refine (catR _ _ concatenates_S256x1024_S256x1024_S256x2048_d1 a j b h).trans ?_
  rw [← sg_eq]
  rfl

theorem pay2_apply (v0 : Vec Ideal S256x1024 .f32) (v1 v3 : Vec Ideal S256x1024 .bf16) (v5 : Vec Ideal S2048x512 .bf16) (a : Fin 256) (j : Fin 512) :
    k0_pay2 (F := Ideal) v0 v1 v3 v5 (ix2 a j) = ∑ k : Fin 2048, k0_pay1 (F := Ideal) v0 v1 v3 (ix2 a k) * v5 (ix2 k j) := by
  unfold k0_pay2
  simp only [shapeCast_self]
  exact mm10 (φ₁ := .bf16) (φ₂ := .bf16) _ none _ _ a j

/-- A tile of the gradient before the gate is the reference's. -/
theorem pay1_iblk (c : Dev nD) (t : Fin cfg0.N) (a : Fin 256) (j : Fin 2048) :
    k0_pay1 (F := Ideal) (iblk m c 0 t) (iblk m c 1 t) (iblk m c 2 t) (ix2 a j)
      = Cert.ReferenceGtIdeal.Read.val_main_v18 (F := Ideal) (m ((c : Thread nD τ).loc main_arg0)) (m ((c : Thread nD τ).loc main_arg1))
          (m ((c : Thread nD τ).loc main_arg2)) (ix2 (row t a rows) j) := by
  by_cases h : j.val < 1024
  · refine (pay1_left _ _ _ a j ⟨j.val, h⟩ rfl).trans ?_
    refine Eq.trans ?_ (v18_left _ _ _ (row t a rows) j ⟨j.val, h⟩ rfl).symm
    rw [iblk0, iblk2]
  · have h' : j.val = 1024 + (j.val - 1024) := by omega
    refine (pay1_right _ _ _ a j ⟨j.val - 1024, by omega⟩ h').trans ?_
    refine Eq.trans ?_ (v18_right _ _ _ (row t a rows) j ⟨j.val - 1024, by omega⟩ h').symm
    rw [iblk0, iblk1, iblk2]

/-- The gradient before the gate, read at an index. -/
theorem result4 (c : Dev nD) (i : Fin 4096) (j : Fin 2048) :
    ((dats m 0 c).arrAt 4 cfg0.N : S4096x2048.Idx → EReal) (ix2 i j)
      = Cert.ReferenceGtIdeal.Read.val_main_v39 (F := Ideal) (m ((c : Thread nD τ).loc main_arg0)) (m ((c : Thread nD τ).loc main_arg1))
          (m ((c : Thread nD τ).loc main_arg2)) (ix2 i j) := by
  obtain ⟨t, a, rfl⟩ := row_surj rows i
  have hb := congrFun (blocks4 m c t (flush0_4 t)) (ix2 a j)
  rw [View.read_apply, flushed4] at hb
  unfold out0_4 at hb
  rw [View.canon_unit_zero hz2] at hb
  simp only [View.ld_unit_zero (S := S256x1024) hz2] at hb
  have h := (index0 t).2.2.2.2.1
  have he : ((cfg0.win 4).blk t).view.emb (ix2 a j) = (ix2 (row t a rows) j : S4096x2048.Idx) := by
    refine ixEq ?_ ?_
    · show win0_4.index t 0 * 256 + 1 * a.val = t.val * 256 + a.val
      rw [h.1]; omega
    · show win0_4.index t 1 * 2048 + 1 * j.val = j.val
      rw [h.2]; omega
  rw [he] at hb
  exact hb.trans (pay1_iblk m c t a j)

/-- The gradient through the weight, read at an index. -/
theorem result5 (c : Dev nD) (i : Fin 4096) (j : Fin 512) :
    ((dats m 0 c).arrAt 5 cfg0.N : S4096x512.Idx → EReal) (ix2 i j)
      = Cert.ReferenceGtIdeal.Read.val_main_v38 (F := Ideal) (m ((c : Thread nD τ).loc main_arg0)) (m ((c : Thread nD τ).loc main_arg1))
          (m ((c : Thread nD τ).loc main_arg2)) (ix2 i j) := by
  obtain ⟨t, a, rfl⟩ := row_surj rows i
  have hb := congrFun (blocks5 m c t (flush0_5 t)) (ix2 a j)
  rw [View.read_apply, flushed5] at hb
  unfold out0_5 at hb
  rw [View.canon_unit_zero hz2] at hb
  simp only [View.ld_unit_zero (S := S256x1024) hz2, View.ld_unit_zero (S := S2048x512) hz2] at hb
  have h := (index0 t).2.2.2.2.2
  have he : ((cfg0.win 5).blk t).view.emb (ix2 a j) = (ix2 (row t a rows) j : S4096x512.Idx) := by
    refine ixEq ?_ ?_
    · show win0_5.index t 0 * 256 + 1 * a.val = t.val * 256 + a.val
      rw [h.1]; omega
    · show win0_5.index t 1 * 512 + 1 * j.val = j.val
      rw [h.2]; omega
  rw [he] at hb
  refine hb.trans (Eq.trans ?_ (v38_apply _ _ _ (row t a rows) j).symm)
  refine (pay2_apply _ _ _ _ a j).trans (Finset.sum_congr rfl fun k _ => ?_)
  rw [pay1_iblk, iblk3]

end Cert.KernelGtIdeal.Hand
-- ==== Proof.GtClaim.lean ====
/- The gradient of the gate: the claim against the reference. -/
module

public import proofs.«01_k».proof.Defs
public import proofs.«01_k».proof.Proof.Gen.KernelGt
public import proofs.«01_k».proof.Proof.Gt

@[expose] public section

noncomputable section

open Idealize.ShloMosaic Idealize.ShloMosaic.TcCoe Idealize.SL.Sem Idealize.ShloMosaic.ValueIdx

namespace Cert.Hand

theorem frame_reference_Gt : Cert.quiescent_ReferenceGtIdeal := fun m ρ _ =>
  (θ_run Cert.ReferenceGtIdeal.defs _ _).mono (fun r h => ⟨fun c => (h c).2.2, sem_eq_zero_of_no_sems (by decide) r.2⟩)
    (Cert.ReferenceGtIdeal.Hand.run m ρ)

open Cert.KernelGtIdeal in
theorem algebraic_Gt : Cert.algebraic_KernelGtIdeal_ReferenceGtIdeal := by
  intro m g m' g' _ hargs
  let x (c : Dev nD) := m ((c.tc : Thread nD τ).loc main_arg0)
  let y (c : Dev nD) := m ((c.tc : Thread nD τ).loc main_arg1)
  let z (c : Dev nD) := m ((c.tc : Thread nD τ).loc main_arg2)
  refine ⟨fun c => Cert.ReferenceGtIdeal.Read.val_main_v39 (F := Ideal) (x c) (y c) (z c),
    fun c => Cert.ReferenceGtIdeal.Read.val_main_v38 (F := Ideal) (x c) (y c) (z c), ?_, ?_⟩
  · refine (θ_run defs _ _).mono (fun r h c => ⟨(h c).1.trans ?_, (h c).2.1.trans ?_, (h c).2.2⟩) (Value.run_blocks m g)
    · funext j
      obtain ⟨a, b, rfl⟩ : ∃ (a : Fin 4096) (b : Fin 2048), j = ix2 a b := ⟨j 0, j 1, eq_ix2 j⟩
      exact Hand.result4 m c a b
    · funext j
      obtain ⟨a, b, rfl⟩ : ∃ (a : Fin 4096) (b : Fin 512), j = ix2 a b := ⟨j 0, j 1, eq_ix2 j⟩
      exact Hand.result5 m c a b
  · refine (θ_run Cert.ReferenceGtIdeal.defs _ _).mono (fun r h c => ⟨(h c).1.trans ?_, (h c).2.1.trans ?_, (h c).2.2⟩)
      (Cert.ReferenceGtIdeal.Hand.run m' g')
    · rw [(hargs c).1, (hargs c).2.1, (hargs c).2.2]
    · rw [(hargs c).1, (hargs c).2.1, (hargs c).2.2]

end Cert.Hand
-- ==== Proof.Real.lean ====
/- Finite extended reals, and the derivative of a root-mean-square norm on a row of them. -/
module

public import Idealize.ShloMosaic.Lib.Pipeline.Value
public import Idealize.ShloMosaic.Lib.IdealHost
public import Idealize.ShloMosaic.Lib.Tactic

@[expose] public section

noncomputable section

open Idealize.ShloMosaic

namespace Cert.Kit

/-- An extended real that is a real. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.one : IsReal 1 := ⟨1, rfl⟩

theorem IsReal.add {x y : EReal} : IsReal x → IsReal y → IsReal (x + y)
  | ⟨a, ha⟩, ⟨b, hb⟩ => ⟨a + b, by rw [ha, hb, EReal.coe_add]⟩

theorem IsReal.sub {x y : EReal} : IsReal x → IsReal y → IsReal (x - y)
  | ⟨a, ha⟩, ⟨b, hb⟩ => ⟨a - b, by rw [ha, hb, EReal.coe_sub]⟩

theorem IsReal.mul {x y : EReal} : IsReal x → IsReal y → IsReal (x * y)
  | ⟨a, ha⟩, ⟨b, hb⟩ => ⟨a * b, by rw [ha, hb, EReal.coe_mul]⟩

theorem IsReal.neg {x : EReal} : IsReal x → IsReal (-x)
  | ⟨a, ha⟩ => ⟨-a, by rw [ha, EReal.coe_neg]⟩

theorem IsReal.sum {ι : Type} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_real (a b : ℝ) (hb : b ≠ 0) : Ideal.div (a : EReal) (b : EReal) = ((a / b : ℝ) : EReal) := by
  rw [Ideal.div_coe hb, ← EReal.coe_mul, mul_one_div]

theorem IsReal.div_coe {x : EReal} {b : ℝ} (h : IsReal x) (hb : b ≠ 0) : IsReal (Ideal.div x (b : EReal)) := by
  obtain ⟨a, rfl⟩ := h
  exact ⟨_, div_real a b hb⟩

theorem rsqrt_real {s : ℝ} (hs : 0 < s) : Ideal.rsqrt (s : EReal) = (((Real.sqrt s)⁻¹ : ℝ) : EReal) := by
  show (if s < 0 then (⊥ : EReal) else if s = 0 then ⊤ else (((Real.sqrt s)⁻¹ : ℝ) : EReal)) = _
  rw [if_neg (not_lt.mpr hs.le), if_neg hs.ne']

/-- The small term under the root, as the kernels and the references spell it. -/
def eps : EReal := Ideal.ofBits .f32 0x358637BD#32

theorem eps_real : ∃ e : ℝ, 0 < e ∧ eps = (e : EReal) := by
  unfold eps
  refine ⟨_, ?_, by simp [Ideal.ofBits, Ideal.ieee, -EReal.coe_mul]; rfl⟩
  positivity

theorem c1024 : Ideal.ofBits .f32 0x44800000#32 = ((1024 : ℝ) : EReal) := by
  simp [Ideal.ofBits, Ideal.ieee, -EReal.coe_mul]; norm_num

theorem c512 : Ideal.ofBits .f32 0x44000000#32 = ((512 : ℝ) : EReal) := by
  simp [Ideal.ofBits, Ideal.ieee, -EReal.coe_mul]; norm_num

theorem cNegHalf : Ideal.ofBits .f32 0xBF000000#32 = ((-(1 / 2) : ℝ) : EReal) := by
  simp [Ideal.ofBits, Ideal.ieee, -EReal.coe_mul]; norm_num

theorem cHalf : Ideal.ofBits .f32 0x3F000000#32 = ((1 / 2 : ℝ) : EReal) := by
  simp [Ideal.ofBits, Ideal.ieee, -EReal.coe_mul]; norm_num

variable {n : ℕ}

/-- The mean square of a row, and the small term. -/
def meanSq (c : ℝ) (x : Fin n → EReal) : EReal := Ideal.div (∑ k, x k * x k) (c : EReal) + eps

theorem meanSq_real {c : ℝ} (hc : 0 < c) (x : Fin n → ℝ) : ∃ s : ℝ, 0 < s ∧ meanSq c (fun k => (x k : EReal)) = (s : EReal) := by
  obtain ⟨e, he, hee⟩ := eps_real
  refine ⟨(∑ k, x k * x k) / c + e, ?_, ?_⟩
  · have : 0 ≤ (∑ k, x k * x k) / c := div_nonneg (Finset.sum_nonneg fun k _ => mul_self_nonneg _) hc.le
    linarith
  · unfold meanSq
    simp only [← EReal.coe_mul, ← coe_sum, hee, div_real _ _ hc.ne', ← EReal.coe_add]

/-- The scale of a row of reals is a real. -/
theorem IsReal.scale {c : ℝ} (hc : 0 < c) {x : Fin n → EReal} (hx : ∀ k, IsReal (x k)) : IsReal (Ideal.rsqrt (meanSq c x)) := by
  choose x' hx' using hx
  obtain rfl : x = fun k => (x' k : EReal) := funext hx'
  obtain ⟨s, hs, hse⟩ := meanSq_real hc x'
  rw [hse, rsqrt_real hs]
  exact ⟨_, rfl⟩

/-- The derivative of a root-mean-square norm on a row: the form with the mean of the products taken out is the one the chain
    rule gives, term by term. -/
theorem rms_row {c : ℝ} (hc : 0 < c) {x a : Fin n → EReal} (hx : ∀ k, IsReal (x k)) (ha : ∀ k, IsReal (a k)) (D : EReal) (j : Fin n) :
    D + Ideal.rsqrt (meanSq c x) * (a j - x j * Ideal.rsqrt (meanSq c x)
        * Ideal.div (∑ k, a k * (x k * Ideal.rsqrt (meanSq c x))) (c : EReal))
      = D + a j * Ideal.rsqrt (meanSq c x)
        + x j * Ideal.div ((∑ k, x k * a k) * (((-(1 / 2) : ℝ) : EReal) * Ideal.div (Ideal.rsqrt (meanSq c x)) (meanSq c x))) (c : EReal)
        + Ideal.div ((∑ k, x k * a k) * (((-(1 / 2) : ℝ) : EReal) * Ideal.div (Ideal.rsqrt (meanSq c x)) (meanSq c x))) (c : EReal) * x j := by
  choose x' hx' using hx
  choose a' ha' using ha
  obtain rfl : x = fun k => (x' k : EReal) := funext hx'
  obtain rfl : a = fun k => (a' k : EReal) := funext ha'
  obtain ⟨s, hs, hse⟩ := meanSq_real hc x'
  rw [hse, rsqrt_real hs, div_real _ _ hs.ne']
  simp only [← EReal.coe_mul, ← coe_sum, div_real _ _ hc.ne', ← EReal.coe_sub]
  rw [add_assoc, add_assoc, ← EReal.coe_add, ← EReal.coe_add]
  congr 2
  have hq : (Real.sqrt s)⁻¹ * (Real.sqrt s)⁻¹ = s⁻¹ := by
    rw [← mul_inv, Real.mul_self_sqrt hs.le]
  have h1 : ∑ k, a' k * (x' k * (Real.sqrt s)⁻¹) = (∑ k, x' k * a' k) * (Real.sqrt s)⁻¹ := by
    rw [Finset.sum_mul]
    exact Finset.sum_congr rfl fun k _ => by ring
  rw [h1, div_eq_mul_inv _ s, ← hq]
  ring

end Cert.Kit
-- ==== Proof.Rms.lean ====
/- The derivative of a root-mean-square norm over rows of 1024, as the references spell it and as the kernels do. -/
module

public import proofs.«01_k».proof.Proof.Kit
public import proofs.«01_k».proof.Proof.Real

@[expose] public section

set_option maxRecDepth 16384

noncomputable section

open Idealize.ShloMosaic Idealize.ShloMosaic.ValueIdx

namespace Cert.Kit

abbrev Mat : Shape := ⟨2, ![4096, 1024]⟩
abbrev Col : Shape := ⟨2, ![4096, 1]⟩
abbrev Vc : Shape := ⟨1, ![4096]⟩
abbrev Rw : Shape := ⟨2, ![1, 1024]⟩
abbrev Sc : Shape := ⟨0, ![]⟩

/-- The mean square of each row and the small term. -/
def hMean (x : FVec Ideal Mat .f32) : FVec Ideal Col .f32 :=
  addf (Host.divf (broadcastInDim Col ![0] (by decide : Vc.BroadcastsInDim Col ![0])
      (Host.reduceAdd (mulf x x) (constant Sc .f32 0x00000000#32) (by decide : Mat.ReducesTo [1] Vc) (by decide)))
    (broadcastInDim Col ![] (by decide : Sc.BroadcastsInDim Col ![]) (constant Sc .f32 0x44800000#32)))
    (broadcastInDim Col ![] (by decide : Sc.BroadcastsInDim Col ![]) (constant Sc .f32 0x358637BD#32))

/-- The scale of each row. -/
def hScale (x : FVec Ideal Mat .f32) : FVec Ideal Col .f32 := Host.rsqrt (hMean x)

/-- A column over a matrix. -/
def hSpread (r : FVec Ideal Col .f32) : FVec Ideal Mat .f32 := broadcastInDim Mat ![0, 1] (by decide : Col.BroadcastsInDim Mat ![0, 1]) r

/-- The cotangent times the gain. -/
def hUp (g : FVec Ideal Rw .f32) (u : FVec Ideal Mat .f32) : FVec Ideal Mat .f32 :=
  mulf u (broadcastInDim Mat ![0, 1] (by decide : Rw.BroadcastsInDim Mat ![0, 1]) g)

/-- The part of the gradient that runs through the scale of the row, before its last product with the row. -/
def hDown (x a : FVec Ideal Mat .f32) : FVec Ideal Mat .f32 :=
  broadcastInDim Mat ![0] (by decide : Vc.BroadcastsInDim Mat ![0])
    (Host.reduceAdd (Host.divf (mulf (shapeCast Col (Host.reduceAdd (mulf x a) (constant Sc .f32 0x00000000#32)
          (by decide : Mat.ReducesTo [1] Vc) (by decide)) (by decide))
        (mulf (broadcastInDim Col ![] (by decide : Sc.BroadcastsInDim Col ![]) (constant Sc .f32 0xBF000000#32)) (Host.divf (hScale x) (hMean x))))
      (broadcastInDim Col ![] (by decide : Sc.BroadcastsInDim Col ![]) (constant Sc .f32 0x44800000#32)))
      (constant Sc .f32 0x00000000#32) (by decide : Col.ReducesTo [1] Vc) (by decide))

/-- The gradient of the rows: `d` is what is added up so far, the part that runs through the row itself among it. -/
def hBack (x a d : FVec Ideal Mat .f32) : FVec Ideal Mat .f32 := addf (addf d (mulf x (hDown x a))) (mulf (hDown x a) x)

/-- The gradient of the gain. -/
def hGain (x u : FVec Ideal Mat .f32) : FVec Ideal Rw .f32 :=
  shapeCast Rw (Host.reduceAdd (mulf (mulf x (hSpread (hScale x))) u) (constant Sc .f32 0x00000000#32)
    (by decide : Mat.ReducesTo [0] ⟨1, ![1024]⟩) (by decide)) (by decide)

/-- Row `i` of a matrix. -/
abbrev rowOf {M N : ℕ} (x : FVec Ideal ⟨2, ![M, N]⟩ .f32) (i : Fin M) : Fin N → EReal := fun k => x (ix2 i k)

theorem hMean_apply (x : FVec Ideal Mat .f32) (i : Fin 4096) : hMean x (ix2 i 0) = meanSq 1024 (rowOf x i) := by
  have h : (Host.reduceAdd (mulf x x) (constant Sc .f32 0x00000000#32) (by decide : Mat.ReducesTo [1] Vc) (by decide) : FVec Ideal Vc .f32) (ix1 i)
      = ∑ k : Fin 1024, x (ix2 i k) * x (ix2 i k) := hsumCols _ _ _ (by decide) i
  refine (congrArg (fun p => Ideal.div p (Ideal.ofBits .f32 0x44800000#32) + Ideal.ofBits .f32 0x358637BD#32) ((hbVec _ _ i 0).trans h)).trans ?_
  rw [c1024]
  rfl

theorem hScale_apply (x : FVec Ideal Mat .f32) (i : Fin 4096) : hScale x (ix2 i 0) = Ideal.rsqrt (meanSq 1024 (rowOf x i)) := by
  show Ideal.rsqrt (hMean x (ix2 i 0)) = _
  rw [hMean_apply]

theorem hSpread_apply (r : FVec Ideal Col .f32) (i : Fin 4096) (j : Fin 1024) : hSpread r (ix2 i j) = r (ix2 i 0) := hbCol _ _ i j

theorem hUp_apply (g : FVec Ideal Rw .f32) (u : FVec Ideal Mat .f32) (i : Fin 4096) (j : Fin 1024) : hUp g u (ix2 i j) = u (ix2 i j) * g (ix2 0 j) :=
  congrArg (u (ix2 i j) * ·) (hbRow _ _ i j)

theorem hDown_apply (x a : FVec Ideal Mat .f32) (i : Fin 4096) (j : Fin 1024) : hDown x a (ix2 i j)
    = Ideal.div ((∑ k, x (ix2 i k) * a (ix2 i k)) * (((-(1 / 2) : ℝ) : EReal)
        * Ideal.div (Ideal.rsqrt (meanSq 1024 (rowOf x i))) (meanSq 1024 (rowOf x i)))) ((1024 : ℝ) : EReal) := by
  refine (hbVec _ _ i j).trans ((hsumCols _ _ _ (by decide) i).trans ?_)
  rw [Fin.sum_univ_one]
  have h : (shapeCast Col (Host.reduceAdd (mulf x a) (constant Sc .f32 0x00000000#32) (by decide : Mat.ReducesTo [1] Vc) (by decide)
      : FVec Ideal Vc .f32) (by decide)) (ix2 i 0) = ∑ k : Fin 1024, x (ix2 i k) * a (ix2 i k) :=
    (castCol _ _ i 0).trans (hsumCols _ _ _ (by decide) i)
  show Ideal.div (shapeCast Col _ _ (ix2 i 0) * (Ideal.ofBits .f32 0xBF000000#32 * Ideal.div (hScale x (ix2 i 0)) (hMean x (ix2 i 0))))
    (Ideal.ofBits .f32 0x44800000#32) = _
  rw [h, hScale_apply, hMean_apply, c1024, cNegHalf]

theorem hGain_apply (x u : FVec Ideal Mat .f32) (a : Fin 1) (j : Fin 1024) : hGain x u (ix2 a j)
    = ∑ i, x (ix2 i j) * Ideal.rsqrt (meanSq 1024 (rowOf x i)) * u (ix2 i j) := by
  refine (castRow _ _ a j).trans ((hsumRows _ _ _ (by decide) j).trans (Finset.sum_congr rfl fun i _ => ?_))
  show x (ix2 i j) * hSpread (hScale x) (ix2 i j) * u (ix2 i j) = _
  rw [hSpread_apply, hScale_apply]

/-- The references' gradient of the rows in the kernels' form: rows and cotangents are reals, what is added to may be anything. -/
theorem hBack_apply {x a : FVec Ideal Mat .f32} (hx : ∀ i, IsReal (x i)) (ha : ∀ i, IsReal (a i)) (d : FVec Ideal Mat .f32) (D : EReal)
    (i : Fin 4096) (j : Fin 1024) (hd : d (ix2 i j) = D + a (ix2 i j) * hScale x (ix2 i 0)) : hBack x a d (ix2 i j)
    = D + hScale x (ix2 i 0) * (a (ix2 i j) - x (ix2 i j) * hScale x (ix2 i 0)
        * Ideal.div (∑ k, a (ix2 i k) * (x (ix2 i k) * hScale x (ix2 i 0))) ((1024 : ℝ) : EReal)) := by
  show d (ix2 i j) + x (ix2 i j) * hDown x a (ix2 i j) + hDown x a (ix2 i j) * x (ix2 i j) = _
  rw [hDown_apply, hd, hScale_apply]
  exact (rms_row (by norm_num : (0 : ℝ) < 1024) (x := rowOf x i) (a := rowOf a i) (fun k => hx _) (fun k => ha _) D j).symm

/-- The scale of a row of reals is a real. -/
theorem hScale_real {x : FVec Ideal Mat .f32} (hx : ∀ i, IsReal (x i)) (i : Fin 4096) : IsReal (hScale x (ix2 i 0)) := by
  rw [hScale_apply]
  exact IsReal.scale (by norm_num) fun k => hx _

/-- The normed rows. -/
def hNorm (x : FVec Ideal Mat .f32) (g : FVec Ideal Rw .f32) : FVec Ideal Mat .f32 :=
  mulf (mulf x (hSpread (hScale x))) (broadcastInDim Mat ![0, 1] (by decide : Rw.BroadcastsInDim Mat ![0, 1]) g)

theorem hNorm_apply (x : FVec Ideal Mat .f32) (g : FVec Ideal Rw .f32) (i : Fin 4096) (j : Fin 1024) :
    hNorm x g (ix2 i j) = x (ix2 i j) * hScale x (ix2 i 0) * g (ix2 0 j) :=
  congrArg₂ (· * ·) (congrArg (x (ix2 i j) * ·) (hSpread_apply _ _ _)) (hbRow _ _ i j)

theorem hNorm_real {x : FVec Ideal Mat .f32} {g : FVec Ideal Rw .f32} (hx : ∀ i, IsReal (x i)) (hg : ∀ i, IsReal (g i)) (i : Fin 4096) (j : Fin 1024) :
    IsReal (hNorm x g (ix2 i j)) := by
  rw [hNorm_apply]
  exact ((hx _).mul (hScale_real hx i)).mul (hg _)

variable {M : ℕ}

/-- A kernel's gradient of a tile of rows. -/
theorem kBack_apply (a xh d rb : FVec Ideal ⟨2, ![M, 1024]⟩ .f32) (w : BitVec FTy.f32.bits) (h1 : (⟨2, ![M, 1024]⟩ : Shape).Reduces [1] ⟨1, ![M]⟩)
    (h2 : FKind.Formats .f32) (h3 : w = FKind.add.neutral .f32 h2) (h4 : (⟨1, ![M]⟩ : Shape).ShapeCasts ⟨2, ![M, 1]⟩)
    (h5 : (⟨2, ![M, 1]⟩ : Shape).Broadcasts ⟨2, ![M, 1024]⟩) (i : Fin M) (j : Fin 1024) :
    addf d (mulf rb (subf a (mulf xh (broadcastTo ⟨2, ![M, 1024]⟩ (divf (shapeCast ⟨2, ![M, 1]⟩ (multiReduction .add [1] ⟨1, ![M]⟩ (mulf a xh) w h1 h2 h3) h4)
      (broadcast ⟨2, ![M, 1]⟩ (Scalar.ofBits .f32 0x44800000#32))) h5)))) (ix2 i j)
      = d (ix2 i j) + rb (ix2 i j) * (a (ix2 i j) - xh (ix2 i j) * Ideal.div (∑ k, a (ix2 i k) * xh (ix2 i k)) ((1024 : ℝ) : EReal)) := by
  show d (ix2 i j) + rb (ix2 i j) * (a (ix2 i j) - xh (ix2 i j) * broadcastTo ⟨2, ![M, 1024]⟩ _ h5 (ix2 i j)) = _
  rw [bcCol]
  show d (ix2 i j) + rb (ix2 i j) * (a (ix2 i j) - xh (ix2 i j) * Ideal.div (shapeCast ⟨2, ![M, 1]⟩ _ h4 (ix2 i 0)) (Ideal.ofBits .f32 0x44800000#32)) = _
  rw [castCol, sumCols, c1024]
  rfl

end Cert.Kit
-- ==== Proof.Oi.lean ====
/- The gradient of the input projection and its norm, of the recurrence's layer: the kernel's results read at an index, and the reference's. -/
module

public import proofs.«01_k».proof.Proof.Kit
public import proofs.«01_k».proof.Proof.Rms
public import proofs.«01_k».proof.Proof.Gen.KernelOiIdeal.Value
public import proofs.«01_k».proof.Proof.Gen.ReferenceOiIdeal.Run
public import proofs.«01_k».proof.Proof.Gen.ReferenceOiIdeal.Read
public import Idealize.ShloMosaic.Lib.StableHlo.Run

@[expose] public section

set_option maxRecDepth 16384

noncomputable section

open Idealize.ShloMosaic Idealize.ShloMosaic.TcCoe Idealize.SL.Sem Idealize.ShloMosaic.ValueIdx Cert.Kit

namespace Cert.ReferenceOiIdeal.Hand

open Cert.ReferenceOiIdeal Cert.ReferenceOiIdeal.Read

/-- The reference's run, its results named as the reading's stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = val_main_v36 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_v37) = val_main_v37 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_v19) = val_main_v19 (F := Ideal) (m ((c.tc : Thread nD τ).loc main_arg0))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (val_main_v36_eq m c), (h c).2.1.trans (val_main_v37_eq m c),
    (h c).2.2.1.trans (val_main_v19_eq ..), (h c).2.2.2⟩) (Cert.ReferenceOiIdeal.Value.run m ρ)

variable (x0 : FVec Ideal S4096x1024 .f32) (x1 : FVec Ideal S1x1024 .f32) (x2 : FVec Ideal S1024x512 .f32) (x3 : FVec Ideal S4096x512 .f32)
  (x4 : FVec Ideal S4096x1024 .f32)

/-- The cotangent of the normed rows: through the weight. -/
def up : FVec Ideal S4096x1024 .f32 := val_main_v16 (F := Ideal) x2 x3

theorem v36_eq : val_main_v36 (F := Ideal) x0 x1 x2 x3 x4
    = hBack x0 (hUp x1 (up x2 x3)) (addf x4 (mulf (hUp x1 (up x2 x3)) (hSpread (hScale x0)))) := rfl

theorem v19_eq : val_main_v19 (F := Ideal) x0 x2 x3 = hGain x0 (up x2 x3) := rfl

theorem up_apply (i : Fin 4096) (j : Fin 1024) : up x2 x3 (ix2 i j) = ∑ k : Fin 512, x3 (ix2 i k) * x2 (ix2 j k) := by
  unfold up
  rw [val_main_v16_apply]
  refine Finset.sum_congr rfl fun k _ => ?_
  rw [ixEq (i := lidx_main_v16 _ _) (a := i) (b := k) rfl rfl, ixEq (i := ridx_main_v16 _ _) (a := j) (b := k) rfl rfl]

end Cert.ReferenceOiIdeal.Hand

namespace Cert.KernelOiIdeal.Hand

open Cert.KernelOiIdeal Cert.KernelOiIdeal.Gen Cert.KernelOiIdeal.Value Cert.ReferenceOiIdeal.Hand

variable (m : (ℓ : Loc nD τ sig) → Buf (Elt Ideal) ℓ) (ρ : Dev nD → PrngReg)

/-- What a point of case A leaves in the outputs. -/
theorem outs_A (c : Dev nD) (t : Fin cfg0.N) (h0 : t.val % 8 = 0) :
    outsAt0 m c t.val t.isLt = (k0_pay5 (F := Ideal) (iblk m c 0 t) (iblk m c 1 t) (iblk m c 2 t) (iblk m c 3 t) (iblk m c 4 t) (iblk m c 5 t),
      k0_pay7 (F := Ideal) (iblk m c 0 t) (iblk m c 1 t) (iblk m c 2 t) (iblk m c 3 t) (iblk m c 4 t) (iblk m c 5 t),
      k0_pay1 (F := Ideal) (k0_pay6 (F := Ideal) (iblk m c 0 t) (iblk m c 1 t) (iblk m c 2 t) (iblk m c 4 t)) (k0_pay8 (F := Ideal))) := by
  rw [outsAt0_A m c t h0]
  refine Prod.ext ?_ (Prod.ext ?_ ?_)
  · dsimp only
    unfold out0_A_6
    rw [View.read_writes_eq_canon _ _ _ (fun _ => cover0_A_6 ..)]
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread,
      View.ld_unit_zero (S := S512x512) hz2, View.ld_unit_zero (S := S1024x512) hz2, View.ld_unit_zero (S := S512x1024) hz2, View.ld_unit_zero (S := S512x1) hz2, View.ld_unit_zero (S := S1x1024) hz2]
  · dsimp only
    unfold out0_A_7
    rw [View.read_writes_eq_canon _ _ _ (fun _ => cover0_A_7 ..)]
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread,
      View.ld_unit_zero (S := S512x512) hz2, View.ld_unit_zero (S := S1024x512) hz2, View.ld_unit_zero (S := S512x1024) hz2, View.ld_unit_zero (S := S512x1) hz2, View.ld_unit_zero (S := S1x1024) hz2]
  · dsimp only
    unfold out0_A_8
    rw [View.read_writes_eq_canon _ _ _ (fun _ => cover0_A_8 ..)]
    unfold kernelRun0_A
    dsimp only
    sl_unfold_words
    rw [View.canon_cons_unit_zero (S := S1x1024) hz2, View.readCov_unit_zero (S := S1x1024) _ hz2]
    simp only [View.readAt_eq_ld, (hs0_0 t).read_unread, (hs0_1 t).read_unread, (hs0_2 t).read_unread, (hs0_3 t).read_unread, (hs0_4 t).read_unread, (hs0_5 t).read_unread,
      View.ld_unit_zero (S := S512x512) hz2, View.ld_unit_zero (S := S1024x512) hz2, View.ld_unit_zero (S := S512x1024) hz2, View.ld_unit_zero (S := S512x1) hz2, View.ld_unit_zero (S := S1x1024) hz2]

/-- What a point of case B leaves in the outputs. -/
theorem outs_B (c : Dev nD) (t : Fin cfg0.N) (h0 : ¬t.val % 8 = 0) :
    outsAt0 m c t.val t.isLt = (k0_pay5 (F := Ideal) (iblk m c 0 t) (iblk m c 1 t) (iblk m c 2 t) (iblk m c 3 t) (iblk m c 4 t) (iblk m c 5 t),
      k0_pay7 (F := Ideal) (iblk m c 0 t) (iblk m c 1 t) (iblk m c 2 t) (iblk m c 3 t) (iblk m c 4 t) (iblk m c 5 t),
      k0_pay1 (F := Ideal) (k0_pay6 (F := Ideal) (iblk m c 0 t) (iblk m c 1 t) (iblk m c 2 t) (iblk m c 4 t)) (outsAt0 m c (t.val - 1) (by have := t.isLt; omega)).2.2) := by
  rw [outsAt0_B m c t h0]
  refine Prod.ext ?_ (Prod.ext ?_ ?_)
  · dsimp only
    unfold out0_B_6
    rw [View.read_writes_eq_canon _ _ _ (fun _ => cover0_B_6 ..)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread,
      View.ld_unit_zero (S := S512x512) hz2, View.ld_unit_zero (S := S1024x512) hz2, View.ld_unit_zero (S := S512x1024) hz2, View.ld_unit_zero (S := S512x1) hz2, View.ld_unit_zero (S := S1x1024) hz2]
  · dsimp only
    unfold out0_B_7
    rw [View.read_writes_eq_canon _ _ _ (fun _ => cover0_B_7 ..)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread,
      View.ld_unit_zero (S := S512x512) hz2, View.ld_unit_zero (S := S1024x512) hz2, View.ld_unit_zero (S := S512x1024) hz2, View.ld_unit_zero (S := S512x1) hz2, View.ld_unit_zero (S := S1x1024) hz2]
  · dsimp only
    unfold out0_B_8
    rw [View.read_writes_eq_canon _ _ _ (fun _ => cover0_B_8 ..)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_8 t).read_unread,
      View.ld_unit_zero (S := S512x512) hz2, View.ld_unit_zero (S := S1024x512) hz2, View.ld_unit_zero (S := S512x1024) hz2, View.ld_unit_zero (S := S512x1) hz2, View.ld_unit_zero (S := S1x1024) hz2]

theorem index0 : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = 0 ∧ win0_5.index t 1 = 0)
    ∧ (win0_6.index t 0 = t.val ∧ win0_6.index t 1 = 0) ∧ (win0_7.index t 0 = t.val ∧ win0_7.index t 1 = 0)
    ∧ win0_8.index t 0 = 0 ∧ win0_8.index t 1 = 0 :=
  (by decide +kernel : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = 0 ∧ win0_5.index t 1 = 0)
    ∧ (win0_6.index t 0 = t.val ∧ win0_6.index t 1 = 0) ∧ (win0_7.index t 0 = t.val ∧ win0_7.index t 1 = 0)
    ∧ win0_8.index t 0 = 0 ∧ win0_8.index t 1 = 0)

theorem rows : 4096 = cfg0.N * 512 := by
  show 4096 = grid0.N * 512
  rw [Gen.N_0]

section
variable (c : Dev nD)
/-- The rows of the layer's input. -/
abbrev X : FVec Ideal S4096x1024 .f32 := m ((c : Thread nD τ).loc main_arg0)
/-- The norm's gain. -/
abbrev G : FVec Ideal S1x1024 .f32 := m ((c : Thread nD τ).loc main_arg1)
/-- The projection. -/
abbrev W : FVec Ideal S1024x512 .f32 := m ((c : Thread nD τ).loc main_arg2)
/-- The cotangent. -/
abbrev U : FVec Ideal S4096x512 .f32 := m ((c : Thread nD τ).loc main_arg3)
/-- What is added to. -/
abbrev D : FVec Ideal S4096x1024 .f32 := m ((c : Thread nD τ).loc main_arg4)
end

theorem V_v7 (c : Dev nD) : (V m c main_v7 : FVec Ideal S4096x1 .f32) = hScale (X m c) := by
  unfold V
  after_results
  rfl

theorem V_v8 (c : Dev nD) : (V m c main_v8 : S4096x512.Idx → EReal) = U m c := by
  unfold V
  after_results
  rfl

theorem V_v9 (c : Dev nD) : (V m c main_v9 : S1024x512.Idx → EReal) = W m c := by
  unfold V
  after_results
  rfl

theorem iblk0 (c : Dev nD) (t : Fin cfg0.N) (a : Fin 512) (b : Fin 512) : (iblk m c 0 t : S512x512.Idx → EReal) (ix2 a b) = U m c (ix2 (row t a rows) b) := by
  unfold iblk
  rw [View.read_apply]
  refine Eq.trans ?_ (congrFun (V_v8 m c) _)
  have h := (index0 t).1
  refine congrArg (V m c main_v8) (ixEq ?_ ?_)
  · show win0_0.index t 0 * 512 + 1 * a.val = t.val * 512 + a.val
    rw [h.1]; omega
  · show win0_0.index t 1 * 512 + 1 * b.val = b.val
    rw [h.2]; omega

theorem iblk1 (c : Dev nD) (t : Fin cfg0.N) (a : Fin 1024) (b : Fin 512) : (iblk m c 1 t : S1024x512.Idx → EReal) (ix2 a b) = W m c (ix2 a b) := by
  unfold iblk
  rw [View.read_apply]
  refine Eq.trans ?_ (congrFun (V_v9 m c) _)
  have h := (index0 t).2.1
  refine congrArg (V m c main_v9) (ixEq ?_ ?_)
  · show win0_1.index t 0 * 1024 + 1 * a.val = a.val
    rw [h.1]; omega
  · show win0_1.index t 1 * 512 + 1 * b.val = b.val
    rw [h.2]; omega

theorem iblk2 (c : Dev nD) (t : Fin cfg0.N) (a : Fin 512) (b : Fin 1024) : (iblk m c 2 t : S512x1024.Idx → EReal) (ix2 a b) = X m c (ix2 (row t a rows) b) := by
  unfold iblk
  rw [View.read_apply]
  refine Eq.trans ?_ (congrFun (V_main_arg0 m c) _)
  have h := (index0 t).2.2.1
  refine congrArg (V m c main_arg0) (ixEq ?_ ?_)
  · show win0_2.index t 0 * 512 + 1 * a.val = t.val * 512 + a.val
    rw [h.1]; omega
  · show win0_2.index t 1 * 1024 + 1 * b.val = b.val
    rw [h.2]; omega

theorem iblk3 (c : Dev nD) (t : Fin cfg0.N) (a : Fin 512) (b : Fin 1024) : (iblk m c 3 t : S512x1024.Idx → EReal) (ix2 a b) = D m c (ix2 (row t a rows) b) := by
  unfold iblk
  rw [View.read_apply]
  refine Eq.trans ?_ (congrFun (V_main_arg4 m c) _)
  have h := (index0 t).2.2.2.1
  refine congrArg (V m c main_arg4) (ixEq ?_ ?_)
  · show win0_3.index t 0 * 512 + 1 * a.val = t.val * 512 + a.val
    rw [h.1]; omega
  · show win0_3.index t 1 * 1024 + 1 * b.val = b.val
    rw [h.2]; omega

theorem iblk4 (c : Dev nD) (t : Fin cfg0.N) (a : Fin 512) (b : Fin 1) : (iblk m c 4 t : S512x1.Idx → EReal) (ix2 a b) = hScale (X m c) (ix2 (row t a rows) b) := by
  unfold iblk
  rw [View.read_apply]
  refine Eq.trans ?_ (congrFun (V_v7 m c) _)
  have h := (index0 t).2.2.2.2.1
  refine congrArg (V m c main_v7) (ixEq ?_ ?_)
  · show win0_4.index t 0 * 512 + 1 * a.val = t.val * 512 + a.val
    rw [h.1]; omega
  · show win0_4.index t 1 * 1 + 1 * b.val = b.val
    rw [h.2]; omega

theorem iblk5 (c : Dev nD) (t : Fin cfg0.N) (a : Fin 1) (b : Fin 1024) : (iblk m c 5 t : S1x1024.Idx → EReal) (ix2 a b) = G m c (ix2 a b) := by
  unfold iblk
  rw [View.read_apply]
  refine Eq.trans ?_ (congrFun (V_main_arg1 m c) _)
  have h := (index0 t).2.2.2.2.2.1
  refine congrArg (V m c main_arg1) (ixEq ?_ ?_)
  · show win0_5.index t 0 * 1 + 1 * a.val = a.val
    rw [h.1]; omega
  · show win0_5.index t 1 * 1024 + 1 * b.val = b.val
    rw [h.2]; omega

theorem pay2_apply (v0 : Vec Ideal S512x512 .bf16) (v2 : Vec Ideal S1024x512 .bf16) (a : Fin 512) (j : Fin 1024) :
    k0_pay2 (F := Ideal) v0 v2 (ix2 a j) = ∑ k : Fin 512, v0 (ix2 a k) * v2 (ix2 j k) := by
  unfold k0_pay2
  rw [shapeCast_self, shapeCast_self]
  exact mm11 (φ₁ := .bf16) (φ₂ := .bf16) _ none _ _ a j

theorem pay4_apply (v5 : Vec Ideal S512x1024 .f32) (v7 : Vec Ideal S512x1 .f32) (a : Fin 512) (j : Fin 1024) :
    k0_pay4 (F := Ideal) v5 v7 (ix2 a j) = v5 (ix2 a j) * v7 (ix2 a 0) := by
  unfold k0_pay4 k0_pay3
  rw [shapeCast_self]
  exact congrArg (v5 (ix2 a j) * ·) (bcCol _ _ a j)

theorem pay5_apply (v0 : Vec Ideal S512x512 .bf16) (v2 : Vec Ideal S1024x512 .bf16) (v5 v6 : Vec Ideal S512x1024 .f32) (v7 : Vec Ideal S512x1 .f32)
    (v9 : Vec Ideal S1x1024 .f32) (a : Fin 512) (j : Fin 1024) : k0_pay5 (F := Ideal) v0 v2 v5 v6 v7 v9 (ix2 a j)
      = v6 (ix2 a j) + v7 (ix2 a 0) * (k0_pay2 (F := Ideal) v0 v2 (ix2 a j) * v9 (ix2 0 j) - v5 (ix2 a j) * v7 (ix2 a 0)
        * Ideal.div (∑ k, k0_pay2 (F := Ideal) v0 v2 (ix2 a k) * v9 (ix2 0 k) * (v5 (ix2 a k) * v7 (ix2 a 0))) ((1024 : ℝ) : EReal)) := by
  unfold k0_pay5
  refine (kBack_apply _ _ v6 _ _ _ _ _ _ _ a j).trans ?_
  have hg (k : Fin 1024) : mulf (k0_pay2 (F := Ideal) v0 v2) (broadcastTo S512x1024 v9 broadcasts_S1x1024_S512x1024) (ix2 a k)
      = k0_pay2 (F := Ideal) v0 v2 (ix2 a k) * v9 (ix2 0 k) := congrArg (k0_pay2 (F := Ideal) v0 v2 (ix2 a k) * ·) (bcRow _ _ a k)
  rw [hg]
  simp only [hg, pay4_apply]
  unfold k0_pay3
  rw [shapeCast_self, bcCol]

theorem pay6_apply (v0 : Vec Ideal S512x512 .bf16) (v2 : Vec Ideal S1024x512 .bf16) (v5 : Vec Ideal S512x1024 .f32) (v7 : Vec Ideal S512x1 .f32)
    (a : Fin 1) (j : Fin 1024) : k0_pay6 (F := Ideal) v0 v2 v5 v7 (ix2 a j)
      = ∑ k : Fin 512, k0_pay2 (F := Ideal) v0 v2 (ix2 k j) * (v5 (ix2 k j) * v7 (ix2 k 0)) := by
  unfold k0_pay6
  refine (castRow _ _ a j).trans ((sumRows _ _ _ _ _ j).trans (Finset.sum_congr rfl fun k _ => ?_))
  exact congrArg (k0_pay2 (F := Ideal) v0 v2 (ix2 k j) * ·) (pay4_apply v5 v7 k j)

/-- A tile of the cotangent of the normed rows is the reference's. -/
theorem pay2_iblk (c : Dev nD) (t : Fin cfg0.N) (a : Fin 512) (j : Fin 1024) :
    k0_pay2 (F := Ideal) (iblk m c 0 t) (iblk m c 1 t) (ix2 a j) = up (W m c) (U m c) (ix2 (row t a rows) j) := by
  refine (pay2_apply _ _ a j).trans (Eq.trans ?_ (up_apply _ _ (row t a rows) j).symm)
  exact Finset.sum_congr rfl fun k _ => by rw [iblk0, iblk1]

/-- What the reference needs of its arguments: reals in the rows, the gain, and the cotangent of the normed rows. -/
structure Fin4 (c : Dev nD) : Prop where
  x : ∀ i, IsReal (X m c i)
  g : ∀ i, IsReal (G m c i)
  w : ∀ i, IsReal (W m c i)
  u : ∀ i, IsReal (U m c i)

variable {m} in
theorem Fin4.up {c : Dev nD} (h : Fin4 m c) (i : S4096x1024.Idx) : IsReal (hUp (G m c) (up (W m c) (U m c)) i) := by
  obtain ⟨a, b, rfl⟩ : ∃ (a : Fin 4096) (b : Fin 1024), i = ix2 a b := ⟨i 0, i 1, eq_ix2 i⟩
  rw [hUp_apply, up_apply]
  exact (IsReal.sum _ fun k => (h.u _).mul (h.w _)).mul (h.g _)

/-- A tile of the gradient of the rows is the reference's. -/
theorem pay5_iblk (c : Dev nD) (hp : Fin4 m c) (t : Fin cfg0.N) (a : Fin 512) (j : Fin 1024) :
    k0_pay5 (F := Ideal) (iblk m c 0 t) (iblk m c 1 t) (iblk m c 2 t) (iblk m c 3 t) (iblk m c 4 t) (iblk m c 5 t) (ix2 a j)
      = Cert.ReferenceOiIdeal.Read.val_main_v36 (F := Ideal) (X m c) (G m c) (W m c) (U m c) (D m c) (ix2 (row t a rows) j) := by
  refine (pay5_apply _ _ _ _ _ _ a j).trans ?_
  rw [v36_eq]
  refine Eq.trans ?_ (hBack_apply hp.x hp.up _ (D m c (ix2 (row t a rows) j)) (row t a rows) j
    (congrArg (D m c (ix2 (row t a rows) j) + hUp (G m c) (up (W m c) (U m c)) (ix2 (row t a rows) j) * ·) (hSpread_apply _ _ _))).symm
  simp only [pay2_iblk, iblk2, iblk3, iblk4, iblk5, hUp_apply]

/-- A tile's part of the gradient of the gain. -/
theorem pay6_iblk (c : Dev nD) (t : Fin cfg0.N) (a : Fin 1) (j : Fin 1024) :
    k0_pay6 (F := Ideal) (iblk m c 0 t) (iblk m c 1 t) (iblk m c 2 t) (iblk m c 4 t) (ix2 a j)
      = ∑ k : Fin 512, X m c (ix2 (row t k rows) j) * hScale (X m c) (ix2 (row t k rows) 0) * up (W m c) (U m c) (ix2 (row t k rows) j) := by
  refine (pay6_apply _ _ _ _ a j).trans (Finset.sum_congr rfl fun k _ => ?_)
  rw [pay2_iblk, iblk2, iblk4, mul_comm]

theorem result6 (c : Dev nD) (hp : Fin4 m c) (i : Fin 4096) (j : Fin 1024) : ((dats m 0 c).arrAt 6 cfg0.N : S4096x1024.Idx → EReal) (ix2 i j)
    = Cert.ReferenceOiIdeal.Read.val_main_v36 (F := Ideal) (X m c) (G m c) (W m c) (U m c) (D m c) (ix2 i j) := by
  obtain ⟨t, a, rfl⟩ := row_surj rows i
  have hb := congrFun (blocks6 m c t (flush0_6 t)) (ix2 a j)
  rw [View.read_apply, flushed6] at hb
  have h := (index0 t).2.2.2.2.2.2.1
  have he : ((cfg0.win 6).blk t).view.emb (ix2 a j) = (ix2 (row t a rows) j : S4096x1024.Idx) := by
    refine ixEq ?_ ?_
    · show win0_6.index t 0 * 512 + 1 * a.val = t.val * 512 + a.val
      rw [h.1]; omega
    · show win0_6.index t 1 * 1024 + 1 * j.val = j.val
      rw [h.2]; omega
  rw [he] at hb
  refine hb.trans (Eq.trans (congrFun (?_ : (outsAt0 m c t.val t.isLt).1 = _) (ix2 a j)) (pay5_iblk m c hp t a j))
  by_cases h0 : t.val % 8 = 0
  · rw [outs_A m c t h0]
  · rw [outs_B m c t h0]

theorem result7 (c : Dev nD) (hp : Fin4 m c) (i : Fin 4096) (j : Fin 1024) : ((dats m 0 c).arrAt 7 cfg0.N : S4096x1024.Idx → EReal) (ix2 i j)
    = Cert.ReferenceOiIdeal.Read.val_main_v37 (F := Ideal) (X m c) (G m c) (W m c) (U m c) (D m c) (ix2 i j) := by
  obtain ⟨t, a, rfl⟩ := row_surj rows i
  have hb := congrFun (blocks7 m c t (flush0_7 t)) (ix2 a j)
  rw [View.read_apply, flushed7] at hb
  have h := (index0 t).2.2.2.2.2.2.2.1
  have he : ((cfg0.win 7).blk t).view.emb (ix2 a j) = (ix2 (row t a rows) j : S4096x1024.Idx) := by
    refine ixEq ?_ ?_
    · show win0_7.index t 0 * 512 + 1 * a.val = t.val * 512 + a.val
      rw [h.1]; omega
    · show win0_7.index t 1 * 1024 + 1 * j.val = j.val
      rw [h.2]; omega
  rw [he] at hb
  refine hb.trans (Eq.trans (congrFun (?_ : (outsAt0 m c t.val t.isLt).2.1 = _) (ix2 a j)) (pay5_iblk m c hp t a j))
  by_cases h0 : t.val % 8 = 0
  · rw [outs_A m c t h0]; rfl
  · rw [outs_B m c t h0]; rfl

/-- The running total of the gain's gradient after a point. -/
theorem outs_total (c : Dev nD) (a : Fin 1) (j : Fin 1024) (n : ℕ) (hn : n < cfg0.N) : (outsAt0 m c n hn).2.2 (ix2 a j)
    = ∑ k : Fin (n + 1), k0_pay6 (F := Ideal) (iblk m c 0 ⟨k, by omega⟩) (iblk m c 1 ⟨k, by omega⟩) (iblk m c 2 ⟨k, by omega⟩) (iblk m c 4 ⟨k, by omega⟩) (ix2 a j) := by
  have pay1 (v : FVec Ideal S1x1024 .f32) (w : Vec Ideal S1x1024 .f32) : k0_pay1 (F := Ideal) v w (ix2 a j) = w (ix2 a j) + v (ix2 a j) := by
    unfold k0_pay1
    rw [shapeCast_self]
    rfl
  refine total (fun n hn => (outsAt0 m c n hn).2.2 (ix2 a j)) (fun t => k0_pay6 (F := Ideal) (iblk m c 0 t) (iblk m c 1 t) (iblk m c 2 t) (iblk m c 4 t) (ix2 a j))
    (fun h => ?_) (fun n h => ?_) n hn
  · have := outs_A m c ⟨0, h⟩ rfl
    show (outsAt0 m c (⟨0, h⟩ : Fin cfg0.N).val h).2.2 (ix2 a j) = _
    rw [this]
    refine (pay1 _ _).trans ?_
    show Ideal.ofBits .f32 0x00000000#32 + _ = _
    rw [Ideal.ofBits_zero_f32, zero_add]
  · have hN : cfg0.N = 8 := Gen.N_0
    have := outs_B m c ⟨n + 1, h⟩ (by show ¬(n + 1) % 8 = 0; omega)
    show (outsAt0 m c (⟨n + 1, h⟩ : Fin cfg0.N).val h).2.2 (ix2 a j) = _
    rw [this]
    exact pay1 _ _

/-- The one write-back of the gain's gradient, after the last point. -/
theorem final8 (c : Dev nD) (hl : 7 < cfg0.N) : (dats m 0 c).arrAt 8 cfg0.N = (outsAt0 m c 7 hl).2.2 := by
  have hN : cfg0.N = 8 := Gen.N_0
  have hz (t : Fin cfg0.N) : (fun a => win0_8.index t a * main_v10_2.ty.shape.size a) = fun _ => 0 := funext fun a => by
    have h := (index0 t).2.2.2.2.2.2.2.2
    match a with
    | ⟨0, _⟩ => show win0_8.index t 0 * _ = 0; rw [h.1, Nat.zero_mul]
    | ⟨1, _⟩ => show win0_8.index t 1 * _ = 0; rw [h.2, Nat.zero_mul]
  refine (dats m 0 c).arrAt_eq_of_cover 8 (outsAt0 m c 7 hl).2.2 (fun t hf => ?_) fun i => ⟨⟨7, hl⟩, (flush0_8 _).mpr rfl, ?_⟩
  · obtain rfl : t = ⟨7, hl⟩ := Fin.ext (by
      have h7 := (flush0_8 t).mp hf
      have ht : t.val < 8 := lt_of_lt_of_eq t.isLt hN
      show t.val = 7
      omega)
    rw [flushed8]
    exact (Memref.read_access_unit_zero (Elt Ideal) main_v10_2 (hz _) (fun a => by rw [congrFun (hz _) a]; simp) _).symm
  · show i ∈ ((View.whole main_v10_2).slice (win0_8.rect ⟨7, hl⟩)).set
    rw [View.set_slice_whole, Rect.mem_set_unit]
    intro a
    have h := (index0 ⟨7, hl⟩).2.2.2.2.2.2.2.2
    match a with
    | ⟨0, _⟩ =>
      show win0_8.index ⟨7, hl⟩ 0 * 1 ≤ (i 0 : Nat) ∧ (i 0 : Nat) < win0_8.index ⟨7, hl⟩ 0 * 1 + 1
      have : (i 0 : Nat) < 1 := (i 0).isLt
      rw [h.1]; omega
    | ⟨1, _⟩ =>
      show win0_8.index ⟨7, hl⟩ 1 * 1024 ≤ (i 1 : Nat) ∧ (i 1 : Nat) < win0_8.index ⟨7, hl⟩ 1 * 1024 + 1024
      have : (i 1 : Nat) < 1024 := (i 1).isLt
      rw [h.2]; omega

theorem result8 (c : Dev nD) (a : Fin 1) (j : Fin 1024) : ((dats m 0 c).arrAt 8 cfg0.N : S1x1024.Idx → EReal) (ix2 a j)
    = Cert.ReferenceOiIdeal.Read.val_main_v19 (F := Ideal) (X m c) (W m c) (U m c) (ix2 a j) := by
  have hN : cfg0.N = 7 + 1 := Gen.N_0
  rw [final8 m c (by omega)]
  refine (outs_total m c a j 7 (by omega)).trans (Eq.trans ?_ (congrFun (v19_eq _ _ _) (ix2 a j)).symm)
  rw [hGain_apply, sum_row rows]
  refine (sum_cast hN (fun t : Fin cfg0.N => _) _ fun k => ?_).symm
  rw [pay6_iblk]
  exact Finset.sum_congr rfl fun k _ => by rw [hScale_apply]

end Cert.KernelOiIdeal.Hand
-- ==== Proof.Finite.lean ====
/- What a precondition "every entry is finite" says: each entry of each array is a real. -/
module

public import proofs.«01_k».proof.Proof.Real
public import Idealize.ShloMosaic.Lib.StableHlo

@[expose] public section

noncomputable section

open Idealize.ShloMosaic Idealize.ShloMosaic.ValueIdx

namespace Cert.Kit

/-- A reshaped array of ones is one of ones. -/
theorem ones_cast {s t : Shape} {x : s.Idx → BitVec 1} {h : s.ShapeCasts t} (H : shapeCast t x h = fun _ => 1#1) : x = fun _ => 1#1 := by
  funext i
  have := congrFun H ((Shape.reshapeEquiv h).symm i)
  unfold shapeCast at this
  rwa [Equiv.apply_symm_apply] at this

/-- Both pieces of an array of ones are. -/
theorem ones_cat {A B C : ℕ} {x : (⟨1, ![A]⟩ : Shape).Idx → BitVec 1} {y : (⟨1, ![B]⟩ : Shape).Idx → BitVec 1}
    {h : Shape.Concatenates [⟨1, ![A]⟩, ⟨1, ![B]⟩] ⟨1, ![C]⟩ 0}
    (H : concatenate ⟨1, ![C]⟩ 0 [⟨⟨1, ![A]⟩, x⟩, ⟨⟨1, ![B]⟩, y⟩] h = fun _ => 1#1) : (x = fun _ => 1#1) ∧ y = fun _ => 1#1 := by
  have hC : A + B = C := by
    have := h.2.2
    simpa using this
  constructor
  · funext i
    have hi : (i 0).val < A := (i 0).isLt
    rw [← concatenate_pair_apply_left 0 x y h (ix1 ⟨(i 0).val, by omega⟩) rfl i fun b => match b with | ⟨0, _⟩ => rfl, H]
  · funext i
    have hi : (i 0).val < B := (i 0).isLt
    rw [← concatenate_pair_apply_right 0 x y h (ix1 ⟨A + (i 0).val, by omega⟩) rfl rfl i
      (fun b hb => match b, hb with | ⟨0, _⟩, hb => absurd rfl hb) (by show (i 0).val + A = A + (i 0).val; omega), H]

theorem real_of_abs_lt {x : EReal} (h : max x (-x) < ⊤) : IsReal x := by
  induction x with
  | bot => simp at h
  | coe r => exact ⟨r, rfl⟩
  | top => simp at h

/-- An array whose every magnitude is below infinity is one of reals. -/
theorem real_of_ones {S S₀ : Shape} {x : FVec Ideal S .f32} {b : Fin S₀.rank → Fin S.rank} {h : S₀.BroadcastsInDim S b}
    (H : cmpf .olt (Host.absf x) (broadcastInDim S b h (constant S₀ .f32 0x7F800000#32)) = fun _ => 1#1) (i : S.Idx) : IsReal (x i) := by
  have h1 : Ideal.cmp .olt (max (x i) (-(x i))) (Ideal.ofBits .f32 0x7F800000#32) = 1#1 := congrFun H i
  have h2 : Ideal.ofBits .f32 0x7F800000#32 = ⊤ := by simp [Ideal.ofBits, Ideal.ieee]
  rw [h2] at h1
  refine real_of_abs_lt ?_
  by_contra hc
  have h3 : Ideal.cmp .olt (max (x i) (-(x i))) ⊤ = BitVec.ofBool (decide (max (x i) (-(x i)) < ⊤)) := rfl
  rw [h3, decide_eq_false hc] at h1
  exact absurd h1 (by decide)

end Cert.Kit
-- ==== Proof.OiClaim.lean ====
/- The gradient of the recurrence layer's input projection and norm: the claim against the reference. -/
module

public import proofs.«01_k».proof.Defs
public import proofs.«01_k».proof.Proof.Gen.KernelOi
public import proofs.«01_k».proof.Proof.Oi
public import proofs.«01_k».proof.Proof.Gen.Pre_finite_oi
public import proofs.«01_k».proof.Proof.Finite

@[expose] public section

noncomputable section

open Idealize.ShloMosaic Idealize.ShloMosaic.TcCoe Idealize.SL.Sem Idealize.ShloMosaic.ValueIdx

namespace Cert.Hand

theorem frame_reference_Oi : Cert.quiescent_ReferenceOiIdeal := fun m ρ _ =>
  (θ_run Cert.ReferenceOiIdeal.defs _ _).mono (fun r h => ⟨fun c => (h c).2.2.2, sem_eq_zero_of_no_sems (by decide) r.2⟩)
    (Cert.ReferenceOiIdeal.Hand.run m ρ)

theorem frame_reference_Oi_pre_finite_oi : Cert.quiescent_ReferenceOiIdeal_pre_finite_oi := fun m ρ _ =>
  (θ_run Cert.ReferenceOiIdeal.defs _ _).mono (fun r h => ⟨fun c => (h c).2.2.2, sem_eq_zero_of_no_sems (by decide) r.2⟩)
    (Cert.ReferenceOiIdeal.Hand.run m ρ)

open Cert.KernelOiIdeal in
/-- The precondition, read: every entry of the arrays it names is a real. -/
theorem finite_Oi (m : (ℓ : Loc nD τ sig) → Buf (Elt Ideal) ℓ) (h : Cert.Pre_KernelOiIdeal_finite_oi m) (c : Dev nD) : Cert.KernelOiIdeal.Hand.Fin4 m c := by
  have H := h c
  unfold Cert.Pre_finite_oi.fn at H
  obtain ⟨H, h3⟩ := Cert.Kit.ones_cat H
  obtain ⟨H, h2⟩ := Cert.Kit.ones_cat H
  obtain ⟨H, h1⟩ := Cert.Kit.ones_cat H
  exact ⟨Cert.Kit.real_of_ones (Cert.Kit.ones_cast H), Cert.Kit.real_of_ones (Cert.Kit.ones_cast h1), Cert.Kit.real_of_ones (Cert.Kit.ones_cast h2), Cert.Kit.real_of_ones (Cert.Kit.ones_cast h3)⟩

open Cert.KernelOiIdeal in
theorem algebraic_Oi : Cert.algebraic_KernelOiIdeal_ReferenceOiIdeal_pre_finite_oi := by
  intro m g m' g' hp hargs
  let x0 (c : Dev nD) := m ((c.tc : Thread nD τ).loc main_arg0)
  let x1 (c : Dev nD) := m ((c.tc : Thread nD τ).loc main_arg1)
  let x2 (c : Dev nD) := m ((c.tc : Thread nD τ).loc main_arg2)
  let x3 (c : Dev nD) := m ((c.tc : Thread nD τ).loc main_arg3)
  let x4 (c : Dev nD) := m ((c.tc : Thread nD τ).loc main_arg4)
  refine ⟨fun c => Cert.ReferenceOiIdeal.Read.val_main_v36 (F := Ideal) (x0 c) (x1 c) (x2 c) (x3 c) (x4 c),
    fun c => Cert.ReferenceOiIdeal.Read.val_main_v37 (F := Ideal) (x0 c) (x1 c) (x2 c) (x3 c) (x4 c),
    fun c => Cert.ReferenceOiIdeal.Read.val_main_v19 (F := Ideal) (x0 c) (x2 c) (x3 c), ?_, ?_⟩
  · refine (θ_run defs _ _).mono (fun r h c => ⟨(h c).1.trans ?_, (h c).2.1.trans ?_, (h c).2.2.1.trans ?_, (h c).2.2.2⟩) (Value.run_blocks m g)
    · funext j
      obtain ⟨a, b, rfl⟩ : ∃ (a : Fin 4096) (b : Fin 1024), j = ix2 a b := ⟨j 0, j 1, eq_ix2 j⟩
      exact Hand.result6 m c (finite_Oi m hp c) a b
    · funext j
      obtain ⟨a, b, rfl⟩ : ∃ (a : Fin 4096) (b : Fin 1024), j = ix2 a b := ⟨j 0, j 1, eq_ix2 j⟩
      exact Hand.result7 m c (finite_Oi m hp c) a b
    · funext j
      obtain ⟨a, b, rfl⟩ : ∃ (a : Fin 1) (b : Fin 1024), j = ix2 a b := ⟨j 0, j 1, eq_ix2 j⟩
      exact Hand.result8 m c a b
  · refine (θ_run Cert.ReferenceOiIdeal.defs _ _).mono (fun r h c => ⟨(h c).1.trans ?_, (h c).2.1.trans ?_, (h c).2.2.1.trans ?_, (h c).2.2.2⟩)
      (Cert.ReferenceOiIdeal.Hand.run m' g')
    · rw [(hargs c).1, (hargs c).2.1, (hargs c).2.2.1, (hargs c).2.2.2.1, (hargs c).2.2.2.2]
    · rw [(hargs c).1, (hargs c).2.1, (hargs c).2.2.1, (hargs c).2.2.2.1, (hargs c).2.2.2.2]
    · rw [(hargs c).1, (hargs c).2.2.1, (hargs c).2.2.2.1]

end Cert.Hand
-- ==== Proof.Ei.lean ====
/- The gradient of the attention layer's input projection and its norm: the kernel's results read at an index, and the reference's. -/
module

public import proofs.«01_k».proof.Proof.Kit
public import proofs.«01_k».proof.Proof.Rms
public import proofs.«01_k».proof.Proof.Gen.KernelEiIdeal.Value
public import proofs.«01_k».proof.Proof.Gen.ReferenceEiIdeal.Run
public import proofs.«01_k».proof.Proof.Gen.ReferenceEiIdeal.Read
public import Idealize.ShloMosaic.Lib.StableHlo.Run

@[expose] public section

set_option maxRecDepth 16384

noncomputable section

open Idealize.ShloMosaic Idealize.ShloMosaic.TcCoe Idealize.SL.Sem Idealize.ShloMosaic.ValueIdx Cert.Kit

namespace Cert.ReferenceEiIdeal.Hand

open Cert.ReferenceEiIdeal Cert.ReferenceEiIdeal.Read

/-- The reference's run, its results named as the reading's stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = val_main_v36 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v37) = val_main_v37 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v19) = val_main_v19 (F := Ideal) (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (val_main_v36_eq m c), (h c).2.1.trans (val_main_v37_eq m c), (h c).2.2.1.trans (val_main_v19_eq ..),
    (h c).2.2.2⟩) (Cert.ReferenceEiIdeal.Value.run m ρ)

variable (x0 : FVec Ideal S4096x1024 .f32) (x1 : FVec Ideal S1x1024 .f32) (x2 : FVec Ideal S1024x2048 .f32) (x3 : FVec Ideal S4096x2048 .f32)
  (x4 : FVec Ideal S4096x1024 .f32)

/-- The cotangent of the normed rows: through the weight. -/
def up : FVec Ideal S4096x1024 .f32 := val_main_v16 (F := Ideal) x2 x3

theorem v36_eq : val_main_v36 (F := Ideal) x0 x1 x2 x3 x4
    = hBack x0 (hUp x1 (up x2 x3)) (addf x4 (mulf (hUp x1 (up x2 x3)) (hSpread (hScale x0)))) := rfl

theorem v19_eq : val_main_v19 (F := Ideal) x0 x2 x3 = hGain x0 (up x2 x3) := rfl

theorem up_apply (i : Fin 4096) (j : Fin 1024) : up x2 x3 (ix2 i j) = ∑ k : Fin 2048, x3 (ix2 i k) * x2 (ix2 j k) := by
  unfold up
  rw [val_main_v16_apply]
  refine Finset.sum_congr rfl fun k _ => ?_
  rw [ixEq (i := lidx_main_v16 _ _) (a := i) (b := k) rfl rfl, ixEq (i := ridx_main_v16 _ _) (a := j) (b := k) rfl rfl]

end Cert.ReferenceEiIdeal.Hand

namespace Cert.KernelEiIdeal.Hand

open Cert.KernelEiIdeal Cert.KernelEiIdeal.Gen Cert.KernelEiIdeal.Value Cert.ReferenceEiIdeal.Hand

variable (m : (ℓ : Loc nD τ sig) → Buf (Elt Ideal) ℓ) (ρ : Dev nD → PrngReg)

/-- What a point of case A leaves in the outputs. -/
theorem outs_A (c : Dev nD) (t : Fin cfg0.N) (h0 : t.val % 8 = 0) :
    outsAt0 m c t.val t.isLt = (k0_pay1 (F := Ideal) (iblk m c 7 t) (k0_pay6 (F := Ideal) (iblk m c 8 t)) (k0_pay8 (F := Ideal) (iblk m c 0 t) (iblk m c 1 t) (iblk m c 2 t) (iblk m c 3 t) (iblk m c 4 t) (iblk m c 5 t) (iblk m c 6 t) (iblk m c 8 t) (iblk m c 9 t)),
      k0_pay2 (F := Ideal) (iblk m c 7 t) (k0_pay6 (F := Ideal) (iblk m c 8 t)) (k0_pay8 (F := Ideal) (iblk m c 0 t) (iblk m c 1 t) (iblk m c 2 t) (iblk m c 3 t) (iblk m c 4 t) (iblk m c 5 t) (iblk m c 6 t) (iblk m c 8 t) (iblk m c 9 t)),
      k0_pay4 (F := Ideal) (k0_pay5 (F := Ideal) (iblk m c 0 t) (iblk m c 1 t) (iblk m c 2 t) (iblk m c 3 t) (iblk m c 4 t) (iblk m c 5 t)) (k0_pay7 (F := Ideal) (iblk m c 6 t) (iblk m c 8 t)) (k0_pay3 (F := Ideal))) := by
  rw [outsAt0_A m c t h0]
  refine Prod.ext ?_ (Prod.ext ?_ ?_)
  · dsimp only
    unfold out0_A_10
    rw [View.read_writes_eq_canon _ _ _ (fun _ => cover0_A_10 ..)]
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
      View.ld_unit_zero (S := S512x1024) hz2, View.ld_unit_zero (S := S512x512) hz2, View.ld_unit_zero (S := S1024x1024) hz2, View.ld_unit_zero (S := S512x1) hz2, View.ld_unit_zero (S := S1x1024) hz2]
  · dsimp only
    unfold out0_A_11
    rw [View.read_writes_eq_canon _ _ _ (fun _ => cover0_A_11 ..)]
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
      View.ld_unit_zero (S := S512x1024) hz2, View.ld_unit_zero (S := S512x512) hz2, View.ld_unit_zero (S := S1024x1024) hz2, View.ld_unit_zero (S := S512x1) hz2, View.ld_unit_zero (S := S1x1024) hz2]
  · dsimp only
    unfold out0_A_12
    rw [View.read_writes_eq_canon _ _ _ (fun _ => cover0_A_12 ..)]
    unfold kernelRun0_A
    dsimp only
    sl_unfold_words
    rw [View.canon_cons_unit_zero (S := S1x1024) hz2, View.readCov_unit_zero (S := S1x1024) _ hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
      View.ld_unit_zero (S := S512x1024) hz2, View.ld_unit_zero (S := S512x512) hz2, View.ld_unit_zero (S := S1024x1024) hz2, View.ld_unit_zero (S := S512x1) hz2, View.ld_unit_zero (S := S1x1024) hz2]

/-- What a point of case B leaves in the outputs. -/
theorem outs_B (c : Dev nD) (t : Fin cfg0.N) (h0 : ¬t.val % 8 = 0) :
    outsAt0 m c t.val t.isLt = (k0_pay1 (F := Ideal) (iblk m c 7 t) (k0_pay6 (F := Ideal) (iblk m c 8 t)) (k0_pay8 (F := Ideal) (iblk m c 0 t) (iblk m c 1 t) (iblk m c 2 t) (iblk m c 3 t) (iblk m c 4 t) (iblk m c 5 t) (iblk m c 6 t) (iblk m c 8 t) (iblk m c 9 t)),
      k0_pay2 (F := Ideal) (iblk m c 7 t) (k0_pay6 (F := Ideal) (iblk m c 8 t)) (k0_pay8 (F := Ideal) (iblk m c 0 t) (iblk m c 1 t) (iblk m c 2 t) (iblk m c 3 t) (iblk m c 4 t) (iblk m c 5 t) (iblk m c 6 t) (iblk m c 8 t) (iblk m c 9 t)),
      k0_pay4 (F := Ideal) (k0_pay5 (F := Ideal) (iblk m c 0 t) (iblk m c 1 t) (iblk m c 2 t) (iblk m c 3 t) (iblk m c 4 t) (iblk m c 5 t)) (k0_pay7 (F := Ideal) (iblk m c 6 t) (iblk m c 8 t)) (outsAt0 m c (t.val - 1) (by have := t.isLt; omega)).2.2) := by
  rw [outsAt0_B m c t h0]
  refine Prod.ext ?_ (Prod.ext ?_ ?_)
  · dsimp only
    unfold out0_B_10
    rw [View.read_writes_eq_canon _ _ _ (fun _ => cover0_B_10 ..)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
      View.ld_unit_zero (S := S512x1024) hz2, View.ld_unit_zero (S := S512x512) hz2, View.ld_unit_zero (S := S1024x1024) hz2, View.ld_unit_zero (S := S512x1) hz2, View.ld_unit_zero (S := S1x1024) hz2]
  · dsimp only
    unfold out0_B_11
    rw [View.read_writes_eq_canon _ _ _ (fun _ => cover0_B_11 ..)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
      View.ld_unit_zero (S := S512x1024) hz2, View.ld_unit_zero (S := S512x512) hz2, View.ld_unit_zero (S := S1024x1024) hz2, View.ld_unit_zero (S := S512x1) hz2, View.ld_unit_zero (S := S1x1024) hz2]
  · dsimp only
    unfold out0_B_12
    rw [View.read_writes_eq_canon _ _ _ (fun _ => cover0_B_12 ..)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_12 t).read_unread,
      View.ld_unit_zero (S := S512x1024) hz2, View.ld_unit_zero (S := S512x512) hz2, View.ld_unit_zero (S := S1024x1024) hz2, View.ld_unit_zero (S := S512x1) hz2, View.ld_unit_zero (S := S1x1024) hz2]

theorem index0 : ∀ t : Fin cfg0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = 0 ∧ win0_3.index t 1 = 0)
    ∧ (win0_4.index t 0 = 2 ∧ win0_4.index t 1 = 0)
    ∧ (win0_5.index t 0 = 3 ∧ win0_5.index t 1 = 0)
    ∧ (win0_6.index t 0 = t.val ∧ win0_6.index t 1 = 0)
    ∧ (win0_7.index t 0 = t.val ∧ win0_7.index t 1 = 0)
    ∧ (win0_8.index t 0 = t.val ∧ win0_8.index t 1 = 0)
    ∧ (win0_9.index t 0 = 0 ∧ win0_9.index t 1 = 0)
    ∧ (win0_10.index t 0 = t.val ∧ win0_10.index t 1 = 0)
    ∧ (win0_11.index t 0 = t.val ∧ win0_11.index t 1 = 0)
    ∧ (win0_12.index t 0 = 0 ∧ win0_12.index t 1 = 0) :=
  (by decide +kernel : ∀ t : Fin grid0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = 0 ∧ win0_3.index t 1 = 0)
    ∧ (win0_4.index t 0 = 2 ∧ win0_4.index t 1 = 0)
    ∧ (win0_5.index t 0 = 3 ∧ win0_5.index t 1 = 0)
    ∧ (win0_6.index t 0 = t.val ∧ win0_6.index t 1 = 0)
    ∧ (win0_7.index t 0 = t.val ∧ win0_7.index t 1 = 0)
    ∧ (win0_8.index t 0 = t.val ∧ win0_8.index t 1 = 0)
    ∧ (win0_9.index t 0 = 0 ∧ win0_9.index t 1 = 0)
    ∧ (win0_10.index t 0 = t.val ∧ win0_10.index t 1 = 0)
    ∧ (win0_11.index t 0 = t.val ∧ win0_11.index t 1 = 0)
    ∧ (win0_12.index t 0 = 0 ∧ win0_12.index t 1 = 0))

theorem rows : 4096 = cfg0.N * 512 := by
  show 4096 = grid0.N * 512
  rw [Gen.N_0]

section
variable (c : Dev nD)
/-- The rows of the layer's input. -/
abbrev X : FVec Ideal S4096x1024 .f32 := m ((c : Thread nD τ).loc main_arg0)
/-- The norm's gain. -/
abbrev G : FVec Ideal S1x1024 .f32 := m ((c : Thread nD τ).loc main_arg1)
/-- The projection. -/
abbrev W : FVec Ideal S1024x2048 .f32 := m ((c : Thread nD τ).loc main_arg2)
/-- The cotangent. -/
abbrev U : FVec Ideal S4096x2048 .f32 := m ((c : Thread nD τ).loc main_arg3)
/-- What is added to. -/
abbrev D : FVec Ideal S4096x1024 .f32 := m ((c : Thread nD τ).loc main_arg4)
end

theorem V_v7 (c : Dev nD) : (V m c main_v7 : FVec Ideal S4096x1 .f32) = hScale (X m c) := by
  unfold V
  after_results
  rfl

theorem V_v9 (c : Dev nD) : (V m c main_v9 : S2048x1024.Idx → EReal) = transpose S2048x1024 [1, 0] (W m c) transposes_S1024x2048_S2048x1024_1_0 := by
  unfold V
  after_results
  rfl

theorem iblk0 (c : Dev nD) (t : Fin cfg0.N) (a : Fin 512) (b : Fin 1024) : (iblk m c 0 t : S512x1024.Idx → EReal) (ix2 a b)
    = U m c (ix2 (row t a rows) ⟨0 + b.val, by omega⟩) := by
  have hV : (V m c main_v11 : S4096x1024.Idx → EReal) (ix2 (row t a rows) b) = U m c (ix2 (row t a rows) ⟨0 + b.val, by omega⟩) := by
    unfold V
    after_results
    exact extractStridedSlice_apply _ _ slices_S4096x2048_S4096x1024_0_0 _ (ix2 (row t a rows) (⟨0 + b.val, by omega⟩ : Fin 2048)) fun x => match x with
      | ⟨0, _⟩ => (Nat.zero_add (row t a rows).val).symm
      | ⟨1, _⟩ => rfl
  unfold iblk
  rw [View.read_apply]
  refine Eq.trans ?_ hV
  have h := (index0 t).1
  refine congrArg (V m c main_v11) (ixEq ?_ ?_)
  · show win0_0.index t 0 * 512 + 1 * a.val = t.val * 512 + a.val
    rw [h.1]; omega
  · show win0_0.index t 1 * 1024 + 1 * b.val = b.val
    rw [h.2]; omega

theorem iblk1 (c : Dev nD) (t : Fin cfg0.N) (a : Fin 512) (b : Fin 512) : (iblk m c 1 t : S512x512.Idx → EReal) (ix2 a b)
    = U m c (ix2 (row t a rows) ⟨1024 + b.val, by omega⟩) := by
  have hV : (V m c main_v13 : S4096x512.Idx → EReal) (ix2 (row t a rows) b) = U m c (ix2 (row t a rows) ⟨1024 + b.val, by omega⟩) := by
    unfold V
    after_results
    exact extractStridedSlice_apply _ _ slices_S4096x2048_S4096x512_0_1024 _ (ix2 (row t a rows) (⟨1024 + b.val, by omega⟩ : Fin 2048)) fun x => match x with
      | ⟨0, _⟩ => (Nat.zero_add (row t a rows).val).symm
      | ⟨1, _⟩ => rfl
  unfold iblk
  rw [View.read_apply]
  refine Eq.trans ?_ hV
  have h := (index0 t).2.1
  refine congrArg (V m c main_v13) (ixEq ?_ ?_)
  · show win0_1.index t 0 * 512 + 1 * a.val = t.val * 512 + a.val
    rw [h.1]; omega
  · show win0_1.index t 1 * 512 + 1 * b.val = b.val
    rw [h.2]; omega

theorem iblk2 (c : Dev nD) (t : Fin cfg0.N) (a : Fin 512) (b : Fin 512) : (iblk m c 2 t : S512x512.Idx → EReal) (ix2 a b)
    = U m c (ix2 (row t a rows) ⟨1536 + b.val, by omega⟩) := by
  have hV : (V m c main_v15 : S4096x512.Idx → EReal) (ix2 (row t a rows) b) = U m c (ix2 (row t a rows) ⟨1536 + b.val, by omega⟩) := by
    unfold V
    after_results
    exact extractStridedSlice_apply _ _ slices_S4096x2048_S4096x512_0_1536 _ (ix2 (row t a rows) (⟨1536 + b.val, by omega⟩ : Fin 2048)) fun x => match x with
      | ⟨0, _⟩ => (Nat.zero_add (row t a rows).val).symm
      | ⟨1, _⟩ => rfl
  unfold iblk
  rw [View.read_apply]
  refine Eq.trans ?_ hV
  have h := (index0 t).2.2.1
  refine congrArg (V m c main_v15) (ixEq ?_ ?_)
  · show win0_2.index t 0 * 512 + 1 * a.val = t.val * 512 + a.val
    rw [h.1]; omega
  · show win0_2.index t 1 * 512 + 1 * b.val = b.val
    rw [h.2]; omega

theorem iblk3 (c : Dev nD) (t : Fin cfg0.N) (a : Fin 1024) (b : Fin 1024) : (iblk m c 3 t : S1024x1024.Idx → EReal) (ix2 a b)
    = W m c (ix2 b ⟨0 + a.val, by omega⟩) := by
  unfold iblk
  rw [View.read_apply]
  refine Eq.trans ?_ (transpose_apply _ _ transposes_S1024x2048_S2048x1024_1_0 (ix2 (⟨0 + a.val, by omega⟩ : Fin 2048) b) _ fun a => match a with | ⟨0, _⟩ => rfl | ⟨1, _⟩ => rfl)
  refine Eq.trans ?_ (congrFun (V_v9 m c) _)
  have h := (index0 t).2.2.2.1
  refine congrArg (V m c main_v9) (ixEq ?_ ?_)
  · show win0_3.index t 0 * 1024 + 1 * a.val = 0 + a.val
    rw [h.1]; omega
  · show win0_3.index t 1 * 1024 + 1 * b.val = b.val
    rw [h.2]; omega

theorem iblk4 (c : Dev nD) (t : Fin cfg0.N) (a : Fin 512) (b : Fin 1024) : (iblk m c 4 t : S512x1024.Idx → EReal) (ix2 a b)
    = W m c (ix2 b ⟨1024 + a.val, by omega⟩) := by
  unfold iblk
  rw [View.read_apply]
  refine Eq.trans ?_ (transpose_apply _ _ transposes_S1024x2048_S2048x1024_1_0 (ix2 (⟨1024 + a.val, by omega⟩ : Fin 2048) b) _ fun a => match a with | ⟨0, _⟩ => rfl | ⟨1, _⟩ => rfl)
  refine Eq.trans ?_ (congrFun (V_v9 m c) _)
  have h := (index0 t).2.2.2.2.1
  refine congrArg (V m c main_v9) (ixEq ?_ ?_)
  · show win0_4.index t 0 * 512 + 1 * a.val = 1024 + a.val
    rw [h.1]; omega
  · show win0_4.index t 1 * 1024 + 1 * b.val = b.val
    rw [h.2]; omega

theorem iblk5 (c : Dev nD) (t : Fin cfg0.N) (a : Fin 512) (b : Fin 1024) : (iblk m c 5 t : S512x1024.Idx → EReal) (ix2 a b)
    = W m c (ix2 b ⟨1536 + a.val, by omega⟩) := by
  unfold iblk
  rw [View.read_apply]
  refine Eq.trans ?_ (transpose_apply _ _ transposes_S1024x2048_S2048x1024_1_0 (ix2 (⟨1536 + a.val, by omega⟩ : Fin 2048) b) _ fun a => match a with | ⟨0, _⟩ => rfl | ⟨1, _⟩ => rfl)
  refine Eq.trans ?_ (congrFun (V_v9 m c) _)
  have h := (index0 t).2.2.2.2.2.1
  refine congrArg (V m c main_v9) (ixEq ?_ ?_)
  · show win0_5.index t 0 * 512 + 1 * a.val = 1536 + a.val
    rw [h.1]; omega
  · show win0_5.index t 1 * 1024 + 1 * b.val = b.val
    rw [h.2]; omega

theorem iblk6 (c : Dev nD) (t : Fin cfg0.N) (a : Fin 512) (b : Fin 1024) : (iblk m c 6 t : S512x1024.Idx → EReal) (ix2 a b) = X m c (ix2 (row t a rows) b) := by
  unfold iblk
  rw [View.read_apply]
  refine Eq.trans ?_ (congrFun (V_main_arg0 m c) _)
  have h := (index0 t).2.2.2.2.2.2.1
  refine congrArg (V m c main_arg0) (ixEq ?_ ?_)
  · show win0_6.index t 0 * 512 + 1 * a.val = t.val * 512 + a.val
    rw [h.1]; omega
  · show win0_6.index t 1 * 1024 + 1 * b.val = b.val
    rw [h.2]; omega

theorem iblk7 (c : Dev nD) (t : Fin cfg0.N) (a : Fin 512) (b : Fin 1024) : (iblk m c 7 t : S512x1024.Idx → EReal) (ix2 a b) = D m c (ix2 (row t a rows) b) := by
  unfold iblk
  rw [View.read_apply]
  refine Eq.trans ?_ (congrFun (V_main_arg4 m c) _)
  have h := (index0 t).2.2.2.2.2.2.2.1
  refine congrArg (V m c main_arg4) (ixEq ?_ ?_)
  · show win0_7.index t 0 * 512 + 1 * a.val = t.val * 512 + a.val
    rw [h.1]; omega
  · show win0_7.index t 1 * 1024 + 1 * b.val = b.val
    rw [h.2]; omega

theorem iblk8 (c : Dev nD) (t : Fin cfg0.N) (a : Fin 512) (b : Fin 1) : (iblk m c 8 t : S512x1.Idx → EReal) (ix2 a b) = hScale (X m c) (ix2 (row t a rows) b) := by
  unfold iblk
  rw [View.read_apply]
  refine Eq.trans ?_ (congrFun (V_v7 m c) _)
  have h := (index0 t).2.2.2.2.2.2.2.2.1
  refine congrArg (V m c main_v7) (ixEq ?_ ?_)
  · show win0_8.index t 0 * 512 + 1 * a.val = t.val * 512 + a.val
    rw [h.1]; omega
  · show win0_8.index t 1 * 1 + 1 * b.val = b.val
    rw [h.2]; omega

theorem iblk9 (c : Dev nD) (t : Fin cfg0.N) (a : Fin 1) (b : Fin 1024) : (iblk m c 9 t : S1x1024.Idx → EReal) (ix2 a b) = G m c (ix2 a b) := by
  unfold iblk
  rw [View.read_apply]
  refine Eq.trans ?_ (congrFun (V_main_arg1 m c) _)
  have h := (index0 t).2.2.2.2.2.2.2.2.2.1
  refine congrArg (V m c main_arg1) (ixEq ?_ ?_)
  · show win0_9.index t 0 * 1 + 1 * a.val = a.val
    rw [h.1]; omega
  · show win0_9.index t 1 * 1024 + 1 * b.val = b.val
    rw [h.2]; omega

theorem pay5_apply (v0 : Vec Ideal S512x1024 .bf16) (v2 v4 : Vec Ideal S512x512 .bf16) (v6 : Vec Ideal S1024x1024 .bf16) (v9 v13 : Vec Ideal S512x1024 .bf16) (a : Fin 512) (j : Fin 1024) : k0_pay5 (F := Ideal) v0 v2 v4 v6 v9 v13 (ix2 a j)
    = (∑ k : Fin 1024, v0 (ix2 a k) * v6 (ix2 k j)) + (∑ k : Fin 512, v2 (ix2 a k) * v9 (ix2 k j)) + ∑ k : Fin 512, v4 (ix2 a k) * v13 (ix2 k j) := by
  unfold k0_pay5
  rw [shapeCast_self, shapeCast_self, shapeCast_self, shapeCast_self, shapeCast_self, shapeCast_self]
  exact congrArg₂ (· + ·) (congrArg₂ (· + ·) (mm10 (φ₁ := .bf16) (φ₂ := .bf16) _ none _ _ a j) (mm10 (φ₁ := .bf16) (φ₂ := .bf16) _ none _ _ a j))
    (mm10 (φ₁ := .bf16) (φ₂ := .bf16) _ none _ _ a j)

theorem pay7_apply (v17 : Vec Ideal S512x1024 .f32) (v19 : Vec Ideal S512x1 .f32) (a : Fin 512) (j : Fin 1024) :
    k0_pay7 (F := Ideal) v17 v19 (ix2 a j) = v17 (ix2 a j) * v19 (ix2 a 0) := by
  unfold k0_pay7 k0_pay6
  rw [shapeCast_self]
  exact congrArg (v17 (ix2 a j) * ·) (bcCol _ _ a j)

theorem pay1_apply (v0 : Vec Ideal S512x1024 .bf16) (v2 v4 : Vec Ideal S512x512 .bf16) (v6 : Vec Ideal S1024x1024 .bf16) (v9 v13 : Vec Ideal S512x1024 .bf16) (v17 v18 : Vec Ideal S512x1024 .f32) (v19 : Vec Ideal S512x1 .f32)
    (v21 : Vec Ideal S1x1024 .f32) (a : Fin 512) (j : Fin 1024) :
    k0_pay1 (F := Ideal) v18 (k0_pay6 (F := Ideal) v19) (k0_pay8 (F := Ideal) v0 v2 v4 v6 v9 v13 v17 v19 v21) (ix2 a j)
      = v18 (ix2 a j) + v19 (ix2 a 0) * (k0_pay5 (F := Ideal) v0 v2 v4 v6 v9 v13 (ix2 a j) * v21 (ix2 0 j) - v17 (ix2 a j) * v19 (ix2 a 0)
        * Ideal.div (∑ k, k0_pay5 (F := Ideal) v0 v2 v4 v6 v9 v13 (ix2 a k) * v21 (ix2 0 k) * (v17 (ix2 a k) * v19 (ix2 a 0))) ((1024 : ℝ) : EReal)) := by
  unfold k0_pay1 k0_pay8
  refine (kBack_apply _ _ v18 _ _ _ _ _ _ _ a j).trans ?_
  have hg (k : Fin 1024) : mulf (k0_pay5 (F := Ideal) v0 v2 v4 v6 v9 v13) (broadcastTo S512x1024 v21 broadcasts_S1x1024_S512x1024) (ix2 a k)
      = k0_pay5 (F := Ideal) v0 v2 v4 v6 v9 v13 (ix2 a k) * v21 (ix2 0 k) := congrArg (k0_pay5 (F := Ideal) v0 v2 v4 v6 v9 v13 (ix2 a k) * ·) (bcRow _ _ a k)
  rw [hg]
  simp only [hg, pay7_apply]
  unfold k0_pay6
  rw [shapeCast_self, bcCol]

theorem pay4_apply (v16 v25 : FVec Ideal S512x1024 .f32) (v46 : Vec Ideal S1x1024 .f32) (a : Fin 1) (j : Fin 1024) :
    k0_pay4 (F := Ideal) v16 v25 v46 (ix2 a j) = v46 (ix2 a j) + ∑ k : Fin 512, v16 (ix2 k j) * v25 (ix2 k j) := by
  unfold k0_pay4
  rw [shapeCast_self]
  exact congrArg (v46 (ix2 a j) + ·) ((castRow _ _ a j).trans (sumRows _ _ _ _ _ j))

/-- A tile of the cotangent of the normed rows is the reference's. -/
theorem pay5_iblk (c : Dev nD) (t : Fin cfg0.N) (a : Fin 512) (j : Fin 1024) :
    (k0_pay5 (F := Ideal) (iblk m c 0 t) (iblk m c 1 t) (iblk m c 2 t) (iblk m c 3 t) (iblk m c 4 t) (iblk m c 5 t)) (ix2 a j) = up (W m c) (U m c) (ix2 (row t a rows) j) := by
  refine (pay5_apply _ _ _ _ _ _ a j).trans (Eq.trans ?_ (up_apply _ _ (row t a rows) j).symm)
  rw [sum_split (by norm_num : 2048 = 1536 + 512), sum_split (by norm_num : 1536 = 1024 + 512)]
  refine congrArg₂ (· + ·) (congrArg₂ (· + ·) (Finset.sum_congr rfl fun k _ => ?_) (Finset.sum_congr rfl fun k _ => ?_)) (Finset.sum_congr rfl fun k _ => ?_)
  · rw [iblk0, iblk3]
    exact congrArg₂ (· * ·) (congrArg (U m c) (ixEq rfl (Nat.zero_add _))) (congrArg (W m c) (ixEq rfl (Nat.zero_add _)))
  · rw [iblk1, iblk4]
  · rw [iblk2, iblk5]

/-- What the reference needs of its arguments: reals in the rows, the gain, the projection and the cotangent. -/
structure Fin4 (c : Dev nD) : Prop where
  x : ∀ i, IsReal (X m c i)
  g : ∀ i, IsReal (G m c i)
  w : ∀ i, IsReal (W m c i)
  u : ∀ i, IsReal (U m c i)

variable {m} in
theorem Fin4.up {c : Dev nD} (h : Fin4 m c) (i : S4096x1024.Idx) : IsReal (hUp (G m c) (up (W m c) (U m c)) i) := by
  obtain ⟨a, b, rfl⟩ : ∃ (a : Fin 4096) (b : Fin 1024), i = ix2 a b := ⟨i 0, i 1, eq_ix2 i⟩
  rw [hUp_apply, up_apply]
  exact (IsReal.sum _ fun k => (h.u _).mul (h.w _)).mul (h.g _)

/-- A tile of the gradient of the rows is the reference's. -/
theorem pay1_iblk (c : Dev nD) (hp : Fin4 m c) (t : Fin cfg0.N) (a : Fin 512) (j : Fin 1024) :
    k0_pay1 (F := Ideal) (iblk m c 7 t) (k0_pay6 (F := Ideal) (iblk m c 8 t)) (k0_pay8 (F := Ideal) (iblk m c 0 t) (iblk m c 1 t) (iblk m c 2 t) (iblk m c 3 t) (iblk m c 4 t) (iblk m c 5 t) (iblk m c 6 t) (iblk m c 8 t) (iblk m c 9 t)) (ix2 a j)
      = Cert.ReferenceEiIdeal.Read.val_main_v36 (F := Ideal) (X m c) (G m c) (W m c) (U m c) (D m c) (ix2 (row t a rows) j) := by
  refine (pay1_apply _ _ _ _ _ _ _ _ _ _ a j).trans ?_
  rw [v36_eq]
  refine Eq.trans ?_ (hBack_apply hp.x hp.up _ (D m c (ix2 (row t a rows) j)) (row t a rows) j
    (congrArg (D m c (ix2 (row t a rows) j) + hUp (G m c) (up (W m c) (U m c)) (ix2 (row t a rows) j) * ·) (hSpread_apply _ _ _))).symm
  simp only [pay5_iblk, iblk6, iblk7, iblk8, iblk9, hUp_apply]

/-- A tile's part of the gradient of the gain. -/
def part (c : Dev nD) (t : Fin cfg0.N) (j : S1x1024.Idx) : EReal := ∑ k : Fin 512, (k0_pay5 (F := Ideal) (iblk m c 0 t) (iblk m c 1 t) (iblk m c 2 t) (iblk m c 3 t) (iblk m c 4 t) (iblk m c 5 t)) (ix2 k (j 1)) * (k0_pay7 (F := Ideal) (iblk m c 6 t) (iblk m c 8 t)) (ix2 k (j 1))

theorem result10 (c : Dev nD) (hp : Fin4 m c) (i : Fin 4096) (j : Fin 1024) : ((dats m 0 c).arrAt 10 cfg0.N : S4096x1024.Idx → EReal) (ix2 i j)
    = Cert.ReferenceEiIdeal.Read.val_main_v36 (F := Ideal) (X m c) (G m c) (W m c) (U m c) (D m c) (ix2 i j) := by
  obtain ⟨t, a, rfl⟩ := row_surj rows i
  have hb := congrFun (blocks10 m c t (flush0_10 t)) (ix2 a j)
  rw [View.read_apply, flushed10] at hb
  have h := (index0 t).2.2.2.2.2.2.2.2.2.2.1
  have he : ((cfg0.win 10).blk t).view.emb (ix2 a j) = (ix2 (row t a rows) j : S4096x1024.Idx) := by
    refine ixEq ?_ ?_
    · show win0_10.index t 0 * 512 + 1 * a.val = t.val * 512 + a.val
      rw [h.1]; omega
    · show win0_10.index t 1 * 1024 + 1 * j.val = j.val
      rw [h.2]; omega
  rw [he] at hb
  refine hb.trans (Eq.trans (congrFun (?_ : (outsAt0 m c t.val t.isLt).1 = _) (ix2 a j)) (pay1_iblk m c hp t a j))
  by_cases h0 : t.val % 8 = 0
  · rw [outs_A m c t h0]
  · rw [outs_B m c t h0]

theorem result11 (c : Dev nD) (hp : Fin4 m c) (i : Fin 4096) (j : Fin 1024) : ((dats m 0 c).arrAt 11 cfg0.N : S4096x1024.Idx → EReal) (ix2 i j)
    = Cert.ReferenceEiIdeal.Read.val_main_v37 (F := Ideal) (X m c) (G m c) (W m c) (U m c) (D m c) (ix2 i j) := by
  obtain ⟨t, a, rfl⟩ := row_surj rows i
  have hb := congrFun (blocks11 m c t (flush0_11 t)) (ix2 a j)
  rw [View.read_apply, flushed11] at hb
  have h := (index0 t).2.2.2.2.2.2.2.2.2.2.2.1
  have he : ((cfg0.win 11).blk t).view.emb (ix2 a j) = (ix2 (row t a rows) j : S4096x1024.Idx) := by
    refine ixEq ?_ ?_
    · show win0_11.index t 0 * 512 + 1 * a.val = t.val * 512 + a.val
      rw [h.1]; omega
    · show win0_11.index t 1 * 1024 + 1 * j.val = j.val
      rw [h.2]; omega
  rw [he] at hb
  refine hb.trans (Eq.trans (congrFun (?_ : (outsAt0 m c t.val t.isLt).2.1 = _) (ix2 a j)) (pay1_iblk m c hp t a j))
  by_cases h0 : t.val % 8 = 0
  · rw [outs_A m c t h0]; rfl
  · rw [outs_B m c t h0]; rfl

/-- This running total after a point. -/
theorem total12 (c : Dev nD) (a : Fin 1) (j : Fin 1024) (n : ℕ) (hn : n < cfg0.N) : (outsAt0 m c n hn).2.2 (ix2 a j)
    = ∑ k : Fin (n + 1), part m c ⟨k, by omega⟩ (ix2 a j) := by
  refine total (fun n hn => (outsAt0 m c n hn).2.2 (ix2 a j)) (fun t => part m c t (ix2 a j))
    (fun h => ?_) (fun n h => ?_) n hn
  · show (outsAt0 m c (⟨0, h⟩ : Fin cfg0.N).val h).2.2 (ix2 a j) = _
    rw [outs_A m c ⟨0, h⟩ rfl]
    refine (pay4_apply _ _ _ a j).trans ?_
    show Ideal.ofBits .f32 0x00000000#32 + _ = _
    rw [Ideal.ofBits_zero_f32]
    exact zero_add _
  · have hN : cfg0.N = 8 := Gen.N_0
    show (outsAt0 m c (⟨n + 1, h⟩ : Fin cfg0.N).val h).2.2 (ix2 a j) = _
    rw [outs_B m c ⟨n + 1, h⟩ (by show ¬(n + 1) % 8 = 0; omega)]
    exact pay4_apply _ _ _ a j

/-- The one write-back of this total, after the last point. -/
theorem final12 (c : Dev nD) (hl : 7 < cfg0.N) : (dats m 0 c).arrAt 12 cfg0.N = (outsAt0 m c 7 hl).2.2 := by
  have hN : cfg0.N = 8 := Gen.N_0
  have hz (t : Fin cfg0.N) : (fun a => win0_12.index t a * main_v16_2.ty.shape.size a) = fun _ => 0 := funext fun a => by
    have h := (index0 t).2.2.2.2.2.2.2.2.2.2.2.2
    match a with
    | ⟨0, _⟩ => show win0_12.index t 0 * _ = 0; rw [h.1, Nat.zero_mul]
    | ⟨1, _⟩ => show win0_12.index t 1 * _ = 0; rw [h.2, Nat.zero_mul]
  refine (dats m 0 c).arrAt_eq_of_cover 12 (outsAt0 m c 7 hl).2.2 (fun t hf => ?_) fun i => ⟨⟨7, hl⟩, (flush0_12 _).mpr rfl, ?_⟩
  · obtain rfl : t = ⟨7, hl⟩ := Fin.ext (by
      have h7 := (flush0_12 t).mp hf
      have ht : t.val < 8 := lt_of_lt_of_eq t.isLt hN
      show t.val = 7
      omega)
    rw [flushed12]
    exact (Memref.read_access_unit_zero (Elt Ideal) main_v16_2 (hz _) (fun a => by rw [congrFun (hz _) a]; simp) _).symm
  · show i ∈ ((View.whole main_v16_2).slice (win0_12.rect ⟨7, hl⟩)).set
    rw [View.set_slice_whole, Rect.mem_set_unit]
    intro a
    have h := (index0 ⟨7, hl⟩).2.2.2.2.2.2.2.2.2.2.2.2
    match a with
    | ⟨0, _⟩ =>
      show win0_12.index ⟨7, hl⟩ 0 * 1 ≤ (i 0 : Nat) ∧ (i 0 : Nat) < win0_12.index ⟨7, hl⟩ 0 * 1 + 1
      have : (i 0 : Nat) < 1 := (i 0).isLt
      rw [h.1]; omega
    | ⟨1, _⟩ =>
      show win0_12.index ⟨7, hl⟩ 1 * 1024 ≤ (i 1 : Nat) ∧ (i 1 : Nat) < win0_12.index ⟨7, hl⟩ 1 * 1024 + 1024
      have : (i 1 : Nat) < 1024 := (i 1).isLt
      rw [h.2]; omega

theorem result12 (c : Dev nD) (a : Fin 1) (j : Fin 1024) : ((dats m 0 c).arrAt 12 cfg0.N : S1x1024.Idx → EReal) (ix2 a j)
    = Cert.ReferenceEiIdeal.Read.val_main_v19 (F := Ideal) (X m c) (W m c) (U m c) (ix2 a j) := by
  have hN : cfg0.N = 7 + 1 := Gen.N_0
  rw [final12 m c (by omega)]
  refine (total12 m c a j 7 (by omega)).trans (Eq.trans ?_ (congrFun (v19_eq _ _ _) (ix2 a j)).symm)
  rw [hGain_apply, sum_row rows]
  refine (sum_cast hN (fun t => part m c t (ix2 a j)) _ fun k => rfl).symm.trans (Finset.sum_congr rfl fun t _ => Finset.sum_congr rfl fun b _ => ?_)
  refine (congrArg₂ (· * ·) (pay5_iblk m c t b j) (pay7_apply _ _ b j)).trans ?_
  rw [iblk6, iblk8, hScale_apply, mul_comm]

end Cert.KernelEiIdeal.Hand
-- ==== Proof.EiClaim.lean ====
/- The gradient of the attention layer's input projection and norm: the claim against the reference. -/
module

public import proofs.«01_k».proof.Defs
public import proofs.«01_k».proof.Proof.Gen.KernelEi
public import proofs.«01_k».proof.Proof.Ei
public import proofs.«01_k».proof.Proof.Gen.Pre_finite_ein
public import proofs.«01_k».proof.Proof.Finite

@[expose] public section

noncomputable section

open Idealize.ShloMosaic Idealize.ShloMosaic.TcCoe Idealize.SL.Sem Idealize.ShloMosaic.ValueIdx

namespace Cert.Hand

theorem frame_reference_Ei : Cert.quiescent_ReferenceEiIdeal := fun m ρ _ =>
  (θ_run Cert.ReferenceEiIdeal.defs _ _).mono (fun r h => ⟨fun c => (h c).2.2.2, sem_eq_zero_of_no_sems (by decide) r.2⟩)
    (Cert.ReferenceEiIdeal.Hand.run m ρ)

theorem frame_reference_Ei_pre_finite_ein : Cert.quiescent_ReferenceEiIdeal_pre_finite_ein := fun m ρ _ =>
  (θ_run Cert.ReferenceEiIdeal.defs _ _).mono (fun r h => ⟨fun c => (h c).2.2.2, sem_eq_zero_of_no_sems (by decide) r.2⟩)
    (Cert.ReferenceEiIdeal.Hand.run m ρ)

open Cert.KernelEiIdeal in
/-- The precondition, read: every entry of the arrays it names is a real. -/
theorem finite_Ei (m : (ℓ : Loc nD τ sig) → Buf (Elt Ideal) ℓ) (h : Cert.Pre_KernelEiIdeal_finite_ein m) (c : Dev nD) : Cert.KernelEiIdeal.Hand.Fin4 m c := by
  have H := h c
  unfold Cert.Pre_finite_ein.fn at H
  obtain ⟨H, h3⟩ := Cert.Kit.ones_cat H
  obtain ⟨H, h2⟩ := Cert.Kit.ones_cat H
  obtain ⟨H, h1⟩ := Cert.Kit.ones_cat H
  exact ⟨Cert.Kit.real_of_ones (Cert.Kit.ones_cast H), Cert.Kit.real_of_ones (Cert.Kit.ones_cast h1), Cert.Kit.real_of_ones (Cert.Kit.ones_cast h2), Cert.Kit.real_of_ones (Cert.Kit.ones_cast h3)⟩

open Cert.KernelEiIdeal in
theorem algebraic_Ei : Cert.algebraic_KernelEiIdeal_ReferenceEiIdeal_pre_finite_ein := by
  intro m g m' g' hp hargs
  let x0 (c : Dev nD) := m ((c.tc : Thread nD τ).loc main_arg0)
  let x1 (c : Dev nD) := m ((c.tc : Thread nD τ).loc main_arg1)
  let x2 (c : Dev nD) := m ((c.tc : Thread nD τ).loc main_arg2)
  let x3 (c : Dev nD) := m ((c.tc : Thread nD τ).loc main_arg3)
  let x4 (c : Dev nD) := m ((c.tc : Thread nD τ).loc main_arg4)
  refine ⟨fun c => Cert.ReferenceEiIdeal.Read.val_main_v36 (F := Ideal) (x0 c) (x1 c) (x2 c) (x3 c) (x4 c),
    fun c => Cert.ReferenceEiIdeal.Read.val_main_v37 (F := Ideal) (x0 c) (x1 c) (x2 c) (x3 c) (x4 c),
    fun c => Cert.ReferenceEiIdeal.Read.val_main_v19 (F := Ideal) (x0 c) (x2 c) (x3 c), ?_, ?_⟩
  · refine (θ_run defs _ _).mono (fun r h c => ⟨(h c).1.trans ?_, (h c).2.1.trans ?_, (h c).2.2.1.trans ?_, (h c).2.2.2⟩) (Value.run_blocks m g)
    · funext j
      obtain ⟨a, b, rfl⟩ : ∃ (a : Fin 4096) (b : Fin 1024), j = ix2 a b := ⟨j 0, j 1, eq_ix2 j⟩
      exact Hand.result10 m c (finite_Ei m hp c) a b
    · funext j
      obtain ⟨a, b, rfl⟩ : ∃ (a : Fin 4096) (b : Fin 1024), j = ix2 a b := ⟨j 0, j 1, eq_ix2 j⟩
      exact Hand.result11 m c (finite_Ei m hp c) a b
    · funext j
      obtain ⟨a, b, rfl⟩ : ∃ (a : Fin 1) (b : Fin 1024), j = ix2 a b := ⟨j 0, j 1, eq_ix2 j⟩
      exact Hand.result12 m c a b
  · refine (θ_run Cert.ReferenceEiIdeal.defs _ _).mono (fun r h c => ⟨(h c).1.trans ?_, (h c).2.1.trans ?_, (h c).2.2.1.trans ?_, (h c).2.2.2⟩)
      (Cert.ReferenceEiIdeal.Hand.run m' g')
    · rw [(hargs c).1, (hargs c).2.1, (hargs c).2.2.1, (hargs c).2.2.2.1, (hargs c).2.2.2.2]
    · rw [(hargs c).1, (hargs c).2.1, (hargs c).2.2.1, (hargs c).2.2.2.1, (hargs c).2.2.2.2]
    · rw [(hargs c).1, (hargs c).2.2.1, (hargs c).2.2.2.1]

end Cert.Hand
-- ==== Proof.Silu.lean ====
/- The logistic gate `z · σ(z)` and its derivative, and the derivative of a norm that takes the mean off a row. -/
module

public import proofs.«01_k».proof.Proof.Real

@[expose] public section

noncomputable section

open Idealize.ShloMosaic

namespace Cert.Kit

/-- The number one, as the kernels and the references spell it. -/
def cOne : EReal := Ideal.ofBits .f32 0x3F800000#32

theorem cOne_eq : cOne = ((1 : ℝ) : EReal) := by
  unfold cOne
  simp [Ideal.ofBits, Ideal.ieee, -EReal.coe_mul]; norm_num

/-- `1 / (1 + exp(-z))`. -/
def sg (z : EReal) : EReal := Ideal.div cOne (cOne + Ideal.exp (-z))

theorem sg_real (z : ℝ) : sg (z : EReal) = ((1 / (1 + Real.exp (-z)) : ℝ) : EReal) := by
  unfold sg
  rw [cOne_eq, ← EReal.coe_neg, Ideal.exp_coe, ← EReal.coe_add, div_real _ _ (by positivity)]

theorem IsReal.sg {z : EReal} (h : IsReal z) : IsReal (sg z) := by
  obtain ⟨r, rfl⟩ := h
  exact ⟨_, sg_real r⟩

/-- A kernel subtracts from zero where a reference negates. -/
theorem zero_bits_sub (z : EReal) : Ideal.ofBits .f32 0x00000000#32 - z = -z := by
  rw [Ideal.ofBits_zero_f32]
  exact zero_sub z

/-- The derivative of `z · σ(z)`, applied to a cotangent. -/
def siluBack (z d : EReal) : EReal := d * sg z * (cOne + z * (cOne - sg z))

theorem silu_back {z d : EReal} (hz : IsReal z) (hd : IsReal d) : siluBack z d = d * sg z + z * d * (sg z * (cOne - sg z)) := by
  unfold siluBack
  obtain ⟨s, hs⟩ := hz.sg
  obtain ⟨z, rfl⟩ := hz
  obtain ⟨d, rfl⟩ := hd
  rw [hs, cOne_eq]
  simp only [← EReal.coe_mul, ← EReal.coe_add, ← EReal.coe_sub]
  congr 1
  ring

theorem IsReal.siluBack {z d : EReal} (hz : IsReal z) (hd : IsReal d) : IsReal (siluBack z d) := by
  unfold Cert.Kit.siluBack
  have h1 : IsReal cOne := ⟨1, cOne_eq⟩
  exact (hd.mul hz.sg).mul (h1.add (hz.mul (h1.sub hz.sg)))

/-- The derivative of `z · σ(z) · u` along `z`. -/
def gateSlope (z u : EReal) : EReal := u * (sg z + z * sg z * (cOne - sg z))

theorem gate_back {z u d : EReal} (hz : IsReal z) (hu : IsReal u) (hd : IsReal d) :
    d * gateSlope z u = d * u * sg z + z * (d * u) * (sg z * (cOne - sg z)) := by
  unfold gateSlope
  obtain ⟨s, hs⟩ := hz.sg
  obtain ⟨z, rfl⟩ := hz
  obtain ⟨u, rfl⟩ := hu
  obtain ⟨d, rfl⟩ := hd
  rw [hs, cOne_eq]
  simp only [← EReal.coe_mul, ← EReal.coe_add, ← EReal.coe_sub]
  congr 1
  ring

theorem IsReal.gateSlope {z u : EReal} (hz : IsReal z) (hu : IsReal u) : IsReal (gateSlope z u) := by
  unfold Cert.Kit.gateSlope
  have h1 : IsReal cOne := ⟨1, cOne_eq⟩
  exact hu.mul (hz.sg.add ((hz.mul hz.sg).mul (h1.sub hz.sg)))

variable {n : ℕ}

/-- A row less its mean. -/
def ctr (c : ℝ) (x : Fin n → EReal) (k : Fin n) : EReal := x k - Ideal.div (∑ l, x l) (c : EReal)

theorem IsReal.ctr {c : ℝ} (hc : c ≠ 0) {x : Fin n → EReal} (hx : ∀ k, IsReal (x k)) (k : Fin n) : IsReal (ctr c x k) :=
  (hx k).sub ((IsReal.sum _ fun l => hx l).div_coe hc)

/-- A row less its mean, over its deviation. -/
def lnRow (c : ℝ) (x : Fin n → EReal) (k : Fin n) : EReal := ctr c x k * Ideal.rsqrt (meanSq c (ctr c x))

/-- A row less its mean adds up to nothing. -/
theorem centred {c : ℝ} (hc : c ≠ 0) (hn : (n : ℝ) = c) {x : Fin n → EReal} (hx : ∀ k, IsReal (x k)) :
    ∑ k, ctr c x k = 0 := by
  unfold ctr
  choose x' hx' using hx
  obtain rfl : x = fun k => (x' k : EReal) := funext hx'
  simp only [← coe_sum, div_real _ _ hc, ← EReal.coe_sub]
  rw [Finset.sum_sub_distrib, Finset.sum_const, Finset.card_univ, Fintype.card_fin, nsmul_eq_mul, hn, mul_div_cancel₀ _ hc, sub_self]
  rfl

/-- The part of the gradient of a centred row the chain rule gives before the mean is taken off. -/
def lnChain (c : ℝ) (x a : Fin n → EReal) (j : Fin n) : EReal :=
  a j * Ideal.rsqrt (meanSq c x)
    + x j * Ideal.div ((∑ k, x k * a k) * (((-(1 / 2) : ℝ) : EReal) * Ideal.div (Ideal.rsqrt (meanSq c x)) (meanSq c x))) (c : EReal)
    + Ideal.div ((∑ k, x k * a k) * (((-(1 / 2) : ℝ) : EReal) * Ideal.div (Ideal.rsqrt (meanSq c x)) (meanSq c x))) (c : EReal) * x j

/-- The derivative of a norm that takes the mean off and divides by the deviation, on a row: `x` is the row less its mean. -/
theorem ln_row {c : ℝ} (hc : 0 < c) {x a : Fin n → EReal} (hx : ∀ k, IsReal (x k)) (ha : ∀ k, IsReal (a k)) (h0 : ∑ k, x k = 0) (j : Fin n) :
    Ideal.rsqrt (meanSq c x) * (a j - Ideal.div (∑ k, a k) (c : EReal)
        - x j * Ideal.rsqrt (meanSq c x) * Ideal.div (∑ k, a k * (x k * Ideal.rsqrt (meanSq c x))) (c : EReal))
      = lnChain c x a j + Ideal.div (∑ k, -lnChain c x a k) (c : EReal) := by
  have hB (k : Fin n) : lnChain c x a k = Ideal.rsqrt (meanSq c x) * (a k - x k * Ideal.rsqrt (meanSq c x)
      * Ideal.div (∑ k, a k * (x k * Ideal.rsqrt (meanSq c x))) (c : EReal)) := by
    have h := rms_row hc hx ha 0 k
    rw [zero_add, zero_add] at h
    exact h.symm
  simp only [hB]
  have hr := IsReal.scale hc hx
  choose x' hx' using hx
  choose a' ha' using ha
  obtain rfl : x = fun k => (x' k : EReal) := funext hx'
  obtain rfl : a = fun k => (a' k : EReal) := funext ha'
  obtain ⟨r, hr⟩ := hr
  have h0' : ∑ k, x' k = 0 := by
    rw [← coe_sum] at h0
    exact_mod_cast h0
  simp only [hr, ← EReal.coe_mul, ← coe_sum, div_real _ _ hc.ne', ← EReal.coe_sub, ← EReal.coe_neg, ← EReal.coe_add]
  congr 1
  generalize (∑ k, a' k * (x' k * r)) / c = M
  have hs : ∑ k, -(r * (a' k - x' k * r * M)) = -(r * ∑ k, a' k) + r * r * M * ∑ k, x' k := by
    rw [Finset.mul_sum, Finset.mul_sum, ← Finset.sum_neg_distrib, ← Finset.sum_add_distrib]
    exact Finset.sum_congr rfl fun k _ => by ring
  rw [hs, h0']
  ring

end Cert.Kit
-- ==== Proof.Ln.lean ====
/- The gradient of the convolution branch's norm and gate: the kernel's results read at an index, and the reference's. -/
module

public import proofs.«01_k».proof.Proof.Kit
public import proofs.«01_k».proof.Proof.Rms
public import proofs.«01_k».proof.Proof.Silu
public import proofs.«01_k».proof.Proof.Gen.KernelLnIdeal.Value
public import proofs.«01_k».proof.Proof.Gen.ReferenceLnIdeal.Run
public import proofs.«01_k».proof.Proof.Gen.ReferenceLnIdeal.Read
public import Idealize.ShloMosaic.Lib.StableHlo.Run

@[expose] public section

set_option maxRecDepth 16384

noncomputable section

open Idealize.ShloMosaic Idealize.ShloMosaic.TcCoe Idealize.SL.Sem Idealize.ShloMosaic.ValueIdx Cert.Kit

namespace Cert.ReferenceLnIdeal.Hand

open Cert.ReferenceLnIdeal Cert.ReferenceLnIdeal.Read

/-- The reference's run, its results named as the reading's stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v56) = val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v32) = val_main_v32 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v29) = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (val_main_v56_eq m c), (h c).2.1.trans (val_main_v32_eq m c), (h c).2.2.1.trans (val_main_v29_eq m c),
    (h c).2.2.2⟩) (Cert.ReferenceLnIdeal.Value.run m ρ)

variable (x0 : FVec Ideal S4096x512 .f32) (x1 : FVec Ideal S4096x1024 .f32) (x2 : FVec Ideal S1024x1024 .f32) (x3 x4 : FVec Ideal S1x512 .f32)

/-- The cotangent of the gate's result: through the weight's lower rows. -/
def up : FVec Ideal S4096x512 .f32 := val_main_v26 (F := Ideal) x1 x2

theorem up_apply (i : Fin 4096) (j : Fin 512) : up x1 x2 (ix2 i j) = ∑ k : Fin 1024, x1 (ix2 i k) * x2 (ix2 ⟨512 + j.val, by omega⟩ k) := by
  unfold up
  rw [val_main_v26_apply]
  refine Finset.sum_congr rfl fun k _ => ?_
  rw [val_main_v24_apply, ixEq (i := lidx_main_v26 _ _) (a := i) (b := k) rfl rfl,
    ixEq (i := idx_main_v24 _) (a := ⟨512 + j.val, by omega⟩) (b := k) rfl rfl]

theorem v5_apply (i : Fin 4096) (j : Fin 512) : val_main_v5 (F := Ideal) x0 (ix2 i j) = ctr 512 (rowOf x0 i) j := by
  refine (congrArg (x0 (ix2 i j) - ·) ((hbCol _ _ i j).trans (congrArg (fun p => Ideal.div p (Ideal.ofBits .f32 0x44000000#32))
    ((hbVec _ _ i 0).trans (hsumCols _ _ _ (by decide) i))))).trans ?_
  rw [c512]
  rfl

theorem v12_apply (i : Fin 4096) : val_main_v12 (F := Ideal) x0 (ix2 i 0) = meanSq 512 (ctr 512 (rowOf x0 i)) := by
  refine (congrArg (fun p => Ideal.div p (Ideal.ofBits .f32 0x44000000#32) + Ideal.ofBits .f32 0x358637BD#32) ((hbVec _ _ i 0).trans
    (hsumCols _ _ _ (by decide) i))).trans ?_
  rw [c512]
  show Ideal.div (∑ k, val_main_v5 (F := Ideal) x0 (ix2 i k) * val_main_v5 (F := Ideal) x0 (ix2 i k)) _ + _ = _
  simp only [v5_apply]
  rfl

theorem v13_apply (i : Fin 4096) : val_main_v13 (F := Ideal) x0 (ix2 i 0) = Ideal.rsqrt (meanSq 512 (ctr 512 (rowOf x0 i))) :=
  congrArg Ideal.rsqrt (v12_apply x0 i)

theorem v18_apply (i : Fin 4096) (j : Fin 512) : val_main_v18 (F := Ideal) x0 (ix2 i j) = lnRow 512 (rowOf x0 i) j := by
  refine (congrArg (val_main_v5 (F := Ideal) x0 (ix2 i j) * ·) (hbCol _ _ i j)).trans ?_
  rw [v13_apply, v5_apply]
  rfl

/-- The gate's argument. -/
def zRow (x : Fin 512 → EReal) (g b : FVec Ideal S1x512 .f32) (j : Fin 512) : EReal := lnRow 512 x j * g (ix2 0 j) + b (ix2 0 j)

theorem v22_apply (i : Fin 4096) (j : Fin 512) : val_main_v22 (F := Ideal) x0 x3 x4 (ix2 i j) = zRow (rowOf x0 i) x3 x4 j :=
  congrArg₂ (· + ·) (congrArg₂ (· * ·) (v18_apply x0 i j) (hbRow _ _ i j)) (hbRow _ _ i j)

theorem v27_real (h0 : ∀ i, IsReal (x0 i)) (h1 : ∀ i, IsReal (x1 i)) (h2 : ∀ i, IsReal (x2 i)) (h3 : ∀ i, IsReal (x3 i)) (h4 : ∀ i, IsReal (x4 i))
    (i : Fin 4096) (j : Fin 512) : IsReal (zRow (rowOf x0 i) x3 x4 j) ∧ IsReal (up x1 x2 (ix2 i j)) := by
  refine ⟨?_, ?_⟩
  · exact (((IsReal.ctr (by norm_num) (fun k => h0 _) j).mul (IsReal.scale (by norm_num) fun k => IsReal.ctr (by norm_num) (fun k => h0 _) k)).mul
      (h3 _)).add (h4 _)
  · rw [up_apply]
    exact IsReal.sum _ fun k => (h1 _).mul (h2 _)

/-- The cotangent of the gate's argument, in the kernel's form. -/
theorem v27_apply (h0 : ∀ i, IsReal (x0 i)) (h1 : ∀ i, IsReal (x1 i)) (h2 : ∀ i, IsReal (x2 i)) (h3 : ∀ i, IsReal (x3 i)) (h4 : ∀ i, IsReal (x4 i))
    (i : Fin 4096) (j : Fin 512) : val_main_v27 (F := Ideal) x0 x1 x2 x3 x4 (ix2 i j)
      = siluBack (zRow (rowOf x0 i) x3 x4 j) (up x1 x2 (ix2 i j)) := by
  obtain ⟨hz, hd⟩ := v27_real x0 x1 x2 x3 x4 h0 h1 h2 h3 h4 i j
  rw [silu_back hz hd, ← v22_apply]
  rfl

/-- The cotangent of a normed entry. -/
def aRow (x : Fin 512 → EReal) (g b : FVec Ideal S1x512 .f32) (d : Fin 512 → EReal) (j : Fin 512) : EReal := siluBack (zRow x g b j) (d j) * g (ix2 0 j)

/-- The gradient of a row, in the kernel's form. -/
def dRow (x : Fin 512 → EReal) (g b : FVec Ideal S1x512 .f32) (d : Fin 512 → EReal) (j : Fin 512) : EReal :=
  Ideal.rsqrt (meanSq 512 (ctr 512 x)) * (aRow x g b d j - Ideal.div (∑ k, aRow x g b d k) ((512 : ℝ) : EReal)
    - lnRow 512 x j * Ideal.div (∑ k, aRow x g b d k * lnRow 512 x k) ((512 : ℝ) : EReal))

theorem v56_apply (h0 : ∀ i, IsReal (x0 i)) (h1 : ∀ i, IsReal (x1 i)) (h2 : ∀ i, IsReal (x2 i)) (h3 : ∀ i, IsReal (x3 i)) (h4 : ∀ i, IsReal (x4 i))
    (i : Fin 4096) (j : Fin 512) : val_main_v56 (F := Ideal) x0 x1 x2 x3 x4 (ix2 i j) = dRow (rowOf x0 i) x3 x4 (rowOf (up x1 x2) i) j := by
  have ha (k : Fin 512) : val_main_v34 (F := Ideal) x0 x1 x2 x3 x4 (ix2 i k) = aRow (rowOf x0 i) x3 x4 (rowOf (up x1 x2) i) k :=
    congrArg₂ (· * ·) (v27_apply x0 x1 x2 x3 x4 h0 h1 h2 h3 h4 i k) (hbRow _ _ i k)
  have h44 (k : Fin 512) : val_main_v44 (F := Ideal) x0 x1 x2 x3 x4 (ix2 i k)
      = Ideal.div ((∑ k, ctr 512 (rowOf x0 i) k * aRow (rowOf x0 i) x3 x4 (rowOf (up x1 x2) i) k) * (((-(1 / 2) : ℝ) : EReal)
          * Ideal.div (Ideal.rsqrt (meanSq 512 (ctr 512 (rowOf x0 i)))) (meanSq 512 (ctr 512 (rowOf x0 i))))) ((512 : ℝ) : EReal) := by
    refine (hbVec _ _ i k).trans ((hsumCols _ _ _ (by decide) i).trans ?_)
    rw [Fin.sum_univ_one]
    have h : val_main_v37 (F := Ideal) x0 x1 x2 x3 x4 (ix2 i 0) = ∑ k, ctr 512 (rowOf x0 i) k * aRow (rowOf x0 i) x3 x4 (rowOf (up x1 x2) i) k :=
      (castCol _ _ i 0).trans ((hsumCols _ _ _ (by decide) i).trans (Finset.sum_congr rfl fun k _ => congrArg₂ (· * ·) (v5_apply x0 i k) (ha k)))
    show Ideal.div (val_main_v37 (F := Ideal) x0 x1 x2 x3 x4 (ix2 i 0) * (Ideal.ofBits .f32 0xBF000000#32
      * Ideal.div (val_main_v13 (F := Ideal) x0 (ix2 i 0)) (val_main_v12 (F := Ideal) x0 (ix2 i 0)))) (Ideal.ofBits .f32 0x44000000#32) = _
    rw [h, v13_apply, v12_apply, c512, cNegHalf]
  have hc (k : Fin 512) : val_main_v48 (F := Ideal) x0 x1 x2 x3 x4 (ix2 i k)
      = lnChain 512 (ctr 512 (rowOf x0 i)) (aRow (rowOf x0 i) x3 x4 (rowOf (up x1 x2) i)) k := by
    show val_main_v34 (F := Ideal) x0 x1 x2 x3 x4 (ix2 i k) * val_main_v38 (F := Ideal) x0 (ix2 i k)
      + val_main_v5 (F := Ideal) x0 (ix2 i k) * val_main_v44 (F := Ideal) x0 x1 x2 x3 x4 (ix2 i k)
      + val_main_v44 (F := Ideal) x0 x1 x2 x3 x4 (ix2 i k) * val_main_v5 (F := Ideal) x0 (ix2 i k) = _
    have h38 : val_main_v38 (F := Ideal) x0 (ix2 i k) = val_main_v13 (F := Ideal) x0 (ix2 i 0) := hbCol _ _ i k
    rw [ha, h44, v5_apply, h38, v13_apply]
    rfl
  have h55 : val_main_v55 (F := Ideal) x0 x1 x2 x3 x4 (ix2 i j)
      = Ideal.div (∑ k, -lnChain 512 (ctr 512 (rowOf x0 i)) (aRow (rowOf x0 i) x3 x4 (rowOf (up x1 x2) i)) k) ((512 : ℝ) : EReal) := by
    refine (hbVec _ _ i j).trans ((hsumCols _ _ _ (by decide) i).trans ?_)
    rw [Fin.sum_univ_one]
    have h : val_main_v51 (F := Ideal) x0 x1 x2 x3 x4 (ix2 i 0) = ∑ k, -lnChain 512 (ctr 512 (rowOf x0 i)) (aRow (rowOf x0 i) x3 x4 (rowOf (up x1 x2) i)) k :=
      (castCol _ _ i 0).trans ((hsumCols _ _ _ (by decide) i).trans (Finset.sum_congr rfl fun k _ => congrArg (- ·) (hc k)))
    show Ideal.div (val_main_v51 (F := Ideal) x0 x1 x2 x3 x4 (ix2 i 0)) (Ideal.ofBits .f32 0x44000000#32) = _
    rw [h, c512]
  refine (congrArg₂ (· + ·) (hc j) h55).trans ?_
  unfold dRow lnRow
  refine (ln_row (c := 512) (x := ctr 512 (rowOf x0 i)) (a := aRow (rowOf x0 i) x3 x4 (rowOf (up x1 x2) i)) (by norm_num) (fun k => IsReal.ctr (by norm_num) (fun k => h0 _) k) (fun k => ?_)
    (centred (by norm_num) (by norm_num) fun k => h0 _) j).symm
  obtain ⟨hz, hd⟩ := v27_real x0 x1 x2 x3 x4 h0 h1 h2 h3 h4 i k
  exact (hz.siluBack hd).mul (h3 _)

theorem v32_apply (h0 : ∀ i, IsReal (x0 i)) (h1 : ∀ i, IsReal (x1 i)) (h2 : ∀ i, IsReal (x2 i)) (h3 : ∀ i, IsReal (x3 i)) (h4 : ∀ i, IsReal (x4 i))
    (a : Fin 1) (j : Fin 512) : val_main_v32 (F := Ideal) x0 x1 x2 x3 x4 (ix2 a j)
      = ∑ i : Fin 4096, lnRow 512 (rowOf x0 i) j * siluBack (zRow (rowOf x0 i) x3 x4 j) (up x1 x2 (ix2 i j)) :=
  (castRow _ _ a j).trans ((hsumRows _ _ _ (by decide) j).trans (Finset.sum_congr rfl fun i _ =>
    congrArg₂ (· * ·) (v18_apply x0 i j) (v27_apply x0 x1 x2 x3 x4 h0 h1 h2 h3 h4 i j)))

theorem v29_apply (h0 : ∀ i, IsReal (x0 i)) (h1 : ∀ i, IsReal (x1 i)) (h2 : ∀ i, IsReal (x2 i)) (h3 : ∀ i, IsReal (x3 i)) (h4 : ∀ i, IsReal (x4 i))
    (a : Fin 1) (j : Fin 512) : val_main_v29 (F := Ideal) x0 x1 x2 x3 x4 (ix2 a j)
      = ∑ i : Fin 4096, siluBack (zRow (rowOf x0 i) x3 x4 j) (up x1 x2 (ix2 i j)) :=
  (castRow _ _ a j).trans ((hsumRows _ _ _ (by decide) j).trans (Finset.sum_congr rfl fun i _ => v27_apply x0 x1 x2 x3 x4 h0 h1 h2 h3 h4 i j))

end Cert.ReferenceLnIdeal.Hand

namespace Cert.KernelLnIdeal.Hand

open Cert.KernelLnIdeal Cert.KernelLnIdeal.Gen Cert.KernelLnIdeal.Value Cert.ReferenceLnIdeal.Hand

variable (m : (ℓ : Loc nD τ sig) → Buf (Elt Ideal) ℓ) (ρ : Dev nD → PrngReg)

/-- What a point of case A leaves in the outputs. -/
theorem outs_A (c : Dev nD) (t : Fin cfg0.N) (h0 : t.val % 16 = 0) :
    outsAt0 m c t.val t.isLt = (k0_pay9 (F := Ideal) (iblk m c 3 t) (k0_pay2 (F := Ideal) (iblk m c 0 t)) (k0_pay3 (F := Ideal) (iblk m c 0 t)) (k0_pay4 (F := Ideal) (iblk m c 0 t) (iblk m c 3 t) (iblk m c 4 t)) (k0_pay6 (F := Ideal) (iblk m c 0 t) (iblk m c 1 t) (iblk m c 2 t) (iblk m c 3 t) (iblk m c 4 t)) (k0_pay7 (F := Ideal) (iblk m c 0 t) (iblk m c 3 t) (iblk m c 4 t)),
      k0_pay12 (F := Ideal) (k0_pay3 (F := Ideal) (iblk m c 0 t)) (k0_pay4 (F := Ideal) (iblk m c 0 t) (iblk m c 3 t) (iblk m c 4 t)) (k0_pay6 (F := Ideal) (iblk m c 0 t) (iblk m c 1 t) (iblk m c 2 t) (iblk m c 3 t) (iblk m c 4 t)) (k0_pay7 (F := Ideal) (iblk m c 0 t) (iblk m c 3 t) (iblk m c 4 t)) (k0_pay10 (F := Ideal)),
      k0_pay13 (F := Ideal) (k0_pay4 (F := Ideal) (iblk m c 0 t) (iblk m c 3 t) (iblk m c 4 t)) (k0_pay6 (F := Ideal) (iblk m c 0 t) (iblk m c 1 t) (iblk m c 2 t) (iblk m c 3 t) (iblk m c 4 t)) (k0_pay7 (F := Ideal) (iblk m c 0 t) (iblk m c 3 t) (iblk m c 4 t)) (k0_pay11 (F := Ideal))) := by
  rw [outsAt0_A m c t h0]
  refine Prod.ext ?_ (Prod.ext ?_ ?_)
  · dsimp only
    unfold out0_A_5
    rw [View.read_writes_eq_canon _ _ _ (fun _ => cover0_A_5 ..)]
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread,
      View.ld_unit_zero (S := S256x512) hz2, View.ld_unit_zero (S := S256x1024) hz2, View.ld_unit_zero (S := S1024x1024) hz2, View.ld_unit_zero (S := S1x512) hz2]
  · dsimp only
    unfold out0_A_6
    rw [View.read_writes_eq_canon _ _ _ (fun _ => cover0_A_6 ..)]
    unfold kernelRun0_A
    dsimp only
    sl_unfold_words
    rw [View.canon_cons_unit_zero (S := S1x512) hz2, View.readCov_unit_zero (S := S1x512) _ hz2]
    simp only [View.readAt_eq_ld, (hs0_0 t).read_unread, (hs0_1 t).read_unread, (hs0_2 t).read_unread, (hs0_3 t).read_unread, (hs0_4 t).read_unread,
      View.ld_unit_zero (S := S256x512) hz2, View.ld_unit_zero (S := S256x1024) hz2, View.ld_unit_zero (S := S1024x1024) hz2, View.ld_unit_zero (S := S1x512) hz2]
  · dsimp only
    unfold out0_A_7
    rw [View.read_writes_eq_canon _ _ _ (fun _ => cover0_A_7 ..)]
    unfold kernelRun0_A
    dsimp only
    sl_unfold_words
    rw [View.canon_cons_unit_zero (S := S1x512) hz2, View.readCov_unit_zero (S := S1x512) _ hz2]
    simp only [View.readAt_eq_ld, (hs0_0 t).read_unread, (hs0_1 t).read_unread, (hs0_2 t).read_unread, (hs0_3 t).read_unread, (hs0_4 t).read_unread,
      View.ld_unit_zero (S := S256x512) hz2, View.ld_unit_zero (S := S256x1024) hz2, View.ld_unit_zero (S := S1024x1024) hz2, View.ld_unit_zero (S := S1x512) hz2]

/-- What a point of case B leaves in the outputs. -/
theorem outs_B (c : Dev nD) (t : Fin cfg0.N) (h0 : ¬t.val % 16 = 0) :
    outsAt0 m c t.val t.isLt = (k0_pay9 (F := Ideal) (iblk m c 3 t) (k0_pay2 (F := Ideal) (iblk m c 0 t)) (k0_pay3 (F := Ideal) (iblk m c 0 t)) (k0_pay4 (F := Ideal) (iblk m c 0 t) (iblk m c 3 t) (iblk m c 4 t)) (k0_pay6 (F := Ideal) (iblk m c 0 t) (iblk m c 1 t) (iblk m c 2 t) (iblk m c 3 t) (iblk m c 4 t)) (k0_pay7 (F := Ideal) (iblk m c 0 t) (iblk m c 3 t) (iblk m c 4 t)),
      k0_pay12 (F := Ideal) (k0_pay3 (F := Ideal) (iblk m c 0 t)) (k0_pay4 (F := Ideal) (iblk m c 0 t) (iblk m c 3 t) (iblk m c 4 t)) (k0_pay6 (F := Ideal) (iblk m c 0 t) (iblk m c 1 t) (iblk m c 2 t) (iblk m c 3 t) (iblk m c 4 t)) (k0_pay7 (F := Ideal) (iblk m c 0 t) (iblk m c 3 t) (iblk m c 4 t)) (outsAt0 m c (t.val - 1) (by have := t.isLt; omega)).2.1,
      k0_pay13 (F := Ideal) (k0_pay4 (F := Ideal) (iblk m c 0 t) (iblk m c 3 t) (iblk m c 4 t)) (k0_pay6 (F := Ideal) (iblk m c 0 t) (iblk m c 1 t) (iblk m c 2 t) (iblk m c 3 t) (iblk m c 4 t)) (k0_pay7 (F := Ideal) (iblk m c 0 t) (iblk m c 3 t) (iblk m c 4 t)) (outsAt0 m c (t.val - 1) (by have := t.isLt; omega)).2.2) := by
  rw [outsAt0_B m c t h0]
  refine Prod.ext ?_ (Prod.ext ?_ ?_)
  · dsimp only
    unfold out0_B_5
    rw [View.read_writes_eq_canon _ _ _ (fun _ => cover0_B_5 ..)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread,
      View.ld_unit_zero (S := S256x512) hz2, View.ld_unit_zero (S := S256x1024) hz2, View.ld_unit_zero (S := S1024x1024) hz2, View.ld_unit_zero (S := S1x512) hz2]
  · dsimp only
    unfold out0_B_6
    rw [View.read_writes_eq_canon _ _ _ (fun _ => cover0_B_6 ..)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_6 t).read_unread,
      View.ld_unit_zero (S := S256x512) hz2, View.ld_unit_zero (S := S256x1024) hz2, View.ld_unit_zero (S := S1024x1024) hz2, View.ld_unit_zero (S := S1x512) hz2]
  · dsimp only
    unfold out0_B_7
    rw [View.read_writes_eq_canon _ _ _ (fun _ => cover0_B_7 ..)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_7 t).read_unread,
      View.ld_unit_zero (S := S256x512) hz2, View.ld_unit_zero (S := S256x1024) hz2, View.ld_unit_zero (S := S1024x1024) hz2, View.ld_unit_zero (S := S1x512) hz2]

theorem index0 : ∀ t : Fin cfg0.N, (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = t.val ∧ win0_5.index t 1 = 0)
    ∧ (win0_6.index t 0 = 0 ∧ win0_6.index t 1 = 0)
    ∧ (win0_7.index t 0 = 0 ∧ win0_7.index t 1 = 0) :=
  (by decide +kernel : ∀ t : Fin grid0.N, (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = t.val ∧ win0_5.index t 1 = 0)
    ∧ (win0_6.index t 0 = 0 ∧ win0_6.index t 1 = 0)
    ∧ (win0_7.index t 0 = 0 ∧ win0_7.index t 1 = 0))

theorem rows : 4096 = cfg0.N * 256 := by
  show 4096 = grid0.N * 256
  rw [Gen.N_0]

section
variable (c : Dev nD)
/-- The convolution's result. -/
abbrev X : FVec Ideal S4096x512 .f32 := m ((c : Thread nD τ).loc main_arg0)
/-- The cotangent of the layer. -/
abbrev U : FVec Ideal S4096x1024 .f32 := m ((c : Thread nD τ).loc main_arg1)
/-- The output projection. -/
abbrev W : FVec Ideal S1024x1024 .f32 := m ((c : Thread nD τ).loc main_arg2)
/-- The norm's gain. -/
abbrev G : FVec Ideal S1x512 .f32 := m ((c : Thread nD τ).loc main_arg3)
/-- The norm's shift. -/
abbrev H : FVec Ideal S1x512 .f32 := m ((c : Thread nD τ).loc main_arg4)
end

theorem V_v0 (c : Dev nD) : (V m c main_v0 : S4096x1024.Idx → EReal) = U m c := by
  unfold V
  after_results
  rfl

theorem V_v1 (c : Dev nD) : (V m c main_v1 : S1024x1024.Idx → EReal) = W m c := by
  unfold V
  after_results
  rfl

theorem iblk0 (c : Dev nD) (t : Fin cfg0.N) (a : Fin 256) (b : Fin 512) : (iblk m c 0 t : S256x512.Idx → EReal) (ix2 a b) = X m c (ix2 (row t a rows) b) := by
  unfold iblk
  rw [View.read_apply]
  refine Eq.trans ?_ (congrFun (V_main_arg0 m c) _)
  have h := (index0 t).1
  refine congrArg (V m c main_arg0) (ixEq ?_ ?_)
  · show win0_0.index t 0 * 256 + 1 * a.val = t.val * 256 + a.val
    rw [h.1]; omega
  · show win0_0.index t 1 * 512 + 1 * b.val = b.val
    rw [h.2]; omega

theorem iblk1 (c : Dev nD) (t : Fin cfg0.N) (a : Fin 256) (b : Fin 1024) : (iblk m c 1 t : S256x1024.Idx → EReal) (ix2 a b) = U m c (ix2 (row t a rows) b) := by
  unfold iblk
  rw [View.read_apply]
  refine Eq.trans ?_ (congrFun (V_v0 m c) _)
  have h := (index0 t).2.1
  refine congrArg (V m c main_v0) (ixEq ?_ ?_)
  · show win0_1.index t 0 * 256 + 1 * a.val = t.val * 256 + a.val
    rw [h.1]; omega
  · show win0_1.index t 1 * 1024 + 1 * b.val = b.val
    rw [h.2]; omega

theorem iblk2 (c : Dev nD) (t : Fin cfg0.N) (a : Fin 1024) (b : Fin 1024) : (iblk m c 2 t : S1024x1024.Idx → EReal) (ix2 a b) = W m c (ix2 a b) := by
  unfold iblk
  rw [View.read_apply]
  refine Eq.trans ?_ (congrFun (V_v1 m c) _)
  have h := (index0 t).2.2.1
  refine congrArg (V m c main_v1) (ixEq ?_ ?_)
  · show win0_2.index t 0 * 1024 + 1 * a.val = a.val
    rw [h.1]; omega
  · show win0_2.index t 1 * 1024 + 1 * b.val = b.val
    rw [h.2]; omega

theorem iblk3 (c : Dev nD) (t : Fin cfg0.N) (a : Fin 1) (b : Fin 512) : (iblk m c 3 t : S1x512.Idx → EReal) (ix2 a b) = G m c (ix2 a b) := by
  unfold iblk
  rw [View.read_apply]
  refine Eq.trans ?_ (congrFun (V_main_arg3 m c) _)
  have h := (index0 t).2.2.2.1
  refine congrArg (V m c main_arg3) (ixEq ?_ ?_)
  · show win0_3.index t 0 * 1 + 1 * a.val = a.val
    rw [h.1]; omega
  · show win0_3.index t 1 * 512 + 1 * b.val = b.val
    rw [h.2]; omega

theorem iblk4 (c : Dev nD) (t : Fin cfg0.N) (a : Fin 1) (b : Fin 512) : (iblk m c 4 t : S1x512.Idx → EReal) (ix2 a b) = H m c (ix2 a b) := by
  unfold iblk
  rw [View.read_apply]
  refine Eq.trans ?_ (congrFun (V_main_arg4 m c) _)
  have h := (index0 t).2.2.2.2.1
  refine congrArg (V m c main_arg4) (ixEq ?_ ?_)
  · show win0_4.index t 0 * 1 + 1 * a.val = a.val
    rw [h.1]; omega
  · show win0_4.index t 1 * 512 + 1 * b.val = b.val
    rw [h.2]; omega

section
variable (v0 : Vec Ideal S256x512 .f32) (v1 : Vec Ideal S256x1024 .bf16) (v3 : Vec Ideal S1024x1024 .bf16) (v5 v6 : Vec Ideal S1x512 .f32) (a : Fin 256) (j : Fin 512)

theorem pay1_apply : k0_pay1 (F := Ideal) v0 (ix2 a j) = ctr 512 (rowOf v0 a) j := by
  unfold k0_pay1
  refine (congrArg (v0 (ix2 a j) - ·) ((bcCol _ _ a j).trans (congrArg (fun p => Ideal.div p (Ideal.ofBits .f32 0x44000000#32))
    ((castCol _ _ a 0).trans (sumCols _ _ _ _ _ a))))).trans ?_
  rw [c512]
  rfl

theorem pay2_apply : k0_pay2 (F := Ideal) v0 (ix2 a 0) = Ideal.rsqrt (meanSq 512 (ctr 512 (rowOf v0 a))) := by
  unfold k0_pay2
  refine (congrArg (fun p => Ideal.rsqrt (Ideal.div p (Ideal.ofBits .f32 0x44000000#32) + Ideal.ofBits .f32 0x358637BD#32))
    ((castCol _ _ a 0).trans (sumCols _ _ _ _ _ a))).trans ?_
  rw [c512]
  show Ideal.rsqrt (Ideal.div (∑ k, k0_pay1 (F := Ideal) v0 (ix2 a k) * k0_pay1 (F := Ideal) v0 (ix2 a k)) _ + _) = _
  simp only [pay1_apply]
  rfl

theorem pay3_apply : k0_pay3 (F := Ideal) v0 (ix2 a j) = lnRow 512 (rowOf v0 a) j := by
  unfold k0_pay3
  exact congrArg₂ (· * ·) (pay1_apply v0 a j) ((bcCol _ _ a j).trans (pay2_apply v0 a))

theorem pay4_apply : k0_pay4 (F := Ideal) v0 v5 v6 (ix2 a j) = zRow (rowOf v0 a) v5 v6 j := by
  unfold k0_pay4
  exact congrArg₂ (· + ·) (congrArg₂ (· * ·) (pay3_apply v0 a j) (bcRow _ _ a j)) (bcRow _ _ a j)

theorem pay5_apply : k0_pay5 (F := Ideal) v0 v5 v6 (ix2 a j) = sg (zRow (rowOf v0 a) v5 v6 j) := by
  unfold k0_pay5
  show Ideal.div cOne (cOne + Ideal.exp (Ideal.ofBits .f32 0x00000000#32 - k0_pay4 (F := Ideal) v0 v5 v6 (ix2 a j))) = _
  rw [zero_bits_sub, pay4_apply]
  rfl

/-- The cotangent of the gate's result, on a tile. -/
def upT (j : Fin 512) : EReal := ∑ k : Fin 1024, v1 (ix2 a k) * v3 (ix2 ⟨512 + j.val, by omega⟩ k)

theorem pay8_apply : k0_pay8 (F := Ideal) (k0_pay4 (F := Ideal) v0 v5 v6) (k0_pay6 (F := Ideal) v0 v1 v3 v5 v6) (k0_pay7 (F := Ideal) v0 v5 v6) (ix2 a j)
    = siluBack (zRow (rowOf v0 a) v5 v6 j) (upT v1 v3 a j) := by
  unfold k0_pay8
  have h6 : k0_pay6 (F := Ideal) v0 v1 v3 v5 v6 (ix2 a j) = upT v1 v3 a j * sg (zRow (rowOf v0 a) v5 v6 j) := by
    unfold k0_pay6
    rw [shapeCast_self, shapeCast_self]
    refine congrArg₂ (· * ·) ((mm11 (φ₁ := .bf16) (φ₂ := .bf16) _ none _ _ a j).trans (Finset.sum_congr rfl fun k _ => congrArg (v1 (ix2 a k) * ·) ?_))
      (pay5_apply v0 v5 v6 a j)
    exact extractStridedSlice_apply _ _ slices_S1024x1024_o512_0_S512x1024 _ (ix2 (⟨512 + j.val, by omega⟩ : Fin 1024) k) fun x => match x with
      | ⟨0, _⟩ => rfl
      | ⟨1, _⟩ => (Nat.zero_add k.val).symm
  have h7 : k0_pay7 (F := Ideal) v0 v5 v6 (ix2 a j) = cOne - sg (zRow (rowOf v0 a) v5 v6 j) := by
    unfold k0_pay7
    exact congrArg (cOne - ·) (pay5_apply v0 v5 v6 a j)
  exact congrArg₂ (· * ·) h6 (congrArg (cOne + ·) (congrArg₂ (· * ·) (pay4_apply v0 v5 v6 a j) h7))

theorem pay9_apply : k0_pay9 (F := Ideal) v5 (k0_pay2 (F := Ideal) v0) (k0_pay3 (F := Ideal) v0) (k0_pay4 (F := Ideal) v0 v5 v6) (k0_pay6 (F := Ideal) v0 v1 v3 v5 v6) (k0_pay7 (F := Ideal) v0 v5 v6) (ix2 a j)
    = dRow (rowOf v0 a) v5 v6 (upT v1 v3 a) j := by
  unfold k0_pay9
  have ha (k : Fin 512) : mulf (k0_pay8 (F := Ideal) (k0_pay4 (F := Ideal) v0 v5 v6) (k0_pay6 (F := Ideal) v0 v1 v3 v5 v6) (k0_pay7 (F := Ideal) v0 v5 v6)) (broadcastTo S256x512 v5 broadcasts_S1x512_S256x512) (ix2 a k)
      = aRow (rowOf v0 a) v5 v6 (upT v1 v3 a) k := congrArg₂ (· * ·) (pay8_apply v0 v1 v3 v5 v6 a k) (bcRow _ _ a k)
  refine congrArg₂ (· * ·) ((bcCol _ _ a j).trans (pay2_apply v0 a)) (congrArg₂ (· - ·) (congrArg₂ (· - ·) (ha j) ?_)
    (congrArg₂ (· * ·) (pay3_apply v0 a j) ?_))
  · refine (bcCol _ _ a j).trans ((congrArg (fun p => Ideal.div p (Ideal.ofBits .f32 0x44000000#32))
      ((castCol _ _ a 0).trans ((sumCols _ _ _ _ _ a).trans (Finset.sum_congr rfl fun k _ => ha k)))).trans ?_)
    rw [c512]
  · refine (bcCol _ _ a j).trans ((congrArg (fun p => Ideal.div p (Ideal.ofBits .f32 0x44000000#32))
      ((castCol _ _ a 0).trans ((sumCols _ _ _ _ _ a).trans (Finset.sum_congr rfl fun k _ => congrArg₂ (· * ·) (ha k) (pay3_apply v0 a k))))).trans ?_)
    rw [c512]

theorem pay12_apply (x : Vec Ideal S1x512 .f32) (r : Fin 1) : k0_pay12 (F := Ideal) (k0_pay3 (F := Ideal) v0) (k0_pay4 (F := Ideal) v0 v5 v6) (k0_pay6 (F := Ideal) v0 v1 v3 v5 v6) (k0_pay7 (F := Ideal) v0 v5 v6) x (ix2 r j)
    = x (ix2 r j) + ∑ i : Fin 256, siluBack (zRow (rowOf v0 i) v5 v6 j) (upT v1 v3 i j) * lnRow 512 (rowOf v0 i) j := by
  unfold k0_pay12
  rw [shapeCast_self]
  exact congrArg (x (ix2 r j) + ·) ((castRow _ _ r j).trans ((sumRows _ _ _ _ _ j).trans (Finset.sum_congr rfl fun i _ =>
    congrArg₂ (· * ·) (pay8_apply v0 v1 v3 v5 v6 i j) (pay3_apply v0 i j))))

theorem pay13_apply (x : Vec Ideal S1x512 .f32) (r : Fin 1) : k0_pay13 (F := Ideal) (k0_pay4 (F := Ideal) v0 v5 v6) (k0_pay6 (F := Ideal) v0 v1 v3 v5 v6) (k0_pay7 (F := Ideal) v0 v5 v6) x (ix2 r j)
    = x (ix2 r j) + ∑ i : Fin 256, siluBack (zRow (rowOf v0 i) v5 v6 j) (upT v1 v3 i j) := by
  unfold k0_pay13
  rw [shapeCast_self]
  exact congrArg (x (ix2 r j) + ·) ((castRow _ _ r j).trans ((sumRows _ _ _ _ _ j).trans (Finset.sum_congr rfl fun i _ =>
    pay8_apply v0 v1 v3 v5 v6 i j)))

end

/-- The precondition: reals in every argument. -/
structure Fin4 (c : Dev nD) : Prop where
  x : ∀ i, IsReal (X m c i)
  u : ∀ i, IsReal (U m c i)
  w : ∀ i, IsReal (W m c i)
  g : ∀ i, IsReal (G m c i)
  h : ∀ i, IsReal (H m c i)

theorem iblk3_eq (c : Dev nD) (t : Fin cfg0.N) : (iblk m c 3 t : S1x512.Idx → EReal) = G m c := funext fun i => by
  rw [eq_ix2 i]
  exact iblk3 m c t _ _

theorem iblk4_eq (c : Dev nD) (t : Fin cfg0.N) : (iblk m c 4 t : S1x512.Idx → EReal) = H m c := funext fun i => by
  rw [eq_ix2 i]
  exact iblk4 m c t _ _

theorem row_iblk (c : Dev nD) (t : Fin cfg0.N) (a : Fin 256) : rowOf (iblk m c 0 t) a = rowOf (X m c) (row t a rows) := funext fun k => iblk0 m c t a k

theorem upT_iblk (c : Dev nD) (t : Fin cfg0.N) (a : Fin 256) (j : Fin 512) : upT (iblk m c 1 t) (iblk m c 2 t) a j = up (U m c) (W m c) (ix2 (row t a rows) j) := by
  rw [up_apply]
  exact Finset.sum_congr rfl fun k _ => congrArg₂ (· * ·) (iblk1 m c t a k) (iblk2 m c t _ k)

theorem pay9_iblk (c : Dev nD) (hp : Fin4 m c) (t : Fin cfg0.N) (a : Fin 256) (j : Fin 512) :
    k0_pay9 (F := Ideal) (iblk m c 3 t) (k0_pay2 (F := Ideal) (iblk m c 0 t)) (k0_pay3 (F := Ideal) (iblk m c 0 t)) (k0_pay4 (F := Ideal) (iblk m c 0 t) (iblk m c 3 t) (iblk m c 4 t)) (k0_pay6 (F := Ideal) (iblk m c 0 t) (iblk m c 1 t) (iblk m c 2 t) (iblk m c 3 t) (iblk m c 4 t)) (k0_pay7 (F := Ideal) (iblk m c 0 t) (iblk m c 3 t) (iblk m c 4 t)) (ix2 a j)
      = Cert.ReferenceLnIdeal.Read.val_main_v56 (F := Ideal) (X m c) (U m c) (W m c) (G m c) (H m c) (ix2 (row t a rows) j) := by
  refine (pay9_apply _ _ _ _ _ a j).trans (Eq.trans ?_ (v56_apply _ _ _ _ _ hp.x hp.u hp.w hp.g hp.h _ j).symm)
  rw [row_iblk, iblk3_eq, iblk4_eq, show upT (iblk m c 1 t) (iblk m c 2 t) a = rowOf (up (U m c) (W m c)) (row t a rows) from funext (upT_iblk m c t a)]

/-- A tile's part of the gradient of the gain. -/
def part6 (c : Dev nD) (t : Fin cfg0.N) (j : S1x512.Idx) : EReal :=
  ∑ i : Fin 256, siluBack (zRow (rowOf (iblk m c 0 t) i) (iblk m c 3 t) (iblk m c 4 t) (j 1)) (upT (iblk m c 1 t) (iblk m c 2 t) i (j 1)) * lnRow 512 (rowOf (iblk m c 0 t) i) (j 1)

/-- A tile's part of the gradient of the shift. -/
def part7 (c : Dev nD) (t : Fin cfg0.N) (j : S1x512.Idx) : EReal :=
  ∑ i : Fin 256, siluBack (zRow (rowOf (iblk m c 0 t) i) (iblk m c 3 t) (iblk m c 4 t) (j 1)) (upT (iblk m c 1 t) (iblk m c 2 t) i (j 1))

theorem result5 (c : Dev nD) (hp : Fin4 m c) (i : Fin 4096) (j : Fin 512) : ((dats m 0 c).arrAt 5 cfg0.N : S4096x512.Idx → EReal) (ix2 i j)
    = Cert.ReferenceLnIdeal.Read.val_main_v56 (F := Ideal) (X m c) (U m c) (W m c) (G m c) (H m c) (ix2 i j) := by
  obtain ⟨t, a, rfl⟩ := row_surj rows i
  have hb := congrFun (blocks5 m c t (flush0_5 t)) (ix2 a j)
  rw [View.read_apply, flushed5] at hb
  have h := (index0 t).2.2.2.2.2.1
  have he : ((cfg0.win 5).blk t).view.emb (ix2 a j) = (ix2 (row t a rows) j : S4096x512.Idx) := by
    refine ixEq ?_ ?_
    · show win0_5.index t 0 * 256 + 1 * a.val = t.val * 256 + a.val
      rw [h.1]; omega
    · show win0_5.index t 1 * 512 + 1 * j.val = j.val
      rw [h.2]; omega
  rw [he] at hb
  refine hb.trans (Eq.trans (congrFun (?_ : (outsAt0 m c t.val t.isLt).1 = _) (ix2 a j)) (pay9_iblk m c hp t a j))
  by_cases h0 : t.val % 16 = 0
  · rw [outs_A m c t h0]
  · rw [outs_B m c t h0]

/-- This running total after a point. -/
theorem total6 (c : Dev nD) (a : Fin 1) (j : Fin 512) (n : ℕ) (hn : n < cfg0.N) : (outsAt0 m c n hn).2.1 (ix2 a j)
    = ∑ k : Fin (n + 1), part6 m c ⟨k, by omega⟩ (ix2 a j) := by
  refine total (fun n hn => (outsAt0 m c n hn).2.1 (ix2 a j)) (fun t => part6 m c t (ix2 a j))
    (fun h => ?_) (fun n h => ?_) n hn
  · show (outsAt0 m c (⟨0, h⟩ : Fin cfg0.N).val h).2.1 (ix2 a j) = _
    rw [outs_A m c ⟨0, h⟩ rfl]
    refine (pay12_apply _ _ _ _ _ j _ a).trans ?_
    show Ideal.ofBits .f32 0x00000000#32 + _ = _
    rw [Ideal.ofBits_zero_f32]
    exact zero_add _
  · have hN : cfg0.N = 16 := Gen.N_0
    show (outsAt0 m c (⟨n + 1, h⟩ : Fin cfg0.N).val h).2.1 (ix2 a j) = _
    rw [outs_B m c ⟨n + 1, h⟩ (by show ¬(n + 1) % 16 = 0; omega)]
    exact pay12_apply _ _ _ _ _ j _ a

/-- The one write-back of this total, after the last point. -/
theorem final6 (c : Dev nD) (hl : 15 < cfg0.N) : (dats m 0 c).arrAt 6 cfg0.N = (outsAt0 m c 15 hl).2.1 := by
  have hN : cfg0.N = 16 := Gen.N_0
  have hz (t : Fin cfg0.N) : (fun a => win0_6.index t a * main_v2_1.ty.shape.size a) = fun _ => 0 := funext fun a => by
    have h := (index0 t).2.2.2.2.2.2.1
    match a with
    | ⟨0, _⟩ => show win0_6.index t 0 * _ = 0; rw [h.1, Nat.zero_mul]
    | ⟨1, _⟩ => show win0_6.index t 1 * _ = 0; rw [h.2, Nat.zero_mul]
  refine (dats m 0 c).arrAt_eq_of_cover 6 (outsAt0 m c 15 hl).2.1 (fun t hf => ?_) fun i => ⟨⟨15, hl⟩, (flush0_6 _).mpr rfl, ?_⟩
  · obtain rfl : t = ⟨15, hl⟩ := Fin.ext (by
      have h7 := (flush0_6 t).mp hf
      have ht : t.val < 16 := lt_of_lt_of_eq t.isLt hN
      show t.val = 15
      omega)
    rw [flushed6]
    dsimp only
    generalize outsAt0 m c 15 hl = y
    exact (Memref.read_access_unit_zero (Elt Ideal) main_v2_1 (hz _) (fun a => by rw [congrFun (hz _) a]; simp) _).symm
  · show i ∈ ((View.whole main_v2_1).slice (win0_6.rect ⟨15, hl⟩)).set
    rw [View.set_slice_whole, Rect.mem_set_unit]
    intro a
    have h := (index0 ⟨15, hl⟩).2.2.2.2.2.2.1
    match a with
    | ⟨0, _⟩ =>
      show win0_6.index ⟨15, hl⟩ 0 * 1 ≤ (i 0 : Nat) ∧ (i 0 : Nat) < win0_6.index ⟨15, hl⟩ 0 * 1 + 1
      have : (i 0 : Nat) < 1 := (i 0).isLt
      rw [h.1]; omega
    | ⟨1, _⟩ =>
      show win0_6.index ⟨15, hl⟩ 1 * 512 ≤ (i 1 : Nat) ∧ (i 1 : Nat) < win0_6.index ⟨15, hl⟩ 1 * 512 + 512
      have : (i 1 : Nat) < 512 := (i 1).isLt
      rw [h.2]; omega

theorem result6 (c : Dev nD) (hp : Fin4 m c) (a : Fin 1) (j : Fin 512) : ((dats m 0 c).arrAt 6 cfg0.N : S1x512.Idx → EReal) (ix2 a j)
    = Cert.ReferenceLnIdeal.Read.val_main_v32 (F := Ideal) (X m c) (U m c) (W m c) (G m c) (H m c) (ix2 a j) := by
  have hN : cfg0.N = 15 + 1 := Gen.N_0
  rw [final6 m c (by omega)]
  refine (total6 m c a j 15 (by omega)).trans (Eq.trans ?_ (v32_apply _ _ _ _ _ hp.x hp.u hp.w hp.g hp.h a j).symm)
  rw [sum_row rows]
  refine (sum_cast hN (fun t => part6 m c t (ix2 a j)) _ fun k => rfl).symm.trans (Finset.sum_congr rfl fun t _ => Finset.sum_congr rfl fun b _ => ?_)
  rw [row_iblk, iblk3_eq, iblk4_eq]
  exact (congrArg (siluBack _ · * _) (upT_iblk m c t b j)).trans (mul_comm _ _)

/-- This running total after a point. -/
theorem total7 (c : Dev nD) (a : Fin 1) (j : Fin 512) (n : ℕ) (hn : n < cfg0.N) : (outsAt0 m c n hn).2.2 (ix2 a j)
    = ∑ k : Fin (n + 1), part7 m c ⟨k, by omega⟩ (ix2 a j) := by
  refine total (fun n hn => (outsAt0 m c n hn).2.2 (ix2 a j)) (fun t => part7 m c t (ix2 a j))
    (fun h => ?_) (fun n h => ?_) n hn
  · show (outsAt0 m c (⟨0, h⟩ : Fin cfg0.N).val h).2.2 (ix2 a j) = _
    rw [outs_A m c ⟨0, h⟩ rfl]
    refine (pay13_apply _ _ _ _ _ j _ a).trans ?_
    show Ideal.ofBits .f32 0x00000000#32 + _ = _
    rw [Ideal.ofBits_zero_f32]
    exact zero_add _
  · have hN : cfg0.N = 16 := Gen.N_0
    show (outsAt0 m c (⟨n + 1, h⟩ : Fin cfg0.N).val h).2.2 (ix2 a j) = _
    rw [outs_B m c ⟨n + 1, h⟩ (by show ¬(n + 1) % 16 = 0; omega)]
    exact pay13_apply _ _ _ _ _ j _ a

/-- The one write-back of this total, after the last point. -/
theorem final7 (c : Dev nD) (hl : 15 < cfg0.N) : (dats m 0 c).arrAt 7 cfg0.N = (outsAt0 m c 15 hl).2.2 := by
  have hN : cfg0.N = 16 := Gen.N_0
  have hz (t : Fin cfg0.N) : (fun a => win0_7.index t a * main_v2_2.ty.shape.size a) = fun _ => 0 := funext fun a => by
    have h := (index0 t).2.2.2.2.2.2.2
    match a with
    | ⟨0, _⟩ => show win0_7.index t 0 * _ = 0; rw [h.1, Nat.zero_mul]
    | ⟨1, _⟩ => show win0_7.index t 1 * _ = 0; rw [h.2, Nat.zero_mul]
  refine (dats m 0 c).arrAt_eq_of_cover 7 (outsAt0 m c 15 hl).2.2 (fun t hf => ?_) fun i => ⟨⟨15, hl⟩, (flush0_7 _).mpr rfl, ?_⟩
  · obtain rfl : t = ⟨15, hl⟩ := Fin.ext (by
      have h7 := (flush0_7 t).mp hf
      have ht : t.val < 16 := lt_of_lt_of_eq t.isLt hN
      show t.val = 15
      omega)
    rw [flushed7]
    dsimp only
    generalize outsAt0 m c 15 hl = y
    exact (Memref.read_access_unit_zero (Elt Ideal) main_v2_2 (hz _) (fun a => by rw [congrFun (hz _) a]; simp) _).symm
  · show i ∈ ((View.whole main_v2_2).slice (win0_7.rect ⟨15, hl⟩)).set
    rw [View.set_slice_whole, Rect.mem_set_unit]
    intro a
    have h := (index0 ⟨15, hl⟩).2.2.2.2.2.2.2
    match a with
    | ⟨0, _⟩ =>
      show win0_7.index ⟨15, hl⟩ 0 * 1 ≤ (i 0 : Nat) ∧ (i 0 : Nat) < win0_7.index ⟨15, hl⟩ 0 * 1 + 1
      have : (i 0 : Nat) < 1 := (i 0).isLt
      rw [h.1]; omega
    | ⟨1, _⟩ =>
      show win0_7.index ⟨15, hl⟩ 1 * 512 ≤ (i 1 : Nat) ∧ (i 1 : Nat) < win0_7.index ⟨15, hl⟩ 1 * 512 + 512
      have : (i 1 : Nat) < 512 := (i 1).isLt
      rw [h.2]; omega

theorem result7 (c : Dev nD) (hp : Fin4 m c) (a : Fin 1) (j : Fin 512) : ((dats m 0 c).arrAt 7 cfg0.N : S1x512.Idx → EReal) (ix2 a j)
    = Cert.ReferenceLnIdeal.Read.val_main_v29 (F := Ideal) (X m c) (U m c) (W m c) (G m c) (H m c) (ix2 a j) := by
  have hN : cfg0.N = 15 + 1 := Gen.N_0
  rw [final7 m c (by omega)]
  refine (total7 m c a j 15 (by omega)).trans (Eq.trans ?_ (v29_apply _ _ _ _ _ hp.x hp.u hp.w hp.g hp.h a j).symm)
  rw [sum_row rows]
  refine (sum_cast hN (fun t => part7 m c t (ix2 a j)) _ fun k => rfl).symm.trans (Finset.sum_congr rfl fun t _ => Finset.sum_congr rfl fun b _ => ?_)
  rw [row_iblk, iblk3_eq, iblk4_eq]
  exact congrArg (siluBack _ ·) (upT_iblk m c t b j)

end Cert.KernelLnIdeal.Hand
-- ==== Proof.LnClaim.lean ====
/- The gradient of the convolution branch's norm and gate: the claim against the reference. -/
module

public import proofs.«01_k».proof.Defs
public import proofs.«01_k».proof.Proof.Gen.KernelLn
public import proofs.«01_k».proof.Proof.Ln
public import proofs.«01_k».proof.Proof.Gen.Pre_finite_ln
public import proofs.«01_k».proof.Proof.Finite

@[expose] public section

noncomputable section

open Idealize.ShloMosaic Idealize.ShloMosaic.TcCoe Idealize.SL.Sem Idealize.ShloMosaic.ValueIdx

namespace Cert.Hand

theorem frame_reference_Ln : Cert.quiescent_ReferenceLnIdeal := fun m ρ _ =>
  (θ_run Cert.ReferenceLnIdeal.defs _ _).mono (fun r h => ⟨fun c => (h c).2.2.2, sem_eq_zero_of_no_sems (by decide) r.2⟩)
    (Cert.ReferenceLnIdeal.Hand.run m ρ)

theorem frame_reference_Ln_pre_finite_ln : Cert.quiescent_ReferenceLnIdeal_pre_finite_ln := fun m ρ _ =>
  (θ_run Cert.ReferenceLnIdeal.defs _ _).mono (fun r h => ⟨fun c => (h c).2.2.2, sem_eq_zero_of_no_sems (by decide) r.2⟩)
    (Cert.ReferenceLnIdeal.Hand.run m ρ)

open Cert.KernelLnIdeal in
/-- The precondition, read: every entry of the arrays it names is a real. -/
theorem finite_Ln (m : (ℓ : Loc nD τ sig) → Buf (Elt Ideal) ℓ) (h : Cert.Pre_KernelLnIdeal_finite_ln m) (c : Dev nD) : Cert.KernelLnIdeal.Hand.Fin4 m c := by
  have H := h c
  unfold Cert.Pre_finite_ln.fn Cert.Pre_finite_ln.fn_part1 at H
  obtain ⟨H, h4⟩ := Cert.Kit.ones_cat H
  obtain ⟨H, h3⟩ := Cert.Kit.ones_cat H
  obtain ⟨H, h2⟩ := Cert.Kit.ones_cat H
  obtain ⟨H, h1⟩ := Cert.Kit.ones_cat H
  exact ⟨Cert.Kit.real_of_ones (Cert.Kit.ones_cast H), Cert.Kit.real_of_ones (Cert.Kit.ones_cast h1), Cert.Kit.real_of_ones (Cert.Kit.ones_cast h2), Cert.Kit.real_of_ones (Cert.Kit.ones_cast h3), Cert.Kit.real_of_ones (Cert.Kit.ones_cast h4)⟩

open Cert.KernelLnIdeal in
theorem algebraic_Ln : Cert.algebraic_KernelLnIdeal_ReferenceLnIdeal_pre_finite_ln := by
  intro m g m' g' hp hargs
  let x0 (c : Dev nD) := m ((c.tc : Thread nD τ).loc main_arg0)
  let x1 (c : Dev nD) := m ((c.tc : Thread nD τ).loc main_arg1)
  let x2 (c : Dev nD) := m ((c.tc : Thread nD τ).loc main_arg2)
  let x3 (c : Dev nD) := m ((c.tc : Thread nD τ).loc main_arg3)
  let x4 (c : Dev nD) := m ((c.tc : Thread nD τ).loc main_arg4)
  refine ⟨fun c => Cert.ReferenceLnIdeal.Read.val_main_v56 (F := Ideal) (x0 c) (x1 c) (x2 c) (x3 c) (x4 c),
    fun c => Cert.ReferenceLnIdeal.Read.val_main_v32 (F := Ideal) (x0 c) (x1 c) (x2 c) (x3 c) (x4 c),
    fun c => Cert.ReferenceLnIdeal.Read.val_main_v29 (F := Ideal) (x0 c) (x1 c) (x2 c) (x3 c) (x4 c), ?_, ?_⟩
  · refine (θ_run defs _ _).mono (fun r h c => ⟨(h c).1.trans ?_, (h c).2.1.trans ?_, (h c).2.2.1.trans ?_, (h c).2.2.2⟩) (Value.run_blocks m g)
    · funext j
      obtain ⟨a, b, rfl⟩ : ∃ (a : Fin 4096) (b : Fin 512), j = ix2 a b := ⟨j 0, j 1, eq_ix2 j⟩
      exact Hand.result5 m c (finite_Ln m hp c) a b
    · funext j
      obtain ⟨a, b, rfl⟩ : ∃ (a : Fin 1) (b : Fin 512), j = ix2 a b := ⟨j 0, j 1, eq_ix2 j⟩
      exact Hand.result6 m c (finite_Ln m hp c) a b
    · funext j
      obtain ⟨a, b, rfl⟩ : ∃ (a : Fin 1) (b : Fin 512), j = ix2 a b := ⟨j 0, j 1, eq_ix2 j⟩
      exact Hand.result7 m c (finite_Ln m hp c) a b
  · refine (θ_run Cert.ReferenceLnIdeal.defs _ _).mono (fun r h c => ⟨(h c).1.trans ?_, (h c).2.1.trans ?_, (h c).2.2.1.trans ?_, (h c).2.2.2⟩)
      (Cert.ReferenceLnIdeal.Hand.run m' g')
    · rw [(hargs c).1, (hargs c).2.1, (hargs c).2.2.1, (hargs c).2.2.2.1, (hargs c).2.2.2.2]
    · rw [(hargs c).1, (hargs c).2.1, (hargs c).2.2.1, (hargs c).2.2.2.1, (hargs c).2.2.2.2]
    · rw [(hargs c).1, (hargs c).2.1, (hargs c).2.2.1, (hargs c).2.2.2.1, (hargs c).2.2.2.2]

end Cert.Hand
-- ==== Proof.Chunks.lean ====
/- Buffers a kernel fills piece by piece: what their pieces hold together. -/
module

public import proofs.«01_k».proof.Proof.Kit
public import Idealize.ShloMosaic.Lib.Pipeline.Value
public import Idealize.ShloMosaic.Lib.Pipeline.FrameBody
public import Idealize.ShloMosaic.Lib.Pipeline.ValueKit.Tiles
public import Idealize.ShloMosaic.Lib.Pipeline.CanonAppend

@[expose] public section

noncomputable section

open Idealize.ShloMosaic Idealize.ShloMosaic.ValueIdx

namespace Cert.Kit

variable {S : Shape} {e : EltTy}

/-- Pieces that cover a buffer and agree with one function of its index are that function. -/
theorem canon_pieces (G : Vec Ideal S e) (L : List (View.Piece (Elt Ideal) S e))
    (hL : ∀ p ∈ L, ∀ x : p.1.shape.Idx, p.2 x = G (p.1.emb x)) (hc : ∀ y, ∃ p ∈ L, y ∈ p.1.set) : View.canon L = G :=
  funext fun y => View.canon_apply_of_pieces G L hL y (hc y)

/-- Such pieces over earlier ones. -/
theorem canon_over (G : Vec Ideal S e) (L L' : List (View.Piece (Elt Ideal) S e))
    (hL : ∀ p ∈ L, ∀ x : p.1.shape.Idx, p.2 x = G (p.1.emb x)) (hc : ∀ y, ∃ p ∈ L, y ∈ p.1.set) : View.canon (L ++ L') = G :=
  funext fun y => View.canon_append_of_pieces G L' L hL y (hc y)

/-- A buffer read whole after such pieces. -/
theorem readCov_pieces {sig : RefSig} {κ : Kind} {sp : Space} (v : View sig κ sp S e) (G : Vec Ideal S e) {off : Fin S.rank → ℕ} (h : off = fun _ => 0)
    {inb : ∀ a, off a + S.size a ≤ S.size a} (L : List (View.Piece (Elt Ideal) S e))
    (hL : ∀ p ∈ L, ∀ x : p.1.shape.Idx, p.2 x = G (p.1.emb x)) (hc : ∀ y, ∃ p ∈ L, y ∈ p.1.set) :
    v.readCov L (Rect.unit off S.size inb).toLoadRect = G := by
  rw [View.readCov_eq_canon_ld v L _ hc, canon_pieces G L hL hc, View.ld_unit_zero h]

/-- One more piece of them. -/
theorem piece_cons {G : Vec Ideal S e} {p : View.Piece (Elt Ideal) S e} {L : List (View.Piece (Elt Ideal) S e)}
    (h : ∀ x : p.1.shape.Idx, p.2 x = G (p.1.emb x)) (hL : ∀ p ∈ L, ∀ x : p.1.shape.Idx, p.2 x = G (p.1.emb x)) :
    ∀ q ∈ p :: L, ∀ x : q.1.shape.Idx, q.2 x = G (q.1.emb x) := List.forall_mem_cons.mpr ⟨h, hL⟩

/-- No piece. -/
theorem piece_nil {G : Vec Ideal S e} : ∀ p ∈ ([] : List (View.Piece (Elt Ideal) S e)), ∀ x : p.1.shape.Idx, p.2 x = G (p.1.emb x) :=
  fun _ h => absurd h List.not_mem_nil

/-- A rectangle's place in a matrix. -/
theorem emb_ix2 {M N A B o p : ℕ} (inb : ∀ a, (![o, p] : Fin 2 → ℕ) a + (⟨2, ![A, B]⟩ : Shape).size a ≤ (⟨2, ![M, N]⟩ : Shape).size a)
    (i : Fin A) (j : Fin B) (hi : o + i.val < M) (hj : p + j.val < N) :
    (Rect.unit (s := ⟨2, ![M, N]⟩) ![o, p] (⟨2, ![A, B]⟩ : Shape).size inb).emb (ix2 i j) = (ix2 ⟨o + i.val, hi⟩ ⟨p + j.val, hj⟩ : (⟨2, ![M, N]⟩ : Shape).Idx) := by
  refine ixEq ?_ ?_
  · show o + 1 * i.val = o + i.val
    omega
  · show p + 1 * j.val = p + j.val
    omega

end Cert.Kit
-- ==== Proof.FfOuts.lean ====
/- The gradient of the feed-forward block and its norm, what a point of its grid leaves: the kernel's results read at an index, and the reference's. -/
module

public import proofs.«01_k».proof.Proof.Kit
public import proofs.«01_k».proof.Proof.Rms
public import proofs.«01_k».proof.Proof.Chunks
public import proofs.«01_k».proof.Proof.Gen.KernelFfIdeal.Value
public import Idealize.ShloMosaic.Lib.StableHlo.Run

@[expose] public section

set_option maxRecDepth 16384

noncomputable section

open Idealize.ShloMosaic Idealize.ShloMosaic.TcCoe Idealize.SL.Sem Idealize.ShloMosaic.ValueIdx Cert.Kit

namespace Cert.KernelFfIdeal.Hand

open Cert.KernelFfIdeal Cert.KernelFfIdeal.Gen Cert.KernelFfIdeal.Value

variable (m : (ℓ : Loc nD τ sig) → Buf (Elt Ideal) ℓ) (ρ : Dev nD → PrngReg)

/-- What a chunk stores: the cotangent through rows of the last weight, times a slope. -/
def chunk (x w : Vec Ideal S256x1024 .bf16) (d : Vec Ideal S256x256 .bf16) : FVec Ideal S256x256 .bf16 :=
  truncf .bf16 (mulf (matmul (φ₁ := .bf16) (φ₂ := .bf16) dot_S256x1024_S256x1024_S256x256_1_1_0_0_n_n none (shapeCast S256x1024 x shapeCasts_S256x1024_S256x1024)
      (shapeCast S256x1024 w shapeCasts_S256x1024_S256x1024) (constant S256x256 .f32 0x00000000#32))
    (extf .f32 (shapeCast S256x256 d shapeCasts_S256x256_S256x256) bitsLt_bf16_f32)) bitsLt_bf16_f32

/-- All chunks together. -/
def wide (x : Vec Ideal S256x1024 .bf16) (w : Vec Ideal S2816x1024 .bf16) (d : Vec Ideal S256x2816 .bf16) : FVec Ideal S256x2816 .bf16 :=
  fun i => (∑ k : Fin 1024, x (ix2 (i 0) k) * w (ix2 (i 1) k)) * d i

theorem wide_eq {x : Vec Ideal S256x1024 .bf16} {w : Vec Ideal S2816x1024 .bf16} {d : Vec Ideal S256x2816 .bf16} {X W : Fin 1024 → EReal} {e : EReal}
    {a : Fin 256} {j : Fin 2816} (hx : ∀ k, x (ix2 a k) = X k) (hw : ∀ k, w (ix2 j k) = W k) (hd : d (ix2 a j) = e) :
    wide x w d (ix2 a j) = (∑ k : Fin 1024, X k * W k) * e := by
  obtain rfl := funext hx
  obtain rfl := funext hw
  rw [← hd]
  rfl

theorem chunk_piece (x : Vec Ideal S256x1024 .bf16) (w : Vec Ideal S2816x1024 .bf16) (d : Vec Ideal S256x2816 .bf16) (o : ℕ)
    (h1 : ∀ a, (![o, 0] : Fin 2 → ℕ) a + S256x1024.size a ≤ S2816x1024.size a) (h2 : ∀ a, (![0, o] : Fin 2 → ℕ) a + S256x256.size a ≤ S256x2816.size a)
    (z : S256x256.Idx) : chunk x (View.ld (Val := Elt Ideal) w (Rect.unit (s := S2816x1024) ![o, 0] S256x1024.size h1)) (View.ld (Val := Elt Ideal) d (Rect.unit (s := S256x2816) ![0, o] S256x256.size h2)) z
      = wide x w d ((Rect.unit (s := S256x2816) ![0, o] S256x256.size h2).emb z) := by
  obtain ⟨a, b, rfl⟩ : ∃ (a b : Fin 256), z = ix2 a b := ⟨z 0, z 1, eq_ix2 z⟩
  have ho : o + 256 ≤ 2816 := h1 0
  rw [emb_ix2 h2 a b (by omega) (by omega)]
  unfold chunk
  rw [shapeCast_self, shapeCast_self, shapeCast_self]
  refine congrArg₂ (· * ·) ((mm11 (φ₁ := .bf16) (φ₂ := .bf16) _ none _ _ a b).trans (Finset.sum_congr rfl fun k _ => congrArg₂ (· * ·) ?_ ?_)) ?_
  · exact congrArg x (ixEq (Nat.zero_add _).symm rfl)
  · exact congrArg w ((emb_ix2 h1 b k (by omega) (by omega)).trans (ixEq rfl (Nat.zero_add _)))
  · exact congrArg d (emb_ix2 h2 a b (by omega) (by omega))

set_option maxHeartbeats 4000000 in
/-- What a point of case A leaves in the outputs. -/
theorem outs_A (c : Dev nD) (t : Fin cfg0.N) (h0 : t.val % 16 = 0) :
    outsAt0 m c t.val t.isLt = (k0_pay1 (F := Ideal) (iblk m c 0 t) (k0_pay42 (F := Ideal) (iblk m c 3 t)) (k0_pay43 (F := Ideal) (wide (iblk m c 1 t) (iblk m c 9 t) (iblk m c 5 t)) (iblk m c 7 t) (wide (iblk m c 1 t) (iblk m c 9 t) (iblk m c 6 t)) (iblk m c 8 t) (iblk m c 4 t)) (k0_pay44 (F := Ideal) (iblk m c 2 t) (iblk m c 3 t)) (k0_pay45 (F := Ideal) (wide (iblk m c 1 t) (iblk m c 9 t) (iblk m c 5 t)) (iblk m c 7 t) (wide (iblk m c 1 t) (iblk m c 9 t) (iblk m c 6 t)) (iblk m c 8 t) (iblk m c 2 t) (iblk m c 3 t) (iblk m c 4 t)),
      k0_pay2 (F := Ideal) (iblk m c 0 t) (k0_pay42 (F := Ideal) (iblk m c 3 t)) (k0_pay43 (F := Ideal) (wide (iblk m c 1 t) (iblk m c 9 t) (iblk m c 5 t)) (iblk m c 7 t) (wide (iblk m c 1 t) (iblk m c 9 t) (iblk m c 6 t)) (iblk m c 8 t) (iblk m c 4 t)) (k0_pay44 (F := Ideal) (iblk m c 2 t) (iblk m c 3 t)) (k0_pay45 (F := Ideal) (wide (iblk m c 1 t) (iblk m c 9 t) (iblk m c 5 t)) (iblk m c 7 t) (wide (iblk m c 1 t) (iblk m c 9 t) (iblk m c 6 t)) (iblk m c 8 t) (iblk m c 2 t) (iblk m c 3 t) (iblk m c 4 t)),
      (wide (iblk m c 1 t) (iblk m c 9 t) (iblk m c 5 t)),
      (wide (iblk m c 1 t) (iblk m c 9 t) (iblk m c 6 t)),
      k0_pay3 (F := Ideal) (k0_pay41 (F := Ideal) (wide (iblk m c 1 t) (iblk m c 9 t) (iblk m c 5 t)) (iblk m c 7 t) (wide (iblk m c 1 t) (iblk m c 9 t) (iblk m c 6 t)) (iblk m c 8 t)) (k0_pay44 (F := Ideal) (iblk m c 2 t) (iblk m c 3 t)) (k0_pay4 (F := Ideal))) := by
  rw [outsAt0_A m c t h0]
  refine Prod.ext ?_ (Prod.ext ?_ (Prod.ext ?_ (Prod.ext ?_ ?_)))
  · dsimp only
    unfold out0_A_10
    rw [View.read_writes_eq_canon _ _ _ (fun _ => cover0_A_10 ..)]
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
      View.ld_unit_zero (S := S256x1024) hz2, View.ld_unit_zero (S := S256x2816) hz2, View.ld_unit_zero (S := S2816x1024) hz2, View.ld_unit_zero (S := S256x1) hz2, View.ld_unit_zero (S := S1x1024) hz2]
    rw [readCov_pieces (S := S256x2816) (ms0_12 t).view (wide (iblk m c 1 t) (iblk m c 9 t) (iblk m c 5 t)) hz2, readCov_pieces (S := S256x2816) (ms0_13 t).view (wide (iblk m c 1 t) (iblk m c 9 t) (iblk m c 6 t)) hz2]
    · iterate 11 refine piece_cons (chunk_piece (iblk m c 1 t) (iblk m c 9 t) (iblk m c 6 t) _ _ _) ?_
      exact piece_nil
    · exact View.cover_of_tiled_head _ _ _ rfl
    · iterate 11 refine piece_cons (chunk_piece (iblk m c 1 t) (iblk m c 9 t) (iblk m c 5 t) _ _ _) ?_
      exact piece_nil
    · exact View.cover_of_tiled_head _ _ _ rfl
  · dsimp only
    unfold out0_A_11
    rw [View.read_writes_eq_canon _ _ _ (fun _ => cover0_A_11 ..)]
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
      View.ld_unit_zero (S := S256x1024) hz2, View.ld_unit_zero (S := S256x2816) hz2, View.ld_unit_zero (S := S2816x1024) hz2, View.ld_unit_zero (S := S256x1) hz2, View.ld_unit_zero (S := S1x1024) hz2]
    rw [readCov_pieces (S := S256x2816) (ms0_12 t).view (wide (iblk m c 1 t) (iblk m c 9 t) (iblk m c 5 t)) hz2, readCov_pieces (S := S256x2816) (ms0_13 t).view (wide (iblk m c 1 t) (iblk m c 9 t) (iblk m c 6 t)) hz2]
    · iterate 11 refine piece_cons (chunk_piece (iblk m c 1 t) (iblk m c 9 t) (iblk m c 6 t) _ _ _) ?_
      exact piece_nil
    · exact View.cover_of_tiled_head _ _ _ rfl
    · iterate 11 refine piece_cons (chunk_piece (iblk m c 1 t) (iblk m c 9 t) (iblk m c 5 t) _ _ _) ?_
      exact piece_nil
    · exact View.cover_of_tiled_head _ _ _ rfl
  · dsimp only
    unfold out0_A_12
    rw [View.read_writes_eq_canon _ _ _ (fun _ => cover0_A_12 ..)]
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
      View.ld_unit_zero (S := S256x1024) hz2, View.ld_unit_zero (S := S256x2816) hz2, View.ld_unit_zero (S := S2816x1024) hz2, View.ld_unit_zero (S := S256x1) hz2, View.ld_unit_zero (S := S1x1024) hz2]
    refine canon_pieces _ _ ?_ (View.cover_of_tiled_head _ _ _ rfl)
    iterate 11 refine piece_cons (chunk_piece (iblk m c 1 t) (iblk m c 9 t) (iblk m c 5 t) _ _ _) ?_
    exact piece_nil
  · dsimp only
    unfold out0_A_13
    rw [View.read_writes_eq_canon _ _ _ (fun _ => cover0_A_13 ..)]
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
      View.ld_unit_zero (S := S256x1024) hz2, View.ld_unit_zero (S := S256x2816) hz2, View.ld_unit_zero (S := S2816x1024) hz2, View.ld_unit_zero (S := S256x1) hz2, View.ld_unit_zero (S := S1x1024) hz2]
    refine canon_pieces _ _ ?_ (View.cover_of_tiled_head _ _ _ rfl)
    iterate 11 refine piece_cons (chunk_piece (iblk m c 1 t) (iblk m c 9 t) (iblk m c 6 t) _ _ _) ?_
    exact piece_nil
  · dsimp only
    unfold out0_A_14
    rw [View.read_writes_eq_canon _ _ _ (fun _ => cover0_A_14 ..)]
    unfold kernelRun0_A
    dsimp only
    sl_unfold_words
    rw [View.canon_cons_unit_zero (S := S1x1024) hz2, View.readCov_unit_zero (S := S1x1024) _ hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
      View.ld_unit_zero (S := S256x1024) hz2, View.ld_unit_zero (S := S256x2816) hz2, View.ld_unit_zero (S := S2816x1024) hz2, View.ld_unit_zero (S := S256x1) hz2, View.ld_unit_zero (S := S1x1024) hz2]
    rw [readCov_pieces (S := S256x2816) (ms0_12 t).view (wide (iblk m c 1 t) (iblk m c 9 t) (iblk m c 5 t)) hz2, readCov_pieces (S := S256x2816) (ms0_13 t).view (wide (iblk m c 1 t) (iblk m c 9 t) (iblk m c 6 t)) hz2]
    · iterate 11 refine piece_cons (chunk_piece (iblk m c 1 t) (iblk m c 9 t) (iblk m c 6 t) _ _ _) ?_
      exact piece_nil
    · exact View.cover_of_tiled_head _ _ _ rfl
    · iterate 11 refine piece_cons (chunk_piece (iblk m c 1 t) (iblk m c 9 t) (iblk m c 5 t) _ _ _) ?_
      exact piece_nil
    · exact View.cover_of_tiled_head _ _ _ rfl

set_option maxHeartbeats 4000000 in
/-- What a point of case B leaves in the outputs. -/
theorem outs_B (c : Dev nD) (t : Fin cfg0.N) (h0 : ¬t.val % 16 = 0) :
    outsAt0 m c t.val t.isLt = (k0_pay1 (F := Ideal) (iblk m c 0 t) (k0_pay42 (F := Ideal) (iblk m c 3 t)) (k0_pay43 (F := Ideal) (wide (iblk m c 1 t) (iblk m c 9 t) (iblk m c 5 t)) (iblk m c 7 t) (wide (iblk m c 1 t) (iblk m c 9 t) (iblk m c 6 t)) (iblk m c 8 t) (iblk m c 4 t)) (k0_pay44 (F := Ideal) (iblk m c 2 t) (iblk m c 3 t)) (k0_pay45 (F := Ideal) (wide (iblk m c 1 t) (iblk m c 9 t) (iblk m c 5 t)) (iblk m c 7 t) (wide (iblk m c 1 t) (iblk m c 9 t) (iblk m c 6 t)) (iblk m c 8 t) (iblk m c 2 t) (iblk m c 3 t) (iblk m c 4 t)),
      k0_pay2 (F := Ideal) (iblk m c 0 t) (k0_pay42 (F := Ideal) (iblk m c 3 t)) (k0_pay43 (F := Ideal) (wide (iblk m c 1 t) (iblk m c 9 t) (iblk m c 5 t)) (iblk m c 7 t) (wide (iblk m c 1 t) (iblk m c 9 t) (iblk m c 6 t)) (iblk m c 8 t) (iblk m c 4 t)) (k0_pay44 (F := Ideal) (iblk m c 2 t) (iblk m c 3 t)) (k0_pay45 (F := Ideal) (wide (iblk m c 1 t) (iblk m c 9 t) (iblk m c 5 t)) (iblk m c 7 t) (wide (iblk m c 1 t) (iblk m c 9 t) (iblk m c 6 t)) (iblk m c 8 t) (iblk m c 2 t) (iblk m c 3 t) (iblk m c 4 t)),
      (wide (iblk m c 1 t) (iblk m c 9 t) (iblk m c 5 t)),
      (wide (iblk m c 1 t) (iblk m c 9 t) (iblk m c 6 t)),
      k0_pay3 (F := Ideal) (k0_pay41 (F := Ideal) (wide (iblk m c 1 t) (iblk m c 9 t) (iblk m c 5 t)) (iblk m c 7 t) (wide (iblk m c 1 t) (iblk m c 9 t) (iblk m c 6 t)) (iblk m c 8 t)) (k0_pay44 (F := Ideal) (iblk m c 2 t) (iblk m c 3 t)) (outsAt0 m c (t.val - 1) (by have := t.isLt; omega)).2.2.2.2) := by
  rw [outsAt0_B m c t h0]
  refine Prod.ext ?_ (Prod.ext ?_ (Prod.ext ?_ (Prod.ext ?_ ?_)))
  · dsimp only
    unfold out0_B_10
    rw [View.read_writes_eq_canon _ _ _ (fun _ => cover0_B_10 ..)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
      View.ld_unit_zero (S := S256x1024) hz2, View.ld_unit_zero (S := S256x2816) hz2, View.ld_unit_zero (S := S2816x1024) hz2, View.ld_unit_zero (S := S256x1) hz2, View.ld_unit_zero (S := S1x1024) hz2]
    rw [readCov_pieces (S := S256x2816) (ms0_12 t).view (wide (iblk m c 1 t) (iblk m c 9 t) (iblk m c 5 t)) hz2, readCov_pieces (S := S256x2816) (ms0_13 t).view (wide (iblk m c 1 t) (iblk m c 9 t) (iblk m c 6 t)) hz2]
    · iterate 11 refine piece_cons (chunk_piece (iblk m c 1 t) (iblk m c 9 t) (iblk m c 6 t) _ _ _) ?_
      exact piece_nil
    · exact View.cover_of_tiled_head _ _ _ rfl
    · iterate 11 refine piece_cons (chunk_piece (iblk m c 1 t) (iblk m c 9 t) (iblk m c 5 t) _ _ _) ?_
      exact piece_nil
    · exact View.cover_of_tiled_head _ _ _ rfl
  · dsimp only
    unfold out0_B_11
    rw [View.read_writes_eq_canon _ _ _ (fun _ => cover0_B_11 ..)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
      View.ld_unit_zero (S := S256x1024) hz2, View.ld_unit_zero (S := S256x2816) hz2, View.ld_unit_zero (S := S2816x1024) hz2, View.ld_unit_zero (S := S256x1) hz2, View.ld_unit_zero (S := S1x1024) hz2]
    rw [readCov_pieces (S := S256x2816) (ms0_12 t).view (wide (iblk m c 1 t) (iblk m c 9 t) (iblk m c 5 t)) hz2, readCov_pieces (S := S256x2816) (ms0_13 t).view (wide (iblk m c 1 t) (iblk m c 9 t) (iblk m c 6 t)) hz2]
    · iterate 11 refine piece_cons (chunk_piece (iblk m c 1 t) (iblk m c 9 t) (iblk m c 6 t) _ _ _) ?_
      exact piece_nil
    · exact View.cover_of_tiled_head _ _ _ rfl
    · iterate 11 refine piece_cons (chunk_piece (iblk m c 1 t) (iblk m c 9 t) (iblk m c 5 t) _ _ _) ?_
      exact piece_nil
    · exact View.cover_of_tiled_head _ _ _ rfl
  · dsimp only
    unfold out0_B_12
    rw [View.read_writes_eq_canon _ _ _ (fun _ => cover0_B_12 ..)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
      View.ld_unit_zero (S := S256x1024) hz2, View.ld_unit_zero (S := S256x2816) hz2, View.ld_unit_zero (S := S2816x1024) hz2, View.ld_unit_zero (S := S256x1) hz2, View.ld_unit_zero (S := S1x1024) hz2]
    refine canon_pieces _ _ ?_ (View.cover_of_tiled_head _ _ _ rfl)
    iterate 11 refine piece_cons (chunk_piece (iblk m c 1 t) (iblk m c 9 t) (iblk m c 5 t) _ _ _) ?_
    exact piece_nil
  · dsimp only
    unfold out0_B_13
    rw [View.read_writes_eq_canon _ _ _ (fun _ => cover0_B_13 ..)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
      View.ld_unit_zero (S := S256x1024) hz2, View.ld_unit_zero (S := S256x2816) hz2, View.ld_unit_zero (S := S2816x1024) hz2, View.ld_unit_zero (S := S256x1) hz2, View.ld_unit_zero (S := S1x1024) hz2]
    refine canon_pieces _ _ ?_ (View.cover_of_tiled_head _ _ _ rfl)
    iterate 11 refine piece_cons (chunk_piece (iblk m c 1 t) (iblk m c 9 t) (iblk m c 6 t) _ _ _) ?_
    exact piece_nil
  · dsimp only
    unfold out0_B_14
    rw [View.read_writes_eq_canon _ _ _ (fun _ => cover0_B_14 ..)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_14 t).read_unread,
      View.ld_unit_zero (S := S256x1024) hz2, View.ld_unit_zero (S := S256x2816) hz2, View.ld_unit_zero (S := S2816x1024) hz2, View.ld_unit_zero (S := S256x1) hz2, View.ld_unit_zero (S := S1x1024) hz2]
    rw [readCov_pieces (S := S256x2816) (ms0_12 t).view (wide (iblk m c 1 t) (iblk m c 9 t) (iblk m c 5 t)) hz2, readCov_pieces (S := S256x2816) (ms0_13 t).view (wide (iblk m c 1 t) (iblk m c 9 t) (iblk m c 6 t)) hz2]
    · iterate 11 refine piece_cons (chunk_piece (iblk m c 1 t) (iblk m c 9 t) (iblk m c 6 t) _ _ _) ?_
      exact piece_nil
    · exact View.cover_of_tiled_head _ _ _ rfl
    · iterate 11 refine piece_cons (chunk_piece (iblk m c 1 t) (iblk m c 9 t) (iblk m c 5 t) _ _ _) ?_
      exact piece_nil
    · exact View.cover_of_tiled_head _ _ _ rfl

end Cert.KernelFfIdeal.Hand
-- ==== Proof.Ff.lean ====
/- The gradient of the feed-forward block and its norm: the kernel's results read at an index, and the reference's. -/
module

public import proofs.«01_k».proof.Proof.Kit
public import proofs.«01_k».proof.Proof.Rms
public import proofs.«01_k».proof.Proof.Silu
public import proofs.«01_k».proof.Proof.FfOuts
public import proofs.«01_k».proof.Proof.Gen.KernelFfIdeal.Value
public import proofs.«01_k».proof.Proof.Gen.ReferenceFfIdeal.Run
public import proofs.«01_k».proof.Proof.Gen.ReferenceFfIdeal.Read
public import Idealize.ShloMosaic.Lib.StableHlo.Run

@[expose] public section

set_option maxRecDepth 16384

noncomputable section

open Idealize.ShloMosaic Idealize.ShloMosaic.TcCoe Idealize.SL.Sem Idealize.ShloMosaic.ValueIdx Cert.Kit

namespace Cert.ReferenceFfIdeal.Hand

open Cert.ReferenceFfIdeal Cert.ReferenceFfIdeal.Read

/-- The reference's run, its results named as the reading's stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v69) = val_main_v69 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v70) = val_main_v70 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v71) = val_main_v71 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v72) = val_main_v72 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))
      ∧ r.2.mem ((c.tc : Thread nD τ).loc main_v52) = val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (val_main_v69_eq m c), (h c).2.1.trans (val_main_v70_eq m c), (h c).2.2.1.trans (val_main_v71_eq m c), (h c).2.2.2.1.trans (val_main_v72_eq ..), (h c).2.2.2.2.1.trans (val_main_v52_eq m c),
    (h c).2.2.2.2.2⟩) (Cert.ReferenceFfIdeal.Value.run m ρ)

variable (x0 : FVec Ideal S4096x1024 .f32) (x1 : FVec Ideal S1x1024 .f32) (x2 x3 : FVec Ideal S1024x2816 .f32) (x4 : FVec Ideal S2816x1024 .f32)
  (x5 : FVec Ideal S4096x1024 .f32)

/-- The normed rows times a weight. -/
def pre (w : FVec Ideal S1024x2816 .f32) (i : Fin 4096) (j : Fin 2816) : EReal := ∑ k : Fin 1024, hNorm x0 x1 (ix2 i k) * w (ix2 k j)

/-- The cotangent through the last weight. -/
def dh (i : Fin 4096) (j : Fin 2816) : EReal := ∑ k : Fin 1024, x5 (ix2 i k) * x4 (ix2 j k)

theorem v12_apply (i : Fin 4096) (j : Fin 2816) : val_main_v12 (F := Ideal) x0 x1 x2 (ix2 i j) = pre x0 x1 x2 i j := dg10 _ none _ _ i j

theorem v13_apply (i : Fin 4096) (j : Fin 2816) : val_main_v13 (F := Ideal) x0 x1 x3 (ix2 i j) = pre x0 x1 x3 i j := dg10 _ none _ _ i j

theorem v36_apply (i : Fin 4096) (j : Fin 2816) : val_main_v36 (F := Ideal) x0 x1 x2 (ix2 i j) = pre x0 x1 x2 i j := dg10 _ none _ _ i j

theorem v37_apply (i : Fin 4096) (j : Fin 2816) : val_main_v37 (F := Ideal) x0 x1 x3 (ix2 i j) = pre x0 x1 x3 i j := dg10 _ none _ _ i j

theorem v17_apply (i : Fin 4096) (j : Fin 2816) : val_main_v17 (F := Ideal) x4 x5 (ix2 i j) = dh x4 x5 i j := dg11 _ none _ _ i j

theorem v43_apply (i : Fin 4096) (j : Fin 2816) : val_main_v43 (F := Ideal) x4 x5 (ix2 i j) = dh x4 x5 i j := by
  refine (dg11 _ none _ _ i j).trans ?_
  unfold val_main_v42
  rw [shapeCast_self]
  rfl

theorem v20_apply (i : Fin 4096) (j : Fin 2816) : val_main_v20 (F := Ideal) x0 x1 x2 x3 x4 x5 (ix2 i j)
    = dh x4 x5 i j * pre x0 x1 x3 i j * sg (pre x0 x1 x2 i j)
      + pre x0 x1 x2 i j * (dh x4 x5 i j * pre x0 x1 x3 i j) * (sg (pre x0 x1 x2 i j) * (cOne - sg (pre x0 x1 x2 i j))) := by
  rw [← v12_apply, ← v13_apply, ← v17_apply]
  rfl

theorem v46_apply (i : Fin 4096) (j : Fin 2816) : val_main_v46 (F := Ideal) x0 x1 x2 x3 x4 x5 (ix2 i j)
    = dh x4 x5 i j * pre x0 x1 x3 i j * sg (pre x0 x1 x2 i j)
      + pre x0 x1 x2 i j * (dh x4 x5 i j * pre x0 x1 x3 i j) * (sg (pre x0 x1 x2 i j) * (cOne - sg (pre x0 x1 x2 i j))) := by
  rw [← v36_apply, ← v37_apply, ← v43_apply]
  rfl

theorem v18_apply (i : Fin 4096) (j : Fin 2816) : val_main_v18 (F := Ideal) x0 x1 x2 x4 x5 (ix2 i j)
    = pre x0 x1 x2 i j * sg (pre x0 x1 x2 i j) * dh x4 x5 i j := by
  rw [← v12_apply, ← v17_apply]
  rfl

theorem v44_apply (i : Fin 4096) (j : Fin 2816) : val_main_v44 (F := Ideal) x0 x1 x2 x4 x5 (ix2 i j)
    = pre x0 x1 x2 i j * sg (pre x0 x1 x2 i j) * dh x4 x5 i j := by
  rw [← v36_apply, ← v43_apply]
  rfl

/-- The cotangent of the normed rows. -/
def up : FVec Ideal S4096x1024 .f32 := val_main_v49 (F := Ideal) x0 x1 x2 x3 x4 x5

theorem v69_eq : val_main_v69 (F := Ideal) x0 x1 x2 x3 x4 x5
    = hBack x0 (hUp x1 (up x0 x1 x2 x3 x4 x5)) (addf x5 (mulf (hUp x1 (up x0 x1 x2 x3 x4 x5)) (hSpread (hScale x0)))) := rfl

theorem v52_eq : val_main_v52 (F := Ideal) x0 x1 x2 x3 x4 x5 = hGain x0 (up x0 x1 x2 x3 x4 x5) := rfl

theorem up_apply (i : Fin 4096) (j : Fin 1024) : up x0 x1 x2 x3 x4 x5 (ix2 i j)
    = (∑ k : Fin 2816, val_main_v46 (F := Ideal) x0 x1 x2 x3 x4 x5 (ix2 i k) * x2 (ix2 j k))
      + ∑ k : Fin 2816, val_main_v44 (F := Ideal) x0 x1 x2 x4 x5 (ix2 i k) * x3 (ix2 j k) :=
  (congrArg₂ (· + ·) (dg11 _ none (val_main_v44 (F := Ideal) x0 x1 x2 x4 x5) x3 i j)
    (dg11 _ none (val_main_v46 (F := Ideal) x0 x1 x2 x3 x4 x5) x2 i j)).trans (add_comm _ _)

end Cert.ReferenceFfIdeal.Hand

namespace Cert.KernelFfIdeal.Hand

open Cert.KernelFfIdeal Cert.KernelFfIdeal.Gen Cert.KernelFfIdeal.Value Cert.ReferenceFfIdeal.Hand

variable (m : (ℓ : Loc nD τ sig) → Buf (Elt Ideal) ℓ) (ρ : Dev nD → PrngReg)

theorem index0 : ∀ t : Fin cfg0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = 0 ∧ win0_4.index t 1 = 0)
    ∧ (win0_5.index t 0 = t.val ∧ win0_5.index t 1 = 0)
    ∧ (win0_6.index t 0 = t.val ∧ win0_6.index t 1 = 0)
    ∧ (win0_7.index t 0 = 0 ∧ win0_7.index t 1 = 0)
    ∧ (win0_8.index t 0 = 0 ∧ win0_8.index t 1 = 0)
    ∧ (win0_9.index t 0 = 0 ∧ win0_9.index t 1 = 0)
    ∧ (win0_10.index t 0 = t.val ∧ win0_10.index t 1 = 0)
    ∧ (win0_11.index t 0 = t.val ∧ win0_11.index t 1 = 0)
    ∧ (win0_12.index t 0 = t.val ∧ win0_12.index t 1 = 0)
    ∧ (win0_13.index t 0 = t.val ∧ win0_13.index t 1 = 0)
    ∧ (win0_14.index t 0 = 0 ∧ win0_14.index t 1 = 0) :=
  (by decide +kernel : ∀ t : Fin grid0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = 0 ∧ win0_4.index t 1 = 0)
    ∧ (win0_5.index t 0 = t.val ∧ win0_5.index t 1 = 0)
    ∧ (win0_6.index t 0 = t.val ∧ win0_6.index t 1 = 0)
    ∧ (win0_7.index t 0 = 0 ∧ win0_7.index t 1 = 0)
    ∧ (win0_8.index t 0 = 0 ∧ win0_8.index t 1 = 0)
    ∧ (win0_9.index t 0 = 0 ∧ win0_9.index t 1 = 0)
    ∧ (win0_10.index t 0 = t.val ∧ win0_10.index t 1 = 0)
    ∧ (win0_11.index t 0 = t.val ∧ win0_11.index t 1 = 0)
    ∧ (win0_12.index t 0 = t.val ∧ win0_12.index t 1 = 0)
    ∧ (win0_13.index t 0 = t.val ∧ win0_13.index t 1 = 0)
    ∧ (win0_14.index t 0 = 0 ∧ win0_14.index t 1 = 0))

theorem rows : 4096 = cfg0.N * 256 := by
  show 4096 = grid0.N * 256
  rw [Gen.N_0]

section
variable (c : Dev nD)
/-- The rows of the block's input. -/
abbrev X : FVec Ideal S4096x1024 .f32 := m ((c : Thread nD τ).loc main_arg0)
/-- The norm's gain. -/
abbrev G : FVec Ideal S1x1024 .f32 := m ((c : Thread nD τ).loc main_arg1)
/-- The gate's weight. -/
abbrev Wg : FVec Ideal S1024x2816 .f32 := m ((c : Thread nD τ).loc main_arg2)
/-- The weight beside it. -/
abbrev Wu : FVec Ideal S1024x2816 .f32 := m ((c : Thread nD τ).loc main_arg3)
/-- The last weight. -/
abbrev Wd : FVec Ideal S2816x1024 .f32 := m ((c : Thread nD τ).loc main_arg4)
/-- The cotangent. -/
abbrev D : FVec Ideal S4096x1024 .f32 := m ((c : Thread nD τ).loc main_arg5)

/-- The normed rows times a weight, as the host lines of the kernel compute it. -/
def kPre (w : FVec Ideal S1024x2816 .f32) : FVec Ideal S4096x2816 .f32 :=
  Host.dotGeneral dot_S4096x1024_S2816x1024_S4096x2816_1_1_0_0_n_n none (truncf .bf16 (hNorm (X m c) (G m c)) bitsLt_bf16_f32)
    (truncf .bf16 (transpose S2816x1024 [1, 0] w transposes_S1024x2816_S2816x1024_1_0) bitsLt_bf16_f32)

theorem kPre_apply (w : FVec Ideal S1024x2816 .f32) (i : Fin 4096) (j : Fin 2816) : kPre m c w (ix2 i j) = pre (X m c) (G m c) w i j :=
  (dg11 (φ₁ := .bf16) (φ₂ := .bf16) _ none _ _ i j).trans (Finset.sum_congr rfl fun k _ => congrArg (hNorm (X m c) (G m c) (ix2 i k) * ·)
    (transpose_apply _ _ transposes_S1024x2816_S2816x1024_1_0 (ix2 j k) _ fun a => match a with | ⟨0, _⟩ => rfl | ⟨1, _⟩ => rfl))

/-- The slope of the gate, by which the kernel's chunks are scaled. -/
def slope : S4096x2816.Idx → EReal := fun i => gateSlope (kPre m c (Wg m c) i) (kPre m c (Wu m c) i)

/-- The gate itself. -/
def silu : S4096x2816.Idx → EReal := fun i => kPre m c (Wg m c) i * sg (kPre m c (Wg m c) i)
end

theorem V_v34 (c : Dev nD) : (V m c main_v34 : S4096x1024.Idx → EReal) = D m c := by
  unfold V
  after_results
  rfl

theorem V_v12 (c : Dev nD) : (V m c main_v12 : FVec Ideal S4096x1 .f32) = hScale (X m c) := by
  unfold V
  after_results
  rfl

theorem V_v32 (c : Dev nD) : (V m c main_v32 : S4096x2816.Idx → EReal) = slope m c := by
  unfold V
  after_results
  rfl

theorem V_v33 (c : Dev nD) : (V m c main_v33 : S4096x2816.Idx → EReal) = silu m c := by
  unfold V
  after_results
  rfl

theorem V_v1 (c : Dev nD) : (V m c main_v1 : S2816x1024.Idx → EReal) = transpose S2816x1024 [1, 0] (Wg m c) transposes_S1024x2816_S2816x1024_1_0 := by
  unfold V
  after_results
  rfl

theorem V_v3 (c : Dev nD) : (V m c main_v3 : S2816x1024.Idx → EReal) = transpose S2816x1024 [1, 0] (Wu m c) transposes_S1024x2816_S2816x1024_1_0 := by
  unfold V
  after_results
  rfl

theorem V_v4 (c : Dev nD) : (V m c main_v4 : S2816x1024.Idx → EReal) = Wd m c := by
  unfold V
  after_results
  rfl

theorem iblk0 (c : Dev nD) (t : Fin cfg0.N) (a : Fin 256) (b : Fin 1024) : (iblk m c 0 t : S256x1024.Idx → EReal) (ix2 a b) = D m c (ix2 (row t a rows) b) := by
  unfold iblk
  rw [View.read_apply]
  refine Eq.trans ?_ (congrFun (V_main_arg5 m c) _)
  have h := (index0 t).1
  refine congrArg (V m c main_arg5) (ixEq ?_ ?_)
  · show win0_0.index t 0 * 256 + 1 * a.val = t.val * 256 + a.val
    rw [h.1]; omega
  · show win0_0.index t 1 * 1024 + 1 * b.val = b.val
    rw [h.2]; omega

theorem iblk1 (c : Dev nD) (t : Fin cfg0.N) (a : Fin 256) (b : Fin 1024) : (iblk m c 1 t : S256x1024.Idx → EReal) (ix2 a b) = D m c (ix2 (row t a rows) b) := by
  unfold iblk
  rw [View.read_apply]
  refine Eq.trans ?_ (congrFun (V_v34 m c) _)
  have h := (index0 t).2.1
  refine congrArg (V m c main_v34) (ixEq ?_ ?_)
  · show win0_1.index t 0 * 256 + 1 * a.val = t.val * 256 + a.val
    rw [h.1]; omega
  · show win0_1.index t 1 * 1024 + 1 * b.val = b.val
    rw [h.2]; omega

theorem iblk2 (c : Dev nD) (t : Fin cfg0.N) (a : Fin 256) (b : Fin 1024) : (iblk m c 2 t : S256x1024.Idx → EReal) (ix2 a b) = X m c (ix2 (row t a rows) b) := by
  unfold iblk
  rw [View.read_apply]
  refine Eq.trans ?_ (congrFun (V_main_arg0 m c) _)
  have h := (index0 t).2.2.1
  refine congrArg (V m c main_arg0) (ixEq ?_ ?_)
  · show win0_2.index t 0 * 256 + 1 * a.val = t.val * 256 + a.val
    rw [h.1]; omega
  · show win0_2.index t 1 * 1024 + 1 * b.val = b.val
    rw [h.2]; omega

theorem iblk3 (c : Dev nD) (t : Fin cfg0.N) (a : Fin 256) (b : Fin 1) : (iblk m c 3 t : S256x1.Idx → EReal) (ix2 a b) = hScale (X m c) (ix2 (row t a rows) b) := by
  unfold iblk
  rw [View.read_apply]
  refine Eq.trans ?_ (congrFun (V_v12 m c) _)
  have h := (index0 t).2.2.2.1
  refine congrArg (V m c main_v12) (ixEq ?_ ?_)
  · show win0_3.index t 0 * 256 + 1 * a.val = t.val * 256 + a.val
    rw [h.1]; omega
  · show win0_3.index t 1 * 1 + 1 * b.val = b.val
    rw [h.2]; omega

theorem iblk4 (c : Dev nD) (t : Fin cfg0.N) (a : Fin 1) (b : Fin 1024) : (iblk m c 4 t : S1x1024.Idx → EReal) (ix2 a b) = G m c (ix2 a b) := by
  unfold iblk
  rw [View.read_apply]
  refine Eq.trans ?_ (congrFun (V_main_arg1 m c) _)
  have h := (index0 t).2.2.2.2.1
  refine congrArg (V m c main_arg1) (ixEq ?_ ?_)
  · show win0_4.index t 0 * 1 + 1 * a.val = a.val
    rw [h.1]; omega
  · show win0_4.index t 1 * 1024 + 1 * b.val = b.val
    rw [h.2]; omega

theorem iblk5 (c : Dev nD) (t : Fin cfg0.N) (a : Fin 256) (b : Fin 2816) : (iblk m c 5 t : S256x2816.Idx → EReal) (ix2 a b) = slope m c (ix2 (row t a rows) b) := by
  unfold iblk
  rw [View.read_apply]
  refine Eq.trans ?_ (congrFun (V_v32 m c) _)
  have h := (index0 t).2.2.2.2.2.1
  refine congrArg (V m c main_v32) (ixEq ?_ ?_)
  · show win0_5.index t 0 * 256 + 1 * a.val = t.val * 256 + a.val
    rw [h.1]; omega
  · show win0_5.index t 1 * 2816 + 1 * b.val = b.val
    rw [h.2]; omega

theorem iblk6 (c : Dev nD) (t : Fin cfg0.N) (a : Fin 256) (b : Fin 2816) : (iblk m c 6 t : S256x2816.Idx → EReal) (ix2 a b) = silu m c (ix2 (row t a rows) b) := by
  unfold iblk
  rw [View.read_apply]
  refine Eq.trans ?_ (congrFun (V_v33 m c) _)
  have h := (index0 t).2.2.2.2.2.2.1
  refine congrArg (V m c main_v33) (ixEq ?_ ?_)
  · show win0_6.index t 0 * 256 + 1 * a.val = t.val * 256 + a.val
    rw [h.1]; omega
  · show win0_6.index t 1 * 2816 + 1 * b.val = b.val
    rw [h.2]; omega

theorem iblk9 (c : Dev nD) (t : Fin cfg0.N) (a : Fin 2816) (b : Fin 1024) : (iblk m c 9 t : S2816x1024.Idx → EReal) (ix2 a b) = Wd m c (ix2 a b) := by
  unfold iblk
  rw [View.read_apply]
  refine Eq.trans ?_ (congrFun (V_v4 m c) _)
  have h := (index0 t).2.2.2.2.2.2.2.2.2.1
  refine congrArg (V m c main_v4) (ixEq ?_ ?_)
  · show win0_9.index t 0 * 2816 + 1 * a.val = a.val
    rw [h.1]; omega
  · show win0_9.index t 1 * 1024 + 1 * b.val = b.val
    rw [h.2]; omega

theorem iblk7 (c : Dev nD) (t : Fin cfg0.N) (a : Fin 2816) (b : Fin 1024) : (iblk m c 7 t : S2816x1024.Idx → EReal) (ix2 a b) = Wg m c (ix2 b a) := by
  unfold iblk
  rw [View.read_apply]
  refine Eq.trans ?_ (transpose_apply _ _ transposes_S1024x2816_S2816x1024_1_0 (ix2 a b) _ fun a => match a with | ⟨0, _⟩ => rfl | ⟨1, _⟩ => rfl)
  refine Eq.trans ?_ (congrFun (V_v1 m c) _)
  have h := (index0 t).2.2.2.2.2.2.2.1
  refine congrArg (V m c main_v1) (ixEq ?_ ?_)
  · show win0_7.index t 0 * 2816 + 1 * a.val = a.val
    rw [h.1]; omega
  · show win0_7.index t 1 * 1024 + 1 * b.val = b.val
    rw [h.2]; omega

theorem iblk8 (c : Dev nD) (t : Fin cfg0.N) (a : Fin 2816) (b : Fin 1024) : (iblk m c 8 t : S2816x1024.Idx → EReal) (ix2 a b) = Wu m c (ix2 b a) := by
  unfold iblk
  rw [View.read_apply]
  refine Eq.trans ?_ (transpose_apply _ _ transposes_S1024x2816_S2816x1024_1_0 (ix2 a b) _ fun a => match a with | ⟨0, _⟩ => rfl | ⟨1, _⟩ => rfl)
  refine Eq.trans ?_ (congrFun (V_v3 m c) _)
  have h := (index0 t).2.2.2.2.2.2.2.2.1
  refine congrArg (V m c main_v3) (ixEq ?_ ?_)
  · show win0_8.index t 0 * 2816 + 1 * a.val = a.val
    rw [h.1]; omega
  · show win0_8.index t 1 * 1024 + 1 * b.val = b.val
    rw [h.2]; omega

theorem pay41_apply (v170 : Vec Ideal S256x2816 .bf16) (v172 : Vec Ideal S2816x1024 .bf16) (v175 : Vec Ideal S256x2816 .bf16) (v177 : Vec Ideal S2816x1024 .bf16)
    (a : Fin 256) (j : Fin 1024) : k0_pay41 (F := Ideal) v170 v172 v175 v177 (ix2 a j)
      = (∑ k : Fin 2816, v170 (ix2 a k) * v172 (ix2 k j)) + ∑ k : Fin 2816, v175 (ix2 a k) * v177 (ix2 k j) := by
  unfold k0_pay41
  rw [shapeCast_self, shapeCast_self, shapeCast_self, shapeCast_self]
  exact congrArg₂ (· + ·) (mm10 (φ₁ := .bf16) (φ₂ := .bf16) _ none _ _ a j) (mm10 (φ₁ := .bf16) (φ₂ := .bf16) _ none _ _ a j)

theorem pay44_apply (v17 : Vec Ideal S256x1024 .f32) (v19 : Vec Ideal S256x1 .f32) (a : Fin 256) (j : Fin 1024) :
    k0_pay44 (F := Ideal) v17 v19 (ix2 a j) = v17 (ix2 a j) * v19 (ix2 a 0) := by
  unfold k0_pay44 k0_pay42
  rw [shapeCast_self]
  exact congrArg (v17 (ix2 a j) * ·) (bcCol _ _ a j)

theorem pay1_apply (v170 : Vec Ideal S256x2816 .bf16) (v172 : Vec Ideal S2816x1024 .bf16) (v175 : Vec Ideal S256x2816 .bf16) (v177 : Vec Ideal S2816x1024 .bf16)
    (v0 v17 : Vec Ideal S256x1024 .f32) (v19 : Vec Ideal S256x1 .f32) (v21 : Vec Ideal S1x1024 .f32) (a : Fin 256) (j : Fin 1024) :
    k0_pay1 (F := Ideal) v0 (k0_pay42 (F := Ideal) v19) (k0_pay43 (F := Ideal) v170 v172 v175 v177 v21) (k0_pay44 (F := Ideal) v17 v19)
        (k0_pay45 (F := Ideal) v170 v172 v175 v177 v17 v19 v21) (ix2 a j)
      = v0 (ix2 a j) + v19 (ix2 a 0) * (k0_pay41 (F := Ideal) v170 v172 v175 v177 (ix2 a j) * v21 (ix2 0 j) - v17 (ix2 a j) * v19 (ix2 a 0)
        * Ideal.div (∑ k, k0_pay41 (F := Ideal) v170 v172 v175 v177 (ix2 a k) * v21 (ix2 0 k) * (v17 (ix2 a k) * v19 (ix2 a 0))) ((1024 : ℝ) : EReal)) := by
  unfold k0_pay1 k0_pay45
  refine (kBack_apply _ _ v0 _ _ _ _ _ _ _ a j).trans ?_
  have hg (k : Fin 1024) : k0_pay43 (F := Ideal) v170 v172 v175 v177 v21 (ix2 a k) = k0_pay41 (F := Ideal) v170 v172 v175 v177 (ix2 a k) * v21 (ix2 0 k) :=
    congrArg (k0_pay41 (F := Ideal) v170 v172 v175 v177 (ix2 a k) * ·) (bcRow _ _ a k)
  rw [hg]
  simp only [hg, pay44_apply]
  unfold k0_pay42
  rw [shapeCast_self, bcCol]

theorem pay3_apply (v16 v25 : FVec Ideal S256x1024 .f32) (v46 : Vec Ideal S1x1024 .f32) (a : Fin 1) (j : Fin 1024) :
    k0_pay3 (F := Ideal) v16 v25 v46 (ix2 a j) = v46 (ix2 a j) + ∑ k : Fin 256, v16 (ix2 k j) * v25 (ix2 k j) := by
  unfold k0_pay3
  rw [shapeCast_self]
  exact congrArg (v46 (ix2 a j) + ·) ((castRow _ _ a j).trans (sumRows _ _ _ _ _ j))

/-- What the reference needs of its arguments: reals. -/
structure Fin4 (c : Dev nD) : Prop where
  x : ∀ i, IsReal (X m c i)
  g : ∀ i, IsReal (G m c i)
  wg : ∀ i, IsReal (Wg m c i)
  wu : ∀ i, IsReal (Wu m c i)
  wd : ∀ i, IsReal (Wd m c i)
  d : ∀ i, IsReal (D m c i)

variable {m} in
theorem Fin4.pre {c : Dev nD} (h : Fin4 m c) {w : FVec Ideal S1024x2816 .f32} (hw : ∀ i, IsReal (w i)) (i : Fin 4096) (j : Fin 2816) :
    IsReal (pre (X m c) (G m c) w i j) := IsReal.sum _ fun _ => (hNorm_real h.x h.g _ _).mul (hw _)

variable {m} in
theorem Fin4.dh {c : Dev nD} (h : Fin4 m c) (i : Fin 4096) (j : Fin 2816) : IsReal (dh (Wd m c) (D m c) i j) := IsReal.sum _ fun _ => (h.d _).mul (h.wd _)

/-- A tile of the gate's gradient, in the kernel's form. -/
theorem wide5 (c : Dev nD) (hp : Fin4 m c) (t : Fin cfg0.N) (a : Fin 256) (j : Fin 2816) : (wide (iblk m c 1 t) (iblk m c 9 t) (iblk m c 5 t)) (ix2 a j)
    = dh (Wd m c) (D m c) (row t a rows) j * pre (X m c) (G m c) (Wu m c) (row t a rows) j * sg (pre (X m c) (G m c) (Wg m c) (row t a rows) j)
      + pre (X m c) (G m c) (Wg m c) (row t a rows) j * (dh (Wd m c) (D m c) (row t a rows) j * pre (X m c) (G m c) (Wu m c) (row t a rows) j)
        * (sg (pre (X m c) (G m c) (Wg m c) (row t a rows) j) * (cOne - sg (pre (X m c) (G m c) (Wg m c) (row t a rows) j))) := by
  refine (wide_eq (fun k => iblk1 m c t a k) (fun k => iblk9 m c t j k) (iblk5 m c t a j)).trans ?_
  unfold slope
  rw [kPre_apply, kPre_apply]
  exact gate_back (hp.pre hp.wg _ _) (hp.pre hp.wu _ _) (hp.dh _ _)

/-- A tile of the other factor's gradient. -/
theorem wide6 (c : Dev nD) (t : Fin cfg0.N) (a : Fin 256) (j : Fin 2816) : (wide (iblk m c 1 t) (iblk m c 9 t) (iblk m c 6 t)) (ix2 a j)
    = pre (X m c) (G m c) (Wg m c) (row t a rows) j * sg (pre (X m c) (G m c) (Wg m c) (row t a rows) j) * dh (Wd m c) (D m c) (row t a rows) j := by
  refine (wide_eq (fun k => iblk1 m c t a k) (fun k => iblk9 m c t j k) (iblk6 m c t a j)).trans ?_
  unfold silu
  rw [kPre_apply, mul_comm]
  rfl

theorem w5_v46 (c : Dev nD) (hp : Fin4 m c) (t : Fin cfg0.N) (a : Fin 256) (j : Fin 2816) : (wide (iblk m c 1 t) (iblk m c 9 t) (iblk m c 5 t)) (ix2 a j)
    = Cert.ReferenceFfIdeal.Read.val_main_v46 (F := Ideal) (X m c) (G m c) (Wg m c) (Wu m c) (Wd m c) (D m c) (ix2 (row t a rows) j) :=
  (wide5 m c hp t a j).trans (v46_apply ..).symm

theorem w6_v44 (c : Dev nD) (t : Fin cfg0.N) (a : Fin 256) (j : Fin 2816) : (wide (iblk m c 1 t) (iblk m c 9 t) (iblk m c 6 t)) (ix2 a j)
    = Cert.ReferenceFfIdeal.Read.val_main_v44 (F := Ideal) (X m c) (G m c) (Wg m c) (Wd m c) (D m c) (ix2 (row t a rows) j) :=
  (wide6 m c t a j).trans (v44_apply ..).symm

/-- A tile of the cotangent of the normed rows is the reference's. -/
theorem pay41_iblk (c : Dev nD) (hp : Fin4 m c) (t : Fin cfg0.N) (a : Fin 256) (j : Fin 1024) :
    (k0_pay41 (F := Ideal) (wide (iblk m c 1 t) (iblk m c 9 t) (iblk m c 5 t)) (iblk m c 7 t) (wide (iblk m c 1 t) (iblk m c 9 t) (iblk m c 6 t)) (iblk m c 8 t)) (ix2 a j) = up (X m c) (G m c) (Wg m c) (Wu m c) (Wd m c) (D m c) (ix2 (row t a rows) j) := by
  refine (pay41_apply _ _ _ _ a j).trans (Eq.trans ?_ (up_apply _ _ _ _ _ _ (row t a rows) j).symm)
  refine congrArg₂ (· + ·) (Finset.sum_congr rfl fun k _ => ?_) (Finset.sum_congr rfl fun k _ => ?_)
  · rw [w5_v46 m c hp, iblk7]
  · rw [w6_v44, iblk8]

variable {m} in
theorem Fin4.up {c : Dev nD} (h : Fin4 m c) (i : S4096x1024.Idx) : IsReal (hUp (G m c) (up (X m c) (G m c) (Wg m c) (Wu m c) (Wd m c) (D m c)) i) := by
  obtain ⟨a, b, rfl⟩ : ∃ (a : Fin 4096) (b : Fin 1024), i = ix2 a b := ⟨i 0, i 1, eq_ix2 i⟩
  rw [hUp_apply, up_apply]
  have hz (k) := (h.pre h.wg a k).sg
  refine ((IsReal.sum _ fun k => IsReal.mul ?_ (h.wg _)).add (IsReal.sum _ fun k => IsReal.mul ?_ (h.wu _))).mul (h.g _)
  · rw [v46_apply, ← gate_back (h.pre h.wg _ _) (h.pre h.wu _ _) (h.dh _ _)]
    exact (h.dh _ _).mul ((h.pre h.wg _ _).gateSlope (h.pre h.wu _ _))
  · rw [v44_apply]
    exact ((h.pre h.wg _ _).mul (hz k)).mul (h.dh _ _)

/-- A tile of the gradient of the rows is the reference's. -/
theorem pay1_iblk (c : Dev nD) (hp : Fin4 m c) (t : Fin cfg0.N) (a : Fin 256) (j : Fin 1024) :
    k0_pay1 (F := Ideal) (iblk m c 0 t) (k0_pay42 (F := Ideal) (iblk m c 3 t)) (k0_pay43 (F := Ideal) (wide (iblk m c 1 t) (iblk m c 9 t) (iblk m c 5 t)) (iblk m c 7 t) (wide (iblk m c 1 t) (iblk m c 9 t) (iblk m c 6 t)) (iblk m c 8 t) (iblk m c 4 t)) (k0_pay44 (F := Ideal) (iblk m c 2 t) (iblk m c 3 t)) (k0_pay45 (F := Ideal) (wide (iblk m c 1 t) (iblk m c 9 t) (iblk m c 5 t)) (iblk m c 7 t) (wide (iblk m c 1 t) (iblk m c 9 t) (iblk m c 6 t)) (iblk m c 8 t) (iblk m c 2 t) (iblk m c 3 t) (iblk m c 4 t)) (ix2 a j)
      = Cert.ReferenceFfIdeal.Read.val_main_v69 (F := Ideal) (X m c) (G m c) (Wg m c) (Wu m c) (Wd m c) (D m c) (ix2 (row t a rows) j) := by
  refine (pay1_apply _ _ _ _ _ _ _ _ a j).trans ?_
  rw [v69_eq]
  refine Eq.trans ?_ (hBack_apply hp.x hp.up _ (D m c (ix2 (row t a rows) j)) (row t a rows) j
    (congrArg (D m c (ix2 (row t a rows) j) + hUp (G m c) (up (X m c) (G m c) (Wg m c) (Wu m c) (Wd m c) (D m c)) (ix2 (row t a rows) j) * ·) (hSpread_apply _ _ _))).symm
  simp only [pay41_iblk m c hp, iblk0, iblk2, iblk3, iblk4, hUp_apply]

/-- A tile's part of the gradient of the gain. -/
def part (c : Dev nD) (t : Fin cfg0.N) (j : S1x1024.Idx) : EReal := ∑ k : Fin 256, (k0_pay41 (F := Ideal) (wide (iblk m c 1 t) (iblk m c 9 t) (iblk m c 5 t)) (iblk m c 7 t) (wide (iblk m c 1 t) (iblk m c 9 t) (iblk m c 6 t)) (iblk m c 8 t)) (ix2 k (j 1)) * (k0_pay44 (F := Ideal) (iblk m c 2 t) (iblk m c 3 t)) (ix2 k (j 1))

theorem result10 (c : Dev nD) (hp : Fin4 m c) (i : Fin 4096) (j : Fin 1024) : ((dats m 0 c).arrAt 10 cfg0.N : S4096x1024.Idx → EReal) (ix2 i j)
    = Cert.ReferenceFfIdeal.Read.val_main_v69 (F := Ideal) (X m c) (G m c) (Wg m c) (Wu m c) (Wd m c) (D m c) (ix2 i j) := by
  obtain ⟨t, a, rfl⟩ := row_surj rows i
  have hb := congrFun (blocks10 m c t (flush0_10 t)) (ix2 a j)
  rw [View.read_apply, flushed10] at hb
  have h := (index0 t).2.2.2.2.2.2.2.2.2.2.1
  have he : ((cfg0.win 10).blk t).view.emb (ix2 a j) = (ix2 (row t a rows) j : S4096x1024.Idx) := by
    refine ixEq ?_ ?_
    · show win0_10.index t 0 * 256 + 1 * a.val = t.val * 256 + a.val
      rw [h.1]; omega
    · show win0_10.index t 1 * 1024 + 1 * j.val = j.val
      rw [h.2]; omega
  rw [he] at hb
  refine hb.trans (Eq.trans (congrFun (?_ : (outsAt0 m c t.val t.isLt).1 = _) (ix2 a j)) (pay1_iblk m c hp t a j))
  by_cases h0 : t.val % 16 = 0
  · rw [outs_A m c t h0]
  · rw [outs_B m c t h0]

theorem result11 (c : Dev nD) (hp : Fin4 m c) (i : Fin 4096) (j : Fin 1024) : ((dats m 0 c).arrAt 11 cfg0.N : S4096x1024.Idx → EReal) (ix2 i j)
    = Cert.ReferenceFfIdeal.Read.val_main_v70 (F := Ideal) (X m c) (G m c) (Wg m c) (Wu m c) (Wd m c) (D m c) (ix2 i j) := by
  obtain ⟨t, a, rfl⟩ := row_surj rows i
  have hb := congrFun (blocks11 m c t (flush0_11 t)) (ix2 a j)
  rw [View.read_apply, flushed11] at hb
  have h := (index0 t).2.2.2.2.2.2.2.2.2.2.2.1
  have he : ((cfg0.win 11).blk t).view.emb (ix2 a j) = (ix2 (row t a rows) j : S4096x1024.Idx) := by
    refine ixEq ?_ ?_
    · show win0_11.index t 0 * 256 + 1 * a.val = t.val * 256 + a.val
      rw [h.1]; omega
    · show win0_11.index t 1 * 1024 + 1 * j.val = j.val
      rw [h.2]; omega
  rw [he] at hb
  refine hb.trans (Eq.trans (congrFun (?_ : (outsAt0 m c t.val t.isLt).2.1 = _) (ix2 a j)) (pay1_iblk m c hp t a j))
  by_cases h0 : t.val % 16 = 0
  · rw [outs_A m c t h0]; rfl
  · rw [outs_B m c t h0]; rfl

theorem result12 (c : Dev nD) (hp : Fin4 m c) (i : Fin 4096) (j : Fin 2816) : ((dats m 0 c).arrAt 12 cfg0.N : S4096x2816.Idx → EReal) (ix2 i j)
    = Cert.ReferenceFfIdeal.Read.val_main_v71 (F := Ideal) (X m c) (G m c) (Wg m c) (Wu m c) (Wd m c) (D m c) (ix2 i j) := by
  obtain ⟨t, a, rfl⟩ := row_surj rows i
  have hb := congrFun (blocks12 m c t (flush0_12 t)) (ix2 a j)
  rw [View.read_apply, flushed12] at hb
  have h := (index0 t).2.2.2.2.2.2.2.2.2.2.2.2.1
  have he : ((cfg0.win 12).blk t).view.emb (ix2 a j) = (ix2 (row t a rows) j : S4096x2816.Idx) := by
    refine ixEq ?_ ?_
    · show win0_12.index t 0 * 256 + 1 * a.val = t.val * 256 + a.val
      rw [h.1]; omega
    · show win0_12.index t 1 * 2816 + 1 * j.val = j.val
      rw [h.2]; omega
  rw [he] at hb
  refine hb.trans (Eq.trans (congrFun (?_ : (outsAt0 m c t.val t.isLt).2.2.1 = _) (ix2 a j)) ((wide5 m c hp t a j).trans (v20_apply ..).symm))
  by_cases h0 : t.val % 16 = 0
  · rw [outs_A m c t h0]
  · rw [outs_B m c t h0]

theorem result13 (c : Dev nD) (i : Fin 4096) (j : Fin 2816) : ((dats m 0 c).arrAt 13 cfg0.N : S4096x2816.Idx → EReal) (ix2 i j)
    = Cert.ReferenceFfIdeal.Read.val_main_v72 (F := Ideal) (X m c) (G m c) (Wg m c) (Wd m c) (D m c) (ix2 i j) := by
  obtain ⟨t, a, rfl⟩ := row_surj rows i
  have hb := congrFun (blocks13 m c t (flush0_13 t)) (ix2 a j)
  rw [View.read_apply, flushed13] at hb
  have h := (index0 t).2.2.2.2.2.2.2.2.2.2.2.2.2.1
  have he : ((cfg0.win 13).blk t).view.emb (ix2 a j) = (ix2 (row t a rows) j : S4096x2816.Idx) := by
    refine ixEq ?_ ?_
    · show win0_13.index t 0 * 256 + 1 * a.val = t.val * 256 + a.val
      rw [h.1]; omega
    · show win0_13.index t 1 * 2816 + 1 * j.val = j.val
      rw [h.2]; omega
  rw [he] at hb
  refine hb.trans (Eq.trans (congrFun (?_ : (outsAt0 m c t.val t.isLt).2.2.2.1 = _) (ix2 a j)) ((wide6 m c t a j).trans (v18_apply ..).symm))
  by_cases h0 : t.val % 16 = 0
  · rw [outs_A m c t h0]
  · rw [outs_B m c t h0]

/-- This running total after a point. -/
theorem total14 (c : Dev nD) (a : Fin 1) (j : Fin 1024) (n : ℕ) (hn : n < cfg0.N) : (outsAt0 m c n hn).2.2.2.2 (ix2 a j)
    = ∑ k : Fin (n + 1), part m c ⟨k, by omega⟩ (ix2 a j) := by
  refine total (fun n hn => (outsAt0 m c n hn).2.2.2.2 (ix2 a j)) (fun t => part m c t (ix2 a j))
    (fun h => ?_) (fun n h => ?_) n hn
  · show (outsAt0 m c (⟨0, h⟩ : Fin cfg0.N).val h).2.2.2.2 (ix2 a j) = _
    rw [outs_A m c ⟨0, h⟩ rfl]
    refine (pay3_apply _ _ _ a j).trans ?_
    show Ideal.ofBits .f32 0x00000000#32 + _ = _
    rw [Ideal.ofBits_zero_f32]
    exact zero_add _
  · have hN : cfg0.N = 16 := Gen.N_0
    show (outsAt0 m c (⟨n + 1, h⟩ : Fin cfg0.N).val h).2.2.2.2 (ix2 a j) = _
    rw [outs_B m c ⟨n + 1, h⟩ (by show ¬(n + 1) % 16 = 0; omega)]
    exact pay3_apply _ _ _ a j

/-- The one write-back of this total, after the last point. -/
theorem final14 (c : Dev nD) (hl : 15 < cfg0.N) : (dats m 0 c).arrAt 14 cfg0.N = (outsAt0 m c 15 hl).2.2.2.2 := by
  have hN : cfg0.N = 16 := Gen.N_0
  have hz (t : Fin cfg0.N) : (fun a => win0_14.index t a * main_v35_4.ty.shape.size a) = fun _ => 0 := funext fun a => by
    have h := (index0 t).2.2.2.2.2.2.2.2.2.2.2.2.2.2
    match a with
    | ⟨0, _⟩ => show win0_14.index t 0 * _ = 0; rw [h.1, Nat.zero_mul]
    | ⟨1, _⟩ => show win0_14.index t 1 * _ = 0; rw [h.2, Nat.zero_mul]
  refine (dats m 0 c).arrAt_eq_of_cover 14 (outsAt0 m c 15 hl).2.2.2.2 (fun t hf => ?_) fun i => ⟨⟨15, hl⟩, (flush0_14 _).mpr rfl, ?_⟩
  · obtain rfl : t = ⟨15, hl⟩ := Fin.ext (by
      have h7 := (flush0_14 t).mp hf
      have ht : t.val < 16 := lt_of_lt_of_eq t.isLt hN
      show t.val = 15
      omega)
    rw [flushed14]
    dsimp only
    generalize outsAt0 m c 15 hl = y
    exact (Memref.read_access_unit_zero (Elt Ideal) main_v35_4 (hz _) (fun a => by rw [congrFun (hz _) a]; simp) _).symm
  · show i ∈ ((View.whole main_v35_4).slice (win0_14.rect ⟨15, hl⟩)).set
    rw [View.set_slice_whole, Rect.mem_set_unit]
    intro a
    have h := (index0 ⟨15, hl⟩).2.2.2.2.2.2.2.2.2.2.2.2.2.2
    match a with
    | ⟨0, _⟩ =>
      show win0_14.index ⟨15, hl⟩ 0 * 1 ≤ (i 0 : Nat) ∧ (i 0 : Nat) < win0_14.index ⟨15, hl⟩ 0 * 1 + 1
      have : (i 0 : Nat) < 1 := (i 0).isLt
      rw [h.1]; omega
    | ⟨1, _⟩ =>
      show win0_14.index ⟨15, hl⟩ 1 * 1024 ≤ (i 1 : Nat) ∧ (i 1 : Nat) < win0_14.index ⟨15, hl⟩ 1 * 1024 + 1024
      have : (i 1 : Nat) < 1024 := (i 1).isLt
      rw [h.2]; omega

theorem result14 (c : Dev nD) (hp : Fin4 m c) (a : Fin 1) (j : Fin 1024) : ((dats m 0 c).arrAt 14 cfg0.N : S1x1024.Idx → EReal) (ix2 a j)
    = Cert.ReferenceFfIdeal.Read.val_main_v52 (F := Ideal) (X m c) (G m c) (Wg m c) (Wu m c) (Wd m c) (D m c) (ix2 a j) := by
  have hN : cfg0.N = 15 + 1 := Gen.N_0
  rw [final14 m c (by omega)]
  refine (total14 m c a j 15 (by omega)).trans (Eq.trans ?_ (congrFun (v52_eq _ _ _ _ _ _) (ix2 a j)).symm)
  rw [hGain_apply, sum_row rows]
  refine (sum_cast hN (fun t => part m c t (ix2 a j)) _ fun k => rfl).symm.trans (Finset.sum_congr rfl fun t _ => Finset.sum_congr rfl fun b _ => ?_)
  refine (congrArg₂ (· * ·) (pay41_iblk m c hp t b j) (pay44_apply _ _ b j)).trans ?_
  rw [iblk2, iblk3, hScale_apply, mul_comm]

end Cert.KernelFfIdeal.Hand
-- ==== Proof.FfClaim.lean ====
/- The gradient of the feed-forward block and norm: the claim against the reference. -/
module

public import proofs.«01_k».proof.Defs
public import proofs.«01_k».proof.Proof.Gen.KernelFf
public import proofs.«01_k».proof.Proof.Ff
public import proofs.«01_k».proof.Proof.Gen.Pre_finite_ffn
public import proofs.«01_k».proof.Proof.Finite

@[expose] public section

noncomputable section

open Idealize.ShloMosaic Idealize.ShloMosaic.TcCoe Idealize.SL.Sem Idealize.ShloMosaic.ValueIdx

namespace Cert.Hand

theorem frame_reference_Ff : Cert.quiescent_ReferenceFfIdeal := fun m ρ _ =>
  (θ_run Cert.ReferenceFfIdeal.defs _ _).mono (fun r h => ⟨fun c => (h c).2.2.2.2.2, sem_eq_zero_of_no_sems (by decide) r.2⟩)
    (Cert.ReferenceFfIdeal.Hand.run m ρ)

theorem frame_reference_Ff_pre_finite_ffn : Cert.quiescent_ReferenceFfIdeal_pre_finite_ffn := fun m ρ _ =>
  (θ_run Cert.ReferenceFfIdeal.defs _ _).mono (fun r h => ⟨fun c => (h c).2.2.2.2.2, sem_eq_zero_of_no_sems (by decide) r.2⟩)
    (Cert.ReferenceFfIdeal.Hand.run m ρ)

open Cert.KernelFfIdeal in
/-- The precondition, read: every entry of the arrays it names is a real. -/
theorem finite_Ff (m : (ℓ : Loc nD τ sig) → Buf (Elt Ideal) ℓ) (h : Cert.Pre_KernelFfIdeal_finite_ffn m) (c : Dev nD) : Cert.KernelFfIdeal.Hand.Fin4 m c := by
  have H := h c
  unfold Cert.Pre_finite_ffn.fn Cert.Pre_finite_ffn.fn_part1 at H
  obtain ⟨H, h5⟩ := Cert.Kit.ones_cat H
  obtain ⟨H, h4⟩ := Cert.Kit.ones_cat H
  obtain ⟨H, h3⟩ := Cert.Kit.ones_cat H
  obtain ⟨H, h2⟩ := Cert.Kit.ones_cat H
  obtain ⟨H, h1⟩ := Cert.Kit.ones_cat H
  exact ⟨Cert.Kit.real_of_ones (Cert.Kit.ones_cast H), Cert.Kit.real_of_ones (Cert.Kit.ones_cast h1), Cert.Kit.real_of_ones (Cert.Kit.ones_cast h2), Cert.Kit.real_of_ones (Cert.Kit.ones_cast h3), Cert.Kit.real_of_ones (Cert.Kit.ones_cast h4), Cert.Kit.real_of_ones (Cert.Kit.ones_cast h5)⟩

set_option maxHeartbeats 4000000 in
open Cert.KernelFfIdeal in
theorem algebraic_Ff : Cert.algebraic_KernelFfIdeal_ReferenceFfIdeal_pre_finite_ffn := by
  intro m g m' g' hp hargs
  let x0 (c : Dev nD) := m ((c.tc : Thread nD τ).loc main_arg0)
  let x1 (c : Dev nD) := m ((c.tc : Thread nD τ).loc main_arg1)
  let x2 (c : Dev nD) := m ((c.tc : Thread nD τ).loc main_arg2)
  let x3 (c : Dev nD) := m ((c.tc : Thread nD τ).loc main_arg3)
  let x4 (c : Dev nD) := m ((c.tc : Thread nD τ).loc main_arg4)
  let x5 (c : Dev nD) := m ((c.tc : Thread nD τ).loc main_arg5)
  refine ⟨fun c => Cert.ReferenceFfIdeal.Read.val_main_v69 (F := Ideal) (x0 c) (x1 c) (x2 c) (x3 c) (x4 c) (x5 c),
    fun c => Cert.ReferenceFfIdeal.Read.val_main_v70 (F := Ideal) (x0 c) (x1 c) (x2 c) (x3 c) (x4 c) (x5 c),
    fun c => Cert.ReferenceFfIdeal.Read.val_main_v71 (F := Ideal) (x0 c) (x1 c) (x2 c) (x3 c) (x4 c) (x5 c),
    fun c => Cert.ReferenceFfIdeal.Read.val_main_v72 (F := Ideal) (x0 c) (x1 c) (x2 c) (x4 c) (x5 c),
    fun c => Cert.ReferenceFfIdeal.Read.val_main_v52 (F := Ideal) (x0 c) (x1 c) (x2 c) (x3 c) (x4 c) (x5 c), ?_, ?_⟩
  · refine (θ_run defs _ _).mono (fun r h c => ⟨(h c).1.trans ?_, (h c).2.1.trans ?_, (h c).2.2.1.trans ?_, (h c).2.2.2.1.trans ?_, (h c).2.2.2.2.1.trans ?_, (h c).2.2.2.2.2⟩) (Value.run_blocks m g)
    · funext j
      obtain ⟨a, b, rfl⟩ : ∃ (a : Fin 4096) (b : Fin 1024), j = ix2 a b := ⟨j 0, j 1, eq_ix2 j⟩
      exact Hand.result10 m c (finite_Ff m hp c) a b
    · funext j
      obtain ⟨a, b, rfl⟩ : ∃ (a : Fin 4096) (b : Fin 1024), j = ix2 a b := ⟨j 0, j 1, eq_ix2 j⟩
      exact Hand.result11 m c (finite_Ff m hp c) a b
    · funext j
      obtain ⟨a, b, rfl⟩ : ∃ (a : Fin 4096) (b : Fin 2816), j = ix2 a b := ⟨j 0, j 1, eq_ix2 j⟩
      exact Hand.result12 m c (finite_Ff m hp c) a b
    · funext j
      obtain ⟨a, b, rfl⟩ : ∃ (a : Fin 4096) (b : Fin 2816), j = ix2 a b := ⟨j 0, j 1, eq_ix2 j⟩
      exact Hand.result13 m c a b
    · funext j
      obtain ⟨a, b, rfl⟩ : ∃ (a : Fin 1) (b : Fin 1024), j = ix2 a b := ⟨j 0, j 1, eq_ix2 j⟩
      exact Hand.result14 m c (finite_Ff m hp c) a b
  · refine (θ_run Cert.ReferenceFfIdeal.defs _ _).mono (fun r h c => ⟨(h c).1.trans ?_, (h c).2.1.trans ?_, (h c).2.2.1.trans ?_, (h c).2.2.2.1.trans ?_, (h c).2.2.2.2.1.trans ?_, (h c).2.2.2.2.2⟩)
      (Cert.ReferenceFfIdeal.Hand.run m' g')
    · rw [(hargs c).1, (hargs c).2.1, (hargs c).2.2.1, (hargs c).2.2.2.1, (hargs c).2.2.2.2.1, (hargs c).2.2.2.2.2]
    · rw [(hargs c).1, (hargs c).2.1, (hargs c).2.2.1, (hargs c).2.2.2.1, (hargs c).2.2.2.2.1, (hargs c).2.2.2.2.2]
    · rw [(hargs c).1, (hargs c).2.1, (hargs c).2.2.1, (hargs c).2.2.2.1, (hargs c).2.2.2.2.1, (hargs c).2.2.2.2.2]
    · rw [(hargs c).1, (hargs c).2.1, (hargs c).2.2.1, (hargs c).2.2.2.2.1, (hargs c).2.2.2.2.2]
    · rw [(hargs c).1, (hargs c).2.1, (hargs c).2.2.1, (hargs c).2.2.2.1, (hargs c).2.2.2.2.1, (hargs c).2.2.2.2.2]

end Cert.Hand
-- ==== Proof.Heads.lean ====
/- Matrices of 1024 columns as four heads of 256. -/
module

public import proofs.«01_k».proof.Proof.Chunks

@[expose] public section

noncomputable section

open Idealize.ShloMosaic Idealize.ShloMosaic.ValueIdx

namespace Cert.Kit

variable {M : ℕ} {e : EltTy}

/-- A column of a head. -/
abbrev hcol (h : Fin 4) (j : Fin 256) : Fin 1024 := ⟨256 * h.val + j.val, by omega⟩

/-- The head of a column. -/
abbrev headOf (j : Fin 1024) : Fin 4 := ⟨j.val / 256, by omega⟩

/-- Its place in that head. -/
abbrev inHead (j : Fin 1024) : Fin 256 := ⟨j.val % 256, by omega⟩

theorem hcol_self (j : Fin 1024) : hcol (headOf j) (inHead j) = j := Fin.ext (by show 256 * (j.val / 256) + j.val % 256 = j.val; omega)

theorem headOf_hcol (h : Fin 4) (j : Fin 256) : headOf (hcol h j) = h := Fin.ext (by show (256 * h.val + j.val) / 256 = h.val; omega)

theorem inHead_hcol (h : Fin 4) (j : Fin 256) : inHead (hcol h j) = j := Fin.ext (by show (256 * h.val + j.val) % 256 = j.val; omega)

/-- A head's columns. -/
def col (x : Vec Ideal ⟨2, ![M, 1024]⟩ e) (h : Fin 4) : Vec Ideal ⟨2, ![M, 256]⟩ e := fun z => x (ix2 (z 0) (hcol h (z 1)))

/-- Four heads side by side. -/
def heads (f : Fin 4 → Vec Ideal ⟨2, ![M, 256]⟩ e) : Vec Ideal ⟨2, ![M, 1024]⟩ e := fun i => f (headOf (i 1)) (ix2 (i 0) (inHead (i 1)))

theorem heads_hcol (f : Fin 4 → Vec Ideal ⟨2, ![M, 256]⟩ e) (i : Fin M) (h : Fin 4) (j : Fin 256) : heads f (ix2 i (hcol h j)) = f h (ix2 i j) := by
  show f (headOf (hcol h j)) (ix2 i (inHead (hcol h j))) = _
  rw [headOf_hcol, inHead_hcol]

variable {o : ℕ} (h : Fin 4) (ho : o = 256 * h.val)
  (inb : ∀ a, (![0, o] : Fin 2 → ℕ) a + (⟨2, ![M, 256]⟩ : Shape).size a ≤ (⟨2, ![M, 1024]⟩ : Shape).size a)
include ho

theorem emb_head (a : Fin M) (b : Fin 256) :
    (Rect.unit (s := ⟨2, ![M, 1024]⟩) ![0, o] (⟨2, ![M, 256]⟩ : Shape).size inb).emb (ix2 a b) = ix2 a (hcol h b) := by
  subst ho
  exact (emb_ix2 inb a b (by omega) (by omega)).trans (ixEq (Nat.zero_add _) rfl)

theorem ld_head (x : Vec Ideal ⟨2, ![M, 1024]⟩ e) :
    View.ld (Val := Elt Ideal) x (Rect.unit (s := ⟨2, ![M, 1024]⟩) ![0, o] (⟨2, ![M, 256]⟩ : Shape).size inb) = col x h := by
  funext z
  obtain ⟨a, b, rfl⟩ : ∃ (a : Fin M) (b : Fin 256), z = ix2 a b := ⟨z 0, z 1, eq_ix2 z⟩
  exact congrArg x (emb_head h ho inb a b)

theorem piece_head (f : Fin 4 → Vec Ideal ⟨2, ![M, 256]⟩ e) {p : Vec Ideal ⟨2, ![M, 256]⟩ e} (hp : p = f h) (z : (⟨2, ![M, 256]⟩ : Shape).Idx) :
    p z = heads f ((Rect.unit (s := ⟨2, ![M, 1024]⟩) ![0, o] (⟨2, ![M, 256]⟩ : Shape).size inb).emb z) := by
  obtain ⟨a, b, rfl⟩ : ∃ (a : Fin M) (b : Fin 256), z = ix2 a b := ⟨z 0, z 1, eq_ix2 z⟩
  rw [emb_head h ho inb a b, heads_hcol, hp]

end Cert.Kit
-- ==== Proof.Soft.lean ====
/- The softmax of a row of reals and its derivative. -/
module

public import proofs.«01_k».proof.Proof.Kit
public import proofs.«01_k».proof.Proof.Real
public import Idealize.ShloMosaic.Lib.KernelVsHost

@[expose] public section

noncomputable section

open Idealize.ShloMosaic Idealize.ShloMosaic.ValueIdx

namespace Cert.Kit

/-- The scale of the scores, `1 / 16`. -/
def c16 : EReal := Ideal.ofBits .f32 0x3D800000#32

theorem c16_eq : c16 = ((1 / 16 : ℝ) : EReal) := by
  unfold c16
  simp [Ideal.ofBits, Ideal.ieee, -EReal.coe_mul]; norm_num

theorem IsReal.c16 : IsReal Cert.Kit.c16 := ⟨_, c16_eq⟩

theorem c1 : Ideal.ofBits .f32 0x3F800000#32 = 1 := by
  simp [Ideal.ofBits, Ideal.ieee, -EReal.coe_mul]; norm_num

theorem negInf : Ideal.ofBits .f32 0xFF800000#32 = ⊥ := by
  simp [Ideal.ofBits, Ideal.ieee]

variable {n : ℕ}

/-- A row's maximum. -/
def rmax (s : Fin n → EReal) : EReal := Finset.univ.fold max (Ideal.ofBits .f32 0xFF800000#32) s

/-- The exponentials of a row, its maximum taken off. -/
def ex (s : Fin n → EReal) (k : Fin n) : EReal := Ideal.exp (s k - rmax s)

/-- Their share of the sum. -/
def prob (s : Fin n → EReal) (k : Fin n) : EReal := Ideal.div (ex s k) (∑ l, ex s l)

/-- The cotangent of the row, as the kernel spells it. -/
def kSlope (s d : Fin n → EReal) (k : Fin n) : EReal := prob s k * (d k - ∑ l, d l * prob s l)

/-- The cotangent of the row, as the chain rule gives it. -/
def rSlope (s d : Fin n → EReal) (k : Fin n) : EReal :=
  (Ideal.div (d k) (∑ l, ex s l) + -∑ l, d l * Ideal.div 1 ((∑ l, ex s l) * ∑ l, ex s l) * ex s l) * ex s k

theorem rmax_real (hn : 0 < n) {s : Fin n → EReal} (hs : ∀ k, IsReal (s k)) : IsReal (rmax s) := by
  have : Nonempty (Fin n) := ⟨⟨0, hn⟩⟩
  obtain ⟨k, -, hk⟩ := Finset.exists_mem_eq_sup Finset.univ Finset.univ_nonempty s
  have h : rmax s = Finset.univ.sup s := by
    unfold rmax
    rw [negInf]
    rfl
  rw [h, hk]
  exact hs k

theorem ex_pos (hn : 0 < n) {s : Fin n → EReal} (hs : ∀ k, IsReal (s k)) (k : Fin n) : ∃ e : ℝ, 0 < e ∧ ex s k = (e : EReal) := by
  obtain ⟨x, hx⟩ := (hs k).sub (rmax_real hn hs)
  refine ⟨Real.exp x, Real.exp_pos x, ?_⟩
  unfold ex
  rw [hx, Ideal.exp_coe]

theorem slope_eq (hn : 0 < n) {s d : Fin n → EReal} (hs : ∀ k, IsReal (s k)) (hd : ∀ k, IsReal (d k)) (k : Fin n) : kSlope s d k = rSlope s d k := by
  choose e he hee using ex_pos hn hs
  choose d' hd' using hd
  obtain rfl : d = fun k => (d' k : EReal) := funext hd'
  have : Nonempty (Fin n) := ⟨⟨0, hn⟩⟩
  have hS : 0 < ∑ l, e l := Finset.sum_pos (fun l _ => he l) Finset.univ_nonempty
  have hSS : (∑ l, e l) * ∑ l, e l ≠ 0 := (mul_pos hS hS).ne'
  unfold kSlope rSlope prob
  simp only [hee, ← coe_sum, div_real _ _ hS.ne', ← EReal.coe_mul, ← EReal.coe_sub]
  rw [show (1 : EReal) = ((1 : ℝ) : EReal) from rfl]
  simp only [div_real _ _ hSS, ← EReal.coe_mul, ← coe_sum, ← EReal.coe_neg, ← EReal.coe_add]
  congr 1
  have h1 : ∑ l, d' l * (e l / ∑ l, e l) = (∑ l, d' l * e l) / ∑ l, e l := by
    rw [Finset.sum_div]
    exact Finset.sum_congr rfl fun l _ => (mul_div_assoc _ _ _).symm
  have h2 : ∑ l, d' l * (1 / ((∑ l, e l) * ∑ l, e l)) * e l = (∑ l, d' l * e l) / ((∑ l, e l) * ∑ l, e l) := by
    rw [Finset.sum_div]
    exact Finset.sum_congr rfl fun l _ => by ring
  rw [h1, h2]
  field_simp
  ring

theorem prob_real (hn : 0 < n) {s : Fin n → EReal} (hs : ∀ k, IsReal (s k)) (k : Fin n) : IsReal (prob s k) := by
  choose e he hee using ex_pos hn hs
  have : Nonempty (Fin n) := ⟨⟨0, hn⟩⟩
  have hS : 0 < ∑ l, e l := Finset.sum_pos (fun l _ => he l) Finset.univ_nonempty
  unfold prob
  simp only [hee, ← coe_sum, div_real _ _ hS.ne']
  exact IsReal.coe _

theorem kSlope_real (hn : 0 < n) {s d : Fin n → EReal} (hs : ∀ k, IsReal (s k)) (hd : ∀ k, IsReal (d k)) (k : Fin n) : IsReal (kSlope s d k) :=
  (prob_real hn hs k).mul ((hd k).sub (IsReal.sum _ fun l => (hd l).mul (prob_real hn hs l)))

variable {M N : ℕ}

/-- A kernel's maximum over the columns of a matrix. -/
theorem maxCols (x : FVec Ideal ⟨2, ![M, N]⟩ .f32) (h : (⟨2, ![M, N]⟩ : Shape).Reduces [1] ⟨1, ![M]⟩)
    (hφ : FKind.Formats .f32) (hacc : (0xFF800000#32 : BitVec FTy.f32.bits) = FKind.maximumf.neutral .f32 hφ) (r : Fin M) :
    multiReduction .maximumf [1] ⟨1, ![M]⟩ x 0xFF800000#32 h hφ hacc (ix1 r) = rmax fun k : Fin N => x (ix2 r k) := by
  rw [Ideal.multiReduction_maximumf_single]
  refine congrArg (Finset.univ.fold max (Ideal.ofBits .f32 0xFF800000#32)) (funext fun k => congrArg x (funext fun a => Fin.ext ?_))
  match a with
  | ⟨0, _⟩ => rfl
  | ⟨1, _⟩ => rfl

end Cert.Kit
-- ==== Proof.AtRef.lean ====
/- The gradient of the attention and its norm, the reference's stages: the kernel's results read at an index, and the reference's. -/
module

public import proofs.«01_k».proof.Proof.Kit
public import proofs.«01_k».proof.Proof.Rms
public import proofs.«01_k».proof.Proof.Heads
public import proofs.«01_k».proof.Proof.Soft
public import proofs.«01_k».proof.Proof.Gen.ReferenceAtIdeal.Run
public import proofs.«01_k».proof.Proof.Gen.ReferenceAtIdeal.Read
public import Idealize.ShloMosaic.Lib.StableHlo.Run

@[expose] public section

set_option maxRecDepth 16384

noncomputable section

open Idealize.ShloMosaic Idealize.ShloMosaic.TcCoe Idealize.SL.Sem Idealize.ShloMosaic.ValueIdx Cert.Kit

namespace Cert.ReferenceAtIdeal.Hand

open Cert.ReferenceAtIdeal Cert.ReferenceAtIdeal.Read

/-- The reference's run, its results named as the reading's stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v175) = val_main_v175 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v176) = val_main_v176 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v177) = val_main_v177 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v76) = val_main_v76 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v75) = val_main_v75 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6))
      ∧ r.2.mem ((c.tc : Thread nD τ).loc main_v158) = val_main_v158 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (val_main_v175_eq ..), (h c).2.1.trans (val_main_v176_eq ..), (h c).2.2.1.trans (val_main_v177_eq ..), (h c).2.2.2.1.trans (val_main_v76_eq ..), (h c).2.2.2.2.1.trans (val_main_v75_eq ..), (h c).2.2.2.2.2.1.trans (val_main_v158_eq ..),
    (h c).2.2.2.2.2.2⟩) (Cert.ReferenceAtIdeal.Value.run m ρ)

variable (x0 : FVec Ideal S4096x1024 .f32) (x1 : FVec Ideal S1x1024 .f32) (x2 : FVec Ideal S1024x1024 .f32) (x3 x4 : FVec Ideal S256x1024 .f32)
  (x5 : FVec Ideal S1024x1024 .f32) (x6 : FVec Ideal S4096x1024 .f32)

/-- The queries. -/
def qry (i : Fin 4096) (j : Fin 1024) : EReal := ∑ k : Fin 1024, hNorm x0 x1 (ix2 i k) * x2 (ix2 k j)

/-- The scores of a row of queries in a head. -/
def score (h : Fin 4) (i : Fin 4096) (m : Fin 256) : EReal := (∑ k : Fin 256, qry x0 x1 x2 i (hcol h k) * x3 (ix2 m (hcol h k))) * c16

/-- The cotangent of the heads' outputs. -/
def dout (i : Fin 4096) (j : Fin 1024) : EReal := ∑ k : Fin 1024, x6 (ix2 i k) * x5 (ix2 j k)

/-- The cotangent of the shares. -/
def dprob (h : Fin 4) (i : Fin 4096) (m : Fin 256) : EReal := ∑ k : Fin 256, dout x5 x6 i (hcol h k) * x4 (ix2 m (hcol h k))

/-- The cotangent of the products of queries and keys. -/
def dscore (h : Fin 4) (i : Fin 4096) (m : Fin 256) : EReal := rSlope (score x0 x1 x2 x3 h i) (dprob x4 x5 x6 h i) m * c16

theorem max_at {s : Shape} (a b : FVec Ideal s .f32) (y : s.Idx) {p q : EReal} (ha : a y = p) (hb : b y = q) : maximumf a b y = max p q := by
  subst ha hb
  rfl

theorem rowMax (x : FVec Ideal S4x4096x256 .f32) (y : S4x4096.Idx) {s : Fin 256 → EReal} (hs : ∀ z : S4x4096x256.Idx, (z 0).val = (y 0).val → (z 1).val = (y 1).val → x z = s (z 2)) :
    Host.reduce FloatOps.maximumf x (constant S_ .f32 0xFF800000#32) Gen.reducesTo_S4x4096x256_S4x4096_d2 Gen.h_S_ y = rmax s := by
  have hr : S4x4096x256.Reduces [2] S4x4096 := by decide
  rw [hostReduce_maximumf_eq_multiReduction x 0xFF800000#32 Gen.reducesTo_S4x4096x256_S4x4096_d2 Gen.h_S_ hr (.inl rfl) rfl]
  refine (Ideal.multiReduction_maximumf_single x 0xFF800000#32 hr (.inl rfl) rfl y).trans ?_
  exact congrArg (Finset.univ.fold max (Ideal.ofBits .f32 0xFF800000#32)) (funext fun k => hs (hr.lift y k) rfl rfl)

theorem v12_apply (i : Fin 4096) (j : Fin 1024) : val_main_v12 (F := Ideal) x0 x1 x2 (ix2 i j) = qry x0 x1 x2 i j := dg10 _ none _ _ i j

theorem v51_apply (i : Fin 4096) (j : Fin 1024) : val_main_v51 (F := Ideal) x5 x6 (ix2 i j) = dout x5 x6 i j := dg11 _ none _ _ i j

theorem v13_at {y : S4096x4x256.Idx} {i : Fin 4096} {h : Fin 4} {k : Fin 256} (h0 : (y 0).val = i.val) (h1 : (y 1).val = h.val) (h2 : (y 2).val = k.val) :
    val_main_v13 (F := Ideal) x0 x1 x2 y = qry x0 x1 x2 i (hcol h k) := by
  refine (val_main_v13_apply _ _ _ y).trans (Eq.trans (congrArg (val_main_v12 (F := Ideal) x0 x1 x2) (ixEq ?_ ?_)) (v12_apply x0 x1 x2 i (hcol h k)))
  · show (((y 0).val * 4 + (y 1).val) * 256 + (y 2).val) / 1024 = i.val
    omega
  · show (((y 0).val * 4 + (y 1).val) * 256 + (y 2).val) % 1024 = 256 * h.val + k.val
    omega

theorem v14_at {y : S256x4x256.Idx} {i : Fin 256} {h : Fin 4} {k : Fin 256} (h0 : (y 0).val = i.val) (h1 : (y 1).val = h.val) (h2 : (y 2).val = k.val) :
    val_main_v14 (F := Ideal) x3 y = x3 (ix2 i (hcol h k)) := by
  refine (val_main_v14_apply _ y).trans (Eq.trans (congrArg x3 (ixEq ?_ ?_)) rfl)
  · show (((y 0).val * 4 + (y 1).val) * 256 + (y 2).val) / 1024 = i.val
    omega
  · show (((y 0).val * 4 + (y 1).val) * 256 + (y 2).val) % 1024 = 256 * h.val + k.val
    omega

theorem v15_at {y : S256x4x256.Idx} {i : Fin 256} {h : Fin 4} {k : Fin 256} (h0 : (y 0).val = i.val) (h1 : (y 1).val = h.val) (h2 : (y 2).val = k.val) :
    val_main_v15 (F := Ideal) x4 y = x4 (ix2 i (hcol h k)) := by
  refine (val_main_v15_apply _ y).trans (Eq.trans (congrArg x4 (ixEq ?_ ?_)) rfl)
  · show (((y 0).val * 4 + (y 1).val) * 256 + (y 2).val) / 1024 = i.val
    omega
  · show (((y 0).val * 4 + (y 1).val) * 256 + (y 2).val) % 1024 = 256 * h.val + k.val
    omega

theorem v52_at {y : S4096x4x256.Idx} {i : Fin 4096} {h : Fin 4} {k : Fin 256} (h0 : (y 0).val = i.val) (h1 : (y 1).val = h.val) (h2 : (y 2).val = k.val) :
    val_main_v52 (F := Ideal) x5 x6 y = dout x5 x6 i (hcol h k) := by
  refine (val_main_v52_apply _ _ y).trans (Eq.trans (congrArg (val_main_v51 (F := Ideal) x5 x6) (ixEq ?_ ?_)) (v51_apply x5 x6 i (hcol h k)))
  · show (((y 0).val * 4 + (y 1).val) * 256 + (y 2).val) / 1024 = i.val
    omega
  · show (((y 0).val * 4 + (y 1).val) * 256 + (y 2).val) % 1024 = 256 * h.val + k.val
    omega

theorem v18_at {y : S4x4096x256.Idx} {h : Fin 4} {i : Fin 4096} {m : Fin 256} (h0 : (y 0).val = h.val) (h1 : (y 1).val = i.val) (h2 : (y 2).val = m.val) :
    val_main_v18 (F := Ideal) x0 x1 x2 x3 y = score x0 x1 x2 x3 h i m := by
  refine congrArg₂ (· * ·) ((val_main_v16_apply _ _ _ _ y).trans (Finset.sum_congr rfl fun k _ => congrArg₂ (· * ·) (v13_at _ _ _ h1 h0 rfl) (v14_at _ h2 h0 rfl))) ?_
  exact val_main_v17_apply y

theorem v19_at {y : S4x4096.Idx} {h : Fin 4} {i : Fin 4096} (h0 : (y 0).val = h.val) (h1 : (y 1).val = i.val) :
    val_main_v19 (F := Ideal) x0 x1 x2 x3 y = rmax (score x0 x1 x2 x3 h i) := by
  unfold val_main_v19 val_main_cst_3
  exact rowMax _ y fun z g0 g1 => v18_at x0 x1 x2 x3 (g0.trans h0) (g1.trans h1) rfl

theorem v26_at {y : S4x4096.Idx} {h : Fin 4} {i : Fin 4096} (h0 : (y 0).val = h.val) (h1 : (y 1).val = i.val) :
    val_main_v26 (F := Ideal) x0 x1 x2 x3 y = rmax (score x0 x1 x2 x3 h i) := by
  have hb : val_main_v25 (F := Ideal) y = ⊥ := (val_main_v25_apply y).trans negInf
  unfold val_main_v26
  refine (max_at _ _ y hb (v19_at x0 x1 x2 x3 h0 h1)).trans ?_
  exact max_eq_right bot_le

theorem v37_at {y : S4x4096x256.Idx} {h : Fin 4} {i : Fin 4096} {m : Fin 256} (h0 : (y 0).val = h.val) (h1 : (y 1).val = i.val) (h2 : (y 2).val = m.val) :
    val_main_v37 (F := Ideal) x0 x1 x2 x3 y = rmax (score x0 x1 x2 x3 h i) := by
  exact (val_main_v37_apply _ _ _ _ y).trans ((val_main_v36_apply _ _ _ _ _).trans (v26_at x0 x1 x2 x3 h0 h1))

theorem v39_at {y : S4x4096x256.Idx} {h : Fin 4} {i : Fin 4096} {m : Fin 256} (h0 : (y 0).val = h.val) (h1 : (y 1).val = i.val) (h2 : (y 2).val = m.val) :
    val_main_v39 (F := Ideal) x0 x1 x2 x3 y = ex (score x0 x1 x2 x3 h i) m := by
  exact congrArg₂ (fun a b => Ideal.exp (a - b)) (v18_at x0 x1 x2 x3 h0 h1 h2) (v37_at x0 x1 x2 x3 h0 h1 h2)

theorem v40_at {y : S4x4096.Idx} {h : Fin 4} {i : Fin 4096} (h0 : (y 0).val = h.val) (h1 : (y 1).val = i.val) :
    val_main_v40 (F := Ideal) x0 x1 x2 x3 y = ∑ l, ex (score x0 x1 x2 x3 h i) l := by
  refine (val_main_v40_apply _ _ _ _ y).trans ?_
  refine (congrArg₂ (· + ·) (Ideal.ofBits_zero_f32) (Finset.sum_congr rfl fun k _ => v39_at x0 x1 x2 x3 h0 h1 rfl)).trans (zero_add _)

theorem v41_at {y : S4x4096x1.Idx} {h : Fin 4} {i : Fin 4096} (h0 : (y 0).val = h.val) (h1 : (y 1).val = i.val) :
    val_main_v41 (F := Ideal) x0 x1 x2 x3 y = ∑ l, ex (score x0 x1 x2 x3 h i) l := by
  exact (val_main_v41_apply _ _ _ _ y).trans (v40_at x0 x1 x2 x3 h0 h1)

theorem v42_at {y : S4x4096x256.Idx} {h : Fin 4} {i : Fin 4096} {m : Fin 256} (h0 : (y 0).val = h.val) (h1 : (y 1).val = i.val) (h2 : (y 2).val = m.val) :
    val_main_v42 (F := Ideal) x0 x1 x2 x3 y = ∑ l, ex (score x0 x1 x2 x3 h i) l := by
  exact (val_main_v42_apply _ _ _ _ y).trans (v41_at x0 x1 x2 x3 h0 h1)

theorem v43_at {y : S4x4096x256.Idx} {h : Fin 4} {i : Fin 4096} {m : Fin 256} (h0 : (y 0).val = h.val) (h1 : (y 1).val = i.val) (h2 : (y 2).val = m.val) :
    val_main_v43 (F := Ideal) x0 x1 x2 x3 y = prob (score x0 x1 x2 x3 h i) m := by
  exact congrArg₂ Ideal.div (v39_at x0 x1 x2 x3 h0 h1 h2) (v42_at x0 x1 x2 x3 h0 h1 h2)

theorem v46_at {y : S4x4096x1.Idx} {h : Fin 4} {i : Fin 4096} (h0 : (y 0).val = h.val) (h1 : (y 1).val = i.val) :
    val_main_v46 (F := Ideal) x0 x1 x2 x3 y = Ideal.div 1 ((∑ l, ex (score x0 x1 x2 x3 h i) l) * ∑ l, ex (score x0 x1 x2 x3 h i) l) := by
  exact congrArg₂ Ideal.div ((val_main_v45_apply y).trans c1) (congrArg₂ (· * ·) (v41_at x0 x1 x2 x3 h0 h1) (v41_at x0 x1 x2 x3 h0 h1))

theorem v53_at {y : S4x256x4096.Idx} {h : Fin 4} {k : Fin 256} {i : Fin 4096} (h0 : (y 0).val = h.val) (h1 : (y 1).val = k.val) (h2 : (y 2).val = i.val) :
    val_main_v53 (F := Ideal) x5 x6 y = dout x5 x6 i (hcol h k) := by
  exact (val_main_v53_apply _ _ y).trans (v52_at _ _ h2 h0 h1)

theorem v54_at {y : S4x4096x256.Idx} {h : Fin 4} {i : Fin 4096} {m : Fin 256} (h0 : (y 0).val = h.val) (h1 : (y 1).val = i.val) (h2 : (y 2).val = m.val) :
    val_main_v54 (F := Ideal) x4 x5 x6 y = dprob x4 x5 x6 h i m := by
  exact (val_main_v54_apply _ _ _ y).trans (Finset.sum_congr rfl fun k _ => congrArg₂ (· * ·) (v53_at _ _ h0 rfl h1) (v15_at _ h2 h0 rfl))

theorem v57_at {y : S4x4096x256.Idx} {h : Fin 4} {i : Fin 4096} {m : Fin 256} (h0 : (y 0).val = h.val) (h1 : (y 1).val = i.val) (h2 : (y 2).val = m.val) :
    val_main_v57 (F := Ideal) x0 x1 x2 x3 y = Ideal.div 1 ((∑ l, ex (score x0 x1 x2 x3 h i) l) * ∑ l, ex (score x0 x1 x2 x3 h i) l) := by
  exact (val_main_v57_apply _ _ _ _ y).trans (v46_at x0 x1 x2 x3 h0 h1)

theorem v59_at {y : S4x4096x256.Idx} {h : Fin 4} {i : Fin 4096} {m : Fin 256} (h0 : (y 0).val = h.val) (h1 : (y 1).val = i.val) (h2 : (y 2).val = m.val) :
    val_main_v59 (F := Ideal) x0 x1 x2 x3 x4 x5 x6 y = dprob x4 x5 x6 h i m * Ideal.div 1 ((∑ l, ex (score x0 x1 x2 x3 h i) l) * ∑ l, ex (score x0 x1 x2 x3 h i) l) * ex (score x0 x1 x2 x3 h i) m := by
  exact congrArg₂ (· * ·) (congrArg₂ (· * ·) (v54_at x4 x5 x6 h0 h1 h2) (v57_at x0 x1 x2 x3 h0 h1 h2)) (v39_at x0 x1 x2 x3 h0 h1 h2)

theorem v60_at {y : S4x4096.Idx} {h : Fin 4} {i : Fin 4096} (h0 : (y 0).val = h.val) (h1 : (y 1).val = i.val) :
    val_main_v60 (F := Ideal) x0 x1 x2 x3 x4 x5 x6 y = ∑ l, dprob x4 x5 x6 h i l * Ideal.div 1 ((∑ l, ex (score x0 x1 x2 x3 h i) l) * ∑ l, ex (score x0 x1 x2 x3 h i) l) * ex (score x0 x1 x2 x3 h i) l := by
  refine (val_main_v60_apply _ _ _ _ _ _ _ y).trans ?_
  exact (congrArg₂ (· + ·) (Ideal.ofBits_zero_f32) (Finset.sum_congr rfl fun k _ => v59_at x0 x1 x2 x3 x4 x5 x6 h0 h1 rfl)).trans (zero_add _)

theorem v62_at {y : S4x4096x1.Idx} {h : Fin 4} {i : Fin 4096} (h0 : (y 0).val = h.val) (h1 : (y 1).val = i.val) :
    val_main_v62 (F := Ideal) x0 x1 x2 x3 x4 x5 x6 y = -∑ l, dprob x4 x5 x6 h i l * Ideal.div 1 ((∑ l, ex (score x0 x1 x2 x3 h i) l) * ∑ l, ex (score x0 x1 x2 x3 h i) l) * ex (score x0 x1 x2 x3 h i) l := by
  refine congrArg (- ·) ((val_main_v61_apply _ _ _ _ _ _ _ y).trans (v60_at x0 x1 x2 x3 x4 x5 x6 ?_ ?_))
  all_goals have h2 : (y 2).val < 1 := (y 2).isLt
  all_goals have h0' := h.isLt
  all_goals have h1' := i.isLt
  all_goals (try dsimp only)
  all_goals omega

theorem v65_at {y : S4x4096.Idx} {h : Fin 4} {i : Fin 4096} (h0 : (y 0).val = h.val) (h1 : (y 1).val = i.val) :
    val_main_v65 (F := Ideal) x0 x1 x2 x3 x4 x5 x6 y = -∑ l, dprob x4 x5 x6 h i l * Ideal.div 1 ((∑ l, ex (score x0 x1 x2 x3 h i) l) * ∑ l, ex (score x0 x1 x2 x3 h i) l) * ex (score x0 x1 x2 x3 h i) l := by
  refine (val_main_v65_apply _ _ _ _ _ _ _ y).trans ?_
  rw [Fin.sum_univ_one]
  exact (congrArg₂ (· + ·) (Ideal.ofBits_zero_f32) (v62_at x0 x1 x2 x3 x4 x5 x6 h0 h1)).trans (zero_add _)

theorem v66_at {y : S4x4096x256.Idx} {h : Fin 4} {i : Fin 4096} {m : Fin 256} (h0 : (y 0).val = h.val) (h1 : (y 1).val = i.val) (h2 : (y 2).val = m.val) :
    val_main_v66 (F := Ideal) x0 x1 x2 x3 x4 x5 x6 y = -∑ l, dprob x4 x5 x6 h i l * Ideal.div 1 ((∑ l, ex (score x0 x1 x2 x3 h i) l) * ∑ l, ex (score x0 x1 x2 x3 h i) l) * ex (score x0 x1 x2 x3 h i) l := by
  exact (val_main_v66_apply _ _ _ _ _ _ _ y).trans (v65_at x0 x1 x2 x3 x4 x5 x6 h0 h1)

theorem v64_at {y : S4x4096x256.Idx} {h : Fin 4} {i : Fin 4096} {m : Fin 256} (h0 : (y 0).val = h.val) (h1 : (y 1).val = i.val) (h2 : (y 2).val = m.val) :
    val_main_v64 (F := Ideal) x0 x1 x2 x3 x4 x5 x6 y = Ideal.div (dprob x4 x5 x6 h i m) (∑ l, ex (score x0 x1 x2 x3 h i) l) := by
  exact congrArg₂ Ideal.div (v54_at x4 x5 x6 h0 h1 h2) ((val_main_v63_apply _ _ _ _ y).trans (v41_at x0 x1 x2 x3 h0 h1))

theorem v70_at {y : S4x4096x256.Idx} {h : Fin 4} {i : Fin 4096} {m : Fin 256} (h0 : (y 0).val = h.val) (h1 : (y 1).val = i.val) (h2 : (y 2).val = m.val) :
    val_main_v70 (F := Ideal) x0 x1 x2 x3 x4 x5 x6 y = dscore x0 x1 x2 x3 x4 x5 x6 h i m := by
  exact congrArg₂ (· * ·) (congrArg₂ (· * ·) (congrArg₂ (· + ·) (v64_at x0 x1 x2 x3 x4 x5 x6 h0 h1 h2) (v66_at x0 x1 x2 x3 x4 x5 x6 h0 h1 h2)) (v39_at x0 x1 x2 x3 h0 h1 h2)) (val_main_v69_apply y)

theorem v77_apply (i : Fin 4096) (h : Fin 4) (j : Fin 256) : val_main_v77 (F := Ideal) x0 x1 x2 x3 x4 x5 x6 (ix2 i (hcol h j))
    = ∑ m : Fin 256, dscore x0 x1 x2 x3 x4 x5 x6 h i m * x3 (ix2 m (hcol h j)) := by
  refine (val_main_v77_apply _ _ _ _ _ _ _ _).trans ((val_main_v74_apply _ _ _ _ _ _ _ _).trans ((val_main_v73_apply _ _ _ _ _ _ _ _).trans (Finset.sum_congr rfl fun m _ =>
    congrArg₂ (· * ·) (v70_at x0 x1 x2 x3 x4 x5 x6 ?_ ?_ rfl) (v14_at x3 rfl ?_ ?_))))
  · show ((i.val * 1024 + (256 * h.val + j.val)) / 256) % 4 = h.val
    omega
  · show ((i.val * 1024 + (256 * h.val + j.val)) / 1024) = i.val
    omega
  · show ((i.val * 1024 + (256 * h.val + j.val)) / 256) % 4 = h.val
    omega
  · show (i.val * 1024 + (256 * h.val + j.val)) % 256 = j.val
    omega

theorem v76_apply (m : Fin 256) (h : Fin 4) (j : Fin 256) : val_main_v76 (F := Ideal) x0 x1 x2 x3 x4 x5 x6 (ix2 m (hcol h j))
    = ∑ i : Fin 4096, dscore x0 x1 x2 x3 x4 x5 x6 h i m * qry x0 x1 x2 i (hcol h j) := by
  refine (val_main_v76_apply _ _ _ _ _ _ _ _).trans ((val_main_v72_apply _ _ _ _ _ _ _ _).trans ((val_main_v71_apply _ _ _ _ _ _ _ _).trans (Finset.sum_congr rfl fun i _ =>
    congrArg₂ (· * ·) (v70_at x0 x1 x2 x3 x4 x5 x6 ?_ rfl ?_) (v13_at x0 x1 x2 rfl ?_ ?_))))
  · show ((m.val * 1024 + (256 * h.val + j.val)) / 256) % 4 = h.val
    omega
  · show ((m.val * 1024 + (256 * h.val + j.val)) / 1024) = m.val
    omega
  · show ((m.val * 1024 + (256 * h.val + j.val)) / 256) % 4 = h.val
    omega
  · show (m.val * 1024 + (256 * h.val + j.val)) % 256 = j.val
    omega

theorem v75_apply (m : Fin 256) (h : Fin 4) (j : Fin 256) : val_main_v75 (F := Ideal) x0 x1 x2 x3 x5 x6 (ix2 m (hcol h j))
    = ∑ i : Fin 4096, dout x5 x6 i (hcol h j) * prob (score x0 x1 x2 x3 h i) m := by
  refine (val_main_v75_apply _ _ _ _ _ _ _).trans ((val_main_v56_apply _ _ _ _ _ _ _).trans ((val_main_v55_apply _ _ _ _ _ _ _).trans (Finset.sum_congr rfl fun i _ =>
    congrArg₂ (· * ·) (v53_at x5 x6 ?_ ?_ rfl) (v43_at x0 x1 x2 x3 ?_ rfl ?_))))
  · show ((m.val * 1024 + (256 * h.val + j.val)) / 256) % 4 = h.val
    omega
  · show (m.val * 1024 + (256 * h.val + j.val)) % 256 = j.val
    omega
  · show ((m.val * 1024 + (256 * h.val + j.val)) / 256) % 4 = h.val
    omega
  · show ((m.val * 1024 + (256 * h.val + j.val)) / 1024) = m.val
    omega

theorem v154_eq : val_main_v154 (F := Ideal) x0 x1 x2 x3 x4 x5 x6 = val_main_v77 (F := Ideal) x0 x1 x2 x3 x4 x5 x6 := by
  have h : val_main_v133 (F := Ideal) x6 = x6 := shapeCast_self _ _
  unfold val_main_v154 val_main_v153 val_main_v152 val_main_v151 val_main_v149 val_main_v148 val_main_v147 val_main_v146 val_main_v145 val_main_v143 val_main_v142
    val_main_v141 val_main_v140 val_main_v139 val_main_v137 val_main_v136 val_main_v135 val_main_v134
  rw [h]
  rfl

theorem v177_at (i : Fin 4096) (j : Fin 1024) : val_main_v177 (F := Ideal) x0 x1 x2 x3 x4 x5 x6 (ix2 i j) = val_main_v77 (F := Ideal) x0 x1 x2 x3 x4 x5 x6 (ix2 i j) := rfl

/-- The cotangent of the normed rows. -/
def up : FVec Ideal S4096x1024 .f32 := val_main_v155 (F := Ideal) x0 x1 x2 x3 x4 x5 x6

theorem up_apply (i : Fin 4096) (j : Fin 1024) : up x0 x1 x2 x3 x4 x5 x6 (ix2 i j) = ∑ k : Fin 1024, val_main_v77 (F := Ideal) x0 x1 x2 x3 x4 x5 x6 (ix2 i k) * x2 (ix2 j k) := by
  refine (dg11 _ none _ _ i j).trans ?_
  rw [v154_eq]

theorem v175_eq : val_main_v175 (F := Ideal) x0 x1 x2 x3 x4 x5 x6
    = hBack x0 (hUp x1 (up x0 x1 x2 x3 x4 x5 x6 )) (addf x6 (mulf (hUp x1 (up x0 x1 x2 x3 x4 x5 x6 )) (hSpread (hScale x0)))) := rfl

theorem v158_eq : val_main_v158 (F := Ideal) x0 x1 x2 x3 x4 x5 x6 = hGain x0 (up x0 x1 x2 x3 x4 x5 x6 ) := rfl

end Cert.ReferenceAtIdeal.Hand
-- ==== Proof.AtOuts.lean ====
/- The gradient of the attention and its norm, what a point of its grid leaves: the kernel's results read at an index, and the reference's. -/
module

public import proofs.«01_k».proof.Proof.Kit
public import proofs.«01_k».proof.Proof.Rms
public import proofs.«01_k».proof.Proof.Heads
public import Idealize.ShloMosaic.Lib.Pipeline.ReadBack
public import proofs.«01_k».proof.Proof.Gen.KernelAtIdeal.Value
public import Idealize.ShloMosaic.Lib.StableHlo.Run

@[expose] public section

set_option maxRecDepth 16384

noncomputable section

open Idealize.ShloMosaic Idealize.ShloMosaic.TcCoe Idealize.SL.Sem Idealize.ShloMosaic.ValueIdx Cert.Kit

namespace Cert.KernelAtIdeal.Hand

open Cert.KernelAtIdeal Cert.KernelAtIdeal.Gen Cert.KernelAtIdeal.Value

variable (m : (ℓ : Loc nD τ sig) → Buf (Elt Ideal) ℓ) (ρ : Dev nD → PrngReg)

section
variable (q d : Vec Ideal S512x256 .bf16) (k v : Vec Ideal S256x256 .bf16) (x : Vec Ideal S256x256 .f32)

/-- What a head adds to the gradient of the values. -/
def hDv : FVec Ideal S256x256 .f32 := k0_pay14 d (k0_pay12 q k) (k0_pay13 x)

/-- A head's gradient of the queries. -/
def hDq : FVec Ideal S512x256 .bf16 := k0_pay16 (k0_pay9 k) (k0_pay10 v) d (k0_pay11 q k)

/-- What a head adds to the gradient of the keys. -/
def hDk : FVec Ideal S256x256 .f32 := k0_pay17 (k0_pay8 q) (k0_pay10 v) d (k0_pay11 q k) x
end

section
variable (Q D : Vec Ideal S512x1024 .bf16) (K V : Vec Ideal S256x1024 .bf16) (X : Vec Ideal S256x1024 .f32)

/-- The gradient of the values, all heads. -/
def wDv : Vec Ideal S256x1024 .f32 := heads fun h => hDv (col Q h) (col D h) (col K h) (col X h)

/-- The gradient of the queries, all heads. -/
def wDq : Vec Ideal S512x1024 .bf16 := heads fun h => hDq (col Q h) (col D h) (col K h) (col V h)

/-- The gradient of the keys, all heads. -/
def wDk : Vec Ideal S256x1024 .f32 := heads fun h => hDk (col Q h) (col D h) (col K h) (col V h) (col X h)

variable (h : Fin 4) {o : ℕ} (ho : o = 256 * h.val) (hq : ∀ a, (![0, o] : Fin 2 → ℕ) a + S512x256.size a ≤ S512x1024.size a)
  (hk : ∀ a, (![0, o] : Fin 2 → ℕ) a + S256x256.size a ≤ S256x1024.size a)

/-- A head's columns, as the kernel loads them. -/
abbrev ldq (x : Vec Ideal S512x1024 .bf16) : Vec Ideal S512x256 .bf16 := View.ld (Val := Elt Ideal) x (Rect.unit (s := S512x1024) ![0, o] S512x256.size hq)
@[inherit_doc ldq]
abbrev ldk {e : EltTy} (x : Vec Ideal S256x1024 e) : Vec Ideal S256x256 e := View.ld (Val := Elt Ideal) x (Rect.unit (s := S256x1024) ![0, o] S256x256.size hk)

include ho
theorem dv_piece (z : S256x256.Idx) : hDv (ldq hq Q) (ldq hq D) (ldk hk K) (ldk hk X) z
    = wDv Q D K X ((Rect.unit (s := S256x1024) ![0, o] S256x256.size hk).emb z) := by
  refine piece_head (e := .f32) h ho hk (fun h => hDv (col Q h) (col D h) (col K h) (col X h)) ?_ z
  unfold ldq ldk
  rw [ld_head h ho hq Q, ld_head h ho hq D, ld_head h ho hk K, ld_head h ho hk X]

theorem dq_piece (z : S512x256.Idx) : hDq (ldq hq Q) (ldq hq D) (ldk hk K) (ldk hk V) z
    = wDq Q D K V ((Rect.unit (s := S512x1024) ![0, o] S512x256.size hq).emb z) := by
  refine piece_head (e := .bf16) h ho hq (fun h => hDq (col Q h) (col D h) (col K h) (col V h)) ?_ z
  unfold ldq ldk
  rw [ld_head h ho hq Q, ld_head h ho hq D, ld_head h ho hk K, ld_head h ho hk V]

theorem dk_piece (z : S256x256.Idx) : hDk (ldq hq Q) (ldq hq D) (ldk hk K) (ldk hk V) (ldk hk X) z
    = wDk Q D K V X ((Rect.unit (s := S256x1024) ![0, o] S256x256.size hk).emb z) := by
  refine piece_head (e := .f32) h ho hk (fun h => hDk (col Q h) (col D h) (col K h) (col V h) (col X h)) ?_ z
  unfold ldq ldk
  rw [ld_head h ho hq Q, ld_head h ho hq D, ld_head h ho hk K, ld_head h ho hk V, ld_head h ho hk X]
end

set_option pp.maxSteps 300 in
set_option maxHeartbeats 4000000 in
/-- What a point of case A leaves in the outputs. -/
theorem outs_A (c : Dev nD) (t : Fin cfg0.N) (h0 : t.val % 8 = 0) :
    outsAt0 m c t.val t.isLt = (k0_pay1 (F := Ideal) (k0_pay47 (F := Ideal) (wDq (iblk m c 5 t) (k0_pay7 (F := Ideal) (iblk m c 1 t) (iblk m c 9 t)) (iblk m c 6 t) (iblk m c 7 t)) (iblk m c 8 t) (iblk m c 4 t)) (iblk m c 0 t) (k0_pay48 (F := Ideal) (iblk m c 3 t)) (k0_pay49 (F := Ideal) (wDq (iblk m c 5 t) (k0_pay7 (F := Ideal) (iblk m c 1 t) (iblk m c 9 t)) (iblk m c 6 t) (iblk m c 7 t)) (iblk m c 8 t) (iblk m c 2 t) (iblk m c 3 t) (iblk m c 4 t)),
      k0_pay2 (F := Ideal) (k0_pay47 (F := Ideal) (wDq (iblk m c 5 t) (k0_pay7 (F := Ideal) (iblk m c 1 t) (iblk m c 9 t)) (iblk m c 6 t) (iblk m c 7 t)) (iblk m c 8 t) (iblk m c 4 t)) (iblk m c 0 t) (k0_pay48 (F := Ideal) (iblk m c 3 t)) (k0_pay49 (F := Ideal) (wDq (iblk m c 5 t) (k0_pay7 (F := Ideal) (iblk m c 1 t) (iblk m c 9 t)) (iblk m c 6 t) (iblk m c 7 t)) (iblk m c 8 t) (iblk m c 2 t) (iblk m c 3 t) (iblk m c 4 t)),
      (wDq (iblk m c 5 t) (k0_pay7 (F := Ideal) (iblk m c 1 t) (iblk m c 9 t)) (iblk m c 6 t) (iblk m c 7 t)),
      wDk (iblk m c 5 t) (k0_pay7 (F := Ideal) (iblk m c 1 t) (iblk m c 9 t)) (iblk m c 6 t) (iblk m c 7 t) (k0_pay4 (F := Ideal)),
      wDv (iblk m c 5 t) (k0_pay7 (F := Ideal) (iblk m c 1 t) (iblk m c 9 t)) (iblk m c 6 t) (k0_pay5 (F := Ideal)),
      k0_pay3 (F := Ideal) (k0_pay45 (F := Ideal) (wDq (iblk m c 5 t) (k0_pay7 (F := Ideal) (iblk m c 1 t) (iblk m c 9 t)) (iblk m c 6 t) (iblk m c 7 t)) (iblk m c 8 t)) (k0_pay46 (F := Ideal) (iblk m c 2 t) (iblk m c 3 t)) (k0_pay6 (F := Ideal))) := by
  rw [outsAt0_A m c t h0]
  refine Prod.ext ?_ (Prod.ext ?_ (Prod.ext ?_ (Prod.ext ?_ (Prod.ext ?_ ?_))))
  · dsimp only
    unfold out0_A_10
    rw [View.read_writes_eq_canon _ _ _ (fun _ => cover0_A_10 ..)]
    unfold kernelRun0_A
    dsimp only
    sl_unfold_words
    rw [View.canon_unit_zero hz2]
    simp (disch := first | rfl | decide) only [↓View.readCov_skip, ↓View.readCov_fill, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
      View.ld_unit_zero (S := S512x1024) hz2, View.ld_unit_zero (S := S1024x1024) hz2, View.ld_unit_zero (S := S512x1) hz2, View.ld_unit_zero (S := S1x1024) hz2]
    rw [readCov_pieces (S := S512x1024) (ms0_12 t).view (wDq (iblk m c 5 t) (k0_pay7 (F := Ideal) (iblk m c 1 t) (iblk m c 9 t)) (iblk m c 6 t) (iblk m c 7 t)) hz2]
    · skip
      refine piece_cons (dq_piece (iblk m c 5 t) (k0_pay7 (F := Ideal) (iblk m c 1 t) (iblk m c 9 t)) (iblk m c 6 t) (iblk m c 7 t) 3 rfl _ _) ?_
      refine piece_cons (dq_piece (iblk m c 5 t) (k0_pay7 (F := Ideal) (iblk m c 1 t) (iblk m c 9 t)) (iblk m c 6 t) (iblk m c 7 t) 2 rfl _ _) ?_
      refine piece_cons (dq_piece (iblk m c 5 t) (k0_pay7 (F := Ideal) (iblk m c 1 t) (iblk m c 9 t)) (iblk m c 6 t) (iblk m c 7 t) 1 rfl _ _) ?_
      refine piece_cons (dq_piece (iblk m c 5 t) (k0_pay7 (F := Ideal) (iblk m c 1 t) (iblk m c 9 t)) (iblk m c 6 t) (iblk m c 7 t) 0 rfl _ _) ?_
      exact piece_nil
    · exact View.cover_of_tiled_head _ _ _ rfl
  · dsimp only
    unfold out0_A_11
    rw [View.read_writes_eq_canon _ _ _ (fun _ => cover0_A_11 ..)]
    unfold kernelRun0_A
    dsimp only
    sl_unfold_words
    rw [View.canon_unit_zero hz2]
    simp (disch := first | rfl | decide) only [↓View.readCov_skip, ↓View.readCov_fill, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
      View.ld_unit_zero (S := S512x1024) hz2, View.ld_unit_zero (S := S1024x1024) hz2, View.ld_unit_zero (S := S512x1) hz2, View.ld_unit_zero (S := S1x1024) hz2]
    rw [readCov_pieces (S := S512x1024) (ms0_12 t).view (wDq (iblk m c 5 t) (k0_pay7 (F := Ideal) (iblk m c 1 t) (iblk m c 9 t)) (iblk m c 6 t) (iblk m c 7 t)) hz2]
    · skip
      refine piece_cons (dq_piece (iblk m c 5 t) (k0_pay7 (F := Ideal) (iblk m c 1 t) (iblk m c 9 t)) (iblk m c 6 t) (iblk m c 7 t) 3 rfl _ _) ?_
      refine piece_cons (dq_piece (iblk m c 5 t) (k0_pay7 (F := Ideal) (iblk m c 1 t) (iblk m c 9 t)) (iblk m c 6 t) (iblk m c 7 t) 2 rfl _ _) ?_
      refine piece_cons (dq_piece (iblk m c 5 t) (k0_pay7 (F := Ideal) (iblk m c 1 t) (iblk m c 9 t)) (iblk m c 6 t) (iblk m c 7 t) 1 rfl _ _) ?_
      refine piece_cons (dq_piece (iblk m c 5 t) (k0_pay7 (F := Ideal) (iblk m c 1 t) (iblk m c 9 t)) (iblk m c 6 t) (iblk m c 7 t) 0 rfl _ _) ?_
      exact piece_nil
    · exact View.cover_of_tiled_head _ _ _ rfl
  · dsimp only
    unfold out0_A_12
    rw [View.read_writes_eq_canon _ _ _ (fun _ => cover0_A_12 ..)]
    unfold kernelRun0_A
    dsimp only
    sl_unfold_words
    simp (disch := first | rfl | decide) only [↓View.readCov_skip, ↓View.readCov_fill, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
      View.ld_unit_zero (S := S512x1024) hz2, View.ld_unit_zero (S := S1024x1024) hz2, View.ld_unit_zero (S := S512x1) hz2, View.ld_unit_zero (S := S1x1024) hz2]
    refine canon_pieces _ _ ?_ (View.cover_of_tiled_head _ _ _ rfl)
    refine piece_cons (dq_piece (iblk m c 5 t) (k0_pay7 (F := Ideal) (iblk m c 1 t) (iblk m c 9 t)) (iblk m c 6 t) (iblk m c 7 t) 3 rfl _ _) ?_
    refine piece_cons (dq_piece (iblk m c 5 t) (k0_pay7 (F := Ideal) (iblk m c 1 t) (iblk m c 9 t)) (iblk m c 6 t) (iblk m c 7 t) 2 rfl _ _) ?_
    refine piece_cons (dq_piece (iblk m c 5 t) (k0_pay7 (F := Ideal) (iblk m c 1 t) (iblk m c 9 t)) (iblk m c 6 t) (iblk m c 7 t) 1 rfl _ _) ?_
    refine piece_cons (dq_piece (iblk m c 5 t) (k0_pay7 (F := Ideal) (iblk m c 1 t) (iblk m c 9 t)) (iblk m c 6 t) (iblk m c 7 t) 0 rfl _ _) ?_
    exact piece_nil
  · dsimp only
    unfold out0_A_13
    rw [View.read_writes_eq_canon _ _ _ (fun _ => cover0_A_13 ..)]
    unfold kernelRun0_A
    dsimp only
    sl_unfold_words
    simp (disch := first | rfl | decide) only [↓View.readCov_skip, ↓View.readCov_fill, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
      View.ld_unit_zero (S := S512x1024) hz2, View.ld_unit_zero (S := S1024x1024) hz2, View.ld_unit_zero (S := S512x1) hz2, View.ld_unit_zero (S := S1x1024) hz2]
    refine canon_over _ [_, _, _, _] _ ?_ (View.cover_of_tiled_head _ _ _ rfl)
    refine piece_cons (dk_piece (iblk m c 5 t) (k0_pay7 (F := Ideal) (iblk m c 1 t) (iblk m c 9 t)) (iblk m c 6 t) (iblk m c 7 t) (k0_pay4 (F := Ideal)) 3 rfl _ _) ?_
    refine piece_cons (dk_piece (iblk m c 5 t) (k0_pay7 (F := Ideal) (iblk m c 1 t) (iblk m c 9 t)) (iblk m c 6 t) (iblk m c 7 t) (k0_pay4 (F := Ideal)) 2 rfl _ _) ?_
    refine piece_cons (dk_piece (iblk m c 5 t) (k0_pay7 (F := Ideal) (iblk m c 1 t) (iblk m c 9 t)) (iblk m c 6 t) (iblk m c 7 t) (k0_pay4 (F := Ideal)) 1 rfl _ _) ?_
    refine piece_cons (dk_piece (iblk m c 5 t) (k0_pay7 (F := Ideal) (iblk m c 1 t) (iblk m c 9 t)) (iblk m c 6 t) (iblk m c 7 t) (k0_pay4 (F := Ideal)) 0 rfl _ _) ?_
    exact piece_nil
  · dsimp only
    unfold out0_A_14
    rw [View.read_writes_eq_canon _ _ _ (fun _ => cover0_A_14 ..)]
    unfold kernelRun0_A
    dsimp only
    sl_unfold_words
    simp (disch := first | rfl | decide) only [↓View.readCov_skip, ↓View.readCov_fill, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
      View.ld_unit_zero (S := S512x1024) hz2, View.ld_unit_zero (S := S1024x1024) hz2, View.ld_unit_zero (S := S512x1) hz2, View.ld_unit_zero (S := S1x1024) hz2]
    refine canon_over _ [_, _, _, _] _ ?_ (View.cover_of_tiled_head _ _ _ rfl)
    refine piece_cons (dv_piece (iblk m c 5 t) (k0_pay7 (F := Ideal) (iblk m c 1 t) (iblk m c 9 t)) (iblk m c 6 t) (k0_pay5 (F := Ideal)) 3 rfl _ _) ?_
    refine piece_cons (dv_piece (iblk m c 5 t) (k0_pay7 (F := Ideal) (iblk m c 1 t) (iblk m c 9 t)) (iblk m c 6 t) (k0_pay5 (F := Ideal)) 2 rfl _ _) ?_
    refine piece_cons (dv_piece (iblk m c 5 t) (k0_pay7 (F := Ideal) (iblk m c 1 t) (iblk m c 9 t)) (iblk m c 6 t) (k0_pay5 (F := Ideal)) 1 rfl _ _) ?_
    refine piece_cons (dv_piece (iblk m c 5 t) (k0_pay7 (F := Ideal) (iblk m c 1 t) (iblk m c 9 t)) (iblk m c 6 t) (k0_pay5 (F := Ideal)) 0 rfl _ _) ?_
    exact piece_nil
  · dsimp only
    unfold out0_A_15
    rw [View.read_writes_eq_canon _ _ _ (fun _ => cover0_A_15 ..)]
    unfold kernelRun0_A
    dsimp only
    sl_unfold_words
    rw [View.canon_cons_unit_zero (S := S1x1024) hz2, View.readCov_unit_zero (S := S1x1024) _ hz2]
    simp (disch := first | rfl | decide) only [↓View.readCov_skip, ↓View.readCov_fill, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
      View.ld_unit_zero (S := S512x1024) hz2, View.ld_unit_zero (S := S1024x1024) hz2, View.ld_unit_zero (S := S512x1) hz2, View.ld_unit_zero (S := S1x1024) hz2]
    rw [readCov_pieces (S := S512x1024) (ms0_12 t).view (wDq (iblk m c 5 t) (k0_pay7 (F := Ideal) (iblk m c 1 t) (iblk m c 9 t)) (iblk m c 6 t) (iblk m c 7 t)) hz2]
    · skip
      refine piece_cons (dq_piece (iblk m c 5 t) (k0_pay7 (F := Ideal) (iblk m c 1 t) (iblk m c 9 t)) (iblk m c 6 t) (iblk m c 7 t) 3 rfl _ _) ?_
      refine piece_cons (dq_piece (iblk m c 5 t) (k0_pay7 (F := Ideal) (iblk m c 1 t) (iblk m c 9 t)) (iblk m c 6 t) (iblk m c 7 t) 2 rfl _ _) ?_
      refine piece_cons (dq_piece (iblk m c 5 t) (k0_pay7 (F := Ideal) (iblk m c 1 t) (iblk m c 9 t)) (iblk m c 6 t) (iblk m c 7 t) 1 rfl _ _) ?_
      refine piece_cons (dq_piece (iblk m c 5 t) (k0_pay7 (F := Ideal) (iblk m c 1 t) (iblk m c 9 t)) (iblk m c 6 t) (iblk m c 7 t) 0 rfl _ _) ?_
      exact piece_nil
    · exact View.cover_of_tiled_head _ _ _ rfl

set_option pp.maxSteps 300 in
set_option maxHeartbeats 4000000 in
/-- What a point of case B leaves in the outputs. -/
theorem outs_B (c : Dev nD) (t : Fin cfg0.N) (h0 : ¬t.val % 8 = 0) :
    outsAt0 m c t.val t.isLt = (k0_pay1 (F := Ideal) (k0_pay47 (F := Ideal) (wDq (iblk m c 5 t) (k0_pay7 (F := Ideal) (iblk m c 1 t) (iblk m c 9 t)) (iblk m c 6 t) (iblk m c 7 t)) (iblk m c 8 t) (iblk m c 4 t)) (iblk m c 0 t) (k0_pay48 (F := Ideal) (iblk m c 3 t)) (k0_pay49 (F := Ideal) (wDq (iblk m c 5 t) (k0_pay7 (F := Ideal) (iblk m c 1 t) (iblk m c 9 t)) (iblk m c 6 t) (iblk m c 7 t)) (iblk m c 8 t) (iblk m c 2 t) (iblk m c 3 t) (iblk m c 4 t)),
      k0_pay2 (F := Ideal) (k0_pay47 (F := Ideal) (wDq (iblk m c 5 t) (k0_pay7 (F := Ideal) (iblk m c 1 t) (iblk m c 9 t)) (iblk m c 6 t) (iblk m c 7 t)) (iblk m c 8 t) (iblk m c 4 t)) (iblk m c 0 t) (k0_pay48 (F := Ideal) (iblk m c 3 t)) (k0_pay49 (F := Ideal) (wDq (iblk m c 5 t) (k0_pay7 (F := Ideal) (iblk m c 1 t) (iblk m c 9 t)) (iblk m c 6 t) (iblk m c 7 t)) (iblk m c 8 t) (iblk m c 2 t) (iblk m c 3 t) (iblk m c 4 t)),
      (wDq (iblk m c 5 t) (k0_pay7 (F := Ideal) (iblk m c 1 t) (iblk m c 9 t)) (iblk m c 6 t) (iblk m c 7 t)),
      wDk (iblk m c 5 t) (k0_pay7 (F := Ideal) (iblk m c 1 t) (iblk m c 9 t)) (iblk m c 6 t) (iblk m c 7 t) (outsAt0 m c (t.val - 1) (by have := t.isLt; omega)).2.2.2.1,
      wDv (iblk m c 5 t) (k0_pay7 (F := Ideal) (iblk m c 1 t) (iblk m c 9 t)) (iblk m c 6 t) (outsAt0 m c (t.val - 1) (by have := t.isLt; omega)).2.2.2.2.1,
      k0_pay3 (F := Ideal) (k0_pay45 (F := Ideal) (wDq (iblk m c 5 t) (k0_pay7 (F := Ideal) (iblk m c 1 t) (iblk m c 9 t)) (iblk m c 6 t) (iblk m c 7 t)) (iblk m c 8 t)) (k0_pay46 (F := Ideal) (iblk m c 2 t) (iblk m c 3 t)) (outsAt0 m c (t.val - 1) (by have := t.isLt; omega)).2.2.2.2.2) := by
  rw [outsAt0_B m c t h0]
  refine Prod.ext ?_ (Prod.ext ?_ (Prod.ext ?_ (Prod.ext ?_ (Prod.ext ?_ ?_))))
  · dsimp only
    unfold out0_B_10
    rw [View.read_writes_eq_canon _ _ _ (fun _ => cover0_B_10 ..)]
    unfold kernelRun0_B
    dsimp only
    sl_unfold_words
    rw [View.canon_unit_zero hz2]
    simp (disch := first | rfl | decide) only [↓View.readCov_skip, ↓View.readCov_fill, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_13 t).read_unread, (hs0_14 t).read_unread, (hs0_15 t).read_unread,
      View.ld_unit_zero (S := S512x1024) hz2, View.ld_unit_zero (S := S1024x1024) hz2, View.ld_unit_zero (S := S512x1) hz2, View.ld_unit_zero (S := S1x1024) hz2]
    rw [readCov_pieces (S := S512x1024) (ms0_12 t).view (wDq (iblk m c 5 t) (k0_pay7 (F := Ideal) (iblk m c 1 t) (iblk m c 9 t)) (iblk m c 6 t) (iblk m c 7 t)) hz2]
    · skip
      refine piece_cons (dq_piece (iblk m c 5 t) (k0_pay7 (F := Ideal) (iblk m c 1 t) (iblk m c 9 t)) (iblk m c 6 t) (iblk m c 7 t) 3 rfl _ _) ?_
      refine piece_cons (dq_piece (iblk m c 5 t) (k0_pay7 (F := Ideal) (iblk m c 1 t) (iblk m c 9 t)) (iblk m c 6 t) (iblk m c 7 t) 2 rfl _ _) ?_
      refine piece_cons (dq_piece (iblk m c 5 t) (k0_pay7 (F := Ideal) (iblk m c 1 t) (iblk m c 9 t)) (iblk m c 6 t) (iblk m c 7 t) 1 rfl _ _) ?_
      refine piece_cons (dq_piece (iblk m c 5 t) (k0_pay7 (F := Ideal) (iblk m c 1 t) (iblk m c 9 t)) (iblk m c 6 t) (iblk m c 7 t) 0 rfl _ _) ?_
      exact piece_nil
    · exact View.cover_of_tiled_head _ _ _ rfl
  · dsimp only
    unfold out0_B_11
    rw [View.read_writes_eq_canon _ _ _ (fun _ => cover0_B_11 ..)]
    unfold kernelRun0_B
    dsimp only
    sl_unfold_words
    rw [View.canon_unit_zero hz2]
    simp (disch := first | rfl | decide) only [↓View.readCov_skip, ↓View.readCov_fill, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_13 t).read_unread, (hs0_14 t).read_unread, (hs0_15 t).read_unread,
      View.ld_unit_zero (S := S512x1024) hz2, View.ld_unit_zero (S := S1024x1024) hz2, View.ld_unit_zero (S := S512x1) hz2, View.ld_unit_zero (S := S1x1024) hz2]
    rw [readCov_pieces (S := S512x1024) (ms0_12 t).view (wDq (iblk m c 5 t) (k0_pay7 (F := Ideal) (iblk m c 1 t) (iblk m c 9 t)) (iblk m c 6 t) (iblk m c 7 t)) hz2]
    · skip
      refine piece_cons (dq_piece (iblk m c 5 t) (k0_pay7 (F := Ideal) (iblk m c 1 t) (iblk m c 9 t)) (iblk m c 6 t) (iblk m c 7 t) 3 rfl _ _) ?_
      refine piece_cons (dq_piece (iblk m c 5 t) (k0_pay7 (F := Ideal) (iblk m c 1 t) (iblk m c 9 t)) (iblk m c 6 t) (iblk m c 7 t) 2 rfl _ _) ?_
      refine piece_cons (dq_piece (iblk m c 5 t) (k0_pay7 (F := Ideal) (iblk m c 1 t) (iblk m c 9 t)) (iblk m c 6 t) (iblk m c 7 t) 1 rfl _ _) ?_
      refine piece_cons (dq_piece (iblk m c 5 t) (k0_pay7 (F := Ideal) (iblk m c 1 t) (iblk m c 9 t)) (iblk m c 6 t) (iblk m c 7 t) 0 rfl _ _) ?_
      exact piece_nil
    · exact View.cover_of_tiled_head _ _ _ rfl
  · dsimp only
    unfold out0_B_12
    rw [View.read_writes_eq_canon _ _ _ (fun _ => cover0_B_12 ..)]
    unfold kernelRun0_B
    dsimp only
    sl_unfold_words
    simp (disch := first | rfl | decide) only [↓View.readCov_skip, ↓View.readCov_fill, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_13 t).read_unread, (hs0_14 t).read_unread, (hs0_15 t).read_unread,
      View.ld_unit_zero (S := S512x1024) hz2, View.ld_unit_zero (S := S1024x1024) hz2, View.ld_unit_zero (S := S512x1) hz2, View.ld_unit_zero (S := S1x1024) hz2]
    refine canon_pieces _ _ ?_ (View.cover_of_tiled_head _ _ _ rfl)
    refine piece_cons (dq_piece (iblk m c 5 t) (k0_pay7 (F := Ideal) (iblk m c 1 t) (iblk m c 9 t)) (iblk m c 6 t) (iblk m c 7 t) 3 rfl _ _) ?_
    refine piece_cons (dq_piece (iblk m c 5 t) (k0_pay7 (F := Ideal) (iblk m c 1 t) (iblk m c 9 t)) (iblk m c 6 t) (iblk m c 7 t) 2 rfl _ _) ?_
    refine piece_cons (dq_piece (iblk m c 5 t) (k0_pay7 (F := Ideal) (iblk m c 1 t) (iblk m c 9 t)) (iblk m c 6 t) (iblk m c 7 t) 1 rfl _ _) ?_
    refine piece_cons (dq_piece (iblk m c 5 t) (k0_pay7 (F := Ideal) (iblk m c 1 t) (iblk m c 9 t)) (iblk m c 6 t) (iblk m c 7 t) 0 rfl _ _) ?_
    exact piece_nil
  · dsimp only
    unfold out0_B_13
    rw [View.read_writes_eq_canon _ _ _ (fun _ => cover0_B_13 ..)]
    unfold kernelRun0_B
    dsimp only
    sl_unfold_words
    simp (disch := first | rfl | decide) only [↓View.readCov_skip, ↓View.readCov_fill, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_13 t).read_unread, (hs0_14 t).read_unread, (hs0_15 t).read_unread,
      View.ld_unit_zero (S := S512x1024) hz2, View.ld_unit_zero (S := S1024x1024) hz2, View.ld_unit_zero (S := S512x1) hz2, View.ld_unit_zero (S := S1x1024) hz2]
    refine canon_pieces _ _ ?_ (View.cover_of_tiled_head _ _ _ rfl)
    refine piece_cons (dk_piece (iblk m c 5 t) (k0_pay7 (F := Ideal) (iblk m c 1 t) (iblk m c 9 t)) (iblk m c 6 t) (iblk m c 7 t) (outsAt0 m c (t.val - 1) (by have := t.isLt; omega)).2.2.2.1 3 rfl _ _) ?_
    refine piece_cons (dk_piece (iblk m c 5 t) (k0_pay7 (F := Ideal) (iblk m c 1 t) (iblk m c 9 t)) (iblk m c 6 t) (iblk m c 7 t) (outsAt0 m c (t.val - 1) (by have := t.isLt; omega)).2.2.2.1 2 rfl _ _) ?_
    refine piece_cons (dk_piece (iblk m c 5 t) (k0_pay7 (F := Ideal) (iblk m c 1 t) (iblk m c 9 t)) (iblk m c 6 t) (iblk m c 7 t) (outsAt0 m c (t.val - 1) (by have := t.isLt; omega)).2.2.2.1 1 rfl _ _) ?_
    refine piece_cons (dk_piece (iblk m c 5 t) (k0_pay7 (F := Ideal) (iblk m c 1 t) (iblk m c 9 t)) (iblk m c 6 t) (iblk m c 7 t) (outsAt0 m c (t.val - 1) (by have := t.isLt; omega)).2.2.2.1 0 rfl _ _) ?_
    exact piece_nil
  · dsimp only
    unfold out0_B_14
    rw [View.read_writes_eq_canon _ _ _ (fun _ => cover0_B_14 ..)]
    unfold kernelRun0_B
    dsimp only
    sl_unfold_words
    simp (disch := first | rfl | decide) only [↓View.readCov_skip, ↓View.readCov_fill, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_13 t).read_unread, (hs0_14 t).read_unread, (hs0_15 t).read_unread,
      View.ld_unit_zero (S := S512x1024) hz2, View.ld_unit_zero (S := S1024x1024) hz2, View.ld_unit_zero (S := S512x1) hz2, View.ld_unit_zero (S := S1x1024) hz2]
    refine canon_pieces _ _ ?_ (View.cover_of_tiled_head _ _ _ rfl)
    refine piece_cons (dv_piece (iblk m c 5 t) (k0_pay7 (F := Ideal) (iblk m c 1 t) (iblk m c 9 t)) (iblk m c 6 t) (outsAt0 m c (t.val - 1) (by have := t.isLt; omega)).2.2.2.2.1 3 rfl _ _) ?_
    refine piece_cons (dv_piece (iblk m c 5 t) (k0_pay7 (F := Ideal) (iblk m c 1 t) (iblk m c 9 t)) (iblk m c 6 t) (outsAt0 m c (t.val - 1) (by have := t.isLt; omega)).2.2.2.2.1 2 rfl _ _) ?_
    refine piece_cons (dv_piece (iblk m c 5 t) (k0_pay7 (F := Ideal) (iblk m c 1 t) (iblk m c 9 t)) (iblk m c 6 t) (outsAt0 m c (t.val - 1) (by have := t.isLt; omega)).2.2.2.2.1 1 rfl _ _) ?_
    refine piece_cons (dv_piece (iblk m c 5 t) (k0_pay7 (F := Ideal) (iblk m c 1 t) (iblk m c 9 t)) (iblk m c 6 t) (outsAt0 m c (t.val - 1) (by have := t.isLt; omega)).2.2.2.2.1 0 rfl _ _) ?_
    exact piece_nil
  · dsimp only
    unfold out0_B_15
    rw [View.read_writes_eq_canon _ _ _ (fun _ => cover0_B_15 ..)]
    unfold kernelRun0_B
    dsimp only
    sl_unfold_words
    rw [View.canon_unit_zero hz2]
    simp (disch := first | rfl | decide) only [↓View.readCov_skip, ↓View.readCov_fill, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_13 t).read_unread, (hs0_14 t).read_unread, (hs0_15 t).read_unread,
      View.ld_unit_zero (S := S512x1024) hz2, View.ld_unit_zero (S := S1024x1024) hz2, View.ld_unit_zero (S := S512x1) hz2, View.ld_unit_zero (S := S1x1024) hz2]
    rw [readCov_pieces (S := S512x1024) (ms0_12 t).view (wDq (iblk m c 5 t) (k0_pay7 (F := Ideal) (iblk m c 1 t) (iblk m c 9 t)) (iblk m c 6 t) (iblk m c 7 t)) hz2]
    · skip
      refine piece_cons (dq_piece (iblk m c 5 t) (k0_pay7 (F := Ideal) (iblk m c 1 t) (iblk m c 9 t)) (iblk m c 6 t) (iblk m c 7 t) 3 rfl _ _) ?_
      refine piece_cons (dq_piece (iblk m c 5 t) (k0_pay7 (F := Ideal) (iblk m c 1 t) (iblk m c 9 t)) (iblk m c 6 t) (iblk m c 7 t) 2 rfl _ _) ?_
      refine piece_cons (dq_piece (iblk m c 5 t) (k0_pay7 (F := Ideal) (iblk m c 1 t) (iblk m c 9 t)) (iblk m c 6 t) (iblk m c 7 t) 1 rfl _ _) ?_
      refine piece_cons (dq_piece (iblk m c 5 t) (k0_pay7 (F := Ideal) (iblk m c 1 t) (iblk m c 9 t)) (iblk m c 6 t) (iblk m c 7 t) 0 rfl _ _) ?_
      exact piece_nil
    · exact View.cover_of_tiled_head _ _ _ rfl

end Cert.KernelAtIdeal.Hand
-- ==== Proof.AtPay.lean ====
/- The gradient of the attention and its norm, the kernel's expressions at an index: the kernel's results read at an index, and the reference's. -/
module

public import proofs.«01_k».proof.Proof.Kit
public import proofs.«01_k».proof.Proof.Rms
public import proofs.«01_k».proof.Proof.AtOuts
public import proofs.«01_k».proof.Proof.Soft
public import proofs.«01_k».proof.Proof.Gen.KernelAtIdeal.Value
public import Idealize.ShloMosaic.Lib.StableHlo.Run

@[expose] public section

set_option maxRecDepth 16384

noncomputable section

open Idealize.ShloMosaic Idealize.ShloMosaic.TcCoe Idealize.SL.Sem Idealize.ShloMosaic.ValueIdx Cert.Kit

namespace Cert.KernelAtIdeal.Hand

open Cert.KernelAtIdeal Cert.KernelAtIdeal.Gen Cert.KernelAtIdeal.Value

/-- A softmax over the columns, as the kernel spells it. -/
theorem soft_apply (S : FVec Ideal S512x256 .f32) {s : Fin 256 → EReal} (a : Fin 512) (hs : ∀ m, S (ix2 a m) = s m) (m : Fin 256) :
    divf (exp (subf S (broadcastTo S512x256 (shapeCast S512x1 (multiReduction .maximumf [1] S512 S 0xFF800000#32 reduces_S512x256_S512 (.inl rfl) rfl) shapeCasts_S512_S512x1) broadcasts_S512x1_S512x256)))
      (broadcastTo S512x256 (shapeCast S512x1 (multiReduction .add [1] S512 (exp (subf S (broadcastTo S512x256 (shapeCast S512x1 (multiReduction .maximumf [1] S512 S 0xFF800000#32 reduces_S512x256_S512 (.inl rfl) rfl) shapeCasts_S512_S512x1) broadcasts_S512x1_S512x256)))
        0x00000000#32 reduces_S512x256_S512 (.inl rfl) rfl) shapeCasts_S512_S512x1) broadcasts_S512x1_S512x256) (ix2 a m) = prob s m := by
  obtain rfl := funext hs
  have hx (k : Fin 256) : exp (subf S (broadcastTo S512x256 (shapeCast S512x1 (multiReduction .maximumf [1] S512 S 0xFF800000#32 reduces_S512x256_S512 (.inl rfl) rfl) shapeCasts_S512_S512x1) broadcasts_S512x1_S512x256)) (ix2 a k)
      = ex (fun m => S (ix2 a m)) k :=
    congrArg (fun y => Ideal.exp (S (ix2 a k) - y)) ((bcCol _ _ a k).trans ((castCol _ _ a 0).trans (maxCols S _ _ _ a)))
  exact congrArg₂ Ideal.div (hx m) ((bcCol _ _ a m).trans ((castCol _ _ a 0).trans ((sumCols _ _ _ _ _ a).trans (Finset.sum_congr rfl fun k _ => hx k))))

section
variable (q d : Vec Ideal S512x256 .bf16) (k v : Vec Ideal S256x256 .bf16) (x : Vec Ideal S256x256 .f32)

/-- The scores of a row. -/
def hScore (a : Fin 512) (m : Fin 256) : EReal := (∑ l : Fin 256, q (ix2 a l) * k (ix2 m l)) * c16

/-- The cotangent of a row's shares. -/
def hShare (a : Fin 512) (m : Fin 256) : EReal := ∑ l : Fin 256, d (ix2 a l) * v (ix2 m l)

/-- The cotangent of a row's products. -/
def hSlope (a : Fin 512) (m : Fin 256) : EReal := kSlope (hScore q k a) (hShare d v a) m * c16

theorem pay11_apply (a : Fin 512) (m : Fin 256) : k0_pay11 (F := Ideal) q k (ix2 a m) = prob (hScore q k a) m := by
  unfold k0_pay11 k0_pay8 k0_pay9
  rw [shapeCast_self, shapeCast_self]
  exact soft_apply _ a (fun m => congrArg (· * c16) (mm11 (φ₁ := .bf16) (φ₂ := .bf16) _ none _ _ a m)) m

theorem pay15_apply (a : Fin 512) (m : Fin 256) : k0_pay15 (F := Ideal) (k0_pay10 v) d (k0_pay11 q k) (ix2 a m) = hSlope q d k v a m := by
  unfold k0_pay15 k0_pay10
  rw [shapeCast_self]
  have hd (l : Fin 256) := mm11 (φ₁ := .bf16) (φ₂ := .bf16) dot_S512x256_S256x256_S512x256_1_1_0_0_n_n_wf none d v a l
  refine congrArg (· * c16) (congrArg₂ (· * ·) (pay11_apply q k a m) (congrArg₂ (· - ·) (hd m) ((bcCol _ _ a m).trans ((castCol _ _ a 0).trans
    ((sumCols _ _ _ _ _ a).trans (Finset.sum_congr rfl fun l _ => congrArg₂ (· * ·) (hd l) (pay11_apply q k a l)))))))

theorem hDq_apply (a : Fin 512) (j : Fin 256) : hDq q d k v (ix2 a j) = ∑ m : Fin 256, hSlope q d k v a m * k (ix2 m j) := by
  unfold hDq k0_pay16 k0_pay9
  rw [shapeCast_self]
  exact (mm10 (φ₁ := .bf16) (φ₂ := .bf16) _ none _ _ a j).trans (Finset.sum_congr rfl fun m _ => congrArg (· * k (ix2 m j)) (pay15_apply q d k v a m))

theorem hDk_apply (m j : Fin 256) : hDk q d k v x (ix2 m j) = x (ix2 m j) + ∑ a : Fin 512, hSlope q d k v a m * q (ix2 a j) := by
  unfold hDk k0_pay17 k0_pay8
  rw [shapeCast_self, shapeCast_self]
  exact congrArg (x (ix2 m j) + ·) ((mm00 (φ₁ := .bf16) (φ₂ := .bf16) _ none _ _ m j).trans
    (Finset.sum_congr rfl fun a _ => congrArg (· * q (ix2 a j)) (pay15_apply q d k v a m)))

theorem hDv_apply (m j : Fin 256) : hDv q d k x (ix2 m j) = x (ix2 m j) + ∑ a : Fin 512, prob (hScore q k a) m * d (ix2 a j) := by
  unfold hDv k0_pay14 k0_pay13 k0_pay12
  rw [shapeCast_self]
  exact congrArg (x (ix2 m j) + ·) ((mm00 (φ₁ := .bf16) (φ₂ := .bf16) _ none _ _ m j).trans
    (Finset.sum_congr rfl fun a _ => congrArg (· * d (ix2 a j)) (pay11_apply q k a m)))
end

section
variable (Q D : Vec Ideal S512x1024 .bf16) (K V : Vec Ideal S256x1024 .bf16) (X : Vec Ideal S256x1024 .f32)

/-- What a tile of rows adds to the gradient of the keys. -/
def pDk (z : S256x1024.Idx) : EReal :=
  ∑ a : Fin 512, hSlope (col Q (headOf (z 1))) (col D (headOf (z 1))) (col K (headOf (z 1))) (col V (headOf (z 1))) a (z 0) * Q (ix2 a (z 1))

/-- What a tile of rows adds to the gradient of the values. -/
def pDv (z : S256x1024.Idx) : EReal :=
  ∑ a : Fin 512, prob (hScore (col Q (headOf (z 1))) (col K (headOf (z 1))) a) (z 0) * D (ix2 a (z 1))

theorem col_self {M : ℕ} {e : EltTy} (x : Vec Ideal ⟨2, ![M, 1024]⟩ e) (a : Fin M) (j : Fin 1024) : col x (headOf j) (ix2 a (inHead j)) = x (ix2 a j) :=
  congrArg (fun j => x (ix2 a j)) (hcol_self j)

theorem wDk_apply (m : Fin 256) (j : Fin 1024) : wDk Q D K V X (ix2 m j) = X (ix2 m j) + pDk Q D K V (ix2 m j) := by
  refine (hDk_apply _ _ _ _ _ m (inHead j)).trans (congrArg₂ (· + ·) (col_self X m j) (Finset.sum_congr rfl fun a _ => ?_))
  exact congrArg (hSlope (col Q (headOf j)) (col D (headOf j)) (col K (headOf j)) (col V (headOf j)) a m * ·) (col_self Q a j)

theorem wDv_apply (m : Fin 256) (j : Fin 1024) : wDv Q D K X (ix2 m j) = X (ix2 m j) + pDv Q D K (ix2 m j) := by
  refine (hDv_apply _ _ _ _ m (inHead j)).trans (congrArg₂ (· + ·) (col_self X m j) (Finset.sum_congr rfl fun a _ => ?_))
  exact congrArg (prob (hScore (col Q (headOf j)) (col K (headOf j)) a) m * ·) (col_self D a j)

variable {Q D K V} {QQ DD : Fin 512 → Fin 1024 → EReal} {KK VV : S256x1024.Idx → EReal} (hQ : ∀ a j, Q (ix2 a j) = QQ a j) (hD : ∀ a j, D (ix2 a j) = DD a j)
  (hK : ∀ m j, K (ix2 m j) = KK (ix2 m j)) (hV : ∀ m j, V (ix2 m j) = VV (ix2 m j)) (h : Fin 4)

include hQ hK in
theorem score_eq (a : Fin 512) (m : Fin 256) : hScore (col Q h) (col K h) a m = (∑ l : Fin 256, QQ a (hcol h l) * KK (ix2 m (hcol h l))) * c16 :=
  congrArg (· * c16) (Finset.sum_congr rfl fun l _ => congrArg₂ (· * ·) (hQ a (hcol h l)) (hK m (hcol h l)))

include hD hV in
theorem share_eq (a : Fin 512) (m : Fin 256) : hShare (col D h) (col V h) a m = ∑ l : Fin 256, DD a (hcol h l) * VV (ix2 m (hcol h l)) :=
  Finset.sum_congr rfl fun l _ => congrArg₂ (· * ·) (hD a (hcol h l)) (hV m (hcol h l))

include hQ hD hK hV in
theorem hslope_eq (a : Fin 512) (m : Fin 256) : hSlope (col Q h) (col D h) (col K h) (col V h) a m
    = kSlope (fun m => (∑ l : Fin 256, QQ a (hcol h l) * KK (ix2 m (hcol h l))) * c16) (fun m => ∑ l : Fin 256, DD a (hcol h l) * VV (ix2 m (hcol h l))) m * c16 := by
  unfold hSlope
  rw [funext (score_eq hQ hK h a), funext (share_eq hD hV h a)]

include hQ hD hK hV in
theorem wDq_eq (a : Fin 512) (j : Fin 256) : wDq Q D K V (ix2 a (hcol h j))
    = ∑ m : Fin 256, kSlope (fun m => (∑ l : Fin 256, QQ a (hcol h l) * KK (ix2 m (hcol h l))) * c16) (fun m => ∑ l : Fin 256, DD a (hcol h l) * VV (ix2 m (hcol h l))) m * c16
        * KK (ix2 m (hcol h j)) :=
  (heads_hcol (e := .bf16) (fun h => hDq (col Q h) (col D h) (col K h) (col V h)) a h j).trans ((hDq_apply _ _ _ _ a j).trans
    (Finset.sum_congr rfl fun m _ => congrArg₂ (· * ·) (hslope_eq hQ hD hK hV h a m) (hK m (hcol h j))))

include hQ hD hK hV in
theorem pDk_eq (m : Fin 256) (j : Fin 256) : pDk Q D K V (ix2 m (hcol h j))
    = ∑ a : Fin 512, kSlope (fun m => (∑ l : Fin 256, QQ a (hcol h l) * KK (ix2 m (hcol h l))) * c16) (fun m => ∑ l : Fin 256, DD a (hcol h l) * VV (ix2 m (hcol h l))) m * c16
        * QQ a (hcol h j) := by
  show ∑ a : Fin 512, hSlope (col Q (headOf (hcol h j))) (col D (headOf (hcol h j))) (col K (headOf (hcol h j))) (col V (headOf (hcol h j))) a m * Q (ix2 a (hcol h j)) = _
  rw [headOf_hcol]
  exact Finset.sum_congr rfl fun a _ => congrArg₂ (· * ·) (hslope_eq hQ hD hK hV h a m) (hQ a (hcol h j))

include hQ hD hK in
theorem pDv_eq (m : Fin 256) (j : Fin 256) : pDv Q D K (ix2 m (hcol h j))
    = ∑ a : Fin 512, prob (fun m => (∑ l : Fin 256, QQ a (hcol h l) * KK (ix2 m (hcol h l))) * c16) m * DD a (hcol h j) := by
  show ∑ a : Fin 512, prob (hScore (col Q (headOf (hcol h j))) (col K (headOf (hcol h j))) a) m * D (ix2 a (hcol h j)) = _
  rw [headOf_hcol]
  refine Finset.sum_congr rfl fun a _ => congrArg₂ (· * ·) ?_ (hD a (hcol h j))
  rw [funext (score_eq hQ hK h a)]
end

theorem pay7_eq {x : Vec Ideal S512x1024 .bf16} {w : Vec Ideal S1024x1024 .bf16} {X W : Fin 1024 → EReal} {a : Fin 512} {j : Fin 1024}
    (hx : ∀ k, x (ix2 a k) = X k) (hw : ∀ k, w (ix2 j k) = W k) : k0_pay7 (F := Ideal) x w (ix2 a j) = ∑ k : Fin 1024, X k * W k := by
  obtain rfl := funext hx
  obtain rfl := funext hw
  unfold k0_pay7
  rw [shapeCast_self, shapeCast_self, shapeCast_self]
  exact mm11 (φ₁ := .bf16) (φ₂ := .bf16) _ none _ _ a j

theorem pay45_eq {x : Vec Ideal S512x1024 .bf16} {w : Vec Ideal S1024x1024 .bf16} {X W : Fin 1024 → EReal} {a : Fin 512} {j : Fin 1024}
    (hx : ∀ k, x (ix2 a k) = X k) (hw : ∀ k, w (ix2 j k) = W k) : k0_pay45 (F := Ideal) x w (ix2 a j) = ∑ k : Fin 1024, X k * W k := by
  obtain rfl := funext hx
  obtain rfl := funext hw
  unfold k0_pay45
  rw [shapeCast_self, shapeCast_self]
  exact mm11 (φ₁ := .bf16) (φ₂ := .bf16) _ none _ _ a j

theorem pay46_apply (v189 : Vec Ideal S512x1024 .f32) (v190 : Vec Ideal S512x1 .f32) (a : Fin 512) (j : Fin 1024) :
    k0_pay46 (F := Ideal) v189 v190 (ix2 a j) = v189 (ix2 a j) * v190 (ix2 a 0) := by
  unfold k0_pay46
  rw [shapeCast_self]
  exact congrArg (v189 (ix2 a j) * ·) (bcCol _ _ a j)

theorem pay1_apply (v184 : Vec Ideal S512x1024 .bf16) (v186 : Vec Ideal S1024x1024 .bf16)
    (v0 v189 : Vec Ideal S512x1024 .f32) (v190 : Vec Ideal S512x1 .f32) (v194 : Vec Ideal S1x1024 .f32) (a : Fin 512) (j : Fin 1024) :
    k0_pay1 (F := Ideal) (k0_pay47 (F := Ideal) v184 v186 v194) v0 (k0_pay48 (F := Ideal) v190) (k0_pay49 (F := Ideal) v184 v186 v189 v190 v194) (ix2 a j)
      = v0 (ix2 a j) + v190 (ix2 a 0) * (k0_pay45 (F := Ideal) v184 v186 (ix2 a j) * v194 (ix2 0 j) - v189 (ix2 a j) * v190 (ix2 a 0)
        * Ideal.div (∑ k, k0_pay45 (F := Ideal) v184 v186 (ix2 a k) * v194 (ix2 0 k) * (v189 (ix2 a k) * v190 (ix2 a 0))) ((1024 : ℝ) : EReal)) := by
  unfold k0_pay1 k0_pay49
  refine (kBack_apply _ _ v0 _ _ _ _ _ _ _ a j).trans ?_
  have hg (k : Fin 1024) : k0_pay47 (F := Ideal) v184 v186 v194 (ix2 a k) = k0_pay45 (F := Ideal) v184 v186 (ix2 a k) * v194 (ix2 0 k) :=
    congrArg (k0_pay45 (F := Ideal) v184 v186 (ix2 a k) * ·) (bcRow _ _ a k)
  rw [hg]
  simp only [hg, pay46_apply]
  unfold k0_pay48
  rw [shapeCast_self, bcCol]

theorem pay3_apply (v16 v25 : FVec Ideal S512x1024 .f32) (v46 : Vec Ideal S1x1024 .f32) (a : Fin 1) (j : Fin 1024) :
    k0_pay3 (F := Ideal) v16 v25 v46 (ix2 a j) = v46 (ix2 a j) + ∑ k : Fin 512, v16 (ix2 k j) * v25 (ix2 k j) := by
  unfold k0_pay3
  rw [shapeCast_self]
  exact congrArg (v46 (ix2 a j) + ·) ((castRow _ _ a j).trans (sumRows _ _ _ _ _ j))

end Cert.KernelAtIdeal.Hand
-- ==== Proof.At.lean ====
/- The gradient of the attention and its norm: the kernel's results read at an index, and the reference's. -/
module

public import proofs.«01_k».proof.Proof.Kit
public import proofs.«01_k».proof.Proof.Rms
public import proofs.«01_k».proof.Proof.AtRef
public import proofs.«01_k».proof.Proof.AtPay
public import proofs.«01_k».proof.Proof.Gen.KernelAtIdeal.Value
public import proofs.«01_k».proof.Proof.Gen.ReferenceAtIdeal.Run
public import proofs.«01_k».proof.Proof.Gen.ReferenceAtIdeal.Read
public import Idealize.ShloMosaic.Lib.StableHlo.Run

@[expose] public section

set_option maxRecDepth 16384

noncomputable section

open Idealize.ShloMosaic Idealize.ShloMosaic.TcCoe Idealize.SL.Sem Idealize.ShloMosaic.ValueIdx Cert.Kit

namespace Cert.KernelAtIdeal.Hand

open Cert.KernelAtIdeal Cert.KernelAtIdeal.Gen Cert.KernelAtIdeal.Value Cert.ReferenceAtIdeal.Hand

variable (m : (ℓ : Loc nD τ sig) → Buf (Elt Ideal) ℓ) (ρ : Dev nD → PrngReg)

theorem index0 : ∀ t : Fin cfg0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = 0 ∧ win0_4.index t 1 = 0)
    ∧ (win0_5.index t 0 = t.val ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = 0 ∧ win0_9.index t 1 = 0)
    ∧ (win0_10.index t 0 = t.val ∧ win0_10.index t 1 = 0)
    ∧ (win0_11.index t 0 = t.val ∧ win0_11.index t 1 = 0)
    ∧ (win0_12.index t 0 = t.val ∧ win0_12.index t 1 = 0)
    ∧ (win0_13.index t 0 = 0 ∧ win0_13.index t 1 = 0)
    ∧ (win0_14.index t 0 = 0 ∧ win0_14.index t 1 = 0)
    ∧ (win0_15.index t 0 = 0 ∧ win0_15.index t 1 = 0) :=
  (by decide +kernel : ∀ t : Fin grid0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = 0 ∧ win0_4.index t 1 = 0)
    ∧ (win0_5.index t 0 = t.val ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = 0 ∧ win0_9.index t 1 = 0)
    ∧ (win0_10.index t 0 = t.val ∧ win0_10.index t 1 = 0)
    ∧ (win0_11.index t 0 = t.val ∧ win0_11.index t 1 = 0)
    ∧ (win0_12.index t 0 = t.val ∧ win0_12.index t 1 = 0)
    ∧ (win0_13.index t 0 = 0 ∧ win0_13.index t 1 = 0)
    ∧ (win0_14.index t 0 = 0 ∧ win0_14.index t 1 = 0)
    ∧ (win0_15.index t 0 = 0 ∧ win0_15.index t 1 = 0))

theorem rows : 4096 = cfg0.N * 512 := by
  show 4096 = grid0.N * 512
  rw [Gen.N_0]

section
variable (c : Dev nD)
/-- The rows of the block's input. -/
abbrev X : FVec Ideal S4096x1024 .f32 := m ((c : Thread nD τ).loc main_arg0)
/-- The norm's gain. -/
abbrev G : FVec Ideal S1x1024 .f32 := m ((c : Thread nD τ).loc main_arg1)
/-- The weight of the queries. -/
abbrev Wq : FVec Ideal S1024x1024 .f32 := m ((c : Thread nD τ).loc main_arg2)
/-- The keys. -/
abbrev K : FVec Ideal S256x1024 .f32 := m ((c : Thread nD τ).loc main_arg3)
/-- The values. -/
abbrev Vv : FVec Ideal S256x1024 .f32 := m ((c : Thread nD τ).loc main_arg4)
/-- The output's weight. -/
abbrev Wo : FVec Ideal S1024x1024 .f32 := m ((c : Thread nD τ).loc main_arg5)
/-- The cotangent. -/
abbrev Dx : FVec Ideal S4096x1024 .f32 := m ((c : Thread nD τ).loc main_arg6)
end

theorem V_v7 (c : Dev nD) : (V m c main_v7 : FVec Ideal S4096x1 .f32) = hScale (X m c) := by
  unfold V
  after_results
  rfl

theorem V_v15 (c : Dev nD) : (V m c main_v15 : S4096x1024.Idx → EReal) = Cert.ReferenceAtIdeal.Read.val_main_v12 (F := Ideal) (X m c) (G m c) (Wq m c) := by
  unfold V
  after_results
  rfl

theorem V_v16 (c : Dev nD) : (V m c main_v16 : S4096x1024.Idx → EReal) = Dx m c := by
  unfold V
  after_results
  rfl

theorem V_v17 (c : Dev nD) : (V m c main_v17 : S256x1024.Idx → EReal) = K m c := by
  unfold V
  after_results
  rfl

theorem V_v18 (c : Dev nD) : (V m c main_v18 : S256x1024.Idx → EReal) = Vv m c := by
  unfold V
  after_results
  rfl

theorem V_v19 (c : Dev nD) : (V m c main_v19 : S1024x1024.Idx → EReal) = Wq m c := by
  unfold V
  after_results
  rfl

theorem V_v20 (c : Dev nD) : (V m c main_v20 : S1024x1024.Idx → EReal) = Wo m c := by
  unfold V
  after_results
  rfl

theorem iblk0 (c : Dev nD) (t : Fin cfg0.N) (a : Fin 512) (b : Fin 1024) : (iblk m c 0 t : S512x1024.Idx → EReal) (ix2 a b) = Dx m c (ix2 (row t a rows) b) := by
  unfold iblk
  rw [View.read_apply]
  refine Eq.trans ?_ (congrFun (V_main_arg6 m c) _)
  have h := (index0 t).1
  refine congrArg (V m c main_arg6) (ixEq ?_ ?_)
  · show win0_0.index t 0 * 512 + 1 * a.val = t.val * 512 + a.val
    rw [h.1]; omega
  · show win0_0.index t 1 * 1024 + 1 * b.val = b.val
    rw [h.2]; omega

theorem iblk1 (c : Dev nD) (t : Fin cfg0.N) (a : Fin 512) (b : Fin 1024) : (iblk m c 1 t : S512x1024.Idx → EReal) (ix2 a b) = Dx m c (ix2 (row t a rows) b) := by
  unfold iblk
  rw [View.read_apply]
  refine Eq.trans ?_ (congrFun (V_v16 m c) _)
  have h := (index0 t).2.1
  refine congrArg (V m c main_v16) (ixEq ?_ ?_)
  · show win0_1.index t 0 * 512 + 1 * a.val = t.val * 512 + a.val
    rw [h.1]; omega
  · show win0_1.index t 1 * 1024 + 1 * b.val = b.val
    rw [h.2]; omega

theorem iblk2 (c : Dev nD) (t : Fin cfg0.N) (a : Fin 512) (b : Fin 1024) : (iblk m c 2 t : S512x1024.Idx → EReal) (ix2 a b) = X m c (ix2 (row t a rows) b) := by
  unfold iblk
  rw [View.read_apply]
  refine Eq.trans ?_ (congrFun (V_main_arg0 m c) _)
  have h := (index0 t).2.2.1
  refine congrArg (V m c main_arg0) (ixEq ?_ ?_)
  · show win0_2.index t 0 * 512 + 1 * a.val = t.val * 512 + a.val
    rw [h.1]; omega
  · show win0_2.index t 1 * 1024 + 1 * b.val = b.val
    rw [h.2]; omega

theorem iblk3 (c : Dev nD) (t : Fin cfg0.N) (a : Fin 512) (b : Fin 1) : (iblk m c 3 t : S512x1.Idx → EReal) (ix2 a b) = hScale (X m c) (ix2 (row t a rows) b) := by
  unfold iblk
  rw [View.read_apply]
  refine Eq.trans ?_ (congrFun (V_v7 m c) _)
  have h := (index0 t).2.2.2.1
  refine congrArg (V m c main_v7) (ixEq ?_ ?_)
  · show win0_3.index t 0 * 512 + 1 * a.val = t.val * 512 + a.val
    rw [h.1]; omega
  · show win0_3.index t 1 * 1 + 1 * b.val = b.val
    rw [h.2]; omega

theorem iblk4 (c : Dev nD) (t : Fin cfg0.N) (a : Fin 1) (b : Fin 1024) : (iblk m c 4 t : S1x1024.Idx → EReal) (ix2 a b) = G m c (ix2 a b) := by
  unfold iblk
  rw [View.read_apply]
  refine Eq.trans ?_ (congrFun (V_main_arg1 m c) _)
  have h := (index0 t).2.2.2.2.1
  refine congrArg (V m c main_arg1) (ixEq ?_ ?_)
  · show win0_4.index t 0 * 1 + 1 * a.val = a.val
    rw [h.1]; omega
  · show win0_4.index t 1 * 1024 + 1 * b.val = b.val
    rw [h.2]; omega

theorem iblk5 (c : Dev nD) (t : Fin cfg0.N) (a : Fin 512) (b : Fin 1024) : (iblk m c 5 t : S512x1024.Idx → EReal) (ix2 a b) = Cert.ReferenceAtIdeal.Read.val_main_v12 (F := Ideal) (X m c) (G m c) (Wq m c) (ix2 (row t a rows) b) := by
  unfold iblk
  rw [View.read_apply]
  refine Eq.trans ?_ (congrFun (V_v15 m c) _)
  have h := (index0 t).2.2.2.2.2.1
  refine congrArg (V m c main_v15) (ixEq ?_ ?_)
  · show win0_5.index t 0 * 512 + 1 * a.val = t.val * 512 + a.val
    rw [h.1]; omega
  · show win0_5.index t 1 * 1024 + 1 * b.val = b.val
    rw [h.2]; omega

theorem iblk6 (c : Dev nD) (t : Fin cfg0.N) (a : Fin 256) (b : Fin 1024) : (iblk m c 6 t : S256x1024.Idx → EReal) (ix2 a b) = K m c (ix2 a b) := by
  unfold iblk
  rw [View.read_apply]
  refine Eq.trans ?_ (congrFun (V_v17 m c) _)
  have h := (index0 t).2.2.2.2.2.2.1
  refine congrArg (V m c main_v17) (ixEq ?_ ?_)
  · show win0_6.index t 0 * 256 + 1 * a.val = a.val
    rw [h.1]; omega
  · show win0_6.index t 1 * 1024 + 1 * b.val = b.val
    rw [h.2]; omega

theorem iblk7 (c : Dev nD) (t : Fin cfg0.N) (a : Fin 256) (b : Fin 1024) : (iblk m c 7 t : S256x1024.Idx → EReal) (ix2 a b) = Vv m c (ix2 a b) := by
  unfold iblk
  rw [View.read_apply]
  refine Eq.trans ?_ (congrFun (V_v18 m c) _)
  have h := (index0 t).2.2.2.2.2.2.2.1
  refine congrArg (V m c main_v18) (ixEq ?_ ?_)
  · show win0_7.index t 0 * 256 + 1 * a.val = a.val
    rw [h.1]; omega
  · show win0_7.index t 1 * 1024 + 1 * b.val = b.val
    rw [h.2]; omega

theorem iblk8 (c : Dev nD) (t : Fin cfg0.N) (a : Fin 1024) (b : Fin 1024) : (iblk m c 8 t : S1024x1024.Idx → EReal) (ix2 a b) = Wq m c (ix2 a b) := by
  unfold iblk
  rw [View.read_apply]
  refine Eq.trans ?_ (congrFun (V_v19 m c) _)
  have h := (index0 t).2.2.2.2.2.2.2.2.1
  refine congrArg (V m c main_v19) (ixEq ?_ ?_)
  · show win0_8.index t 0 * 1024 + 1 * a.val = a.val
    rw [h.1]; omega
  · show win0_8.index t 1 * 1024 + 1 * b.val = b.val
    rw [h.2]; omega

theorem iblk9 (c : Dev nD) (t : Fin cfg0.N) (a : Fin 1024) (b : Fin 1024) : (iblk m c 9 t : S1024x1024.Idx → EReal) (ix2 a b) = Wo m c (ix2 a b) := by
  unfold iblk
  rw [View.read_apply]
  refine Eq.trans ?_ (congrFun (V_v20 m c) _)
  have h := (index0 t).2.2.2.2.2.2.2.2.2.1
  refine congrArg (V m c main_v20) (ixEq ?_ ?_)
  · show win0_9.index t 0 * 1024 + 1 * a.val = a.val
    rw [h.1]; omega
  · show win0_9.index t 1 * 1024 + 1 * b.val = b.val
    rw [h.2]; omega

/-- What the reference needs of its arguments: reals. -/
structure Fin4 (c : Dev nD) : Prop where
  x : ∀ i, IsReal (X m c i)
  g : ∀ i, IsReal (G m c i)
  wq : ∀ i, IsReal (Wq m c i)
  k : ∀ i, IsReal (K m c i)
  v : ∀ i, IsReal (Vv m c i)
  wo : ∀ i, IsReal (Wo m c i)
  d : ∀ i, IsReal (Dx m c i)

section
variable {m} {c : Dev nD} (hp : Fin4 m c)
include hp

theorem Fin4.rScore (h : Fin 4) (i : Fin 4096) (a : Fin 256) : IsReal (score (X m c) (G m c) (Wq m c) (K m c) h i a) :=
  (IsReal.sum _ fun _ => (IsReal.sum _ fun _ => (hNorm_real hp.x hp.g _ _).mul (hp.wq _)).mul (hp.k _)).mul IsReal.c16

theorem Fin4.rShare (h : Fin 4) (i : Fin 4096) (a : Fin 256) : IsReal (dprob (Vv m c) (Wo m c) (Dx m c) h i a) :=
  IsReal.sum _ fun _ => (IsReal.sum _ fun _ => (hp.d _).mul (hp.wo _)).mul (hp.v _)

/-- The kernel's cotangent of the products is the reference's. -/
theorem Fin4.slope (h : Fin 4) (i : Fin 4096) (a : Fin 256) : kSlope (score (X m c) (G m c) (Wq m c) (K m c) h i) (dprob (Vv m c) (Wo m c) (Dx m c) h i) a * c16 = dscore (X m c) (G m c) (Wq m c) (K m c) (Vv m c) (Wo m c) (Dx m c) h i a :=
  congrArg (· * c16) (slope_eq (by norm_num) (hp.rScore h i) (hp.rShare h i) a)

theorem Fin4.rSlope (h : Fin 4) (i : Fin 4096) (a : Fin 256) : IsReal (dscore (X m c) (G m c) (Wq m c) (K m c) (Vv m c) (Wo m c) (Dx m c) h i a) := by
  rw [← hp.slope]
  exact (kSlope_real (by norm_num) (hp.rScore h i) (hp.rShare h i) a).mul IsReal.c16

theorem Fin4.up (i : S4096x1024.Idx) : IsReal (hUp (G m c) (up (X m c) (G m c) (Wq m c) (K m c) (Vv m c) (Wo m c) (Dx m c)) i) := by
  obtain ⟨a, b, rfl⟩ : ∃ (a : Fin 4096) (b : Fin 1024), i = ix2 a b := ⟨i 0, i 1, eq_ix2 i⟩
  rw [hUp_apply, up_apply]
  refine (IsReal.sum _ fun k => IsReal.mul ?_ (hp.wq _)).mul (hp.g _)
  rw [← hcol_self k, v77_apply]
  exact IsReal.sum _ fun _ => (hp.rSlope _ _ _).mul (hp.k _)
end

/-- A tile of the queries. -/
theorem tileQ (c : Dev nD) (t : Fin cfg0.N) (a : Fin 512) (j : Fin 1024) :
    (iblk m c 5 t : S512x1024.Idx → EReal) (ix2 a j) = qry (X m c) (G m c) (Wq m c) (row t a rows) j :=
  (iblk5 m c t a j).trans (v12_apply ..)

/-- A tile of the cotangent of the heads' outputs. -/
theorem tileD (c : Dev nD) (t : Fin cfg0.N) (a : Fin 512) (j : Fin 1024) : (k0_pay7 (F := Ideal) (iblk m c 1 t) (iblk m c 9 t)) (ix2 a j) = dout (Wo m c) (Dx m c) (row t a rows) j :=
  pay7_eq (fun k => iblk1 m c t a k) (fun k => iblk9 m c t j k)

/-- A tile of the gradient of the queries is the reference's. -/
theorem tile12 (c : Dev nD) (hp : Fin4 m c) (t : Fin cfg0.N) (a : Fin 512) (j : Fin 1024) : (wDq (iblk m c 5 t) (k0_pay7 (F := Ideal) (iblk m c 1 t) (iblk m c 9 t)) (iblk m c 6 t) (iblk m c 7 t)) (ix2 a j)
    = Cert.ReferenceAtIdeal.Read.val_main_v77 (F := Ideal) (X m c) (G m c) (Wq m c) (K m c) (Vv m c) (Wo m c) (Dx m c) (ix2 (row t a rows) j) := by
  obtain ⟨h, b, rfl⟩ : ∃ h b, j = hcol h b := ⟨headOf j, inHead j, (hcol_self j).symm⟩
  refine (wDq_eq (KK := K m c) (VV := Vv m c) (tileQ m c t) (tileD m c t) (iblk6 m c t) (iblk7 m c t) h a b).trans (Eq.trans ?_ (v77_apply ..).symm)
  exact Finset.sum_congr rfl fun k _ => congrArg (· * K m c (ix2 k (hcol h b))) (hp.slope h (row t a rows) k)

/-- A tile of the cotangent of the normed rows is the reference's. -/
theorem tile45 (c : Dev nD) (hp : Fin4 m c) (t : Fin cfg0.N) (a : Fin 512) (j : Fin 1024) :
    (k0_pay45 (F := Ideal) (wDq (iblk m c 5 t) (k0_pay7 (F := Ideal) (iblk m c 1 t) (iblk m c 9 t)) (iblk m c 6 t) (iblk m c 7 t)) (iblk m c 8 t)) (ix2 a j) = up (X m c) (G m c) (Wq m c) (K m c) (Vv m c) (Wo m c) (Dx m c) (ix2 (row t a rows) j) :=
  (pay45_eq (fun k => tile12 m c hp t a k) (fun k => iblk8 m c t j k)).trans (up_apply ..).symm

/-- A tile of the gradient of the rows is the reference's. -/
theorem tile1 (c : Dev nD) (hp : Fin4 m c) (t : Fin cfg0.N) (a : Fin 512) (j : Fin 1024) :
    k0_pay1 (F := Ideal) (k0_pay47 (F := Ideal) (wDq (iblk m c 5 t) (k0_pay7 (F := Ideal) (iblk m c 1 t) (iblk m c 9 t)) (iblk m c 6 t) (iblk m c 7 t)) (iblk m c 8 t) (iblk m c 4 t)) (iblk m c 0 t) (k0_pay48 (F := Ideal) (iblk m c 3 t)) (k0_pay49 (F := Ideal) (wDq (iblk m c 5 t) (k0_pay7 (F := Ideal) (iblk m c 1 t) (iblk m c 9 t)) (iblk m c 6 t) (iblk m c 7 t)) (iblk m c 8 t) (iblk m c 2 t) (iblk m c 3 t) (iblk m c 4 t)) (ix2 a j)
      = Cert.ReferenceAtIdeal.Read.val_main_v175 (F := Ideal) (X m c) (G m c) (Wq m c) (K m c) (Vv m c) (Wo m c) (Dx m c) (ix2 (row t a rows) j) := by
  refine (pay1_apply _ _ _ _ _ _ a j).trans ?_
  rw [v175_eq]
  refine Eq.trans ?_ (hBack_apply hp.x hp.up _ (Dx m c (ix2 (row t a rows) j)) (row t a rows) j
    (congrArg (Dx m c (ix2 (row t a rows) j) + hUp (G m c) (up (X m c) (G m c) (Wq m c) (K m c) (Vv m c) (Wo m c) (Dx m c)) (ix2 (row t a rows) j) * ·) (hSpread_apply _ _ _))).symm
  simp only [tile45 m c hp, iblk0, iblk2, iblk3, iblk4, hUp_apply]

/-- A tile's part of the gradient of the gain. -/
def part (c : Dev nD) (t : Fin cfg0.N) (j : S1x1024.Idx) : EReal := ∑ k : Fin 512, (k0_pay45 (F := Ideal) (wDq (iblk m c 5 t) (k0_pay7 (F := Ideal) (iblk m c 1 t) (iblk m c 9 t)) (iblk m c 6 t) (iblk m c 7 t)) (iblk m c 8 t)) (ix2 k (j 1)) * (k0_pay46 (F := Ideal) (iblk m c 2 t) (iblk m c 3 t)) (ix2 k (j 1))

/-- A tile's part of the gradient of the keys. -/
def partK (c : Dev nD) (t : Fin cfg0.N) : S256x1024.Idx → EReal := pDk (iblk m c 5 t) (k0_pay7 (F := Ideal) (iblk m c 1 t) (iblk m c 9 t)) (iblk m c 6 t) (iblk m c 7 t)

/-- A tile's part of the gradient of the values. -/
def partV (c : Dev nD) (t : Fin cfg0.N) : S256x1024.Idx → EReal := pDv (iblk m c 5 t) (k0_pay7 (F := Ideal) (iblk m c 1 t) (iblk m c 9 t)) (iblk m c 6 t)

theorem result10 (c : Dev nD) (hp : Fin4 m c) (i : Fin 4096) (j : Fin 1024) : ((dats m 0 c).arrAt 10 cfg0.N : S4096x1024.Idx → EReal) (ix2 i j)
    = Cert.ReferenceAtIdeal.Read.val_main_v175 (F := Ideal) (X m c) (G m c) (Wq m c) (K m c) (Vv m c) (Wo m c) (Dx m c) (ix2 i j) := by
  obtain ⟨t, a, rfl⟩ := row_surj rows i
  have hb := congrFun (blocks10 m c t (flush0_10 t)) (ix2 a j)
  rw [View.read_apply, flushed10] at hb
  have h := (index0 t).2.2.2.2.2.2.2.2.2.2.1
  have he : ((cfg0.win 10).blk t).view.emb (ix2 a j) = (ix2 (row t a rows) j : S4096x1024.Idx) := by
    refine ixEq ?_ ?_
    · show win0_10.index t 0 * 512 + 1 * a.val = t.val * 512 + a.val
      rw [h.1]; omega
    · show win0_10.index t 1 * 1024 + 1 * j.val = j.val
      rw [h.2]; omega
  rw [he] at hb
  refine hb.trans (Eq.trans (congrFun (?_ : (outsAt0 m c t.val t.isLt).1 = _) (ix2 a j)) (tile1 m c hp t a j))
  by_cases h0 : t.val % 8 = 0
  · rw [outs_A m c t h0]
  · rw [outs_B m c t h0]

theorem result11 (c : Dev nD) (hp : Fin4 m c) (i : Fin 4096) (j : Fin 1024) : ((dats m 0 c).arrAt 11 cfg0.N : S4096x1024.Idx → EReal) (ix2 i j)
    = Cert.ReferenceAtIdeal.Read.val_main_v176 (F := Ideal) (X m c) (G m c) (Wq m c) (K m c) (Vv m c) (Wo m c) (Dx m c) (ix2 i j) := by
  obtain ⟨t, a, rfl⟩ := row_surj rows i
  have hb := congrFun (blocks11 m c t (flush0_11 t)) (ix2 a j)
  rw [View.read_apply, flushed11] at hb
  have h := (index0 t).2.2.2.2.2.2.2.2.2.2.2.1
  have he : ((cfg0.win 11).blk t).view.emb (ix2 a j) = (ix2 (row t a rows) j : S4096x1024.Idx) := by
    refine ixEq ?_ ?_
    · show win0_11.index t 0 * 512 + 1 * a.val = t.val * 512 + a.val
      rw [h.1]; omega
    · show win0_11.index t 1 * 1024 + 1 * j.val = j.val
      rw [h.2]; omega
  rw [he] at hb
  refine hb.trans (Eq.trans (congrFun (?_ : (outsAt0 m c t.val t.isLt).2.1 = _) (ix2 a j)) (tile1 m c hp t a j))
  by_cases h0 : t.val % 8 = 0
  · rw [outs_A m c t h0]; rfl
  · rw [outs_B m c t h0]; rfl

theorem result12 (c : Dev nD) (hp : Fin4 m c) (i : Fin 4096) (j : Fin 1024) : ((dats m 0 c).arrAt 12 cfg0.N : S4096x1024.Idx → EReal) (ix2 i j)
    = Cert.ReferenceAtIdeal.Read.val_main_v177 (F := Ideal) (X m c) (G m c) (Wq m c) (K m c) (Vv m c) (Wo m c) (Dx m c) (ix2 i j) := by
  obtain ⟨t, a, rfl⟩ := row_surj rows i
  have hb := congrFun (blocks12 m c t (flush0_12 t)) (ix2 a j)
  rw [View.read_apply, flushed12] at hb
  have h := (index0 t).2.2.2.2.2.2.2.2.2.2.2.2.1
  have he : ((cfg0.win 12).blk t).view.emb (ix2 a j) = (ix2 (row t a rows) j : S4096x1024.Idx) := by
    refine ixEq ?_ ?_
    · show win0_12.index t 0 * 512 + 1 * a.val = t.val * 512 + a.val
      rw [h.1]; omega
    · show win0_12.index t 1 * 1024 + 1 * j.val = j.val
      rw [h.2]; omega
  rw [he] at hb
  refine hb.trans (Eq.trans (congrFun (?_ : (outsAt0 m c t.val t.isLt).2.2.1 = _) (ix2 a j)) ((tile12 m c hp t a j).trans (v177_at ..).symm))
  by_cases h0 : t.val % 8 = 0
  · rw [outs_A m c t h0]
  · rw [outs_B m c t h0]

/-- This running total after a point. -/
theorem total13 (c : Dev nD) (a : Fin 256) (j : Fin 1024) (n : ℕ) (hn : n < cfg0.N) : (outsAt0 m c n hn).2.2.2.1 (ix2 a j)
    = ∑ k : Fin (n + 1), partK m c ⟨k, by omega⟩ (ix2 a j) := by
  refine total (fun n hn => (outsAt0 m c n hn).2.2.2.1 (ix2 a j)) (fun t => partK m c t (ix2 a j))
    (fun h => ?_) (fun n h => ?_) n hn
  · show (outsAt0 m c (⟨0, h⟩ : Fin cfg0.N).val h).2.2.2.1 (ix2 a j) = _
    rw [outs_A m c ⟨0, h⟩ rfl]
    refine (wDk_apply _ _ _ _ _ a j).trans ?_
    show Ideal.ofBits .f32 0x00000000#32 + _ = _
    rw [Ideal.ofBits_zero_f32]
    exact zero_add _
  · have hN : cfg0.N = 8 := Gen.N_0
    show (outsAt0 m c (⟨n + 1, h⟩ : Fin cfg0.N).val h).2.2.2.1 (ix2 a j) = _
    rw [outs_B m c ⟨n + 1, h⟩ (by show ¬(n + 1) % 8 = 0; omega)]
    exact wDk_apply _ _ _ _ _ a j

/-- This running total after a point. -/
theorem total14 (c : Dev nD) (a : Fin 256) (j : Fin 1024) (n : ℕ) (hn : n < cfg0.N) : (outsAt0 m c n hn).2.2.2.2.1 (ix2 a j)
    = ∑ k : Fin (n + 1), partV m c ⟨k, by omega⟩ (ix2 a j) := by
  refine total (fun n hn => (outsAt0 m c n hn).2.2.2.2.1 (ix2 a j)) (fun t => partV m c t (ix2 a j))
    (fun h => ?_) (fun n h => ?_) n hn
  · show (outsAt0 m c (⟨0, h⟩ : Fin cfg0.N).val h).2.2.2.2.1 (ix2 a j) = _
    rw [outs_A m c ⟨0, h⟩ rfl]
    refine (wDv_apply _ _ _ _ a j).trans ?_
    show Ideal.ofBits .f32 0x00000000#32 + _ = _
    rw [Ideal.ofBits_zero_f32]
    exact zero_add _
  · have hN : cfg0.N = 8 := Gen.N_0
    show (outsAt0 m c (⟨n + 1, h⟩ : Fin cfg0.N).val h).2.2.2.2.1 (ix2 a j) = _
    rw [outs_B m c ⟨n + 1, h⟩ (by show ¬(n + 1) % 8 = 0; omega)]
    exact wDv_apply _ _ _ _ a j

/-- This running total after a point. -/
theorem total15 (c : Dev nD) (a : Fin 1) (j : Fin 1024) (n : ℕ) (hn : n < cfg0.N) : (outsAt0 m c n hn).2.2.2.2.2 (ix2 a j)
    = ∑ k : Fin (n + 1), part m c ⟨k, by omega⟩ (ix2 a j) := by
  refine total (fun n hn => (outsAt0 m c n hn).2.2.2.2.2 (ix2 a j)) (fun t => part m c t (ix2 a j))
    (fun h => ?_) (fun n h => ?_) n hn
  · show (outsAt0 m c (⟨0, h⟩ : Fin cfg0.N).val h).2.2.2.2.2 (ix2 a j) = _
    rw [outs_A m c ⟨0, h⟩ rfl]
    refine (pay3_apply _ _ _ a j).trans ?_
    show Ideal.ofBits .f32 0x00000000#32 + _ = _
    rw [Ideal.ofBits_zero_f32]
    exact zero_add _
  · have hN : cfg0.N = 8 := Gen.N_0
    show (outsAt0 m c (⟨n + 1, h⟩ : Fin cfg0.N).val h).2.2.2.2.2 (ix2 a j) = _
    rw [outs_B m c ⟨n + 1, h⟩ (by show ¬(n + 1) % 8 = 0; omega)]
    exact pay3_apply _ _ _ a j

/-- The one write-back of this total, after the last point. -/
theorem final13 (c : Dev nD) (hl : 7 < cfg0.N) : (dats m 0 c).arrAt 13 cfg0.N = (outsAt0 m c 7 hl).2.2.2.1 := by
  have hN : cfg0.N = 8 := Gen.N_0
  have hz (t : Fin cfg0.N) : (fun a => win0_13.index t a * main_v21_3.ty.shape.size a) = fun _ => 0 := funext fun a => by
    have h := (index0 t).2.2.2.2.2.2.2.2.2.2.2.2.2.1
    match a with
    | ⟨0, _⟩ => show win0_13.index t 0 * _ = 0; rw [h.1, Nat.zero_mul]
    | ⟨1, _⟩ => show win0_13.index t 1 * _ = 0; rw [h.2, Nat.zero_mul]
  refine (dats m 0 c).arrAt_eq_of_cover 13 (outsAt0 m c 7 hl).2.2.2.1 (fun t hf => ?_) fun i => ⟨⟨7, hl⟩, (flush0_13 _).mpr rfl, ?_⟩
  · obtain rfl : t = ⟨7, hl⟩ := Fin.ext (by
      have h7 := (flush0_13 t).mp hf
      have ht : t.val < 8 := lt_of_lt_of_eq t.isLt hN
      show t.val = 7
      omega)
    rw [flushed13]
    dsimp only
    generalize outsAt0 m c 7 hl = y
    exact (Memref.read_access_unit_zero (Elt Ideal) main_v21_3 (hz _) (fun a => by rw [congrFun (hz _) a]; simp) _).symm
  · show i ∈ ((View.whole main_v21_3).slice (win0_13.rect ⟨7, hl⟩)).set
    rw [View.set_slice_whole, Rect.mem_set_unit]
    intro a
    have h := (index0 ⟨7, hl⟩).2.2.2.2.2.2.2.2.2.2.2.2.2.1
    match a with
    | ⟨0, _⟩ =>
      show win0_13.index ⟨7, hl⟩ 0 * 256 ≤ (i 0 : Nat) ∧ (i 0 : Nat) < win0_13.index ⟨7, hl⟩ 0 * 256 + 256
      have : (i 0 : Nat) < 256 := (i 0).isLt
      rw [h.1]; omega
    | ⟨1, _⟩ =>
      show win0_13.index ⟨7, hl⟩ 1 * 1024 ≤ (i 1 : Nat) ∧ (i 1 : Nat) < win0_13.index ⟨7, hl⟩ 1 * 1024 + 1024
      have : (i 1 : Nat) < 1024 := (i 1).isLt
      rw [h.2]; omega

/-- The one write-back of this total, after the last point. -/
theorem final14 (c : Dev nD) (hl : 7 < cfg0.N) : (dats m 0 c).arrAt 14 cfg0.N = (outsAt0 m c 7 hl).2.2.2.2.1 := by
  have hN : cfg0.N = 8 := Gen.N_0
  have hz (t : Fin cfg0.N) : (fun a => win0_14.index t a * main_v21_4.ty.shape.size a) = fun _ => 0 := funext fun a => by
    have h := (index0 t).2.2.2.2.2.2.2.2.2.2.2.2.2.2.1
    match a with
    | ⟨0, _⟩ => show win0_14.index t 0 * _ = 0; rw [h.1, Nat.zero_mul]
    | ⟨1, _⟩ => show win0_14.index t 1 * _ = 0; rw [h.2, Nat.zero_mul]
  refine (dats m 0 c).arrAt_eq_of_cover 14 (outsAt0 m c 7 hl).2.2.2.2.1 (fun t hf => ?_) fun i => ⟨⟨7, hl⟩, (flush0_14 _).mpr rfl, ?_⟩
  · obtain rfl : t = ⟨7, hl⟩ := Fin.ext (by
      have h7 := (flush0_14 t).mp hf
      have ht : t.val < 8 := lt_of_lt_of_eq t.isLt hN
      show t.val = 7
      omega)
    rw [flushed14]
    dsimp only
    generalize outsAt0 m c 7 hl = y
    exact (Memref.read_access_unit_zero (Elt Ideal) main_v21_4 (hz _) (fun a => by rw [congrFun (hz _) a]; simp) _).symm
  · show i ∈ ((View.whole main_v21_4).slice (win0_14.rect ⟨7, hl⟩)).set
    rw [View.set_slice_whole, Rect.mem_set_unit]
    intro a
    have h := (index0 ⟨7, hl⟩).2.2.2.2.2.2.2.2.2.2.2.2.2.2.1
    match a with
    | ⟨0, _⟩ =>
      show win0_14.index ⟨7, hl⟩ 0 * 256 ≤ (i 0 : Nat) ∧ (i 0 : Nat) < win0_14.index ⟨7, hl⟩ 0 * 256 + 256
      have : (i 0 : Nat) < 256 := (i 0).isLt
      rw [h.1]; omega
    | ⟨1, _⟩ =>
      show win0_14.index ⟨7, hl⟩ 1 * 1024 ≤ (i 1 : Nat) ∧ (i 1 : Nat) < win0_14.index ⟨7, hl⟩ 1 * 1024 + 1024
      have : (i 1 : Nat) < 1024 := (i 1).isLt
      rw [h.2]; omega

/-- The one write-back of this total, after the last point. -/
theorem final15 (c : Dev nD) (hl : 7 < cfg0.N) : (dats m 0 c).arrAt 15 cfg0.N = (outsAt0 m c 7 hl).2.2.2.2.2 := by
  have hN : cfg0.N = 8 := Gen.N_0
  have hz (t : Fin cfg0.N) : (fun a => win0_15.index t a * main_v21_5.ty.shape.size a) = fun _ => 0 := funext fun a => by
    have h := (index0 t).2.2.2.2.2.2.2.2.2.2.2.2.2.2.2
    match a with
    | ⟨0, _⟩ => show win0_15.index t 0 * _ = 0; rw [h.1, Nat.zero_mul]
    | ⟨1, _⟩ => show win0_15.index t 1 * _ = 0; rw [h.2, Nat.zero_mul]
  refine (dats m 0 c).arrAt_eq_of_cover 15 (outsAt0 m c 7 hl).2.2.2.2.2 (fun t hf => ?_) fun i => ⟨⟨7, hl⟩, (flush0_15 _).mpr rfl, ?_⟩
  · obtain rfl : t = ⟨7, hl⟩ := Fin.ext (by
      have h7 := (flush0_15 t).mp hf
      have ht : t.val < 8 := lt_of_lt_of_eq t.isLt hN
      show t.val = 7
      omega)
    rw [flushed15]
    dsimp only
    generalize outsAt0 m c 7 hl = y
    exact (Memref.read_access_unit_zero (Elt Ideal) main_v21_5 (hz _) (fun a => by rw [congrFun (hz _) a]; simp) _).symm
  · show i ∈ ((View.whole main_v21_5).slice (win0_15.rect ⟨7, hl⟩)).set
    rw [View.set_slice_whole, Rect.mem_set_unit]
    intro a
    have h := (index0 ⟨7, hl⟩).2.2.2.2.2.2.2.2.2.2.2.2.2.2.2
    match a with
    | ⟨0, _⟩ =>
      show win0_15.index ⟨7, hl⟩ 0 * 1 ≤ (i 0 : Nat) ∧ (i 0 : Nat) < win0_15.index ⟨7, hl⟩ 0 * 1 + 1
      have : (i 0 : Nat) < 1 := (i 0).isLt
      rw [h.1]; omega
    | ⟨1, _⟩ =>
      show win0_15.index ⟨7, hl⟩ 1 * 1024 ≤ (i 1 : Nat) ∧ (i 1 : Nat) < win0_15.index ⟨7, hl⟩ 1 * 1024 + 1024
      have : (i 1 : Nat) < 1024 := (i 1).isLt
      rw [h.2]; omega

theorem result13 (c : Dev nD) (hp : Fin4 m c) (a : Fin 256) (j : Fin 1024) : ((dats m 0 c).arrAt 13 cfg0.N : S256x1024.Idx → EReal) (ix2 a j)
    = Cert.ReferenceAtIdeal.Read.val_main_v76 (F := Ideal) (X m c) (G m c) (Wq m c) (K m c) (Vv m c) (Wo m c) (Dx m c) (ix2 a j) := by
  have hN : cfg0.N = 7 + 1 := Gen.N_0
  rw [final13 m c (by omega)]
  refine (total13 m c a j 7 (by omega)).trans ?_
  obtain ⟨h, b, rfl⟩ : ∃ h b, j = hcol h b := ⟨headOf j, inHead j, (hcol_self j).symm⟩
  rw [v76_apply, sum_row rows]
  refine (sum_cast hN (fun t => partK m c t (ix2 a (hcol h b))) _ fun k => rfl).symm.trans (Finset.sum_congr rfl fun t _ => ?_)
  refine (pDk_eq (KK := K m c) (VV := Vv m c) (tileQ m c t) (tileD m c t) (iblk6 m c t) (iblk7 m c t) h a b).trans (Finset.sum_congr rfl fun i _ => ?_)
  exact congrArg (· * qry (X m c) (G m c) (Wq m c) (row t i rows) (hcol h b)) (hp.slope h (row t i rows) a)

theorem result14 (c : Dev nD) (a : Fin 256) (j : Fin 1024) : ((dats m 0 c).arrAt 14 cfg0.N : S256x1024.Idx → EReal) (ix2 a j)
    = Cert.ReferenceAtIdeal.Read.val_main_v75 (F := Ideal) (X m c) (G m c) (Wq m c) (K m c) (Wo m c) (Dx m c) (ix2 a j) := by
  have hN : cfg0.N = 7 + 1 := Gen.N_0
  rw [final14 m c (by omega)]
  refine (total14 m c a j 7 (by omega)).trans ?_
  obtain ⟨h, b, rfl⟩ : ∃ h b, j = hcol h b := ⟨headOf j, inHead j, (hcol_self j).symm⟩
  rw [v75_apply, sum_row rows]
  refine (sum_cast hN (fun t => partV m c t (ix2 a (hcol h b))) _ fun k => rfl).symm.trans (Finset.sum_congr rfl fun t _ => ?_)
  refine (pDv_eq (KK := K m c) (tileQ m c t) (tileD m c t) (iblk6 m c t) h a b).trans (Finset.sum_congr rfl fun i _ => ?_)
  exact mul_comm _ _

theorem result15 (c : Dev nD) (hp : Fin4 m c) (a : Fin 1) (j : Fin 1024) : ((dats m 0 c).arrAt 15 cfg0.N : S1x1024.Idx → EReal) (ix2 a j)
    = Cert.ReferenceAtIdeal.Read.val_main_v158 (F := Ideal) (X m c) (G m c) (Wq m c) (K m c) (Vv m c) (Wo m c) (Dx m c) (ix2 a j) := by
  have hN : cfg0.N = 7 + 1 := Gen.N_0
  rw [final15 m c (by omega)]
  refine (total15 m c a j 7 (by omega)).trans (Eq.trans ?_ (congrFun (v158_eq ..) (ix2 a j)).symm)
  rw [hGain_apply, sum_row rows]
  refine (sum_cast hN (fun t => part m c t (ix2 a j)) _ fun k => rfl).symm.trans (Finset.sum_congr rfl fun t _ => Finset.sum_congr rfl fun b _ => ?_)
  refine (congrArg₂ (· * ·) (tile45 m c hp t b j) (pay46_apply _ _ b j)).trans ?_
  rw [iblk2, iblk3, hScale_apply, mul_comm]

end Cert.KernelAtIdeal.Hand
-- ==== Proof.AtClaim.lean ====
/- The gradient of the attention and norm: the claim against the reference. -/
module

public import proofs.«01_k».proof.Defs
public import proofs.«01_k».proof.Proof.Gen.KernelAt
public import proofs.«01_k».proof.Proof.At
public import proofs.«01_k».proof.Proof.Gen.Pre_finite_attn
public import proofs.«01_k».proof.Proof.Finite

@[expose] public section

noncomputable section

open Idealize.ShloMosaic Idealize.ShloMosaic.TcCoe Idealize.SL.Sem Idealize.ShloMosaic.ValueIdx

namespace Cert.Hand

theorem frame_reference_At : Cert.quiescent_ReferenceAtIdeal := fun m ρ _ =>
  (θ_run Cert.ReferenceAtIdeal.defs _ _).mono (fun r h => ⟨fun c => (h c).2.2.2.2.2.2, sem_eq_zero_of_no_sems (by decide) r.2⟩)
    (Cert.ReferenceAtIdeal.Hand.run m ρ)

theorem frame_reference_At_pre_finite_attn : Cert.quiescent_ReferenceAtIdeal_pre_finite_attn := fun m ρ _ =>
  (θ_run Cert.ReferenceAtIdeal.defs _ _).mono (fun r h => ⟨fun c => (h c).2.2.2.2.2.2, sem_eq_zero_of_no_sems (by decide) r.2⟩)
    (Cert.ReferenceAtIdeal.Hand.run m ρ)

open Cert.KernelAtIdeal in
/-- The precondition, read: every entry of the arrays it names is a real. -/
theorem finite_At (m : (ℓ : Loc nD τ sig) → Buf (Elt Ideal) ℓ) (h : Cert.Pre_KernelAtIdeal_finite_attn m) (c : Dev nD) : Cert.KernelAtIdeal.Hand.Fin4 m c := by
  have H := h c
  unfold Cert.Pre_finite_attn.fn Cert.Pre_finite_attn.fn_part1 at H
  obtain ⟨H, h6⟩ := Cert.Kit.ones_cat H
  obtain ⟨H, h5⟩ := Cert.Kit.ones_cat H
  obtain ⟨H, h4⟩ := Cert.Kit.ones_cat H
  obtain ⟨H, h3⟩ := Cert.Kit.ones_cat H
  obtain ⟨H, h2⟩ := Cert.Kit.ones_cat H
  obtain ⟨H, h1⟩ := Cert.Kit.ones_cat H
  exact ⟨Cert.Kit.real_of_ones (Cert.Kit.ones_cast H), Cert.Kit.real_of_ones (Cert.Kit.ones_cast h1), Cert.Kit.real_of_ones (Cert.Kit.ones_cast h2), Cert.Kit.real_of_ones (Cert.Kit.ones_cast h3), Cert.Kit.real_of_ones (Cert.Kit.ones_cast h4), Cert.Kit.real_of_ones (Cert.Kit.ones_cast h5), Cert.Kit.real_of_ones (Cert.Kit.ones_cast h6)⟩

set_option maxHeartbeats 4000000 in
open Cert.KernelAtIdeal in
theorem algebraic_At : Cert.algebraic_KernelAtIdeal_ReferenceAtIdeal_pre_finite_attn := by
  intro m g m' g' hp hargs
  let x0 (c : Dev nD) := m ((c.tc : Thread nD τ).loc main_arg0)
  let x1 (c : Dev nD) := m ((c.tc : Thread nD τ).loc main_arg1)
  let x2 (c : Dev nD) := m ((c.tc : Thread nD τ).loc main_arg2)
  let x3 (c : Dev nD) := m ((c.tc : Thread nD τ).loc main_arg3)
  let x4 (c : Dev nD) := m ((c.tc : Thread nD τ).loc main_arg4)
  let x5 (c : Dev nD) := m ((c.tc : Thread nD τ).loc main_arg5)
  let x6 (c : Dev nD) := m ((c.tc : Thread nD τ).loc main_arg6)
  refine ⟨fun c => Cert.ReferenceAtIdeal.Read.val_main_v175 (F := Ideal) (x0 c) (x1 c) (x2 c) (x3 c) (x4 c) (x5 c) (x6 c),
    fun c => Cert.ReferenceAtIdeal.Read.val_main_v176 (F := Ideal) (x0 c) (x1 c) (x2 c) (x3 c) (x4 c) (x5 c) (x6 c),
    fun c => Cert.ReferenceAtIdeal.Read.val_main_v177 (F := Ideal) (x0 c) (x1 c) (x2 c) (x3 c) (x4 c) (x5 c) (x6 c),
    fun c => Cert.ReferenceAtIdeal.Read.val_main_v76 (F := Ideal) (x0 c) (x1 c) (x2 c) (x3 c) (x4 c) (x5 c) (x6 c),
    fun c => Cert.ReferenceAtIdeal.Read.val_main_v75 (F := Ideal) (x0 c) (x1 c) (x2 c) (x3 c) (x5 c) (x6 c),
    fun c => Cert.ReferenceAtIdeal.Read.val_main_v158 (F := Ideal) (x0 c) (x1 c) (x2 c) (x3 c) (x4 c) (x5 c) (x6 c), ?_, ?_⟩
  · refine (θ_run defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (Value.run_blocks m g)
    · funext j
      obtain ⟨a, b, rfl⟩ : ∃ (a : Fin 4096) (b : Fin 1024), j = ix2 a b := ⟨j 0, j 1, eq_ix2 j⟩
      exact Hand.result10 m c (finite_At m hp c) a b
    · funext j
      obtain ⟨a, b, rfl⟩ : ∃ (a : Fin 4096) (b : Fin 1024), j = ix2 a b := ⟨j 0, j 1, eq_ix2 j⟩
      exact Hand.result11 m c (finite_At m hp c) a b
    · funext j
      obtain ⟨a, b, rfl⟩ : ∃ (a : Fin 4096) (b : Fin 1024), j = ix2 a b := ⟨j 0, j 1, eq_ix2 j⟩
      exact Hand.result12 m c (finite_At m hp c) a b
    · funext j
      obtain ⟨a, b, rfl⟩ : ∃ (a : Fin 256) (b : Fin 1024), j = ix2 a b := ⟨j 0, j 1, eq_ix2 j⟩
      exact Hand.result13 m c (finite_At m hp c) a b
    · funext j
      obtain ⟨a, b, rfl⟩ : ∃ (a : Fin 256) (b : Fin 1024), j = ix2 a b := ⟨j 0, j 1, eq_ix2 j⟩
      exact Hand.result14 m c a b
    · funext j
      obtain ⟨a, b, rfl⟩ : ∃ (a : Fin 1) (b : Fin 1024), j = ix2 a b := ⟨j 0, j 1, eq_ix2 j⟩
      exact Hand.result15 m c (finite_At m hp c) a b
  · refine (θ_run Cert.ReferenceAtIdeal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
      (Cert.ReferenceAtIdeal.Hand.run m' g')
    · rw [(hargs c).1, (hargs c).2.1, (hargs c).2.2.1, (hargs c).2.2.2.1, (hargs c).2.2.2.2.1, (hargs c).2.2.2.2.2.1, (hargs c).2.2.2.2.2.2]
    · rw [(hargs c).1, (hargs c).2.1, (hargs c).2.2.1, (hargs c).2.2.2.1, (hargs c).2.2.2.2.1, (hargs c).2.2.2.2.2.1, (hargs c).2.2.2.2.2.2]
    · rw [(hargs c).1, (hargs c).2.1, (hargs c).2.2.1, (hargs c).2.2.2.1, (hargs c).2.2.2.2.1, (hargs c).2.2.2.2.2.1, (hargs c).2.2.2.2.2.2]
    · rw [(hargs c).1, (hargs c).2.1, (hargs c).2.2.1, (hargs c).2.2.2.1, (hargs c).2.2.2.2.1, (hargs c).2.2.2.2.2.1, (hargs c).2.2.2.2.2.2]
    · rw [(hargs c).1, (hargs c).2.1, (hargs c).2.2.1, (hargs c).2.2.2.1, (hargs c).2.2.2.2.2.1, (hargs c).2.2.2.2.2.2]
    · rw [(hargs c).1, (hargs c).2.1, (hargs c).2.2.1, (hargs c).2.2.2.1, (hargs c).2.2.2.2.1, (hargs c).2.2.2.2.2.1, (hargs c).2.2.2.2.2.2]

end Cert.Hand
-- ==== Proof.LsRef.lean ====
/- The feed-forward block with the loss and its gradient, the reference's stages. -/
module

public import proofs.«01_k».proof.Proof.Kit
public import proofs.«01_k».proof.Proof.Rms
public import proofs.«01_k».proof.Proof.Silu
public import proofs.«01_k».proof.Proof.Soft
public import proofs.«01_k».proof.Proof.Gen.ReferenceLsIdeal.Run
public import proofs.«01_k».proof.Proof.Gen.ReferenceLsIdeal.Read
public import Idealize.ShloMosaic.Lib.StableHlo.Run

@[expose] public section

set_option maxRecDepth 16384

noncomputable section

open Idealize.ShloMosaic Idealize.ShloMosaic.TcCoe Idealize.SL.Sem Idealize.ShloMosaic.ValueIdx Cert.Kit

namespace Cert.ReferenceLsIdeal.Hand

open Cert.ReferenceLsIdeal Cert.ReferenceLsIdeal.Read

/-- The reference's run, its results named as the reading's stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v70) = val_main_v70 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v79) = val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v54) = val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v80) = val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v81) = val_main_v81 (F := Ideal) (m ((c.tc : Thread nD τ).loc main_arg0)) (m ((c.tc : Thread nD τ).loc main_arg1))
      ∧ r.2.mem ((c.tc : Thread nD τ).loc main_v78) = val_main_v78 (F := Ideal) (m ((c.tc : Thread nD τ).loc main_arg0))
      ∧ r.2.mem ((c.tc : Thread nD τ).loc main_v82) = val_main_v82 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v83) = val_main_v83 (F := Ideal) (m ((c.tc : Thread nD τ).loc main_arg0)) (m ((c.tc : Thread nD τ).loc main_arg1)) (m ((c.tc : Thread nD τ).loc main_arg2))
      ∧ r.2.mem ((c.tc : Thread nD τ).loc main_v84) = val_main_v84 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (val_main_v70_eq m c), (h c).2.1.trans (val_main_v79_eq m c), (h c).2.2.1.trans (val_main_v54_eq m c), (h c).2.2.2.1.trans (val_main_v80_eq m c), (h c).2.2.2.2.1.trans (val_main_v81_eq ..), (h c).2.2.2.2.2.1.trans (val_main_v78_eq ..), (h c).2.2.2.2.2.2.1.trans (val_main_v82_eq m c), (h c).2.2.2.2.2.2.2.1.trans (val_main_v83_eq ..), (h c).2.2.2.2.2.2.2.2.1.trans (val_main_v84_eq ..),
    (h c).2.2.2.2.2.2.2.2.2⟩) (Cert.ReferenceLsIdeal.Value.run m ρ)

/-- One part in 1024, the share of an entry in a row's mean. -/
def cPart : EReal := Ideal.ofBits .f32 0x3A800000#32

theorem cPart_eq : cPart = ((1 / 1024 : ℝ) : EReal) := by
  unfold cPart
  simp [Ideal.ofBits, Ideal.ieee, -EReal.coe_mul]; norm_num

theorem c2048 : Ideal.ofBits .f32 0x3A000000#32 = ((1 / 2048 : ℝ) : EReal) := by
  simp [Ideal.ofBits, Ideal.ieee, -EReal.coe_mul]; norm_num

theorem cTwo : Ideal.ofBits .f32 0x40000000#32 = ((2 : ℝ) : EReal) := by
  simp [Ideal.ofBits, Ideal.ieee, -EReal.coe_mul]; norm_num

/-- The reference's factors of an error and the kernel's are one number. -/
theorem part_eq (e : EReal) : Ideal.div (Ideal.ofBits .f32 0x3F000000#32 * Ideal.ofBits .f32 0x3F800000#32) (Ideal.ofBits .f32 0x44800000#32)
    * (Ideal.ofBits .f32 0x40000000#32 * e) = e * cPart := by
  rw [cHalf, show Ideal.ofBits .f32 0x3F800000#32 = ((1 : ℝ) : EReal) from cOne_eq, c1024, cTwo, ← EReal.coe_mul, div_real _ _ (by norm_num), ← mul_assoc, ← EReal.coe_mul, mul_comm, cPart_eq]
  norm_num

/-- The error of a row. -/
def lErr (y t g : Fin 1024 → EReal) (j : Fin 1024) : EReal := y j * Ideal.rsqrt (meanSq 1024 y) * g j - t j

/-- The cotangent of a normed row times its gain. -/
def lDy (y t g : Fin 1024 → EReal) (j : Fin 1024) : EReal := lErr y t g j * cPart

/-- The gradient of a row. -/
def lDx (y t g : Fin 1024 → EReal) (j : Fin 1024) : EReal :=
  Ideal.rsqrt (meanSq 1024 y) * (lDy y t g j * g j - y j * Ideal.rsqrt (meanSq 1024 y)
    * Ideal.div (∑ k, lDy y t g k * g k * (y k * Ideal.rsqrt (meanSq 1024 y))) ((1024 : ℝ) : EReal))

variable (x0 : FVec Ideal S4096x1024 .f32) (x1 : FVec Ideal S1x1024 .f32) (x2 x3 : FVec Ideal S1024x2816 .f32) (x4 : FVec Ideal S2816x1024 .f32)
  (x5 : FVec Ideal S4096x1024 .f32) (x6 : FVec Ideal S1x1024 .f32)

/-- The gate's argument, or the factor beside it. -/
def pre (w : FVec Ideal S1024x2816 .f32) (i : Fin 4096) (j : Fin 2816) : EReal := ∑ k : Fin 1024, hNorm x0 x1 (ix2 i k) * w (ix2 k j)

/-- The hidden rows. -/
def hid (i : Fin 4096) (j : Fin 2816) : EReal := pre x0 x1 x2 i j * sg (pre x0 x1 x2 i j) * pre x0 x1 x3 i j

/-- The block's result. -/
def yRow (i : Fin 4096) (j : Fin 1024) : EReal := x0 (ix2 i j) + ∑ k : Fin 2816, hid x0 x1 x2 x3 i k * x4 (ix2 k j)

theorem v12_apply (i : Fin 4096) (j : Fin 2816) : val_main_v12 (F := Ideal) x0 x1 x2 (ix2 i j) = pre x0 x1 x2 i j := dg10 _ none _ _ i j

theorem v13_apply (i : Fin 4096) (j : Fin 2816) : val_main_v13 (F := Ideal) x0 x1 x3 (ix2 i j) = pre x0 x1 x3 i j := dg10 _ none _ _ i j

theorem v84_apply (i : Fin 4096) (j : Fin 2816) : val_main_v84 (F := Ideal) x0 x1 x2 x3 (ix2 i j) = hid x0 x1 x2 x3 i j := by
  unfold hid
  rw [← v12_apply, ← v13_apply]
  rfl

theorem v15_apply (i : Fin 4096) (j : Fin 2816) : val_main_v15 (F := Ideal) x0 x1 x2 x3 (ix2 i j) = hid x0 x1 x2 x3 i j := v84_apply x0 x1 x2 x3 i j

theorem v83_apply (i : Fin 4096) (j : Fin 2816) : val_main_v83 (F := Ideal) x0 x1 x2 (ix2 i j) = pre x0 x1 x2 i j * sg (pre x0 x1 x2 i j) := by
  rw [← v12_apply]
  refine Eq.trans ?_ (mul_one _)
  rw [← c1]
  rfl

theorem pre_real (h0 : ∀ i, IsReal (x0 i)) (h1 : ∀ i, IsReal (x1 i)) (h2 : ∀ i, IsReal (x2 i)) (i : Fin 4096) (j : Fin 2816) : IsReal (pre x0 x1 x2 i j) :=
  IsReal.sum _ fun k => (hNorm_real h0 h1 i k).mul (h2 _)

theorem v82_apply (h0 : ∀ i, IsReal (x0 i)) (h1 : ∀ i, IsReal (x1 i)) (h2 : ∀ i, IsReal (x2 i)) (h3 : ∀ i, IsReal (x3 i)) (i : Fin 4096) (j : Fin 2816) :
    val_main_v82 (F := Ideal) x0 x1 x2 x3 (ix2 i j) = gateSlope (pre x0 x1 x2 i j) (pre x0 x1 x3 i j) := by
  refine Eq.trans ?_ ((gate_back (pre_real x0 x1 x2 h0 h1 h2 i j) (pre_real x0 x1 x3 h0 h1 h3 i j) (IsReal.one)).symm.trans (one_mul _))
  rw [← c1, ← v12_apply, ← v13_apply]
  rfl

theorem hid_real (h0 : ∀ i, IsReal (x0 i)) (h1 : ∀ i, IsReal (x1 i)) (h2 : ∀ i, IsReal (x2 i)) (h3 : ∀ i, IsReal (x3 i)) (i : Fin 4096) (j : Fin 2816) :
    IsReal (hid x0 x1 x2 x3 i j) :=
  ((pre_real x0 x1 x2 h0 h1 h2 i j).mul (pre_real x0 x1 x2 h0 h1 h2 i j).sg).mul (pre_real x0 x1 x3 h0 h1 h3 i j)

/-- The block's result as an array. -/
def y : FVec Ideal S4096x1024 .f32 := val_main_v21 (F := Ideal) x0 x1 x2 x3 x4

theorem y_apply (i : Fin 4096) (j : Fin 1024) : y x0 x1 x2 x3 x4 (ix2 i j) = yRow x0 x1 x2 x3 x4 i j :=
  congrArg (x0 (ix2 i j) + ·) ((dg10 _ none _ _ i j).trans (Finset.sum_congr rfl fun k _ => congrArg (· * x4 (ix2 k j)) (v15_apply x0 x1 x2 x3 i k)))

theorem rowOf_y (i : Fin 4096) : rowOf (y x0 x1 x2 x3 x4) i = yRow x0 x1 x2 x3 x4 i := funext fun j => y_apply x0 x1 x2 x3 x4 i j

theorem y_real (h0 : ∀ i, IsReal (x0 i)) (h1 : ∀ i, IsReal (x1 i)) (h2 : ∀ i, IsReal (x2 i)) (h3 : ∀ i, IsReal (x3 i)) (h4 : ∀ i, IsReal (x4 i)) (z : S4096x1024.Idx) :
    IsReal (y x0 x1 x2 x3 x4 z) := by
  rw [eq_ix2 z]
  exact (congrArg IsReal (y_apply x0 x1 x2 x3 x4 (z 0) (z 1))).mpr ((h0 _).add (IsReal.sum _ fun k => (hid_real x0 x1 x2 x3 h0 h1 h2 h3 _ k).mul (h4 _)))

theorem v34_apply (i : Fin 4096) (j : Fin 1024) : val_main_v34 (F := Ideal) x0 x1 x2 x3 x4 (ix2 i j)
    = yRow x0 x1 x2 x3 x4 i j * Ideal.rsqrt (meanSq 1024 (yRow x0 x1 x2 x3 x4 i)) := by
  refine (congrArg₂ (· * ·) (y_apply x0 x1 x2 x3 x4 i j) ((hSpread_apply _ i j).trans (hScale_apply (y x0 x1 x2 x3 x4) i))).trans ?_
  rw [rowOf_y]

theorem v37_apply (i : Fin 4096) (j : Fin 1024) : val_main_v37 (F := Ideal) x0 x1 x2 x3 x4 x5 x6 (ix2 i j)
    = lErr (yRow x0 x1 x2 x3 x4 i) (rowOf x5 i) (rowOf x6 0) j :=
  congrArg₂ (· - ·) (congrArg₂ (· * ·) (v34_apply x0 x1 x2 x3 x4 i j) (hbRow _ _ i j)) rfl

theorem v51_apply (i : Fin 4096) (j : Fin 1024) : val_main_v51 (F := Ideal) x0 x1 x2 x3 x4 x5 x6 (ix2 i j)
    = lDy (yRow x0 x1 x2 x3 x4 i) (rowOf x5 i) (rowOf x6 0) j := by
  unfold lDy
  rw [← v37_apply x0 x1 x2 x3 x4 x5 x6 i j, ← part_eq]
  exact congrArg (· * (Ideal.ofBits .f32 0x40000000#32 * val_main_v37 (F := Ideal) x0 x1 x2 x3 x4 x5 x6 (ix2 i j))) (hbVec _ _ i j)

theorem v54_apply (a : Fin 1) (j : Fin 1024) : val_main_v54 (F := Ideal) x0 x1 x2 x3 x4 x5 x6 (ix2 a j)
    = ∑ i : Fin 4096, lDy (yRow x0 x1 x2 x3 x4 i) (rowOf x5 i) (rowOf x6 0) j * (yRow x0 x1 x2 x3 x4 i j * Ideal.rsqrt (meanSq 1024 (yRow x0 x1 x2 x3 x4 i))) :=
  (castRow _ _ a j).trans ((hsumRows _ _ _ (by decide) j).trans (Finset.sum_congr rfl fun i _ =>
    (congrArg₂ (· * ·) (v34_apply x0 x1 x2 x3 x4 i j) (v51_apply x0 x1 x2 x3 x4 x5 x6 i j)).trans (mul_comm _ _)))

theorem v70_eq : val_main_v70 (F := Ideal) x0 x1 x2 x3 x4 x5 x6
    = hBack (y x0 x1 x2 x3 x4) (hUp x6 (val_main_v51 (F := Ideal) x0 x1 x2 x3 x4 x5 x6))
        (mulf (hUp x6 (val_main_v51 (F := Ideal) x0 x1 x2 x3 x4 x5 x6)) (hSpread (hScale (y x0 x1 x2 x3 x4)))) := rfl

theorem up_apply (i : Fin 4096) (j : Fin 1024) : hUp x6 (val_main_v51 (F := Ideal) x0 x1 x2 x3 x4 x5 x6) (ix2 i j)
    = lDy (yRow x0 x1 x2 x3 x4 i) (rowOf x5 i) (rowOf x6 0) j * x6 (ix2 0 j) :=
  (hUp_apply _ _ i j).trans (congrArg (· * x6 (ix2 0 j)) (v51_apply x0 x1 x2 x3 x4 x5 x6 i j))

theorem lErr_real {y t g : Fin 1024 → EReal} (hy : ∀ k, IsReal (y k)) (ht : ∀ k, IsReal (t k)) (hg : ∀ k, IsReal (g k)) (j : Fin 1024) : IsReal (lErr y t g j) :=
  (((hy j).mul (IsReal.scale (by norm_num) hy)).mul (hg j)).sub (ht j)

theorem v70_apply (h0 : ∀ i, IsReal (x0 i)) (h1 : ∀ i, IsReal (x1 i)) (h2 : ∀ i, IsReal (x2 i)) (h3 : ∀ i, IsReal (x3 i)) (h4 : ∀ i, IsReal (x4 i))
    (h5 : ∀ i, IsReal (x5 i)) (h6 : ∀ i, IsReal (x6 i)) (i : Fin 4096) (j : Fin 1024) : val_main_v70 (F := Ideal) x0 x1 x2 x3 x4 x5 x6 (ix2 i j)
      = lDx (yRow x0 x1 x2 x3 x4 i) (rowOf x5 i) (rowOf x6 0) j := by
  have hy := y_real x0 x1 x2 x3 x4 h0 h1 h2 h3 h4
  have hr (i : Fin 4096) (k : Fin 1024) : IsReal (yRow x0 x1 x2 x3 x4 i k) := (congrArg IsReal (y_apply x0 x1 x2 x3 x4 i k)).mp (hy _)
  rw [v70_eq]
  refine (hBack_apply hy (fun z => ?_) _ 0 i j ?_).trans ?_
  · rw [eq_ix2 z]
    exact (congrArg IsReal (up_apply x0 x1 x2 x3 x4 x5 x6 (z 0) (z 1))).mpr (((lErr_real (hr _) (fun k => h5 _) (fun k => h6 _) _).mul ⟨_, cPart_eq⟩).mul (h6 _))
  · exact (congrArg (hUp x6 (val_main_v51 (F := Ideal) x0 x1 x2 x3 x4 x5 x6) (ix2 i j) * ·) (hSpread_apply _ i j)).trans (zero_add _).symm
  · simp only [up_apply, y_apply, hScale_apply, rowOf_y]
    exact zero_add _

/-- Half the sum of the rows' mean squares is the sum of the tiles' shares. -/
theorem loss_eq {N : ℕ} (hN : 4096 = N * 512) {E : Fin 4096 → EReal} (hE : ∀ i, IsReal (E i)) :
    ∑ t : Fin N, (∑ a : Fin 512, E (row t a hN)) * Ideal.ofBits .f32 0x3A000000#32
      = Ideal.ofBits .f32 0x3F000000#32 * ∑ i, Ideal.div (E i) (Ideal.ofBits .f32 0x44800000#32) := by
  choose e he using hE
  obtain rfl : E = fun i => (e i : EReal) := funext he
  have h := sum_row hN fun i => (e i : EReal)
  simp only [← coe_sum] at h
  have h := EReal.coe_injective h
  rw [c2048, cHalf, c1024]
  simp only [div_real _ _ (show (1024 : ℝ) ≠ 0 by norm_num), ← coe_sum, ← EReal.coe_mul]
  rw [← Finset.sum_mul, ← h, ← Finset.sum_div]
  congr 1
  ring

theorem v80_apply (a b : Fin 1) : val_main_v80 (F := Ideal) x0 x1 x2 x3 x4 x5 x6 (ix2 a b) = Ideal.ofBits .f32 0x3F000000#32
    * ∑ i : Fin 4096, Ideal.div (∑ k, lErr (yRow x0 x1 x2 x3 x4 i) (rowOf x5 i) (rowOf x6 0) k * lErr (yRow x0 x1 x2 x3 x4 i) (rowOf x5 i) (rowOf x6 0) k)
        (Ideal.ofBits .f32 0x44800000#32) := by
  have h43 (i : Fin 4096) : val_main_v43 (F := Ideal) x0 x1 x2 x3 x4 x5 x6 (ix1 i)
      = Ideal.div (∑ k, lErr (yRow x0 x1 x2 x3 x4 i) (rowOf x5 i) (rowOf x6 0) k * lErr (yRow x0 x1 x2 x3 x4 i) (rowOf x5 i) (rowOf x6 0) k)
        (Ideal.ofBits .f32 0x44800000#32) :=
    congrArg (Ideal.div · (Ideal.ofBits .f32 0x44800000#32)) ((hsumCols _ _ _ (by decide) i).trans (Finset.sum_congr rfl fun k _ =>
      congrArg₂ (· * ·) (v37_apply x0 x1 x2 x3 x4 x5 x6 i k) (v37_apply x0 x1 x2 x3 x4 x5 x6 i k)))
  obtain rfl : a = 0 := Subsingleton.elim _ _
  obtain rfl : b = 0 := Subsingleton.elim _ _
  unfold val_main_v80
  refine Eq.trans (shapeCast_apply _ _ (ix2 0 0) (fun a => a.elim0) ?_) (congrArg (Ideal.ofBits .f32 0x3F000000#32 * ·) ((val_main_v44_apply ..).trans ?_))
  · rfl
  · refine (congrArg₂ (· + ·) Ideal.ofBits_zero_f32 (Fintype.sum_equiv (⟨fun j => j 0, fun i => ix1 i, fun j => (eq_ix1 j).symm, fun i => rfl⟩ : S4096.Idx ≃ Fin 4096) _ _ fun j => ?_)).trans (zero_add _)
    rw [eq_ix1 j]
    exact h43 (j 0)

theorem v81_eq : val_main_v81 (F := Ideal) x0 x1 = hNorm x0 x1 := rfl

theorem v78_eq : val_main_v78 (F := Ideal) x0 = hScale x0 := rfl

end Cert.ReferenceLsIdeal.Hand
-- ==== Proof.LsOuts.lean ====
/- The feed-forward block with the loss and its gradient, what a point of its grid leaves: the kernel's results read at an index, and the reference's. -/
module

public import proofs.«01_k».proof.Proof.Kit
public import proofs.«01_k».proof.Proof.Rms
public import proofs.«01_k».proof.Proof.Silu
public import proofs.«01_k».proof.Proof.Chunks
public import proofs.«01_k».proof.Proof.Gen.KernelLsIdeal.Value
public import Idealize.ShloMosaic.Lib.StableHlo.Run

@[expose] public section

set_option maxRecDepth 16384

noncomputable section

open Idealize.ShloMosaic Idealize.ShloMosaic.TcCoe Idealize.SL.Sem Idealize.ShloMosaic.ValueIdx Cert.Kit

namespace Cert.KernelLsIdeal.Hand

open Cert.KernelLsIdeal Cert.KernelLsIdeal.Gen Cert.KernelLsIdeal.Value

variable (m : (ℓ : Loc nD τ sig) → Buf (Elt Ideal) ℓ) (ρ : Dev nD → PrngReg)

/-- The normed rows times a chunk of a weight. -/
def prod (x : FVec Ideal S512x1024 .bf16) (w : Vec Ideal S256x1024 .bf16) : FVec Ideal S512x256 .f32 :=
  matmul (φ₁ := .bf16) (φ₂ := .bf16) dot_S512x1024_S256x1024_S512x256_1_1_0_0_n_n none x (shapeCast S256x1024 w shapeCasts_S256x1024_S256x1024)
    (constant S512x256 .f32 0x00000000#32)

/-- The logistic function, as a chunk computes it. -/
def logi (z : FVec Ideal S512x256 .f32) : FVec Ideal S512x256 .f32 :=
  divf (broadcast S512x256 (Scalar.ofBits .f32 0x3F800000#32))
    (addf (broadcast S512x256 (Scalar.ofBits .f32 0x3F800000#32)) (exp (subf (broadcast S512x256 (Scalar.ofBits .f32 0x00000000#32)) z)))

/-- A chunk of the gate. -/
def chunkSilu (x : FVec Ideal S512x1024 .bf16) (w : Vec Ideal S256x1024 .bf16) : FVec Ideal S512x256 .f32 := mulf (prod x w) (logi (prod x w))

/-- A chunk of the gate's slope. -/
def chunkSlope (x : FVec Ideal S512x1024 .bf16) (w u : Vec Ideal S256x1024 .bf16) : FVec Ideal S512x256 .bf16 :=
  truncf .bf16 (mulf (prod x u) (addf (logi (prod x w)) (mulf (chunkSilu x w)
    (subf (broadcast S512x256 (Scalar.ofBits .f32 0x3F800000#32)) (logi (prod x w)))))) bitsLt_bf16_f32

/-- A chunk of the hidden rows. -/
def chunkHid (x : FVec Ideal S512x1024 .bf16) (w u : Vec Ideal S256x1024 .bf16) : FVec Ideal S512x256 .bf16 :=
  truncf .bf16 (mulf (chunkSilu x w) (prod x u)) bitsLt_bf16_f32

/-- The normed rows times a weight. -/
def pr (x : Vec Ideal S512x1024 .bf16) (w : Vec Ideal S2816x1024 .bf16) (i : S512x2816.Idx) : EReal := ∑ k : Fin 1024, x (ix2 (i 0) k) * w (ix2 (i 1) k)

/-- All chunks of the slope. -/
def wSlope (x : FVec Ideal S512x1024 .bf16) (w u : Vec Ideal S2816x1024 .bf16) : FVec Ideal S512x2816 .bf16 := fun i => gateSlope (pr x w i) (pr x u i)

/-- All chunks of the gate. -/
def wSilu (x : FVec Ideal S512x1024 .bf16) (w : Vec Ideal S2816x1024 .bf16) : FVec Ideal S512x2816 .bf16 := fun i => pr x w i * sg (pr x w i)

/-- All chunks of the hidden rows. -/
def wHid (x : FVec Ideal S512x1024 .bf16) (w u : Vec Ideal S2816x1024 .bf16) : FVec Ideal S512x2816 .bf16 := fun i => pr x w i * sg (pr x w i) * pr x u i

theorem pr_eq {x : Vec Ideal S512x1024 .bf16} {w : Vec Ideal S2816x1024 .bf16} {X W : Fin 1024 → EReal} {a : Fin 512} {j : Fin 2816}
    (hx : ∀ k, x (ix2 a k) = X k) (hw : ∀ k, w (ix2 j k) = W k) : pr x w (ix2 a j) = ∑ k : Fin 1024, X k * W k := by
  obtain rfl := funext hx
  obtain rfl := funext hw
  rfl

theorem prod_at (x : Vec Ideal S512x1024 .bf16) (w : Vec Ideal S2816x1024 .bf16) (o : ℕ)
    (h1 : ∀ a, (![o, 0] : Fin 2 → ℕ) a + S256x1024.size a ≤ S2816x1024.size a) (h2 : ∀ a, (![0, o] : Fin 2 → ℕ) a + S512x256.size a ≤ S512x2816.size a)
    (z : S512x256.Idx) : prod x (View.ld (Val := Elt Ideal) w (Rect.unit (s := S2816x1024) ![o, 0] S256x1024.size h1)) z
      = pr x w ((Rect.unit (s := S512x2816) ![0, o] S512x256.size h2).emb z) := by
  obtain ⟨a, b, rfl⟩ : ∃ (a : Fin 512) (b : Fin 256), z = ix2 a b := ⟨z 0, z 1, eq_ix2 z⟩
  have ho : o + 256 ≤ 2816 := h1 0
  rw [emb_ix2 h2 a b (by omega) (by omega)]
  unfold prod
  rw [shapeCast_self]
  refine (mm11 (φ₁ := .bf16) (φ₂ := .bf16) _ none _ _ a b).trans (Finset.sum_congr rfl fun k _ => congrArg₂ (· * ·) ?_ ?_)
  · exact congrArg x (ixEq (Nat.zero_add _).symm rfl)
  · exact congrArg w ((emb_ix2 h1 b k (by omega) (by omega)).trans (ixEq rfl (Nat.zero_add _)))

theorem logi_at (z : FVec Ideal S512x256 .f32) (i : S512x256.Idx) : logi z i = sg (z i) := by
  show Ideal.div cOne (cOne + Ideal.exp (Ideal.ofBits .f32 0x00000000#32 - z i)) = _
  rw [zero_bits_sub]
  rfl

theorem slope_piece (x : Vec Ideal S512x1024 .bf16) (w u : Vec Ideal S2816x1024 .bf16) (o : ℕ)
    (h1 : ∀ a, (![o, 0] : Fin 2 → ℕ) a + S256x1024.size a ≤ S2816x1024.size a) (h2 : ∀ a, (![0, o] : Fin 2 → ℕ) a + S512x256.size a ≤ S512x2816.size a)
    (z : S512x256.Idx) : chunkSlope x (View.ld (Val := Elt Ideal) w (Rect.unit (s := S2816x1024) ![o, 0] S256x1024.size h1))
        (View.ld (Val := Elt Ideal) u (Rect.unit (s := S2816x1024) ![o, 0] S256x1024.size h1)) z
      = wSlope x w u ((Rect.unit (s := S512x2816) ![0, o] S512x256.size h2).emb z) := by
  unfold wSlope gateSlope
  rw [← prod_at x w o h1 h2 z, ← prod_at x u o h1 h2 z, ← logi_at]
  rfl

theorem silu_piece (x : Vec Ideal S512x1024 .bf16) (w : Vec Ideal S2816x1024 .bf16) (o : ℕ)
    (h1 : ∀ a, (![o, 0] : Fin 2 → ℕ) a + S256x1024.size a ≤ S2816x1024.size a) (h2 : ∀ a, (![0, o] : Fin 2 → ℕ) a + S512x256.size a ≤ S512x2816.size a)
    (z : S512x256.Idx) : truncf .bf16 (chunkSilu x (View.ld (Val := Elt Ideal) w (Rect.unit (s := S2816x1024) ![o, 0] S256x1024.size h1))) bitsLt_bf16_f32 z
      = wSilu x w ((Rect.unit (s := S512x2816) ![0, o] S512x256.size h2).emb z) := by
  unfold wSilu
  rw [← prod_at x w o h1 h2 z, ← logi_at]
  rfl

theorem hid_piece (x : Vec Ideal S512x1024 .bf16) (w u : Vec Ideal S2816x1024 .bf16) (o : ℕ)
    (h1 : ∀ a, (![o, 0] : Fin 2 → ℕ) a + S256x1024.size a ≤ S2816x1024.size a) (h2 : ∀ a, (![0, o] : Fin 2 → ℕ) a + S512x256.size a ≤ S512x2816.size a)
    (z : S512x256.Idx) : chunkHid x (View.ld (Val := Elt Ideal) w (Rect.unit (s := S2816x1024) ![o, 0] S256x1024.size h1))
        (View.ld (Val := Elt Ideal) u (Rect.unit (s := S2816x1024) ![o, 0] S256x1024.size h1)) z
      = wHid x w u ((Rect.unit (s := S512x2816) ![0, o] S512x256.size h2).emb z) := by
  unfold wHid
  rw [← prod_at x w o h1 h2 z, ← prod_at x u o h1 h2 z, ← logi_at]
  rfl

set_option maxHeartbeats 4000000 in
/-- What a point of case A leaves in the outputs. -/
theorem outs_A (c : Dev nD) (t : Fin cfg0.N) (h0 : t.val % 8 = 0) :
    outsAt0 m c t.val t.isLt = (k0_pay94 (F := Ideal) (iblk m c 0 t) (k0_pay88 (F := Ideal) (wHid (k0_pay5 (F := Ideal) (iblk m c 0 t) (iblk m c 1 t)) (iblk m c 2 t) (iblk m c 3 t)) (iblk m c 4 t)) (iblk m c 5 t) (iblk m c 6 t),
      k0_pay1 (F := Ideal) (k0_pay94 (F := Ideal) (iblk m c 0 t) (k0_pay88 (F := Ideal) (wHid (k0_pay5 (F := Ideal) (iblk m c 0 t) (iblk m c 1 t)) (iblk m c 2 t) (iblk m c 3 t)) (iblk m c 4 t)) (iblk m c 5 t) (iblk m c 6 t)),
      k0_pay2 (F := Ideal) (k0_pay96 (F := Ideal) (iblk m c 0 t) (k0_pay88 (F := Ideal) (wHid (k0_pay5 (F := Ideal) (iblk m c 0 t) (iblk m c 1 t)) (iblk m c 2 t) (iblk m c 3 t)) (iblk m c 4 t)) (iblk m c 5 t) (iblk m c 6 t)) (k0_pay97 (F := Ideal)),
      k0_pay3 (F := Ideal) (k0_pay95 (F := Ideal) (iblk m c 0 t) (k0_pay88 (F := Ideal) (wHid (k0_pay5 (F := Ideal) (iblk m c 0 t) (iblk m c 1 t)) (iblk m c 2 t) (iblk m c 3 t)) (iblk m c 4 t)) (iblk m c 5 t) (iblk m c 6 t)) (k0_pay98 (F := Ideal)),
      (k0_pay5 (F := Ideal) (iblk m c 0 t) (iblk m c 1 t)),
      k0_pay4 (F := Ideal) (iblk m c 0 t),
      wSlope (k0_pay5 (F := Ideal) (iblk m c 0 t) (iblk m c 1 t)) (iblk m c 2 t) (iblk m c 3 t),
      wSilu (k0_pay5 (F := Ideal) (iblk m c 0 t) (iblk m c 1 t)) (iblk m c 2 t),
      (wHid (k0_pay5 (F := Ideal) (iblk m c 0 t) (iblk m c 1 t)) (iblk m c 2 t) (iblk m c 3 t))) := by
  rw [outsAt0_A m c t h0]
  refine Prod.ext ?_ (Prod.ext ?_ (Prod.ext ?_ (Prod.ext ?_ (Prod.ext ?_ (Prod.ext ?_ (Prod.ext ?_ (Prod.ext ?_ ?_)))))))
  · dsimp only
    unfold out0_A_7
    rw [View.read_writes_eq_canon _ _ _ (fun _ => cover0_A_7 ..)]
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S512x1024) hz2, View.ld_unit_zero (S := S512x2816) hz2, View.ld_unit_zero (S := S2816x1024) hz2, View.ld_unit_zero (S := S1x1024) hz2, View.ld_unit_zero (S := S1x1) hz2]
    rw [readCov_pieces (S := S512x2816) (ms0_15 t).view (wHid (k0_pay5 (F := Ideal) (iblk m c 0 t) (iblk m c 1 t)) (iblk m c 2 t) (iblk m c 3 t)) hz2]
    · iterate 11 refine piece_cons (hid_piece (k0_pay5 (F := Ideal) (iblk m c 0 t) (iblk m c 1 t)) (iblk m c 2 t) (iblk m c 3 t) _ _ (by decide)) ?_
      exact piece_nil
    · exact View.cover_of_tiled_head _ _ _ rfl
  · dsimp only
    unfold out0_A_8
    rw [View.read_writes_eq_canon _ _ _ (fun _ => cover0_A_8 ..)]
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S512x1024) hz2, View.ld_unit_zero (S := S512x2816) hz2, View.ld_unit_zero (S := S2816x1024) hz2, View.ld_unit_zero (S := S1x1024) hz2, View.ld_unit_zero (S := S1x1) hz2]
    rw [readCov_pieces (S := S512x2816) (ms0_15 t).view (wHid (k0_pay5 (F := Ideal) (iblk m c 0 t) (iblk m c 1 t)) (iblk m c 2 t) (iblk m c 3 t)) hz2]
    · iterate 11 refine piece_cons (hid_piece (k0_pay5 (F := Ideal) (iblk m c 0 t) (iblk m c 1 t)) (iblk m c 2 t) (iblk m c 3 t) _ _ (by decide)) ?_
      exact piece_nil
    · exact View.cover_of_tiled_head _ _ _ rfl
  · dsimp only
    unfold out0_A_9
    rw [View.read_writes_eq_canon _ _ _ (fun _ => cover0_A_9 ..)]
    unfold kernelRun0_A
    dsimp only
    sl_unfold_words
    rw [View.canon_cons_unit_zero (S := S1x1024) hz2, View.readCov_unit_zero (S := S1x1024) _ hz2]
    simp only [View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S512x1024) hz2, View.ld_unit_zero (S := S512x2816) hz2, View.ld_unit_zero (S := S2816x1024) hz2, View.ld_unit_zero (S := S1x1024) hz2, View.ld_unit_zero (S := S1x1) hz2]
    rw [readCov_pieces (S := S512x2816) (ms0_15 t).view (wHid (k0_pay5 (F := Ideal) (iblk m c 0 t) (iblk m c 1 t)) (iblk m c 2 t) (iblk m c 3 t)) hz2]
    · iterate 11 refine piece_cons (hid_piece (k0_pay5 (F := Ideal) (iblk m c 0 t) (iblk m c 1 t)) (iblk m c 2 t) (iblk m c 3 t) _ _ (by decide)) ?_
      exact piece_nil
    · exact View.cover_of_tiled_head _ _ _ rfl
  · dsimp only
    unfold out0_A_10
    rw [View.read_writes_eq_canon _ _ _ (fun _ => cover0_A_10 ..)]
    unfold kernelRun0_A
    dsimp only
    sl_unfold_words
    rw [View.canon_cons_unit_zero (S := S1x1) hz2, View.readCov_unit_zero (S := S1x1) _ hz2]
    simp only [View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S512x1024) hz2, View.ld_unit_zero (S := S512x2816) hz2, View.ld_unit_zero (S := S2816x1024) hz2, View.ld_unit_zero (S := S1x1024) hz2, View.ld_unit_zero (S := S1x1) hz2]
    rw [readCov_pieces (S := S512x2816) (ms0_15 t).view (wHid (k0_pay5 (F := Ideal) (iblk m c 0 t) (iblk m c 1 t)) (iblk m c 2 t) (iblk m c 3 t)) hz2]
    · iterate 11 refine piece_cons (hid_piece (k0_pay5 (F := Ideal) (iblk m c 0 t) (iblk m c 1 t)) (iblk m c 2 t) (iblk m c 3 t) _ _ (by decide)) ?_
      exact piece_nil
    · exact View.cover_of_tiled_head _ _ _ rfl
  · dsimp only
    unfold out0_A_11
    rw [View.read_writes_eq_canon _ _ _ (fun _ => cover0_A_11 ..)]
    unfold kernelRun0_A
    dsimp only
    sl_unfold_words
    rw [View.canon_unit_zero hz2]
    simp only [View.readAt_eq_ld, (hs0_0 t).read_unread, (hs0_1 t).read_unread, View.ld_unit_zero (S := S512x1024) hz2, View.ld_unit_zero (S := S1x1024) hz2]
  · dsimp only
    unfold out0_A_12
    rw [View.read_writes_eq_canon _ _ _ (fun _ => cover0_A_12 ..)]
    unfold kernelRun0_A
    dsimp only
    sl_unfold_words
    rw [View.canon_unit_zero hz2]
    simp only [View.readAt_eq_ld, (hs0_0 t).read_unread, (hs0_1 t).read_unread, View.ld_unit_zero (S := S512x1024) hz2, View.ld_unit_zero (S := S1x1024) hz2]
  · dsimp only
    unfold out0_A_13
    rw [View.read_writes_eq_canon _ _ _ (fun _ => cover0_A_13 ..)]
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S512x1024) hz2, View.ld_unit_zero (S := S512x2816) hz2, View.ld_unit_zero (S := S2816x1024) hz2, View.ld_unit_zero (S := S1x1024) hz2, View.ld_unit_zero (S := S1x1) hz2]
    refine canon_pieces _ _ ?_ (View.cover_of_tiled_head _ _ _ rfl)
    iterate 11 refine piece_cons (slope_piece (k0_pay5 (F := Ideal) (iblk m c 0 t) (iblk m c 1 t)) (iblk m c 2 t) (iblk m c 3 t) _ _ (by decide)) ?_
    exact piece_nil
  · dsimp only
    unfold out0_A_14
    rw [View.read_writes_eq_canon _ _ _ (fun _ => cover0_A_14 ..)]
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S512x1024) hz2, View.ld_unit_zero (S := S512x2816) hz2, View.ld_unit_zero (S := S2816x1024) hz2, View.ld_unit_zero (S := S1x1024) hz2, View.ld_unit_zero (S := S1x1) hz2]
    refine canon_pieces _ _ ?_ (View.cover_of_tiled_head _ _ _ rfl)
    iterate 11 refine piece_cons (silu_piece (k0_pay5 (F := Ideal) (iblk m c 0 t) (iblk m c 1 t)) (iblk m c 2 t) _ _ (by decide)) ?_
    exact piece_nil
  · dsimp only
    unfold out0_A_15
    rw [View.read_writes_eq_canon _ _ _ (fun _ => cover0_A_15 ..)]
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S512x1024) hz2, View.ld_unit_zero (S := S512x2816) hz2, View.ld_unit_zero (S := S2816x1024) hz2, View.ld_unit_zero (S := S1x1024) hz2, View.ld_unit_zero (S := S1x1) hz2]
    refine canon_pieces _ _ ?_ (View.cover_of_tiled_head _ _ _ rfl)
    iterate 11 refine piece_cons (hid_piece (k0_pay5 (F := Ideal) (iblk m c 0 t) (iblk m c 1 t)) (iblk m c 2 t) (iblk m c 3 t) _ _ (by decide)) ?_
    exact piece_nil

set_option maxHeartbeats 4000000 in
/-- What a point of case B leaves in the outputs. -/
theorem outs_B (c : Dev nD) (t : Fin cfg0.N) (h0 : ¬t.val % 8 = 0) :
    outsAt0 m c t.val t.isLt = (k0_pay94 (F := Ideal) (iblk m c 0 t) (k0_pay88 (F := Ideal) (wHid (k0_pay5 (F := Ideal) (iblk m c 0 t) (iblk m c 1 t)) (iblk m c 2 t) (iblk m c 3 t)) (iblk m c 4 t)) (iblk m c 5 t) (iblk m c 6 t),
      k0_pay1 (F := Ideal) (k0_pay94 (F := Ideal) (iblk m c 0 t) (k0_pay88 (F := Ideal) (wHid (k0_pay5 (F := Ideal) (iblk m c 0 t) (iblk m c 1 t)) (iblk m c 2 t) (iblk m c 3 t)) (iblk m c 4 t)) (iblk m c 5 t) (iblk m c 6 t)),
      k0_pay2 (F := Ideal) (k0_pay96 (F := Ideal) (iblk m c 0 t) (k0_pay88 (F := Ideal) (wHid (k0_pay5 (F := Ideal) (iblk m c 0 t) (iblk m c 1 t)) (iblk m c 2 t) (iblk m c 3 t)) (iblk m c 4 t)) (iblk m c 5 t) (iblk m c 6 t)) (outsAt0 m c (t.val - 1) (by have := t.isLt; omega)).2.2.1,
      k0_pay3 (F := Ideal) (k0_pay95 (F := Ideal) (iblk m c 0 t) (k0_pay88 (F := Ideal) (wHid (k0_pay5 (F := Ideal) (iblk m c 0 t) (iblk m c 1 t)) (iblk m c 2 t) (iblk m c 3 t)) (iblk m c 4 t)) (iblk m c 5 t) (iblk m c 6 t)) (outsAt0 m c (t.val - 1) (by have := t.isLt; omega)).2.2.2.1,
      (k0_pay5 (F := Ideal) (iblk m c 0 t) (iblk m c 1 t)),
      k0_pay4 (F := Ideal) (iblk m c 0 t),
      wSlope (k0_pay5 (F := Ideal) (iblk m c 0 t) (iblk m c 1 t)) (iblk m c 2 t) (iblk m c 3 t),
      wSilu (k0_pay5 (F := Ideal) (iblk m c 0 t) (iblk m c 1 t)) (iblk m c 2 t),
      (wHid (k0_pay5 (F := Ideal) (iblk m c 0 t) (iblk m c 1 t)) (iblk m c 2 t) (iblk m c 3 t))) := by
  rw [outsAt0_B m c t h0]
  refine Prod.ext ?_ (Prod.ext ?_ (Prod.ext ?_ (Prod.ext ?_ (Prod.ext ?_ (Prod.ext ?_ (Prod.ext ?_ (Prod.ext ?_ ?_)))))))
  · dsimp only
    unfold out0_B_7
    rw [View.read_writes_eq_canon _ _ _ (fun _ => cover0_B_7 ..)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S512x1024) hz2, View.ld_unit_zero (S := S512x2816) hz2, View.ld_unit_zero (S := S2816x1024) hz2, View.ld_unit_zero (S := S1x1024) hz2, View.ld_unit_zero (S := S1x1) hz2]
    rw [readCov_pieces (S := S512x2816) (ms0_15 t).view (wHid (k0_pay5 (F := Ideal) (iblk m c 0 t) (iblk m c 1 t)) (iblk m c 2 t) (iblk m c 3 t)) hz2]
    · iterate 11 refine piece_cons (hid_piece (k0_pay5 (F := Ideal) (iblk m c 0 t) (iblk m c 1 t)) (iblk m c 2 t) (iblk m c 3 t) _ _ (by decide)) ?_
      exact piece_nil
    · exact View.cover_of_tiled_head _ _ _ rfl
  · dsimp only
    unfold out0_B_8
    rw [View.read_writes_eq_canon _ _ _ (fun _ => cover0_B_8 ..)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S512x1024) hz2, View.ld_unit_zero (S := S512x2816) hz2, View.ld_unit_zero (S := S2816x1024) hz2, View.ld_unit_zero (S := S1x1024) hz2, View.ld_unit_zero (S := S1x1) hz2]
    rw [readCov_pieces (S := S512x2816) (ms0_15 t).view (wHid (k0_pay5 (F := Ideal) (iblk m c 0 t) (iblk m c 1 t)) (iblk m c 2 t) (iblk m c 3 t)) hz2]
    · iterate 11 refine piece_cons (hid_piece (k0_pay5 (F := Ideal) (iblk m c 0 t) (iblk m c 1 t)) (iblk m c 2 t) (iblk m c 3 t) _ _ (by decide)) ?_
      exact piece_nil
    · exact View.cover_of_tiled_head _ _ _ rfl
  · dsimp only
    unfold out0_B_9
    rw [View.read_writes_eq_canon _ _ _ (fun _ => cover0_B_9 ..)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_9 t).read_unread,
      View.ld_unit_zero (S := S512x1024) hz2, View.ld_unit_zero (S := S512x2816) hz2, View.ld_unit_zero (S := S2816x1024) hz2, View.ld_unit_zero (S := S1x1024) hz2, View.ld_unit_zero (S := S1x1) hz2]
    rw [readCov_pieces (S := S512x2816) (ms0_15 t).view (wHid (k0_pay5 (F := Ideal) (iblk m c 0 t) (iblk m c 1 t)) (iblk m c 2 t) (iblk m c 3 t)) hz2]
    · iterate 11 refine piece_cons (hid_piece (k0_pay5 (F := Ideal) (iblk m c 0 t) (iblk m c 1 t)) (iblk m c 2 t) (iblk m c 3 t) _ _ (by decide)) ?_
      exact piece_nil
    · exact View.cover_of_tiled_head _ _ _ rfl
  · dsimp only
    unfold out0_B_10
    rw [View.read_writes_eq_canon _ _ _ (fun _ => cover0_B_10 ..)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_10 t).read_unread,
      View.ld_unit_zero (S := S512x1024) hz2, View.ld_unit_zero (S := S512x2816) hz2, View.ld_unit_zero (S := S2816x1024) hz2, View.ld_unit_zero (S := S1x1024) hz2, View.ld_unit_zero (S := S1x1) hz2]
    rw [readCov_pieces (S := S512x2816) (ms0_15 t).view (wHid (k0_pay5 (F := Ideal) (iblk m c 0 t) (iblk m c 1 t)) (iblk m c 2 t) (iblk m c 3 t)) hz2]
    · iterate 11 refine piece_cons (hid_piece (k0_pay5 (F := Ideal) (iblk m c 0 t) (iblk m c 1 t)) (iblk m c 2 t) (iblk m c 3 t) _ _ (by decide)) ?_
      exact piece_nil
    · exact View.cover_of_tiled_head _ _ _ rfl
  · dsimp only
    unfold out0_B_11
    rw [View.read_writes_eq_canon _ _ _ (fun _ => cover0_B_11 ..)]
    unfold kernelRun0_B
    dsimp only
    sl_unfold_words
    rw [View.canon_unit_zero hz2]
    simp only [View.readAt_eq_ld, (hs0_0 t).read_unread, (hs0_1 t).read_unread, View.ld_unit_zero (S := S512x1024) hz2, View.ld_unit_zero (S := S1x1024) hz2]
  · dsimp only
    unfold out0_B_12
    rw [View.read_writes_eq_canon _ _ _ (fun _ => cover0_B_12 ..)]
    unfold kernelRun0_B
    dsimp only
    sl_unfold_words
    rw [View.canon_unit_zero hz2]
    simp only [View.readAt_eq_ld, (hs0_0 t).read_unread, (hs0_1 t).read_unread, View.ld_unit_zero (S := S512x1024) hz2, View.ld_unit_zero (S := S1x1024) hz2]
  · dsimp only
    unfold out0_B_13
    rw [View.read_writes_eq_canon _ _ _ (fun _ => cover0_B_13 ..)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S512x1024) hz2, View.ld_unit_zero (S := S512x2816) hz2, View.ld_unit_zero (S := S2816x1024) hz2, View.ld_unit_zero (S := S1x1024) hz2, View.ld_unit_zero (S := S1x1) hz2]
    refine canon_pieces _ _ ?_ (View.cover_of_tiled_head _ _ _ rfl)
    iterate 11 refine piece_cons (slope_piece (k0_pay5 (F := Ideal) (iblk m c 0 t) (iblk m c 1 t)) (iblk m c 2 t) (iblk m c 3 t) _ _ (by decide)) ?_
    exact piece_nil
  · dsimp only
    unfold out0_B_14
    rw [View.read_writes_eq_canon _ _ _ (fun _ => cover0_B_14 ..)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S512x1024) hz2, View.ld_unit_zero (S := S512x2816) hz2, View.ld_unit_zero (S := S2816x1024) hz2, View.ld_unit_zero (S := S1x1024) hz2, View.ld_unit_zero (S := S1x1) hz2]
    refine canon_pieces _ _ ?_ (View.cover_of_tiled_head _ _ _ rfl)
    iterate 11 refine piece_cons (silu_piece (k0_pay5 (F := Ideal) (iblk m c 0 t) (iblk m c 1 t)) (iblk m c 2 t) _ _ (by decide)) ?_
    exact piece_nil
  · dsimp only
    unfold out0_B_15
    rw [View.read_writes_eq_canon _ _ _ (fun _ => cover0_B_15 ..)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S512x1024) hz2, View.ld_unit_zero (S := S512x2816) hz2, View.ld_unit_zero (S := S2816x1024) hz2, View.ld_unit_zero (S := S1x1024) hz2, View.ld_unit_zero (S := S1x1) hz2]
    refine canon_pieces _ _ ?_ (View.cover_of_tiled_head _ _ _ rfl)
    iterate 11 refine piece_cons (hid_piece (k0_pay5 (F := Ideal) (iblk m c 0 t) (iblk m c 1 t)) (iblk m c 2 t) (iblk m c 3 t) _ _ (by decide)) ?_
    exact piece_nil

end Cert.KernelLsIdeal.Hand
-- ==== Proof.Ls.lean ====
/- The feed-forward block with the loss and its gradient: the kernel's results read at an index, and the reference's. -/
module

public import proofs.«01_k».proof.Proof.Kit
public import proofs.«01_k».proof.Proof.Rms
public import proofs.«01_k».proof.Proof.LsRef
public import proofs.«01_k».proof.Proof.LsOuts
public import proofs.«01_k».proof.Proof.Gen.KernelLsIdeal.Value
public import Idealize.ShloMosaic.Lib.StableHlo.Run

@[expose] public section

set_option maxRecDepth 16384

noncomputable section

open Idealize.ShloMosaic Idealize.ShloMosaic.TcCoe Idealize.SL.Sem Idealize.ShloMosaic.ValueIdx Cert.Kit

namespace Cert.KernelLsIdeal.Hand

open Cert.KernelLsIdeal Cert.KernelLsIdeal.Gen Cert.KernelLsIdeal.Value Cert.ReferenceLsIdeal.Hand

variable (m : (ℓ : Loc nD τ sig) → Buf (Elt Ideal) ℓ) (ρ : Dev nD → PrngReg)

section
variable {x w : Vec Ideal S512x1024 .f32} {t : Vec Ideal S512x1024 .f32} {g : Vec Ideal S1x1024 .f32} {a : Fin 512} {Y T G : Fin 1024 → EReal}

theorem pay4_eq {X : Fin 1024 → EReal} (hx : ∀ k, x (ix2 a k) = X k) (z : Fin 1) :
    k0_pay4 (F := Ideal) x (ix2 a z) = Ideal.rsqrt (meanSq 1024 X) := by
  obtain rfl := funext hx
  unfold k0_pay4
  refine (congrArg (fun p => Ideal.rsqrt (Ideal.div p (Ideal.ofBits .f32 0x44800000#32) + Ideal.ofBits .f32 0x358637BD#32)) ((castCol _ _ a z).trans (sumCols _ _ _ _ _ a))).trans ?_
  rw [c1024]
  rfl

theorem pay5_eq {X : Fin 1024 → EReal} (hx : ∀ k, x (ix2 a k) = X k) (hg : ∀ k, g (ix2 0 k) = G k) (j : Fin 1024) :
    k0_pay5 (F := Ideal) x g (ix2 a j) = X j * Ideal.rsqrt (meanSq 1024 X) * G j := by
  unfold k0_pay5
  exact congrArg₂ (· * ·) (congrArg₂ (· * ·) (hx j) ((bcCol _ _ a j).trans (pay4_eq hx 0))) ((bcRow _ _ a j).trans (hg j))

variable (hy : ∀ k, x (ix2 a k) + w (ix2 a k) = Y k) (ht : ∀ k, t (ix2 a k) = T k) (hg : ∀ k, g (ix2 0 k) = G k)

include hy in
theorem pay90_eq (z : Fin 1) : k0_pay90 (F := Ideal) x w (ix2 a z) = Ideal.rsqrt (meanSq 1024 Y) := by
  obtain rfl := funext hy
  unfold k0_pay90
  refine (congrArg (fun p => Ideal.rsqrt (Ideal.div p (Ideal.ofBits .f32 0x44800000#32) + Ideal.ofBits .f32 0x358637BD#32)) ((castCol _ _ a z).trans (sumCols _ _ _ _ _ a))).trans ?_
  rw [c1024]
  rfl

include hy in
theorem pay91_eq (j : Fin 1024) : k0_pay91 (F := Ideal) x w (ix2 a j) = Y j * Ideal.rsqrt (meanSq 1024 Y) := by
  unfold k0_pay91
  exact congrArg₂ (· * ·) (hy j) ((bcCol _ _ a j).trans (pay90_eq hy 0))

include hy ht hg in
theorem pay92_eq (j : Fin 1024) : k0_pay92 (F := Ideal) x w t g (ix2 a j) = lErr Y T G j := by
  unfold k0_pay92
  exact congrArg₂ (· - ·) (congrArg₂ (· * ·) (pay91_eq hy j) ((bcRow _ _ a j).trans (hg j))) (ht j)

include hy ht hg in
theorem pay93_eq (j : Fin 1024) : k0_pay93 (F := Ideal) x w t g (ix2 a j) = lDy Y T G j := by
  unfold k0_pay93
  exact congrArg (· * cPart) (pay92_eq hy ht hg j)

include hy ht hg in
theorem pay94_eq (j : Fin 1024) : k0_pay94 (F := Ideal) x w t g (ix2 a j) = lDx Y T G j := by
  unfold k0_pay94
  have hu (k : Fin 1024) : k0_pay93 (F := Ideal) x w t g (ix2 a k) * broadcastTo S512x1024 g broadcasts_S1x1024_S512x1024 (ix2 a k) = lDy Y T G k * G k :=
    congrArg₂ (· * ·) (pay93_eq hy ht hg k) ((bcRow _ _ a k).trans (hg k))
  refine congrArg₂ (· * ·) ((bcCol _ _ a j).trans (pay90_eq hy 0)) (congrArg₂ (· - ·) (hu j) (congrArg₂ (· * ·) (pay91_eq hy j) ((bcCol _ _ a j).trans ?_)))
  refine (congrArg (fun p => Ideal.div p (Ideal.ofBits .f32 0x44800000#32)) ((castCol _ _ a 0).trans ((sumCols _ _ _ _ _ a).trans
    (Finset.sum_congr rfl fun k _ => congrArg₂ (· * ·) (hu k) (pay91_eq hy k))))).trans ?_
  rw [c1024]
end

section
variable {x w : Vec Ideal S512x1024 .f32} {t : Vec Ideal S512x1024 .f32} {g : Vec Ideal S1x1024 .f32} {Y T : Fin 512 → Fin 1024 → EReal} {G : Fin 1024 → EReal}
  (hy : ∀ a k, x (ix2 a k) + w (ix2 a k) = Y a k) (ht : ∀ a k, t (ix2 a k) = T a k) (hg : ∀ k, g (ix2 0 k) = G k)
include hy ht hg

theorem pay96_eq (a : Fin 1) (j : Fin 1024) : k0_pay96 (F := Ideal) x w t g (ix2 a j) = ∑ k, lDy (Y k) (T k) G j * (Y k j * Ideal.rsqrt (meanSq 1024 (Y k))) := by
  unfold k0_pay96
  exact (castRow _ _ a j).trans ((sumRows _ _ _ _ _ j).trans (Finset.sum_congr rfl fun k _ =>
    congrArg₂ (· * ·) (pay93_eq (hy k) (ht k) hg j) (pay91_eq (hy k) j)))

theorem pay95_eq (a b : Fin 1) : k0_pay95 (F := Ideal) x w t g (ix2 a b) = (∑ k, ∑ j, lErr (Y k) (T k) G j * lErr (Y k) (T k) G j) * Ideal.ofBits .f32 0x3A000000#32 := by
  unfold k0_pay95
  exact congrArg (· * Ideal.ofBits .f32 0x3A000000#32) ((castRow _ _ a b).trans ((sumRows _ _ _ _ _ b).trans (Finset.sum_congr rfl fun k _ =>
    (castCol _ _ k b).trans ((sumCols _ _ _ _ _ k).trans (Finset.sum_congr rfl fun j _ => congrArg₂ (· * ·) (pay92_eq (hy k) (ht k) hg j) (pay92_eq (hy k) (ht k) hg j))))))
end

theorem pay88_eq {h : Vec Ideal S512x2816 .bf16} {w : Vec Ideal S2816x1024 .bf16} {H W : Fin 2816 → EReal} {a : Fin 512} {j : Fin 1024} (hh : ∀ k, h (ix2 a k) = H k)
    (hw : ∀ k, w (ix2 k j) = W k) : k0_pay88 (F := Ideal) h w (ix2 a j) = ∑ k, H k * W k := by
  obtain rfl := funext hh
  obtain rfl := funext hw
  unfold k0_pay88
  rw [shapeCast_self, shapeCast_self]
  exact mm10 (φ₁ := .bf16) (φ₂ := .bf16) _ none _ _ a j

theorem pay2_apply (p x : Vec Ideal S1x1024 .f32) (a : Fin 1) (j : Fin 1024) : k0_pay2 (F := Ideal) p x (ix2 a j) = x (ix2 a j) + p (ix2 a j) := by
  unfold k0_pay2
  rw [shapeCast_self]
  rfl

theorem pay3_apply (p x : Vec Ideal S1x1 .f32) (a b : Fin 1) : k0_pay3 (F := Ideal) p x (ix2 a b) = x (ix2 a b) + p (ix2 a b) := by
  unfold k0_pay3
  rw [shapeCast_self]
  rfl

section
variable (c : Dev nD)
/-- The rows of the block's input. -/
abbrev X : FVec Ideal S4096x1024 .f32 := m ((c : Thread nD τ).loc main_arg0)
/-- The norm's gain. -/
abbrev G : FVec Ideal S1x1024 .f32 := m ((c : Thread nD τ).loc main_arg1)
/-- The gate's weight. -/
abbrev Wg : FVec Ideal S1024x2816 .f32 := m ((c : Thread nD τ).loc main_arg2)
/-- The weight beside it. -/
abbrev Wu : FVec Ideal S1024x2816 .f32 := m ((c : Thread nD τ).loc main_arg3)
/-- The last weight. -/
abbrev Wd : FVec Ideal S2816x1024 .f32 := m ((c : Thread nD τ).loc main_arg4)
/-- The target. -/
abbrev Tg : FVec Ideal S4096x1024 .f32 := m ((c : Thread nD τ).loc main_arg5)
/-- The last norm's gain. -/
abbrev Gf : FVec Ideal S1x1024 .f32 := m ((c : Thread nD τ).loc main_arg6)
/-- Every entry of the arguments is a real. -/
def Fin4 : Prop := (∀ i, IsReal (X m c i)) ∧ (∀ i, IsReal (G m c i)) ∧ (∀ i, IsReal (Wg m c i)) ∧ (∀ i, IsReal (Wu m c i)) ∧ (∀ i, IsReal (Wd m c i))
  ∧ (∀ i, IsReal (Tg m c i)) ∧ ∀ i, IsReal (Gf m c i)
end

theorem index0 : ∀ t : Fin cfg0.N, (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = t.val ∧ win0_5.index t 1 = 0)
    ∧ (win0_6.index t 0 = 0 ∧ win0_6.index t 1 = 0)
    ∧ (win0_7.index t 0 = t.val ∧ win0_7.index t 1 = 0)
    ∧ (win0_8.index t 0 = t.val ∧ win0_8.index t 1 = 0)
    ∧ (win0_9.index t 0 = 0 ∧ win0_9.index t 1 = 0)
    ∧ (win0_10.index t 0 = 0 ∧ win0_10.index t 1 = 0)
    ∧ (win0_11.index t 0 = t.val ∧ win0_11.index t 1 = 0)
    ∧ (win0_12.index t 0 = t.val ∧ win0_12.index t 1 = 0)
    ∧ (win0_13.index t 0 = t.val ∧ win0_13.index t 1 = 0)
    ∧ (win0_14.index t 0 = t.val ∧ win0_14.index t 1 = 0)
    ∧ (win0_15.index t 0 = t.val ∧ win0_15.index t 1 = 0) :=
  (by decide +kernel : ∀ t : Fin grid0.N, (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = t.val ∧ win0_5.index t 1 = 0)
    ∧ (win0_6.index t 0 = 0 ∧ win0_6.index t 1 = 0)
    ∧ (win0_7.index t 0 = t.val ∧ win0_7.index t 1 = 0)
    ∧ (win0_8.index t 0 = t.val ∧ win0_8.index t 1 = 0)
    ∧ (win0_9.index t 0 = 0 ∧ win0_9.index t 1 = 0)
    ∧ (win0_10.index t 0 = 0 ∧ win0_10.index t 1 = 0)
    ∧ (win0_11.index t 0 = t.val ∧ win0_11.index t 1 = 0)
    ∧ (win0_12.index t 0 = t.val ∧ win0_12.index t 1 = 0)
    ∧ (win0_13.index t 0 = t.val ∧ win0_13.index t 1 = 0)
    ∧ (win0_14.index t 0 = t.val ∧ win0_14.index t 1 = 0)
    ∧ (win0_15.index t 0 = t.val ∧ win0_15.index t 1 = 0))

theorem rows : 4096 = cfg0.N * 512 := by
  show 4096 = grid0.N * 512
  rw [Gen.N_0]

theorem V_v1 (c : Dev nD) : (V m c main_v1 : S2816x1024.Idx → EReal) = transpose S2816x1024 [1, 0] (Wg m c) transposes_S1024x2816_S2816x1024_1_0 := by
  unfold V
  after_results
  rfl

theorem V_v3 (c : Dev nD) : (V m c main_v3 : S2816x1024.Idx → EReal) = transpose S2816x1024 [1, 0] (Wu m c) transposes_S1024x2816_S2816x1024_1_0 := by
  unfold V
  after_results
  rfl

theorem V_v4 (c : Dev nD) : (V m c main_v4 : S2816x1024.Idx → EReal) = Wd m c := by
  unfold V
  after_results
  rfl

theorem iblk0 (c : Dev nD) (t : Fin cfg0.N) (a : Fin 512) (b : Fin 1024) : (iblk m c 0 t : S512x1024.Idx → EReal) (ix2 a b) = X m c (ix2 (row t a rows) b) := by
  unfold iblk
  rw [View.read_apply]
  refine Eq.trans ?_ (congrFun (V_main_arg0 m c) _)
  have h := (index0 t).1
  refine congrArg (V m c main_arg0) (ixEq ?_ ?_)
  · show win0_0.index t 0 * 512 + 1 * a.val = t.val * 512 + a.val
    rw [h.1]; omega
  · show win0_0.index t 1 * 1024 + 1 * b.val = b.val
    rw [h.2]; omega

theorem iblk1 (c : Dev nD) (t : Fin cfg0.N) (a : Fin 1) (b : Fin 1024) : (iblk m c 1 t : S1x1024.Idx → EReal) (ix2 a b) = G m c (ix2 a b) := by
  unfold iblk
  rw [View.read_apply]
  refine Eq.trans ?_ (congrFun (V_main_arg1 m c) _)
  have h := (index0 t).2.1
  refine congrArg (V m c main_arg1) (ixEq ?_ ?_)
  · show win0_1.index t 0 * 1 + 1 * a.val = a.val
    rw [h.1]; omega
  · show win0_1.index t 1 * 1024 + 1 * b.val = b.val
    rw [h.2]; omega

theorem iblk4 (c : Dev nD) (t : Fin cfg0.N) (a : Fin 2816) (b : Fin 1024) : (iblk m c 4 t : S2816x1024.Idx → EReal) (ix2 a b) = Wd m c (ix2 a b) := by
  unfold iblk
  rw [View.read_apply]
  refine Eq.trans ?_ (congrFun (V_v4 m c) _)
  have h := (index0 t).2.2.2.2.1
  refine congrArg (V m c main_v4) (ixEq ?_ ?_)
  · show win0_4.index t 0 * 2816 + 1 * a.val = a.val
    rw [h.1]; omega
  · show win0_4.index t 1 * 1024 + 1 * b.val = b.val
    rw [h.2]; omega

theorem iblk5 (c : Dev nD) (t : Fin cfg0.N) (a : Fin 512) (b : Fin 1024) : (iblk m c 5 t : S512x1024.Idx → EReal) (ix2 a b) = Tg m c (ix2 (row t a rows) b) := by
  unfold iblk
  rw [View.read_apply]
  refine Eq.trans ?_ (congrFun (V_main_arg5 m c) _)
  have h := (index0 t).2.2.2.2.2.1
  refine congrArg (V m c main_arg5) (ixEq ?_ ?_)
  · show win0_5.index t 0 * 512 + 1 * a.val = t.val * 512 + a.val
    rw [h.1]; omega
  · show win0_5.index t 1 * 1024 + 1 * b.val = b.val
    rw [h.2]; omega

theorem iblk6 (c : Dev nD) (t : Fin cfg0.N) (a : Fin 1) (b : Fin 1024) : (iblk m c 6 t : S1x1024.Idx → EReal) (ix2 a b) = Gf m c (ix2 a b) := by
  unfold iblk
  rw [View.read_apply]
  refine Eq.trans ?_ (congrFun (V_main_arg6 m c) _)
  have h := (index0 t).2.2.2.2.2.2.1
  refine congrArg (V m c main_arg6) (ixEq ?_ ?_)
  · show win0_6.index t 0 * 1 + 1 * a.val = a.val
    rw [h.1]; omega
  · show win0_6.index t 1 * 1024 + 1 * b.val = b.val
    rw [h.2]; omega

theorem iblk2 (c : Dev nD) (t : Fin cfg0.N) (a : Fin 2816) (b : Fin 1024) : (iblk m c 2 t : S2816x1024.Idx → EReal) (ix2 a b) = Wg m c (ix2 b a) := by
  unfold iblk
  rw [View.read_apply]
  refine Eq.trans ?_ (transpose_apply _ _ transposes_S1024x2816_S2816x1024_1_0 (ix2 a b) _ fun a => match a with | ⟨0, _⟩ => rfl | ⟨1, _⟩ => rfl)
  refine Eq.trans ?_ (congrFun (V_v1 m c) _)
  have h := (index0 t).2.2.1
  refine congrArg (V m c main_v1) (ixEq ?_ ?_)
  · show win0_2.index t 0 * 2816 + 1 * a.val = a.val
    rw [h.1]; omega
  · show win0_2.index t 1 * 1024 + 1 * b.val = b.val
    rw [h.2]; omega

theorem iblk3 (c : Dev nD) (t : Fin cfg0.N) (a : Fin 2816) (b : Fin 1024) : (iblk m c 3 t : S2816x1024.Idx → EReal) (ix2 a b) = Wu m c (ix2 b a) := by
  unfold iblk
  rw [View.read_apply]
  refine Eq.trans ?_ (transpose_apply _ _ transposes_S1024x2816_S2816x1024_1_0 (ix2 a b) _ fun a => match a with | ⟨0, _⟩ => rfl | ⟨1, _⟩ => rfl)
  refine Eq.trans ?_ (congrFun (V_v3 m c) _)
  have h := (index0 t).2.2.2.1
  refine congrArg (V m c main_v3) (ixEq ?_ ?_)
  · show win0_3.index t 0 * 2816 + 1 * a.val = a.val
    rw [h.1]; omega
  · show win0_3.index t 1 * 1024 + 1 * b.val = b.val
    rw [h.2]; omega

theorem hNorm_at (x : FVec Ideal S4096x1024 .f32) (g : FVec Ideal S1x1024 .f32) (i : Fin 4096) (j : Fin 1024) :
    hNorm x g (ix2 i j) = x (ix2 i j) * Ideal.rsqrt (meanSq 1024 fun k => x (ix2 i k)) * g (ix2 0 j) := by
  rw [hNorm_apply, hScale_apply]

theorem hScale_at (x : FVec Ideal S4096x1024 .f32) (i : Fin 4096) (j : Fin 1) : hScale x (ix2 i j) = Ideal.rsqrt (meanSq 1024 fun k => x (ix2 i k)) := by
  obtain rfl : j = 0 := Subsingleton.elim _ _
  exact hScale_apply x i

theorem norm_at (c : Dev nD) (t : Fin cfg0.N) (a : Fin 512) (j : Fin 1024) : (k0_pay5 (F := Ideal) (iblk m c 0 t) (iblk m c 1 t)) (ix2 a j) = hNorm (X m c) (G m c) (ix2 (row t a rows) j) :=
  (pay5_eq (iblk0 m c t a) (iblk1 m c t 0) j).trans (hNorm_at _ _ _ j).symm

theorem gate_at (c : Dev nD) (t : Fin cfg0.N) (a : Fin 512) (j : Fin 2816) : pr (k0_pay5 (F := Ideal) (iblk m c 0 t) (iblk m c 1 t)) (iblk m c 2 t) (ix2 a j) = pre (X m c) (G m c) (Wg m c) (row t a rows) j :=
  pr_eq (norm_at m c t a) (iblk2 m c t j)

theorem up_at (c : Dev nD) (t : Fin cfg0.N) (a : Fin 512) (j : Fin 2816) : pr (k0_pay5 (F := Ideal) (iblk m c 0 t) (iblk m c 1 t)) (iblk m c 3 t) (ix2 a j) = pre (X m c) (G m c) (Wu m c) (row t a rows) j :=
  pr_eq (norm_at m c t a) (iblk3 m c t j)

theorem hid_at (c : Dev nD) (t : Fin cfg0.N) (a : Fin 512) (j : Fin 2816) : (wHid (k0_pay5 (F := Ideal) (iblk m c 0 t) (iblk m c 1 t)) (iblk m c 2 t) (iblk m c 3 t)) (ix2 a j) = hid (X m c) (G m c) (Wg m c) (Wu m c) (row t a rows) j := by
  unfold wHid hid
  rw [gate_at, up_at]

theorem add_eq {x w : Vec Ideal S512x1024 .f32} {z : S512x1024.Idx} {p q : EReal} (h : x z = p) (g : w z = q) : x z + w z = p + q := congrArg₂ (· + ·) h g

theorem y_at (c : Dev nD) (t : Fin cfg0.N) (a : Fin 512) (j : Fin 1024) : HAdd.hAdd (α := EReal) (β := EReal) (γ := EReal) ((iblk m c 0 t : S512x1024.Idx → EReal) (ix2 a j)) ((k0_pay88 (F := Ideal) (wHid (k0_pay5 (F := Ideal) (iblk m c 0 t) (iblk m c 1 t)) (iblk m c 2 t) (iblk m c 3 t)) (iblk m c 4 t)) (ix2 a j)) = (yRow (X m c) (G m c) (Wg m c) (Wu m c) (Wd m c) (row t a rows)) j :=
  add_eq (x := iblk m c 0 t) (iblk0 m c t a j) (pay88_eq (hid_at m c t a) (fun k => iblk4 m c t k j))

theorem result7 (c : Dev nD) (hp : Fin4 m c) (i : Fin 4096) (j : Fin 1024) : ((dats m 0 c).arrAt 7 cfg0.N : S4096x1024.Idx → EReal) (ix2 i j)
    = Cert.ReferenceLsIdeal.Read.val_main_v70 (F := Ideal) (X m c) (G m c) (Wg m c) (Wu m c) (Wd m c) (Tg m c) (Gf m c) (ix2 i j) := by
  obtain ⟨t, a, rfl⟩ := row_surj rows i
  have hb := congrFun (blocks7 m c t (flush0_7 t)) (ix2 a j)
  rw [View.read_apply, flushed7] at hb
  have h := (index0 t).2.2.2.2.2.2.2.1
  have he : ((cfg0.win 7).blk t).view.emb (ix2 a j) = (ix2 (row t a rows) j : S4096x1024.Idx) := by
    refine ixEq ?_ ?_
    · show win0_7.index t 0 * 512 + 1 * a.val = t.val * 512 + a.val
      rw [h.1]; omega
    · show win0_7.index t 1 * 1024 + 1 * j.val = j.val
      rw [h.2]; omega
  rw [he] at hb
  refine hb.trans (Eq.trans (congrFun (?_ : (outsAt0 m c t.val t.isLt).1 = _) (ix2 a j)) ((pay94_eq (y_at m c t a) (iblk5 m c t a) (iblk6 m c t 0) j).trans (v70_apply (X m c) (G m c) (Wg m c) (Wu m c) (Wd m c) (Tg m c) (Gf m c) hp.1 hp.2.1 hp.2.2.1 hp.2.2.2.1 hp.2.2.2.2.1 hp.2.2.2.2.2.1 hp.2.2.2.2.2.2 (row t a rows) j).symm))
  by_cases h0 : t.val % 8 = 0
  · rw [outs_A m c t h0]
  · rw [outs_B m c t h0]

theorem result8 (c : Dev nD) (hp : Fin4 m c) (i : Fin 4096) (j : Fin 1024) : ((dats m 0 c).arrAt 8 cfg0.N : S4096x1024.Idx → EReal) (ix2 i j)
    = Cert.ReferenceLsIdeal.Read.val_main_v79 (F := Ideal) (X m c) (G m c) (Wg m c) (Wu m c) (Wd m c) (Tg m c) (Gf m c) (ix2 i j) := by
  obtain ⟨t, a, rfl⟩ := row_surj rows i
  have hb := congrFun (blocks8 m c t (flush0_8 t)) (ix2 a j)
  rw [View.read_apply, flushed8] at hb
  have h := (index0 t).2.2.2.2.2.2.2.2.1
  have he : ((cfg0.win 8).blk t).view.emb (ix2 a j) = (ix2 (row t a rows) j : S4096x1024.Idx) := by
    refine ixEq ?_ ?_
    · show win0_8.index t 0 * 512 + 1 * a.val = t.val * 512 + a.val
      rw [h.1]; omega
    · show win0_8.index t 1 * 1024 + 1 * j.val = j.val
      rw [h.2]; omega
  rw [he] at hb
  refine hb.trans (Eq.trans (congrFun (?_ : (outsAt0 m c t.val t.isLt).2.1 = _) (ix2 a j)) ((pay94_eq (y_at m c t a) (iblk5 m c t a) (iblk6 m c t 0) j).trans (v70_apply (X m c) (G m c) (Wg m c) (Wu m c) (Wd m c) (Tg m c) (Gf m c) hp.1 hp.2.1 hp.2.2.1 hp.2.2.2.1 hp.2.2.2.2.1 hp.2.2.2.2.2.1 hp.2.2.2.2.2.2 (row t a rows) j).symm))
  by_cases h0 : t.val % 8 = 0
  · rw [outs_A m c t h0]; rfl
  · rw [outs_B m c t h0]; rfl

theorem result11 (c : Dev nD) (i : Fin 4096) (j : Fin 1024) : ((dats m 0 c).arrAt 11 cfg0.N : S4096x1024.Idx → EReal) (ix2 i j)
    = Cert.ReferenceLsIdeal.Read.val_main_v81 (F := Ideal) (X m c) (G m c) (ix2 i j) := by
  obtain ⟨t, a, rfl⟩ := row_surj rows i
  have hb := congrFun (blocks11 m c t (flush0_11 t)) (ix2 a j)
  rw [View.read_apply, flushed11] at hb
  have h := (index0 t).2.2.2.2.2.2.2.2.2.2.2.1
  have he : ((cfg0.win 11).blk t).view.emb (ix2 a j) = (ix2 (row t a rows) j : S4096x1024.Idx) := by
    refine ixEq ?_ ?_
    · show win0_11.index t 0 * 512 + 1 * a.val = t.val * 512 + a.val
      rw [h.1]; omega
    · show win0_11.index t 1 * 1024 + 1 * j.val = j.val
      rw [h.2]; omega
  rw [he] at hb
  refine hb.trans (Eq.trans (congrFun (?_ : (outsAt0 m c t.val t.isLt).2.2.2.2.1 = _) (ix2 a j)) (norm_at m c t a j))
  by_cases h0 : t.val % 8 = 0
  · rw [outs_A m c t h0]
  · rw [outs_B m c t h0]

theorem result12 (c : Dev nD) (i : Fin 4096) (j : Fin 1) : ((dats m 0 c).arrAt 12 cfg0.N : S4096x1.Idx → EReal) (ix2 i j)
    = Cert.ReferenceLsIdeal.Read.val_main_v78 (F := Ideal) (X m c) (ix2 i j) := by
  obtain ⟨t, a, rfl⟩ := row_surj rows i
  have hb := congrFun (blocks12 m c t (flush0_12 t)) (ix2 a j)
  rw [View.read_apply, flushed12] at hb
  have h := (index0 t).2.2.2.2.2.2.2.2.2.2.2.2.1
  have he : ((cfg0.win 12).blk t).view.emb (ix2 a j) = (ix2 (row t a rows) j : S4096x1.Idx) := by
    refine ixEq ?_ ?_
    · show win0_12.index t 0 * 512 + 1 * a.val = t.val * 512 + a.val
      rw [h.1]; omega
    · show win0_12.index t 1 * 1 + 1 * j.val = j.val
      rw [h.2]; omega
  rw [he] at hb
  refine hb.trans (Eq.trans (congrFun (?_ : (outsAt0 m c t.val t.isLt).2.2.2.2.2.1 = _) (ix2 a j)) ((pay4_eq (iblk0 m c t a) j).trans (hScale_at _ _ _).symm))
  by_cases h0 : t.val % 8 = 0
  · rw [outs_A m c t h0]
  · rw [outs_B m c t h0]

theorem slope_at (c : Dev nD) (hp : Fin4 m c) (t : Fin cfg0.N) (a : Fin 512) (j : Fin 2816) : wSlope (k0_pay5 (F := Ideal) (iblk m c 0 t) (iblk m c 1 t)) (iblk m c 2 t) (iblk m c 3 t) (ix2 a j)
    = Cert.ReferenceLsIdeal.Read.val_main_v82 (F := Ideal) (X m c) (G m c) (Wg m c) (Wu m c) (ix2 (row t a rows) j) := by
  rw [v82_apply (X m c) (G m c) (Wg m c) (Wu m c) hp.1 hp.2.1 hp.2.2.1 hp.2.2.2.1]
  unfold wSlope
  rw [gate_at, up_at]

theorem silu_at (c : Dev nD) (t : Fin cfg0.N) (a : Fin 512) (j : Fin 2816) : wSilu (k0_pay5 (F := Ideal) (iblk m c 0 t) (iblk m c 1 t)) (iblk m c 2 t) (ix2 a j)
    = Cert.ReferenceLsIdeal.Read.val_main_v83 (F := Ideal) (X m c) (G m c) (Wg m c) (ix2 (row t a rows) j) := by
  rw [v83_apply]
  unfold wSilu
  rw [gate_at]

theorem result13 (c : Dev nD) (hp : Fin4 m c) (i : Fin 4096) (j : Fin 2816) : ((dats m 0 c).arrAt 13 cfg0.N : S4096x2816.Idx → EReal) (ix2 i j)
    = Cert.ReferenceLsIdeal.Read.val_main_v82 (F := Ideal) (X m c) (G m c) (Wg m c) (Wu m c) (ix2 i j) := by
  obtain ⟨t, a, rfl⟩ := row_surj rows i
  have hb := congrFun (blocks13 m c t (flush0_13 t)) (ix2 a j)
  rw [View.read_apply, flushed13] at hb
  have h := (index0 t).2.2.2.2.2.2.2.2.2.2.2.2.2.1
  have he : ((cfg0.win 13).blk t).view.emb (ix2 a j) = (ix2 (row t a rows) j : S4096x2816.Idx) := by
    refine ixEq ?_ ?_
    · show win0_13.index t 0 * 512 + 1 * a.val = t.val * 512 + a.val
      rw [h.1]; omega
    · show win0_13.index t 1 * 2816 + 1 * j.val = j.val
      rw [h.2]; omega
  rw [he] at hb
  refine hb.trans (Eq.trans (congrFun (?_ : (outsAt0 m c t.val t.isLt).2.2.2.2.2.2.1 = _) (ix2 a j)) (slope_at m c hp t a j))
  by_cases h0 : t.val % 8 = 0
  · rw [outs_A m c t h0]
  · rw [outs_B m c t h0]

theorem result14 (c : Dev nD) (i : Fin 4096) (j : Fin 2816) : ((dats m 0 c).arrAt 14 cfg0.N : S4096x2816.Idx → EReal) (ix2 i j)
    = Cert.ReferenceLsIdeal.Read.val_main_v83 (F := Ideal) (X m c) (G m c) (Wg m c) (ix2 i j) := by
  obtain ⟨t, a, rfl⟩ := row_surj rows i
  have hb := congrFun (blocks14 m c t (flush0_14 t)) (ix2 a j)
  rw [View.read_apply, flushed14] at hb
  have h := (index0 t).2.2.2.2.2.2.2.2.2.2.2.2.2.2.1
  have he : ((cfg0.win 14).blk t).view.emb (ix2 a j) = (ix2 (row t a rows) j : S4096x2816.Idx) := by
    refine ixEq ?_ ?_
    · show win0_14.index t 0 * 512 + 1 * a.val = t.val * 512 + a.val
      rw [h.1]; omega
    · show win0_14.index t 1 * 2816 + 1 * j.val = j.val
      rw [h.2]; omega
  rw [he] at hb
  refine hb.trans (Eq.trans (congrFun (?_ : (outsAt0 m c t.val t.isLt).2.2.2.2.2.2.2.1 = _) (ix2 a j)) (silu_at m c t a j))
  by_cases h0 : t.val % 8 = 0
  · rw [outs_A m c t h0]
  · rw [outs_B m c t h0]

theorem result15 (c : Dev nD) (i : Fin 4096) (j : Fin 2816) : ((dats m 0 c).arrAt 15 cfg0.N : S4096x2816.Idx → EReal) (ix2 i j)
    = Cert.ReferenceLsIdeal.Read.val_main_v84 (F := Ideal) (X m c) (G m c) (Wg m c) (Wu m c) (ix2 i j) := by
  obtain ⟨t, a, rfl⟩ := row_surj rows i
  have hb := congrFun (blocks15 m c t (flush0_15 t)) (ix2 a j)
  rw [View.read_apply, flushed15] at hb
  have h := (index0 t).2.2.2.2.2.2.2.2.2.2.2.2.2.2.2
  have he : ((cfg0.win 15).blk t).view.emb (ix2 a j) = (ix2 (row t a rows) j : S4096x2816.Idx) := by
    refine ixEq ?_ ?_
    · show win0_15.index t 0 * 512 + 1 * a.val = t.val * 512 + a.val
      rw [h.1]; omega
    · show win0_15.index t 1 * 2816 + 1 * j.val = j.val
      rw [h.2]; omega
  rw [he] at hb
  refine hb.trans (Eq.trans (congrFun (?_ : (outsAt0 m c t.val t.isLt).2.2.2.2.2.2.2.2 = _) (ix2 a j)) ((hid_at m c t a j).trans (v84_apply (X m c) (G m c) (Wg m c) (Wu m c) (row t a rows) j).symm))
  by_cases h0 : t.val % 8 = 0
  · rw [outs_A m c t h0]
  · rw [outs_B m c t h0]

/-- The one write-back of this total, after the last point. -/
theorem final9 (c : Dev nD) (hl : 7 < cfg0.N) : (dats m 0 c).arrAt 9 cfg0.N = (outsAt0 m c 7 hl).2.2.1 := by
  have hN : cfg0.N = 8 := Gen.N_0
  have hz (t : Fin cfg0.N) : (fun a => win0_9.index t a * main_v5_2.ty.shape.size a) = fun _ => 0 := funext fun a => by
    have h := (index0 t).2.2.2.2.2.2.2.2.2.1
    match a with
    | ⟨0, _⟩ => show win0_9.index t 0 * _ = 0; rw [h.1, Nat.zero_mul]
    | ⟨1, _⟩ => show win0_9.index t 1 * _ = 0; rw [h.2, Nat.zero_mul]
  refine (dats m 0 c).arrAt_eq_of_cover 9 (outsAt0 m c 7 hl).2.2.1 (fun t hf => ?_) fun i => ⟨⟨7, hl⟩, (flush0_9 _).mpr rfl, ?_⟩
  · obtain rfl : t = ⟨7, hl⟩ := Fin.ext (by
      have h7 := (flush0_9 t).mp hf
      have ht : t.val < 8 := lt_of_lt_of_eq t.isLt hN
      show t.val = 7
      omega)
    rw [flushed9]
    dsimp only
    generalize outsAt0 m c 7 hl = y
    exact (Memref.read_access_unit_zero (Elt Ideal) main_v5_2 (hz _) (fun a => by rw [congrFun (hz _) a]; simp) _).symm
  · show i ∈ ((View.whole main_v5_2).slice (win0_9.rect ⟨7, hl⟩)).set
    rw [View.set_slice_whole, Rect.mem_set_unit]
    intro a
    have h := (index0 ⟨7, hl⟩).2.2.2.2.2.2.2.2.2.1
    match a with
    | ⟨0, _⟩ =>
      show win0_9.index ⟨7, hl⟩ 0 * 1 ≤ (i 0 : Nat) ∧ (i 0 : Nat) < win0_9.index ⟨7, hl⟩ 0 * 1 + 1
      have : (i 0 : Nat) < 1 := (i 0).isLt
      rw [h.1]; omega
    | ⟨1, _⟩ =>
      show win0_9.index ⟨7, hl⟩ 1 * 1024 ≤ (i 1 : Nat) ∧ (i 1 : Nat) < win0_9.index ⟨7, hl⟩ 1 * 1024 + 1024
      have : (i 1 : Nat) < 1024 := (i 1).isLt
      rw [h.2]; omega

/-- The one write-back of this total, after the last point. -/
theorem final10 (c : Dev nD) (hl : 7 < cfg0.N) : (dats m 0 c).arrAt 10 cfg0.N = (outsAt0 m c 7 hl).2.2.2.1 := by
  have hN : cfg0.N = 8 := Gen.N_0
  have hz (t : Fin cfg0.N) : (fun a => win0_10.index t a * main_v5_3.ty.shape.size a) = fun _ => 0 := funext fun a => by
    have h := (index0 t).2.2.2.2.2.2.2.2.2.2.1
    match a with
    | ⟨0, _⟩ => show win0_10.index t 0 * _ = 0; rw [h.1, Nat.zero_mul]
    | ⟨1, _⟩ => show win0_10.index t 1 * _ = 0; rw [h.2, Nat.zero_mul]
  refine (dats m 0 c).arrAt_eq_of_cover 10 (outsAt0 m c 7 hl).2.2.2.1 (fun t hf => ?_) fun i => ⟨⟨7, hl⟩, (flush0_10 _).mpr rfl, ?_⟩
  · obtain rfl : t = ⟨7, hl⟩ := Fin.ext (by
      have h7 := (flush0_10 t).mp hf
      have ht : t.val < 8 := lt_of_lt_of_eq t.isLt hN
      show t.val = 7
      omega)
    rw [flushed10]
    dsimp only
    generalize outsAt0 m c 7 hl = y
    exact (Memref.read_access_unit_zero (Elt Ideal) main_v5_3 (hz _) (fun a => by rw [congrFun (hz _) a]; simp) _).symm
  · show i ∈ ((View.whole main_v5_3).slice (win0_10.rect ⟨7, hl⟩)).set
    rw [View.set_slice_whole, Rect.mem_set_unit]
    intro a
    have h := (index0 ⟨7, hl⟩).2.2.2.2.2.2.2.2.2.2.1
    match a with
    | ⟨0, _⟩ =>
      show win0_10.index ⟨7, hl⟩ 0 * 1 ≤ (i 0 : Nat) ∧ (i 0 : Nat) < win0_10.index ⟨7, hl⟩ 0 * 1 + 1
      have : (i 0 : Nat) < 1 := (i 0).isLt
      rw [h.1]; omega
    | ⟨1, _⟩ =>
      show win0_10.index ⟨7, hl⟩ 1 * 1 ≤ (i 1 : Nat) ∧ (i 1 : Nat) < win0_10.index ⟨7, hl⟩ 1 * 1 + 1
      have : (i 1 : Nat) < 1 := (i 1).isLt
      rw [h.2]; omega

/-- What a tile adds to the gradient of the last gain. -/
def tGain (c : Dev nD) (t : Fin cfg0.N) : FVec Ideal S1x1024 .f32 := k0_pay96 (F := Ideal) (iblk m c 0 t) (k0_pay88 (F := Ideal) (wHid (k0_pay5 (F := Ideal) (iblk m c 0 t) (iblk m c 1 t)) (iblk m c 2 t) (iblk m c 3 t)) (iblk m c 4 t)) (iblk m c 5 t) (iblk m c 6 t)

/-- What a tile adds to the loss. -/
def tLoss (c : Dev nD) (t : Fin cfg0.N) : FVec Ideal S1x1 .f32 := k0_pay95 (F := Ideal) (iblk m c 0 t) (k0_pay88 (F := Ideal) (wHid (k0_pay5 (F := Ideal) (iblk m c 0 t) (iblk m c 1 t)) (iblk m c 2 t) (iblk m c 3 t)) (iblk m c 4 t)) (iblk m c 5 t) (iblk m c 6 t)

/-- This running total after a point. -/
theorem total9 (c : Dev nD) (a : Fin 1) (j : Fin 1024) (n : ℕ) (hn : n < cfg0.N) : (outsAt0 m c n hn).2.2.1 (ix2 a j)
    = ∑ k : Fin (n + 1), tGain m c ⟨k, by omega⟩ (ix2 a j) := by
  refine total (fun n hn => (outsAt0 m c n hn).2.2.1 (ix2 a j)) (fun t => tGain m c t (ix2 a j))
    (fun h => ?_) (fun n h => ?_) n hn
  · show (outsAt0 m c (⟨0, h⟩ : Fin cfg0.N).val h).2.2.1 (ix2 a j) = _
    rw [outs_A m c ⟨0, h⟩ rfl]
    refine (pay2_apply _ _ a j).trans ?_
    show Ideal.ofBits .f32 0x00000000#32 + _ = _
    rw [Ideal.ofBits_zero_f32]
    exact zero_add _
  · have hN : cfg0.N = 8 := Gen.N_0
    show (outsAt0 m c (⟨n + 1, h⟩ : Fin cfg0.N).val h).2.2.1 (ix2 a j) = _
    rw [outs_B m c ⟨n + 1, h⟩ (by show ¬(n + 1) % 8 = 0; omega)]
    exact pay2_apply _ _ a j

/-- This running total after a point. -/
theorem total10 (c : Dev nD) (a : Fin 1) (j : Fin 1) (n : ℕ) (hn : n < cfg0.N) : (outsAt0 m c n hn).2.2.2.1 (ix2 a j)
    = ∑ k : Fin (n + 1), tLoss m c ⟨k, by omega⟩ (ix2 a j) := by
  refine total (fun n hn => (outsAt0 m c n hn).2.2.2.1 (ix2 a j)) (fun t => tLoss m c t (ix2 a j))
    (fun h => ?_) (fun n h => ?_) n hn
  · show (outsAt0 m c (⟨0, h⟩ : Fin cfg0.N).val h).2.2.2.1 (ix2 a j) = _
    rw [outs_A m c ⟨0, h⟩ rfl]
    refine (pay3_apply _ _ a j).trans ?_
    show Ideal.ofBits .f32 0x00000000#32 + _ = _
    rw [Ideal.ofBits_zero_f32]
    exact zero_add _
  · have hN : cfg0.N = 8 := Gen.N_0
    show (outsAt0 m c (⟨n + 1, h⟩ : Fin cfg0.N).val h).2.2.2.1 (ix2 a j) = _
    rw [outs_B m c ⟨n + 1, h⟩ (by show ¬(n + 1) % 8 = 0; omega)]
    exact pay3_apply _ _ a j

theorem result9 (c : Dev nD) (a : Fin 1) (j : Fin 1024) : ((dats m 0 c).arrAt 9 cfg0.N : S1x1024.Idx → EReal) (ix2 a j) = Cert.ReferenceLsIdeal.Read.val_main_v54 (F := Ideal) (X m c) (G m c) (Wg m c) (Wu m c) (Wd m c) (Tg m c) (Gf m c) (ix2 a j) := by
  have hN : cfg0.N = 8 := Gen.N_0
  have hl : 7 < cfg0.N := by rw [hN]; omega
  refine (congrFun (final9 m c hl) (ix2 a j)).trans ((total9 m c a j 7 hl).trans ((v54_apply (X m c) (G m c) (Wg m c) (Wu m c) (Wd m c) (Tg m c) (Gf m c) a j).trans ((sum_row rows _).trans ?_)).symm)
  exact sum_cast hN _ _ fun k => (pay96_eq (y_at m c ⟨k, by omega⟩) (iblk5 m c ⟨k, by omega⟩) (iblk6 m c ⟨k, by omega⟩ 0) a j).symm

theorem result10 (c : Dev nD) (hp : Fin4 m c) (a b : Fin 1) : ((dats m 0 c).arrAt 10 cfg0.N : S1x1.Idx → EReal) (ix2 a b) = Cert.ReferenceLsIdeal.Read.val_main_v80 (F := Ideal) (X m c) (G m c) (Wg m c) (Wu m c) (Wd m c) (Tg m c) (Gf m c) (ix2 a b) := by
  have hN : cfg0.N = 8 := Gen.N_0
  have hl : 7 < cfg0.N := by rw [hN]; omega
  have hr (i : Fin 4096) (k : Fin 1024) : IsReal (yRow (X m c) (G m c) (Wg m c) (Wu m c) (Wd m c) i k) :=
    (congrArg IsReal (y_apply (X m c) (G m c) (Wg m c) (Wu m c) (Wd m c) i k)).mp (y_real (X m c) (G m c) (Wg m c) (Wu m c) (Wd m c) hp.1 hp.2.1 hp.2.2.1 hp.2.2.2.1 hp.2.2.2.2.1 _)
  have he (i : Fin 4096) (k : Fin 1024) := lErr_real (hr i) (fun k => hp.2.2.2.2.2.1 (ix2 i k)) (fun k => hp.2.2.2.2.2.2 (ix2 0 k)) k
  refine (congrFun (final10 m c hl) (ix2 a b)).trans ((total10 m c a b 7 hl).trans ((v80_apply (X m c) (G m c) (Wg m c) (Wu m c) (Wd m c) (Tg m c) (Gf m c) a b).trans
    ((loss_eq rows fun i => IsReal.sum _ fun k => (he i k).mul (he i k)).symm.trans ?_)).symm)
  exact sum_cast hN _ _ fun k => (pay95_eq (y_at m c ⟨k, by omega⟩) (iblk5 m c ⟨k, by omega⟩) (iblk6 m c ⟨k, by omega⟩ 0) a b).symm

end Cert.KernelLsIdeal.Hand
-- ==== Proof.LsClaim.lean ====
/- The feed-forward block with the loss and its gradient: the claim against the reference. -/
module

public import proofs.«01_k».proof.Defs
public import proofs.«01_k».proof.Proof.Gen.KernelLs
public import proofs.«01_k».proof.Proof.Ls
public import proofs.«01_k».proof.Proof.Gen.Pre_finite_loss
public import proofs.«01_k».proof.Proof.Finite

@[expose] public section

noncomputable section

open Idealize.ShloMosaic Idealize.ShloMosaic.TcCoe Idealize.SL.Sem Idealize.ShloMosaic.ValueIdx

namespace Cert.Hand

theorem frame_reference_Ls : Cert.quiescent_ReferenceLsIdeal := fun m ρ _ =>
  (θ_run Cert.ReferenceLsIdeal.defs _ _).mono (fun r h => ⟨fun c => (h c).2.2.2.2.2.2.2.2.2, sem_eq_zero_of_no_sems (by decide) r.2⟩)
    (Cert.ReferenceLsIdeal.Hand.run m ρ)

theorem frame_reference_Ls_pre_finite_loss : Cert.quiescent_ReferenceLsIdeal_pre_finite_loss := fun m ρ _ =>
  (θ_run Cert.ReferenceLsIdeal.defs _ _).mono (fun r h => ⟨fun c => (h c).2.2.2.2.2.2.2.2.2, sem_eq_zero_of_no_sems (by decide) r.2⟩)
    (Cert.ReferenceLsIdeal.Hand.run m ρ)

open Cert.KernelLsIdeal in
/-- The precondition, read: every entry of the arrays it names is a real. -/
theorem finite_Ls (m : (ℓ : Loc nD τ sig) → Buf (Elt Ideal) ℓ) (h : Cert.Pre_KernelLsIdeal_finite_loss m) (c : Dev nD) : Cert.KernelLsIdeal.Hand.Fin4 m c := by
  have H := h c
  unfold Cert.Pre_finite_loss.fn Cert.Pre_finite_loss.fn_part1 at H
  obtain ⟨H, h6⟩ := Cert.Kit.ones_cat H
  obtain ⟨H, h5⟩ := Cert.Kit.ones_cat H
  obtain ⟨H, h4⟩ := Cert.Kit.ones_cat H
  obtain ⟨H, h3⟩ := Cert.Kit.ones_cat H
  obtain ⟨H, h2⟩ := Cert.Kit.ones_cat H
  obtain ⟨H, h1⟩ := Cert.Kit.ones_cat H
  exact ⟨Cert.Kit.real_of_ones (Cert.Kit.ones_cast H), Cert.Kit.real_of_ones (Cert.Kit.ones_cast h1), Cert.Kit.real_of_ones (Cert.Kit.ones_cast h2), Cert.Kit.real_of_ones (Cert.Kit.ones_cast h3), Cert.Kit.real_of_ones (Cert.Kit.ones_cast h4), Cert.Kit.real_of_ones (Cert.Kit.ones_cast h5), Cert.Kit.real_of_ones (Cert.Kit.ones_cast h6)⟩

set_option maxHeartbeats 4000000 in
open Cert.KernelLsIdeal in
theorem algebraic_Ls : Cert.algebraic_KernelLsIdeal_ReferenceLsIdeal_pre_finite_loss := by
  intro m g m' g' hp hargs
  let x0 (c : Dev nD) := m ((c.tc : Thread nD τ).loc main_arg0)
  let x1 (c : Dev nD) := m ((c.tc : Thread nD τ).loc main_arg1)
  let x2 (c : Dev nD) := m ((c.tc : Thread nD τ).loc main_arg2)
  let x3 (c : Dev nD) := m ((c.tc : Thread nD τ).loc main_arg3)
  let x4 (c : Dev nD) := m ((c.tc : Thread nD τ).loc main_arg4)
  let x5 (c : Dev nD) := m ((c.tc : Thread nD τ).loc main_arg5)
  let x6 (c : Dev nD) := m ((c.tc : Thread nD τ).loc main_arg6)
  refine ⟨fun c => Cert.ReferenceLsIdeal.Read.val_main_v70 (F := Ideal) (x0 c) (x1 c) (x2 c) (x3 c) (x4 c) (x5 c) (x6 c),
    fun c => Cert.ReferenceLsIdeal.Read.val_main_v79 (F := Ideal) (x0 c) (x1 c) (x2 c) (x3 c) (x4 c) (x5 c) (x6 c),
    fun c => Cert.ReferenceLsIdeal.Read.val_main_v54 (F := Ideal) (x0 c) (x1 c) (x2 c) (x3 c) (x4 c) (x5 c) (x6 c),
    fun c => Cert.ReferenceLsIdeal.Read.val_main_v80 (F := Ideal) (x0 c) (x1 c) (x2 c) (x3 c) (x4 c) (x5 c) (x6 c),
    fun c => Cert.ReferenceLsIdeal.Read.val_main_v81 (F := Ideal) (x0 c) (x1 c),
    fun c => Cert.ReferenceLsIdeal.Read.val_main_v78 (F := Ideal) (x0 c),
    fun c => Cert.ReferenceLsIdeal.Read.val_main_v82 (F := Ideal) (x0 c) (x1 c) (x2 c) (x3 c),
    fun c => Cert.ReferenceLsIdeal.Read.val_main_v83 (F := Ideal) (x0 c) (x1 c) (x2 c),
    fun c => Cert.ReferenceLsIdeal.Read.val_main_v84 (F := Ideal) (x0 c) (x1 c) (x2 c) (x3 c), ?_, ?_⟩
  · refine (θ_run defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩) (Value.run_blocks m g)
    · funext j
      obtain ⟨a, b, rfl⟩ : ∃ (a : Fin 4096) (b : Fin 1024), j = ix2 a b := ⟨j 0, j 1, eq_ix2 j⟩
      exact Hand.result7 m c (finite_Ls m hp c) a b
    · funext j
      obtain ⟨a, b, rfl⟩ : ∃ (a : Fin 4096) (b : Fin 1024), j = ix2 a b := ⟨j 0, j 1, eq_ix2 j⟩
      exact Hand.result8 m c (finite_Ls m hp c) a b
    · funext j
      obtain ⟨a, b, rfl⟩ : ∃ (a : Fin 1) (b : Fin 1024), j = ix2 a b := ⟨j 0, j 1, eq_ix2 j⟩
      exact Hand.result9 m c a b
    · funext j
      obtain ⟨a, b, rfl⟩ : ∃ (a : Fin 1) (b : Fin 1), j = ix2 a b := ⟨j 0, j 1, eq_ix2 j⟩
      exact Hand.result10 m c (finite_Ls m hp c) a b
    · funext j
      obtain ⟨a, b, rfl⟩ : ∃ (a : Fin 4096) (b : Fin 1024), j = ix2 a b := ⟨j 0, j 1, eq_ix2 j⟩
      exact Hand.result11 m c a b
    · funext j
      obtain ⟨a, b, rfl⟩ : ∃ (a : Fin 4096) (b : Fin 1), j = ix2 a b := ⟨j 0, j 1, eq_ix2 j⟩
      exact Hand.result12 m c a b
    · funext j
      obtain ⟨a, b, rfl⟩ : ∃ (a : Fin 4096) (b : Fin 2816), j = ix2 a b := ⟨j 0, j 1, eq_ix2 j⟩
      exact Hand.result13 m c (finite_Ls m hp c) a b
    · funext j
      obtain ⟨a, b, rfl⟩ : ∃ (a : Fin 4096) (b : Fin 2816), j = ix2 a b := ⟨j 0, j 1, eq_ix2 j⟩
      exact Hand.result14 m c a b
    · funext j
      obtain ⟨a, b, rfl⟩ : ∃ (a : Fin 4096) (b : Fin 2816), j = ix2 a b := ⟨j 0, j 1, eq_ix2 j⟩
      exact Hand.result15 m c a b
  · refine (θ_run Cert.ReferenceLsIdeal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩)
      (Cert.ReferenceLsIdeal.Hand.run m' g')
    · rw [(hargs c).1, (hargs c).2.1, (hargs c).2.2.1, (hargs c).2.2.2.1, (hargs c).2.2.2.2.1, (hargs c).2.2.2.2.2.1, (hargs c).2.2.2.2.2.2]
    · rw [(hargs c).1, (hargs c).2.1, (hargs c).2.2.1, (hargs c).2.2.2.1, (hargs c).2.2.2.2.1, (hargs c).2.2.2.2.2.1, (hargs c).2.2.2.2.2.2]
    · rw [(hargs c).1, (hargs c).2.1, (hargs c).2.2.1, (hargs c).2.2.2.1, (hargs c).2.2.2.2.1, (hargs c).2.2.2.2.2.1, (hargs c).2.2.2.2.2.2]
    · rw [(hargs c).1, (hargs c).2.1, (hargs c).2.2.1, (hargs c).2.2.2.1, (hargs c).2.2.2.2.1, (hargs c).2.2.2.2.2.1, (hargs c).2.2.2.2.2.2]
    · rw [(hargs c).1, (hargs c).2.1]
    · rw [(hargs c).1]
    · rw [(hargs c).1, (hargs c).2.1, (hargs c).2.2.1, (hargs c).2.2.2.1]
    · rw [(hargs c).1, (hargs c).2.1, (hargs c).2.2.1]
    · rw [(hargs c).1, (hargs c).2.1, (hargs c).2.2.1, (hargs c).2.2.2.1]

end Cert.Hand
-- ==== Proof.AfRef.lean ====
/- The attention and its norm, the reference's stages: the kernel's results read at an index, and the reference's. -/
module

public import proofs.«01_k».proof.Proof.Kit
public import proofs.«01_k».proof.Proof.Rms
public import proofs.«01_k».proof.Proof.Heads
public import proofs.«01_k».proof.Proof.Soft
public import proofs.«01_k».proof.Proof.Gen.ReferenceAfIdeal.Run
public import proofs.«01_k».proof.Proof.Gen.ReferenceAfIdeal.Read
public import Idealize.ShloMosaic.Lib.StableHlo.Run

@[expose] public section

set_option maxRecDepth 16384

noncomputable section

open Idealize.ShloMosaic Idealize.ShloMosaic.TcCoe Idealize.SL.Sem Idealize.ShloMosaic.ValueIdx Cert.Kit

namespace Cert.ReferenceAfIdeal.Hand

open Cert.ReferenceAfIdeal Cert.ReferenceAfIdeal.Read

/-- The reference's run, its results named as the reading's stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42) = val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v43) = val_main_v43 (F := Ideal) (m ((c.tc : Thread nD τ).loc main_arg0)) (m ((c.tc : Thread nD τ).loc main_arg1))
      ∧ r.2.mem ((c.tc : Thread nD τ).loc main_v40) = val_main_v40 (F := Ideal) (m ((c.tc : Thread nD τ).loc main_arg0))
      ∧ r.2.mem ((c.tc : Thread nD τ).loc main_v44) = val_main_v44 (F := Ideal) (m ((c.tc : Thread nD τ).loc main_arg0)) (m ((c.tc : Thread nD τ).loc main_arg1)) (m ((c.tc : Thread nD τ).loc main_arg2))
      ∧ r.2.mem ((c.tc : Thread nD τ).loc main_v45) = val_main_v45 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (val_main_v42_eq ..), (h c).2.1.trans (val_main_v43_eq ..), (h c).2.2.1.trans (val_main_v40_eq ..), (h c).2.2.2.1.trans (val_main_v44_eq ..), (h c).2.2.2.2.1.trans (val_main_v45_eq ..),
    (h c).2.2.2.2.2⟩) (Cert.ReferenceAfIdeal.Value.run m ρ)

variable (x0 : FVec Ideal S4096x1024 .f32) (x1 : FVec Ideal S1x1024 .f32) (x2 : FVec Ideal S1024x1024 .f32) (x3 x4 : FVec Ideal S256x1024 .f32)
  (x5 : FVec Ideal S1024x1024 .f32)

/-- The queries. -/
def qry (i : Fin 4096) (j : Fin 1024) : EReal := ∑ k : Fin 1024, hNorm x0 x1 (ix2 i k) * x2 (ix2 k j)

/-- The scores of a row of queries in a head. -/
def score (h : Fin 4) (i : Fin 4096) (m : Fin 256) : EReal := (∑ k : Fin 256, qry x0 x1 x2 i (hcol h k) * x3 (ix2 m (hcol h k))) * c16

theorem max_at {s : Shape} (a b : FVec Ideal s .f32) (y : s.Idx) {p q : EReal} (ha : a y = p) (hb : b y = q) : maximumf a b y = max p q := by
  subst ha hb
  rfl

theorem rowMax (x : FVec Ideal S4x4096x256 .f32) (y : S4x4096.Idx) {s : Fin 256 → EReal} (hs : ∀ z : S4x4096x256.Idx, (z 0).val = (y 0).val → (z 1).val = (y 1).val → x z = s (z 2)) :
    Host.reduce FloatOps.maximumf x (constant S_ .f32 0xFF800000#32) Gen.reducesTo_S4x4096x256_S4x4096_d2 Gen.h_S_ y = rmax s := by
  have hr : S4x4096x256.Reduces [2] S4x4096 := by decide
  rw [hostReduce_maximumf_eq_multiReduction x 0xFF800000#32 Gen.reducesTo_S4x4096x256_S4x4096_d2 Gen.h_S_ hr (.inl rfl) rfl]
  refine (Ideal.multiReduction_maximumf_single x 0xFF800000#32 hr (.inl rfl) rfl y).trans ?_
  exact congrArg (Finset.univ.fold max (Ideal.ofBits .f32 0xFF800000#32)) (funext fun k => hs (hr.lift y k) rfl rfl)

theorem v12_apply (i : Fin 4096) (j : Fin 1024) : val_main_v12 (F := Ideal) x0 x1 x2 (ix2 i j) = qry x0 x1 x2 i j := dg10 _ none _ _ i j

theorem v13_at {y : S4096x4x256.Idx} {i : Fin 4096} {h : Fin 4} {k : Fin 256} (h0 : (y 0).val = i.val) (h1 : (y 1).val = h.val) (h2 : (y 2).val = k.val) :
    val_main_v13 (F := Ideal) x0 x1 x2 y = qry x0 x1 x2 i (hcol h k) := by
  refine (val_main_v13_apply _ _ _ y).trans (Eq.trans (congrArg (val_main_v12 (F := Ideal) x0 x1 x2) (ixEq ?_ ?_)) (v12_apply x0 x1 x2 i (hcol h k)))
  · show (((y 0).val * 4 + (y 1).val) * 256 + (y 2).val) / 1024 = i.val
    omega
  · show (((y 0).val * 4 + (y 1).val) * 256 + (y 2).val) % 1024 = 256 * h.val + k.val
    omega

theorem v14_at {y : S256x4x256.Idx} {i : Fin 256} {h : Fin 4} {k : Fin 256} (h0 : (y 0).val = i.val) (h1 : (y 1).val = h.val) (h2 : (y 2).val = k.val) :
    val_main_v14 (F := Ideal) x3 y = x3 (ix2 i (hcol h k)) := by
  refine (val_main_v14_apply _ y).trans (Eq.trans (congrArg x3 (ixEq ?_ ?_)) rfl)
  · show (((y 0).val * 4 + (y 1).val) * 256 + (y 2).val) / 1024 = i.val
    omega
  · show (((y 0).val * 4 + (y 1).val) * 256 + (y 2).val) % 1024 = 256 * h.val + k.val
    omega

theorem v15_at {y : S256x4x256.Idx} {i : Fin 256} {h : Fin 4} {k : Fin 256} (h0 : (y 0).val = i.val) (h1 : (y 1).val = h.val) (h2 : (y 2).val = k.val) :
    val_main_v15 (F := Ideal) x4 y = x4 (ix2 i (hcol h k)) := by
  refine (val_main_v15_apply _ y).trans (Eq.trans (congrArg x4 (ixEq ?_ ?_)) rfl)
  · show (((y 0).val * 4 + (y 1).val) * 256 + (y 2).val) / 1024 = i.val
    omega
  · show (((y 0).val * 4 + (y 1).val) * 256 + (y 2).val) % 1024 = 256 * h.val + k.val
    omega

theorem v18_at {y : S4x4096x256.Idx} {h : Fin 4} {i : Fin 4096} {m : Fin 256} (h0 : (y 0).val = h.val) (h1 : (y 1).val = i.val) (h2 : (y 2).val = m.val) :
    val_main_v18 (F := Ideal) x0 x1 x2 x3 y = score x0 x1 x2 x3 h i m := by
  refine congrArg₂ (· * ·) ((val_main_v16_apply _ _ _ _ y).trans (Finset.sum_congr rfl fun k _ => congrArg₂ (· * ·) (v13_at _ _ _ h1 h0 rfl) (v14_at _ h2 h0 rfl))) ?_
  exact val_main_v17_apply y

theorem v19_at {y : S4x4096.Idx} {h : Fin 4} {i : Fin 4096} (h0 : (y 0).val = h.val) (h1 : (y 1).val = i.val) :
    val_main_v19 (F := Ideal) x0 x1 x2 x3 y = rmax (score x0 x1 x2 x3 h i) := by
  unfold val_main_v19 val_main_cst_3
  exact rowMax _ y fun z g0 g1 => v18_at x0 x1 x2 x3 (g0.trans h0) (g1.trans h1) rfl

theorem v21_at {y : S4x4096.Idx} {h : Fin 4} {i : Fin 4096} (h0 : (y 0).val = h.val) (h1 : (y 1).val = i.val) :
    val_main_v21 (F := Ideal) x0 x1 x2 x3 y = rmax (score x0 x1 x2 x3 h i) := by
  have hb : val_main_v20 (F := Ideal) y = ⊥ := (val_main_v20_apply y).trans negInf
  unfold val_main_v21
  refine (max_at _ _ y hb (v19_at x0 x1 x2 x3 h0 h1)).trans ?_
  exact max_eq_right bot_le

theorem v23_at {y : S4x4096x256.Idx} {h : Fin 4} {i : Fin 4096} {m : Fin 256} (h0 : (y 0).val = h.val) (h1 : (y 1).val = i.val) (h2 : (y 2).val = m.val) :
    val_main_v23 (F := Ideal) x0 x1 x2 x3 y = rmax (score x0 x1 x2 x3 h i) := by
  exact (val_main_v23_apply _ _ _ _ y).trans ((val_main_v22_apply _ _ _ _ _).trans (v21_at x0 x1 x2 x3 h0 h1))

theorem v25_at {y : S4x4096x256.Idx} {h : Fin 4} {i : Fin 4096} {m : Fin 256} (h0 : (y 0).val = h.val) (h1 : (y 1).val = i.val) (h2 : (y 2).val = m.val) :
    val_main_v25 (F := Ideal) x0 x1 x2 x3 y = ex (score x0 x1 x2 x3 h i) m := by
  exact congrArg₂ (fun a b => Ideal.exp (a - b)) (v18_at x0 x1 x2 x3 h0 h1 h2) (v23_at x0 x1 x2 x3 h0 h1 h2)

theorem v26_at {y : S4x4096.Idx} {h : Fin 4} {i : Fin 4096} (h0 : (y 0).val = h.val) (h1 : (y 1).val = i.val) :
    val_main_v26 (F := Ideal) x0 x1 x2 x3 y = ∑ l, ex (score x0 x1 x2 x3 h i) l := by
  refine (val_main_v26_apply _ _ _ _ y).trans ?_
  refine (congrArg₂ (· + ·) (Ideal.ofBits_zero_f32) (Finset.sum_congr rfl fun k _ => v25_at x0 x1 x2 x3 h0 h1 rfl)).trans (zero_add _)

theorem v28_at {y : S4x4096x256.Idx} {h : Fin 4} {i : Fin 4096} {m : Fin 256} (h0 : (y 0).val = h.val) (h1 : (y 1).val = i.val) (h2 : (y 2).val = m.val) :
    val_main_v28 (F := Ideal) x0 x1 x2 x3 y = ∑ l, ex (score x0 x1 x2 x3 h i) l := by
  exact (val_main_v28_apply _ _ _ _ y).trans ((val_main_v27_apply _ _ _ _ _).trans (v26_at x0 x1 x2 x3 h0 h1))

theorem v29_at {y : S4x4096x256.Idx} {h : Fin 4} {i : Fin 4096} {m : Fin 256} (h0 : (y 0).val = h.val) (h1 : (y 1).val = i.val) (h2 : (y 2).val = m.val) :
    val_main_v29 (F := Ideal) x0 x1 x2 x3 y = prob (score x0 x1 x2 x3 h i) m := by
  exact congrArg₂ Ideal.div (v25_at x0 x1 x2 x3 h0 h1 h2) (v28_at x0 x1 x2 x3 h0 h1 h2)

/-- The output of the heads. -/
def att (i : Fin 4096) (j : Fin 1024) : EReal := ∑ m : Fin 256, prob (score x0 x1 x2 x3 (headOf j) i) m * x4 (ix2 m j)

theorem v32_apply (i : Fin 4096) (j : Fin 1024) : val_main_v32 (F := Ideal) x0 x1 x2 x3 x4 (ix2 i j) = att x0 x1 x2 x3 x4 i j := by
  have hj : j = hcol (headOf j) (inHead j) := (hcol_self j).symm
  refine (val_main_v32_apply _ _ _ _ _ _).trans ((val_main_v31_apply _ _ _ _ _ _).trans ((val_main_v30_apply _ _ _ _ _ _).trans (Finset.sum_congr rfl fun m _ =>
    (congrArg₂ (· * ·) (v15_at x4 (i := m) (h := headOf j) (k := inHead j) rfl ?_ ?_) (v29_at x0 x1 x2 x3 (h := headOf j) (i := i) (m := m) ?_ ?_ rfl)).trans ?_)))
  · show ((i.val * 1024 + j.val) / 256) % 4 = j.val / 256
    omega
  · show (i.val * 1024 + j.val) % 256 = j.val % 256
    omega
  · show ((i.val * 1024 + j.val) / 256) % 4 = j.val / 256
    omega
  · show (i.val * 1024 + j.val) / 1024 = i.val
    omega
  · rw [← hj, mul_comm]

theorem v42_apply (i : Fin 4096) (j : Fin 1024) : val_main_v42 (F := Ideal) x0 x1 x2 x3 x4 x5 (ix2 i j)
    = x0 (ix2 i j) + ∑ k : Fin 1024, att x0 x1 x2 x3 x4 i k * x5 (ix2 k j) :=
  congrArg (x0 (ix2 i j) + ·) ((dg10 _ none _ _ i j).trans (Finset.sum_congr rfl fun k _ => congrArg (· * x5 (ix2 k j)) (v32_apply x0 x1 x2 x3 x4 i k)))

theorem v40_eq : val_main_v40 (F := Ideal) x0 = hScale x0 := rfl

end Cert.ReferenceAfIdeal.Hand
-- ==== Proof.AfOuts.lean ====
/- The attention and its norm, what a point of its grid leaves: the kernel's results read at an index, and the reference's. -/
module

public import proofs.«01_k».proof.Proof.Kit
public import proofs.«01_k».proof.Proof.Rms
public import proofs.«01_k».proof.Proof.Heads
public import Idealize.ShloMosaic.Lib.Pipeline.ReadBack
public import proofs.«01_k».proof.Proof.Gen.KernelAfIdeal.Value
public import Idealize.ShloMosaic.Lib.StableHlo.Run

@[expose] public section

set_option maxRecDepth 16384

noncomputable section

open Idealize.ShloMosaic Idealize.ShloMosaic.TcCoe Idealize.SL.Sem Idealize.ShloMosaic.ValueIdx Cert.Kit

namespace Cert.KernelAfIdeal.Hand

open Cert.KernelAfIdeal Cert.KernelAfIdeal.Gen Cert.KernelAfIdeal.Value

variable (m : (ℓ : Loc nD τ sig) → Buf (Elt Ideal) ℓ) (ρ : Dev nD → PrngReg)

section
variable (q : Vec Ideal S1024x256 .bf16) (k v : Vec Ideal S256x256 .bf16)

/-- A head's output. -/
def hOut : FVec Ideal S1024x256 .bf16 := k0_pay7 (k0_pay6 q k) v
end

section
variable (Q : Vec Ideal S1024x1024 .bf16) (K V : Vec Ideal S256x1024 .bf16)

/-- The output of all heads. -/
def wOut : Vec Ideal S1024x1024 .bf16 := heads fun h => hOut (col Q h) (col K h) (col V h)

variable (h : Fin 4) {o : ℕ} (ho : o = 256 * h.val) (hq : ∀ a, (![0, o] : Fin 2 → ℕ) a + S1024x256.size a ≤ S1024x1024.size a)
  (hk : ∀ a, (![0, o] : Fin 2 → ℕ) a + S256x256.size a ≤ S256x1024.size a)

/-- A head's columns, as the kernel loads them. -/
abbrev ldq (x : Vec Ideal S1024x1024 .bf16) : Vec Ideal S1024x256 .bf16 := View.ld (Val := Elt Ideal) x (Rect.unit (s := S1024x1024) ![0, o] S1024x256.size hq)
@[inherit_doc ldq]
abbrev ldk {e : EltTy} (x : Vec Ideal S256x1024 e) : Vec Ideal S256x256 e := View.ld (Val := Elt Ideal) x (Rect.unit (s := S256x1024) ![0, o] S256x256.size hk)

include ho
theorem out_piece (z : S1024x256.Idx) : hOut (ldq hq Q) (ldk hk K) (ldk hk V) z
    = wOut Q K V ((Rect.unit (s := S1024x1024) ![0, o] S1024x256.size hq).emb z) := by
  refine piece_head (e := .bf16) h ho hq (fun h => hOut (col Q h) (col K h) (col V h)) ?_ z
  unfold ldq ldk
  rw [ld_head h ho hq Q, ld_head h ho hk K, ld_head h ho hk V]
end

set_option pp.maxSteps 300 in
set_option maxHeartbeats 4000000 in
/-- What a point leaves in the outputs. -/
theorem outs_A (c : Dev nD) (t : Fin cfg0.N) :
    outsAt0 m c t = (k0_pay2 (F := Ideal) (iblk m c 0 t) (wOut (k0_pay5 (F := Ideal) (iblk m c 0 t) (iblk m c 1 t) (iblk m c 2 t)) (iblk m c 3 t) (iblk m c 4 t)) (iblk m c 5 t),
      k0_pay4 (F := Ideal) (iblk m c 0 t) (iblk m c 1 t),
      k0_pay3 (F := Ideal) (iblk m c 0 t),
      (k0_pay5 (F := Ideal) (iblk m c 0 t) (iblk m c 1 t) (iblk m c 2 t)),
      (wOut (k0_pay5 (F := Ideal) (iblk m c 0 t) (iblk m c 1 t) (iblk m c 2 t)) (iblk m c 3 t) (iblk m c 4 t))) := by
  unfold outsAt0
  refine Prod.ext ?_ (Prod.ext ?_ (Prod.ext ?_ (Prod.ext ?_ ?_)))
  · dsimp only
    unfold out0_A_6
    rw [View.read_writes_eq_canon _ _ _ (fun _ => cover0_A_6 ..)]
    unfold kernelRun0_A
    dsimp only
    sl_unfold_words
    rw [View.canon_unit_zero hz2]
    simp (disch := first | rfl | decide) only [↓View.readCov_skip, ↓View.readCov_fill, View.readAt_eq_ld, (hs0_0 t).read_unread, (hs0_1 t).read_unread, (hs0_2 t).read_unread, (hs0_3 t).read_unread, (hs0_4 t).read_unread, (hs0_5 t).read_unread,
      View.ld_unit_zero (S := S1024x1024) hz2, View.ld_unit_zero (S := S1024x1) hz2, View.ld_unit_zero (S := S1x1024) hz2]
    rw [readCov_pieces (S := S1024x1024) (ms0_10 t).view (wOut (k0_pay5 (F := Ideal) (iblk m c 0 t) (iblk m c 1 t) (iblk m c 2 t)) (iblk m c 3 t) (iblk m c 4 t)) hz2]
    · skip
      refine piece_cons (out_piece (k0_pay5 (F := Ideal) (iblk m c 0 t) (iblk m c 1 t) (iblk m c 2 t)) (iblk m c 3 t) (iblk m c 4 t) 3 rfl _ _) ?_
      refine piece_cons (out_piece (k0_pay5 (F := Ideal) (iblk m c 0 t) (iblk m c 1 t) (iblk m c 2 t)) (iblk m c 3 t) (iblk m c 4 t) 2 rfl _ _) ?_
      refine piece_cons (out_piece (k0_pay5 (F := Ideal) (iblk m c 0 t) (iblk m c 1 t) (iblk m c 2 t)) (iblk m c 3 t) (iblk m c 4 t) 1 rfl _ _) ?_
      refine piece_cons (out_piece (k0_pay5 (F := Ideal) (iblk m c 0 t) (iblk m c 1 t) (iblk m c 2 t)) (iblk m c 3 t) (iblk m c 4 t) 0 rfl _ _) ?_
      exact piece_nil
    · exact View.cover_of_tiled_head _ _ _ rfl
  · dsimp only
    unfold out0_A_7
    rw [View.read_writes_eq_canon _ _ _ (fun _ => cover0_A_7 ..)]
    unfold kernelRun0_A
    dsimp only
    sl_unfold_words
    rw [View.canon_unit_zero hz2]
    simp (disch := first | rfl | decide) only [↓View.readCov_skip, ↓View.readCov_fill, View.readAt_eq_ld, (hs0_0 t).read_unread, (hs0_1 t).read_unread, (hs0_2 t).read_unread, (hs0_3 t).read_unread, (hs0_4 t).read_unread, (hs0_5 t).read_unread,
      View.ld_unit_zero (S := S1024x1024) hz2, View.ld_unit_zero (S := S1024x1) hz2, View.ld_unit_zero (S := S1x1024) hz2]
  · dsimp only
    unfold out0_A_8
    rw [View.read_writes_eq_canon _ _ _ (fun _ => cover0_A_8 ..)]
    unfold kernelRun0_A
    dsimp only
    sl_unfold_words
    rw [View.canon_unit_zero hz2]
    simp (disch := first | rfl | decide) only [↓View.readCov_skip, ↓View.readCov_fill, View.readAt_eq_ld, (hs0_0 t).read_unread, (hs0_1 t).read_unread, (hs0_2 t).read_unread, (hs0_3 t).read_unread, (hs0_4 t).read_unread, (hs0_5 t).read_unread,
      View.ld_unit_zero (S := S1024x1024) hz2, View.ld_unit_zero (S := S1024x1) hz2, View.ld_unit_zero (S := S1x1024) hz2]
  · dsimp only
    unfold out0_A_9
    rw [View.read_writes_eq_canon _ _ _ (fun _ => cover0_A_9 ..)]
    unfold kernelRun0_A
    dsimp only
    sl_unfold_words
    rw [View.canon_unit_zero hz2]
    simp (disch := first | rfl | decide) only [↓View.readCov_skip, ↓View.readCov_fill, View.readAt_eq_ld, (hs0_0 t).read_unread, (hs0_1 t).read_unread, (hs0_2 t).read_unread, (hs0_3 t).read_unread, (hs0_4 t).read_unread, (hs0_5 t).read_unread,
      View.ld_unit_zero (S := S1024x1024) hz2, View.ld_unit_zero (S := S1024x1) hz2, View.ld_unit_zero (S := S1x1024) hz2]
  · dsimp only
    unfold out0_A_10
    rw [View.read_writes_eq_canon _ _ _ (fun _ => cover0_A_10 ..)]
    unfold kernelRun0_A
    dsimp only
    sl_unfold_words
    simp (disch := first | rfl | decide) only [↓View.readCov_skip, ↓View.readCov_fill, View.readAt_eq_ld, (hs0_0 t).read_unread, (hs0_1 t).read_unread, (hs0_2 t).read_unread, (hs0_3 t).read_unread, (hs0_4 t).read_unread, (hs0_5 t).read_unread,
      View.ld_unit_zero (S := S1024x1024) hz2, View.ld_unit_zero (S := S1024x1) hz2, View.ld_unit_zero (S := S1x1024) hz2]
    refine canon_pieces _ _ ?_ (View.cover_of_tiled_head _ _ _ rfl)
    refine piece_cons (out_piece (k0_pay5 (F := Ideal) (iblk m c 0 t) (iblk m c 1 t) (iblk m c 2 t)) (iblk m c 3 t) (iblk m c 4 t) 3 rfl _ _) ?_
    refine piece_cons (out_piece (k0_pay5 (F := Ideal) (iblk m c 0 t) (iblk m c 1 t) (iblk m c 2 t)) (iblk m c 3 t) (iblk m c 4 t) 2 rfl _ _) ?_
    refine piece_cons (out_piece (k0_pay5 (F := Ideal) (iblk m c 0 t) (iblk m c 1 t) (iblk m c 2 t)) (iblk m c 3 t) (iblk m c 4 t) 1 rfl _ _) ?_
    refine piece_cons (out_piece (k0_pay5 (F := Ideal) (iblk m c 0 t) (iblk m c 1 t) (iblk m c 2 t)) (iblk m c 3 t) (iblk m c 4 t) 0 rfl _ _) ?_
    exact piece_nil

end Cert.KernelAfIdeal.Hand
-- ==== Proof.Af.lean ====
/- The attention and its norm: the kernel's results read at an index, and the reference's. -/
module

public import proofs.«01_k».proof.Proof.Kit
public import proofs.«01_k».proof.Proof.Rms
public import proofs.«01_k».proof.Proof.AfRef
public import proofs.«01_k».proof.Proof.AfOuts
public import proofs.«01_k».proof.Proof.Gen.KernelAfIdeal.Value
public import Idealize.ShloMosaic.Lib.StableHlo.Run

@[expose] public section

set_option maxRecDepth 16384

noncomputable section

open Idealize.ShloMosaic Idealize.ShloMosaic.TcCoe Idealize.SL.Sem Idealize.ShloMosaic.ValueIdx Cert.Kit

namespace Cert.KernelAfIdeal.Hand

open Cert.KernelAfIdeal Cert.KernelAfIdeal.Gen Cert.KernelAfIdeal.Value Cert.ReferenceAfIdeal.Hand

variable (m : (ℓ : Loc nD τ sig) → Buf (Elt Ideal) ℓ) (ρ : Dev nD → PrngReg)

/-- A softmax over the columns, as the kernel spells it. -/
theorem soft_apply (S : FVec Ideal S1024x256 .f32) {s : Fin 256 → EReal} (a : Fin 1024) (hs : ∀ m, S (ix2 a m) = s m) (m : Fin 256) :
    divf (exp (subf S (broadcastTo S1024x256 (shapeCast S1024x1 (multiReduction .maximumf [1] S1024 S 0xFF800000#32 reduces_S1024x256_S1024 (.inl rfl) rfl) shapeCasts_S1024_S1024x1) broadcasts_S1024x1_S1024x256)))
      (broadcastTo S1024x256 (shapeCast S1024x1 (multiReduction .add [1] S1024 (exp (subf S (broadcastTo S1024x256 (shapeCast S1024x1 (multiReduction .maximumf [1] S1024 S 0xFF800000#32 reduces_S1024x256_S1024 (.inl rfl) rfl) shapeCasts_S1024_S1024x1) broadcasts_S1024x1_S1024x256)))
        0x00000000#32 reduces_S1024x256_S1024 (.inl rfl) rfl) shapeCasts_S1024_S1024x1) broadcasts_S1024x1_S1024x256) (ix2 a m) = prob s m := by
  obtain rfl := funext hs
  have hx (k : Fin 256) : exp (subf S (broadcastTo S1024x256 (shapeCast S1024x1 (multiReduction .maximumf [1] S1024 S 0xFF800000#32 reduces_S1024x256_S1024 (.inl rfl) rfl) shapeCasts_S1024_S1024x1) broadcasts_S1024x1_S1024x256)) (ix2 a k)
      = ex (fun m => S (ix2 a m)) k :=
    congrArg (fun y => Ideal.exp (S (ix2 a k) - y)) ((bcCol _ _ a k).trans ((castCol _ _ a 0).trans (maxCols S _ _ _ a)))
  exact congrArg₂ Ideal.div (hx m) ((bcCol _ _ a m).trans ((castCol _ _ a 0).trans ((sumCols _ _ _ _ _ a).trans (Finset.sum_congr rfl fun k _ => hx k))))

theorem hOut_apply (q : Vec Ideal S1024x256 .bf16) (k v : Vec Ideal S256x256 .bf16) (a : Fin 1024) (j : Fin 256) : hOut q k v (ix2 a j)
    = ∑ m : Fin 256, prob (fun m => (∑ l : Fin 256, q (ix2 a l) * k (ix2 m l)) * c16) m * v (ix2 m j) := by
  unfold hOut k0_pay7 k0_pay6
  rw [shapeCast_self, shapeCast_self, shapeCast_self]
  exact (mm10 (φ₁ := .bf16) (φ₂ := .bf16) _ none _ _ a j).trans (Finset.sum_congr rfl fun m _ => congrArg (· * v (ix2 m j))
    (soft_apply _ a (fun m => congrArg (· * c16) (mm11 (φ₁ := .bf16) (φ₂ := .bf16) _ none _ _ a m)) m))

theorem wOut_apply {Q : Vec Ideal S1024x1024 .bf16} {K V : Vec Ideal S256x1024 .bf16} {QQ : Fin 1024 → Fin 1024 → EReal} {KK VV : S256x1024.Idx → EReal}
    (hQ : ∀ a j, Q (ix2 a j) = QQ a j) (hK : ∀ m j, K (ix2 m j) = KK (ix2 m j)) (hV : ∀ m j, V (ix2 m j) = VV (ix2 m j)) (a j : Fin 1024) :
    wOut Q K V (ix2 a j) = ∑ m : Fin 256, prob (fun m => (∑ l : Fin 256, QQ a (hcol (headOf j) l) * KK (ix2 m (hcol (headOf j) l))) * c16) m * VV (ix2 m j) := by
  refine (hOut_apply _ _ _ a (inHead j)).trans (Finset.sum_congr rfl fun m _ => congrArg₂ (· * ·) ?_ ?_)
  · refine congrArg (fun s => prob s m) (funext fun m => congrArg (· * c16) (Finset.sum_congr rfl fun l _ => congrArg₂ (· * ·) ?_ ?_))
    · exact hQ a _
    · exact hK m _
  · exact (congrArg (fun j => V (ix2 m j)) (hcol_self j)).trans (hV m j)

theorem pay3_eq {x : Vec Ideal S1024x1024 .f32} {a : Fin 1024} {X : Fin 1024 → EReal} (hx : ∀ k, x (ix2 a k) = X k) (z : Fin 1) :
    k0_pay3 (F := Ideal) x (ix2 a z) = Ideal.rsqrt (meanSq 1024 X) := by
  obtain rfl := funext hx
  unfold k0_pay3
  refine congrArg (fun p => Ideal.rsqrt (Ideal.div p (Ideal.ofBits .f32 0x44800000#32) + Ideal.ofBits .f32 0x358637BD#32)) ((castCol _ _ a z).trans (sumCols _ _ _ _ _ a)) |>.trans ?_
  rw [c1024]
  rfl

theorem pay4_eq {x : Vec Ideal S1024x1024 .f32} {g : Vec Ideal S1x1024 .f32} {a : Fin 1024} {X G : Fin 1024 → EReal} (hx : ∀ k, x (ix2 a k) = X k) (hg : ∀ k, g (ix2 0 k) = G k) (j : Fin 1024) :
    k0_pay4 (F := Ideal) x g (ix2 a j) = X j * Ideal.rsqrt (meanSq 1024 X) * G j := by
  unfold k0_pay4
  exact congrArg₂ (· * ·) (congrArg₂ (· * ·) (hx j) ((bcCol _ _ a j).trans (pay3_eq hx 0))) ((bcRow _ _ a j).trans (hg j))

theorem pay5_eq {x : Vec Ideal S1024x1024 .f32} {g : Vec Ideal S1x1024 .f32} {w : Vec Ideal S1024x1024 .bf16} {a j : Fin 1024} {X G W : Fin 1024 → EReal} (hx : ∀ k, x (ix2 a k) = X k) (hg : ∀ k, g (ix2 0 k) = G k)
    (hw : ∀ k, w (ix2 k j) = W k) : k0_pay5 (F := Ideal) x g w (ix2 a j) = ∑ k, X k * Ideal.rsqrt (meanSq 1024 X) * G k * W k := by
  unfold k0_pay5
  rw [shapeCast_self]
  exact (mm10 (φ₁ := .bf16) (φ₂ := .bf16) _ none _ _ a j).trans (Finset.sum_congr rfl fun k _ => congrArg₂ (· * ·) (pay4_eq hx hg k) (hw k))

theorem pay2_eq {x : Vec Ideal S1024x1024 .f32} {y w : Vec Ideal S1024x1024 .bf16} {a j : Fin 1024} {X Y W : Fin 1024 → EReal} (hx : ∀ k, x (ix2 a k) = X k) (hy : ∀ k, y (ix2 a k) = Y k)
    (hw : ∀ k, w (ix2 k j) = W k) : k0_pay2 (F := Ideal) x y w (ix2 a j) = X j + ∑ k, Y k * W k := by
  unfold k0_pay2
  rw [shapeCast_self, shapeCast_self]
  exact congrArg₂ (· + ·) (hx j) ((mm10 (φ₁ := .bf16) (φ₂ := .bf16) _ none _ _ a j).trans (Finset.sum_congr rfl fun k _ => congrArg₂ (· * ·) (hy k) (hw k)))

section
variable (c : Dev nD)
/-- The rows of the layer's input. -/
abbrev X : FVec Ideal S4096x1024 .f32 := m ((c : Thread nD τ).loc main_arg0)
/-- The norm's gain. -/
abbrev G : FVec Ideal S1x1024 .f32 := m ((c : Thread nD τ).loc main_arg1)
/-- The weight of the queries. -/
abbrev Wq : FVec Ideal S1024x1024 .f32 := m ((c : Thread nD τ).loc main_arg2)
/-- The keys. -/
abbrev K : FVec Ideal S256x1024 .f32 := m ((c : Thread nD τ).loc main_arg3)
/-- The values. -/
abbrev Vv : FVec Ideal S256x1024 .f32 := m ((c : Thread nD τ).loc main_arg4)
/-- The last weight. -/
abbrev Wo : FVec Ideal S1024x1024 .f32 := m ((c : Thread nD τ).loc main_arg5)
end

theorem index0 : ∀ t : Fin cfg0.N, (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = t.val ∧ win0_6.index t 1 = 0)
    ∧ (win0_7.index t 0 = t.val ∧ win0_7.index t 1 = 0)
    ∧ (win0_8.index t 0 = t.val ∧ win0_8.index t 1 = 0)
    ∧ (win0_9.index t 0 = t.val ∧ win0_9.index t 1 = 0)
    ∧ (win0_10.index t 0 = t.val ∧ win0_10.index t 1 = 0) :=
  (by decide +kernel : ∀ t : Fin grid0.N, (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = t.val ∧ win0_6.index t 1 = 0)
    ∧ (win0_7.index t 0 = t.val ∧ win0_7.index t 1 = 0)
    ∧ (win0_8.index t 0 = t.val ∧ win0_8.index t 1 = 0)
    ∧ (win0_9.index t 0 = t.val ∧ win0_9.index t 1 = 0)
    ∧ (win0_10.index t 0 = t.val ∧ win0_10.index t 1 = 0))

theorem rows : 4096 = cfg0.N * 1024 := by
  show 4096 = grid0.N * 1024
  rw [Gen.N_0]

theorem V_v0 (c : Dev nD) : (V m c main_v0 : S1024x1024.Idx → EReal) = Wq m c := by
  unfold V
  after_results
  rfl

theorem V_v1 (c : Dev nD) : (V m c main_v1 : S256x1024.Idx → EReal) = K m c := by
  unfold V
  after_results
  rfl

theorem V_v2 (c : Dev nD) : (V m c main_v2 : S256x1024.Idx → EReal) = Vv m c := by
  unfold V
  after_results
  rfl

theorem V_v3 (c : Dev nD) : (V m c main_v3 : S1024x1024.Idx → EReal) = Wo m c := by
  unfold V
  after_results
  rfl

theorem iblk0 (c : Dev nD) (t : Fin cfg0.N) (a : Fin 1024) (b : Fin 1024) : (iblk m c 0 t : S1024x1024.Idx → EReal) (ix2 a b) = X m c (ix2 (row t a rows) b) := by
  unfold iblk
  rw [View.read_apply]
  refine Eq.trans ?_ (congrFun (V_main_arg0 m c) _)
  have h := (index0 t).1
  refine congrArg (V m c main_arg0) (ixEq ?_ ?_)
  · show win0_0.index t 0 * 1024 + 1 * a.val = t.val * 1024 + a.val
    rw [h.1]; omega
  · show win0_0.index t 1 * 1024 + 1 * b.val = b.val
    rw [h.2]; omega

theorem iblk1 (c : Dev nD) (t : Fin cfg0.N) (a : Fin 1) (b : Fin 1024) : (iblk m c 1 t : S1x1024.Idx → EReal) (ix2 a b) = G m c (ix2 a b) := by
  unfold iblk
  rw [View.read_apply]
  refine Eq.trans ?_ (congrFun (V_main_arg1 m c) _)
  have h := (index0 t).2.1
  refine congrArg (V m c main_arg1) (ixEq ?_ ?_)
  · show win0_1.index t 0 * 1 + 1 * a.val = a.val
    rw [h.1]; omega
  · show win0_1.index t 1 * 1024 + 1 * b.val = b.val
    rw [h.2]; omega

theorem iblk2 (c : Dev nD) (t : Fin cfg0.N) (a : Fin 1024) (b : Fin 1024) : (iblk m c 2 t : S1024x1024.Idx → EReal) (ix2 a b) = Wq m c (ix2 a b) := by
  unfold iblk
  rw [View.read_apply]
  refine Eq.trans ?_ (congrFun (V_v0 m c) _)
  have h := (index0 t).2.2.1
  refine congrArg (V m c main_v0) (ixEq ?_ ?_)
  · show win0_2.index t 0 * 1024 + 1 * a.val = a.val
    rw [h.1]; omega
  · show win0_2.index t 1 * 1024 + 1 * b.val = b.val
    rw [h.2]; omega

theorem iblk3 (c : Dev nD) (t : Fin cfg0.N) (a : Fin 256) (b : Fin 1024) : (iblk m c 3 t : S256x1024.Idx → EReal) (ix2 a b) = K m c (ix2 a b) := by
  unfold iblk
  rw [View.read_apply]
  refine Eq.trans ?_ (congrFun (V_v1 m c) _)
  have h := (index0 t).2.2.2.1
  refine congrArg (V m c main_v1) (ixEq ?_ ?_)
  · show win0_3.index t 0 * 256 + 1 * a.val = a.val
    rw [h.1]; omega
  · show win0_3.index t 1 * 1024 + 1 * b.val = b.val
    rw [h.2]; omega

theorem iblk4 (c : Dev nD) (t : Fin cfg0.N) (a : Fin 256) (b : Fin 1024) : (iblk m c 4 t : S256x1024.Idx → EReal) (ix2 a b) = Vv m c (ix2 a b) := by
  unfold iblk
  rw [View.read_apply]
  refine Eq.trans ?_ (congrFun (V_v2 m c) _)
  have h := (index0 t).2.2.2.2.1
  refine congrArg (V m c main_v2) (ixEq ?_ ?_)
  · show win0_4.index t 0 * 256 + 1 * a.val = a.val
    rw [h.1]; omega
  · show win0_4.index t 1 * 1024 + 1 * b.val = b.val
    rw [h.2]; omega

theorem iblk5 (c : Dev nD) (t : Fin cfg0.N) (a : Fin 1024) (b : Fin 1024) : (iblk m c 5 t : S1024x1024.Idx → EReal) (ix2 a b) = Wo m c (ix2 a b) := by
  unfold iblk
  rw [View.read_apply]
  refine Eq.trans ?_ (congrFun (V_v3 m c) _)
  have h := (index0 t).2.2.2.2.2.1
  refine congrArg (V m c main_v3) (ixEq ?_ ?_)
  · show win0_5.index t 0 * 1024 + 1 * a.val = a.val
    rw [h.1]; omega
  · show win0_5.index t 1 * 1024 + 1 * b.val = b.val
    rw [h.2]; omega

theorem hNorm_at (x : FVec Ideal S4096x1024 .f32) (g : FVec Ideal S1x1024 .f32) (i : Fin 4096) (j : Fin 1024) :
    hNorm x g (ix2 i j) = x (ix2 i j) * Ideal.rsqrt (meanSq 1024 fun k => x (ix2 i k)) * g (ix2 0 j) := by
  rw [hNorm_apply, hScale_apply]

theorem hScale_at (x : FVec Ideal S4096x1024 .f32) (i : Fin 4096) (j : Fin 1) : hScale x (ix2 i j) = Ideal.rsqrt (meanSq 1024 fun k => x (ix2 i k)) := by
  obtain rfl : j = 0 := Subsingleton.elim _ _
  exact hScale_apply x i

theorem norm_at (c : Dev nD) (t : Fin cfg0.N) (a j : Fin 1024) : k0_pay4 (F := Ideal) (iblk m c 0 t) (iblk m c 1 t) (ix2 a j)
    = hNorm (X m c) (G m c) (ix2 (row t a rows) j) :=
  (pay4_eq (iblk0 m c t a) (iblk1 m c t 0) j).trans (hNorm_at _ _ _ j).symm

theorem qry_at (c : Dev nD) (t : Fin cfg0.N) (a j : Fin 1024) : (k0_pay5 (F := Ideal) (iblk m c 0 t) (iblk m c 1 t) (iblk m c 2 t)) (ix2 a j) = qry (X m c) (G m c) (Wq m c) (row t a rows) j :=
  (pay5_eq (iblk0 m c t a) (iblk1 m c t 0) (fun k => iblk2 m c t k j)).trans (Finset.sum_congr rfl fun k _ =>
    congrArg (· * Wq m c (ix2 k j)) (hNorm_at (X m c) (G m c) (row t a rows) k).symm)

theorem att_at (c : Dev nD) (t : Fin cfg0.N) (a j : Fin 1024) : (wOut (k0_pay5 (F := Ideal) (iblk m c 0 t) (iblk m c 1 t) (iblk m c 2 t)) (iblk m c 3 t) (iblk m c 4 t)) (ix2 a j) = att (X m c) (G m c) (Wq m c) (K m c) (Vv m c) (row t a rows) j :=
  wOut_apply (qry_at m c t) (iblk3 m c t) (iblk4 m c t) a j

theorem x1_at (c : Dev nD) (t : Fin cfg0.N) (a j : Fin 1024) : k0_pay2 (F := Ideal) (iblk m c 0 t) (wOut (k0_pay5 (F := Ideal) (iblk m c 0 t) (iblk m c 1 t) (iblk m c 2 t)) (iblk m c 3 t) (iblk m c 4 t)) (iblk m c 5 t) (ix2 a j)
    = Cert.ReferenceAfIdeal.Read.val_main_v42 (F := Ideal) (X m c) (G m c) (Wq m c) (K m c) (Vv m c) (Wo m c) (ix2 (row t a rows) j) :=
  (pay2_eq (iblk0 m c t a) (att_at m c t a) (fun k => iblk5 m c t k j)).trans (v42_apply _ _ _ _ _ _ _ j).symm

theorem result6 (c : Dev nD) (i : Fin 4096) (j : Fin 1024) : ((dats m 0 c).arrAt 6 cfg0.N : S4096x1024.Idx → EReal) (ix2 i j)
    = Cert.ReferenceAfIdeal.Read.val_main_v42 (F := Ideal) (X m c) (G m c) (Wq m c) (K m c) (Vv m c) (Wo m c) (ix2 i j) := by
  obtain ⟨t, a, rfl⟩ := row_surj rows i
  have hb := congrFun (blocks6 m c t (flush0_6 t)) (ix2 a j)
  rw [View.read_apply, flushed6] at hb
  have h := (index0 t).2.2.2.2.2.2.1
  have he : ((cfg0.win 6).blk t).view.emb (ix2 a j) = (ix2 (row t a rows) j : S4096x1024.Idx) := by
    refine ixEq ?_ ?_
    · show win0_6.index t 0 * 1024 + 1 * a.val = t.val * 1024 + a.val
      rw [h.1]; omega
    · show win0_6.index t 1 * 1024 + 1 * j.val = j.val
      rw [h.2]; omega
  rw [he] at hb
  refine hb.trans (Eq.trans (congrFun (?_ : (outsAt0 m c t).1 = _) (ix2 a j)) (x1_at m c t a j))
  rw [outs_A m c t]

theorem result7 (c : Dev nD) (i : Fin 4096) (j : Fin 1024) : ((dats m 0 c).arrAt 7 cfg0.N : S4096x1024.Idx → EReal) (ix2 i j)
    = Cert.ReferenceAfIdeal.Read.val_main_v43 (F := Ideal) (X m c) (G m c) (ix2 i j) := by
  obtain ⟨t, a, rfl⟩ := row_surj rows i
  have hb := congrFun (blocks7 m c t (flush0_7 t)) (ix2 a j)
  rw [View.read_apply, flushed7] at hb
  have h := (index0 t).2.2.2.2.2.2.2.1
  have he : ((cfg0.win 7).blk t).view.emb (ix2 a j) = (ix2 (row t a rows) j : S4096x1024.Idx) := by
    refine ixEq ?_ ?_
    · show win0_7.index t 0 * 1024 + 1 * a.val = t.val * 1024 + a.val
      rw [h.1]; omega
    · show win0_7.index t 1 * 1024 + 1 * j.val = j.val
      rw [h.2]; omega
  rw [he] at hb
  refine hb.trans (Eq.trans (congrFun (?_ : (outsAt0 m c t).2.1 = _) (ix2 a j)) (norm_at m c t a j))
  rw [outs_A m c t]

theorem result8 (c : Dev nD) (i : Fin 4096) (j : Fin 1) : ((dats m 0 c).arrAt 8 cfg0.N : S4096x1.Idx → EReal) (ix2 i j)
    = Cert.ReferenceAfIdeal.Read.val_main_v40 (F := Ideal) (X m c) (ix2 i j) := by
  obtain ⟨t, a, rfl⟩ := row_surj rows i
  have hb := congrFun (blocks8 m c t (flush0_8 t)) (ix2 a j)
  rw [View.read_apply, flushed8] at hb
  have h := (index0 t).2.2.2.2.2.2.2.2.1
  have he : ((cfg0.win 8).blk t).view.emb (ix2 a j) = (ix2 (row t a rows) j : S4096x1.Idx) := by
    refine ixEq ?_ ?_
    · show win0_8.index t 0 * 1024 + 1 * a.val = t.val * 1024 + a.val
      rw [h.1]; omega
    · show win0_8.index t 1 * 1 + 1 * j.val = j.val
      rw [h.2]; omega
  rw [he] at hb
  refine hb.trans (Eq.trans (congrFun (?_ : (outsAt0 m c t).2.2.1 = _) (ix2 a j)) ((pay3_eq (iblk0 m c t a) j).trans (hScale_at _ _ _).symm))
  rw [outs_A m c t]

theorem result9 (c : Dev nD) (i : Fin 4096) (j : Fin 1024) : ((dats m 0 c).arrAt 9 cfg0.N : S4096x1024.Idx → EReal) (ix2 i j)
    = Cert.ReferenceAfIdeal.Read.val_main_v44 (F := Ideal) (X m c) (G m c) (Wq m c) (ix2 i j) := by
  obtain ⟨t, a, rfl⟩ := row_surj rows i
  have hb := congrFun (blocks9 m c t (flush0_9 t)) (ix2 a j)
  rw [View.read_apply, flushed9] at hb
  have h := (index0 t).2.2.2.2.2.2.2.2.2.1
  have he : ((cfg0.win 9).blk t).view.emb (ix2 a j) = (ix2 (row t a rows) j : S4096x1024.Idx) := by
    refine ixEq ?_ ?_
    · show win0_9.index t 0 * 1024 + 1 * a.val = t.val * 1024 + a.val
      rw [h.1]; omega
    · show win0_9.index t 1 * 1024 + 1 * j.val = j.val
      rw [h.2]; omega
  rw [he] at hb
  refine hb.trans (Eq.trans (congrFun (?_ : (outsAt0 m c t).2.2.2.1 = _) (ix2 a j)) ((qry_at m c t a j).trans (v12_apply (X m c) (G m c) (Wq m c) _ j).symm))
  rw [outs_A m c t]

theorem result10 (c : Dev nD) (i : Fin 4096) (j : Fin 1024) : ((dats m 0 c).arrAt 10 cfg0.N : S4096x1024.Idx → EReal) (ix2 i j)
    = Cert.ReferenceAfIdeal.Read.val_main_v45 (F := Ideal) (X m c) (G m c) (Wq m c) (K m c) (Vv m c) (ix2 i j) := by
  obtain ⟨t, a, rfl⟩ := row_surj rows i
  have hb := congrFun (blocks10 m c t (flush0_10 t)) (ix2 a j)
  rw [View.read_apply, flushed10] at hb
  have h := (index0 t).2.2.2.2.2.2.2.2.2.2
  have he : ((cfg0.win 10).blk t).view.emb (ix2 a j) = (ix2 (row t a rows) j : S4096x1024.Idx) := by
    refine ixEq ?_ ?_
    · show win0_10.index t 0 * 1024 + 1 * a.val = t.val * 1024 + a.val
      rw [h.1]; omega
    · show win0_10.index t 1 * 1024 + 1 * j.val = j.val
      rw [h.2]; omega
  rw [he] at hb
  refine hb.trans (Eq.trans (congrFun (?_ : (outsAt0 m c t).2.2.2.2 = _) (ix2 a j)) ((att_at m c t a j).trans (v32_apply (X m c) (G m c) (Wq m c) (K m c) (Vv m c) _ j).symm))
  rw [outs_A m c t]

end Cert.KernelAfIdeal.Hand
-- ==== Proof.AfClaim.lean ====
/- The attention and its norm: the claim against the reference. -/
module

public import proofs.«01_k».proof.Defs
public import proofs.«01_k».proof.Proof.Gen.KernelAf
public import proofs.«01_k».proof.Proof.Af

@[expose] public section

noncomputable section

open Idealize.ShloMosaic Idealize.ShloMosaic.TcCoe Idealize.SL.Sem Idealize.ShloMosaic.ValueIdx

namespace Cert.Hand

theorem frame_reference_Af : Cert.quiescent_ReferenceAfIdeal := fun m ρ _ =>
  (θ_run Cert.ReferenceAfIdeal.defs _ _).mono (fun r h => ⟨fun c => (h c).2.2.2.2.2, sem_eq_zero_of_no_sems (by decide) r.2⟩)
    (Cert.ReferenceAfIdeal.Hand.run m ρ)

set_option maxHeartbeats 4000000 in
open Cert.KernelAfIdeal in
theorem algebraic_Af : Cert.algebraic_KernelAfIdeal_ReferenceAfIdeal := by
  intro m g m' g' _ hargs
  let x0 (c : Dev nD) := m ((c.tc : Thread nD τ).loc main_arg0)
  let x1 (c : Dev nD) := m ((c.tc : Thread nD τ).loc main_arg1)
  let x2 (c : Dev nD) := m ((c.tc : Thread nD τ).loc main_arg2)
  let x3 (c : Dev nD) := m ((c.tc : Thread nD τ).loc main_arg3)
  let x4 (c : Dev nD) := m ((c.tc : Thread nD τ).loc main_arg4)
  let x5 (c : Dev nD) := m ((c.tc : Thread nD τ).loc main_arg5)
  refine ⟨fun c => Cert.ReferenceAfIdeal.Read.val_main_v42 (F := Ideal) (x0 c) (x1 c) (x2 c) (x3 c) (x4 c) (x5 c),
    fun c => Cert.ReferenceAfIdeal.Read.val_main_v43 (F := Ideal) (x0 c) (x1 c),
    fun c => Cert.ReferenceAfIdeal.Read.val_main_v40 (F := Ideal) (x0 c),
    fun c => Cert.ReferenceAfIdeal.Read.val_main_v44 (F := Ideal) (x0 c) (x1 c) (x2 c),
    fun c => Cert.ReferenceAfIdeal.Read.val_main_v45 (F := Ideal) (x0 c) (x1 c) (x2 c) (x3 c) (x4 c), ?_, ?_⟩
  · refine (θ_run defs _ _).mono (fun r h c => ⟨(h c).1.trans ?_, (h c).2.1.trans ?_, (h c).2.2.1.trans ?_, (h c).2.2.2.1.trans ?_, (h c).2.2.2.2.1.trans ?_, (h c).2.2.2.2.2⟩) (Value.run_blocks m g)
    · funext j
      obtain ⟨a, b, rfl⟩ : ∃ (a : Fin 4096) (b : Fin 1024), j = ix2 a b := ⟨j 0, j 1, eq_ix2 j⟩
      exact Hand.result6 m c a b
    · funext j
      obtain ⟨a, b, rfl⟩ : ∃ (a : Fin 4096) (b : Fin 1024), j = ix2 a b := ⟨j 0, j 1, eq_ix2 j⟩
      exact Hand.result7 m c a b
    · funext j
      obtain ⟨a, b, rfl⟩ : ∃ (a : Fin 4096) (b : Fin 1), j = ix2 a b := ⟨j 0, j 1, eq_ix2 j⟩
      exact Hand.result8 m c a b
    · funext j
      obtain ⟨a, b, rfl⟩ : ∃ (a : Fin 4096) (b : Fin 1024), j = ix2 a b := ⟨j 0, j 1, eq_ix2 j⟩
      exact Hand.result9 m c a b
    · funext j
      obtain ⟨a, b, rfl⟩ : ∃ (a : Fin 4096) (b : Fin 1024), j = ix2 a b := ⟨j 0, j 1, eq_ix2 j⟩
      exact Hand.result10 m c a b
  · refine (θ_run Cert.ReferenceAfIdeal.defs _ _).mono (fun r h c => ⟨(h c).1.trans ?_, (h c).2.1.trans ?_, (h c).2.2.1.trans ?_, (h c).2.2.2.1.trans ?_, (h c).2.2.2.2.1.trans ?_, (h c).2.2.2.2.2⟩)
      (Cert.ReferenceAfIdeal.Hand.run m' g')
    · rw [(hargs c).1, (hargs c).2.1, (hargs c).2.2.1, (hargs c).2.2.2.1, (hargs c).2.2.2.2.1, (hargs c).2.2.2.2.2]
    · rw [(hargs c).1, (hargs c).2.1]
    · rw [(hargs c).1]
    · rw [(hargs c).1, (hargs c).2.1, (hargs c).2.2.1]
    · rw [(hargs c).1, (hargs c).2.1, (hargs c).2.2.1, (hargs c).2.2.2.1, (hargs c).2.2.2.2.1]

end Cert.Hand
-- ==== Proof.Gelu.lean ====
/- Gelu and its derivative: the form a kernel multiplies by, and the form of the chain rule. -/
module

public import proofs.«01_k».proof.Proof.Silu

@[expose] public section

noncomputable section

open Idealize.ShloMosaic

namespace Cert.Kit

/-- The root of two over pi, rounded. -/
def cRoot : EReal := Ideal.ofBits .f32 0x3F4C422A#32

/-- The factor of gelu's cubic term, and three times it. -/
def cCub : EReal := ((8943 / 200000 : ℝ) : EReal)
@[inherit_doc cCub]
def cCub3 : EReal := ((26829 / 200000 : ℝ) : EReal)

theorem cRoot_real : IsReal cRoot := by
  unfold cRoot
  refine ⟨13386282 / 16777216, ?_⟩
  simp [Ideal.ofBits, Ideal.ieee, -EReal.coe_mul]; norm_num

theorem c44715 : Ideal.ofBits .f32 0x472EAB00#32 = ((44715 : ℝ) : EReal) := by
  simp [Ideal.ofBits, Ideal.ieee, -EReal.coe_mul]; norm_num

theorem cMillion : Ideal.ofBits .f32 0x49742400#32 = ((1000000 : ℝ) : EReal) := by
  simp [Ideal.ofBits, Ideal.ieee, -EReal.coe_mul]; norm_num

theorem cThree : Ideal.ofBits .f32 0x40400000#32 = ((3 : ℝ) : EReal) := by
  simp [Ideal.ofBits, Ideal.ieee, -EReal.coe_mul]; norm_num

/-- One half, as the programs spell it. -/
def cHf : EReal := Ideal.ofBits .f32 0x3F000000#32

/-- Gelu as a kernel computes it. -/
def gel (x : EReal) : EReal := cHf * x * (cOne + Ideal.tanh (cRoot * (x + cCub * x * x * x)))

/-- The tangent in the derivative of gelu, as a kernel computes it. -/
def gTan (x : EReal) : EReal := Ideal.tanh (cRoot * (x + cCub * x * (x * x)))

/-- The derivative of gelu as a kernel computes it. -/
def gSlope (x : EReal) : EReal :=
  cHf * (cOne + gTan x) + cHf * x * (cOne - gTan x * gTan x) * cRoot * (cOne + cCub3 * (x * x))

/-- The tangent as a reference computes it. -/
def rTan (x : EReal) : EReal :=
  Ideal.tanh (cRoot * (x + Ideal.div (x * x * x * Ideal.ofBits .f32 0x472EAB00#32) (Ideal.ofBits .f32 0x49742400#32)))

/-- Gelu as a reference computes it. -/
def rGel (x : EReal) : EReal := x * (cHf * (cOne + rTan x))

/-- The inner factor of the chain rule. -/
def rIn (x d : EReal) : EReal := cRoot * (cHf * (x * d) * ((cOne + rTan x) * (cOne - rTan x)))

/-- The chain rule through gelu, as a reference computes it. -/
def rBack (x d : EReal) : EReal := d * (cHf * (cOne + rTan x)) + rIn x d
  + Ideal.div (rIn x d) (Ideal.ofBits .f32 0x49742400#32) * Ideal.ofBits .f32 0x472EAB00#32 * (Ideal.ofBits .f32 0x40400000#32 * (x * x))

theorem rTan_coe (x : ℝ) (k : ℝ) (hk : cRoot = (k : EReal)) :
    rTan x = ((Real.tanh (k * (x + x * x * x * 44715 / 1000000)) : ℝ) : EReal) := by
  unfold rTan
  rw [hk, c44715, cMillion]
  simp only [← EReal.coe_mul]
  rw [div_real _ _ (by norm_num)]
  simp only [← EReal.coe_mul, ← EReal.coe_add]
  rw [Ideal.tanh_coe]

theorem gTan_eq {x : EReal} (h : IsReal x) : gTan x = rTan x := by
  obtain ⟨x, rfl⟩ := h
  obtain ⟨k, hk⟩ := cRoot_real
  rw [rTan_coe x k hk]
  unfold gTan cCub
  rw [hk]
  simp only [← EReal.coe_mul, ← EReal.coe_add]
  rw [Ideal.tanh_coe]
  congr 2
  ring

theorem gel_eq {x : EReal} (h : IsReal x) : gel x = rGel x := by
  obtain ⟨x, rfl⟩ := h
  obtain ⟨k, hk⟩ := cRoot_real
  unfold rGel gel cHf cCub
  rw [rTan_coe x k hk, hk, cHalf, cOne_eq]
  simp only [← EReal.coe_mul, ← EReal.coe_add]
  rw [Ideal.tanh_coe]
  simp only [← EReal.coe_mul, ← EReal.coe_add]
  have h : x + 8943 / 200000 * x * x * x = x + x * x * x * 44715 / 1000000 := by ring
  rw [h]
  congr 1
  ring

theorem gel_real {x : EReal} (h : IsReal x) : IsReal (gel x) := by
  rw [gel_eq h]
  obtain ⟨x, rfl⟩ := h
  obtain ⟨k, hk⟩ := cRoot_real
  unfold rGel cHf
  rw [rTan_coe x k hk, cHalf, cOne_eq]
  simp only [← EReal.coe_mul, ← EReal.coe_add]
  exact ⟨_, rfl⟩

/-- The derivative of gelu times a cotangent is the chain rule. -/
theorem gel_back {x d : EReal} (h : IsReal x) (hd : IsReal d) : d * gSlope x = rBack x d := by
  unfold gSlope
  rw [gTan_eq h]
  obtain ⟨x, rfl⟩ := h
  obtain ⟨d, rfl⟩ := hd
  obtain ⟨k, hk⟩ := cRoot_real
  unfold rBack rIn cHf cCub3
  rw [rTan_coe x k hk, hk, cHalf, cOne_eq, c44715, cMillion, cThree]
  generalize Real.tanh _ = T
  simp only [← EReal.coe_mul, ← EReal.coe_add, ← EReal.coe_sub]
  rw [div_real _ _ (by norm_num)]
  simp only [← EReal.coe_mul, ← EReal.coe_add, ← EReal.coe_sub]
  congr 1
  ring

end Cert.Kit
-- ==== Proof.GmSpec.lean ====
/- The gradient of the gate with a masked product over the rows of a block: its results row by row, whatever the rows are numbered by. -/
module

public import proofs.«01_k».proof.Proof.Gelu
public import proofs.«01_k».proof.Proof.Kit

@[expose] public section

noncomputable section

open Idealize.ShloMosaic

namespace Cert.Kit

/-- A column of a group. -/
abbrev gcol (g : Fin 4) (c : Fin 128) : Fin 512 := ⟨128 * g.val + c.val, by omega⟩

variable {R : Type} (u v : R → Fin 512 → EReal) (d : R → Fin 1024 → EReal) (o : Fin 512 → Fin 1024 → EReal)
  (w : Fin 4 → Fin 128 → Fin 128 → EReal) (b : Fin 4 → Fin 128 → EReal)

/-- The gated half, before its norm. -/
def gvRow (r : R) (k : Fin 512) : EReal := gel (v r k)

/-- The normed half. -/
def gnEl (r : R) (k : Fin 512) : EReal := lnRow 512 (gvRow v r) k

/-- The cotangent of the gate's result. -/
def goEl (r : R) (k : Fin 512) : EReal := ∑ l, d r l * o k l

/-- The cotangent of the product over the rows. -/
def gsEl (r : R) (k : Fin 512) : EReal := goEl d o r k * gel (u r k)

/-- The product over the rows of a block. -/
def gpEl (ρ : Fin 128 → R) (g : Fin 4) (i c : Fin 128) : EReal := ∑ j, w g i j * gnEl v (ρ j) (gcol g c) + b g i

/-- The gradient of the gate's first half. -/
def guEl (ρ : Fin 128 → R) (g : Fin 4) (i c : Fin 128) : EReal :=
  goEl d o (ρ i) (gcol g c) * gpEl v w b ρ g i c * gSlope (u (ρ i) (gcol g c))

/-- The cotangent of the normed half. -/
def gnBack (ρ : Fin 128 → R) (j : Fin 128) (k : Fin 512) : EReal :=
  ∑ i, w ⟨k.val / 128, by omega⟩ i j * gsEl u d o (ρ i) k

/-- A block's part of the bias's gradient. -/
def gbEl (ρ : Fin 128 → R) (g : Fin 4) (i : Fin 128) : EReal := ∑ c, gsEl u d o (ρ i) (gcol g c)

/-- A block's part of the weight's gradient. -/
def gwEl (ρ : Fin 128 → R) (g : Fin 4) (i j : Fin 128) : EReal := ∑ c, gsEl u d o (ρ i) (gcol g c) * gnEl v (ρ j) (gcol g c)

/-- The derivative of the norm on a row less its mean. -/
def lnBack {n : ℕ} (c : ℝ) (x a : Fin n → EReal) (j : Fin n) : EReal :=
  Ideal.rsqrt (meanSq c x) * (a j - Ideal.div (∑ k, a k) (c : EReal)
        - x j * Ideal.rsqrt (meanSq c x) * Ideal.div (∑ k, a k * (x k * Ideal.rsqrt (meanSq c x))) (c : EReal))

/-- The gradient of the gate's second half. -/
def gvEl (ρ : Fin 128 → R) (j : Fin 128) (k : Fin 512) : EReal :=
  lnBack 512 (ctr 512 (gvRow v (ρ j))) (gnBack u d o w ρ j) k * gSlope (v (ρ j) k)

variable {u v d o w b}

section
variable (hu : ∀ r k, IsReal (u r k)) (hv : ∀ r k, IsReal (v r k)) (hd : ∀ r k, IsReal (d r k)) (ho : ∀ k l, IsReal (o k l))
  (hw : ∀ g i j, IsReal (w g i j)) (hb : ∀ g i, IsReal (b g i))

include hd ho in
theorem goEl_real (r : R) (k : Fin 512) : IsReal (goEl d o r k) := IsReal.sum _ fun l => (hd r l).mul (ho k l)

include hu hd ho in
theorem gsEl_real (r : R) (k : Fin 512) : IsReal (gsEl u d o r k) := (goEl_real hd ho r k).mul (gel_real (hu r k))

include hv in
theorem gvRow_real (r : R) (k : Fin 512) : IsReal (gvRow v r k) := gel_real (hv r k)

include hv in
theorem gnEl_real (r : R) (k : Fin 512) : IsReal (gnEl v r k) := by
  have h := IsReal.ctr (c := 512) (by norm_num) (gvRow_real hv r)
  exact (h k).mul (IsReal.scale (by norm_num) h)

include hv hw hb in
theorem gpEl_real (ρ : Fin 128 → R) (g : Fin 4) (i c : Fin 128) : IsReal (gpEl v w b ρ g i c) :=
  (IsReal.sum _ fun j => (hw g i j).mul (gnEl_real hv _ _)).add (hb g i)

include hu hd ho hw in
theorem gnBack_real (ρ : Fin 128 → R) (j : Fin 128) (k : Fin 512) : IsReal (gnBack u d o w ρ j k) :=
  IsReal.sum _ fun i => (hw _ i j).mul (gsEl_real hu hd ho _ _)

include hu hv hd ho hw hb in
/-- The first half's gradient is the chain rule through gelu. -/
theorem guEl_chain (ρ : Fin 128 → R) (g : Fin 4) (i c : Fin 128) :
    guEl u v d o w b ρ g i c = rBack (u (ρ i) (gcol g c)) (goEl d o (ρ i) (gcol g c) * gpEl v w b ρ g i c) :=
  gel_back (hu _ _) ((goEl_real hd ho _ _).mul (gpEl_real hv hw hb _ _ _ _))

/-- The chain rule through the norm. -/
def lnFull (x a : Fin 512 → EReal) (k : Fin 512) : EReal := lnChain 512 x a k + Ideal.div (∑ l, -lnChain 512 x a l) ((512 : ℝ) : EReal)

include hu hv hd ho hw in
/-- The second half's gradient is the chain rule through the norm and through gelu. -/
theorem gvEl_chain (ρ : Fin 128 → R) (j : Fin 128) (k : Fin 512) :
    gvEl u v d o w ρ j k = rBack (v (ρ j) k) (lnFull (ctr 512 (gvRow v (ρ j))) (gnBack u d o w ρ j) k) := by
  have hx := IsReal.ctr (c := 512) (by norm_num) (gvRow_real hv (ρ j))
  have ha := gnBack_real hu hd ho hw ρ j
  have h0 := centred (c := 512) (by norm_num) (by norm_num) (gvRow_real hv (ρ j))
  have e : lnBack 512 (ctr 512 (gvRow v (ρ j))) (gnBack u d o w ρ j) k = lnFull (ctr 512 (gvRow v (ρ j))) (gnBack u d o w ρ j) k :=
    ln_row (c := 512) (by norm_num) hx ha h0 k
  have hr : IsReal (lnBack 512 (ctr 512 (gvRow v (ρ j))) (gnBack u d o w ρ j) k) := by
    have hs := IsReal.scale (c := 512) (by norm_num) hx
    exact hs.mul (((ha k).sub ((IsReal.sum _ fun l => ha l).div_coe (by norm_num))).sub
      (((hx k).mul hs).mul ((IsReal.sum _ fun l => (ha l).mul ((hx l).mul hs)).div_coe (by norm_num))))
  unfold gvEl
  rw [gel_back (hv _ _) hr, e]
end

end Cert.Kit
-- ==== Proof.GmPay.lean ====
/- The gradient of the gate with a masked product: the kernel's expressions, read at an index. -/
module

public import proofs.«01_k».proof.Proof.GmSpec
public import proofs.«01_k».proof.Proof.Chunks
public import proofs.«01_k».proof.Proof.Gen.KernelGmIdeal.Skeleton
public import Idealize.ShloMosaic.Lib.StableHlo.Run

@[expose] public section

set_option maxRecDepth 16384

noncomputable section

open Idealize.ShloMosaic Idealize.ShloMosaic.TcCoe Idealize.SL.Sem Idealize.ShloMosaic.ValueIdx Cert.Kit

namespace Cert.KernelGmIdeal.Hand

open Cert.KernelGmIdeal Cert.KernelGmIdeal.Gen

/-- A block of 128 rows and a group's columns. -/
def blk {φ : FTy} (x : FVec Ideal S512x512 φ) (o p : ℕ) (h : S512x512.Slices ![o, p] S128x128) : FVec Ideal S128x128 φ :=
  extractStridedSlice S128x128 ![o, p] x h

theorem blk_apply {φ : FTy} (x : FVec Ideal S512x512 φ) {o p : ℕ} (h : S512x512.Slices ![o, p] S128x128) (n g : Fin 4) (ho : o = 128 * n.val)
    (hp : p = 128 * g.val) (i j : Fin 128) : blk x o p h (ix2 i j) = x (ix2 (gcol n i) (gcol g j)) := by
  subst ho hp
  exact extractStridedSlice_apply _ x h _ _ fun a => match a with
    | ⟨0, _⟩ => rfl
    | ⟨1, _⟩ => rfl

/-- The derivative of gelu on a block. -/
def slopes (x : FVec Ideal S128x128 .f32) : FVec Ideal S128x128 .f32 :=
  have T : FVec Ideal S128x128 .f32 := tanh (mulf (broadcast S128x128 (Scalar.ofBits .f32 0x3F4C422A#32))
    (addf x (mulf (mulf (broadcast S128x128 (Named.named κ "cubic" 0x3D372713#32)) x) (mulf x x))))
  addf (mulf (broadcast S128x128 (Scalar.ofBits .f32 0x3F000000#32)) (addf (broadcast S128x128 (Scalar.ofBits .f32 0x3F800000#32)) T))
    (mulf (mulf (mulf (mulf (broadcast S128x128 (Scalar.ofBits .f32 0x3F000000#32)) x)
        (subf (broadcast S128x128 (Scalar.ofBits .f32 0x3F800000#32)) (mulf T T))) (broadcast S128x128 (Scalar.ofBits .f32 0x3F4C422A#32)))
      (addf (broadcast S128x128 (Scalar.ofBits .f32 0x3F800000#32)) (mulf (broadcast S128x128 (Named.named κ "cubic3" 0x3E095D4F#32)) (mulf x x))))

theorem slopes_apply (x : FVec Ideal S128x128 .f32) (i : S128x128.Idx) : slopes x i = gSlope (x i) := rfl

section
variable (A : Vec Ideal S512x512 .f32) (U D : FVec Ideal S512x512 .f32) (N : FVec Ideal S512x512 .bf16) (wm wt : FVec Ideal S128x128 .bf16)
  (bl : Vec Ideal S1x128x1 .f32)

/-- The first half's gradient on a block. -/
def cDu (o p : ℕ) (h : S512x512.Slices ![o, p] S128x128) : FVec Ideal S128x128 .bf16 :=
  truncf .bf16 (mulf (mulf (blk (φ := .f32) D o p h) (addf (matmul dot_S128x128_S128x128_S128x128_1_0_0_1_n_n none wm (blk (φ := .bf16) N o p h)
      (constant S128x128 .f32 0x00000000#32))
    (broadcastTo S128x128 (shapeCast S128x1 bl shapeCasts_S1x128x1_S128x1) broadcasts_S128x1_S128x128))) (slopes (blk (φ := .f32) A o p h))) bitsLt_bf16_f32

/-- The product's cotangent on a block. -/
def cS (o p : ℕ) (h : S512x512.Slices ![o, p] S128x128) : FVec Ideal S128x128 .f32 := mulf (blk (φ := .f32) D o p h) (blk (φ := .f32) U o p h)

/-- Its rows' sums. -/
def cR (o p : ℕ) (h : S512x512.Slices ![o, p] S128x128) : FVec Ideal S128x1 .f32 :=
  shapeCast S128x1 (multiReduction .add [1] S128 (cS U D o p h) 0x00000000#32 reduces_S128x128_S128 (.inl rfl) rfl) shapeCasts_S128_S128x1

/-- Its products with the normed half. -/
def cP (o p : ℕ) (h : S512x512.Slices ![o, p] S128x128) : FVec Ideal S128x128 .f32 :=
  matmul dot_S128x128_S128x128_S128x128_1_1_0_0_n_n none (truncf .bf16 (cS U D o p h) bitsLt_bf16_f32) (blk (φ := .bf16) N o p h) (constant S128x128 .f32 0x00000000#32)

/-- Its products with the weight. -/
def cV (o p : ℕ) (h : S512x512.Slices ![o, p] S128x128) : FVec Ideal S128x128 .f32 :=
  matmul dot_S128x128_S128x128_S128x128_1_0_0_1_n_n none wt (truncf .bf16 (cS U D o p h) bitsLt_bf16_f32) (constant S128x128 .f32 0x00000000#32)

variable (p : ℕ) (h0 : S512x512.Slices ![0, p] S128x128) (h1 : S512x512.Slices ![128, p] S128x128) (h2 : S512x512.Slices ![256, p] S128x128)
  (h3 : S512x512.Slices ![384, p] S128x128)

/-- What a group adds to the bias's gradient. -/
def pB (x : Vec Ideal S1x128x1 .f32) : FVec Ideal S1x128x1 .f32 :=
  shapeCast S1x128x1 (addf (shapeCast S128x1 x shapeCasts_S1x128x1_S128x1)
    (addf (addf (addf (addf (broadcast S128x1 (Scalar.ofBits .f32 0x00000000#32)) (cR U D 0 p h0)) (cR U D 128 p h1)) (cR U D 256 p h2)) (cR U D 384 p h3)))
    shapeCasts_S128x1_S1x128x1

/-- What a group adds to the weight's gradient. -/
def pW (μ : IVec S128x128 1) (x : Vec Ideal S1x128x128 .f32) : FVec Ideal S1x128x128 .f32 :=
  shapeCast S1x128x128 (addf (shapeCast S128x128 x shapeCasts_S1x128x128_S128x128)
    (select μ (addf (addf (addf (addf (broadcast S128x128 (Scalar.ofBits .f32 0x00000000#32)) (cP U D N 0 p h0)) (cP U D N 128 p h1)) (cP U D N 256 p h2))
      (cP U D N 384 p h3)) (broadcast S128x128 (Scalar.ofBits .f32 0x00000000#32)))) shapeCasts_S128x128_S1x128x128

/-- A group's cotangent of the normed half. -/
def pV : FVec Ideal S512x128 .f32 :=
  concatenate S512x128 0 [⟨S128x128, cV U D wt 0 p h0⟩, ⟨S128x128, cV U D wt 128 p h1⟩, ⟨S128x128, cV U D wt 256 p h2⟩, ⟨S128x128, cV U D wt 384 p h3⟩]
    concatenates_S128x128_S128x128_S128x128_S128x128_S512x128_d0
end

section
variable {U D : FVec Ideal S512x512 .f32} {N : FVec Ideal S512x512 .bf16}
  {u v : Fin 512 → Fin 512 → EReal} {d : Fin 512 → Fin 1024 → EReal} {ow : Fin 512 → Fin 1024 → EReal}
  {w : Fin 4 → Fin 128 → Fin 128 → EReal} {b : Fin 4 → Fin 128 → EReal}
  (hU : ∀ r k, U (ix2 r k) = gel (u r k)) (hD : ∀ r k, D (ix2 r k) = goEl d ow r k) (hN : ∀ r k, N (ix2 r k) = gnEl v r k)

include hU hD in
theorem cS_apply {o p : ℕ} (h : S512x512.Slices ![o, p] S128x128) (n g : Fin 4) (ho : o = 128 * n.val) (hp : p = 128 * g.val) (i c : Fin 128) :
    cS U D o p h (ix2 i c) = gsEl u d ow (gcol n i) (gcol g c) :=
  congrArg₂ (· * ·) ((blk_apply (φ := .f32) D h n g ho hp i c).trans (hD _ _)) ((blk_apply (φ := .f32) U h n g ho hp i c).trans (hU _ _))

include hU hD in
theorem cR_apply {o p : ℕ} (h : S512x512.Slices ![o, p] S128x128) (n g : Fin 4) (ho : o = 128 * n.val) (hp : p = 128 * g.val) (i : Fin 128) (z : Fin 1) :
    cR U D o p h (ix2 i z) = gbEl u d ow (gcol n) g i :=
  (castCol _ _ i z).trans ((sumCols _ _ _ _ _ i).trans (Finset.sum_congr rfl fun c _ => cS_apply hU hD h n g ho hp i c))

include hU hD hN in
theorem cP_apply {o p : ℕ} (h : S512x512.Slices ![o, p] S128x128) (n g : Fin 4) (ho : o = 128 * n.val) (hp : p = 128 * g.val) (i j : Fin 128) :
    cP U D N o p h (ix2 i j) = gwEl u v d ow (gcol n) g i j :=
  (mm11 (φ₁ := .bf16) (φ₂ := .bf16) _ none _ _ i j).trans (Finset.sum_congr rfl fun c _ =>
    congrArg₂ (· * ·) (cS_apply hU hD h n g ho hp i c) ((blk_apply (φ := .bf16) N h n g ho hp j c).trans (hN _ _)))

include hU hD in
theorem cV_apply {wt : FVec Ideal S128x128 .bf16} (g : Fin 4) (hw : ∀ i j, wt (ix2 j i) = w g i j) {o p : ℕ} (h : S512x512.Slices ![o, p] S128x128)
    (n : Fin 4) (ho : o = 128 * n.val) (hp : p = 128 * g.val) (j c : Fin 128) :
    cV U D wt o p h (ix2 j c) = gnBack u d ow w (gcol n) j (gcol g c) := by
  refine (mm10 (φ₁ := .bf16) (φ₂ := .bf16) _ none _ _ j c).trans (Finset.sum_congr rfl fun i _ =>
    congrArg₂ (· * ·) ((hw i j).trans ?_) (cS_apply hU hD h n g ho hp i c))
  congr 1
  exact Fin.ext (by show g.val = (128 * g.val + c.val) / 128; omega)

include hD hN in
theorem cDu_apply {A : Vec Ideal S512x512 .f32} (hA : ∀ r k, A (ix2 r k) = u r k) {wm : FVec Ideal S128x128 .bf16} {bl : Vec Ideal S1x128x1 .f32} (g : Fin 4)
    (hw : ∀ i j, wm (ix2 i j) = w g i j) (hb : ∀ i, bl (ix3 0 i 0) = b g i) {o p : ℕ} (h : S512x512.Slices ![o, p] S128x128)
    (n : Fin 4) (ho : o = 128 * n.val) (hp : p = 128 * g.val) (i c : Fin 128) :
    cDu A D N wm bl o p h (ix2 i c) = guEl u v d ow w b (gcol n) g i c := by
  have e1 : matmul dot_S128x128_S128x128_S128x128_1_0_0_1_n_n none wm (blk (φ := .bf16) N o p h) (constant S128x128 .f32 0x00000000#32) (ix2 i c)
      = ∑ j, w g i j * gnEl v (gcol n j) (gcol g c) :=
    (mm10 (φ₁ := .bf16) (φ₂ := .bf16) _ none _ _ i c).trans (Finset.sum_congr rfl fun j _ =>
      congrArg₂ (· * ·) (hw i j) ((blk_apply (φ := .bf16) N h n g ho hp j c).trans (hN _ _)))
  have e2 : broadcastTo S128x128 (shapeCast S128x1 bl shapeCasts_S1x128x1_S128x1) broadcasts_S128x1_S128x128 (ix2 i c) = b g i := by
    refine (bcCol _ _ i c).trans ((shapeCast_apply bl _ (ix2 i 0) (ix3 0 i 0) ?_).trans (hb i))
    rw [Shape.rowMajor_val_three, Shape.rowMajor_val_two]
    show (0 * 128 + i.val) * 1 + 0 = i.val * 1 + 0
    omega
  have e3 : slopes (blk (φ := .f32) A o p h) (ix2 i c) = gSlope (u (gcol n i) (gcol g c)) :=
    congrArg gSlope ((blk_apply (φ := .f32) A h n g ho hp i c).trans (hA _ _))
  have e4 : blk (φ := .f32) D o p h (ix2 i c) = goEl d ow (gcol n i) (gcol g c) := (blk_apply (φ := .f32) D h n g ho hp i c).trans (hD _ _)
  exact congrArg₂ (· * ·) (congrArg₂ (· * ·) e4 (congrArg₂ (· + ·) e1 e2)) e3

variable {p : ℕ} (g : Fin 4) (hp : p = 128 * g.val) (h0 : S512x512.Slices ![0, p] S128x128) (h1 : S512x512.Slices ![128, p] S128x128)
  (h2 : S512x512.Slices ![256, p] S128x128) (h3 : S512x512.Slices ![384, p] S128x128)

include hU hD hp in
theorem pB_apply (x : Vec Ideal S1x128x1 .f32) (i : Fin 128) :
    pB U D p h0 h1 h2 h3 x (ix3 0 i 0) = x (ix3 0 i 0) + ∑ n, gbEl u d ow (gcol n) g i := by
  refine (shapeCast_apply _ _ (ix3 0 i 0) (ix2 i 0) ?_).trans (congrArg₂ (· + ·) (shapeCast_apply x _ (ix2 i 0) (ix3 0 i 0) ?_)
    ((congrArg₂ (· + ·) (congrArg₂ (· + ·) (congrArg₂ (· + ·) (congrArg₂ (· + ·) Ideal.ofBits_zero_f32 (cR_apply hU hD h0 0 g rfl hp i 0))
      (cR_apply hU hD h1 1 g rfl hp i 0)) (cR_apply hU hD h2 2 g rfl hp i 0)) (cR_apply hU hD h3 3 g rfl hp i 0)).trans ?_))
  · rw [Shape.rowMajor_val_three, Shape.rowMajor_val_two]; show i.val * 1 + 0 = (0 * 128 + i.val) * 1 + 0; omega
  · rw [Shape.rowMajor_val_three, Shape.rowMajor_val_two]; show (0 * 128 + i.val) * 1 + 0 = i.val * 1 + 0; omega
  · rw [Fin.sum_univ_four, zero_add]

include hU hD hN hp in
theorem pW_apply (μ : IVec S128x128 1) (x : Vec Ideal S1x128x128 .f32) (i j : Fin 128) :
    pW U D N p h0 h1 h2 h3 μ x (ix3 0 i j) = x (ix3 0 i j) + Scalar.select (μ (ix2 i j)) (∑ n, gwEl u v d ow (gcol n) g i j) (Ideal.ofBits .f32 0x00000000#32) := by
  refine (shapeCast_apply _ _ (ix3 0 i j) (ix2 i j) ?_).trans (congrArg₂ (· + ·) (shapeCast_apply x _ (ix2 i j) (ix3 0 i j) ?_)
    (congrArg (fun y => Scalar.select (μ (ix2 i j)) y (Ideal.ofBits .f32 0x00000000#32)) (
    (congrArg₂ (· + ·) (congrArg₂ (· + ·) (congrArg₂ (· + ·) (congrArg₂ (· + ·) Ideal.ofBits_zero_f32 (cP_apply hU hD hN h0 0 g rfl hp i j))
      (cP_apply hU hD hN h1 1 g rfl hp i j)) (cP_apply hU hD hN h2 2 g rfl hp i j)) (cP_apply hU hD hN h3 3 g rfl hp i j)).trans ?_)))
  · rw [Shape.rowMajor_val_three, Shape.rowMajor_val_two]; show i.val * 128 + j.val = (0 * 128 + i.val) * 128 + j.val; omega
  · rw [Shape.rowMajor_val_three, Shape.rowMajor_val_two]; show (0 * 128 + i.val) * 128 + j.val = i.val * 128 + j.val; omega
  · rw [Fin.sum_univ_four, zero_add]

include hU hD hp in
theorem pV_apply {wt : FVec Ideal S128x128 .bf16} (hw : ∀ i j, wt (ix2 j i) = w g i j) (n : Fin 4) (j c : Fin 128) :
    pV U D wt p h0 h1 h2 h3 (ix2 (gcol n j) c) = gnBack u d ow w (gcol n) j (gcol g c) := by
  refine (concatenate_ofFn_apply (t := S512x128) (s₁ := S128x128) 0 (fun n : Fin 4 => (![cV U D wt 0 p h0, cV U D wt 128 p h1, cV U D wt 256 p h2, cV U D wt 384 p h3] n :
      S128x128.Idx → EReal)) concatenates_S128x128_S128x128_S128x128_S128x128_S512x128_d0 rfl 128 rfl (ix2 (gcol n j) c) n ?_ (ix2 j c) ?_ ?_).trans ?_
  · show (128 * n.val + j.val) / 128 = n.val
    omega
  · show j.val = (128 * n.val + j.val) % 128
    omega
  · intro a ha
    match a, ha with
    | ⟨0, _⟩, ha => exact absurd rfl ha
    | ⟨1, _⟩, _ => rfl
  · match n with
    | 0 => exact cV_apply hU hD g hw h0 0 rfl hp j c
    | 1 => exact cV_apply hU hD g hw h1 1 rfl hp j c
    | 2 => exact cV_apply hU hD g hw h2 2 rfl hp j c
    | 3 => exact cV_apply hU hD g hw h3 3 rfl hp j c
end

end Cert.KernelGmIdeal.Hand
-- ==== Proof.GmEl.lean ====
/- The gradient of the gate with a masked product: what a point of the kernel's grid computes, from its blocks. -/
module

public import proofs.«01_k».proof.Proof.GmPay

@[expose] public section

set_option maxRecDepth 16384

noncomputable section

open Idealize.ShloMosaic Idealize.ShloMosaic.TcCoe Idealize.SL.Sem Idealize.ShloMosaic.ValueIdx Cert.Kit

namespace Cert.KernelGmIdeal.Hand

open Cert.KernelGmIdeal Cert.KernelGmIdeal.Gen

/-- The mask. -/
def kM : IVec S128x128 1 := k0_pay8 k0_pay4 (iota .tc S128x128 32 [1] iota_S128x128_d1_w32) 64#32 k0_pay5 k0_pay6 k0_pay7

/-- The masked weight, from the weight's entries. -/
def wMask (W : Fin 4 → Fin 128 → Fin 128 → EReal) (g : Fin 4) (i j : Fin 128) : EReal :=
  Scalar.select (kM (ix2 i j)) (W g i j) (Ideal.ofBits .f32 0x00000000#32)

/-- A matrix as a function of its row and column. -/
abbrev mat {M N : ℕ} {e : EltTy} (x : Vec Ideal ⟨2, ![M, N]⟩ e) (r : Fin M) (k : Fin N) : Elt Ideal e := x (ix2 r k)

variable (A V : Vec Ideal S512x512 .f32) (X : Vec Ideal S512x1024 .bf16) (O : Vec Ideal S1024x1024 .bf16) (W : Vec Ideal S4x128x128 .f32)
  (B : Vec Ideal S4x128x1 .f32)

/-- The output weight's rows that the gate meets. -/
def kO : Vec Ideal S512x1024 .bf16 :=
  View.ld (Val := Elt Ideal) O (Rect.unit (s := S1024x1024) ![0, 0] S512x1024.size inb_S1024x1024_S512x1024_0_0)

abbrev uF (r k : Fin 512) : EReal := A (ix2 r k)
abbrev dF (r : Fin 512) (l : Fin 1024) : EReal := X (ix2 r l)
abbrev oF (k : Fin 512) (l : Fin 1024) : EReal := O (ix2 ⟨k.val, by omega⟩ l)
abbrev wF : Fin 4 → Fin 128 → Fin 128 → EReal := wMask fun g i j => W (ix3 g i j)
abbrev bF (g : Fin 4) (i : Fin 128) : EReal := B (ix3 g i 0)

theorem kO_apply (k : Fin 512) (l : Fin 1024) : kO O (ix2 k l) = O (ix2 ⟨k.val, by omega⟩ l) := by
  unfold kO
  refine (congrArg O ?_ : _ = _)
  exact ixEq (by show 0 + 1 * k.val = k.val; omega) (by show 0 + 1 * l.val = l.val; omega)

theorem pay9_apply (r k : Fin 512) : k0_pay9 (F := Ideal) A (ix2 r k) = gel (uF A r k) := rfl

theorem pay10_apply (r k : Fin 512) : k0_pay10 (F := Ideal) V (ix2 r k) = ctr 512 (gvRow (uF V) r) k := by
  unfold ctr
  rw [← c512]
  exact congrArg₂ (· - ·) rfl ((bcCol _ _ r k).trans (congrArg (Ideal.div · (Ideal.ofBits .f32 0x44000000#32)) ((castCol _ _ r 0).trans (sumCols _ _ _ _ _ r))))

theorem pay11_apply (r : Fin 512) (z : Fin 1) : k0_pay11 (F := Ideal) (k0_pay10 V) (ix2 r z) = Ideal.rsqrt (meanSq 512 (ctr 512 (gvRow (uF V) r))) := by
  unfold meanSq eps
  rw [← c512]
  exact congrArg (fun y => Ideal.rsqrt (Ideal.div y (Ideal.ofBits .f32 0x44000000#32) + Ideal.ofBits .f32 0x358637BD#32)) ((castCol _ _ r z).trans
    ((sumCols _ _ _ _ _ r).trans (Finset.sum_congr rfl fun k _ => congrArg₂ (· * ·) (pay10_apply V r k) (pay10_apply V r k))))

theorem pay12_apply (r k : Fin 512) : k0_pay12 (F := Ideal) (k0_pay10 V) (ix2 r k) = gnEl (uF V) r k :=
  congrArg₂ (· * ·) (pay10_apply V r k) ((bcCol _ _ r k).trans (pay11_apply V r 0))

theorem pay13_apply (r k : Fin 512) : k0_pay13 (F := Ideal) (k0_pay10 V) (ix2 r k) = gnEl (uF V) r k := pay12_apply V r k

theorem pay14_apply (r k : Fin 512) : k0_pay14 (F := Ideal) X (kO O) (ix2 r k) = goEl (dF X) (oF O) r k := by
  unfold k0_pay14
  rw [shapeCast_self, shapeCast_self]
  exact (mm11 (φ₁ := .bf16) (φ₂ := .bf16) _ none _ _ r k).trans (Finset.sum_congr rfl fun l _ => congrArg (X (ix2 r l) * ·) (kO_apply O k l))

section
variable (g : Fin 4) {q : ℕ} (hq : q = g.val) (h : ∀ a, (![q, 0, 0] : Fin 3 → ℕ) a + S1x128x128.size a ≤ S4x128x128.size a)
  (hb : ∀ a, (![q, 0, 0] : Fin 3 → ℕ) a + S1x128x1.size a ≤ S4x128x1.size a)

/-- A group of the weight, as the kernel loads it. -/
abbrev ldW : Vec Ideal S1x128x128 .f32 := View.ld (Val := Elt Ideal) W (Rect.unit (s := S4x128x128) ![q, 0, 0] S1x128x128.size h)
@[inherit_doc ldW]
abbrev ldB : Vec Ideal S1x128x1 .f32 := View.ld (Val := Elt Ideal) B (Rect.unit (s := S4x128x1) ![q, 0, 0] S1x128x1.size hb)

include hq in
theorem embW (i j : Fin 128) : (Rect.unit (s := S4x128x128) ![q, 0, 0] S1x128x128.size h).emb (ix3 0 i j) = (ix3 g i j : S4x128x128.Idx) := by
  subst hq
  refine funext fun a => Fin.ext ?_
  match a with
  | ⟨0, _⟩ => rfl
  | ⟨1, _⟩ => show 0 + 1 * i.val = i.val; omega
  | ⟨2, _⟩ => show 0 + 1 * j.val = j.val; omega

include hq in
theorem embB (i : Fin 128) : (Rect.unit (s := S4x128x1) ![q, 0, 0] S1x128x1.size hb).emb (ix3 0 i 0) = (ix3 g i 0 : S4x128x1.Idx) := by
  subst hq
  refine funext fun a => Fin.ext ?_
  match a with
  | ⟨0, _⟩ => rfl
  | ⟨1, _⟩ => show 0 + 1 * i.val = i.val; omega
  | ⟨2, _⟩ => rfl

include hq in
theorem ldW_apply (i j : Fin 128) : ldW W h (ix3 0 i j) = W (ix3 g i j) := congrArg W (embW g hq h i j)

include hq in
theorem ldB_apply (i : Fin 128) : ldB B hb (ix3 0 i 0) = B (ix3 g i 0) := congrArg B (embB g hq hb i)

include hq in
theorem pay16_apply (i j : Fin 128) : k0_pay16 (F := Ideal) kM (ldW W h) (ix2 i j) = wF W g i j := by
  refine congrArg (fun y => Scalar.select (kM (ix2 i j)) y (Ideal.ofBits .f32 0x00000000#32)) ((shapeCast_apply _ _ (ix2 i j) (ix3 0 i j) ?_).trans (ldW_apply W g hq h i j))
  rw [Shape.rowMajor_val_three, Shape.rowMajor_val_two]; show (0 * 128 + i.val) * 128 + j.val = i.val * 128 + j.val; omega

include hq in
theorem pay17_apply (i j : Fin 128) : k0_pay17 (F := Ideal) kM (ldW W h) (ix2 j i) = wF W g i j :=
  (transpose_apply [1, 0] (k0_pay15 (F := Ideal) kM (ldW W h)) transposes_S128x128_p1_0_S128x128 (ix2 j i) (ix2 i j) (fun a => match a with
    | ⟨0, _⟩ => rfl
    | ⟨1, _⟩ => rfl)).trans (pay16_apply W g hq h i j)
end

/-- The derivative of the norm, as the kernel spells it. -/
def lnv (r : FVec Ideal S512x1 .f32) (n x : FVec Ideal S512x512 .f32) : FVec Ideal S512x512 .f32 :=
  mulf (broadcastTo S512x512 r broadcasts_S512x1_S512x512) (subf (subf x (broadcastTo S512x512 (divf (shapeCast S512x1
      (multiReduction .add [1] S512 x 0x00000000#32 reduces_S512x512_S512 (.inl rfl) rfl) shapeCasts_S512_S512x1)
      (broadcast S512x1 (Scalar.ofBits .f32 0x44000000#32))) broadcasts_S512x1_S512x512))
    (mulf n (broadcastTo S512x512 (divf (shapeCast S512x1
      (multiReduction .add [1] S512 (mulf x n) 0x00000000#32 reduces_S512x512_S512 (.inl rfl) rfl) shapeCasts_S512_S512x1)
      (broadcast S512x1 (Scalar.ofBits .f32 0x44000000#32))) broadcasts_S512x1_S512x512)))

theorem lnv_apply {x : FVec Ideal S512x512 .f32} {r : Fin 512} {a : Fin 512 → EReal} (hx : ∀ k, x (ix2 r k) = a k) (k : Fin 512) :
    lnv (k0_pay11 (k0_pay10 V)) (k0_pay12 (k0_pay10 V)) x (ix2 r k) = lnBack 512 (ctr 512 (gvRow (uF V) r)) a k := by
  unfold lnBack
  rw [← c512]
  have hm (y : FVec Ideal S512x512 .f32) (f : Fin 512 → EReal) (hy : ∀ k, y (ix2 r k) = f k) :
      broadcastTo S512x512 (divf (shapeCast S512x1
        (multiReduction .add [1] S512 y 0x00000000#32 reduces_S512x512_S512 (.inl rfl) rfl) shapeCasts_S512_S512x1)
        (broadcast S512x1 (Scalar.ofBits .f32 0x44000000#32))) broadcasts_S512x1_S512x512 (ix2 r k) = Ideal.div (∑ l, f l) (Ideal.ofBits .f32 0x44000000#32) :=
    (bcCol _ _ r k).trans (congrArg (Ideal.div · (Ideal.ofBits .f32 0x44000000#32)) ((castCol _ _ r 0).trans ((sumCols _ _ _ _ _ r).trans (Finset.sum_congr rfl fun l _ => hy l))))
  have h1 := hm x a hx
  have h2 := hm (mulf x (k0_pay12 (k0_pay10 V))) (fun l => a l * (ctr 512 (gvRow (uF V) r) l * Ideal.rsqrt (meanSq 512 (ctr 512 (gvRow (uF V) r)))))
    fun l => congrArg₂ (· * ·) (hx l) (pay12_apply V r l)
  exact congrArg₂ (· * ·) ((bcCol _ _ r k).trans (pay11_apply V r 0)) (congrArg₂ (· - ·) (congrArg₂ (· - ·) (hx k) h1) (congrArg₂ (· * ·) (pay12_apply V r k) h2))

/-- A group's cotangent of the normed half, from the point's blocks. -/
def kV (q p : ℕ) (h : ∀ a, (![q, 0, 0] : Fin 3 → ℕ) a + S1x128x128.size a ≤ S4x128x128.size a) (h0 : S512x512.Slices ![0, p] S128x128)
    (h1 : S512x512.Slices ![128, p] S128x128) (h2 : S512x512.Slices ![256, p] S128x128) (h3 : S512x512.Slices ![384, p] S128x128) : FVec Ideal S512x128 .f32 :=
  pV (k0_pay9 A) (k0_pay14 X (kO O)) (k0_pay17 kM (ldW W h)) p h0 h1 h2 h3

/-- The cotangent of the normed half. -/
def kVs : FVec Ideal S512x512 .f32 :=
  concatenate S512x512 1 [
    ⟨S512x128, kV A X O W 0 0 inb_S4x128x128_S1x128x128_0_0_0 slices_S512x512_o0_0_S128x128 slices_S512x512_o128_0_S128x128 slices_S512x512_o256_0_S128x128 slices_S512x512_o384_0_S128x128⟩,
    ⟨S512x128, kV A X O W 1 128 inb_S4x128x128_S1x128x128_1_0_0 slices_S512x512_o0_128_S128x128 slices_S512x512_o128_128_S128x128 slices_S512x512_o256_128_S128x128 slices_S512x512_o384_128_S128x128⟩,
    ⟨S512x128, kV A X O W 2 256 inb_S4x128x128_S1x128x128_2_0_0 slices_S512x512_o0_256_S128x128 slices_S512x512_o128_256_S128x128 slices_S512x512_o256_256_S128x128 slices_S512x512_o384_256_S128x128⟩,
    ⟨S512x128, kV A X O W 3 384 inb_S4x128x128_S1x128x128_3_0_0 slices_S512x512_o0_384_S128x128 slices_S512x512_o128_384_S128x128 slices_S512x512_o256_384_S128x128 slices_S512x512_o384_384_S128x128⟩]
    concatenates_S512x128_S512x128_S512x128_S512x128_S512x512_d1

/-- The second half's gradient. -/
def kDv : FVec Ideal S512x512 .bf16 :=
  k0_pay1 V (lnv (k0_pay11 (k0_pay10 V)) (k0_pay12 (k0_pay10 V)) (kVs A X O W)) (k0_pay192 V) (k0_pay193 V) (Scalar.ofBits .f32 0x3F4C422A#32)

theorem kVs_apply (n : Fin 4) (j : Fin 128) (k : Fin 512) : kVs A X O W (ix2 (gcol n j) k) = gnBack (uF A) (dF X) (oF O) (wF W) (gcol n) j k := by
  obtain ⟨g, c, rfl⟩ : ∃ (g : Fin 4) (c : Fin 128), k = gcol g c := ⟨⟨k.val / 128, by omega⟩, ⟨k.val % 128, by omega⟩, Fin.ext (by show k.val = 128 * (k.val / 128) + k.val % 128; omega)⟩
  unfold kVs
  refine (concatenate_ofFn_apply (t := S512x512) (s₁ := S512x128) 1 (fun g : Fin 4 => (![
      kV A X O W 0 0 inb_S4x128x128_S1x128x128_0_0_0 slices_S512x512_o0_0_S128x128 slices_S512x512_o128_0_S128x128 slices_S512x512_o256_0_S128x128 slices_S512x512_o384_0_S128x128,
      kV A X O W 1 128 inb_S4x128x128_S1x128x128_1_0_0 slices_S512x512_o0_128_S128x128 slices_S512x512_o128_128_S128x128 slices_S512x512_o256_128_S128x128 slices_S512x512_o384_128_S128x128,
      kV A X O W 2 256 inb_S4x128x128_S1x128x128_2_0_0 slices_S512x512_o0_256_S128x128 slices_S512x512_o128_256_S128x128 slices_S512x512_o256_256_S128x128 slices_S512x512_o384_256_S128x128,
      kV A X O W 3 384 inb_S4x128x128_S1x128x128_3_0_0 slices_S512x512_o0_384_S128x128 slices_S512x512_o128_384_S128x128 slices_S512x512_o256_384_S128x128 slices_S512x512_o384_384_S128x128] g :
      S512x128.Idx → EReal)) concatenates_S512x128_S512x128_S512x128_S512x128_S512x512_d1 rfl 128 rfl (ix2 (gcol n j) (gcol g c)) g ?_ (ix2 (gcol n j) c) ?_ ?_).trans ?_
  · show (128 * g.val + c.val) / 128 = g.val
    omega
  · show c.val = (128 * g.val + c.val) % 128
    omega
  · intro a ha
    match a, ha with
    | ⟨0, _⟩, _ => rfl
    | ⟨1, _⟩, ha => exact absurd rfl ha
  · match g with
    | 0 => exact pV_apply (pay9_apply A) (pay14_apply X O) 0 rfl _ _ _ _ (pay17_apply W 0 rfl _) n j c
    | 1 => exact pV_apply (pay9_apply A) (pay14_apply X O) 1 rfl _ _ _ _ (pay17_apply W 1 rfl _) n j c
    | 2 => exact pV_apply (pay9_apply A) (pay14_apply X O) 2 rfl _ _ _ _ (pay17_apply W 2 rfl _) n j c
    | 3 => exact pV_apply (pay9_apply A) (pay14_apply X O) 3 rfl _ _ _ _ (pay17_apply W 3 rfl _) n j c

theorem kDv_apply (n : Fin 4) (j : Fin 128) (k : Fin 512) : kDv A V X O W (ix2 (gcol n j) k) = gvEl (uF A) (uF V) (dF X) (oF O) (wF W) (gcol n) j k :=
  congrArg₂ (· * ·) (lnv_apply V (kVs_apply A X O W n j) k) (rfl : _ = gSlope (uF V (gcol n j) k))

/-- A row's block and place. -/
abbrev rBlk (r : Fin 512) : Fin 4 := ⟨r.val / 128, by omega⟩
@[inherit_doc rBlk]
abbrev rIn (r : Fin 512) : Fin 128 := ⟨r.val % 128, by omega⟩

theorem rBlk_gcol (n : Fin 4) (i : Fin 128) : rBlk (gcol n i) = n := Fin.ext (by show (128 * n.val + i.val) / 128 = n.val; omega)

theorem rIn_gcol (n : Fin 4) (i : Fin 128) : rIn (gcol n i) = i := Fin.ext (by show (128 * n.val + i.val) % 128 = i.val; omega)

theorem gcol_self (r : Fin 512) : gcol (rBlk r) (rIn r) = r := Fin.ext (by show 128 * (r.val / 128) + r.val % 128 = r.val; omega)

/-- The gradients of the two halves, side by side. -/
def kDp : Vec Ideal S512x1024 .bf16 := fun i =>
  if h : (i 1).val < 512 then
    guEl (uF A) (uF V) (dF X) (oF O) (wF W) (bF B) (gcol (rBlk (i 0))) (rBlk ⟨(i 1).val, h⟩) (rIn (i 0)) (rIn ⟨(i 1).val, h⟩)
  else gvEl (uF A) (uF V) (dF X) (oF O) (wF W) (gcol (rBlk (i 0))) (rIn (i 0)) ⟨(i 1).val - 512, by have : (i 1).val < 1024 := (i 1).isLt; omega⟩

/-- The weight's gradient after the point. -/
def kDw (x : Vec Ideal S4x128x128 .f32) : Vec Ideal S4x128x128 .f32 := fun i =>
  x i + Scalar.select (kM (ix2 (i 1) (i 2))) (∑ n, gwEl (uF A) (uF V) (dF X) (oF O) (gcol n) (i 0) (i 1) (i 2)) (Ideal.ofBits .f32 0x00000000#32)

/-- The bias's gradient after the point. -/
def kDb (x : Vec Ideal S4x128x1 .f32) : Vec Ideal S4x128x1 .f32 := fun i => x i + ∑ n, gbEl (uF A) (dF X) (oF O) (gcol n) (i 0) (i 1)

section
variable (n g : Fin 4) {o p q : ℕ} (ho : o = 128 * n.val) (hp : p = 128 * g.val) (hq : q = g.val)
  (h : ∀ a, (![q, 0, 0] : Fin 3 → ℕ) a + S1x128x128.size a ≤ S4x128x128.size a)
  (hb : ∀ a, (![q, 0, 0] : Fin 3 → ℕ) a + S1x128x1.size a ≤ S4x128x1.size a) (hs : S512x512.Slices ![o, p] S128x128)

include ho hp hq in
theorem du_piece (hk : ∀ a, (![o, p] : Fin 2 → ℕ) a + S128x128.size a ≤ S512x1024.size a) (z : S128x128.Idx) :
    cDu A (k0_pay14 X (kO O)) (k0_pay13 (k0_pay10 V)) (k0_pay16 kM (ldW W h)) (ldB B hb) o p hs z
      = kDp A V X O W B ((Rect.unit (s := S512x1024) ![o, p] S128x128.size hk).emb z) := by
  obtain ⟨i, c, rfl⟩ : ∃ i c, z = ix2 i c := ⟨z 0, z 1, ixEq rfl rfl⟩
  rw [emb_ix2 hk i c (by omega) (by omega), cDu_apply (b := bF B) (pay14_apply X O) (pay13_apply V) (fun _ _ => rfl) g (pay16_apply W g hq h) (ldB_apply B g hq hb) hs n ho hp i c]
  subst ho hp
  unfold kDp
  have hlt : 128 * g.val + c.val < 512 := by omega
  rw [dif_pos hlt]
  show _ = guEl (uF A) (uF V) (dF X) (oF O) (wF W) (bF B) (gcol (rBlk (gcol n i))) (rBlk (gcol g c)) (rIn (gcol n i)) (rIn (gcol g c))
  rw [rBlk_gcol, rBlk_gcol, rIn_gcol, rIn_gcol]

theorem dv_piece (hk : ∀ a, (![0, 512] : Fin 2 → ℕ) a + S512x512.size a ≤ S512x1024.size a) (z : S512x512.Idx) :
    kDv A V X O W z = kDp A V X O W B ((Rect.unit (s := S512x1024) ![0, 512] S512x512.size hk).emb z) := by
  obtain ⟨r, k, rfl⟩ : ∃ r k, z = ix2 r k := ⟨z 0, z 1, ixEq rfl rfl⟩
  rw [emb_ix2 hk r k (by omega) (by omega)]
  unfold kDp
  rw [dif_neg (by show ¬ 512 + k.val < 512; omega)]
  have e := kDv_apply A V X O W (rBlk r) (rIn r) k
  rw [gcol_self] at e
  rw [e]
  congr 1
  · congr 1; exact Fin.ext (by show r.val / 128 = (0 + r.val) / 128; omega)
  · exact Fin.ext (by show r.val % 128 = (0 + r.val) % 128; omega)
  · exact Fin.ext (by show k.val = 512 + k.val - 512; omega)

variable (h0 : S512x512.Slices ![0, p] S128x128) (h1 : S512x512.Slices ![128, p] S128x128)
  (h2 : S512x512.Slices ![256, p] S128x128) (h3 : S512x512.Slices ![384, p] S128x128)

include hp hq in
theorem dw_piece (x : Vec Ideal S4x128x128 .f32) (z : S1x128x128.Idx) :
    pW (k0_pay9 A) (k0_pay14 X (kO O)) (k0_pay13 (k0_pay10 V)) p h0 h1 h2 h3 kM (ldW x h) z
      = kDw A V X O x ((Rect.unit (s := S4x128x128) ![q, 0, 0] S1x128x128.size h).emb z) := by
  obtain ⟨a, i, j, rfl⟩ : ∃ a i j, z = ix3 a i j := ⟨z 0, z 1, z 2, funext fun a => match a with | ⟨0, _⟩ => rfl | ⟨1, _⟩ => rfl | ⟨2, _⟩ => rfl⟩
  obtain rfl : a = 0 := Subsingleton.elim _ _
  rw [embW g hq h i j, pW_apply (pay9_apply A) (pay14_apply X O) (pay13_apply V) g hp h0 h1 h2 h3 kM _ i j, ldW_apply x g hq h i j]
  rfl

include hp hq in
theorem db_piece (x : Vec Ideal S4x128x1 .f32) (z : S1x128x1.Idx) :
    pB (k0_pay9 A) (k0_pay14 X (kO O)) p h0 h1 h2 h3 (ldB x hb) z = kDb A X O x ((Rect.unit (s := S4x128x1) ![q, 0, 0] S1x128x1.size hb).emb z) := by
  obtain ⟨a, i, j, rfl⟩ : ∃ a i j, z = ix3 a i j := ⟨z 0, z 1, z 2, funext fun a => match a with | ⟨0, _⟩ => rfl | ⟨1, _⟩ => rfl | ⟨2, _⟩ => rfl⟩
  obtain rfl : a = 0 := Subsingleton.elim _ _
  obtain rfl : j = 0 := Subsingleton.elim _ _
  rw [embB g hq hb i, pB_apply (pay9_apply A) (pay14_apply X O) g hp h0 h1 h2 h3 _ i, ldB_apply x g hq hb i]
  rfl
end

end Cert.KernelGmIdeal.Hand
-- ==== Proof.GmOuts.lean ====
/- The gradient of the gate with a masked product: what each point of the grid leaves in the outputs. -/
module

public import proofs.«01_k».proof.Proof.GmEl
public import Idealize.ShloMosaic.Lib.Pipeline.ReadBack
public import proofs.«01_k».proof.Proof.Gen.KernelGmIdeal.Value

@[expose] public section

set_option maxRecDepth 16384

noncomputable section

open Idealize.ShloMosaic Idealize.ShloMosaic.TcCoe Idealize.SL.Sem Idealize.ShloMosaic.ValueIdx Cert.Kit

namespace Cert.KernelGmIdeal.Hand

open Cert.KernelGmIdeal Cert.KernelGmIdeal.Gen Cert.KernelGmIdeal.Value

variable (m : (ℓ : Loc nD τ sig) → Buf (Elt Ideal) ℓ) (ρ : Dev nD → PrngReg)

set_option pp.maxSteps 120 in
set_option maxHeartbeats 4000000 in
/-- What a point of case A leaves in the outputs. -/
theorem outs_A (c : Dev nD) (t : Fin cfg0.N) (h0 : t.val % 8 = 0) :
    outsAt0 m c t.val t.isLt = (kDp (iblk m c 0 t) (iblk m c 1 t) (iblk m c 2 t) (iblk m c 3 t) (iblk m c 4 t) (iblk m c 5 t),
      kDw (iblk m c 0 t) (iblk m c 1 t) (iblk m c 2 t) (iblk m c 3 t) (k0_pay2 (F := Ideal)),
      kDb (iblk m c 0 t) (iblk m c 2 t) (iblk m c 3 t) (k0_pay3 (F := Ideal))) := by
  rw [outsAt0_A m c t h0]
  refine Prod.ext ?_ (Prod.ext ?_ ?_)
  · dsimp only
    unfold out0_A_6
    rw [View.read_writes_eq_canon _ _ _ (fun _ => cover0_A_6 ..)]
    unfold kernelRun0_A
    dsimp only
    sl_unfold_words
    simp (disch := first | rfl | decide) only [↓View.readCov_skip, ↓View.readCov_fill, View.readAt_eq_ld, (hs0_0 t).read_unread, (hs0_1 t).read_unread, (hs0_2 t).read_unread, (hs0_3 t).read_unread, (hs0_4 t).read_unread, (hs0_5 t).read_unread,
      View.ld_unit_zero (S := S512x512) hz2, View.ld_unit_zero (S := S512x1024) hz2]
    refine canon_pieces _ _ ?_ (fun y => View.cover_of_tiledBy _ ![128, 128] (by sl_kernel_rfl) y)
    refine piece_cons (dv_piece (iblk m c 0 t) (iblk m c 1 t) (iblk m c 2 t) (iblk m c 3 t) (iblk m c 4 t) (iblk m c 5 t) (by decide)) ?_
    refine piece_cons (du_piece (iblk m c 0 t) (iblk m c 1 t) (iblk m c 2 t) (iblk m c 3 t) (iblk m c 4 t) (iblk m c 5 t) 3 3 rfl rfl rfl (by decide) (by decide) (by decide) (by decide)) ?_
    refine piece_cons (du_piece (iblk m c 0 t) (iblk m c 1 t) (iblk m c 2 t) (iblk m c 3 t) (iblk m c 4 t) (iblk m c 5 t) 2 3 rfl rfl rfl (by decide) (by decide) (by decide) (by decide)) ?_
    refine piece_cons (du_piece (iblk m c 0 t) (iblk m c 1 t) (iblk m c 2 t) (iblk m c 3 t) (iblk m c 4 t) (iblk m c 5 t) 1 3 rfl rfl rfl (by decide) (by decide) (by decide) (by decide)) ?_
    refine piece_cons (du_piece (iblk m c 0 t) (iblk m c 1 t) (iblk m c 2 t) (iblk m c 3 t) (iblk m c 4 t) (iblk m c 5 t) 0 3 rfl rfl rfl (by decide) (by decide) (by decide) (by decide)) ?_
    refine piece_cons (du_piece (iblk m c 0 t) (iblk m c 1 t) (iblk m c 2 t) (iblk m c 3 t) (iblk m c 4 t) (iblk m c 5 t) 3 2 rfl rfl rfl (by decide) (by decide) (by decide) (by decide)) ?_
    refine piece_cons (du_piece (iblk m c 0 t) (iblk m c 1 t) (iblk m c 2 t) (iblk m c 3 t) (iblk m c 4 t) (iblk m c 5 t) 2 2 rfl rfl rfl (by decide) (by decide) (by decide) (by decide)) ?_
    refine piece_cons (du_piece (iblk m c 0 t) (iblk m c 1 t) (iblk m c 2 t) (iblk m c 3 t) (iblk m c 4 t) (iblk m c 5 t) 1 2 rfl rfl rfl (by decide) (by decide) (by decide) (by decide)) ?_
    refine piece_cons (du_piece (iblk m c 0 t) (iblk m c 1 t) (iblk m c 2 t) (iblk m c 3 t) (iblk m c 4 t) (iblk m c 5 t) 0 2 rfl rfl rfl (by decide) (by decide) (by decide) (by decide)) ?_
    refine piece_cons (du_piece (iblk m c 0 t) (iblk m c 1 t) (iblk m c 2 t) (iblk m c 3 t) (iblk m c 4 t) (iblk m c 5 t) 3 1 rfl rfl rfl (by decide) (by decide) (by decide) (by decide)) ?_
    refine piece_cons (du_piece (iblk m c 0 t) (iblk m c 1 t) (iblk m c 2 t) (iblk m c 3 t) (iblk m c 4 t) (iblk m c 5 t) 2 1 rfl rfl rfl (by decide) (by decide) (by decide) (by decide)) ?_
    refine piece_cons (du_piece (iblk m c 0 t) (iblk m c 1 t) (iblk m c 2 t) (iblk m c 3 t) (iblk m c 4 t) (iblk m c 5 t) 1 1 rfl rfl rfl (by decide) (by decide) (by decide) (by decide)) ?_
    refine piece_cons (du_piece (iblk m c 0 t) (iblk m c 1 t) (iblk m c 2 t) (iblk m c 3 t) (iblk m c 4 t) (iblk m c 5 t) 0 1 rfl rfl rfl (by decide) (by decide) (by decide) (by decide)) ?_
    refine piece_cons (du_piece (iblk m c 0 t) (iblk m c 1 t) (iblk m c 2 t) (iblk m c 3 t) (iblk m c 4 t) (iblk m c 5 t) 3 0 rfl rfl rfl (by decide) (by decide) (by decide) (by decide)) ?_
    refine piece_cons (du_piece (iblk m c 0 t) (iblk m c 1 t) (iblk m c 2 t) (iblk m c 3 t) (iblk m c 4 t) (iblk m c 5 t) 2 0 rfl rfl rfl (by decide) (by decide) (by decide) (by decide)) ?_
    refine piece_cons (du_piece (iblk m c 0 t) (iblk m c 1 t) (iblk m c 2 t) (iblk m c 3 t) (iblk m c 4 t) (iblk m c 5 t) 1 0 rfl rfl rfl (by decide) (by decide) (by decide) (by decide)) ?_
    refine piece_cons (du_piece (iblk m c 0 t) (iblk m c 1 t) (iblk m c 2 t) (iblk m c 3 t) (iblk m c 4 t) (iblk m c 5 t) 0 0 rfl rfl rfl (by decide) (by decide) (by decide) (by decide)) ?_
    exact piece_nil
  · dsimp only
    unfold out0_A_7
    rw [View.read_writes_eq_canon _ _ _ (fun _ => cover0_A_7 ..)]
    unfold kernelRun0_A
    dsimp only
    sl_unfold_words
    simp (disch := first | rfl | decide) only [↓View.readCov_skip, ↓View.readCov_fill, View.readAt_eq_ld, (hs0_0 t).read_unread, (hs0_1 t).read_unread, (hs0_2 t).read_unread, (hs0_3 t).read_unread, (hs0_4 t).read_unread, (hs0_5 t).read_unread,
      View.ld_unit_zero (S := S512x512) hz2, View.ld_unit_zero (S := S512x1024) hz2]
    refine canon_over _ [_, _, _, _] _ ?_ (View.cover_of_tiled_head _ _ _ rfl)
    refine piece_cons (dw_piece (iblk m c 0 t) (iblk m c 1 t) (iblk m c 2 t) (iblk m c 3 t) 3 rfl rfl (by decide) (by decide) (by decide) (by decide) (by decide) (k0_pay2 (F := Ideal))) ?_
    refine piece_cons (dw_piece (iblk m c 0 t) (iblk m c 1 t) (iblk m c 2 t) (iblk m c 3 t) 2 rfl rfl (by decide) (by decide) (by decide) (by decide) (by decide) (k0_pay2 (F := Ideal))) ?_
    refine piece_cons (dw_piece (iblk m c 0 t) (iblk m c 1 t) (iblk m c 2 t) (iblk m c 3 t) 1 rfl rfl (by decide) (by decide) (by decide) (by decide) (by decide) (k0_pay2 (F := Ideal))) ?_
    refine piece_cons (dw_piece (iblk m c 0 t) (iblk m c 1 t) (iblk m c 2 t) (iblk m c 3 t) 0 rfl rfl (by decide) (by decide) (by decide) (by decide) (by decide) (k0_pay2 (F := Ideal))) ?_
    exact piece_nil
  · dsimp only
    unfold out0_A_8
    rw [View.read_writes_eq_canon _ _ _ (fun _ => cover0_A_8 ..)]
    unfold kernelRun0_A
    dsimp only
    sl_unfold_words
    simp (disch := first | rfl | decide) only [↓View.readCov_skip, ↓View.readCov_fill, View.readAt_eq_ld, (hs0_0 t).read_unread, (hs0_1 t).read_unread, (hs0_2 t).read_unread, (hs0_3 t).read_unread, (hs0_4 t).read_unread, (hs0_5 t).read_unread,
      View.ld_unit_zero (S := S512x512) hz2, View.ld_unit_zero (S := S512x1024) hz2]
    refine canon_over _ [_, _, _, _] _ ?_ (View.cover_of_tiled_head _ _ _ rfl)
    refine piece_cons (db_piece (iblk m c 0 t) (iblk m c 2 t) (iblk m c 3 t) 3 rfl rfl (by decide) (by decide) (by decide) (by decide) (by decide) (k0_pay3 (F := Ideal))) ?_
    refine piece_cons (db_piece (iblk m c 0 t) (iblk m c 2 t) (iblk m c 3 t) 2 rfl rfl (by decide) (by decide) (by decide) (by decide) (by decide) (k0_pay3 (F := Ideal))) ?_
    refine piece_cons (db_piece (iblk m c 0 t) (iblk m c 2 t) (iblk m c 3 t) 1 rfl rfl (by decide) (by decide) (by decide) (by decide) (by decide) (k0_pay3 (F := Ideal))) ?_
    refine piece_cons (db_piece (iblk m c 0 t) (iblk m c 2 t) (iblk m c 3 t) 0 rfl rfl (by decide) (by decide) (by decide) (by decide) (by decide) (k0_pay3 (F := Ideal))) ?_
    exact piece_nil

set_option pp.maxSteps 120 in
set_option maxHeartbeats 4000000 in
/-- What a point of case B leaves in the outputs. -/
theorem outs_B (c : Dev nD) (t : Fin cfg0.N) (h0 : ¬t.val % 8 = 0) :
    outsAt0 m c t.val t.isLt = (kDp (iblk m c 0 t) (iblk m c 1 t) (iblk m c 2 t) (iblk m c 3 t) (iblk m c 4 t) (iblk m c 5 t),
      kDw (iblk m c 0 t) (iblk m c 1 t) (iblk m c 2 t) (iblk m c 3 t) (outsAt0 m c (t.val - 1) (Nat.lt_of_le_of_lt (Nat.sub_le _ _) t.isLt)).2.1,
      kDb (iblk m c 0 t) (iblk m c 2 t) (iblk m c 3 t) (outsAt0 m c (t.val - 1) (Nat.lt_of_le_of_lt (Nat.sub_le _ _) t.isLt)).2.2) := by
  rw [outsAt0_B m c t h0]
  generalize outsAt0 m c (t.val - 1) (Nat.lt_of_le_of_lt (Nat.sub_le _ _) t.isLt) = y
  refine Prod.ext ?_ (Prod.ext ?_ ?_)
  · dsimp only
    unfold out0_B_6
    rw [View.read_writes_eq_canon _ _ _ (fun _ => cover0_B_6 ..)]
    unfold kernelRun0_B
    dsimp only
    sl_unfold_words
    simp (disch := first | rfl | decide) only [↓View.readCov_skip, ↓View.readCov_fill, View.readAt_eq_ld, (hs0_0 t).read_unread, (hs0_1 t).read_unread, (hs0_2 t).read_unread, (hs0_3 t).read_unread, (hs0_4 t).read_unread, (hs0_5 t).read_unread, (hs0_7 t).read_unread, (hs0_8 t).read_unread,
      View.ld_unit_zero (S := S512x512) hz2, View.ld_unit_zero (S := S512x1024) hz2]
    refine canon_pieces _ _ ?_ (fun y => View.cover_of_tiledBy _ ![128, 128] (by sl_kernel_rfl) y)
    refine piece_cons (dv_piece (iblk m c 0 t) (iblk m c 1 t) (iblk m c 2 t) (iblk m c 3 t) (iblk m c 4 t) (iblk m c 5 t) (by decide)) ?_
    refine piece_cons (du_piece (iblk m c 0 t) (iblk m c 1 t) (iblk m c 2 t) (iblk m c 3 t) (iblk m c 4 t) (iblk m c 5 t) 3 3 rfl rfl rfl (by decide) (by decide) (by decide) (by decide)) ?_
    refine piece_cons (du_piece (iblk m c 0 t) (iblk m c 1 t) (iblk m c 2 t) (iblk m c 3 t) (iblk m c 4 t) (iblk m c 5 t) 2 3 rfl rfl rfl (by decide) (by decide) (by decide) (by decide)) ?_
    refine piece_cons (du_piece (iblk m c 0 t) (iblk m c 1 t) (iblk m c 2 t) (iblk m c 3 t) (iblk m c 4 t) (iblk m c 5 t) 1 3 rfl rfl rfl (by decide) (by decide) (by decide) (by decide)) ?_
    refine piece_cons (du_piece (iblk m c 0 t) (iblk m c 1 t) (iblk m c 2 t) (iblk m c 3 t) (iblk m c 4 t) (iblk m c 5 t) 0 3 rfl rfl rfl (by decide) (by decide) (by decide) (by decide)) ?_
    refine piece_cons (du_piece (iblk m c 0 t) (iblk m c 1 t) (iblk m c 2 t) (iblk m c 3 t) (iblk m c 4 t) (iblk m c 5 t) 3 2 rfl rfl rfl (by decide) (by decide) (by decide) (by decide)) ?_
    refine piece_cons (du_piece (iblk m c 0 t) (iblk m c 1 t) (iblk m c 2 t) (iblk m c 3 t) (iblk m c 4 t) (iblk m c 5 t) 2 2 rfl rfl rfl (by decide) (by decide) (by decide) (by decide)) ?_
    refine piece_cons (du_piece (iblk m c 0 t) (iblk m c 1 t) (iblk m c 2 t) (iblk m c 3 t) (iblk m c 4 t) (iblk m c 5 t) 1 2 rfl rfl rfl (by decide) (by decide) (by decide) (by decide)) ?_
    refine piece_cons (du_piece (iblk m c 0 t) (iblk m c 1 t) (iblk m c 2 t) (iblk m c 3 t) (iblk m c 4 t) (iblk m c 5 t) 0 2 rfl rfl rfl (by decide) (by decide) (by decide) (by decide)) ?_
    refine piece_cons (du_piece (iblk m c 0 t) (iblk m c 1 t) (iblk m c 2 t) (iblk m c 3 t) (iblk m c 4 t) (iblk m c 5 t) 3 1 rfl rfl rfl (by decide) (by decide) (by decide) (by decide)) ?_
    refine piece_cons (du_piece (iblk m c 0 t) (iblk m c 1 t) (iblk m c 2 t) (iblk m c 3 t) (iblk m c 4 t) (iblk m c 5 t) 2 1 rfl rfl rfl (by decide) (by decide) (by decide) (by decide)) ?_
    refine piece_cons (du_piece (iblk m c 0 t) (iblk m c 1 t) (iblk m c 2 t) (iblk m c 3 t) (iblk m c 4 t) (iblk m c 5 t) 1 1 rfl rfl rfl (by decide) (by decide) (by decide) (by decide)) ?_
    refine piece_cons (du_piece (iblk m c 0 t) (iblk m c 1 t) (iblk m c 2 t) (iblk m c 3 t) (iblk m c 4 t) (iblk m c 5 t) 0 1 rfl rfl rfl (by decide) (by decide) (by decide) (by decide)) ?_
    refine piece_cons (du_piece (iblk m c 0 t) (iblk m c 1 t) (iblk m c 2 t) (iblk m c 3 t) (iblk m c 4 t) (iblk m c 5 t) 3 0 rfl rfl rfl (by decide) (by decide) (by decide) (by decide)) ?_
    refine piece_cons (du_piece (iblk m c 0 t) (iblk m c 1 t) (iblk m c 2 t) (iblk m c 3 t) (iblk m c 4 t) (iblk m c 5 t) 2 0 rfl rfl rfl (by decide) (by decide) (by decide) (by decide)) ?_
    refine piece_cons (du_piece (iblk m c 0 t) (iblk m c 1 t) (iblk m c 2 t) (iblk m c 3 t) (iblk m c 4 t) (iblk m c 5 t) 1 0 rfl rfl rfl (by decide) (by decide) (by decide) (by decide)) ?_
    refine piece_cons (du_piece (iblk m c 0 t) (iblk m c 1 t) (iblk m c 2 t) (iblk m c 3 t) (iblk m c 4 t) (iblk m c 5 t) 0 0 rfl rfl rfl (by decide) (by decide) (by decide) (by decide)) ?_
    exact piece_nil
  · dsimp only
    unfold out0_B_7
    rw [View.read_writes_eq_canon _ _ _ (fun _ => cover0_B_7 ..)]
    unfold kernelRun0_B
    dsimp only
    sl_unfold_words
    simp (disch := first | rfl | decide) only [↓View.readCov_skip, ↓View.readCov_fill, View.readAt_eq_ld, (hs0_0 t).read_unread, (hs0_1 t).read_unread, (hs0_2 t).read_unread, (hs0_3 t).read_unread, (hs0_4 t).read_unread, (hs0_5 t).read_unread, (hs0_7 t).read_unread, (hs0_8 t).read_unread,
      View.ld_unit_zero (S := S512x512) hz2, View.ld_unit_zero (S := S512x1024) hz2]
    refine canon_pieces _ _ ?_ (View.cover_of_tiled_head _ _ _ rfl)
    refine piece_cons (dw_piece (iblk m c 0 t) (iblk m c 1 t) (iblk m c 2 t) (iblk m c 3 t) 3 rfl rfl (by decide) (by decide) (by decide) (by decide) (by decide) y.2.1) ?_
    refine piece_cons (dw_piece (iblk m c 0 t) (iblk m c 1 t) (iblk m c 2 t) (iblk m c 3 t) 2 rfl rfl (by decide) (by decide) (by decide) (by decide) (by decide) y.2.1) ?_
    refine piece_cons (dw_piece (iblk m c 0 t) (iblk m c 1 t) (iblk m c 2 t) (iblk m c 3 t) 1 rfl rfl (by decide) (by decide) (by decide) (by decide) (by decide) y.2.1) ?_
    refine piece_cons (dw_piece (iblk m c 0 t) (iblk m c 1 t) (iblk m c 2 t) (iblk m c 3 t) 0 rfl rfl (by decide) (by decide) (by decide) (by decide) (by decide) y.2.1) ?_
    exact piece_nil
  · dsimp only
    unfold out0_B_8
    rw [View.read_writes_eq_canon _ _ _ (fun _ => cover0_B_8 ..)]
    unfold kernelRun0_B
    dsimp only
    sl_unfold_words
    simp (disch := first | rfl | decide) only [↓View.readCov_skip, ↓View.readCov_fill, View.readAt_eq_ld, (hs0_0 t).read_unread, (hs0_1 t).read_unread, (hs0_2 t).read_unread, (hs0_3 t).read_unread, (hs0_4 t).read_unread, (hs0_5 t).read_unread, (hs0_7 t).read_unread, (hs0_8 t).read_unread,
      View.ld_unit_zero (S := S512x512) hz2, View.ld_unit_zero (S := S512x1024) hz2]
    refine canon_pieces _ _ ?_ (View.cover_of_tiled_head _ _ _ rfl)
    refine piece_cons (db_piece (iblk m c 0 t) (iblk m c 2 t) (iblk m c 3 t) 3 rfl rfl (by decide) (by decide) (by decide) (by decide) (by decide) y.2.2) ?_
    refine piece_cons (db_piece (iblk m c 0 t) (iblk m c 2 t) (iblk m c 3 t) 2 rfl rfl (by decide) (by decide) (by decide) (by decide) (by decide) y.2.2) ?_
    refine piece_cons (db_piece (iblk m c 0 t) (iblk m c 2 t) (iblk m c 3 t) 1 rfl rfl (by decide) (by decide) (by decide) (by decide) (by decide) y.2.2) ?_
    refine piece_cons (db_piece (iblk m c 0 t) (iblk m c 2 t) (iblk m c 3 t) 0 rfl rfl (by decide) (by decide) (by decide) (by decide) (by decide) y.2.2) ?_
    exact piece_nil

end Cert.KernelGmIdeal.Hand
-- ==== Proof.GmRef.lean ====
/- The gradient of the gate with a masked product, the reference: its run and the forward stages read at an index. -/
module

public import proofs.«01_k».proof.Proof.GmSpec
public import proofs.«01_k».proof.Proof.Gen.ReferenceGmIdeal.Run
public import proofs.«01_k».proof.Proof.Gen.ReferenceGmIdeal.Read
public import Idealize.ShloMosaic.Lib.StableHlo.Run
public import Idealize.ShloMosaic.Lib.TwoAxisContraction

@[expose] public section

set_option maxRecDepth 16384

noncomputable section

open Idealize.ShloMosaic Idealize.ShloMosaic.TcCoe Idealize.SL.Sem Idealize.ShloMosaic.ValueIdx Cert.Kit

namespace Cert.ReferenceGmIdeal.Hand

open Cert.ReferenceGmIdeal Cert.ReferenceGmIdeal.Read

/-- The reference's run, its results named as the reading's stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v153) = val_main_v153 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v100) = val_main_v100 (F := Ideal) (m ((c.tc : Thread nD τ).loc main_arg0)) (m ((c.tc : Thread nD τ).loc main_arg3)) (m ((c.tc : Thread nD τ).loc main_arg4))
      ∧ r.2.mem ((c.tc : Thread nD τ).loc main_v154) = val_main_v154 (F := Ideal) (m ((c.tc : Thread nD τ).loc main_arg0)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (val_main_v153_eq ..), (h c).2.1.trans (val_main_v100_eq ..), (h c).2.2.1.trans (val_main_v154_eq ..),
    (h c).2.2.2⟩) (Cert.ReferenceGmIdeal.Value.run m ρ)

theorem ix4Eq {n₀ n₁ n₂ n₃ : ℕ} {i : (⟨4, ![n₀, n₁, n₂, n₃]⟩ : Shape).Idx} {a : Fin n₀} {b : Fin n₁} {c : Fin n₂} {d : Fin n₃}
    (h0 : (i 0).val = a.val) (h1 : (i 1).val = b.val) (h2 : (i 2).val = c.val) (h3 : (i 3).val = d.val) : i = ix4 a b c d :=
  funext fun e => Fin.ext (match e with | ⟨0, _⟩ => h0 | ⟨1, _⟩ => h1 | ⟨2, _⟩ => h2 | ⟨3, _⟩ => h3)

theorem ix3Eq {n₀ n₁ n₂ : ℕ} {i : (⟨3, ![n₀, n₁, n₂]⟩ : Shape).Idx} {a : Fin n₀} {b : Fin n₁} {c : Fin n₂}
    (h0 : (i 0).val = a.val) (h1 : (i 1).val = b.val) (h2 : (i 2).val = c.val) : i = ix3 a b c :=
  funext fun e => Fin.ext (match e with | ⟨0, _⟩ => h0 | ⟨1, _⟩ => h1 | ⟨2, _⟩ => h2)

variable (x0 : FVec Ideal S4096x2048 .f32) (x1 : FVec Ideal S4x128x128 .f32) (x2 : FVec Ideal S4x128 .f32) (x3 : FVec Ideal S1024x1024 .f32)
  (x4 : FVec Ideal S4096x1024 .f32)

/-- The first half of a row of the projection. -/
def ru (r : Fin 4096) (k : Fin 512) : EReal := x0 (ix2 r ⟨k.val, by omega⟩)

/-- The second half. -/
def rv (r : Fin 4096) (k : Fin 512) : EReal := x0 (ix2 r ⟨512 + k.val, by omega⟩)

/-- The cotangent's rows. -/
def rd (r : Fin 4096) (k : Fin 1024) : EReal := x4 (ix2 r k)

/-- The rows of the output's weight the gate meets. -/
def ro (k : Fin 512) (l : Fin 1024) : EReal := x3 (ix2 ⟨k.val, by omega⟩ l)

/-- Whether a row of a block takes part in another's product. -/
def rM (i j : Fin 128) : BitVec 1 := val_main_v74 (F := Ideal) (ix2 i j)

/-- The masked weight. -/
def rwt (g : Fin 4) (i j : Fin 128) : EReal := Scalar.select (rM i j) (x1 (ix3 g i j)) (Ideal.ofBits .f32 0x00000000#32)

/-- The bias. -/
def rb (g : Fin 4) (i : Fin 128) : EReal := x2 (ix2 g i)

/-- The rows of a block. -/
def rp (n : Fin 32) (i : Fin 128) : Fin 4096 := row n i (by norm_num)

theorem v0_apply (r : Fin 4096) (k : Fin 512) : val_main_v0 (F := Ideal) x0 (ix2 r k) = ru x0 r k :=
  (val_main_v0_apply (F := Ideal) x0 (ix2 r k)).trans (congrArg x0 (ixEq (i := idx_main_v0 (ix2 r k)) (a := r) (b := ⟨k.val, by omega⟩) rfl rfl))

theorem v1_apply (r : Fin 4096) (k : Fin 512) : val_main_v1 (F := Ideal) x0 (ix2 r k) = rv x0 r k :=
  (val_main_v1_apply (F := Ideal) x0 (ix2 r k)).trans (congrArg x0 (ixEq (i := idx_main_v1 (ix2 r k)) (a := r) (b := ⟨512 + k.val, by omega⟩) rfl rfl))

theorem v24_apply (r : Fin 4096) (k : Fin 512) : val_main_v24 (F := Ideal) x0 (ix2 r k) = rGel (ru x0 r k) := by
  rw [← v0_apply]
  rfl

theorem v47_apply (r : Fin 4096) (k : Fin 512) : val_main_v47 (F := Ideal) x0 (ix2 r k) = rGel (rv x0 r k) := by
  rw [← v1_apply]
  rfl

section
variable (h0 : ∀ i, IsReal (x0 i))

include h0 in
theorem v47_gel (r : Fin 4096) (k : Fin 512) : val_main_v47 (F := Ideal) x0 (ix2 r k) = gvRow (rv x0) r k :=
  (v47_apply x0 r k).trans (gel_eq (h0 _)).symm

include h0 in
theorem v53_apply (r : Fin 4096) (k : Fin 512) : val_main_v53 (F := Ideal) x0 (ix2 r k) = ctr 512 (gvRow (rv x0) r) k := by
  refine (congrArg (val_main_v47 (F := Ideal) x0 (ix2 r k) - ·) ((hbCol _ _ r k).trans (congrArg (fun p => Ideal.div p (Ideal.ofBits .f32 0x44000000#32))
    ((hbVec _ _ r 0).trans (hsumCols _ _ _ (by decide) r))))).trans ?_
  rw [c512]
  simp only [v47_gel x0 h0]
  rfl

include h0 in
theorem v60_apply (r : Fin 4096) : val_main_v60 (F := Ideal) x0 (ix2 r 0) = meanSq 512 (ctr 512 (gvRow (rv x0) r)) := by
  refine (congrArg (fun p => Ideal.div p (Ideal.ofBits .f32 0x44000000#32) + Ideal.ofBits .f32 0x358637BD#32) ((hbVec _ _ r 0).trans
    (hsumCols _ _ _ (by decide) r))).trans ?_
  rw [c512]
  show Ideal.div (∑ k, val_main_v53 (F := Ideal) x0 (ix2 r k) * val_main_v53 (F := Ideal) x0 (ix2 r k)) _ + _ = _
  simp only [v53_apply x0 h0]
  rfl

include h0 in
theorem v61_apply (r : Fin 4096) : val_main_v61 (F := Ideal) x0 (ix2 r 0) = Ideal.rsqrt (meanSq 512 (ctr 512 (gvRow (rv x0) r))) :=
  congrArg Ideal.rsqrt (v60_apply x0 h0 r)

include h0 in
theorem v66_apply (r : Fin 4096) (k : Fin 512) : val_main_v66 (F := Ideal) x0 (ix2 r k) = gnEl (rv x0) r k := by
  refine (congrArg (val_main_v53 (F := Ideal) x0 (ix2 r k) * ·) (hbCol _ _ r k)).trans ?_
  rw [v61_apply x0 h0, v53_apply x0 h0]
  rfl

include h0 in
theorem v67_apply (n : Fin 32) (j : Fin 128) (g : Fin 4) (c : Fin 128) :
    val_main_v67 (F := Ideal) x0 (ix4 n j g c) = gnEl (rv x0) (rp n j) (gcol g c) := by
  refine (val_main_v67_apply (F := Ideal) x0 (ix4 n j g c)).trans ((congrArg (val_main_v66 (F := Ideal) x0) (ixEq (i := idx_main_v67 (ix4 n j g c)) ?_ ?_)).trans (v66_apply x0 h0 (rp n j) (gcol g c)))
  · show (((n.val * 128 + j.val) * 4 + g.val) * 128 + c.val) / 512 = n.val * 128 + j.val
    omega
  · show (((n.val * 128 + j.val) * 4 + g.val) * 128 + c.val) % 512 = 128 * g.val + c.val
    omega
end

theorem v77_1_apply (g : Fin 4) (i j : Fin 128) : val_main_v77_1 (F := Ideal) (ix3 g i j) = rM i j :=
  (val_main_v77_1_apply (F := Ideal) _).trans ((val_main_v75_apply (F := Ideal) _).trans (congrArg (val_main_v74 (F := Ideal)) (ixEq rfl rfl)))

theorem v77_0_apply (g : Fin 4) (i j : Fin 128) : val_main_v77_0 (F := Ideal) x1 (ix3 g i j) = rwt x1 g i j := by
  show Scalar.select (val_main_v77_1 (F := Ideal) (ix3 g i j)) (x1 (ix3 g i j)) (val_main_v76 (F := Ideal) (ix3 g i j)) = _
  rw [v77_1_apply]
  rfl

/-- A block of rows, counted in the whole. -/
theorem v69_apply : ∀ j : Fin 128, val_main_v69 (F := Ideal) (ix1 j) = BitVec.ofNat 32 (j.val / 64) := by
  decide +kernel

theorem rM_apply (i j : Fin 128) : rM i j = IntOp.cmpi .sle (BitVec.ofNat 32 (j.val / 64)) (BitVec.ofNat 32 (i.val / 64)) := by
  refine congrArg₂ (IntOp.cmpi .sle) ?_ ?_
  · exact (val_main_v72_apply (F := Ideal) _).trans ((val_main_v70_apply (F := Ideal) _).trans ((congrArg (val_main_v69 (F := Ideal)) (eq_ix1 _)).trans (v69_apply j)))
  · exact (val_main_v73_apply (F := Ideal) _).trans ((val_main_v71_apply (F := Ideal) _).trans ((congrArg (val_main_v69 (F := Ideal)) (eq_ix1 _)).trans (v69_apply i)))

end Cert.ReferenceGmIdeal.Hand
-- ==== Proof.GmBack.lean ====
/- The gradient of the gate with a masked product, the reference: the backward stages and the results read at an index. -/
module

public import proofs.«01_k».proof.Proof.GmRef

@[expose] public section

set_option maxRecDepth 16384

noncomputable section

open Idealize.ShloMosaic Idealize.ShloMosaic.TcCoe Idealize.SL.Sem Idealize.ShloMosaic.ValueIdx Cert.Kit

namespace Cert.ReferenceGmIdeal.Hand

open Cert.ReferenceGmIdeal Cert.ReferenceGmIdeal.Read

/-- The host's sum over the first and the last of four axes, from zero. -/
theorem hsumOuter {N I G C : ℕ} {S₀ : Shape} (x : FVec Ideal ⟨4, ![N, I, G, C]⟩ .f32)
    (h : (⟨4, ![N, I, G, C]⟩ : Shape).ReducesTo [0, 3] ⟨2, ![I, G]⟩) (hu : 0 < S₀.numel) (i : Fin I) (g : Fin G) :
    Host.reduceAdd x (constant S₀ .f32 0x00000000#32) h hu (ix2 i g) = ∑ n : Fin N, ∑ c : Fin C, x (ix4 n i g c) := by
  simp only [Host.reduceAdd, Ideal.hostReduceAdd_def]
  unfold Ideal.hostReduceAdd
  show Ideal.ofBits .f32 0x00000000#32 + _ = _
  rw [Ideal.ofBits_zero_f32, zero_add, ← Fintype.sum_prod_type']
  refine Finset.sum_nbij' (fun y => (y 0, y 3)) (fun p => ix4 p.1 i g p.2) (fun _ _ => Finset.mem_univ _) (fun p _ => ?_) (fun y hy => ?_)
    (fun _ _ => rfl) (fun y hy => ?_)
  · rw [Finset.mem_filter]
    exact ⟨Finset.mem_univ _, ixEq rfl rfl⟩
  · have hy' := (Finset.mem_filter.mp hy).2
    exact (ix4Eq rfl (congrArg (fun z : (⟨2, ![I, G]⟩ : Shape).Idx => (z 0).val) hy') (congrArg (fun z : (⟨2, ![I, G]⟩ : Shape).Idx => (z 1).val) hy') rfl).symm
  · have hy' := (Finset.mem_filter.mp hy).2
    exact congrArg x (ix4Eq rfl (congrArg (fun z : (⟨2, ![I, G]⟩ : Shape).Idx => (z 0).val) hy') (congrArg (fun z : (⟨2, ![I, G]⟩ : Shape).Idx => (z 1).val) hy') rfl)

theorem select_real (b : BitVec 1) {x y : EReal} (hx : IsReal x) (hy : IsReal y) : IsReal (Scalar.select b x y) := by
  unfold Scalar.select
  split
  · exact hx
  · exact hy

/-- A column of a group, counted in the whole. -/
theorem gcol_mod (k : Fin 512) : gcol ⟨k.val / 128, by omega⟩ ⟨k.val % 128, by omega⟩ = k := Fin.ext (by show 128 * (k.val / 128) + k.val % 128 = k.val; omega)

variable (x0 : FVec Ideal S4096x2048 .f32) (x1 : FVec Ideal S4x128x128 .f32) (x2 : FVec Ideal S4x128 .f32) (x3 : FVec Ideal S1024x1024 .f32)
  (x4 : FVec Ideal S4096x1024 .f32)

theorem v88_apply (r : Fin 4096) (k : Fin 512) : val_main_v88 (F := Ideal) x3 x4 (ix2 r k) = goEl (rd x4) (ro x3) r k := by
  refine (dg11 _ none _ _ r k).trans (Finset.sum_congr rfl fun l _ => congrArg (x4 (ix2 r l) * ·) ?_)
  exact (val_main_v86_apply (F := Ideal) x3 (ix2 k l)).trans (congrArg x3 (ixEq (i := idx_main_v86 (ix2 k l)) rfl rfl))

section
variable (h0 : ∀ i, IsReal (x0 i))

include h0 in
theorem v78_apply (g : Fin 4) (n : Fin 32) (c i : Fin 128) : val_main_v78 (F := Ideal) x0 x1 (ix4 g n c i)
    = ∑ j, gnEl (rv x0) (rp n j) (gcol g c) * rwt x1 g i j := by
  rw [val_main_v78_apply]
  refine Finset.sum_congr rfl fun j _ => congrArg₂ (· * ·) ?_ ?_
  · exact (congrArg (val_main_v67 (F := Ideal) x0) (ix4Eq (i := lidx_main_v78 (ix4 g n c i) j) rfl rfl rfl rfl)).trans (v67_apply x0 h0 n j g c)
  · exact (congrArg (val_main_v77_0 (F := Ideal) x1) (ix3Eq (i := ridx_main_v78 (ix4 g n c i) j) rfl rfl rfl)).trans (v77_0_apply x1 g i j)

theorem v82_apply (n : Fin 32) (i : Fin 128) (g : Fin 4) (c : Fin 128) : val_main_v82 (F := Ideal) x2 (ix4 n i g c) = rb x2 g i := by
  rw [val_main_v82_apply, val_main_v81_apply, val_main_v80_apply]
  exact congrArg x2 (ixEq rfl rfl)

include h0 in
theorem v84_apply (n : Fin 32) (i : Fin 128) (g : Fin 4) (c : Fin 128) : val_main_v84 (F := Ideal) x0 x1 x2 (ix2 (rp n i) (gcol g c))
    = gpEl (rv x0) (rwt x1) (rb x2) (rp n) g i c := by
  have e : idx_main_v84 (ix2 (rp n i) (gcol g c)) = ix4 n i g c := by
    refine ix4Eq ?_ ?_ ?_ ?_
    · show ((n.val * 128 + i.val) * 512 + (128 * g.val + c.val)) / 65536 = n.val
      omega
    · show ((n.val * 128 + i.val) * 512 + (128 * g.val + c.val)) / 512 % 128 = i.val
      omega
    · show ((n.val * 128 + i.val) * 512 + (128 * g.val + c.val)) / 128 % 4 = g.val
      omega
    · show ((n.val * 128 + i.val) * 512 + (128 * g.val + c.val)) % 128 = c.val
      omega
  rw [val_main_v84_apply, e]
  refine congrArg₂ (· + ·) ?_ (v82_apply x2 n i g c)
  rw [val_main_v79_apply, ix4Eq (i := idx_main_v79 (ix4 n i g c)) (a := g) (b := n) (c := c) (d := i) rfl rfl rfl rfl, v78_apply x0 x1 h0]
  exact Finset.sum_congr rfl fun j _ => mul_comm _ _

include h0 in
theorem v89_apply (r : Fin 4096) (k : Fin 512) : val_main_v89 (F := Ideal) x0 x3 x4 (ix2 r k) = gsEl (ru x0) (rd x4) (ro x3) r k := by
  refine (congrArg₂ (· * ·) ((v24_apply x0 r k).trans (gel_eq (h0 _)).symm) (v88_apply x3 x4 r k)).trans ?_
  exact mul_comm _ _

include h0 in
theorem v91_apply (n : Fin 32) (i : Fin 128) (g : Fin 4) (c : Fin 128) : val_main_v91 (F := Ideal) x0 x3 x4 (ix4 n i g c)
    = gsEl (ru x0) (rd x4) (ro x3) (rp n i) (gcol g c) := by
  refine (val_main_v91_apply (F := Ideal) x0 x3 x4 (ix4 n i g c)).trans ((congrArg (val_main_v89 (F := Ideal) x0 x3 x4)
    (ixEq (i := idx_main_v91 (ix4 n i g c)) ?_ ?_)).trans (v89_apply x0 x3 x4 h0 (rp n i) (gcol g c)))
  · show (((n.val * 128 + i.val) * 4 + g.val) * 128 + c.val) / 512 = n.val * 128 + i.val
    omega
  · show (((n.val * 128 + i.val) * 4 + g.val) * 128 + c.val) % 512 = 128 * g.val + c.val
    omega

include h0 in
theorem v92_apply (i : Fin 128) (g : Fin 4) : val_main_v92 (F := Ideal) x0 x3 x4 (ix2 i g) = ∑ n, gbEl (ru x0) (rd x4) (ro x3) (rp n) g i :=
  (hsumOuter _ _ _ i g).trans (Finset.sum_congr rfl fun n _ => Finset.sum_congr rfl fun c _ => v91_apply x0 x3 x4 h0 n i g c)

include h0 in
/-- The bias's gradient. -/
theorem v154_apply (g : Fin 4) (i : Fin 128) : val_main_v154 (F := Ideal) x0 x3 x4 (ix3 g i 0) = ∑ n, gbEl (ru x0) (rd x4) (ro x3) (rp n) g i := by
  have e : idx_main_v154 (ix3 g i 0) = ix2 g i := by
    refine ixEq ?_ ?_
    · show ((g.val * 128 + i.val) * 1 + 0) / 128 = g.val
      omega
    · show ((g.val * 128 + i.val) * 1 + 0) % 128 = i.val
      omega
  rw [val_main_v154_apply, e, val_main_v95_apply, ixEq (i := idx_main_v95 (ix2 g i)) (a := i) (b := g) rfl rfl]
  refine (hsumOuter _ _ _ i g).trans ?_
  rw [Fin.sum_univ_one, Fin.sum_univ_one]
  have e2 : idx_main_v93 (ix4 0 i g 0) = ix2 i g := by
    refine ixEq ?_ ?_
    · show (((0 * 128 + i.val) * 4 + g.val) * 1 + 0) / 4 = i.val
      omega
    · show (((0 * 128 + i.val) * 4 + g.val) * 1 + 0) % 4 = g.val
      omega
  rw [val_main_v93_apply, e2, v92_apply x0 x3 x4 h0]

include h0 in
theorem v96_apply (g : Fin 4) (n : Fin 32) (c i : Fin 128) : val_main_v96 (F := Ideal) x0 x3 x4 (ix4 g n c i)
    = gsEl (ru x0) (rd x4) (ro x3) (rp n i) (gcol g c) := by
  rw [val_main_v96_apply, ix4Eq (i := idx_main_v96 (ix4 g n c i)) (a := n) (b := i) (c := g) (d := c) rfl rfl rfl rfl, v91_apply x0 x3 x4 h0]

/-- The product of the weight's gradient. -/
local notation "DW" => dot_S4x32x128x128_S32x128x4x128_S4x128x128_12_03_3_1_0_2

include h0 in
theorem v97_apply (g : Fin 4) (i j : Fin 128) : val_main_v97 (F := Ideal) x0 x3 x4 (ix3 g i j)
    = ∑ n, gwEl (ru x0) (rv x0) (rd x4) (ro x3) (rp n) g i j := by
  unfold val_main_v97
  simp only [Host.dotGeneral]
  rw [Ideal.dotGeneral_apply, sum_contr2 DW 32 128 rfl rfl rfl]
  refine Finset.sum_congr rfl fun n _ => Finset.sum_congr rfl fun c _ => congrArg₂ (· * ·) ?_ ?_
  · refine (congrArg (val_main_v96 (F := Ideal) x0 x3 x4) (ix4Eq (a := g) (b := n) (c := c) (d := i) ?_ ?_ ?_ ?_)).trans (v96_apply x0 x3 x4 h0 g n c i)
    · rfl
    · exact contrEquiv2_symm_val0 DW 32 128 rfl rfl rfl (n, c)
    · exact contrEquiv2_symm_val1 DW 32 128 rfl rfl rfl (n, c)
    · rfl
  · refine (congrArg (val_main_v67 (F := Ideal) x0) (ix4Eq (a := n) (b := j) (c := g) (d := c) ?_ ?_ ?_ ?_)).trans (v67_apply x0 h0 n j g c)
    · exact contrEquiv2_symm_val0 DW 32 128 rfl rfl rfl (n, c)
    · rfl
    · rfl
    · exact contrEquiv2_symm_val1 DW 32 128 rfl rfl rfl (n, c)

include h0 in
/-- The weight's gradient. -/
theorem v100_apply (g : Fin 4) (i j : Fin 128) : val_main_v100 (F := Ideal) x0 x3 x4 (ix3 g i j)
    = Scalar.select (rM i j) (∑ n, gwEl (ru x0) (rv x0) (rd x4) (ro x3) (rp n) g i j) (Ideal.ofBits .f32 0x00000000#32) := by
  show Scalar.select (val_main_v77_1 (F := Ideal) (ix3 g i j)) (val_main_v97 (F := Ideal) x0 x3 x4 (ix3 g i j)) (Ideal.ofBits .f32 0x00000000#32) = _
  rw [v77_1_apply, v97_apply x0 x3 x4 h0]

include h0 in
theorem v98_apply (g : Fin 4) (n : Fin 32) (c j : Fin 128) : val_main_v98 (F := Ideal) x0 x1 x3 x4 (ix4 g n c j)
    = ∑ i, gsEl (ru x0) (rd x4) (ro x3) (rp n i) (gcol g c) * rwt x1 g i j := by
  rw [val_main_v98_apply]
  refine Finset.sum_congr rfl fun i _ => congrArg₂ (· * ·) ?_ ?_
  · exact (congrArg (val_main_v96 (F := Ideal) x0 x3 x4) (ix4Eq (i := lidx_main_v98 (ix4 g n c j) i) rfl rfl rfl rfl)).trans (v96_apply x0 x3 x4 h0 g n c i)
  · exact (congrArg (val_main_v77_0 (F := Ideal) x1) (ix3Eq (i := ridx_main_v98 (ix4 g n c j) i) rfl rfl rfl)).trans (v77_0_apply x1 g i j)

include h0 in
theorem v101_apply (n : Fin 32) (j : Fin 128) (k : Fin 512) : val_main_v101 (F := Ideal) x0 x1 x3 x4 (ix2 (rp n j) k)
    = gnBack (ru x0) (rd x4) (ro x3) (rwt x1) (rp n) j k := by
  have e : idx_main_v101 (ix2 (rp n j) k) = ix4 n j ⟨k.val / 128, by omega⟩ ⟨k.val % 128, by omega⟩ := by
    refine ix4Eq ?_ ?_ ?_ ?_
    · show ((n.val * 128 + j.val) * 512 + k.val) / 65536 = n.val
      omega
    · show ((n.val * 128 + j.val) * 512 + k.val) / 512 % 128 = j.val
      omega
    · show ((n.val * 128 + j.val) * 512 + k.val) / 128 % 4 = k.val / 128
      omega
    · show ((n.val * 128 + j.val) * 512 + k.val) % 128 = k.val % 128
      omega
  rw [val_main_v101_apply, e, val_main_v99_apply,
    ix4Eq (i := idx_main_v99 (ix4 n j ⟨k.val / 128, by omega⟩ ⟨k.val % 128, by omega⟩)) (a := ⟨k.val / 128, by omega⟩) (b := n)
      (c := ⟨k.val % 128, by omega⟩) (d := j) rfl rfl rfl rfl, v98_apply x0 x1 x3 x4 h0]
  refine Finset.sum_congr rfl fun i _ => ?_
  rw [gcol_mod]
  exact mul_comm _ _

include h0 in
/-- Through the norm of the second half. -/
theorem v123_apply (n : Fin 32) (j : Fin 128) (k : Fin 512) : val_main_v123 (F := Ideal) x0 x1 x3 x4 (ix2 (rp n j) k)
    = lnFull (ctr 512 (gvRow (rv x0) (rp n j))) (gnBack (ru x0) (rd x4) (ro x3) (rwt x1) (rp n) j) k := by
  have h111 (k : Fin 512) : val_main_v111 (F := Ideal) x0 x1 x3 x4 (ix2 (rp n j) k)
      = Ideal.div ((∑ k, ctr 512 (gvRow (rv x0) (rp n j)) k * gnBack (ru x0) (rd x4) (ro x3) (rwt x1) (rp n) j k) * (((-(1 / 2) : ℝ) : EReal)
          * Ideal.div (Ideal.rsqrt (meanSq 512 (ctr 512 (gvRow (rv x0) (rp n j))))) (meanSq 512 (ctr 512 (gvRow (rv x0) (rp n j)))))) ((512 : ℝ) : EReal) := by
    refine (hbVec _ _ (rp n j) k).trans ((hsumCols _ _ _ (by decide) (rp n j)).trans ?_)
    rw [Fin.sum_univ_one]
    have h : val_main_v104 (F := Ideal) x0 x1 x3 x4 (ix2 (rp n j) 0)
        = ∑ k, ctr 512 (gvRow (rv x0) (rp n j)) k * gnBack (ru x0) (rd x4) (ro x3) (rwt x1) (rp n) j k :=
      (castCol _ _ (rp n j) 0).trans ((hsumCols _ _ _ (by decide) (rp n j)).trans (Finset.sum_congr rfl fun k _ =>
        congrArg₂ (· * ·) (v53_apply x0 h0 (rp n j) k) (v101_apply x0 x1 x3 x4 h0 n j k)))
    show Ideal.div (val_main_v104 (F := Ideal) x0 x1 x3 x4 (ix2 (rp n j) 0) * (Ideal.ofBits .f32 0xBF000000#32
      * Ideal.div (val_main_v61 (F := Ideal) x0 (ix2 (rp n j) 0)) (val_main_v60 (F := Ideal) x0 (ix2 (rp n j) 0)))) (Ideal.ofBits .f32 0x44000000#32) = _
    rw [h, v61_apply x0 h0, v60_apply x0 h0, c512, cNegHalf]
  have hc (k : Fin 512) : val_main_v115 (F := Ideal) x0 x1 x3 x4 (ix2 (rp n j) k)
      = lnChain 512 (ctr 512 (gvRow (rv x0) (rp n j))) (gnBack (ru x0) (rd x4) (ro x3) (rwt x1) (rp n) j) k := by
    show val_main_v101 (F := Ideal) x0 x1 x3 x4 (ix2 (rp n j) k) * val_main_v105 (F := Ideal) x0 (ix2 (rp n j) k)
      + val_main_v53 (F := Ideal) x0 (ix2 (rp n j) k) * val_main_v111 (F := Ideal) x0 x1 x3 x4 (ix2 (rp n j) k)
      + val_main_v111 (F := Ideal) x0 x1 x3 x4 (ix2 (rp n j) k) * val_main_v53 (F := Ideal) x0 (ix2 (rp n j) k) = _
    have h105 : val_main_v105 (F := Ideal) x0 (ix2 (rp n j) k) = val_main_v61 (F := Ideal) x0 (ix2 (rp n j) 0) := hbCol _ _ (rp n j) k
    rw [v101_apply x0 x1 x3 x4 h0, h111, v53_apply x0 h0, h105, v61_apply x0 h0]
    rfl
  have h122 : val_main_v122 (F := Ideal) x0 x1 x3 x4 (ix2 (rp n j) k)
      = Ideal.div (∑ k, -lnChain 512 (ctr 512 (gvRow (rv x0) (rp n j))) (gnBack (ru x0) (rd x4) (ro x3) (rwt x1) (rp n) j) k) ((512 : ℝ) : EReal) := by
    refine (hbVec _ _ (rp n j) k).trans ((hsumCols _ _ _ (by decide) (rp n j)).trans ?_)
    rw [Fin.sum_univ_one]
    have h : val_main_v118 (F := Ideal) x0 x1 x3 x4 (ix2 (rp n j) 0)
        = ∑ k, -lnChain 512 (ctr 512 (gvRow (rv x0) (rp n j))) (gnBack (ru x0) (rd x4) (ro x3) (rwt x1) (rp n) j) k :=
      (castCol _ _ (rp n j) 0).trans ((hsumCols _ _ _ (by decide) (rp n j)).trans (Finset.sum_congr rfl fun k _ => congrArg (- ·) (hc k)))
    show Ideal.div (val_main_v118 (F := Ideal) x0 x1 x3 x4 (ix2 (rp n j) 0)) (Ideal.ofBits .f32 0x44000000#32) = _
    rw [h, c512]
  exact congrArg₂ (· + ·) (hc k) h122

theorem v137_apply (r : Fin 4096) (k : Fin 512) : val_main_v137 (F := Ideal) x0 x1 x3 x4 (ix2 r k)
    = rBack (rv x0 r k) (val_main_v123 (F := Ideal) x0 x1 x3 x4 (ix2 r k)) := by
  rw [← v1_apply]
  rfl

theorem v151_apply (r : Fin 4096) (k : Fin 512) : val_main_v151 (F := Ideal) x0 x1 x2 x3 x4 (ix2 r k)
    = rBack (ru x0 r k) (val_main_v90 (F := Ideal) x0 x1 x2 x3 x4 (ix2 r k)) := by
  rw [← v0_apply]
  rfl

variable (h1 : ∀ i, IsReal (x1 i)) (h2 : ∀ i, IsReal (x2 i)) (h3 : ∀ i, IsReal (x3 i)) (h4 : ∀ i, IsReal (x4 i))

include h1 in
theorem rwt_real (g : Fin 4) (i j : Fin 128) : IsReal (rwt x1 g i j) := select_real _ (h1 _) ⟨0, Ideal.ofBits_zero_f32⟩

include h0 h1 h2 h3 h4 in
/-- The gradient of the first half. -/
theorem v153_left (n : Fin 32) (i : Fin 128) (g : Fin 4) (c : Fin 128) :
    val_main_v153 (F := Ideal) x0 x1 x2 x3 x4 (ix2 (rp n i) ⟨128 * g.val + c.val, by omega⟩)
      = guEl (ru x0) (rv x0) (rd x4) (ro x3) (rwt x1) (rb x2) (rp n) g i c := by
  rw [guEl_chain (u := ru x0) (v := rv x0) (d := rd x4) (o := ro x3) (w := rwt x1) (b := rb x2) (fun _ _ => h0 _) (fun _ _ => h0 _) (fun _ _ => h4 _)
    (fun _ _ => h3 _) (rwt_real x1 h1) (fun _ _ => h2 _)]
  refine (catL (val_main_v151 (F := Ideal) x0 x1 x2 x3 x4) (val_main_v137 (F := Ideal) x0 x1 x3 x4) Gen.concatenates_S4096x512_S4096x512_S4096x1024_d1 (rp n i)
    (⟨128 * g.val + c.val, by omega⟩ : Fin 1024) (gcol g c) rfl).trans ?_
  rw [v151_apply]
  exact congrArg (rBack _) (congrArg₂ (· * ·) (v88_apply x3 x4 _ _) (v84_apply x0 x1 x2 h0 n i g c))

include h0 h1 h3 h4 in
/-- The gradient of the second half. -/
theorem v153_right (n : Fin 32) (j : Fin 128) (k : Fin 512) :
    val_main_v153 (F := Ideal) x0 x1 x2 x3 x4 (ix2 (rp n j) ⟨512 + k.val, by omega⟩)
      = gvEl (ru x0) (rv x0) (rd x4) (ro x3) (rwt x1) (rp n) j k := by
  rw [gvEl_chain (u := ru x0) (v := rv x0) (d := rd x4) (o := ro x3) (w := rwt x1) (fun _ _ => h0 _) (fun _ _ => h0 _) (fun _ _ => h4 _)
    (fun _ _ => h3 _) (rwt_real x1 h1)]
  refine (catR (val_main_v151 (F := Ideal) x0 x1 x2 x3 x4) (val_main_v137 (F := Ideal) x0 x1 x3 x4) Gen.concatenates_S4096x512_S4096x512_S4096x1024_d1 (rp n j)
    (⟨512 + k.val, by omega⟩ : Fin 1024) k rfl).trans ?_
  rw [v137_apply, v123_apply x0 x1 x3 x4 h0]
end

end Cert.ReferenceGmIdeal.Hand
-- ==== Proof.GmVal.lean ====
/- The gradient of the gate with a masked product: the kernel's results, whole, are the reference's. -/
module

public import proofs.«01_k».proof.Proof.GmOuts
public import proofs.«01_k».proof.Proof.GmBack

@[expose] public section

set_option maxRecDepth 16384

noncomputable section

open Idealize.ShloMosaic Idealize.ShloMosaic.TcCoe Idealize.SL.Sem Idealize.ShloMosaic.ValueIdx Cert.Kit

namespace Cert.KernelGmIdeal.Hand

open Cert.KernelGmIdeal Cert.KernelGmIdeal.Gen Cert.KernelGmIdeal.Value Cert.ReferenceGmIdeal.Hand

/-- The block of 64 that a column of the mask lies in, as the kernel counts it. -/
def kQ : IVec S128x128 32 :=
  select (andi (cmpi .ne k0_pay6 k0_pay7) (cmpi .ne (remsi (iota .tc S128x128 32 [1] iota_S128x128_d1_w32) (broadcast S128x128 64#32)) (broadcast S128x128 0#32)))
    (subi k0_pay5 (broadcast S128x128 1#32)) k0_pay5

theorem kQ_apply : ∀ j : Fin 128, kQ (ix2 0 j) = BitVec.ofNat 32 (j.val / 64) := by
  decide +kernel

theorem kR_apply : ∀ i : Fin 128, k0_pay4 (ix2 i 0) = BitVec.ofNat 32 (i.val / 64) := by
  decide +kernel

/-- The kernel's mask is the reference's. -/
theorem kM_eq (i j : Fin 128) : kM (ix2 i j) = rM i j := by
  rw [rM_apply]
  exact congrArg₂ (IntOp.cmpi .sle) ((rfl : kQ (ix2 i j) = kQ (ix2 0 j)).trans (kQ_apply j)) ((rfl : k0_pay4 (ix2 i j) = k0_pay4 (ix2 i 0)).trans (kR_apply i))

variable (m : (ℓ : Loc nD τ sig) → Buf (Elt Ideal) ℓ) (ρ : Dev nD → PrngReg)

theorem index0 : ∀ t : Fin cfg0.N, (win0_0.index t 0 = t.val ∧ win0_0.index t 1 = 0)
    ∧ (win0_1.index t 0 = t.val ∧ win0_1.index t 1 = 1)
    ∧ (win0_2.index t 0 = t.val ∧ win0_2.index t 1 = 0)
    ∧ (win0_3.index t 0 = 0 ∧ win0_3.index t 1 = 0)
    ∧ (win0_4.index t 0 = 0 ∧ win0_4.index t 1 = 0 ∧ win0_4.index t 2 = 0)
    ∧ (win0_5.index t 0 = 0 ∧ win0_5.index t 1 = 0 ∧ win0_5.index t 2 = 0)
    ∧ (win0_6.index t 0 = t.val ∧ win0_6.index t 1 = 0)
    ∧ (win0_7.index t 0 = 0 ∧ win0_7.index t 1 = 0 ∧ win0_7.index t 2 = 0)
    ∧ (win0_8.index t 0 = 0 ∧ win0_8.index t 1 = 0 ∧ win0_8.index t 2 = 0) :=
  (by decide +kernel : ∀ t : Fin grid0.N, (win0_0.index t 0 = t.val ∧ win0_0.index t 1 = 0)
    ∧ (win0_1.index t 0 = t.val ∧ win0_1.index t 1 = 1)
    ∧ (win0_2.index t 0 = t.val ∧ win0_2.index t 1 = 0)
    ∧ (win0_3.index t 0 = 0 ∧ win0_3.index t 1 = 0)
    ∧ (win0_4.index t 0 = 0 ∧ win0_4.index t 1 = 0 ∧ win0_4.index t 2 = 0)
    ∧ (win0_5.index t 0 = 0 ∧ win0_5.index t 1 = 0 ∧ win0_5.index t 2 = 0)
    ∧ (win0_6.index t 0 = t.val ∧ win0_6.index t 1 = 0)
    ∧ (win0_7.index t 0 = 0 ∧ win0_7.index t 1 = 0 ∧ win0_7.index t 2 = 0)
    ∧ (win0_8.index t 0 = 0 ∧ win0_8.index t 1 = 0 ∧ win0_8.index t 2 = 0))

theorem rows : 4096 = cfg0.N * 512 := by
  show 4096 = grid0.N * 512
  rw [Gen.N_0]

/-- The blocks of all rows. -/
theorem blks : 32 = cfg0.N * 4 := by
  show 32 = grid0.N * 4
  rw [Gen.N_0]

section
variable (c : Dev nD)
/-- The projection. -/
abbrev X0 : FVec Ideal S4096x2048 .f32 := m ((c : Thread nD τ).loc main_arg0)
/-- The weight over a block's rows. -/
abbrev X1 : FVec Ideal S4x128x128 .f32 := m ((c : Thread nD τ).loc main_arg1)
/-- Its bias. -/
abbrev X2 : FVec Ideal S4x128 .f32 := m ((c : Thread nD τ).loc main_arg2)
/-- The output projection. -/
abbrev X3 : FVec Ideal S1024x1024 .f32 := m ((c : Thread nD τ).loc main_arg3)
/-- The cotangent of the layer. -/
abbrev X4 : FVec Ideal S4096x1024 .f32 := m ((c : Thread nD τ).loc main_arg4)
end

/-- The precondition: reals in every argument. -/
structure Fin4 (c : Dev nD) : Prop where
  x : ∀ i, IsReal (X0 m c i)
  w : ∀ i, IsReal (X1 m c i)
  b : ∀ i, IsReal (X2 m c i)
  o : ∀ i, IsReal (X3 m c i)
  d : ∀ i, IsReal (X4 m c i)

theorem V_v0 (c : Dev nD) : (V m c main_v0 : S4096x1024.Idx → EReal) = X4 m c := by
  unfold V
  after_results
  rfl

theorem V_v1 (c : Dev nD) : (V m c main_v1 : S1024x1024.Idx → EReal) = X3 m c := by
  unfold V
  after_results
  rfl

theorem V_v2 (c : Dev nD) (g : Fin 4) (i : Fin 128) : (V m c main_v2 : S4x128x1.Idx → EReal) (ix3 g i 0) = X2 m c (ix2 g i) := by
  unfold V
  after_results
  refine shapeCast_apply _ _ _ (ix2 g i) ?_
  show ((S4x128 : Shape).rowMajor (ix2 g i)).val = ((S4x128x1 : Shape).rowMajor (ix3 g i 0)).val
  rw [Shape.rowMajor_val_two, Shape.rowMajor_val_three]
  show g.val * 128 + i.val = (g.val * 128 + i.val) * 1 + 0
  omega

theorem uF0 (c : Dev nD) (t : Fin cfg0.N) (r k : Fin 512) : uF (iblk m c 0 t) r k = ru (X0 m c) (row t r rows) k := by
  show (iblk m c 0 t : S512x512.Idx → EReal) (ix2 r k) = _
  unfold iblk
  rw [View.read_apply]
  refine Eq.trans ?_ (congrFun (V_main_arg0 m c) _)
  have h := (index0 t).1
  refine congrArg (V m c main_arg0) (ixEq ?_ ?_)
  · show win0_0.index t 0 * 512 + 1 * r.val = t.val * 512 + r.val
    rw [h.1]; omega
  · show win0_0.index t 1 * 512 + 1 * k.val = k.val
    rw [h.2]; omega

theorem uF1 (c : Dev nD) (t : Fin cfg0.N) (r k : Fin 512) : uF (iblk m c 1 t) r k = rv (X0 m c) (row t r rows) k := by
  show (iblk m c 1 t : S512x512.Idx → EReal) (ix2 r k) = _
  unfold iblk
  rw [View.read_apply]
  refine Eq.trans ?_ (congrFun (V_main_arg0 m c) _)
  have h := (index0 t).2.1
  refine congrArg (V m c main_arg0) (ixEq ?_ ?_)
  · show win0_1.index t 0 * 512 + 1 * r.val = t.val * 512 + r.val
    rw [h.1]; omega
  · show win0_1.index t 1 * 512 + 1 * k.val = 512 + k.val
    rw [h.2]; omega

theorem dF2 (c : Dev nD) (t : Fin cfg0.N) (r : Fin 512) (l : Fin 1024) : dF (iblk m c 2 t) r l = rd (X4 m c) (row t r rows) l := by
  show (iblk m c 2 t : S512x1024.Idx → EReal) (ix2 r l) = _
  unfold iblk
  rw [View.read_apply]
  refine Eq.trans ?_ (congrFun (V_v0 m c) _)
  have h := (index0 t).2.2.1
  refine congrArg (V m c main_v0) (ixEq ?_ ?_)
  · show win0_2.index t 0 * 512 + 1 * r.val = t.val * 512 + r.val
    rw [h.1]; omega
  · show win0_2.index t 1 * 1024 + 1 * l.val = l.val
    rw [h.2]; omega

theorem oF3 (c : Dev nD) (t : Fin cfg0.N) (k : Fin 512) (l : Fin 1024) : oF (iblk m c 3 t) k l = ro (X3 m c) k l := by
  show (iblk m c 3 t : S1024x1024.Idx → EReal) (ix2 ⟨k.val, by omega⟩ l) = _
  unfold iblk
  rw [View.read_apply]
  refine Eq.trans ?_ (congrFun (V_v1 m c) _)
  have h := (index0 t).2.2.2.1
  refine congrArg (V m c main_v1) (ixEq ?_ ?_)
  · show win0_3.index t 0 * 1024 + 1 * k.val = k.val
    rw [h.1]; omega
  · show win0_3.index t 1 * 1024 + 1 * l.val = l.val
    rw [h.2]; omega

theorem wF4 (c : Dev nD) (t : Fin cfg0.N) (g : Fin 4) (i j : Fin 128) : wF (iblk m c 4 t) g i j = rwt (X1 m c) g i j := by
  refine congrArg₂ (fun b y => Scalar.select b y (Ideal.ofBits .f32 0x00000000#32)) (kM_eq i j) ?_
  show (iblk m c 4 t : S4x128x128.Idx → EReal) (ix3 g i j) = _
  unfold iblk
  rw [View.read_apply]
  refine Eq.trans ?_ (congrFun (V_main_arg1 m c) _)
  have h := (index0 t).2.2.2.2.1
  refine congrArg (V m c main_arg1) (ix3Eq ?_ ?_ ?_)
  · show win0_4.index t 0 * 4 + 1 * g.val = g.val
    rw [h.1]; omega
  · show win0_4.index t 1 * 128 + 1 * i.val = i.val
    rw [h.2.1]; omega
  · show win0_4.index t 2 * 128 + 1 * j.val = j.val
    rw [h.2.2]; omega

theorem bF5 (c : Dev nD) (t : Fin cfg0.N) (g : Fin 4) (i : Fin 128) : bF (iblk m c 5 t) g i = rb (X2 m c) g i := by
  show (iblk m c 5 t : S4x128x1.Idx → EReal) (ix3 g i 0) = _
  unfold iblk
  rw [View.read_apply]
  refine Eq.trans ?_ (V_v2 m c g i)
  have h := (index0 t).2.2.2.2.2.1
  refine congrArg (V m c main_v2) (ix3Eq ?_ ?_ ?_)
  · show win0_5.index t 0 * 4 + 1 * g.val = g.val
    rw [h.1]; omega
  · show win0_5.index t 1 * 128 + 1 * i.val = i.val
    rw [h.2.1]; omega
  · show win0_5.index t 2 * 1 + 1 * 0 = 0
    rw [h.2.2]

/-- Block `n` of tile `t` is one of all blocks. -/
theorem rows_blk (t : Fin cfg0.N) (n : Fin 4) : (fun i : Fin 128 => row t (gcol n i) rows) = rp (row t n blks) :=
  funext fun i => Fin.ext (by
    show t.val * 512 + (128 * n.val + i.val) = (t.val * 4 + n.val) * 128 + i.val
    omega)

section
variable (c : Dev nD) (t : Fin cfg0.N)
theorem fu : uF (iblk m c 0 t) = fun r k => ru (X0 m c) (row t r rows) k := funext fun r => funext fun k => uF0 m c t r k
theorem fv : uF (iblk m c 1 t) = fun r k => rv (X0 m c) (row t r rows) k := funext fun r => funext fun k => uF1 m c t r k
theorem fd : dF (iblk m c 2 t) = fun r k => rd (X4 m c) (row t r rows) k := funext fun r => funext fun k => dF2 m c t r k
theorem fo : oF (iblk m c 3 t) = ro (X3 m c) := funext fun r => funext fun k => oF3 m c t r k
theorem fw : wF (iblk m c 4 t) = rwt (X1 m c) := funext fun g => funext fun i => funext fun j => wF4 m c t g i j
theorem fb : bF (iblk m c 5 t) = rb (X2 m c) := funext fun g => funext fun i => bF5 m c t g i
end

/-- A tile's part of the weight's gradient. -/
def part7 (c : Dev nD) (t : Fin cfg0.N) (i : S4x128x128.Idx) : EReal :=
  Scalar.select (rM (i 1) (i 2)) (∑ n : Fin 4, gwEl (ru (X0 m c)) (rv (X0 m c)) (rd (X4 m c)) (ro (X3 m c)) (rp (row t n blks)) (i 0) (i 1) (i 2)) (Ideal.ofBits .f32 0x00000000#32)

/-- A tile's part of the bias's gradient. -/
def part8 (c : Dev nD) (t : Fin cfg0.N) (i : S4x128x1.Idx) : EReal :=
  ∑ n : Fin 4, gbEl (ru (X0 m c)) (rd (X4 m c)) (ro (X3 m c)) (rp (row t n blks)) (i 0) (i 1)

theorem kDw_eq (c : Dev nD) (t : Fin cfg0.N) (x : Vec Ideal S4x128x128 .f32) (i : S4x128x128.Idx) :
    kDw (iblk m c 0 t) (iblk m c 1 t) (iblk m c 2 t) (iblk m c 3 t) x i = x i + part7 m c t i := by
  unfold kDw part7
  rw [fu, fv, fd, fo]
  refine congrArg₂ (fun b y => x i + Scalar.select b y (Ideal.ofBits .f32 0x00000000#32)) (kM_eq (i 1) (i 2)) (Finset.sum_congr rfl fun n _ => ?_)
  rw [← rows_blk]
  rfl

theorem kDb_eq (c : Dev nD) (t : Fin cfg0.N) (x : Vec Ideal S4x128x1 .f32) (i : S4x128x1.Idx) :
    kDb (iblk m c 0 t) (iblk m c 2 t) (iblk m c 3 t) x i = x i + part8 m c t i := by
  unfold kDb part8
  rw [fu, fd, fo]
  refine congrArg (x i + ·) (Finset.sum_congr rfl fun n _ => ?_)
  rw [← rows_blk]
  rfl

theorem kDp_left (c : Dev nD) (t : Fin cfg0.N) (n g : Fin 4) (i j : Fin 128) :
    kDp (iblk m c 0 t) (iblk m c 1 t) (iblk m c 2 t) (iblk m c 3 t) (iblk m c 4 t) (iblk m c 5 t) (ix2 (gcol n i) ⟨128 * g.val + j.val, by omega⟩)
      = guEl (ru (X0 m c)) (rv (X0 m c)) (rd (X4 m c)) (ro (X3 m c)) (rwt (X1 m c)) (rb (X2 m c)) (rp (row t n blks)) g i j := by
  have hj : ((ix2 (gcol n i) (⟨128 * g.val + j.val, by omega⟩ : Fin 1024) : S512x1024.Idx) 1).val < 512 := by
    show 128 * g.val + j.val < 512
    omega
  unfold kDp
  rw [dif_pos hj, fu, fv, fd, fo, fw, fb, ← rows_blk]
  show guEl _ _ _ _ _ _ (gcol (rBlk (gcol n i))) (rBlk (gcol g j)) (rIn (gcol n i)) (rIn (gcol g j)) = _
  rw [rBlk_gcol, rIn_gcol, rBlk_gcol, rIn_gcol]
  rfl

theorem kDp_right (c : Dev nD) (t : Fin cfg0.N) (n : Fin 4) (i : Fin 128) (k : Fin 512) :
    kDp (iblk m c 0 t) (iblk m c 1 t) (iblk m c 2 t) (iblk m c 3 t) (iblk m c 4 t) (iblk m c 5 t) (ix2 (gcol n i) ⟨512 + k.val, by omega⟩)
      = gvEl (ru (X0 m c)) (rv (X0 m c)) (rd (X4 m c)) (ro (X3 m c)) (rwt (X1 m c)) (rp (row t n blks)) i k := by
  have hj : ¬((ix2 (gcol n i) (⟨512 + k.val, by omega⟩ : Fin 1024) : S512x1024.Idx) 1).val < 512 := by
    show ¬512 + k.val < 512
    omega
  unfold kDp
  rw [dif_neg hj, fu, fv, fd, fo, fw, ← rows_blk]
  have e : (⟨512 + k.val - 512, by omega⟩ : Fin 512) = k := Fin.ext (by show 512 + k.val - 512 = k.val; omega)
  show gvEl _ _ _ _ _ (gcol (rBlk (gcol n i))) (rIn (gcol n i)) ⟨512 + k.val - 512, _⟩ = _
  rw [rBlk_gcol, rIn_gcol, e]
  rfl

theorem outs1 (c : Dev nD) (t : Fin cfg0.N) : (outsAt0 m c t.val t.isLt).1
    = kDp (iblk m c 0 t) (iblk m c 1 t) (iblk m c 2 t) (iblk m c 3 t) (iblk m c 4 t) (iblk m c 5 t) := by
  by_cases h0 : t.val % 8 = 0
  · rw [outs_A m c t h0]
  · rw [outs_B m c t h0]

theorem result6 (c : Dev nD) (hp : Fin4 m c) (i : Fin 4096) (j : Fin 1024) : ((dats m 0 c).arrAt 6 cfg0.N : S4096x1024.Idx → EReal) (ix2 i j)
    = Cert.ReferenceGmIdeal.Read.val_main_v153 (F := Ideal) (X0 m c) (X1 m c) (X2 m c) (X3 m c) (X4 m c) (ix2 i j) := by
  obtain ⟨t, a, rfl⟩ := row_surj rows i
  have hb := congrFun (blocks6 m c t (flush0_6 t)) (ix2 a j)
  rw [View.read_apply, flushed6] at hb
  have h := (index0 t).2.2.2.2.2.2.1
  have he : ((cfg0.win 6).blk t).view.emb (ix2 a j) = (ix2 (row t a rows) j : S4096x1024.Idx) := by
    refine ixEq ?_ ?_
    · show win0_6.index t 0 * 512 + 1 * a.val = t.val * 512 + a.val
      rw [h.1]; omega
    · show win0_6.index t 1 * 1024 + 1 * j.val = j.val
      rw [h.2]; omega
  rw [he] at hb
  refine hb.trans ((congrFun (outs1 m c t) (ix2 a j)).trans ?_)
  have hr : row t a rows = rp (row t (rBlk a) blks) (rIn a) := (congrArg (fun y => row t y rows) (gcol_self a)).symm.trans (congrFun (rows_blk t (rBlk a)) (rIn a))
  rw [hr]
  by_cases hj : j.val < 512
  · have ej : j = ⟨128 * (rBlk ⟨j.val, hj⟩).val + (rIn ⟨j.val, hj⟩).val, by
        show 128 * (j.val / 128) + j.val % 128 < 1024
        omega⟩ := Fin.ext (by
        show j.val = 128 * (j.val / 128) + j.val % 128
        omega)
    refine Eq.trans ?_ ((congrArg (fun y => Cert.ReferenceGmIdeal.Read.val_main_v153 (F := Ideal) (X0 m c) (X1 m c) (X2 m c) (X3 m c) (X4 m c) (ix2 _ y)) ej).trans
      (v153_left (X0 m c) (X1 m c) (X2 m c) (X3 m c) (X4 m c) hp.x hp.w hp.b hp.o hp.d (row t (rBlk a) blks) (rIn a) (rBlk ⟨j.val, hj⟩) (rIn ⟨j.val, hj⟩))).symm
    refine Eq.trans ?_ (kDp_left m c t (rBlk a) (rBlk ⟨j.val, hj⟩) (rIn a) (rIn ⟨j.val, hj⟩))
    exact congrArg (kDp (iblk m c 0 t) (iblk m c 1 t) (iblk m c 2 t) (iblk m c 3 t) (iblk m c 4 t) (iblk m c 5 t))
      (congrArg₂ (fun (y : Fin 512) (z : Fin 1024) => (ix2 y z : S512x1024.Idx)) (gcol_self a).symm ej)
  · have ej : j = ⟨512 + (⟨j.val - 512, by omega⟩ : Fin 512).val, by show 512 + (j.val - 512) < 1024; omega⟩ := Fin.ext (by
        show j.val = 512 + (j.val - 512)
        omega)
    refine Eq.trans ?_ ((congrArg (fun y => Cert.ReferenceGmIdeal.Read.val_main_v153 (F := Ideal) (X0 m c) (X1 m c) (X2 m c) (X3 m c) (X4 m c) (ix2 _ y)) ej).trans
      (v153_right (X0 m c) (X1 m c) (X2 m c) (X3 m c) (X4 m c) hp.x hp.w hp.o hp.d (row t (rBlk a) blks) (rIn a) ⟨j.val - 512, by omega⟩)).symm
    refine Eq.trans ?_ (kDp_right m c t (rBlk a) (rIn a) ⟨j.val - 512, by omega⟩)
    exact congrArg (kDp (iblk m c 0 t) (iblk m c 1 t) (iblk m c 2 t) (iblk m c 3 t) (iblk m c 4 t) (iblk m c 5 t))
      (congrArg₂ (fun (y : Fin 512) (z : Fin 1024) => (ix2 y z : S512x1024.Idx)) (gcol_self a).symm ej)

/-- The masked sums add up to the masked sum. -/
theorem select_sum {n : ℕ} (b : BitVec 1) (f : Fin n → EReal) :
    ∑ t, Scalar.select b (f t) (Ideal.ofBits .f32 0x00000000#32) = Scalar.select b (∑ t, f t) (Ideal.ofBits .f32 0x00000000#32) := by
  unfold Scalar.select
  split
  · rfl
  · rw [Ideal.ofBits_zero_f32]
    exact Finset.sum_const_zero

/-- This running total after a point. -/
theorem total7 (c : Dev nD) (i : S4x128x128.Idx) (n : ℕ) (hn : n < cfg0.N) : (outsAt0 m c n hn).2.1 i
    = ∑ k : Fin (n + 1), part7 m c ⟨k, by omega⟩ i := by
  refine total (fun n hn => (outsAt0 m c n hn).2.1 i) (fun t => part7 m c t i)
    (fun h => ?_) (fun n h => ?_) n hn
  · show (outsAt0 m c (⟨0, h⟩ : Fin cfg0.N).val h).2.1 i = _
    rw [outs_A m c ⟨0, h⟩ rfl]
    refine (kDw_eq m c ⟨0, h⟩ _ i).trans ?_
    show Ideal.ofBits .f32 0x00000000#32 + _ = _
    rw [Ideal.ofBits_zero_f32]
    exact zero_add _
  · have hN : cfg0.N = 8 := Gen.N_0
    show (outsAt0 m c (⟨n + 1, h⟩ : Fin cfg0.N).val h).2.1 i = _
    rw [outs_B m c ⟨n + 1, h⟩ (by show ¬(n + 1) % 8 = 0; omega)]
    exact kDw_eq m c ⟨n + 1, h⟩ _ i

/-- The one write-back of this total, after the last point. -/
theorem final7 (c : Dev nD) (hl : 7 < cfg0.N) : (dats m 0 c).arrAt 7 cfg0.N = (outsAt0 m c 7 hl).2.1 := by
  have hN : cfg0.N = 8 := Gen.N_0
  have hz (t : Fin cfg0.N) : (fun a => win0_7.index t a * main_v3_1.ty.shape.size a) = fun _ => 0 := funext fun a => by
    have h := (index0 t).2.2.2.2.2.2.2.1
    match a with
    | ⟨0, _⟩ => show win0_7.index t 0 * _ = 0; rw [h.1, Nat.zero_mul]
    | ⟨1, _⟩ => show win0_7.index t 1 * _ = 0; rw [h.2.1, Nat.zero_mul]
    | ⟨2, _⟩ => show win0_7.index t 2 * _ = 0; rw [h.2.2, Nat.zero_mul]
  refine (dats m 0 c).arrAt_eq_of_cover 7 (outsAt0 m c 7 hl).2.1 (fun t hf => ?_) fun i => ⟨⟨7, hl⟩, (flush0_7 _).mpr rfl, ?_⟩
  · obtain rfl : t = ⟨7, hl⟩ := Fin.ext (by
      have h7 := (flush0_7 t).mp hf
      have ht : t.val < 8 := lt_of_lt_of_eq t.isLt hN
      show t.val = 7
      omega)
    rw [flushed7]
    dsimp only
    generalize outsAt0 m c 7 hl = y
    exact (Memref.read_access_unit_zero (Elt Ideal) main_v3_1 (hz _) (fun a => by rw [congrFun (hz _) a]; simp) _).symm
  · show i ∈ ((View.whole main_v3_1).slice (win0_7.rect ⟨7, hl⟩)).set
    rw [View.set_slice_whole, Rect.mem_set_unit]
    intro a
    have h := (index0 ⟨7, hl⟩).2.2.2.2.2.2.2.1
    match a with
    | ⟨0, _⟩ =>
      show win0_7.index ⟨7, hl⟩ 0 * 4 ≤ (i 0 : Nat) ∧ (i 0 : Nat) < win0_7.index ⟨7, hl⟩ 0 * 4 + 4
      have : (i 0 : Nat) < 4 := (i 0).isLt
      rw [h.1]; omega
    | ⟨1, _⟩ =>
      show win0_7.index ⟨7, hl⟩ 1 * 128 ≤ (i 1 : Nat) ∧ (i 1 : Nat) < win0_7.index ⟨7, hl⟩ 1 * 128 + 128
      have : (i 1 : Nat) < 128 := (i 1).isLt
      rw [h.2.1]; omega
    | ⟨2, _⟩ =>
      show win0_7.index ⟨7, hl⟩ 2 * 128 ≤ (i 2 : Nat) ∧ (i 2 : Nat) < win0_7.index ⟨7, hl⟩ 2 * 128 + 128
      have : (i 2 : Nat) < 128 := (i 2).isLt
      rw [h.2.2]; omega

theorem result7 (c : Dev nD) (hp : Fin4 m c) (g : Fin 4) (i j : Fin 128) : ((dats m 0 c).arrAt 7 cfg0.N : S4x128x128.Idx → EReal) (ix3 g i j)
    = Cert.ReferenceGmIdeal.Read.val_main_v100 (F := Ideal) (X0 m c) (X3 m c) (X4 m c) (ix3 g i j) := by
  have hN : cfg0.N = 7 + 1 := Gen.N_0
  rw [final7 m c (by omega)]
  refine (total7 m c (ix3 g i j) 7 (by omega)).trans (Eq.trans ?_ (v100_apply (X0 m c) (X3 m c) (X4 m c) hp.x g i j).symm)
  rw [sum_row blks]
  refine (sum_cast hN (fun t => part7 m c t (ix3 g i j)) _ fun k => rfl).symm.trans ?_
  exact select_sum (rM i j) fun t => ∑ n : Fin 4, gwEl (ru (X0 m c)) (rv (X0 m c)) (rd (X4 m c)) (ro (X3 m c)) (rp (row t n blks)) g i j

/-- This running total after a point. -/
theorem total8 (c : Dev nD) (i : S4x128x1.Idx) (n : ℕ) (hn : n < cfg0.N) : (outsAt0 m c n hn).2.2 i
    = ∑ k : Fin (n + 1), part8 m c ⟨k, by omega⟩ i := by
  refine total (fun n hn => (outsAt0 m c n hn).2.2 i) (fun t => part8 m c t i)
    (fun h => ?_) (fun n h => ?_) n hn
  · show (outsAt0 m c (⟨0, h⟩ : Fin cfg0.N).val h).2.2 i = _
    rw [outs_A m c ⟨0, h⟩ rfl]
    refine (kDb_eq m c ⟨0, h⟩ _ i).trans ?_
    show Ideal.ofBits .f32 0x00000000#32 + _ = _
    rw [Ideal.ofBits_zero_f32]
    exact zero_add _
  · have hN : cfg0.N = 8 := Gen.N_0
    show (outsAt0 m c (⟨n + 1, h⟩ : Fin cfg0.N).val h).2.2 i = _
    rw [outs_B m c ⟨n + 1, h⟩ (by show ¬(n + 1) % 8 = 0; omega)]
    exact kDb_eq m c ⟨n + 1, h⟩ _ i

/-- The one write-back of this total, after the last point. -/
theorem final8 (c : Dev nD) (hl : 7 < cfg0.N) : (dats m 0 c).arrAt 8 cfg0.N = (outsAt0 m c 7 hl).2.2 := by
  have hN : cfg0.N = 8 := Gen.N_0
  have hz (t : Fin cfg0.N) : (fun a => win0_8.index t a * main_v3_2.ty.shape.size a) = fun _ => 0 := funext fun a => by
    have h := (index0 t).2.2.2.2.2.2.2.2
    match a with
    | ⟨0, _⟩ => show win0_8.index t 0 * _ = 0; rw [h.1, Nat.zero_mul]
    | ⟨1, _⟩ => show win0_8.index t 1 * _ = 0; rw [h.2.1, Nat.zero_mul]
    | ⟨2, _⟩ => show win0_8.index t 2 * _ = 0; rw [h.2.2, Nat.zero_mul]
  refine (dats m 0 c).arrAt_eq_of_cover 8 (outsAt0 m c 7 hl).2.2 (fun t hf => ?_) fun i => ⟨⟨7, hl⟩, (flush0_8 _).mpr rfl, ?_⟩
  · obtain rfl : t = ⟨7, hl⟩ := Fin.ext (by
      have h7 := (flush0_8 t).mp hf
      have ht : t.val < 8 := lt_of_lt_of_eq t.isLt hN
      show t.val = 7
      omega)
    rw [flushed8]
    dsimp only
    generalize outsAt0 m c 7 hl = y
    exact (Memref.read_access_unit_zero (Elt Ideal) main_v3_2 (hz _) (fun a => by rw [congrFun (hz _) a]; simp) _).symm
  · show i ∈ ((View.whole main_v3_2).slice (win0_8.rect ⟨7, hl⟩)).set
    rw [View.set_slice_whole, Rect.mem_set_unit]
    intro a
    have h := (index0 ⟨7, hl⟩).2.2.2.2.2.2.2.2
    match a with
    | ⟨0, _⟩ =>
      show win0_8.index ⟨7, hl⟩ 0 * 4 ≤ (i 0 : Nat) ∧ (i 0 : Nat) < win0_8.index ⟨7, hl⟩ 0 * 4 + 4
      have : (i 0 : Nat) < 4 := (i 0).isLt
      rw [h.1]; omega
    | ⟨1, _⟩ =>
      show win0_8.index ⟨7, hl⟩ 1 * 128 ≤ (i 1 : Nat) ∧ (i 1 : Nat) < win0_8.index ⟨7, hl⟩ 1 * 128 + 128
      have : (i 1 : Nat) < 128 := (i 1).isLt
      rw [h.2.1]; omega
    | ⟨2, _⟩ =>
      show win0_8.index ⟨7, hl⟩ 2 * 1 ≤ (i 2 : Nat) ∧ (i 2 : Nat) < win0_8.index ⟨7, hl⟩ 2 * 1 + 1
      have : (i 2 : Nat) < 1 := (i 2).isLt
      rw [h.2.2]; omega

theorem result8 (c : Dev nD) (hp : Fin4 m c) (g : Fin 4) (i : Fin 128) : ((dats m 0 c).arrAt 8 cfg0.N : S4x128x1.Idx → EReal) (ix3 g i 0)
    = Cert.ReferenceGmIdeal.Read.val_main_v154 (F := Ideal) (X0 m c) (X3 m c) (X4 m c) (ix3 g i 0) := by
  have hN : cfg0.N = 7 + 1 := Gen.N_0
  rw [final8 m c (by omega)]
  refine (total8 m c (ix3 g i 0) 7 (by omega)).trans (Eq.trans ?_ (v154_apply (X0 m c) (X3 m c) (X4 m c) hp.x g i).symm)
  rw [sum_row blks]
  exact (sum_cast hN (fun t => part8 m c t (ix3 g i 0)) _ fun k => rfl).symm

end Cert.KernelGmIdeal.Hand
-- ==== Proof.Gm.lean ====
/- The gradient of the gate with a spatial product: its named constants and the run of its reference. -/
module

public import proofs.«01_k».proof.Defs
public import proofs.«01_k».proof.Proof.Gen.KernelGm
public import proofs.«01_k».proof.Proof.Gen.ReferenceGmIdeal.Run

@[expose] public section

noncomputable section

open Idealize.ShloMosaic Idealize.ShloMosaic.TcCoe Idealize.SL.Sem

namespace Cert.Hand

/-- The two factors of the cubic term are the numbers their names give. -/
theorem preserves_Gm : Cert.preserves_KernelGm_KernelGmIdeal :=
  ⟨IdealRules.named_const.statement Cert.KernelGmIdeal.κ "cubic" .f32 0x3D372713#32 ((8943 / 200000 : ℝ) : EReal) rfl,
    IdealRules.named_const.statement Cert.KernelGmIdeal.κ "cubic3" .f32 0x3E095D4F#32 ((26829 / 200000 : ℝ) : EReal) rfl⟩

/-- The reference runs and leaves its arguments. -/
theorem frame_reference_Gm : Cert.quiescent_ReferenceGmIdeal := fun m ρ _ =>
  (θ_run Cert.ReferenceGmIdeal.defs _ _).mono (fun r h => ⟨fun c => (h c).2.2.2, sem_eq_zero_of_no_sems (by decide) r.2⟩)
    (Cert.ReferenceGmIdeal.Value.run m ρ)

end Cert.Hand
-- ==== Proof.GmClaim.lean ====
/- The gradient of the gate with a masked product: the claim against the reference. -/
module

public import proofs.«01_k».proof.Defs
public import proofs.«01_k».proof.Proof.Gen.KernelGm
public import proofs.«01_k».proof.Proof.GmVal
public import proofs.«01_k».proof.Proof.Gm
public import proofs.«01_k».proof.Proof.Gen.Pre_finite_gmlp
public import proofs.«01_k».proof.Proof.Finite

@[expose] public section

noncomputable section

open Idealize.ShloMosaic Idealize.ShloMosaic.TcCoe Idealize.SL.Sem Idealize.ShloMosaic.ValueIdx

namespace Cert.Hand

theorem frame_reference_Gm_pre_finite_gmlp : Cert.quiescent_ReferenceGmIdeal_pre_finite_gmlp := fun m ρ _ =>
  (θ_run Cert.ReferenceGmIdeal.defs _ _).mono (fun r h => ⟨fun c => (h c).2.2.2, sem_eq_zero_of_no_sems (by decide) r.2⟩)
    (Cert.ReferenceGmIdeal.Hand.run m ρ)

open Cert.KernelGmIdeal in
/-- The precondition, read: every entry of the arrays it names is a real. -/
theorem finite_Gm (m : (ℓ : Loc nD τ sig) → Buf (Elt Ideal) ℓ) (h : Cert.Pre_KernelGmIdeal_finite_gmlp m) (c : Dev nD) : Cert.KernelGmIdeal.Hand.Fin4 m c := by
  have H := h c
  unfold Cert.Pre_finite_gmlp.fn Cert.Pre_finite_gmlp.fn_part1 at H
  obtain ⟨H, h4⟩ := Cert.Kit.ones_cat H
  obtain ⟨H, h3⟩ := Cert.Kit.ones_cat H
  obtain ⟨H, h2⟩ := Cert.Kit.ones_cat H
  obtain ⟨H, h1⟩ := Cert.Kit.ones_cat H
  exact ⟨Cert.Kit.real_of_ones (Cert.Kit.ones_cast H), Cert.Kit.real_of_ones (Cert.Kit.ones_cast h1), Cert.Kit.real_of_ones (Cert.Kit.ones_cast h2), Cert.Kit.real_of_ones (Cert.Kit.ones_cast h3), Cert.Kit.real_of_ones (Cert.Kit.ones_cast h4)⟩

open Cert.KernelGmIdeal in
theorem algebraic_Gm : Cert.algebraic_KernelGmIdeal_ReferenceGmIdeal_pre_finite_gmlp := by
  intro m g m' g' hp hargs
  let x0 (c : Dev nD) := m ((c.tc : Thread nD τ).loc main_arg0)
  let x1 (c : Dev nD) := m ((c.tc : Thread nD τ).loc main_arg1)
  let x2 (c : Dev nD) := m ((c.tc : Thread nD τ).loc main_arg2)
  let x3 (c : Dev nD) := m ((c.tc : Thread nD τ).loc main_arg3)
  let x4 (c : Dev nD) := m ((c.tc : Thread nD τ).loc main_arg4)
  refine ⟨fun c => Cert.ReferenceGmIdeal.Read.val_main_v153 (F := Ideal) (x0 c) (x1 c) (x2 c) (x3 c) (x4 c),
    fun c => Cert.ReferenceGmIdeal.Read.val_main_v100 (F := Ideal) (x0 c) (x3 c) (x4 c),
    fun c => Cert.ReferenceGmIdeal.Read.val_main_v154 (F := Ideal) (x0 c) (x3 c) (x4 c), ?_, ?_⟩
  · refine (θ_run defs _ _).mono (fun r h c => ⟨(h c).1.trans ?_, (h c).2.1.trans ?_, (h c).2.2.1.trans ?_, (h c).2.2.2⟩) (Value.run_blocks m g)
    · funext j
      obtain ⟨a, b, rfl⟩ : ∃ (a : Fin 4096) (b : Fin 1024), j = ix2 a b := ⟨j 0, j 1, eq_ix2 j⟩
      exact Hand.result6 m c (finite_Gm m hp c) a b
    · funext j
      obtain ⟨a, b, d, rfl⟩ : ∃ (a : Fin 4) (b d : Fin 128), j = ix3 a b d := ⟨j 0, j 1, j 2, eq_ix3 j⟩
      exact Hand.result7 m c (finite_Gm m hp c) a b d
    · funext j
      obtain ⟨a, b, d, rfl⟩ : ∃ (a : Fin 4) (b : Fin 128) (d : Fin 1), j = ix3 a b d := ⟨j 0, j 1, j 2, eq_ix3 j⟩
      obtain rfl : d = 0 := Subsingleton.elim _ _
      exact Hand.result8 m c (finite_Gm m hp c) a b
  · refine (θ_run Cert.ReferenceGmIdeal.defs _ _).mono (fun r h c => ⟨(h c).1.trans ?_, (h c).2.1.trans ?_, (h c).2.2.1.trans ?_, (h c).2.2.2⟩)
      (Cert.ReferenceGmIdeal.Hand.run m' g')
    · rw [(hargs c).1, (hargs c).2.1, (hargs c).2.2.1, (hargs c).2.2.2.1, (hargs c).2.2.2.2]
    · rw [(hargs c).1, (hargs c).2.2.2.1, (hargs c).2.2.2.2]
    · rw [(hargs c).1, (hargs c).2.2.2.1, (hargs c).2.2.2.2]

end Cert.Hand
-- ==== Proof.lean ====
module

public import proofs.«01_k».proof.Defs
public import proofs.«01_k».proof.Proof.Gen.KernelMn.Frame
public import proofs.«01_k».proof.Proof.Gen.KernelMnIdeal.Value
public import proofs.«01_k».proof.Proof.Gen.ReferenceMnIdeal.Run
public import proofs.«01_k».proof.Proof.Gen.ReferenceMnIdeal.Read
public import proofs.«01_k».proof.Proof.MnClaim
public import proofs.«01_k».proof.Proof.Gen.KernelGt.Frame
public import proofs.«01_k».proof.Proof.Gen.KernelGtIdeal.Value
public import proofs.«01_k».proof.Proof.Gen.ReferenceGtIdeal.Run
public import proofs.«01_k».proof.Proof.Gen.ReferenceGtIdeal.Read
public import proofs.«01_k».proof.Proof.GtClaim
public import proofs.«01_k».proof.Proof.Gen.KernelOi.Frame
public import proofs.«01_k».proof.Proof.Gen.KernelOiIdeal.Value
public import proofs.«01_k».proof.Proof.Gen.ReferenceOiIdeal.Run
public import proofs.«01_k».proof.Proof.Gen.ReferenceOiIdeal.Read
public import proofs.«01_k».proof.Proof.OiClaim
public import proofs.«01_k».proof.Proof.Gen.KernelEi.Frame
public import proofs.«01_k».proof.Proof.Gen.KernelEiIdeal.Value
public import proofs.«01_k».proof.Proof.Gen.ReferenceEiIdeal.Run
public import proofs.«01_k».proof.Proof.Gen.ReferenceEiIdeal.Read
public import proofs.«01_k».proof.Proof.EiClaim
public import proofs.«01_k».proof.Proof.Gen.KernelLn.Frame
public import proofs.«01_k».proof.Proof.Gen.KernelLnIdeal.Value
public import proofs.«01_k».proof.Proof.Gen.ReferenceLnIdeal.Run
public import proofs.«01_k».proof.Proof.Gen.ReferenceLnIdeal.Read
public import proofs.«01_k».proof.Proof.LnClaim
public import proofs.«01_k».proof.Proof.Gen.KernelFf.Frame
public import proofs.«01_k».proof.Proof.Gen.KernelFfIdeal.Value
public import proofs.«01_k».proof.Proof.Gen.ReferenceFfIdeal.Run
public import proofs.«01_k».proof.Proof.Gen.ReferenceFfIdeal.Read
public import proofs.«01_k».proof.Proof.FfClaim
public import proofs.«01_k».proof.Proof.Gen.KernelAt.Frame
public import proofs.«01_k».proof.Proof.Gen.KernelAtIdeal.Value
public import proofs.«01_k».proof.Proof.Gen.ReferenceAtIdeal.Run
public import proofs.«01_k».proof.Proof.Gen.ReferenceAtIdeal.Read
public import proofs.«01_k».proof.Proof.AtClaim
public import proofs.«01_k».proof.Proof.Gen.KernelLs.Frame
public import proofs.«01_k».proof.Proof.Gen.KernelLsIdeal.Value
public import proofs.«01_k».proof.Proof.Gen.ReferenceLsIdeal.Run
public import proofs.«01_k».proof.Proof.Gen.ReferenceLsIdeal.Read
public import proofs.«01_k».proof.Proof.LsClaim
public import proofs.«01_k».proof.Proof.Gen.KernelAf.Frame
public import proofs.«01_k».proof.Proof.Gen.KernelAfIdeal.Value
public import proofs.«01_k».proof.Proof.Gen.ReferenceAfIdeal.Run
public import proofs.«01_k».proof.Proof.Gen.ReferenceAfIdeal.Read
public import proofs.«01_k».proof.Proof.AfClaim
public import proofs.«01_k».proof.Proof.Gen.KernelGm.Frame
public import proofs.«01_k».proof.Proof.Gen.KernelGmIdeal.Value
public import proofs.«01_k».proof.Proof.Gen.ReferenceGmIdeal.Run
public import proofs.«01_k».proof.Proof.Gen.ReferenceGmIdeal.Read
public import proofs.«01_k».proof.Proof.GmClaim
public import proofs.«01_k».proof.Proof.Gen.KernelPg.Frame
public import proofs.«01_k».proof.Proof.Gen.KernelPgIdeal.Frame

@[expose] public section

namespace Cert.Proof

/-- Every claim. -/
theorem claim : Cert.Claim :=
  ⟨Cert.KernelMn.Gen.facts,
    Cert.KernelMnIdeal.Gen.facts,
    Cert.ReferenceMnIdeal.Gen.facts,
    Cert.KernelGt.Gen.facts,
    Cert.KernelGtIdeal.Gen.facts,
    Cert.ReferenceGtIdeal.Gen.facts,
    Cert.KernelOi.Gen.facts,
    Cert.KernelOiIdeal.Gen.facts,
    Cert.ReferenceOiIdeal.Gen.facts,
    Cert.KernelEi.Gen.facts,
    Cert.KernelEiIdeal.Gen.facts,
    Cert.ReferenceEiIdeal.Gen.facts,
    Cert.KernelLn.Gen.facts,
    Cert.KernelLnIdeal.Gen.facts,
    Cert.ReferenceLnIdeal.Gen.facts,
    Cert.KernelFf.Gen.facts,
    Cert.KernelFfIdeal.Gen.facts,
    Cert.ReferenceFfIdeal.Gen.facts,
    Cert.KernelAt.Gen.facts,
    Cert.KernelAtIdeal.Gen.facts,
    Cert.ReferenceAtIdeal.Gen.facts,
    Cert.KernelLs.Gen.facts,
    Cert.KernelLsIdeal.Gen.facts,
    Cert.ReferenceLsIdeal.Gen.facts,
    Cert.KernelAf.Gen.facts,
    Cert.KernelAfIdeal.Gen.facts,
    Cert.ReferenceAfIdeal.Gen.facts,
    Cert.KernelGm.Gen.facts,
    Cert.KernelGmIdeal.Gen.facts,
    Cert.ReferenceGmIdeal.Gen.facts,
    Cert.KernelPg.Gen.facts,
    Cert.KernelPgIdeal.Gen.facts,
    Cert.Pre_finite_oi.Gen.facts,
    Cert.Pre_finite_ein.Gen.facts,
    Cert.Pre_finite_ln.Gen.facts,
    Cert.Pre_finite_ffn.Gen.facts,
    Cert.Pre_finite_attn.Gen.facts,
    Cert.Pre_finite_loss.Gen.facts,
    Cert.Pre_finite_gmlp.Gen.facts,
    fun m ρ _ => Cert.KernelMn.Gen.frame m ρ,
    fun m ρ _ => Cert.KernelMnIdeal.Gen.frame m ρ,
    Cert.Hand.frame_reference_Mn,
    fun m ρ _ => Cert.KernelGt.Gen.frame m ρ,
    fun m ρ _ => Cert.KernelGtIdeal.Gen.frame m ρ,
    Cert.Hand.frame_reference_Gt,
    fun m ρ _ => Cert.KernelOi.Gen.frame m ρ,
    fun m ρ _ => Cert.KernelOiIdeal.Gen.frame m ρ,
    fun m ρ _ => Cert.KernelOiIdeal.Gen.frame m ρ,
    Cert.Hand.frame_reference_Oi,
    Cert.Hand.frame_reference_Oi_pre_finite_oi,
    fun m ρ _ => Cert.KernelEi.Gen.frame m ρ,
    fun m ρ _ => Cert.KernelEiIdeal.Gen.frame m ρ,
    fun m ρ _ => Cert.KernelEiIdeal.Gen.frame m ρ,
    Cert.Hand.frame_reference_Ei,
    Cert.Hand.frame_reference_Ei_pre_finite_ein,
    fun m ρ _ => Cert.KernelLn.Gen.frame m ρ,
    fun m ρ _ => Cert.KernelLnIdeal.Gen.frame m ρ,
    fun m ρ _ => Cert.KernelLnIdeal.Gen.frame m ρ,
    Cert.Hand.frame_reference_Ln,
    Cert.Hand.frame_reference_Ln_pre_finite_ln,
    fun m ρ _ => Cert.KernelFf.Gen.frame m ρ,
    fun m ρ _ => Cert.KernelFfIdeal.Gen.frame m ρ,
    fun m ρ _ => Cert.KernelFfIdeal.Gen.frame m ρ,
    Cert.Hand.frame_reference_Ff,
    Cert.Hand.frame_reference_Ff_pre_finite_ffn,
    fun m ρ _ => Cert.KernelAt.Gen.frame m ρ,
    fun m ρ _ => Cert.KernelAtIdeal.Gen.frame m ρ,
    fun m ρ _ => Cert.KernelAtIdeal.Gen.frame m ρ,
    Cert.Hand.frame_reference_At,
    Cert.Hand.frame_reference_At_pre_finite_attn,
    fun m ρ _ => Cert.KernelLs.Gen.frame m ρ,
    fun m ρ _ => Cert.KernelLsIdeal.Gen.frame m ρ,
    fun m ρ _ => Cert.KernelLsIdeal.Gen.frame m ρ,
    Cert.Hand.frame_reference_Ls,
    Cert.Hand.frame_reference_Ls_pre_finite_loss,
    fun m ρ _ => Cert.KernelAf.Gen.frame m ρ,
    fun m ρ _ => Cert.KernelAfIdeal.Gen.frame m ρ,
    Cert.Hand.frame_reference_Af,
    fun m ρ _ => Cert.KernelGm.Gen.frame m ρ,
    fun m ρ _ => Cert.KernelGmIdeal.Gen.frame m ρ,
    fun m ρ _ => Cert.KernelGmIdeal.Gen.frame m ρ,
    Cert.Hand.frame_reference_Gm,
    Cert.Hand.frame_reference_Gm_pre_finite_gmlp,
    fun m ρ _ => Cert.KernelPg.Gen.frame m ρ,
    fun m ρ _ => Cert.KernelPgIdeal.Gen.frame m ρ,
    trivial,
    Cert.Hand.algebraic_Mn,
    trivial,
    Cert.Hand.algebraic_Gt,
    trivial,
    Cert.Hand.algebraic_Oi,
    trivial,
    Cert.Hand.algebraic_Ei,
    trivial,
    Cert.Hand.algebraic_Ln,
    trivial,
    Cert.Hand.algebraic_Ff,
    trivial,
    Cert.Hand.algebraic_At,
    trivial,
    Cert.Hand.algebraic_Ls,
    trivial,
    Cert.Hand.algebraic_Af,
    Cert.Hand.preserves_Gm,
    Cert.Hand.algebraic_Gm,
    trivial⟩

end Cert.Proof
